-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_finite_gates [hPre_finite_gates : Cert.Pre_finite_gates.Facts] (m : (ℓ : Loc Cert.GatesIdeal.nD Cert.GatesIdeal.τ Cert.GatesIdeal.sig) → Buf (Elt Ideal) ℓ) : Prop :=
  ∀ c : Dev Cert.GatesIdeal.nD,
    (Cert.Pre_finite_gates.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4))).1 = (fun _ => 1#1)
    ∧ (Cert.Pre_finite_gates.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4))).2.1 = (fun _ => 1#1)
    ∧ (Cert.Pre_finite_gates.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4))).2.2.1 = (fun _ => 1#1)
    ∧ (Cert.Pre_finite_gates.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4))).2.2.2 = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_finite_gates [hPre_finite_gates : Cert.Pre_finite_gates.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_finite_gates.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4))).1 = (fun _ => 1#1)
    ∧ (Cert.Pre_finite_gates.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4))).2.1 = (fun _ => 1#1)
    ∧ (Cert.Pre_finite_gates.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4))).2.2.1 = (fun _ => 1#1)
    ∧ (Cert.Pre_finite_gates.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4))).2.2.2 = (fun _ => 1#1)

def Pre_QNorm (m : (ℓ : Loc Cert.QNorm.nD Cert.QNorm.τ Cert.QNorm.sig) → Buf (Elt Bits) ℓ) : Prop :=
  True

def Pre_QNormIdeal (m : (ℓ : Loc Cert.QNormIdeal.nD Cert.QNormIdeal.τ Cert.QNormIdeal.sig) → Buf (Elt Ideal) ℓ) : Prop :=
  True

def Pre_QNormRefIdeal (m : (ℓ : Loc Cert.QNormRefIdeal.nD Cert.QNormRefIdeal.τ Cert.QNormRefIdeal.sig) → Buf (Elt Ideal) ℓ) : Prop :=
  True

def Pre_KvGrad (m : (ℓ : Loc Cert.KvGrad.nD Cert.KvGrad.τ Cert.KvGrad.sig) → Buf (Elt Bits) ℓ) : Prop :=
  True

def Pre_KvGradIdeal (m : (ℓ : Loc Cert.KvGradIdeal.nD Cert.KvGradIdeal.τ Cert.KvGradIdeal.sig) → Buf (Elt Ideal) ℓ) : Prop :=
  True

def Pre_KvGradRefIdeal (m : (ℓ : Loc Cert.KvGradRefIdeal.nD Cert.KvGradRefIdeal.τ Cert.KvGradRefIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormIdeal_finite_hng [hPre_finite_hng : Cert.Pre_finite_hng.Facts] (m : (ℓ : Loc Cert.OutNormIdeal.nD Cert.OutNormIdeal.τ Cert.OutNormIdeal.sig) → Buf (Elt Ideal) ℓ) : Prop :=
  ∀ c : Dev Cert.OutNormIdeal.nD,
    (Cert.Pre_finite_hng.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3))).1 = (fun _ => 1#1)
    ∧ (Cert.Pre_finite_hng.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3))).2 = (fun _ => 1#1)

def Pre_OutNormRefIdeal (m : (ℓ : Loc Cert.OutNormRefIdeal.nD Cert.OutNormRefIdeal.τ Cert.OutNormRefIdeal.sig) → Buf (Elt Ideal) ℓ) : Prop :=
  True

def Pre_OutNormRefIdeal_finite_hng [hPre_finite_hng : Cert.Pre_finite_hng.Facts] (m : (ℓ : Loc Cert.OutNormRefIdeal.nD Cert.OutNormRefIdeal.τ Cert.OutNormRefIdeal.sig) → Buf (Elt Ideal) ℓ) : Prop :=
  ∀ c : Dev Cert.OutNormRefIdeal.nD,
    (Cert.Pre_finite_hng.fn (F := Ideal) (m ((c.tc : Thread Cert.OutNormRefIdeal.nD Cert.OutNormRefIdeal.τ).loc Cert.OutNormRefIdeal.main_arg0)) (m ((c.tc : Thread Cert.OutNormRefIdeal.nD Cert.OutNormRefIdeal.τ).loc Cert.OutNormRefIdeal.main_arg1)) (m ((c.tc : Thread Cert.OutNormRefIdeal.nD Cert.OutNormRefIdeal.τ).loc Cert.OutNormRefIdeal.main_arg2)) (m ((c.tc : Thread Cert.OutNormRefIdeal.nD Cert.OutNormRefIdeal.τ).loc Cert.OutNormRefIdeal.main_arg3))).1 = (fun _ => 1#1)
    ∧ (Cert.Pre_finite_hng.fn (F := Ideal) (m ((c.tc : Thread Cert.OutNormRefIdeal.nD Cert.OutNormRefIdeal.τ).loc Cert.OutNormRefIdeal.main_arg0)) (m ((c.tc : Thread Cert.OutNormRefIdeal.nD Cert.OutNormRefIdeal.τ).loc Cert.OutNormRefIdeal.main_arg1)) (m ((c.tc : Thread Cert.OutNormRefIdeal.nD Cert.OutNormRefIdeal.τ).loc Cert.OutNormRefIdeal.main_arg2)) (m ((c.tc : Thread Cert.OutNormRefIdeal.nD Cert.OutNormRefIdeal.τ).loc Cert.OutNormRefIdeal.main_arg3))).2 = (fun _ => 1#1)

def Pre_Swi (m : (ℓ : Loc Cert.Swi.nD Cert.Swi.τ Cert.Swi.sig) → Buf (Elt Bits) ℓ) : Prop :=
  True

def Pre_SwiIdeal (m : (ℓ : Loc Cert.SwiIdeal.nD Cert.SwiIdeal.τ Cert.SwiIdeal.sig) → Buf (Elt Ideal) ℓ) : Prop :=
  True

def Pre_SwiIdeal_finite_swi [hPre_finite_swi : Cert.Pre_finite_swi.Facts] (m : (ℓ : Loc Cert.SwiIdeal.nD Cert.SwiIdeal.τ Cert.SwiIdeal.sig) → Buf (Elt Ideal) ℓ) : Prop :=
  ∀ c : Dev Cert.SwiIdeal.nD,
    (Cert.Pre_finite_swi.fn (F := Ideal) (m ((c.tc : Thread Cert.SwiIdeal.nD Cert.SwiIdeal.τ).loc Cert.SwiIdeal.main_arg0)) (m ((c.tc : Thread Cert.SwiIdeal.nD Cert.SwiIdeal.τ).loc Cert.SwiIdeal.main_arg1)) (m ((c.tc : Thread Cert.SwiIdeal.nD Cert.SwiIdeal.τ).loc Cert.SwiIdeal.main_arg2))).1 = (fun _ => 1#1)
    ∧ (Cert.Pre_finite_swi.fn (F := Ideal) (m ((c.tc : Thread Cert.SwiIdeal.nD Cert.SwiIdeal.τ).loc Cert.SwiIdeal.main_arg0)) (m ((c.tc : Thread Cert.SwiIdeal.nD Cert.SwiIdeal.τ).loc Cert.SwiIdeal.main_arg1)) (m ((c.tc : Thread Cert.SwiIdeal.nD Cert.SwiIdeal.τ).loc Cert.SwiIdeal.main_arg2))).2.1 = (fun _ => 1#1)
    ∧ (Cert.Pre_finite_swi.fn (F := Ideal) (m ((c.tc : Thread Cert.SwiIdeal.nD Cert.SwiIdeal.τ).loc Cert.SwiIdeal.main_arg0)) (m ((c.tc : Thread Cert.SwiIdeal.nD Cert.SwiIdeal.τ).loc Cert.SwiIdeal.main_arg1)) (m ((c.tc : Thread Cert.SwiIdeal.nD Cert.SwiIdeal.τ).loc Cert.SwiIdeal.main_arg2))).2.2 = (fun _ => 1#1)

def Pre_SwiRefIdeal (m : (ℓ : Loc Cert.SwiRefIdeal.nD Cert.SwiRefIdeal.τ Cert.SwiRefIdeal.sig) → Buf (Elt Ideal) ℓ) : Prop :=
  True

def Pre_SwiRefIdeal_finite_swi [hPre_finite_swi : Cert.Pre_finite_swi.Facts] (m : (ℓ : Loc Cert.SwiRefIdeal.nD Cert.SwiRefIdeal.τ Cert.SwiRefIdeal.sig) → Buf (Elt Ideal) ℓ) : Prop :=
  ∀ c : Dev Cert.SwiRefIdeal.nD,
    (Cert.Pre_finite_swi.fn (F := Ideal) (m ((c.tc : Thread Cert.SwiRefIdeal.nD Cert.SwiRefIdeal.τ).loc Cert.SwiRefIdeal.main_arg0)) (m ((c.tc : Thread Cert.SwiRefIdeal.nD Cert.SwiRefIdeal.τ).loc Cert.SwiRefIdeal.main_arg1)) (m ((c.tc : Thread Cert.SwiRefIdeal.nD Cert.SwiRefIdeal.τ).loc Cert.SwiRefIdeal.main_arg2))).1 = (fun _ => 1#1)
    ∧ (Cert.Pre_finite_swi.fn (F := Ideal) (m ((c.tc : Thread Cert.SwiRefIdeal.nD Cert.SwiRefIdeal.τ).loc Cert.SwiRefIdeal.main_arg0)) (m ((c.tc : Thread Cert.SwiRefIdeal.nD Cert.SwiRefIdeal.τ).loc Cert.SwiRefIdeal.main_arg1)) (m ((c.tc : Thread Cert.SwiRefIdeal.nD Cert.SwiRefIdeal.τ).loc Cert.SwiRefIdeal.main_arg2))).2.1 = (fun _ => 1#1)
    ∧ (Cert.Pre_finite_swi.fn (F := Ideal) (m ((c.tc : Thread Cert.SwiRefIdeal.nD Cert.SwiRefIdeal.τ).loc Cert.SwiRefIdeal.main_arg0)) (m ((c.tc : Thread Cert.SwiRefIdeal.nD Cert.SwiRefIdeal.τ).loc Cert.SwiRefIdeal.main_arg1)) (m ((c.tc : Thread Cert.SwiRefIdeal.nD Cert.SwiRefIdeal.τ).loc Cert.SwiRefIdeal.main_arg2))).2.2 = (fun _ => 1#1)

def Pre_PleDx (m : (ℓ : Loc Cert.PleDx.nD Cert.PleDx.τ Cert.PleDx.sig) → Buf (Elt Bits) ℓ) : Prop :=
  True

def Pre_PleDxIdeal (m : (ℓ : Loc Cert.PleDxIdeal.nD Cert.PleDxIdeal.τ Cert.PleDxIdeal.sig) → Buf (Elt Ideal) ℓ) : Prop :=
  True

def Pre_PleDxRefIdeal (m : (ℓ : Loc Cert.PleDxRefIdeal.nD Cert.PleDxRefIdeal.τ Cert.PleDxRefIdeal.sig) → Buf (Elt Ideal) ℓ) : Prop :=
  True

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxRefIdeal (m : (ℓ : Loc Cert.FfnDxRefIdeal.nD Cert.FfnDxRefIdeal.τ Cert.FfnDxRefIdeal.sig) → Buf (Elt Ideal) ℓ) : Prop :=
  True

def Pre_GdnDx (m : (ℓ : Loc Cert.GdnDx.nD Cert.GdnDx.τ Cert.GdnDx.sig) → Buf (Elt Bits) ℓ) : Prop :=
  True

def Pre_GdnDxIdeal (m : (ℓ : Loc Cert.GdnDxIdeal.nD Cert.GdnDxIdeal.τ Cert.GdnDxIdeal.sig) → Buf (Elt Ideal) ℓ) : Prop :=
  True

def Pre_GdnDxRefIdeal (m : (ℓ : Loc Cert.GdnDxRefIdeal.nD Cert.GdnDxRefIdeal.τ Cert.GdnDxRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_SbQDx (m : (ℓ : Loc Cert.SbQDx.nD Cert.SbQDx.τ Cert.SbQDx.sig) → Buf (Elt Bits) ℓ) : Prop :=
  True

def Pre_SbQDxIdeal (m : (ℓ : Loc Cert.SbQDxIdeal.nD Cert.SbQDxIdeal.τ Cert.SbQDxIdeal.sig) → Buf (Elt Ideal) ℓ) : Prop :=
  True

def Pre_SbQDxRefIdeal (m : (ℓ : Loc Cert.SbQDxRefIdeal.nD Cert.SbQDxRefIdeal.τ Cert.SbQDxRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_sb [hPre_finite_sb : Cert.Pre_finite_sb.Facts] (m : (ℓ : Loc Cert.SbIdeal.nD Cert.SbIdeal.τ Cert.SbIdeal.sig) → Buf (Elt Ideal) ℓ) : Prop :=
  ∀ c : Dev Cert.SbIdeal.nD,
    (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).2.1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).2.2.1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).2.2.2 = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_sb [hPre_finite_sb : Cert.Pre_finite_sb.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3))).1 = (fun _ => 1#1)
    ∧ (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3))).2.1 = (fun _ => 1#1)
    ∧ (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3))).2.2.1 = (fun _ => 1#1)
    ∧ (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3))).2.2.2 = (fun _ => 1#1)

def Pre_SbAttn (m : (ℓ : Loc Cert.SbAttn.nD Cert.SbAttn.τ Cert.SbAttn.sig) → Buf (Elt Bits) ℓ) : Prop :=
  True

def Pre_SbAttnIdeal (m : (ℓ : Loc Cert.SbAttnIdeal.nD Cert.SbAttnIdeal.τ Cert.SbAttnIdeal.sig) → Buf (Elt Ideal) ℓ) : Prop :=
  True

def Pre_SbAttnIdeal_finite_sbf [hPre_finite_sbf : Cert.Pre_finite_sbf.Facts] (m : (ℓ : Loc Cert.SbAttnIdeal.nD Cert.SbAttnIdeal.τ Cert.SbAttnIdeal.sig) → Buf (Elt Ideal) ℓ) : Prop :=
  ∀ c : Dev Cert.SbAttnIdeal.nD,
    (Cert.Pre_finite_sbf.fn (F := Ideal) (m ((c.tc : Thread Cert.SbAttnIdeal.nD Cert.SbAttnIdeal.τ).loc Cert.SbAttnIdeal.main_arg0)) (m ((c.tc : Thread Cert.SbAttnIdeal.nD Cert.SbAttnIdeal.τ).loc Cert.SbAttnIdeal.main_arg1)) (m ((c.tc : Thread Cert.SbAttnIdeal.nD Cert.SbAttnIdeal.τ).loc Cert.SbAttnIdeal.main_arg2))).1 = (fun _ => 1#1)
    ∧ (Cert.Pre_finite_sbf.fn (F := Ideal) (m ((c.tc : Thread Cert.SbAttnIdeal.nD Cert.SbAttnIdeal.τ).loc Cert.SbAttnIdeal.main_arg0)) (m ((c.tc : Thread Cert.SbAttnIdeal.nD Cert.SbAttnIdeal.τ).loc Cert.SbAttnIdeal.main_arg1)) (m ((c.tc : Thread Cert.SbAttnIdeal.nD Cert.SbAttnIdeal.τ).loc Cert.SbAttnIdeal.main_arg2))).2 = (fun _ => 1#1)

def Pre_SbAttnRefIdeal (m : (ℓ : Loc Cert.SbAttnRefIdeal.nD Cert.SbAttnRefIdeal.τ Cert.SbAttnRefIdeal.sig) → Buf (Elt Ideal) ℓ) : Prop :=
  True

def Pre_SbAttnRefIdeal_finite_sbf [hPre_finite_sbf : Cert.Pre_finite_sbf.Facts] (m : (ℓ : Loc Cert.SbAttnRefIdeal.nD Cert.SbAttnRefIdeal.τ Cert.SbAttnRefIdeal.sig) → Buf (Elt Ideal) ℓ) : Prop :=
  ∀ c : Dev Cert.SbAttnRefIdeal.nD,
    (Cert.Pre_finite_sbf.fn (F := Ideal) (m ((c.tc : Thread Cert.SbAttnRefIdeal.nD Cert.SbAttnRefIdeal.τ).loc Cert.SbAttnRefIdeal.main_arg0)) (m ((c.tc : Thread Cert.SbAttnRefIdeal.nD Cert.SbAttnRefIdeal.τ).loc Cert.SbAttnRefIdeal.main_arg1)) (m ((c.tc : Thread Cert.SbAttnRefIdeal.nD Cert.SbAttnRefIdeal.τ).loc Cert.SbAttnRefIdeal.main_arg2))).1 = (fun _ => 1#1)
    ∧ (Cert.Pre_finite_sbf.fn (F := Ideal) (m ((c.tc : Thread Cert.SbAttnRefIdeal.nD Cert.SbAttnRefIdeal.τ).loc Cert.SbAttnRefIdeal.main_arg0)) (m ((c.tc : Thread Cert.SbAttnRefIdeal.nD Cert.SbAttnRefIdeal.τ).loc Cert.SbAttnRefIdeal.main_arg1)) (m ((c.tc : Thread Cert.SbAttnRefIdeal.nD Cert.SbAttnRefIdeal.τ).loc Cert.SbAttnRefIdeal.main_arg2))).2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_SwiFwd (m : (ℓ : Loc Cert.SwiFwd.nD Cert.SwiFwd.τ Cert.SwiFwd.sig) → Buf (Elt Bits) ℓ) : Prop :=
  True

def Pre_SwiFwdIdeal (m : (ℓ : Loc Cert.SwiFwdIdeal.nD Cert.SwiFwdIdeal.τ Cert.SwiFwdIdeal.sig) → Buf (Elt Ideal) ℓ) : Prop :=
  True

def Pre_SwiFwdRefIdeal (m : (ℓ : Loc Cert.SwiFwdRefIdeal.nD Cert.SwiFwdRefIdeal.τ Cert.SwiFwdRefIdeal.sig) → Buf (Elt Ideal) ℓ) : Prop :=
  True

def Pre_GatesFwd (m : (ℓ : Loc Cert.GatesFwd.nD Cert.GatesFwd.τ Cert.GatesFwd.sig) → Buf (Elt Bits) ℓ) : Prop :=
  True

def Pre_GatesFwdIdeal (m : (ℓ : Loc Cert.GatesFwdIdeal.nD Cert.GatesFwdIdeal.τ Cert.GatesFwdIdeal.sig) → Buf (Elt Ideal) ℓ) : Prop :=
  True

def Pre_GatesFwdRefIdeal (m : (ℓ : Loc Cert.GatesFwdRefIdeal.nD Cert.GatesFwdRefIdeal.τ Cert.GatesFwdRefIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def Pre_QNormFwd (m : (ℓ : Loc Cert.QNormFwd.nD Cert.QNormFwd.τ Cert.QNormFwd.sig) → Buf (Elt Bits) ℓ) : Prop :=
  True

def Pre_QNormFwdIdeal (m : (ℓ : Loc Cert.QNormFwdIdeal.nD Cert.QNormFwdIdeal.τ Cert.QNormFwdIdeal.sig) → Buf (Elt Ideal) ℓ) : Prop :=
  True

def Pre_QNormFwdRefIdeal (m : (ℓ : Loc Cert.QNormFwdRefIdeal.nD Cert.QNormFwdRefIdeal.τ Cert.QNormFwdRefIdeal.sig) → Buf (Elt Ideal) ℓ) : Prop :=
  True

def Pre_OutNormFwd (m : (ℓ : Loc Cert.OutNormFwd.nD Cert.OutNormFwd.τ Cert.OutNormFwd.sig) → Buf (Elt Bits) ℓ) : Prop :=
  True

def Pre_OutNormFwdIdeal (m : (ℓ : Loc Cert.OutNormFwdIdeal.nD Cert.OutNormFwdIdeal.τ Cert.OutNormFwdIdeal.sig) → Buf (Elt Ideal) ℓ) : Prop :=
  True

def Pre_OutNormFwdRefIdeal (m : (ℓ : Loc Cert.OutNormFwdRefIdeal.nD Cert.OutNormFwdRefIdeal.τ Cert.OutNormFwdRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesIdeal_pre_finite_gates [hGatesIdeal : Cert.GatesIdeal.Facts] [hPre_finite_gates : Cert.Pre_finite_gates.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_finite_gates m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def quiescent_GatesRefIdeal_pre_finite_gates [hGatesRefIdeal : Cert.GatesRefIdeal.Facts] [hPre_finite_gates : Cert.Pre_finite_gates.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_finite_gates m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def quiescent_QNorm [hQNorm : Cert.QNorm.Facts] : Prop :=
  ∀ (m : (ℓ : Loc Cert.QNorm.nD Cert.QNorm.τ Cert.QNorm.sig) → Buf (Elt Bits) ℓ) (g : Dev Cert.QNorm.nD → PrngReg), Pre_QNorm m →
    θ_run (Cert.QNorm.defs (F := Bits)) (onTc (τ := Cert.QNorm.τ) (Cert.QNorm.main (F := Bits))) ⟨m, fun _ => 0, g⟩ (fun r => (∀ c : Dev Cert.QNorm.nD,
      r.2.mem ((c.tc : Thread Cert.QNorm.nD Cert.QNorm.τ).loc Cert.QNorm.main_arg0) = m ((c.tc : Thread Cert.QNorm.nD Cert.QNorm.τ).loc Cert.QNorm.main_arg0)
      ∧ r.2.mem ((c.tc : Thread Cert.QNorm.nD Cert.QNorm.τ).loc Cert.QNorm.main_arg1) = m ((c.tc : Thread Cert.QNorm.nD Cert.QNorm.τ).loc Cert.QNorm.main_arg1)
      ∧ r.2.mem ((c.tc : Thread Cert.QNorm.nD Cert.QNorm.τ).loc Cert.QNorm.main_arg2) = m ((c.tc : Thread Cert.QNorm.nD Cert.QNorm.τ).loc Cert.QNorm.main_arg2))
      ∧ r.2.sem = fun _ => 0)

def quiescent_QNormIdeal [hQNormIdeal : Cert.QNormIdeal.Facts] : Prop :=
  ∀ (m : (ℓ : Loc Cert.QNormIdeal.nD Cert.QNormIdeal.τ Cert.QNormIdeal.sig) → Buf (Elt Ideal) ℓ) (g : Dev Cert.QNormIdeal.nD → PrngReg), Pre_QNormIdeal m →
    θ_run (Cert.QNormIdeal.defs (F := Ideal)) (onTc (τ := Cert.QNormIdeal.τ) (Cert.QNormIdeal.main (F := Ideal))) ⟨m, fun _ => 0, g⟩ (fun r => (∀ c : Dev Cert.QNormIdeal.nD,
      r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
      ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1)
      ∧ r.2.mem ((c.tc : Thread Cert.QNormIdeal.nD Cert.QNormIdeal.τ).loc Cert.QNormIdeal.main_arg2) = m ((c.tc : Thread Cert.QNormIdeal.nD Cert.QNormIdeal.τ).loc Cert.QNormIdeal.main_arg2))
      ∧ r.2.sem = fun _ => 0)

def quiescent_QNormRefIdeal [hQNormRefIdeal : Cert.QNormRefIdeal.Facts] : Prop :=
  ∀ (m : (ℓ : Loc Cert.QNormRefIdeal.nD Cert.QNormRefIdeal.τ Cert.QNormRefIdeal.sig) → Buf (Elt Ideal) ℓ) (g : Dev Cert.QNormRefIdeal.nD → PrngReg), Pre_QNormRefIdeal m →
    θ_run (Cert.QNormRefIdeal.defs (F := Ideal)) (onTc (τ := Cert.QNormRefIdeal.τ) (Cert.QNormRefIdeal.main (F := Ideal))) ⟨m, fun _ => 0, g⟩ (fun r => (∀ c : Dev Cert.QNormRefIdeal.nD,
      r.2.mem ((c.tc : Thread Cert.QNormRefIdeal.nD Cert.QNormRefIdeal.τ).loc Cert.QNormRefIdeal.main_arg0) = m ((c.tc : Thread Cert.QNormRefIdeal.nD Cert.QNormRefIdeal.τ).loc Cert.QNormRefIdeal.main_arg0)
      ∧ r.2.mem ((c.tc : Thread Cert.QNormRefIdeal.nD Cert.QNormRefIdeal.τ).loc Cert.QNormRefIdeal.main_arg1) = m ((c.tc : Thread Cert.QNormRefIdeal.nD Cert.QNormRefIdeal.τ).loc Cert.QNormRefIdeal.main_arg1)
      ∧ r.2.mem ((c.tc : Thread Cert.QNormRefIdeal.nD Cert.QNormRefIdeal.τ).loc Cert.QNormRefIdeal.main_arg2) = m ((c.tc : Thread Cert.QNormRefIdeal.nD Cert.QNormRefIdeal.τ).loc Cert.QNormRefIdeal.main_arg2))
      ∧ r.2.sem = fun _ => 0)

def quiescent_KvGrad [hKvGrad : Cert.KvGrad.Facts] : Prop :=
  ∀ (m : (ℓ : Loc Cert.KvGrad.nD Cert.KvGrad.τ Cert.KvGrad.sig) → Buf (Elt Bits) ℓ) (g : Dev Cert.KvGrad.nD → PrngReg), Pre_KvGrad m →
    θ_run (Cert.KvGrad.defs (F := Bits)) (onTc (τ := Cert.KvGrad.τ) (Cert.KvGrad.main (F := Bits))) ⟨m, fun _ => 0, g⟩ (fun r => (∀ c : Dev Cert.KvGrad.nD,
      r.2.mem ((c.tc : Thread Cert.KvGrad.nD Cert.KvGrad.τ).loc Cert.KvGrad.main_arg0) = m ((c.tc : Thread Cert.KvGrad.nD Cert.KvGrad.τ).loc Cert.KvGrad.main_arg0)
      ∧ r.2.mem ((c.tc : Thread Cert.KvGrad.nD Cert.KvGrad.τ).loc Cert.KvGrad.main_arg1) = m ((c.tc : Thread Cert.KvGrad.nD Cert.KvGrad.τ).loc Cert.KvGrad.main_arg1)
      ∧ r.2.mem ((c.tc : Thread Cert.KvGrad.nD Cert.KvGrad.τ).loc Cert.KvGrad.main_arg2) = m ((c.tc : Thread Cert.KvGrad.nD Cert.KvGrad.τ).loc Cert.KvGrad.main_arg2)
      ∧ r.2.mem ((c.tc : Thread Cert.KvGrad.nD Cert.KvGrad.τ).loc Cert.KvGrad.main_arg3) = m ((c.tc : Thread Cert.KvGrad.nD Cert.KvGrad.τ).loc Cert.KvGrad.main_arg3)
      ∧ r.2.mem ((c.tc : Thread Cert.KvGrad.nD Cert.KvGrad.τ).loc Cert.KvGrad.main_arg4) = m ((c.tc : Thread Cert.KvGrad.nD Cert.KvGrad.τ).loc Cert.KvGrad.main_arg4)
      ∧ r.2.mem ((c.tc : Thread Cert.KvGrad.nD Cert.KvGrad.τ).loc Cert.KvGrad.main_arg5) = m ((c.tc : Thread Cert.KvGrad.nD Cert.KvGrad.τ).loc Cert.KvGrad.main_arg5))
      ∧ r.2.sem = fun _ => 0)

def quiescent_KvGradIdeal [hKvGradIdeal : Cert.KvGradIdeal.Facts] : Prop :=
  ∀ (m : (ℓ : Loc Cert.KvGradIdeal.nD Cert.KvGradIdeal.τ Cert.KvGradIdeal.sig) → Buf (Elt Ideal) ℓ) (g : Dev Cert.KvGradIdeal.nD → PrngReg), Pre_KvGradIdeal m →
    θ_run (Cert.KvGradIdeal.defs (F := Ideal)) (onTc (τ := Cert.KvGradIdeal.τ) (Cert.KvGradIdeal.main (F := Ideal))) ⟨m, fun _ => 0, g⟩ (fun r => (∀ c : Dev Cert.KvGradIdeal.nD,
      r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
      ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1)
      ∧ r.2.mem ((c.tc : Thread Cert.KvGradIdeal.nD Cert.KvGradIdeal.τ).loc Cert.KvGradIdeal.main_arg2) = m ((c.tc : Thread Cert.KvGradIdeal.nD Cert.KvGradIdeal.τ).loc Cert.KvGradIdeal.main_arg2)
      ∧ r.2.mem ((c.tc : Thread Cert.KvGradIdeal.nD Cert.KvGradIdeal.τ).loc Cert.KvGradIdeal.main_arg3) = m ((c.tc : Thread Cert.KvGradIdeal.nD Cert.KvGradIdeal.τ).loc Cert.KvGradIdeal.main_arg3)
      ∧ r.2.mem ((c.tc : Thread Cert.KvGradIdeal.nD Cert.KvGradIdeal.τ).loc Cert.KvGradIdeal.main_arg4) = m ((c.tc : Thread Cert.KvGradIdeal.nD Cert.KvGradIdeal.τ).loc Cert.KvGradIdeal.main_arg4)
      ∧ r.2.mem ((c.tc : Thread Cert.KvGradIdeal.nD Cert.KvGradIdeal.τ).loc Cert.KvGradIdeal.main_arg5) = m ((c.tc : Thread Cert.KvGradIdeal.nD Cert.KvGradIdeal.τ).loc Cert.KvGradIdeal.main_arg5))
      ∧ r.2.sem = fun _ => 0)

def quiescent_KvGradRefIdeal [hKvGradRefIdeal : Cert.KvGradRefIdeal.Facts] : Prop :=
  ∀ (m : (ℓ : Loc Cert.KvGradRefIdeal.nD Cert.KvGradRefIdeal.τ Cert.KvGradRefIdeal.sig) → Buf (Elt Ideal) ℓ) (g : Dev Cert.KvGradRefIdeal.nD → PrngReg), Pre_KvGradRefIdeal m →
    θ_run (Cert.KvGradRefIdeal.defs (F := Ideal)) (onTc (τ := Cert.KvGradRefIdeal.τ) (Cert.KvGradRefIdeal.main (F := Ideal))) ⟨m, fun _ => 0, g⟩ (fun r => (∀ c : Dev Cert.KvGradRefIdeal.nD,
      r.2.mem ((c.tc : Thread Cert.KvGradRefIdeal.nD Cert.KvGradRefIdeal.τ).loc Cert.KvGradRefIdeal.main_arg0) = m ((c.tc : Thread Cert.KvGradRefIdeal.nD Cert.KvGradRefIdeal.τ).loc Cert.KvGradRefIdeal.main_arg0)
      ∧ r.2.mem ((c.tc : Thread Cert.KvGradRefIdeal.nD Cert.KvGradRefIdeal.τ).loc Cert.KvGradRefIdeal.main_arg1) = m ((c.tc : Thread Cert.KvGradRefIdeal.nD Cert.KvGradRefIdeal.τ).loc Cert.KvGradRefIdeal.main_arg1)
      ∧ r.2.mem ((c.tc : Thread Cert.KvGradRefIdeal.nD Cert.KvGradRefIdeal.τ).loc Cert.KvGradRefIdeal.main_arg2) = m ((c.tc : Thread Cert.KvGradRefIdeal.nD Cert.KvGradRefIdeal.τ).loc Cert.KvGradRefIdeal.main_arg2)
      ∧ r.2.mem ((c.tc : Thread Cert.KvGradRefIdeal.nD Cert.KvGradRefIdeal.τ).loc Cert.KvGradRefIdeal.main_arg3) = m ((c.tc : Thread Cert.KvGradRefIdeal.nD Cert.KvGradRefIdeal.τ).loc Cert.KvGradRefIdeal.main_arg3)
      ∧ r.2.mem ((c.tc : Thread Cert.KvGradRefIdeal.nD Cert.KvGradRefIdeal.τ).loc Cert.KvGradRefIdeal.main_arg4) = m ((c.tc : Thread Cert.KvGradRefIdeal.nD Cert.KvGradRefIdeal.τ).loc Cert.KvGradRefIdeal.main_arg4)
      ∧ r.2.mem ((c.tc : Thread Cert.KvGradRefIdeal.nD Cert.KvGradRefIdeal.τ).loc Cert.KvGradRefIdeal.main_arg5) = m ((c.tc : Thread Cert.KvGradRefIdeal.nD Cert.KvGradRefIdeal.τ).loc Cert.KvGradRefIdeal.main_arg5))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ r.2.sem = fun _ => 0)

def quiescent_OutNormIdeal_pre_finite_hng [hOutNormIdeal : Cert.OutNormIdeal.Facts] [hPre_finite_hng : Cert.Pre_finite_hng.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal_finite_hng m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3))
      ∧ r.2.sem = fun _ => 0)

def quiescent_OutNormRefIdeal_pre_finite_hng [hOutNormRefIdeal : Cert.OutNormRefIdeal.Facts] [hPre_finite_hng : Cert.Pre_finite_hng.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal_finite_hng m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3))
      ∧ r.2.sem = fun _ => 0)

def quiescent_Swi [hSwi : Cert.Swi.Facts] : Prop :=
  ∀ (m : (ℓ : Loc Cert.Swi.nD Cert.Swi.τ Cert.Swi.sig) → Buf (Elt Bits) ℓ) (g : Dev Cert.Swi.nD → PrngReg), Pre_Swi m →
    θ_run (Cert.Swi.defs (F := Bits)) (onTc (τ := Cert.Swi.τ) (Cert.Swi.main (F := Bits))) ⟨m, fun _ => 0, g⟩ (fun r => (∀ c : Dev Cert.Swi.nD,
      r.2.mem ((c.tc : Thread Cert.Swi.nD Cert.Swi.τ).loc Cert.Swi.main_arg0) = m ((c.tc : Thread Cert.Swi.nD Cert.Swi.τ).loc Cert.Swi.main_arg0)
      ∧ r.2.mem ((c.tc : Thread Cert.Swi.nD Cert.Swi.τ).loc Cert.Swi.main_arg1) = m ((c.tc : Thread Cert.Swi.nD Cert.Swi.τ).loc Cert.Swi.main_arg1)
      ∧ r.2.mem ((c.tc : Thread Cert.Swi.nD Cert.Swi.τ).loc Cert.Swi.main_arg2) = m ((c.tc : Thread Cert.Swi.nD Cert.Swi.τ).loc Cert.Swi.main_arg2))
      ∧ r.2.sem = fun _ => 0)

def quiescent_SwiIdeal [hSwiIdeal : Cert.SwiIdeal.Facts] : Prop :=
  ∀ (m : (ℓ : Loc Cert.SwiIdeal.nD Cert.SwiIdeal.τ Cert.SwiIdeal.sig) → Buf (Elt Ideal) ℓ) (g : Dev Cert.SwiIdeal.nD → PrngReg), Pre_SwiIdeal m →
    θ_run (Cert.SwiIdeal.defs (F := Ideal)) (onTc (τ := Cert.SwiIdeal.τ) (Cert.SwiIdeal.main (F := Ideal))) ⟨m, fun _ => 0, g⟩ (fun r => (∀ c : Dev Cert.SwiIdeal.nD,
      r.2.mem ((c.tc : Thread Cert.SwiIdeal.nD Cert.SwiIdeal.τ).loc Cert.SwiIdeal.main_arg0) = m ((c.tc : Thread Cert.SwiIdeal.nD Cert.SwiIdeal.τ).loc Cert.SwiIdeal.main_arg0)
      ∧ r.2.mem ((c.tc : Thread Cert.SwiIdeal.nD Cert.SwiIdeal.τ).loc Cert.SwiIdeal.main_arg1) = m ((c.tc : Thread Cert.SwiIdeal.nD Cert.SwiIdeal.τ).loc Cert.SwiIdeal.main_arg1)
      ∧ r.2.mem ((c.tc : Thread Cert.SwiIdeal.nD Cert.SwiIdeal.τ).loc Cert.SwiIdeal.main_arg2) = m ((c.tc : Thread Cert.SwiIdeal.nD Cert.SwiIdeal.τ).loc Cert.SwiIdeal.main_arg2))
      ∧ r.2.sem = fun _ => 0)

def quiescent_SwiIdeal_pre_finite_swi [hSwiIdeal : Cert.SwiIdeal.Facts] [hPre_finite_swi : Cert.Pre_finite_swi.Facts] : Prop :=
  ∀ (m : (ℓ : Loc Cert.SwiIdeal.nD Cert.SwiIdeal.τ Cert.SwiIdeal.sig) → Buf (Elt Ideal) ℓ) (g : Dev Cert.SwiIdeal.nD → PrngReg), Pre_SwiIdeal_finite_swi m →
    θ_run (Cert.SwiIdeal.defs (F := Ideal)) (onTc (τ := Cert.SwiIdeal.τ) (Cert.SwiIdeal.main (F := Ideal))) ⟨m, fun _ => 0, g⟩ (fun r => (∀ c : Dev Cert.SwiIdeal.nD,
      r.2.mem ((c.tc : Thread Cert.SwiIdeal.nD Cert.SwiIdeal.τ).loc Cert.SwiIdeal.main_arg0) = m ((c.tc : Thread Cert.SwiIdeal.nD Cert.SwiIdeal.τ).loc Cert.SwiIdeal.main_arg0)
      ∧ r.2.mem ((c.tc : Thread Cert.SwiIdeal.nD Cert.SwiIdeal.τ).loc Cert.SwiIdeal.main_arg1) = m ((c.tc : Thread Cert.SwiIdeal.nD Cert.SwiIdeal.τ).loc Cert.SwiIdeal.main_arg1)
      ∧ r.2.mem ((c.tc : Thread Cert.SwiIdeal.nD Cert.SwiIdeal.τ).loc Cert.SwiIdeal.main_arg2) = m ((c.tc : Thread Cert.SwiIdeal.nD Cert.SwiIdeal.τ).loc Cert.SwiIdeal.main_arg2))
      ∧ r.2.sem = fun _ => 0)

def quiescent_SwiRefIdeal [hSwiRefIdeal : Cert.SwiRefIdeal.Facts] : Prop :=
  ∀ (m : (ℓ : Loc Cert.SwiRefIdeal.nD Cert.SwiRefIdeal.τ Cert.SwiRefIdeal.sig) → Buf (Elt Ideal) ℓ) (g : Dev Cert.SwiRefIdeal.nD → PrngReg), Pre_SwiRefIdeal m →
    θ_run (Cert.SwiRefIdeal.defs (F := Ideal)) (onTc (τ := Cert.SwiRefIdeal.τ) (Cert.SwiRefIdeal.main (F := Ideal))) ⟨m, fun _ => 0, g⟩ (fun r => (∀ c : Dev Cert.SwiRefIdeal.nD,
      r.2.mem ((c.tc : Thread Cert.SwiRefIdeal.nD Cert.SwiRefIdeal.τ).loc Cert.SwiRefIdeal.main_arg0) = m ((c.tc : Thread Cert.SwiRefIdeal.nD Cert.SwiRefIdeal.τ).loc Cert.SwiRefIdeal.main_arg0)
      ∧ r.2.mem ((c.tc : Thread Cert.SwiRefIdeal.nD Cert.SwiRefIdeal.τ).loc Cert.SwiRefIdeal.main_arg1) = m ((c.tc : Thread Cert.SwiRefIdeal.nD Cert.SwiRefIdeal.τ).loc Cert.SwiRefIdeal.main_arg1)
      ∧ r.2.mem ((c.tc : Thread Cert.SwiRefIdeal.nD Cert.SwiRefIdeal.τ).loc Cert.SwiRefIdeal.main_arg2) = m ((c.tc : Thread Cert.SwiRefIdeal.nD Cert.SwiRefIdeal.τ).loc Cert.SwiRefIdeal.main_arg2))
      ∧ r.2.sem = fun _ => 0)

def quiescent_SwiRefIdeal_pre_finite_swi [hSwiRefIdeal : Cert.SwiRefIdeal.Facts] [hPre_finite_swi : Cert.Pre_finite_swi.Facts] : Prop :=
  ∀ (m : (ℓ : Loc Cert.SwiRefIdeal.nD Cert.SwiRefIdeal.τ Cert.SwiRefIdeal.sig) → Buf (Elt Ideal) ℓ) (g : Dev Cert.SwiRefIdeal.nD → PrngReg), Pre_SwiRefIdeal_finite_swi m →
    θ_run (Cert.SwiRefIdeal.defs (F := Ideal)) (onTc (τ := Cert.SwiRefIdeal.τ) (Cert.SwiRefIdeal.main (F := Ideal))) ⟨m, fun _ => 0, g⟩ (fun r => (∀ c : Dev Cert.SwiRefIdeal.nD,
      r.2.mem ((c.tc : Thread Cert.SwiRefIdeal.nD Cert.SwiRefIdeal.τ).loc Cert.SwiRefIdeal.main_arg0) = m ((c.tc : Thread Cert.SwiRefIdeal.nD Cert.SwiRefIdeal.τ).loc Cert.SwiRefIdeal.main_arg0)
      ∧ r.2.mem ((c.tc : Thread Cert.SwiRefIdeal.nD Cert.SwiRefIdeal.τ).loc Cert.SwiRefIdeal.main_arg1) = m ((c.tc : Thread Cert.SwiRefIdeal.nD Cert.SwiRefIdeal.τ).loc Cert.SwiRefIdeal.main_arg1)
      ∧ r.2.mem ((c.tc : Thread Cert.SwiRefIdeal.nD Cert.SwiRefIdeal.τ).loc Cert.SwiRefIdeal.main_arg2) = m ((c.tc : Thread Cert.SwiRefIdeal.nD Cert.SwiRefIdeal.τ).loc Cert.SwiRefIdeal.main_arg2))
      ∧ r.2.sem = fun _ => 0)

def quiescent_PleDx [hPleDx : Cert.PleDx.Facts] : Prop :=
  ∀ (m : (ℓ : Loc Cert.PleDx.nD Cert.PleDx.τ Cert.PleDx.sig) → Buf (Elt Bits) ℓ) (g : Dev Cert.PleDx.nD → PrngReg), Pre_PleDx m →
    θ_run (Cert.PleDx.defs (F := Bits)) (onTc (τ := Cert.PleDx.τ) (Cert.PleDx.main (F := Bits))) ⟨m, fun _ => 0, g⟩ (fun r => (∀ c : Dev Cert.PleDx.nD,
      r.2.mem ((c.tc : Thread Cert.PleDx.nD Cert.PleDx.τ).loc Cert.PleDx.main_arg0) = m ((c.tc : Thread Cert.PleDx.nD Cert.PleDx.τ).loc Cert.PleDx.main_arg0)
      ∧ r.2.mem ((c.tc : Thread Cert.PleDx.nD Cert.PleDx.τ).loc Cert.PleDx.main_arg1) = m ((c.tc : Thread Cert.PleDx.nD Cert.PleDx.τ).loc Cert.PleDx.main_arg1)
      ∧ r.2.mem ((c.tc : Thread Cert.PleDx.nD Cert.PleDx.τ).loc Cert.PleDx.main_arg2) = m ((c.tc : Thread Cert.PleDx.nD Cert.PleDx.τ).loc Cert.PleDx.main_arg2)
      ∧ r.2.mem ((c.tc : Thread Cert.PleDx.nD Cert.PleDx.τ).loc Cert.PleDx.main_arg3) = m ((c.tc : Thread Cert.PleDx.nD Cert.PleDx.τ).loc Cert.PleDx.main_arg3)
      ∧ r.2.mem ((c.tc : Thread Cert.PleDx.nD Cert.PleDx.τ).loc Cert.PleDx.main_arg4) = m ((c.tc : Thread Cert.PleDx.nD Cert.PleDx.τ).loc Cert.PleDx.main_arg4))
      ∧ r.2.sem = fun _ => 0)

def quiescent_PleDxIdeal [hPleDxIdeal : Cert.PleDxIdeal.Facts] : Prop :=
  ∀ (m : (ℓ : Loc Cert.PleDxIdeal.nD Cert.PleDxIdeal.τ Cert.PleDxIdeal.sig) → Buf (Elt Ideal) ℓ) (g : Dev Cert.PleDxIdeal.nD → PrngReg), Pre_PleDxIdeal m →
    θ_run (Cert.PleDxIdeal.defs (F := Ideal)) (onTc (τ := Cert.PleDxIdeal.τ) (Cert.PleDxIdeal.main (F := Ideal))) ⟨m, fun _ => 0, g⟩ (fun r => (∀ c : Dev Cert.PleDxIdeal.nD,
      r.2.mem ((c.tc : Thread Cert.PleDxIdeal.nD Cert.PleDxIdeal.τ).loc Cert.PleDxIdeal.main_arg0) = m ((c.tc : Thread Cert.PleDxIdeal.nD Cert.PleDxIdeal.τ).loc Cert.PleDxIdeal.main_arg0)
      ∧ r.2.mem ((c.tc : Thread Cert.PleDxIdeal.nD Cert.PleDxIdeal.τ).loc Cert.PleDxIdeal.main_arg1) = m ((c.tc : Thread Cert.PleDxIdeal.nD Cert.PleDxIdeal.τ).loc Cert.PleDxIdeal.main_arg1)
      ∧ r.2.mem ((c.tc : Thread Cert.PleDxIdeal.nD Cert.PleDxIdeal.τ).loc Cert.PleDxIdeal.main_arg2) = m ((c.tc : Thread Cert.PleDxIdeal.nD Cert.PleDxIdeal.τ).loc Cert.PleDxIdeal.main_arg2)
      ∧ r.2.mem ((c.tc : Thread Cert.PleDxIdeal.nD Cert.PleDxIdeal.τ).loc Cert.PleDxIdeal.main_arg3) = m ((c.tc : Thread Cert.PleDxIdeal.nD Cert.PleDxIdeal.τ).loc Cert.PleDxIdeal.main_arg3)
      ∧ r.2.mem ((c.tc : Thread Cert.PleDxIdeal.nD Cert.PleDxIdeal.τ).loc Cert.PleDxIdeal.main_arg4) = m ((c.tc : Thread Cert.PleDxIdeal.nD Cert.PleDxIdeal.τ).loc Cert.PleDxIdeal.main_arg4))
      ∧ r.2.sem = fun _ => 0)

def quiescent_PleDxRefIdeal [hPleDxRefIdeal : Cert.PleDxRefIdeal.Facts] : Prop :=
  ∀ (m : (ℓ : Loc Cert.PleDxRefIdeal.nD Cert.PleDxRefIdeal.τ Cert.PleDxRefIdeal.sig) → Buf (Elt Ideal) ℓ) (g : Dev Cert.PleDxRefIdeal.nD → PrngReg), Pre_PleDxRefIdeal m →
    θ_run (Cert.PleDxRefIdeal.defs (F := Ideal)) (onTc (τ := Cert.PleDxRefIdeal.τ) (Cert.PleDxRefIdeal.main (F := Ideal))) ⟨m, fun _ => 0, g⟩ (fun r => (∀ c : Dev Cert.PleDxRefIdeal.nD,
      r.2.mem ((c.tc : Thread Cert.PleDxRefIdeal.nD Cert.PleDxRefIdeal.τ).loc Cert.PleDxRefIdeal.main_arg0) = m ((c.tc : Thread Cert.PleDxRefIdeal.nD Cert.PleDxRefIdeal.τ).loc Cert.PleDxRefIdeal.main_arg0)
      ∧ r.2.mem ((c.tc : Thread Cert.PleDxRefIdeal.nD Cert.PleDxRefIdeal.τ).loc Cert.PleDxRefIdeal.main_arg1) = m ((c.tc : Thread Cert.PleDxRefIdeal.nD Cert.PleDxRefIdeal.τ).loc Cert.PleDxRefIdeal.main_arg1)
      ∧ r.2.mem ((c.tc : Thread Cert.PleDxRefIdeal.nD Cert.PleDxRefIdeal.τ).loc Cert.PleDxRefIdeal.main_arg2) = m ((c.tc : Thread Cert.PleDxRefIdeal.nD Cert.PleDxRefIdeal.τ).loc Cert.PleDxRefIdeal.main_arg2)
      ∧ r.2.mem ((c.tc : Thread Cert.PleDxRefIdeal.nD Cert.PleDxRefIdeal.τ).loc Cert.PleDxRefIdeal.main_arg3) = m ((c.tc : Thread Cert.PleDxRefIdeal.nD Cert.PleDxRefIdeal.τ).loc Cert.PleDxRefIdeal.main_arg3)
      ∧ r.2.mem ((c.tc : Thread Cert.PleDxRefIdeal.nD Cert.PleDxRefIdeal.τ).loc Cert.PleDxRefIdeal.main_arg4) = m ((c.tc : Thread Cert.PleDxRefIdeal.nD Cert.PleDxRefIdeal.τ).loc Cert.PleDxRefIdeal.main_arg4))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3)
      ∧ r.2.mem ((c.tc : Thread Cert.FfnDx.nD Cert.FfnDx.τ).loc Cert.FfnDx.main_arg4) = m ((c.tc : Thread Cert.FfnDx.nD Cert.FfnDx.τ).loc Cert.FfnDx.main_arg4))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4))
      ∧ r.2.sem = fun _ => 0)

def quiescent_GdnDx [hGdnDx : Cert.GdnDx.Facts] : Prop :=
  ∀ (m : (ℓ : Loc Cert.GdnDx.nD Cert.GdnDx.τ Cert.GdnDx.sig) → Buf (Elt Bits) ℓ) (g : Dev Cert.GdnDx.nD → PrngReg), Pre_GdnDx m →
    θ_run (Cert.GdnDx.defs (F := Bits)) (onTc (τ := Cert.GdnDx.τ) (Cert.GdnDx.main (F := Bits))) ⟨m, fun _ => 0, g⟩ (fun r => (∀ c : Dev Cert.GdnDx.nD,
      r.2.mem ((c.tc : Thread Cert.GdnDx.nD Cert.GdnDx.τ).loc Cert.GdnDx.main_arg0) = m ((c.tc : Thread Cert.GdnDx.nD Cert.GdnDx.τ).loc Cert.GdnDx.main_arg0)
      ∧ r.2.mem ((c.tc : Thread Cert.GdnDx.nD Cert.GdnDx.τ).loc Cert.GdnDx.main_arg1) = m ((c.tc : Thread Cert.GdnDx.nD Cert.GdnDx.τ).loc Cert.GdnDx.main_arg1)
      ∧ r.2.mem ((c.tc : Thread Cert.GdnDx.nD Cert.GdnDx.τ).loc Cert.GdnDx.main_arg2) = m ((c.tc : Thread Cert.GdnDx.nD Cert.GdnDx.τ).loc Cert.GdnDx.main_arg2)
      ∧ r.2.mem ((c.tc : Thread Cert.GdnDx.nD Cert.GdnDx.τ).loc Cert.GdnDx.main_arg3) = m ((c.tc : Thread Cert.GdnDx.nD Cert.GdnDx.τ).loc Cert.GdnDx.main_arg3)
      ∧ r.2.mem ((c.tc : Thread Cert.GdnDx.nD Cert.GdnDx.τ).loc Cert.GdnDx.main_arg4) = m ((c.tc : Thread Cert.GdnDx.nD Cert.GdnDx.τ).loc Cert.GdnDx.main_arg4)
      ∧ r.2.mem ((c.tc : Thread Cert.GdnDx.nD Cert.GdnDx.τ).loc Cert.GdnDx.main_arg5) = m ((c.tc : Thread Cert.GdnDx.nD Cert.GdnDx.τ).loc Cert.GdnDx.main_arg5))
      ∧ r.2.sem = fun _ => 0)

def quiescent_GdnDxIdeal [hGdnDxIdeal : Cert.GdnDxIdeal.Facts] : Prop :=
  ∀ (m : (ℓ : Loc Cert.GdnDxIdeal.nD Cert.GdnDxIdeal.τ Cert.GdnDxIdeal.sig) → Buf (Elt Ideal) ℓ) (g : Dev Cert.GdnDxIdeal.nD → PrngReg), Pre_GdnDxIdeal m →
    θ_run (Cert.GdnDxIdeal.defs (F := Ideal)) (onTc (τ := Cert.GdnDxIdeal.τ) (Cert.GdnDxIdeal.main (F := Ideal))) ⟨m, fun _ => 0, g⟩ (fun r => (∀ c : Dev Cert.GdnDxIdeal.nD,
      r.2.mem ((c.tc : Thread Cert.GdnDxIdeal.nD Cert.GdnDxIdeal.τ).loc Cert.GdnDxIdeal.main_arg0) = m ((c.tc : Thread Cert.GdnDxIdeal.nD Cert.GdnDxIdeal.τ).loc Cert.GdnDxIdeal.main_arg0)
      ∧ r.2.mem ((c.tc : Thread Cert.GdnDxIdeal.nD Cert.GdnDxIdeal.τ).loc Cert.GdnDxIdeal.main_arg1) = m ((c.tc : Thread Cert.GdnDxIdeal.nD Cert.GdnDxIdeal.τ).loc Cert.GdnDxIdeal.main_arg1)
      ∧ r.2.mem ((c.tc : Thread Cert.GdnDxIdeal.nD Cert.GdnDxIdeal.τ).loc Cert.GdnDxIdeal.main_arg2) = m ((c.tc : Thread Cert.GdnDxIdeal.nD Cert.GdnDxIdeal.τ).loc Cert.GdnDxIdeal.main_arg2)
      ∧ r.2.mem ((c.tc : Thread Cert.GdnDxIdeal.nD Cert.GdnDxIdeal.τ).loc Cert.GdnDxIdeal.main_arg3) = m ((c.tc : Thread Cert.GdnDxIdeal.nD Cert.GdnDxIdeal.τ).loc Cert.GdnDxIdeal.main_arg3)
      ∧ r.2.mem ((c.tc : Thread Cert.GdnDxIdeal.nD Cert.GdnDxIdeal.τ).loc Cert.GdnDxIdeal.main_arg4) = m ((c.tc : Thread Cert.GdnDxIdeal.nD Cert.GdnDxIdeal.τ).loc Cert.GdnDxIdeal.main_arg4)
      ∧ r.2.mem ((c.tc : Thread Cert.GdnDxIdeal.nD Cert.GdnDxIdeal.τ).loc Cert.GdnDxIdeal.main_arg5) = m ((c.tc : Thread Cert.GdnDxIdeal.nD Cert.GdnDxIdeal.τ).loc Cert.GdnDxIdeal.main_arg5))
      ∧ r.2.sem = fun _ => 0)

def quiescent_GdnDxRefIdeal [hGdnDxRefIdeal : Cert.GdnDxRefIdeal.Facts] : Prop :=
  ∀ (m : (ℓ : Loc Cert.GdnDxRefIdeal.nD Cert.GdnDxRefIdeal.τ Cert.GdnDxRefIdeal.sig) → Buf (Elt Ideal) ℓ) (g : Dev Cert.GdnDxRefIdeal.nD → PrngReg), Pre_GdnDxRefIdeal m →
    θ_run (Cert.GdnDxRefIdeal.defs (F := Ideal)) (onTc (τ := Cert.GdnDxRefIdeal.τ) (Cert.GdnDxRefIdeal.main (F := Ideal))) ⟨m, fun _ => 0, g⟩ (fun r => (∀ c : Dev Cert.GdnDxRefIdeal.nD,
      r.2.mem ((c.tc : Thread Cert.GdnDxRefIdeal.nD Cert.GdnDxRefIdeal.τ).loc Cert.GdnDxRefIdeal.main_arg0) = m ((c.tc : Thread Cert.GdnDxRefIdeal.nD Cert.GdnDxRefIdeal.τ).loc Cert.GdnDxRefIdeal.main_arg0)
      ∧ r.2.mem ((c.tc : Thread Cert.GdnDxRefIdeal.nD Cert.GdnDxRefIdeal.τ).loc Cert.GdnDxRefIdeal.main_arg1) = m ((c.tc : Thread Cert.GdnDxRefIdeal.nD Cert.GdnDxRefIdeal.τ).loc Cert.GdnDxRefIdeal.main_arg1)
      ∧ r.2.mem ((c.tc : Thread Cert.GdnDxRefIdeal.nD Cert.GdnDxRefIdeal.τ).loc Cert.GdnDxRefIdeal.main_arg2) = m ((c.tc : Thread Cert.GdnDxRefIdeal.nD Cert.GdnDxRefIdeal.τ).loc Cert.GdnDxRefIdeal.main_arg2)
      ∧ r.2.mem ((c.tc : Thread Cert.GdnDxRefIdeal.nD Cert.GdnDxRefIdeal.τ).loc Cert.GdnDxRefIdeal.main_arg3) = m ((c.tc : Thread Cert.GdnDxRefIdeal.nD Cert.GdnDxRefIdeal.τ).loc Cert.GdnDxRefIdeal.main_arg3)
      ∧ r.2.mem ((c.tc : Thread Cert.GdnDxRefIdeal.nD Cert.GdnDxRefIdeal.τ).loc Cert.GdnDxRefIdeal.main_arg4) = m ((c.tc : Thread Cert.GdnDxRefIdeal.nD Cert.GdnDxRefIdeal.τ).loc Cert.GdnDxRefIdeal.main_arg4)
      ∧ r.2.mem ((c.tc : Thread Cert.GdnDxRefIdeal.nD Cert.GdnDxRefIdeal.τ).loc Cert.GdnDxRefIdeal.main_arg5) = m ((c.tc : Thread Cert.GdnDxRefIdeal.nD Cert.GdnDxRefIdeal.τ).loc Cert.GdnDxRefIdeal.main_arg5))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1)
      ∧ r.2.mem ((c.tc : Thread Cert.KvDx.nD Cert.KvDx.τ).loc Cert.KvDx.main_arg2) = m ((c.tc : Thread Cert.KvDx.nD Cert.KvDx.τ).loc Cert.KvDx.main_arg2)
      ∧ r.2.mem ((c.tc : Thread Cert.KvDx.nD Cert.KvDx.τ).loc Cert.KvDx.main_arg3) = m ((c.tc : Thread Cert.KvDx.nD Cert.KvDx.τ).loc Cert.KvDx.main_arg3)
      ∧ r.2.mem ((c.tc : Thread Cert.KvDx.nD Cert.KvDx.τ).loc Cert.KvDx.main_arg4) = m ((c.tc : Thread Cert.KvDx.nD Cert.KvDx.τ).loc Cert.KvDx.main_arg4))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
      ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3)
      ∧ r.2.mem ((c.tc : Thread Cert.KvDxIdeal.nD Cert.KvDxIdeal.τ).loc Cert.KvDxIdeal.main_arg4) = m ((c.tc : Thread Cert.KvDxIdeal.nD Cert.KvDxIdeal.τ).loc Cert.KvDxIdeal.main_arg4))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1)
      ∧ r.2.mem ((c.tc : Thread Cert.KvDxRefIdeal.nD Cert.KvDxRefIdeal.τ).loc Cert.KvDxRefIdeal.main_arg2) = m ((c.tc : Thread Cert.KvDxRefIdeal.nD Cert.KvDxRefIdeal.τ).loc Cert.KvDxRefIdeal.main_arg2)
      ∧ r.2.mem ((c.tc : Thread Cert.KvDxRefIdeal.nD Cert.KvDxRefIdeal.τ).loc Cert.KvDxRefIdeal.main_arg3) = m ((c.tc : Thread Cert.KvDxRefIdeal.nD Cert.KvDxRefIdeal.τ).loc Cert.KvDxRefIdeal.main_arg3)
      ∧ r.2.mem ((c.tc : Thread Cert.KvDxRefIdeal.nD Cert.KvDxRefIdeal.τ).loc Cert.KvDxRefIdeal.main_arg4) = m ((c.tc : Thread Cert.KvDxRefIdeal.nD Cert.KvDxRefIdeal.τ).loc Cert.KvDxRefIdeal.main_arg4))
      ∧ r.2.sem = fun _ => 0)

def quiescent_SbQDx [hSbQDx : Cert.SbQDx.Facts] : Prop :=
  ∀ (m : (ℓ : Loc Cert.SbQDx.nD Cert.SbQDx.τ Cert.SbQDx.sig) → Buf (Elt Bits) ℓ) (g : Dev Cert.SbQDx.nD → PrngReg), Pre_SbQDx m →
    θ_run (Cert.SbQDx.defs (F := Bits)) (onTc (τ := Cert.SbQDx.τ) (Cert.SbQDx.main (F := Bits))) ⟨m, fun _ => 0, g⟩ (fun r => (∀ c : Dev Cert.SbQDx.nD,
      r.2.mem ((c.tc : Thread Cert.SbQDx.nD Cert.SbQDx.τ).loc Cert.SbQDx.main_arg0) = m ((c.tc : Thread Cert.SbQDx.nD Cert.SbQDx.τ).loc Cert.SbQDx.main_arg0)
      ∧ r.2.mem ((c.tc : Thread Cert.SbQDx.nD Cert.SbQDx.τ).loc Cert.SbQDx.main_arg1) = m ((c.tc : Thread Cert.SbQDx.nD Cert.SbQDx.τ).loc Cert.SbQDx.main_arg1)
      ∧ r.2.mem ((c.tc : Thread Cert.SbQDx.nD Cert.SbQDx.τ).loc Cert.SbQDx.main_arg2) = m ((c.tc : Thread Cert.SbQDx.nD Cert.SbQDx.τ).loc Cert.SbQDx.main_arg2)
      ∧ r.2.mem ((c.tc : Thread Cert.SbQDx.nD Cert.SbQDx.τ).loc Cert.SbQDx.main_arg3) = m ((c.tc : Thread Cert.SbQDx.nD Cert.SbQDx.τ).loc Cert.SbQDx.main_arg3)
      ∧ r.2.mem ((c.tc : Thread Cert.SbQDx.nD Cert.SbQDx.τ).loc Cert.SbQDx.main_arg4) = m ((c.tc : Thread Cert.SbQDx.nD Cert.SbQDx.τ).loc Cert.SbQDx.main_arg4))
      ∧ r.2.sem = fun _ => 0)

def quiescent_SbQDxIdeal [hSbQDxIdeal : Cert.SbQDxIdeal.Facts] : Prop :=
  ∀ (m : (ℓ : Loc Cert.SbQDxIdeal.nD Cert.SbQDxIdeal.τ Cert.SbQDxIdeal.sig) → Buf (Elt Ideal) ℓ) (g : Dev Cert.SbQDxIdeal.nD → PrngReg), Pre_SbQDxIdeal m →
    θ_run (Cert.SbQDxIdeal.defs (F := Ideal)) (onTc (τ := Cert.SbQDxIdeal.τ) (Cert.SbQDxIdeal.main (F := Ideal))) ⟨m, fun _ => 0, g⟩ (fun r => (∀ c : Dev Cert.SbQDxIdeal.nD,
      r.2.mem ((c.tc : Thread Cert.SbQDxIdeal.nD Cert.SbQDxIdeal.τ).loc Cert.SbQDxIdeal.main_arg0) = m ((c.tc : Thread Cert.SbQDxIdeal.nD Cert.SbQDxIdeal.τ).loc Cert.SbQDxIdeal.main_arg0)
      ∧ r.2.mem ((c.tc : Thread Cert.SbQDxIdeal.nD Cert.SbQDxIdeal.τ).loc Cert.SbQDxIdeal.main_arg1) = m ((c.tc : Thread Cert.SbQDxIdeal.nD Cert.SbQDxIdeal.τ).loc Cert.SbQDxIdeal.main_arg1)
      ∧ r.2.mem ((c.tc : Thread Cert.SbQDxIdeal.nD Cert.SbQDxIdeal.τ).loc Cert.SbQDxIdeal.main_arg2) = m ((c.tc : Thread Cert.SbQDxIdeal.nD Cert.SbQDxIdeal.τ).loc Cert.SbQDxIdeal.main_arg2)
      ∧ r.2.mem ((c.tc : Thread Cert.SbQDxIdeal.nD Cert.SbQDxIdeal.τ).loc Cert.SbQDxIdeal.main_arg3) = m ((c.tc : Thread Cert.SbQDxIdeal.nD Cert.SbQDxIdeal.τ).loc Cert.SbQDxIdeal.main_arg3)
      ∧ r.2.mem ((c.tc : Thread Cert.SbQDxIdeal.nD Cert.SbQDxIdeal.τ).loc Cert.SbQDxIdeal.main_arg4) = m ((c.tc : Thread Cert.SbQDxIdeal.nD Cert.SbQDxIdeal.τ).loc Cert.SbQDxIdeal.main_arg4))
      ∧ r.2.sem = fun _ => 0)

def quiescent_SbQDxRefIdeal [hSbQDxRefIdeal : Cert.SbQDxRefIdeal.Facts] : Prop :=
  ∀ (m : (ℓ : Loc Cert.SbQDxRefIdeal.nD Cert.SbQDxRefIdeal.τ Cert.SbQDxRefIdeal.sig) → Buf (Elt Ideal) ℓ) (g : Dev Cert.SbQDxRefIdeal.nD → PrngReg), Pre_SbQDxRefIdeal m →
    θ_run (Cert.SbQDxRefIdeal.defs (F := Ideal)) (onTc (τ := Cert.SbQDxRefIdeal.τ) (Cert.SbQDxRefIdeal.main (F := Ideal))) ⟨m, fun _ => 0, g⟩ (fun r => (∀ c : Dev Cert.SbQDxRefIdeal.nD,
      r.2.mem ((c.tc : Thread Cert.SbQDxRefIdeal.nD Cert.SbQDxRefIdeal.τ).loc Cert.SbQDxRefIdeal.main_arg0) = m ((c.tc : Thread Cert.SbQDxRefIdeal.nD Cert.SbQDxRefIdeal.τ).loc Cert.SbQDxRefIdeal.main_arg0)
      ∧ r.2.mem ((c.tc : Thread Cert.SbQDxRefIdeal.nD Cert.SbQDxRefIdeal.τ).loc Cert.SbQDxRefIdeal.main_arg1) = m ((c.tc : Thread Cert.SbQDxRefIdeal.nD Cert.SbQDxRefIdeal.τ).loc Cert.SbQDxRefIdeal.main_arg1)
      ∧ r.2.mem ((c.tc : Thread Cert.SbQDxRefIdeal.nD Cert.SbQDxRefIdeal.τ).loc Cert.SbQDxRefIdeal.main_arg2) = m ((c.tc : Thread Cert.SbQDxRefIdeal.nD Cert.SbQDxRefIdeal.τ).loc Cert.SbQDxRefIdeal.main_arg2)
      ∧ r.2.mem ((c.tc : Thread Cert.SbQDxRefIdeal.nD Cert.SbQDxRefIdeal.τ).loc Cert.SbQDxRefIdeal.main_arg3) = m ((c.tc : Thread Cert.SbQDxRefIdeal.nD Cert.SbQDxRefIdeal.τ).loc Cert.SbQDxRefIdeal.main_arg3)
      ∧ r.2.mem ((c.tc : Thread Cert.SbQDxRefIdeal.nD Cert.SbQDxRefIdeal.τ).loc Cert.SbQDxRefIdeal.main_arg4) = m ((c.tc : Thread Cert.SbQDxRefIdeal.nD Cert.SbQDxRefIdeal.τ).loc Cert.SbQDxRefIdeal.main_arg4))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2)
      ∧ r.2.mem ((c.tc : Thread Cert.Sb.nD Cert.Sb.τ).loc Cert.Sb.main_arg3) = m ((c.tc : Thread Cert.Sb.nD Cert.Sb.τ).loc Cert.Sb.main_arg3))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ r.2.sem = fun _ => 0)

def quiescent_SbIdeal_pre_finite_sb [hSbIdeal : Cert.SbIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_sb m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3))
      ∧ r.2.sem = fun _ => 0)

def quiescent_SbRefIdeal_pre_finite_sb [hSbRefIdeal : Cert.SbRefIdeal.Facts] [hPre_finite_sb : Cert.Pre_finite_sb.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_sb m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3))
      ∧ r.2.sem = fun _ => 0)

def quiescent_SbAttn [hSbAttn : Cert.SbAttn.Facts] : Prop :=
  ∀ (m : (ℓ : Loc Cert.SbAttn.nD Cert.SbAttn.τ Cert.SbAttn.sig) → Buf (Elt Bits) ℓ) (g : Dev Cert.SbAttn.nD → PrngReg), Pre_SbAttn m →
    θ_run (Cert.SbAttn.defs (F := Bits)) (onTc (τ := Cert.SbAttn.τ) (Cert.SbAttn.main (F := Bits))) ⟨m, fun _ => 0, g⟩ (fun r => (∀ c : Dev Cert.SbAttn.nD,
      r.2.mem ((c.tc : Thread Cert.SbAttn.nD Cert.SbAttn.τ).loc Cert.SbAttn.main_arg0) = m ((c.tc : Thread Cert.SbAttn.nD Cert.SbAttn.τ).loc Cert.SbAttn.main_arg0)
      ∧ r.2.mem ((c.tc : Thread Cert.SbAttn.nD Cert.SbAttn.τ).loc Cert.SbAttn.main_arg1) = m ((c.tc : Thread Cert.SbAttn.nD Cert.SbAttn.τ).loc Cert.SbAttn.main_arg1)
      ∧ r.2.mem ((c.tc : Thread Cert.SbAttn.nD Cert.SbAttn.τ).loc Cert.SbAttn.main_arg2) = m ((c.tc : Thread Cert.SbAttn.nD Cert.SbAttn.τ).loc Cert.SbAttn.main_arg2))
      ∧ r.2.sem = fun _ => 0)

def quiescent_SbAttnIdeal [hSbAttnIdeal : Cert.SbAttnIdeal.Facts] : Prop :=
  ∀ (m : (ℓ : Loc Cert.SbAttnIdeal.nD Cert.SbAttnIdeal.τ Cert.SbAttnIdeal.sig) → Buf (Elt Ideal) ℓ) (g : Dev Cert.SbAttnIdeal.nD → PrngReg), Pre_SbAttnIdeal m →
    θ_run (Cert.SbAttnIdeal.defs (F := Ideal)) (onTc (τ := Cert.SbAttnIdeal.τ) (Cert.SbAttnIdeal.main (F := Ideal))) ⟨m, fun _ => 0, g⟩ (fun r => (∀ c : Dev Cert.SbAttnIdeal.nD,
      r.2.mem ((c.tc : Thread Cert.SbAttnIdeal.nD Cert.SbAttnIdeal.τ).loc Cert.SbAttnIdeal.main_arg0) = m ((c.tc : Thread Cert.SbAttnIdeal.nD Cert.SbAttnIdeal.τ).loc Cert.SbAttnIdeal.main_arg0)
      ∧ r.2.mem ((c.tc : Thread Cert.SbAttnIdeal.nD Cert.SbAttnIdeal.τ).loc Cert.SbAttnIdeal.main_arg1) = m ((c.tc : Thread Cert.SbAttnIdeal.nD Cert.SbAttnIdeal.τ).loc Cert.SbAttnIdeal.main_arg1)
      ∧ r.2.mem ((c.tc : Thread Cert.SbAttnIdeal.nD Cert.SbAttnIdeal.τ).loc Cert.SbAttnIdeal.main_arg2) = m ((c.tc : Thread Cert.SbAttnIdeal.nD Cert.SbAttnIdeal.τ).loc Cert.SbAttnIdeal.main_arg2))
      ∧ r.2.sem = fun _ => 0)

def quiescent_SbAttnIdeal_pre_finite_sbf [hSbAttnIdeal : Cert.SbAttnIdeal.Facts] [hPre_finite_sbf : Cert.Pre_finite_sbf.Facts] : Prop :=
  ∀ (m : (ℓ : Loc Cert.SbAttnIdeal.nD Cert.SbAttnIdeal.τ Cert.SbAttnIdeal.sig) → Buf (Elt Ideal) ℓ) (g : Dev Cert.SbAttnIdeal.nD → PrngReg), Pre_SbAttnIdeal_finite_sbf m →
    θ_run (Cert.SbAttnIdeal.defs (F := Ideal)) (onTc (τ := Cert.SbAttnIdeal.τ) (Cert.SbAttnIdeal.main (F := Ideal))) ⟨m, fun _ => 0, g⟩ (fun r => (∀ c : Dev Cert.SbAttnIdeal.nD,
      r.2.mem ((c.tc : Thread Cert.SbAttnIdeal.nD Cert.SbAttnIdeal.τ).loc Cert.SbAttnIdeal.main_arg0) = m ((c.tc : Thread Cert.SbAttnIdeal.nD Cert.SbAttnIdeal.τ).loc Cert.SbAttnIdeal.main_arg0)
      ∧ r.2.mem ((c.tc : Thread Cert.SbAttnIdeal.nD Cert.SbAttnIdeal.τ).loc Cert.SbAttnIdeal.main_arg1) = m ((c.tc : Thread Cert.SbAttnIdeal.nD Cert.SbAttnIdeal.τ).loc Cert.SbAttnIdeal.main_arg1)
      ∧ r.2.mem ((c.tc : Thread Cert.SbAttnIdeal.nD Cert.SbAttnIdeal.τ).loc Cert.SbAttnIdeal.main_arg2) = m ((c.tc : Thread Cert.SbAttnIdeal.nD Cert.SbAttnIdeal.τ).loc Cert.SbAttnIdeal.main_arg2))
      ∧ r.2.sem = fun _ => 0)

def quiescent_SbAttnRefIdeal [hSbAttnRefIdeal : Cert.SbAttnRefIdeal.Facts] : Prop :=
  ∀ (m : (ℓ : Loc Cert.SbAttnRefIdeal.nD Cert.SbAttnRefIdeal.τ Cert.SbAttnRefIdeal.sig) → Buf (Elt Ideal) ℓ) (g : Dev Cert.SbAttnRefIdeal.nD → PrngReg), Pre_SbAttnRefIdeal m →
    θ_run (Cert.SbAttnRefIdeal.defs (F := Ideal)) (onTc (τ := Cert.SbAttnRefIdeal.τ) (Cert.SbAttnRefIdeal.main (F := Ideal))) ⟨m, fun _ => 0, g⟩ (fun r => (∀ c : Dev Cert.SbAttnRefIdeal.nD,
      r.2.mem ((c.tc : Thread Cert.SbAttnRefIdeal.nD Cert.SbAttnRefIdeal.τ).loc Cert.SbAttnRefIdeal.main_arg0) = m ((c.tc : Thread Cert.SbAttnRefIdeal.nD Cert.SbAttnRefIdeal.τ).loc Cert.SbAttnRefIdeal.main_arg0)
      ∧ r.2.mem ((c.tc : Thread Cert.SbAttnRefIdeal.nD Cert.SbAttnRefIdeal.τ).loc Cert.SbAttnRefIdeal.main_arg1) = m ((c.tc : Thread Cert.SbAttnRefIdeal.nD Cert.SbAttnRefIdeal.τ).loc Cert.SbAttnRefIdeal.main_arg1)
      ∧ r.2.mem ((c.tc : Thread Cert.SbAttnRefIdeal.nD Cert.SbAttnRefIdeal.τ).loc Cert.SbAttnRefIdeal.main_arg2) = m ((c.tc : Thread Cert.SbAttnRefIdeal.nD Cert.SbAttnRefIdeal.τ).loc Cert.SbAttnRefIdeal.main_arg2))
      ∧ r.2.sem = fun _ => 0)

def quiescent_SbAttnRefIdeal_pre_finite_sbf [hSbAttnRefIdeal : Cert.SbAttnRefIdeal.Facts] [hPre_finite_sbf : Cert.Pre_finite_sbf.Facts] : Prop :=
  ∀ (m : (ℓ : Loc Cert.SbAttnRefIdeal.nD Cert.SbAttnRefIdeal.τ Cert.SbAttnRefIdeal.sig) → Buf (Elt Ideal) ℓ) (g : Dev Cert.SbAttnRefIdeal.nD → PrngReg), Pre_SbAttnRefIdeal_finite_sbf m →
    θ_run (Cert.SbAttnRefIdeal.defs (F := Ideal)) (onTc (τ := Cert.SbAttnRefIdeal.τ) (Cert.SbAttnRefIdeal.main (F := Ideal))) ⟨m, fun _ => 0, g⟩ (fun r => (∀ c : Dev Cert.SbAttnRefIdeal.nD,
      r.2.mem ((c.tc : Thread Cert.SbAttnRefIdeal.nD Cert.SbAttnRefIdeal.τ).loc Cert.SbAttnRefIdeal.main_arg0) = m ((c.tc : Thread Cert.SbAttnRefIdeal.nD Cert.SbAttnRefIdeal.τ).loc Cert.SbAttnRefIdeal.main_arg0)
      ∧ r.2.mem ((c.tc : Thread Cert.SbAttnRefIdeal.nD Cert.SbAttnRefIdeal.τ).loc Cert.SbAttnRefIdeal.main_arg1) = m ((c.tc : Thread Cert.SbAttnRefIdeal.nD Cert.SbAttnRefIdeal.τ).loc Cert.SbAttnRefIdeal.main_arg1)
      ∧ r.2.mem ((c.tc : Thread Cert.SbAttnRefIdeal.nD Cert.SbAttnRefIdeal.τ).loc Cert.SbAttnRefIdeal.main_arg2) = m ((c.tc : Thread Cert.SbAttnRefIdeal.nD Cert.SbAttnRefIdeal.τ).loc Cert.SbAttnRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_SwiFwd [hSwiFwd : Cert.SwiFwd.Facts] : Prop :=
  ∀ (m : (ℓ : Loc Cert.SwiFwd.nD Cert.SwiFwd.τ Cert.SwiFwd.sig) → Buf (Elt Bits) ℓ) (g : Dev Cert.SwiFwd.nD → PrngReg), Pre_SwiFwd m →
    θ_run (Cert.SwiFwd.defs (F := Bits)) (onTc (τ := Cert.SwiFwd.τ) (Cert.SwiFwd.main (F := Bits))) ⟨m, fun _ => 0, g⟩ (fun r => (∀ c : Dev Cert.SwiFwd.nD,
      r.2.mem ((c.tc : Thread Cert.SwiFwd.nD Cert.SwiFwd.τ).loc Cert.SwiFwd.main_arg0) = m ((c.tc : Thread Cert.SwiFwd.nD Cert.SwiFwd.τ).loc Cert.SwiFwd.main_arg0)
      ∧ r.2.mem ((c.tc : Thread Cert.SwiFwd.nD Cert.SwiFwd.τ).loc Cert.SwiFwd.main_arg1) = m ((c.tc : Thread Cert.SwiFwd.nD Cert.SwiFwd.τ).loc Cert.SwiFwd.main_arg1))
      ∧ r.2.sem = fun _ => 0)

def quiescent_SwiFwdIdeal [hSwiFwdIdeal : Cert.SwiFwdIdeal.Facts] : Prop :=
  ∀ (m : (ℓ : Loc Cert.SwiFwdIdeal.nD Cert.SwiFwdIdeal.τ Cert.SwiFwdIdeal.sig) → Buf (Elt Ideal) ℓ) (g : Dev Cert.SwiFwdIdeal.nD → PrngReg), Pre_SwiFwdIdeal m →
    θ_run (Cert.SwiFwdIdeal.defs (F := Ideal)) (onTc (τ := Cert.SwiFwdIdeal.τ) (Cert.SwiFwdIdeal.main (F := Ideal))) ⟨m, fun _ => 0, g⟩ (fun r => (∀ c : Dev Cert.SwiFwdIdeal.nD,
      r.2.mem ((c.tc : Thread Cert.SwiFwdIdeal.nD Cert.SwiFwdIdeal.τ).loc Cert.SwiFwdIdeal.main_arg0) = m ((c.tc : Thread Cert.SwiFwdIdeal.nD Cert.SwiFwdIdeal.τ).loc Cert.SwiFwdIdeal.main_arg0)
      ∧ r.2.mem ((c.tc : Thread Cert.SwiFwdIdeal.nD Cert.SwiFwdIdeal.τ).loc Cert.SwiFwdIdeal.main_arg1) = m ((c.tc : Thread Cert.SwiFwdIdeal.nD Cert.SwiFwdIdeal.τ).loc Cert.SwiFwdIdeal.main_arg1))
      ∧ r.2.sem = fun _ => 0)

def quiescent_SwiFwdRefIdeal [hSwiFwdRefIdeal : Cert.SwiFwdRefIdeal.Facts] : Prop :=
  ∀ (m : (ℓ : Loc Cert.SwiFwdRefIdeal.nD Cert.SwiFwdRefIdeal.τ Cert.SwiFwdRefIdeal.sig) → Buf (Elt Ideal) ℓ) (g : Dev Cert.SwiFwdRefIdeal.nD → PrngReg), Pre_SwiFwdRefIdeal m →
    θ_run (Cert.SwiFwdRefIdeal.defs (F := Ideal)) (onTc (τ := Cert.SwiFwdRefIdeal.τ) (Cert.SwiFwdRefIdeal.main (F := Ideal))) ⟨m, fun _ => 0, g⟩ (fun r => (∀ c : Dev Cert.SwiFwdRefIdeal.nD,
      r.2.mem ((c.tc : Thread Cert.SwiFwdRefIdeal.nD Cert.SwiFwdRefIdeal.τ).loc Cert.SwiFwdRefIdeal.main_arg0) = m ((c.tc : Thread Cert.SwiFwdRefIdeal.nD Cert.SwiFwdRefIdeal.τ).loc Cert.SwiFwdRefIdeal.main_arg0)
      ∧ r.2.mem ((c.tc : Thread Cert.SwiFwdRefIdeal.nD Cert.SwiFwdRefIdeal.τ).loc Cert.SwiFwdRefIdeal.main_arg1) = m ((c.tc : Thread Cert.SwiFwdRefIdeal.nD Cert.SwiFwdRefIdeal.τ).loc Cert.SwiFwdRefIdeal.main_arg1))
      ∧ r.2.sem = fun _ => 0)

def quiescent_GatesFwd [hGatesFwd : Cert.GatesFwd.Facts] : Prop :=
  ∀ (m : (ℓ : Loc Cert.GatesFwd.nD Cert.GatesFwd.τ Cert.GatesFwd.sig) → Buf (Elt Bits) ℓ) (g : Dev Cert.GatesFwd.nD → PrngReg), Pre_GatesFwd m →
    θ_run (Cert.GatesFwd.defs (F := Bits)) (onTc (τ := Cert.GatesFwd.τ) (Cert.GatesFwd.main (F := Bits))) ⟨m, fun _ => 0, g⟩ (fun r => (∀ c : Dev Cert.GatesFwd.nD,
      r.2.mem ((c.tc : Thread Cert.GatesFwd.nD Cert.GatesFwd.τ).loc Cert.GatesFwd.main_arg0) = m ((c.tc : Thread Cert.GatesFwd.nD Cert.GatesFwd.τ).loc Cert.GatesFwd.main_arg0)
      ∧ r.2.mem ((c.tc : Thread Cert.GatesFwd.nD Cert.GatesFwd.τ).loc Cert.GatesFwd.main_arg1) = m ((c.tc : Thread Cert.GatesFwd.nD Cert.GatesFwd.τ).loc Cert.GatesFwd.main_arg1)
      ∧ r.2.mem ((c.tc : Thread Cert.GatesFwd.nD Cert.GatesFwd.τ).loc Cert.GatesFwd.main_arg2) = m ((c.tc : Thread Cert.GatesFwd.nD Cert.GatesFwd.τ).loc Cert.GatesFwd.main_arg2))
      ∧ r.2.sem = fun _ => 0)

def quiescent_GatesFwdIdeal [hGatesFwdIdeal : Cert.GatesFwdIdeal.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg), Pre_GatesFwdIdeal m →
    θ_run (Cert.GatesFwdIdeal.defs (F := Ideal)) (onTc (τ := Cert.GatesFwdIdeal.τ) (Cert.GatesFwdIdeal.main (F := Ideal))) ⟨m, fun _ => 0, g⟩ (fun r => (∀ c : Dev Cert.GatesFwdIdeal.nD,
      r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
      ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1)
      ∧ r.2.mem ((c.tc : Thread Cert.GatesFwdIdeal.nD Cert.GatesFwdIdeal.τ).loc Cert.GatesFwdIdeal.main_arg2) = m ((c.tc : Thread Cert.GatesFwdIdeal.nD Cert.GatesFwdIdeal.τ).loc Cert.GatesFwdIdeal.main_arg2))
      ∧ r.2.sem = fun _ => 0)

def quiescent_GatesFwdRefIdeal [hGatesFwdRefIdeal : Cert.GatesFwdRefIdeal.Facts] : Prop :=
  ∀ (m : (ℓ : Loc Cert.GatesFwdRefIdeal.nD Cert.GatesFwdRefIdeal.τ Cert.GatesFwdRefIdeal.sig) → Buf (Elt Ideal) ℓ) (g : Dev Cert.GatesFwdRefIdeal.nD → PrngReg), Pre_GatesFwdRefIdeal m →
    θ_run (Cert.GatesFwdRefIdeal.defs (F := Ideal)) (onTc (τ := Cert.GatesFwdRefIdeal.τ) (Cert.GatesFwdRefIdeal.main (F := Ideal))) ⟨m, fun _ => 0, g⟩ (fun r => (∀ c : Dev Cert.GatesFwdRefIdeal.nD,
      r.2.mem ((c.tc : Thread Cert.GatesFwdRefIdeal.nD Cert.GatesFwdRefIdeal.τ).loc Cert.GatesFwdRefIdeal.main_arg0) = m ((c.tc : Thread Cert.GatesFwdRefIdeal.nD Cert.GatesFwdRefIdeal.τ).loc Cert.GatesFwdRefIdeal.main_arg0)
      ∧ r.2.mem ((c.tc : Thread Cert.GatesFwdRefIdeal.nD Cert.GatesFwdRefIdeal.τ).loc Cert.GatesFwdRefIdeal.main_arg1) = m ((c.tc : Thread Cert.GatesFwdRefIdeal.nD Cert.GatesFwdRefIdeal.τ).loc Cert.GatesFwdRefIdeal.main_arg1)
      ∧ r.2.mem ((c.tc : Thread Cert.GatesFwdRefIdeal.nD Cert.GatesFwdRefIdeal.τ).loc Cert.GatesFwdRefIdeal.main_arg2) = m ((c.tc : Thread Cert.GatesFwdRefIdeal.nD Cert.GatesFwdRefIdeal.τ).loc Cert.GatesFwdRefIdeal.main_arg2))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3)
      ∧ r.2.mem ((c.tc : Thread Cert.PleFwd.nD Cert.PleFwd.τ).loc Cert.PleFwd.main_arg4) = m ((c.tc : Thread Cert.PleFwd.nD Cert.PleFwd.τ).loc Cert.PleFwd.main_arg4)
      ∧ r.2.mem ((c.tc : Thread Cert.PleFwd.nD Cert.PleFwd.τ).loc Cert.PleFwd.main_arg5) = m ((c.tc : Thread Cert.PleFwd.nD Cert.PleFwd.τ).loc Cert.PleFwd.main_arg5))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4)
      ∧ r.2.mem ((c.tc : Thread Cert.PleFwdIdeal.nD Cert.PleFwdIdeal.τ).loc Cert.PleFwdIdeal.main_arg5) = m ((c.tc : Thread Cert.PleFwdIdeal.nD Cert.PleFwdIdeal.τ).loc Cert.PleFwdIdeal.main_arg5))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3)
      ∧ r.2.mem ((c.tc : Thread Cert.PleFwdRefIdeal.nD Cert.PleFwdRefIdeal.τ).loc Cert.PleFwdRefIdeal.main_arg4) = m ((c.tc : Thread Cert.PleFwdRefIdeal.nD Cert.PleFwdRefIdeal.τ).loc Cert.PleFwdRefIdeal.main_arg4)
      ∧ r.2.mem ((c.tc : Thread Cert.PleFwdRefIdeal.nD Cert.PleFwdRefIdeal.τ).loc Cert.PleFwdRefIdeal.main_arg5) = m ((c.tc : Thread Cert.PleFwdRefIdeal.nD Cert.PleFwdRefIdeal.τ).loc Cert.PleFwdRefIdeal.main_arg5))
      ∧ r.2.sem = fun _ => 0)

def quiescent_QNormFwd [hQNormFwd : Cert.QNormFwd.Facts] : Prop :=
  ∀ (m : (ℓ : Loc Cert.QNormFwd.nD Cert.QNormFwd.τ Cert.QNormFwd.sig) → Buf (Elt Bits) ℓ) (g : Dev Cert.QNormFwd.nD → PrngReg), Pre_QNormFwd m →
    θ_run (Cert.QNormFwd.defs (F := Bits)) (onTc (τ := Cert.QNormFwd.τ) (Cert.QNormFwd.main (F := Bits))) ⟨m, fun _ => 0, g⟩ (fun r => (∀ c : Dev Cert.QNormFwd.nD,
      r.2.mem ((c.tc : Thread Cert.QNormFwd.nD Cert.QNormFwd.τ).loc Cert.QNormFwd.main_arg0) = m ((c.tc : Thread Cert.QNormFwd.nD Cert.QNormFwd.τ).loc Cert.QNormFwd.main_arg0)
      ∧ r.2.mem ((c.tc : Thread Cert.QNormFwd.nD Cert.QNormFwd.τ).loc Cert.QNormFwd.main_arg1) = m ((c.tc : Thread Cert.QNormFwd.nD Cert.QNormFwd.τ).loc Cert.QNormFwd.main_arg1))
      ∧ r.2.sem = fun _ => 0)

def quiescent_QNormFwdIdeal [hQNormFwdIdeal : Cert.QNormFwdIdeal.Facts] : Prop :=
  ∀ (m : (ℓ : Loc Cert.QNormFwdIdeal.nD Cert.QNormFwdIdeal.τ Cert.QNormFwdIdeal.sig) → Buf (Elt Ideal) ℓ) (g : Dev Cert.QNormFwdIdeal.nD → PrngReg), Pre_QNormFwdIdeal m →
    θ_run (Cert.QNormFwdIdeal.defs (F := Ideal)) (onTc (τ := Cert.QNormFwdIdeal.τ) (Cert.QNormFwdIdeal.main (F := Ideal))) ⟨m, fun _ => 0, g⟩ (fun r => (∀ c : Dev Cert.QNormFwdIdeal.nD,
      r.2.mem ((c.tc : Thread Cert.QNormFwdIdeal.nD Cert.QNormFwdIdeal.τ).loc Cert.QNormFwdIdeal.main_arg0) = m ((c.tc : Thread Cert.QNormFwdIdeal.nD Cert.QNormFwdIdeal.τ).loc Cert.QNormFwdIdeal.main_arg0)
      ∧ r.2.mem ((c.tc : Thread Cert.QNormFwdIdeal.nD Cert.QNormFwdIdeal.τ).loc Cert.QNormFwdIdeal.main_arg1) = m ((c.tc : Thread Cert.QNormFwdIdeal.nD Cert.QNormFwdIdeal.τ).loc Cert.QNormFwdIdeal.main_arg1))
      ∧ r.2.sem = fun _ => 0)

def quiescent_QNormFwdRefIdeal [hQNormFwdRefIdeal : Cert.QNormFwdRefIdeal.Facts] : Prop :=
  ∀ (m : (ℓ : Loc Cert.QNormFwdRefIdeal.nD Cert.QNormFwdRefIdeal.τ Cert.QNormFwdRefIdeal.sig) → Buf (Elt Ideal) ℓ) (g : Dev Cert.QNormFwdRefIdeal.nD → PrngReg), Pre_QNormFwdRefIdeal m →
    θ_run (Cert.QNormFwdRefIdeal.defs (F := Ideal)) (onTc (τ := Cert.QNormFwdRefIdeal.τ) (Cert.QNormFwdRefIdeal.main (F := Ideal))) ⟨m, fun _ => 0, g⟩ (fun r => (∀ c : Dev Cert.QNormFwdRefIdeal.nD,
      r.2.mem ((c.tc : Thread Cert.QNormFwdRefIdeal.nD Cert.QNormFwdRefIdeal.τ).loc Cert.QNormFwdRefIdeal.main_arg0) = m ((c.tc : Thread Cert.QNormFwdRefIdeal.nD Cert.QNormFwdRefIdeal.τ).loc Cert.QNormFwdRefIdeal.main_arg0)
      ∧ r.2.mem ((c.tc : Thread Cert.QNormFwdRefIdeal.nD Cert.QNormFwdRefIdeal.τ).loc Cert.QNormFwdRefIdeal.main_arg1) = m ((c.tc : Thread Cert.QNormFwdRefIdeal.nD Cert.QNormFwdRefIdeal.τ).loc Cert.QNormFwdRefIdeal.main_arg1))
      ∧ r.2.sem = fun _ => 0)

def quiescent_OutNormFwd [hOutNormFwd : Cert.OutNormFwd.Facts] : Prop :=
  ∀ (m : (ℓ : Loc Cert.OutNormFwd.nD Cert.OutNormFwd.τ Cert.OutNormFwd.sig) → Buf (Elt Bits) ℓ) (g : Dev Cert.OutNormFwd.nD → PrngReg), Pre_OutNormFwd m →
    θ_run (Cert.OutNormFwd.defs (F := Bits)) (onTc (τ := Cert.OutNormFwd.τ) (Cert.OutNormFwd.main (F := Bits))) ⟨m, fun _ => 0, g⟩ (fun r => (∀ c : Dev Cert.OutNormFwd.nD,
      r.2.mem ((c.tc : Thread Cert.OutNormFwd.nD Cert.OutNormFwd.τ).loc Cert.OutNormFwd.main_arg0) = m ((c.tc : Thread Cert.OutNormFwd.nD Cert.OutNormFwd.τ).loc Cert.OutNormFwd.main_arg0)
      ∧ r.2.mem ((c.tc : Thread Cert.OutNormFwd.nD Cert.OutNormFwd.τ).loc Cert.OutNormFwd.main_arg1) = m ((c.tc : Thread Cert.OutNormFwd.nD Cert.OutNormFwd.τ).loc Cert.OutNormFwd.main_arg1)
      ∧ r.2.mem ((c.tc : Thread Cert.OutNormFwd.nD Cert.OutNormFwd.τ).loc Cert.OutNormFwd.main_arg2) = m ((c.tc : Thread Cert.OutNormFwd.nD Cert.OutNormFwd.τ).loc Cert.OutNormFwd.main_arg2))
      ∧ r.2.sem = fun _ => 0)

def quiescent_OutNormFwdIdeal [hOutNormFwdIdeal : Cert.OutNormFwdIdeal.Facts] : Prop :=
  ∀ (m : (ℓ : Loc Cert.OutNormFwdIdeal.nD Cert.OutNormFwdIdeal.τ Cert.OutNormFwdIdeal.sig) → Buf (Elt Ideal) ℓ) (g : Dev Cert.OutNormFwdIdeal.nD → PrngReg), Pre_OutNormFwdIdeal m →
    θ_run (Cert.OutNormFwdIdeal.defs (F := Ideal)) (onTc (τ := Cert.OutNormFwdIdeal.τ) (Cert.OutNormFwdIdeal.main (F := Ideal))) ⟨m, fun _ => 0, g⟩ (fun r => (∀ c : Dev Cert.OutNormFwdIdeal.nD,
      r.2.mem ((c.tc : Thread Cert.OutNormFwdIdeal.nD Cert.OutNormFwdIdeal.τ).loc Cert.OutNormFwdIdeal.main_arg0) = m ((c.tc : Thread Cert.OutNormFwdIdeal.nD Cert.OutNormFwdIdeal.τ).loc Cert.OutNormFwdIdeal.main_arg0)
      ∧ r.2.mem ((c.tc : Thread Cert.OutNormFwdIdeal.nD Cert.OutNormFwdIdeal.τ).loc Cert.OutNormFwdIdeal.main_arg1) = m ((c.tc : Thread Cert.OutNormFwdIdeal.nD Cert.OutNormFwdIdeal.τ).loc Cert.OutNormFwdIdeal.main_arg1)
      ∧ r.2.mem ((c.tc : Thread Cert.OutNormFwdIdeal.nD Cert.OutNormFwdIdeal.τ).loc Cert.OutNormFwdIdeal.main_arg2) = m ((c.tc : Thread Cert.OutNormFwdIdeal.nD Cert.OutNormFwdIdeal.τ).loc Cert.OutNormFwdIdeal.main_arg2))
      ∧ r.2.sem = fun _ => 0)

def quiescent_OutNormFwdRefIdeal [hOutNormFwdRefIdeal : Cert.OutNormFwdRefIdeal.Facts] : Prop :=
  ∀ (m : (ℓ : Loc Cert.OutNormFwdRefIdeal.nD Cert.OutNormFwdRefIdeal.τ Cert.OutNormFwdRefIdeal.sig) → Buf (Elt Ideal) ℓ) (g : Dev Cert.OutNormFwdRefIdeal.nD → PrngReg), Pre_OutNormFwdRefIdeal m →
    θ_run (Cert.OutNormFwdRefIdeal.defs (F := Ideal)) (onTc (τ := Cert.OutNormFwdRefIdeal.τ) (Cert.OutNormFwdRefIdeal.main (F := Ideal))) ⟨m, fun _ => 0, g⟩ (fun r => (∀ c : Dev Cert.OutNormFwdRefIdeal.nD,
      r.2.mem ((c.tc : Thread Cert.OutNormFwdRefIdeal.nD Cert.OutNormFwdRefIdeal.τ).loc Cert.OutNormFwdRefIdeal.main_arg0) = m ((c.tc : Thread Cert.OutNormFwdRefIdeal.nD Cert.OutNormFwdRefIdeal.τ).loc Cert.OutNormFwdRefIdeal.main_arg0)
      ∧ r.2.mem ((c.tc : Thread Cert.OutNormFwdRefIdeal.nD Cert.OutNormFwdRefIdeal.τ).loc Cert.OutNormFwdRefIdeal.main_arg1) = m ((c.tc : Thread Cert.OutNormFwdRefIdeal.nD Cert.OutNormFwdRefIdeal.τ).loc Cert.OutNormFwdRefIdeal.main_arg1)
      ∧ r.2.mem ((c.tc : Thread Cert.OutNormFwdRefIdeal.nD Cert.OutNormFwdRefIdeal.τ).loc Cert.OutNormFwdRefIdeal.main_arg2) = m ((c.tc : Thread Cert.OutNormFwdRefIdeal.nD Cert.OutNormFwdRefIdeal.τ).loc Cert.OutNormFwdRefIdeal.main_arg2))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v22) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v13) = v0 c
          ∧ r.2.mem ((c.tc : Thread Cert.PleRefIdeal.nD Cert.PleRefIdeal.τ).loc Cert.PleRefIdeal.main_v14) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2))

def preserves_Gates_GatesIdeal : Prop :=
  True

def algebraic_GatesIdeal_GatesRefIdeal_pre_finite_gates [hGatesIdeal : Cert.GatesIdeal.Facts] [hGatesRefIdeal : Cert.GatesRefIdeal.Facts] [hPre_finite_gates : Cert.Pre_finite_gates.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal_finite_gates m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v7_0)) (v1 : (c : Dev Cert.GatesIdeal.nD) → Buf (Elt Ideal) ((c.tc : Thread Cert.GatesIdeal.nD Cert.GatesIdeal.τ).loc Cert.GatesIdeal.main_v7_1)) (v2 : (c : Dev Cert.GatesIdeal.nD) → Buf (Elt Ideal) ((c.tc : Thread Cert.GatesIdeal.nD Cert.GatesIdeal.τ).loc Cert.GatesIdeal.main_v7_2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v7_0) = v0 c
          ∧ r.2.mem ((c.tc : Thread Cert.GatesIdeal.nD Cert.GatesIdeal.τ).loc Cert.GatesIdeal.main_v7_1) = v1 c
          ∧ r.2.mem ((c.tc : Thread Cert.GatesIdeal.nD Cert.GatesIdeal.τ).loc Cert.GatesIdeal.main_v7_2) = v2 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v37) = v0 c
          ∧ r.2.mem ((c.tc : Thread Cert.GatesRefIdeal.nD Cert.GatesRefIdeal.τ).loc Cert.GatesRefIdeal.main_v39) = v1 c
          ∧ r.2.mem ((c.tc : Thread Cert.GatesRefIdeal.nD Cert.GatesRefIdeal.τ).loc Cert.GatesRefIdeal.main_v41) = v2 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4))

def preserves_QNorm_QNormIdeal : Prop :=
  True

def algebraic_QNormIdeal_QNormRefIdeal [hQNormIdeal : Cert.QNormIdeal.Facts] [hQNormRefIdeal : Cert.QNormRefIdeal.Facts] : Prop :=
  ∀ (m : (ℓ : Loc Cert.QNormIdeal.nD Cert.QNormIdeal.τ Cert.QNormIdeal.sig) → Buf (Elt Ideal) ℓ) (g : Dev Cert.QNormIdeal.nD → PrngReg)
    (m' : (ℓ : Loc Cert.QNormRefIdeal.nD Cert.QNormRefIdeal.τ Cert.QNormRefIdeal.sig) → Buf (Elt Ideal) ℓ) (g' : Dev Cert.QNormRefIdeal.nD → PrngReg), Pre_QNormIdeal m →
    (∀ c : Dev Cert.QNormIdeal.nD,
      m' ((c.tc : Thread Cert.QNormRefIdeal.nD Cert.QNormRefIdeal.τ).loc Cert.QNormRefIdeal.main_arg0) = m ((c.tc : Thread Cert.QNormIdeal.nD Cert.QNormIdeal.τ).loc Cert.QNormIdeal.main_arg0)
      ∧ m' ((c.tc : Thread Cert.QNormRefIdeal.nD Cert.QNormRefIdeal.τ).loc Cert.QNormRefIdeal.main_arg1) = m ((c.tc : Thread Cert.QNormIdeal.nD Cert.QNormIdeal.τ).loc Cert.QNormIdeal.main_arg1)
      ∧ m' ((c.tc : Thread Cert.QNormRefIdeal.nD Cert.QNormRefIdeal.τ).loc Cert.QNormRefIdeal.main_arg2) = m ((c.tc : Thread Cert.QNormIdeal.nD Cert.QNormIdeal.τ).loc Cert.QNormIdeal.main_arg2)) →
    ∃ (v0 : (c : Dev Cert.QNormIdeal.nD) → Buf (Elt Ideal) ((c.tc : Thread Cert.QNormIdeal.nD Cert.QNormIdeal.τ).loc Cert.QNormIdeal.main_v1_0)) (v1 : (c : Dev Cert.QNormIdeal.nD) → Buf (Elt Ideal) ((c.tc : Thread Cert.QNormIdeal.nD Cert.QNormIdeal.τ).loc Cert.QNormIdeal.main_v1_1)),
      θ_run (Cert.QNormIdeal.defs (F := Ideal)) (onTc (τ := Cert.QNormIdeal.τ) (Cert.QNormIdeal.main (F := Ideal))) ⟨m, fun _ => 0, g⟩ (fun r => ∀ c : Dev Cert.QNormIdeal.nD,
          r.2.mem ((c.tc : Thread Cert.QNormIdeal.nD Cert.QNormIdeal.τ).loc Cert.QNormIdeal.main_v1_0) = v0 c
          ∧ r.2.mem ((c.tc : Thread Cert.QNormIdeal.nD Cert.QNormIdeal.τ).loc Cert.QNormIdeal.main_v1_1) = v1 c
          ∧ r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
          ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1)
          ∧ r.2.mem ((c.tc : Thread Cert.QNormIdeal.nD Cert.QNormIdeal.τ).loc Cert.QNormIdeal.main_arg2) = m ((c.tc : Thread Cert.QNormIdeal.nD Cert.QNormIdeal.τ).loc Cert.QNormIdeal.main_arg2))
      ∧ θ_run (Cert.QNormRefIdeal.defs (F := Ideal)) (onTc (τ := Cert.QNormRefIdeal.τ) (Cert.QNormRefIdeal.main (F := Ideal))) ⟨m', fun _ => 0, g'⟩ (fun r => ∀ c : Dev Cert.QNormRefIdeal.nD,
          r.2.mem ((c.tc : Thread Cert.QNormRefIdeal.nD Cert.QNormRefIdeal.τ).loc Cert.QNormRefIdeal.main_v43) = v0 c
          ∧ r.2.mem ((c.tc : Thread Cert.QNormRefIdeal.nD Cert.QNormRefIdeal.τ).loc Cert.QNormRefIdeal.main_v44) = v1 c
          ∧ r.2.mem ((c.tc : Thread Cert.QNormRefIdeal.nD Cert.QNormRefIdeal.τ).loc Cert.QNormRefIdeal.main_arg0) = m' ((c.tc : Thread Cert.QNormRefIdeal.nD Cert.QNormRefIdeal.τ).loc Cert.QNormRefIdeal.main_arg0)
          ∧ r.2.mem ((c.tc : Thread Cert.QNormRefIdeal.nD Cert.QNormRefIdeal.τ).loc Cert.QNormRefIdeal.main_arg1) = m' ((c.tc : Thread Cert.QNormRefIdeal.nD Cert.QNormRefIdeal.τ).loc Cert.QNormRefIdeal.main_arg1)
          ∧ r.2.mem ((c.tc : Thread Cert.QNormRefIdeal.nD Cert.QNormRefIdeal.τ).loc Cert.QNormRefIdeal.main_arg2) = m' ((c.tc : Thread Cert.QNormRefIdeal.nD Cert.QNormRefIdeal.τ).loc Cert.QNormRefIdeal.main_arg2))

def preserves_KvGrad_KvGradIdeal : Prop :=
  True

def algebraic_KvGradIdeal_KvGradRefIdeal [hKvGradIdeal : Cert.KvGradIdeal.Facts] [hKvGradRefIdeal : Cert.KvGradRefIdeal.Facts] : Prop :=
  ∀ (m : (ℓ : Loc Cert.KvGradIdeal.nD Cert.KvGradIdeal.τ Cert.KvGradIdeal.sig) → Buf (Elt Ideal) ℓ) (g : Dev Cert.KvGradIdeal.nD → PrngReg)
    (m' : (ℓ : Loc Cert.KvGradRefIdeal.nD Cert.KvGradRefIdeal.τ Cert.KvGradRefIdeal.sig) → Buf (Elt Ideal) ℓ) (g' : Dev Cert.KvGradRefIdeal.nD → PrngReg), Pre_KvGradIdeal m →
    (∀ c : Dev Cert.KvGradIdeal.nD,
      m' ((c.tc : Thread Cert.KvGradRefIdeal.nD Cert.KvGradRefIdeal.τ).loc Cert.KvGradRefIdeal.main_arg0) = m ((c.tc : Thread Cert.KvGradIdeal.nD Cert.KvGradIdeal.τ).loc Cert.KvGradIdeal.main_arg0)
      ∧ m' ((c.tc : Thread Cert.KvGradRefIdeal.nD Cert.KvGradRefIdeal.τ).loc Cert.KvGradRefIdeal.main_arg1) = m ((c.tc : Thread Cert.KvGradIdeal.nD Cert.KvGradIdeal.τ).loc Cert.KvGradIdeal.main_arg1)
      ∧ m' ((c.tc : Thread Cert.KvGradRefIdeal.nD Cert.KvGradRefIdeal.τ).loc Cert.KvGradRefIdeal.main_arg2) = m ((c.tc : Thread Cert.KvGradIdeal.nD Cert.KvGradIdeal.τ).loc Cert.KvGradIdeal.main_arg2)
      ∧ m' ((c.tc : Thread Cert.KvGradRefIdeal.nD Cert.KvGradRefIdeal.τ).loc Cert.KvGradRefIdeal.main_arg3) = m ((c.tc : Thread Cert.KvGradIdeal.nD Cert.KvGradIdeal.τ).loc Cert.KvGradIdeal.main_arg3)
      ∧ m' ((c.tc : Thread Cert.KvGradRefIdeal.nD Cert.KvGradRefIdeal.τ).loc Cert.KvGradRefIdeal.main_arg4) = m ((c.tc : Thread Cert.KvGradIdeal.nD Cert.KvGradIdeal.τ).loc Cert.KvGradIdeal.main_arg4)
      ∧ m' ((c.tc : Thread Cert.KvGradRefIdeal.nD Cert.KvGradRefIdeal.τ).loc Cert.KvGradRefIdeal.main_arg5) = m ((c.tc : Thread Cert.KvGradIdeal.nD Cert.KvGradIdeal.τ).loc Cert.KvGradIdeal.main_arg5)) →
    ∃ (v0 : (c : Dev Cert.KvGradIdeal.nD) → Buf (Elt Ideal) ((c.tc : Thread Cert.KvGradIdeal.nD Cert.KvGradIdeal.τ).loc Cert.KvGradIdeal.main_v1_0)) (v1 : (c : Dev Cert.KvGradIdeal.nD) → Buf (Elt Ideal) ((c.tc : Thread Cert.KvGradIdeal.nD Cert.KvGradIdeal.τ).loc Cert.KvGradIdeal.main_v1_1)),
      θ_run (Cert.KvGradIdeal.defs (F := Ideal)) (onTc (τ := Cert.KvGradIdeal.τ) (Cert.KvGradIdeal.main (F := Ideal))) ⟨m, fun _ => 0, g⟩ (fun r => ∀ c : Dev Cert.KvGradIdeal.nD,
          r.2.mem ((c.tc : Thread Cert.KvGradIdeal.nD Cert.KvGradIdeal.τ).loc Cert.KvGradIdeal.main_v1_0) = v0 c
          ∧ r.2.mem ((c.tc : Thread Cert.KvGradIdeal.nD Cert.KvGradIdeal.τ).loc Cert.KvGradIdeal.main_v1_1) = v1 c
          ∧ r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
          ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1)
          ∧ r.2.mem ((c.tc : Thread Cert.KvGradIdeal.nD Cert.KvGradIdeal.τ).loc Cert.KvGradIdeal.main_arg2) = m ((c.tc : Thread Cert.KvGradIdeal.nD Cert.KvGradIdeal.τ).loc Cert.KvGradIdeal.main_arg2)
          ∧ r.2.mem ((c.tc : Thread Cert.KvGradIdeal.nD Cert.KvGradIdeal.τ).loc Cert.KvGradIdeal.main_arg3) = m ((c.tc : Thread Cert.KvGradIdeal.nD Cert.KvGradIdeal.τ).loc Cert.KvGradIdeal.main_arg3)
          ∧ r.2.mem ((c.tc : Thread Cert.KvGradIdeal.nD Cert.KvGradIdeal.τ).loc Cert.KvGradIdeal.main_arg4) = m ((c.tc : Thread Cert.KvGradIdeal.nD Cert.KvGradIdeal.τ).loc Cert.KvGradIdeal.main_arg4)
          ∧ r.2.mem ((c.tc : Thread Cert.KvGradIdeal.nD Cert.KvGradIdeal.τ).loc Cert.KvGradIdeal.main_arg5) = m ((c.tc : Thread Cert.KvGradIdeal.nD Cert.KvGradIdeal.τ).loc Cert.KvGradIdeal.main_arg5))
      ∧ θ_run (Cert.KvGradRefIdeal.defs (F := Ideal)) (onTc (τ := Cert.KvGradRefIdeal.τ) (Cert.KvGradRefIdeal.main (F := Ideal))) ⟨m', fun _ => 0, g'⟩ (fun r => ∀ c : Dev Cert.KvGradRefIdeal.nD,
          r.2.mem ((c.tc : Thread Cert.KvGradRefIdeal.nD Cert.KvGradRefIdeal.τ).loc Cert.KvGradRefIdeal.main_v53) = v0 c
          ∧ r.2.mem ((c.tc : Thread Cert.KvGradRefIdeal.nD Cert.KvGradRefIdeal.τ).loc Cert.KvGradRefIdeal.main_v54) = v1 c
          ∧ r.2.mem ((c.tc : Thread Cert.KvGradRefIdeal.nD Cert.KvGradRefIdeal.τ).loc Cert.KvGradRefIdeal.main_arg0) = m' ((c.tc : Thread Cert.KvGradRefIdeal.nD Cert.KvGradRefIdeal.τ).loc Cert.KvGradRefIdeal.main_arg0)
          ∧ r.2.mem ((c.tc : Thread Cert.KvGradRefIdeal.nD Cert.KvGradRefIdeal.τ).loc Cert.KvGradRefIdeal.main_arg1) = m' ((c.tc : Thread Cert.KvGradRefIdeal.nD Cert.KvGradRefIdeal.τ).loc Cert.KvGradRefIdeal.main_arg1)
          ∧ r.2.mem ((c.tc : Thread Cert.KvGradRefIdeal.nD Cert.KvGradRefIdeal.τ).loc Cert.KvGradRefIdeal.main_arg2) = m' ((c.tc : Thread Cert.KvGradRefIdeal.nD Cert.KvGradRefIdeal.τ).loc Cert.KvGradRefIdeal.main_arg2)
          ∧ r.2.mem ((c.tc : Thread Cert.KvGradRefIdeal.nD Cert.KvGradRefIdeal.τ).loc Cert.KvGradRefIdeal.main_arg3) = m' ((c.tc : Thread Cert.KvGradRefIdeal.nD Cert.KvGradRefIdeal.τ).loc Cert.KvGradRefIdeal.main_arg3)
          ∧ r.2.mem ((c.tc : Thread Cert.KvGradRefIdeal.nD Cert.KvGradRefIdeal.τ).loc Cert.KvGradRefIdeal.main_arg4) = m' ((c.tc : Thread Cert.KvGradRefIdeal.nD Cert.KvGradRefIdeal.τ).loc Cert.KvGradRefIdeal.main_arg4)
          ∧ r.2.mem ((c.tc : Thread Cert.KvGradRefIdeal.nD Cert.KvGradRefIdeal.τ).loc Cert.KvGradRefIdeal.main_arg5) = m' ((c.tc : Thread Cert.KvGradRefIdeal.nD Cert.KvGradRefIdeal.τ).loc Cert.KvGradRefIdeal.main_arg5))

def preserves_OutNorm_OutNormIdeal : Prop :=
  True

def algebraic_OutNormIdeal_OutNormRefIdeal_on_written_hng_pre_finite_hng [hOutNormIdeal : Cert.OutNormIdeal.Facts] [hOutNormRefIdeal : Cert.OutNormRefIdeal.Facts] [hPre_finite_hng : Cert.Pre_finite_hng.Facts] [hOn_written_hng : Cert.On_written_hng.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal_finite_hng m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)
      ∧ m' ((c.tc : Thread Cert.OutNormRefIdeal.nD Cert.OutNormRefIdeal.τ).loc Cert.OutNormRefIdeal.main_arg3) = m ((c.tc : Thread Cert.OutNormIdeal.nD Cert.OutNormIdeal.τ).loc Cert.OutNormIdeal.main_arg3)) →
    ∃ (v0 : (c : Dev Cert.OutNormIdeal.nD) → Buf (Elt Ideal) ((c.tc : Thread Cert.OutNormIdeal.nD Cert.OutNormIdeal.τ).loc Cert.OutNormIdeal.main_v2_0)) (v1 : (c : Dev Cert.OutNormIdeal.nD) → Buf (Elt Ideal) ((c.tc : Thread Cert.OutNormIdeal.nD Cert.OutNormIdeal.τ).loc Cert.OutNormIdeal.main_v2_1)) (v2 : (c : Dev Cert.OutNormIdeal.nD) → Buf (Elt Ideal) ((c.tc : Thread Cert.OutNormIdeal.nD Cert.OutNormIdeal.τ).loc Cert.OutNormIdeal.main_v2_2)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          (∀ i : (⟨3, ![8, 4096, 128]⟩ : Shape).Idx, (Cert.On_written_hng.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3))).1 i = 1#1 → r.2.mem ((c.tc : Thread Cert.OutNormIdeal.nD Cert.OutNormIdeal.τ).loc Cert.OutNormIdeal.main_v2_0) i = v0 c i)
          ∧ (∀ i : (⟨2, ![1, 128]⟩ : Shape).Idx, (Cert.On_written_hng.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3))).2.1 i = 1#1 → r.2.mem ((c.tc : Thread Cert.OutNormIdeal.nD Cert.OutNormIdeal.τ).loc Cert.OutNormIdeal.main_v2_1) i = v1 c i)
          ∧ (∀ i : (⟨2, ![4096, 4096]⟩ : Shape).Idx, (Cert.On_written_hng.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3))).2.2 i = 1#1 → r.2.mem ((c.tc : Thread Cert.OutNormIdeal.nD Cert.OutNormIdeal.τ).loc Cert.OutNormIdeal.main_v2_2) i = v2 c i)
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          (∀ i : (⟨3, ![8, 4096, 128]⟩ : Shape).Idx, (Cert.On_written_hng.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3))).1 i = 1#1 → r.2.mem ((c.tc : Thread Cert.OutNormRefIdeal.nD Cert.OutNormRefIdeal.τ).loc Cert.OutNormRefIdeal.main_v46) i = v0 c i)
          ∧ (∀ i : (⟨2, ![1, 128]⟩ : Shape).Idx, (Cert.On_written_hng.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3))).2.1 i = 1#1 → r.2.mem ((c.tc : Thread Cert.OutNormRefIdeal.nD Cert.OutNormRefIdeal.τ).loc Cert.OutNormRefIdeal.main_v47) i = v1 c i)
          ∧ (∀ i : (⟨2, ![4096, 4096]⟩ : Shape).Idx, (Cert.On_written_hng.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3))).2.2 i = 1#1 → r.2.mem ((c.tc : Thread Cert.OutNormRefIdeal.nD Cert.OutNormRefIdeal.τ).loc Cert.OutNormRefIdeal.main_v48) i = v2 c i)
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2)
          ∧ r.2.mem ((c.tc : Thread Cert.OutNormRefIdeal.nD Cert.OutNormRefIdeal.τ).loc Cert.OutNormRefIdeal.main_arg3) = m' ((c.tc : Thread Cert.OutNormRefIdeal.nD Cert.OutNormRefIdeal.τ).loc Cert.OutNormRefIdeal.main_arg3))

def preserves_Swi_SwiIdeal : Prop :=
  True

def algebraic_SwiIdeal_SwiRefIdeal_pre_finite_swi [hSwiIdeal : Cert.SwiIdeal.Facts] [hSwiRefIdeal : Cert.SwiRefIdeal.Facts] [hPre_finite_swi : Cert.Pre_finite_swi.Facts] : Prop :=
  ∀ (m : (ℓ : Loc Cert.SwiIdeal.nD Cert.SwiIdeal.τ Cert.SwiIdeal.sig) → Buf (Elt Ideal) ℓ) (g : Dev Cert.SwiIdeal.nD → PrngReg)
    (m' : (ℓ : Loc Cert.SwiRefIdeal.nD Cert.SwiRefIdeal.τ Cert.SwiRefIdeal.sig) → Buf (Elt Ideal) ℓ) (g' : Dev Cert.SwiRefIdeal.nD → PrngReg), Pre_SwiIdeal_finite_swi m →
    (∀ c : Dev Cert.SwiIdeal.nD,
      m' ((c.tc : Thread Cert.SwiRefIdeal.nD Cert.SwiRefIdeal.τ).loc Cert.SwiRefIdeal.main_arg0) = m ((c.tc : Thread Cert.SwiIdeal.nD Cert.SwiIdeal.τ).loc Cert.SwiIdeal.main_arg0)
      ∧ m' ((c.tc : Thread Cert.SwiRefIdeal.nD Cert.SwiRefIdeal.τ).loc Cert.SwiRefIdeal.main_arg1) = m ((c.tc : Thread Cert.SwiIdeal.nD Cert.SwiIdeal.τ).loc Cert.SwiIdeal.main_arg1)
      ∧ m' ((c.tc : Thread Cert.SwiRefIdeal.nD Cert.SwiRefIdeal.τ).loc Cert.SwiRefIdeal.main_arg2) = m ((c.tc : Thread Cert.SwiIdeal.nD Cert.SwiIdeal.τ).loc Cert.SwiIdeal.main_arg2)) →
    ∃ (v0 : (c : Dev Cert.SwiIdeal.nD) → Buf (Elt Ideal) ((c.tc : Thread Cert.SwiIdeal.nD Cert.SwiIdeal.τ).loc Cert.SwiIdeal.main_v6)),
      θ_run (Cert.SwiIdeal.defs (F := Ideal)) (onTc (τ := Cert.SwiIdeal.τ) (Cert.SwiIdeal.main (F := Ideal))) ⟨m, fun _ => 0, g⟩ (fun r => ∀ c : Dev Cert.SwiIdeal.nD,
          r.2.mem ((c.tc : Thread Cert.SwiIdeal.nD Cert.SwiIdeal.τ).loc Cert.SwiIdeal.main_v6) = v0 c
          ∧ r.2.mem ((c.tc : Thread Cert.SwiIdeal.nD Cert.SwiIdeal.τ).loc Cert.SwiIdeal.main_arg0) = m ((c.tc : Thread Cert.SwiIdeal.nD Cert.SwiIdeal.τ).loc Cert.SwiIdeal.main_arg0)
          ∧ r.2.mem ((c.tc : Thread Cert.SwiIdeal.nD Cert.SwiIdeal.τ).loc Cert.SwiIdeal.main_arg1) = m ((c.tc : Thread Cert.SwiIdeal.nD Cert.SwiIdeal.τ).loc Cert.SwiIdeal.main_arg1)
          ∧ r.2.mem ((c.tc : Thread Cert.SwiIdeal.nD Cert.SwiIdeal.τ).loc Cert.SwiIdeal.main_arg2) = m ((c.tc : Thread Cert.SwiIdeal.nD Cert.SwiIdeal.τ).loc Cert.SwiIdeal.main_arg2))
      ∧ θ_run (Cert.SwiRefIdeal.defs (F := Ideal)) (onTc (τ := Cert.SwiRefIdeal.τ) (Cert.SwiRefIdeal.main (F := Ideal))) ⟨m', fun _ => 0, g'⟩ (fun r => ∀ c : Dev Cert.SwiRefIdeal.nD,
          r.2.mem ((c.tc : Thread Cert.SwiRefIdeal.nD Cert.SwiRefIdeal.τ).loc Cert.SwiRefIdeal.main_v12) = v0 c
          ∧ r.2.mem ((c.tc : Thread Cert.SwiRefIdeal.nD Cert.SwiRefIdeal.τ).loc Cert.SwiRefIdeal.main_arg0) = m' ((c.tc : Thread Cert.SwiRefIdeal.nD Cert.SwiRefIdeal.τ).loc Cert.SwiRefIdeal.main_arg0)
          ∧ r.2.mem ((c.tc : Thread Cert.SwiRefIdeal.nD Cert.SwiRefIdeal.τ).loc Cert.SwiRefIdeal.main_arg1) = m' ((c.tc : Thread Cert.SwiRefIdeal.nD Cert.SwiRefIdeal.τ).loc Cert.SwiRefIdeal.main_arg1)
          ∧ r.2.mem ((c.tc : Thread Cert.SwiRefIdeal.nD Cert.SwiRefIdeal.τ).loc Cert.SwiRefIdeal.main_arg2) = m' ((c.tc : Thread Cert.SwiRefIdeal.nD Cert.SwiRefIdeal.τ).loc Cert.SwiRefIdeal.main_arg2))

def preserves_PleDx_PleDxIdeal : Prop :=
  True

def algebraic_PleDxIdeal_PleDxRefIdeal [hPleDxIdeal : Cert.PleDxIdeal.Facts] [hPleDxRefIdeal : Cert.PleDxRefIdeal.Facts] : Prop :=
  ∀ (m : (ℓ : Loc Cert.PleDxIdeal.nD Cert.PleDxIdeal.τ Cert.PleDxIdeal.sig) → Buf (Elt Ideal) ℓ) (g : Dev Cert.PleDxIdeal.nD → PrngReg)
    (m' : (ℓ : Loc Cert.PleDxRefIdeal.nD Cert.PleDxRefIdeal.τ Cert.PleDxRefIdeal.sig) → Buf (Elt Ideal) ℓ) (g' : Dev Cert.PleDxRefIdeal.nD → PrngReg), Pre_PleDxIdeal m →
    (∀ c : Dev Cert.PleDxIdeal.nD,
      m' ((c.tc : Thread Cert.PleDxRefIdeal.nD Cert.PleDxRefIdeal.τ).loc Cert.PleDxRefIdeal.main_arg0) = m ((c.tc : Thread Cert.PleDxIdeal.nD Cert.PleDxIdeal.τ).loc Cert.PleDxIdeal.main_arg0)
      ∧ m' ((c.tc : Thread Cert.PleDxRefIdeal.nD Cert.PleDxRefIdeal.τ).loc Cert.PleDxRefIdeal.main_arg1) = m ((c.tc : Thread Cert.PleDxIdeal.nD Cert.PleDxIdeal.τ).loc Cert.PleDxIdeal.main_arg1)
      ∧ m' ((c.tc : Thread Cert.PleDxRefIdeal.nD Cert.PleDxRefIdeal.τ).loc Cert.PleDxRefIdeal.main_arg2) = m ((c.tc : Thread Cert.PleDxIdeal.nD Cert.PleDxIdeal.τ).loc Cert.PleDxIdeal.main_arg2)
      ∧ m' ((c.tc : Thread Cert.PleDxRefIdeal.nD Cert.PleDxRefIdeal.τ).loc Cert.PleDxRefIdeal.main_arg3) = m ((c.tc : Thread Cert.PleDxIdeal.nD Cert.PleDxIdeal.τ).loc Cert.PleDxIdeal.main_arg3)
      ∧ m' ((c.tc : Thread Cert.PleDxRefIdeal.nD Cert.PleDxRefIdeal.τ).loc Cert.PleDxRefIdeal.main_arg4) = m ((c.tc : Thread Cert.PleDxIdeal.nD Cert.PleDxIdeal.τ).loc Cert.PleDxIdeal.main_arg4)) →
    ∃ (v0 : (c : Dev Cert.PleDxIdeal.nD) → Buf (Elt Ideal) ((c.tc : Thread Cert.PleDxIdeal.nD Cert.PleDxIdeal.τ).loc Cert.PleDxIdeal.main_v3_0)) (v1 : (c : Dev Cert.PleDxIdeal.nD) → Buf (Elt Ideal) ((c.tc : Thread Cert.PleDxIdeal.nD Cert.PleDxIdeal.τ).loc Cert.PleDxIdeal.main_v3_1)) (v2 : (c : Dev Cert.PleDxIdeal.nD) → Buf (Elt Ideal) ((c.tc : Thread Cert.PleDxIdeal.nD Cert.PleDxIdeal.τ).loc Cert.PleDxIdeal.main_v3_2)),
      θ_run (Cert.PleDxIdeal.defs (F := Ideal)) (onTc (τ := Cert.PleDxIdeal.τ) (Cert.PleDxIdeal.main (F := Ideal))) ⟨m, fun _ => 0, g⟩ (fun r => ∀ c : Dev Cert.PleDxIdeal.nD,
          r.2.mem ((c.tc : Thread Cert.PleDxIdeal.nD Cert.PleDxIdeal.τ).loc Cert.PleDxIdeal.main_v3_0) = v0 c
          ∧ r.2.mem ((c.tc : Thread Cert.PleDxIdeal.nD Cert.PleDxIdeal.τ).loc Cert.PleDxIdeal.main_v3_1) = v1 c
          ∧ r.2.mem ((c.tc : Thread Cert.PleDxIdeal.nD Cert.PleDxIdeal.τ).loc Cert.PleDxIdeal.main_v3_2) = v2 c
          ∧ r.2.mem ((c.tc : Thread Cert.PleDxIdeal.nD Cert.PleDxIdeal.τ).loc Cert.PleDxIdeal.main_arg0) = m ((c.tc : Thread Cert.PleDxIdeal.nD Cert.PleDxIdeal.τ).loc Cert.PleDxIdeal.main_arg0)
          ∧ r.2.mem ((c.tc : Thread Cert.PleDxIdeal.nD Cert.PleDxIdeal.τ).loc Cert.PleDxIdeal.main_arg1) = m ((c.tc : Thread Cert.PleDxIdeal.nD Cert.PleDxIdeal.τ).loc Cert.PleDxIdeal.main_arg1)
          ∧ r.2.mem ((c.tc : Thread Cert.PleDxIdeal.nD Cert.PleDxIdeal.τ).loc Cert.PleDxIdeal.main_arg2) = m ((c.tc : Thread Cert.PleDxIdeal.nD Cert.PleDxIdeal.τ).loc Cert.PleDxIdeal.main_arg2)
          ∧ r.2.mem ((c.tc : Thread Cert.PleDxIdeal.nD Cert.PleDxIdeal.τ).loc Cert.PleDxIdeal.main_arg3) = m ((c.tc : Thread Cert.PleDxIdeal.nD Cert.PleDxIdeal.τ).loc Cert.PleDxIdeal.main_arg3)
          ∧ r.2.mem ((c.tc : Thread Cert.PleDxIdeal.nD Cert.PleDxIdeal.τ).loc Cert.PleDxIdeal.main_arg4) = m ((c.tc : Thread Cert.PleDxIdeal.nD Cert.PleDxIdeal.τ).loc Cert.PleDxIdeal.main_arg4))
      ∧ θ_run (Cert.PleDxRefIdeal.defs (F := Ideal)) (onTc (τ := Cert.PleDxRefIdeal.τ) (Cert.PleDxRefIdeal.main (F := Ideal))) ⟨m', fun _ => 0, g'⟩ (fun r => ∀ c : Dev Cert.PleDxRefIdeal.nD,
          r.2.mem ((c.tc : Thread Cert.PleDxRefIdeal.nD Cert.PleDxRefIdeal.τ).loc Cert.PleDxRefIdeal.main_v38) = v0 c
          ∧ r.2.mem ((c.tc : Thread Cert.PleDxRefIdeal.nD Cert.PleDxRefIdeal.τ).loc Cert.PleDxRefIdeal.main_v39) = v1 c
          ∧ r.2.mem ((c.tc : Thread Cert.PleDxRefIdeal.nD Cert.PleDxRefIdeal.τ).loc Cert.PleDxRefIdeal.main_v40) = v2 c
          ∧ r.2.mem ((c.tc : Thread Cert.PleDxRefIdeal.nD Cert.PleDxRefIdeal.τ).loc Cert.PleDxRefIdeal.main_arg0) = m' ((c.tc : Thread Cert.PleDxRefIdeal.nD Cert.PleDxRefIdeal.τ).loc Cert.PleDxRefIdeal.main_arg0)
          ∧ r.2.mem ((c.tc : Thread Cert.PleDxRefIdeal.nD Cert.PleDxRefIdeal.τ).loc Cert.PleDxRefIdeal.main_arg1) = m' ((c.tc : Thread Cert.PleDxRefIdeal.nD Cert.PleDxRefIdeal.τ).loc Cert.PleDxRefIdeal.main_arg1)
          ∧ r.2.mem ((c.tc : Thread Cert.PleDxRefIdeal.nD Cert.PleDxRefIdeal.τ).loc Cert.PleDxRefIdeal.main_arg2) = m' ((c.tc : Thread Cert.PleDxRefIdeal.nD Cert.PleDxRefIdeal.τ).loc Cert.PleDxRefIdeal.main_arg2)
          ∧ r.2.mem ((c.tc : Thread Cert.PleDxRefIdeal.nD Cert.PleDxRefIdeal.τ).loc Cert.PleDxRefIdeal.main_arg3) = m' ((c.tc : Thread Cert.PleDxRefIdeal.nD Cert.PleDxRefIdeal.τ).loc Cert.PleDxRefIdeal.main_arg3)
          ∧ r.2.mem ((c.tc : Thread Cert.PleDxRefIdeal.nD Cert.PleDxRefIdeal.τ).loc Cert.PleDxRefIdeal.main_arg4) = m' ((c.tc : Thread Cert.PleDxRefIdeal.nD Cert.PleDxRefIdeal.τ).loc Cert.PleDxRefIdeal.main_arg4))

def preserves_FfnDx_FfnDxIdeal : Prop :=
  True

def algebraic_FfnDxIdeal_FfnDxRefIdeal [hFfnDxIdeal : Cert.FfnDxIdeal.Facts] [hFfnDxRefIdeal : Cert.FfnDxRefIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)
      ∧ m' ((c.tc : Thread Cert.FfnDxRefIdeal.nD Cert.FfnDxRefIdeal.τ).loc Cert.FfnDxRefIdeal.main_arg4) = m ((c.tc : Thread Cert.FfnDxIdeal.nD Cert.FfnDxIdeal.τ).loc Cert.FfnDxIdeal.main_arg4)) →
    ∃ (v0 : (c : Dev Cert.FfnDxIdeal.nD) → Buf (Elt Ideal) ((c.tc : Thread Cert.FfnDxIdeal.nD Cert.FfnDxIdeal.τ).loc Cert.FfnDxIdeal.main_v5_0)) (v1 : (c : Dev Cert.FfnDxIdeal.nD) → Buf (Elt Ideal) ((c.tc : Thread Cert.FfnDxIdeal.nD Cert.FfnDxIdeal.τ).loc Cert.FfnDxIdeal.main_v5_1)) (v2 : (c : Dev Cert.FfnDxIdeal.nD) → Buf (Elt Ideal) ((c.tc : Thread Cert.FfnDxIdeal.nD Cert.FfnDxIdeal.τ).loc Cert.FfnDxIdeal.main_v5_2)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v5_0) = v0 c
          ∧ r.2.mem ((c.tc : Thread Cert.FfnDxIdeal.nD Cert.FfnDxIdeal.τ).loc Cert.FfnDxIdeal.main_v5_1) = v1 c
          ∧ r.2.mem ((c.tc : Thread Cert.FfnDxIdeal.nD Cert.FfnDxIdeal.τ).loc Cert.FfnDxIdeal.main_v5_2) = v2 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
          ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v38) = v0 c
          ∧ r.2.mem ((c.tc : Thread Cert.FfnDxRefIdeal.nD Cert.FfnDxRefIdeal.τ).loc Cert.FfnDxRefIdeal.main_v39) = v1 c
          ∧ r.2.mem ((c.tc : Thread Cert.FfnDxRefIdeal.nD Cert.FfnDxRefIdeal.τ).loc Cert.FfnDxRefIdeal.main_v40) = v2 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3)
          ∧ r.2.mem ((c.tc : Thread Cert.FfnDxRefIdeal.nD Cert.FfnDxRefIdeal.τ).loc Cert.FfnDxRefIdeal.main_arg4) = m' ((c.tc : Thread Cert.FfnDxRefIdeal.nD Cert.FfnDxRefIdeal.τ).loc Cert.FfnDxRefIdeal.main_arg4))

def preserves_GdnDx_GdnDxIdeal : Prop :=
  True

def algebraic_GdnDxIdeal_GdnDxRefIdeal [hGdnDxIdeal : Cert.GdnDxIdeal.Facts] [hGdnDxRefIdeal : Cert.GdnDxRefIdeal.Facts] : Prop :=
  ∀ (m : (ℓ : Loc Cert.GdnDxIdeal.nD Cert.GdnDxIdeal.τ Cert.GdnDxIdeal.sig) → Buf (Elt Ideal) ℓ) (g : Dev Cert.GdnDxIdeal.nD → PrngReg)
    (m' : (ℓ : Loc Cert.GdnDxRefIdeal.nD Cert.GdnDxRefIdeal.τ Cert.GdnDxRefIdeal.sig) → Buf (Elt Ideal) ℓ) (g' : Dev Cert.GdnDxRefIdeal.nD → PrngReg), Pre_GdnDxIdeal m →
    (∀ c : Dev Cert.GdnDxIdeal.nD,
      m' ((c.tc : Thread Cert.GdnDxRefIdeal.nD Cert.GdnDxRefIdeal.τ).loc Cert.GdnDxRefIdeal.main_arg0) = m ((c.tc : Thread Cert.GdnDxIdeal.nD Cert.GdnDxIdeal.τ).loc Cert.GdnDxIdeal.main_arg0)
      ∧ m' ((c.tc : Thread Cert.GdnDxRefIdeal.nD Cert.GdnDxRefIdeal.τ).loc Cert.GdnDxRefIdeal.main_arg1) = m ((c.tc : Thread Cert.GdnDxIdeal.nD Cert.GdnDxIdeal.τ).loc Cert.GdnDxIdeal.main_arg1)
      ∧ m' ((c.tc : Thread Cert.GdnDxRefIdeal.nD Cert.GdnDxRefIdeal.τ).loc Cert.GdnDxRefIdeal.main_arg2) = m ((c.tc : Thread Cert.GdnDxIdeal.nD Cert.GdnDxIdeal.τ).loc Cert.GdnDxIdeal.main_arg2)
      ∧ m' ((c.tc : Thread Cert.GdnDxRefIdeal.nD Cert.GdnDxRefIdeal.τ).loc Cert.GdnDxRefIdeal.main_arg3) = m ((c.tc : Thread Cert.GdnDxIdeal.nD Cert.GdnDxIdeal.τ).loc Cert.GdnDxIdeal.main_arg3)
      ∧ m' ((c.tc : Thread Cert.GdnDxRefIdeal.nD Cert.GdnDxRefIdeal.τ).loc Cert.GdnDxRefIdeal.main_arg4) = m ((c.tc : Thread Cert.GdnDxIdeal.nD Cert.GdnDxIdeal.τ).loc Cert.GdnDxIdeal.main_arg4)
      ∧ m' ((c.tc : Thread Cert.GdnDxRefIdeal.nD Cert.GdnDxRefIdeal.τ).loc Cert.GdnDxRefIdeal.main_arg5) = m ((c.tc : Thread Cert.GdnDxIdeal.nD Cert.GdnDxIdeal.τ).loc Cert.GdnDxIdeal.main_arg5)) →
    ∃ (v0 : (c : Dev Cert.GdnDxIdeal.nD) → Buf (Elt Ideal) ((c.tc : Thread Cert.GdnDxIdeal.nD Cert.GdnDxIdeal.τ).loc Cert.GdnDxIdeal.main_v11_0)) (v1 : (c : Dev Cert.GdnDxIdeal.nD) → Buf (Elt Ideal) ((c.tc : Thread Cert.GdnDxIdeal.nD Cert.GdnDxIdeal.τ).loc Cert.GdnDxIdeal.main_v11_1)) (v2 : (c : Dev Cert.GdnDxIdeal.nD) → Buf (Elt Ideal) ((c.tc : Thread Cert.GdnDxIdeal.nD Cert.GdnDxIdeal.τ).loc Cert.GdnDxIdeal.main_v11_2)),
      θ_run (Cert.GdnDxIdeal.defs (F := Ideal)) (onTc (τ := Cert.GdnDxIdeal.τ) (Cert.GdnDxIdeal.main (F := Ideal))) ⟨m, fun _ => 0, g⟩ (fun r => ∀ c : Dev Cert.GdnDxIdeal.nD,
          r.2.mem ((c.tc : Thread Cert.GdnDxIdeal.nD Cert.GdnDxIdeal.τ).loc Cert.GdnDxIdeal.main_v11_0) = v0 c
          ∧ r.2.mem ((c.tc : Thread Cert.GdnDxIdeal.nD Cert.GdnDxIdeal.τ).loc Cert.GdnDxIdeal.main_v11_1) = v1 c
          ∧ r.2.mem ((c.tc : Thread Cert.GdnDxIdeal.nD Cert.GdnDxIdeal.τ).loc Cert.GdnDxIdeal.main_v11_2) = v2 c
          ∧ r.2.mem ((c.tc : Thread Cert.GdnDxIdeal.nD Cert.GdnDxIdeal.τ).loc Cert.GdnDxIdeal.main_arg0) = m ((c.tc : Thread Cert.GdnDxIdeal.nD Cert.GdnDxIdeal.τ).loc Cert.GdnDxIdeal.main_arg0)
          ∧ r.2.mem ((c.tc : Thread Cert.GdnDxIdeal.nD Cert.GdnDxIdeal.τ).loc Cert.GdnDxIdeal.main_arg1) = m ((c.tc : Thread Cert.GdnDxIdeal.nD Cert.GdnDxIdeal.τ).loc Cert.GdnDxIdeal.main_arg1)
          ∧ r.2.mem ((c.tc : Thread Cert.GdnDxIdeal.nD Cert.GdnDxIdeal.τ).loc Cert.GdnDxIdeal.main_arg2) = m ((c.tc : Thread Cert.GdnDxIdeal.nD Cert.GdnDxIdeal.τ).loc Cert.GdnDxIdeal.main_arg2)
          ∧ r.2.mem ((c.tc : Thread Cert.GdnDxIdeal.nD Cert.GdnDxIdeal.τ).loc Cert.GdnDxIdeal.main_arg3) = m ((c.tc : Thread Cert.GdnDxIdeal.nD Cert.GdnDxIdeal.τ).loc Cert.GdnDxIdeal.main_arg3)
          ∧ r.2.mem ((c.tc : Thread Cert.GdnDxIdeal.nD Cert.GdnDxIdeal.τ).loc Cert.GdnDxIdeal.main_arg4) = m ((c.tc : Thread Cert.GdnDxIdeal.nD Cert.GdnDxIdeal.τ).loc Cert.GdnDxIdeal.main_arg4)
          ∧ r.2.mem ((c.tc : Thread Cert.GdnDxIdeal.nD Cert.GdnDxIdeal.τ).loc Cert.GdnDxIdeal.main_arg5) = m ((c.tc : Thread Cert.GdnDxIdeal.nD Cert.GdnDxIdeal.τ).loc Cert.GdnDxIdeal.main_arg5))
      ∧ θ_run (Cert.GdnDxRefIdeal.defs (F := Ideal)) (onTc (τ := Cert.GdnDxRefIdeal.τ) (Cert.GdnDxRefIdeal.main (F := Ideal))) ⟨m', fun _ => 0, g'⟩ (fun r => ∀ c : Dev Cert.GdnDxRefIdeal.nD,
          r.2.mem ((c.tc : Thread Cert.GdnDxRefIdeal.nD Cert.GdnDxRefIdeal.τ).loc Cert.GdnDxRefIdeal.main_v39) = v0 c
          ∧ r.2.mem ((c.tc : Thread Cert.GdnDxRefIdeal.nD Cert.GdnDxRefIdeal.τ).loc Cert.GdnDxRefIdeal.main_v40) = v1 c
          ∧ r.2.mem ((c.tc : Thread Cert.GdnDxRefIdeal.nD Cert.GdnDxRefIdeal.τ).loc Cert.GdnDxRefIdeal.main_v41) = v2 c
          ∧ r.2.mem ((c.tc : Thread Cert.GdnDxRefIdeal.nD Cert.GdnDxRefIdeal.τ).loc Cert.GdnDxRefIdeal.main_arg0) = m' ((c.tc : Thread Cert.GdnDxRefIdeal.nD Cert.GdnDxRefIdeal.τ).loc Cert.GdnDxRefIdeal.main_arg0)
          ∧ r.2.mem ((c.tc : Thread Cert.GdnDxRefIdeal.nD Cert.GdnDxRefIdeal.τ).loc Cert.GdnDxRefIdeal.main_arg1) = m' ((c.tc : Thread Cert.GdnDxRefIdeal.nD Cert.GdnDxRefIdeal.τ).loc Cert.GdnDxRefIdeal.main_arg1)
          ∧ r.2.mem ((c.tc : Thread Cert.GdnDxRefIdeal.nD Cert.GdnDxRefIdeal.τ).loc Cert.GdnDxRefIdeal.main_arg2) = m' ((c.tc : Thread Cert.GdnDxRefIdeal.nD Cert.GdnDxRefIdeal.τ).loc Cert.GdnDxRefIdeal.main_arg2)
          ∧ r.2.mem ((c.tc : Thread Cert.GdnDxRefIdeal.nD Cert.GdnDxRefIdeal.τ).loc Cert.GdnDxRefIdeal.main_arg3) = m' ((c.tc : Thread Cert.GdnDxRefIdeal.nD Cert.GdnDxRefIdeal.τ).loc Cert.GdnDxRefIdeal.main_arg3)
          ∧ r.2.mem ((c.tc : Thread Cert.GdnDxRefIdeal.nD Cert.GdnDxRefIdeal.τ).loc Cert.GdnDxRefIdeal.main_arg4) = m' ((c.tc : Thread Cert.GdnDxRefIdeal.nD Cert.GdnDxRefIdeal.τ).loc Cert.GdnDxRefIdeal.main_arg4)
          ∧ r.2.mem ((c.tc : Thread Cert.GdnDxRefIdeal.nD Cert.GdnDxRefIdeal.τ).loc Cert.GdnDxRefIdeal.main_arg5) = m' ((c.tc : Thread Cert.GdnDxRefIdeal.nD Cert.GdnDxRefIdeal.τ).loc Cert.GdnDxRefIdeal.main_arg5))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)
      ∧ m' ((c.tc : Thread Cert.KvDxRefIdeal.nD Cert.KvDxRefIdeal.τ).loc Cert.KvDxRefIdeal.main_arg2) = m ((c.tc : Thread Cert.KvDxIdeal.nD Cert.KvDxIdeal.τ).loc Cert.KvDxIdeal.main_arg2)
      ∧ m' ((c.tc : Thread Cert.KvDxRefIdeal.nD Cert.KvDxRefIdeal.τ).loc Cert.KvDxRefIdeal.main_arg3) = m ((c.tc : Thread Cert.KvDxIdeal.nD Cert.KvDxIdeal.τ).loc Cert.KvDxIdeal.main_arg3)
      ∧ m' ((c.tc : Thread Cert.KvDxRefIdeal.nD Cert.KvDxRefIdeal.τ).loc Cert.KvDxRefIdeal.main_arg4) = m ((c.tc : Thread Cert.KvDxIdeal.nD Cert.KvDxIdeal.τ).loc Cert.KvDxIdeal.main_arg4)) →
    ∃ (v0 : (c : Dev Cert.KvDxIdeal.nD) → Buf (Elt Ideal) ((c.tc : Thread Cert.KvDxIdeal.nD Cert.KvDxIdeal.τ).loc Cert.KvDxIdeal.main_v4_0)) (v1 : (c : Dev Cert.KvDxIdeal.nD) → Buf (Elt Ideal) ((c.tc : Thread Cert.KvDxIdeal.nD Cert.KvDxIdeal.τ).loc Cert.KvDxIdeal.main_v4_1)) (v2 : (c : Dev Cert.KvDxIdeal.nD) → Buf (Elt Ideal) ((c.tc : Thread Cert.KvDxIdeal.nD Cert.KvDxIdeal.τ).loc Cert.KvDxIdeal.main_v4_2)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v4_0) = v0 c
          ∧ r.2.mem ((c.tc : Thread Cert.KvDxIdeal.nD Cert.KvDxIdeal.τ).loc Cert.KvDxIdeal.main_v4_1) = v1 c
          ∧ r.2.mem ((c.tc : Thread Cert.KvDxIdeal.nD Cert.KvDxIdeal.τ).loc Cert.KvDxIdeal.main_v4_2) = v2 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
          ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
          ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3)
          ∧ r.2.mem ((c.tc : Thread Cert.KvDxIdeal.nD Cert.KvDxIdeal.τ).loc Cert.KvDxIdeal.main_arg4) = m ((c.tc : Thread Cert.KvDxIdeal.nD Cert.KvDxIdeal.τ).loc Cert.KvDxIdeal.main_arg4))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v38) = v0 c
          ∧ r.2.mem ((c.tc : Thread Cert.KvDxRefIdeal.nD Cert.KvDxRefIdeal.τ).loc Cert.KvDxRefIdeal.main_v39) = v1 c
          ∧ r.2.mem ((c.tc : Thread Cert.KvDxRefIdeal.nD Cert.KvDxRefIdeal.τ).loc Cert.KvDxRefIdeal.main_v40) = v2 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1)
          ∧ r.2.mem ((c.tc : Thread Cert.KvDxRefIdeal.nD Cert.KvDxRefIdeal.τ).loc Cert.KvDxRefIdeal.main_arg2) = m' ((c.tc : Thread Cert.KvDxRefIdeal.nD Cert.KvDxRefIdeal.τ).loc Cert.KvDxRefIdeal.main_arg2)
          ∧ r.2.mem ((c.tc : Thread Cert.KvDxRefIdeal.nD Cert.KvDxRefIdeal.τ).loc Cert.KvDxRefIdeal.main_arg3) = m' ((c.tc : Thread Cert.KvDxRefIdeal.nD Cert.KvDxRefIdeal.τ).loc Cert.KvDxRefIdeal.main_arg3)
          ∧ r.2.mem ((c.tc : Thread Cert.KvDxRefIdeal.nD Cert.KvDxRefIdeal.τ).loc Cert.KvDxRefIdeal.main_arg4) = m' ((c.tc : Thread Cert.KvDxRefIdeal.nD Cert.KvDxRefIdeal.τ).loc Cert.KvDxRefIdeal.main_arg4))

def preserves_SbQDx_SbQDxIdeal : Prop :=
  True

def algebraic_SbQDxIdeal_SbQDxRefIdeal [hSbQDxIdeal : Cert.SbQDxIdeal.Facts] [hSbQDxRefIdeal : Cert.SbQDxRefIdeal.Facts] : Prop :=
  ∀ (m : (ℓ : Loc Cert.SbQDxIdeal.nD Cert.SbQDxIdeal.τ Cert.SbQDxIdeal.sig) → Buf (Elt Ideal) ℓ) (g : Dev Cert.SbQDxIdeal.nD → PrngReg)
    (m' : (ℓ : Loc Cert.SbQDxRefIdeal.nD Cert.SbQDxRefIdeal.τ Cert.SbQDxRefIdeal.sig) → Buf (Elt Ideal) ℓ) (g' : Dev Cert.SbQDxRefIdeal.nD → PrngReg), Pre_SbQDxIdeal m →
    (∀ c : Dev Cert.SbQDxIdeal.nD,
      m' ((c.tc : Thread Cert.SbQDxRefIdeal.nD Cert.SbQDxRefIdeal.τ).loc Cert.SbQDxRefIdeal.main_arg0) = m ((c.tc : Thread Cert.SbQDxIdeal.nD Cert.SbQDxIdeal.τ).loc Cert.SbQDxIdeal.main_arg0)
      ∧ m' ((c.tc : Thread Cert.SbQDxRefIdeal.nD Cert.SbQDxRefIdeal.τ).loc Cert.SbQDxRefIdeal.main_arg1) = m ((c.tc : Thread Cert.SbQDxIdeal.nD Cert.SbQDxIdeal.τ).loc Cert.SbQDxIdeal.main_arg1)
      ∧ m' ((c.tc : Thread Cert.SbQDxRefIdeal.nD Cert.SbQDxRefIdeal.τ).loc Cert.SbQDxRefIdeal.main_arg2) = m ((c.tc : Thread Cert.SbQDxIdeal.nD Cert.SbQDxIdeal.τ).loc Cert.SbQDxIdeal.main_arg2)
      ∧ m' ((c.tc : Thread Cert.SbQDxRefIdeal.nD Cert.SbQDxRefIdeal.τ).loc Cert.SbQDxRefIdeal.main_arg3) = m ((c.tc : Thread Cert.SbQDxIdeal.nD Cert.SbQDxIdeal.τ).loc Cert.SbQDxIdeal.main_arg3)
      ∧ m' ((c.tc : Thread Cert.SbQDxRefIdeal.nD Cert.SbQDxRefIdeal.τ).loc Cert.SbQDxRefIdeal.main_arg4) = m ((c.tc : Thread Cert.SbQDxIdeal.nD Cert.SbQDxIdeal.τ).loc Cert.SbQDxIdeal.main_arg4)) →
    ∃ (v0 : (c : Dev Cert.SbQDxIdeal.nD) → Buf (Elt Ideal) ((c.tc : Thread Cert.SbQDxIdeal.nD Cert.SbQDxIdeal.τ).loc Cert.SbQDxIdeal.main_v4_0)) (v1 : (c : Dev Cert.SbQDxIdeal.nD) → Buf (Elt Ideal) ((c.tc : Thread Cert.SbQDxIdeal.nD Cert.SbQDxIdeal.τ).loc Cert.SbQDxIdeal.main_v4_1)) (v2 : (c : Dev Cert.SbQDxIdeal.nD) → Buf (Elt Ideal) ((c.tc : Thread Cert.SbQDxIdeal.nD Cert.SbQDxIdeal.τ).loc Cert.SbQDxIdeal.main_v4_2)),
      θ_run (Cert.SbQDxIdeal.defs (F := Ideal)) (onTc (τ := Cert.SbQDxIdeal.τ) (Cert.SbQDxIdeal.main (F := Ideal))) ⟨m, fun _ => 0, g⟩ (fun r => ∀ c : Dev Cert.SbQDxIdeal.nD,
          r.2.mem ((c.tc : Thread Cert.SbQDxIdeal.nD Cert.SbQDxIdeal.τ).loc Cert.SbQDxIdeal.main_v4_0) = v0 c
          ∧ r.2.mem ((c.tc : Thread Cert.SbQDxIdeal.nD Cert.SbQDxIdeal.τ).loc Cert.SbQDxIdeal.main_v4_1) = v1 c
          ∧ r.2.mem ((c.tc : Thread Cert.SbQDxIdeal.nD Cert.SbQDxIdeal.τ).loc Cert.SbQDxIdeal.main_v4_2) = v2 c
          ∧ r.2.mem ((c.tc : Thread Cert.SbQDxIdeal.nD Cert.SbQDxIdeal.τ).loc Cert.SbQDxIdeal.main_arg0) = m ((c.tc : Thread Cert.SbQDxIdeal.nD Cert.SbQDxIdeal.τ).loc Cert.SbQDxIdeal.main_arg0)
          ∧ r.2.mem ((c.tc : Thread Cert.SbQDxIdeal.nD Cert.SbQDxIdeal.τ).loc Cert.SbQDxIdeal.main_arg1) = m ((c.tc : Thread Cert.SbQDxIdeal.nD Cert.SbQDxIdeal.τ).loc Cert.SbQDxIdeal.main_arg1)
          ∧ r.2.mem ((c.tc : Thread Cert.SbQDxIdeal.nD Cert.SbQDxIdeal.τ).loc Cert.SbQDxIdeal.main_arg2) = m ((c.tc : Thread Cert.SbQDxIdeal.nD Cert.SbQDxIdeal.τ).loc Cert.SbQDxIdeal.main_arg2)
          ∧ r.2.mem ((c.tc : Thread Cert.SbQDxIdeal.nD Cert.SbQDxIdeal.τ).loc Cert.SbQDxIdeal.main_arg3) = m ((c.tc : Thread Cert.SbQDxIdeal.nD Cert.SbQDxIdeal.τ).loc Cert.SbQDxIdeal.main_arg3)
          ∧ r.2.mem ((c.tc : Thread Cert.SbQDxIdeal.nD Cert.SbQDxIdeal.τ).loc Cert.SbQDxIdeal.main_arg4) = m ((c.tc : Thread Cert.SbQDxIdeal.nD Cert.SbQDxIdeal.τ).loc Cert.SbQDxIdeal.main_arg4))
      ∧ θ_run (Cert.SbQDxRefIdeal.defs (F := Ideal)) (onTc (τ := Cert.SbQDxRefIdeal.τ) (Cert.SbQDxRefIdeal.main (F := Ideal))) ⟨m', fun _ => 0, g'⟩ (fun r => ∀ c : Dev Cert.SbQDxRefIdeal.nD,
          r.2.mem ((c.tc : Thread Cert.SbQDxRefIdeal.nD Cert.SbQDxRefIdeal.τ).loc Cert.SbQDxRefIdeal.main_v38) = v0 c
          ∧ r.2.mem ((c.tc : Thread Cert.SbQDxRefIdeal.nD Cert.SbQDxRefIdeal.τ).loc Cert.SbQDxRefIdeal.main_v39) = v1 c
          ∧ r.2.mem ((c.tc : Thread Cert.SbQDxRefIdeal.nD Cert.SbQDxRefIdeal.τ).loc Cert.SbQDxRefIdeal.main_v40) = v2 c
          ∧ r.2.mem ((c.tc : Thread Cert.SbQDxRefIdeal.nD Cert.SbQDxRefIdeal.τ).loc Cert.SbQDxRefIdeal.main_arg0) = m' ((c.tc : Thread Cert.SbQDxRefIdeal.nD Cert.SbQDxRefIdeal.τ).loc Cert.SbQDxRefIdeal.main_arg0)
          ∧ r.2.mem ((c.tc : Thread Cert.SbQDxRefIdeal.nD Cert.SbQDxRefIdeal.τ).loc Cert.SbQDxRefIdeal.main_arg1) = m' ((c.tc : Thread Cert.SbQDxRefIdeal.nD Cert.SbQDxRefIdeal.τ).loc Cert.SbQDxRefIdeal.main_arg1)
          ∧ r.2.mem ((c.tc : Thread Cert.SbQDxRefIdeal.nD Cert.SbQDxRefIdeal.τ).loc Cert.SbQDxRefIdeal.main_arg2) = m' ((c.tc : Thread Cert.SbQDxRefIdeal.nD Cert.SbQDxRefIdeal.τ).loc Cert.SbQDxRefIdeal.main_arg2)
          ∧ r.2.mem ((c.tc : Thread Cert.SbQDxRefIdeal.nD Cert.SbQDxRefIdeal.τ).loc Cert.SbQDxRefIdeal.main_arg3) = m' ((c.tc : Thread Cert.SbQDxRefIdeal.nD Cert.SbQDxRefIdeal.τ).loc Cert.SbQDxRefIdeal.main_arg3)
          ∧ r.2.mem ((c.tc : Thread Cert.SbQDxRefIdeal.nD Cert.SbQDxRefIdeal.τ).loc Cert.SbQDxRefIdeal.main_arg4) = m' ((c.tc : Thread Cert.SbQDxRefIdeal.nD Cert.SbQDxRefIdeal.τ).loc Cert.SbQDxRefIdeal.main_arg4))

def preserves_Sb_SbIdeal : Prop :=
  True

def algebraic_SbIdeal_SbRefIdeal_pre_finite_sb [hSbIdeal : Cert.SbIdeal.Facts] [hSbRefIdeal : Cert.SbRefIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_sb m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)
      ∧ m' ((c.tc : Thread Cert.SbRefIdeal.nD Cert.SbRefIdeal.τ).loc Cert.SbRefIdeal.main_arg3) = m ((c.tc : Thread Cert.SbIdeal.nD Cert.SbIdeal.τ).loc Cert.SbIdeal.main_arg3)) →
    ∃ (v0 : (c : Dev Cert.SbIdeal.nD) → Buf (Elt Ideal) ((c.tc : Thread Cert.SbIdeal.nD Cert.SbIdeal.τ).loc Cert.SbIdeal.main_v25_0)) (v1 : (c : Dev Cert.SbIdeal.nD) → Buf (Elt Ideal) ((c.tc : Thread Cert.SbIdeal.nD Cert.SbIdeal.τ).loc Cert.SbIdeal.main_v25_1)) (v2 : (c : Dev Cert.SbIdeal.nD) → Buf (Elt Ideal) ((c.tc : Thread Cert.SbIdeal.nD Cert.SbIdeal.τ).loc Cert.SbIdeal.main_v25_2)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v25_0) = v0 c
          ∧ r.2.mem ((c.tc : Thread Cert.SbIdeal.nD Cert.SbIdeal.τ).loc Cert.SbIdeal.main_v25_1) = v1 c
          ∧ r.2.mem ((c.tc : Thread Cert.SbIdeal.nD Cert.SbIdeal.τ).loc Cert.SbIdeal.main_v25_2) = v2 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
          ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v48) = v0 c
          ∧ r.2.mem ((c.tc : Thread Cert.SbRefIdeal.nD Cert.SbRefIdeal.τ).loc Cert.SbRefIdeal.main_v46) = v1 c
          ∧ r.2.mem ((c.tc : Thread Cert.SbRefIdeal.nD Cert.SbRefIdeal.τ).loc Cert.SbRefIdeal.main_v44) = v2 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2)
          ∧ r.2.mem ((c.tc : Thread Cert.SbRefIdeal.nD Cert.SbRefIdeal.τ).loc Cert.SbRefIdeal.main_arg3) = m' ((c.tc : Thread Cert.SbRefIdeal.nD Cert.SbRefIdeal.τ).loc Cert.SbRefIdeal.main_arg3))

def preserves_SbAttn_SbAttnIdeal : Prop :=
  True

def algebraic_SbAttnIdeal_SbAttnRefIdeal_pre_finite_sbf [hSbAttnIdeal : Cert.SbAttnIdeal.Facts] [hSbAttnRefIdeal : Cert.SbAttnRefIdeal.Facts] [hPre_finite_sbf : Cert.Pre_finite_sbf.Facts] : Prop :=
  ∀ (m : (ℓ : Loc Cert.SbAttnIdeal.nD Cert.SbAttnIdeal.τ Cert.SbAttnIdeal.sig) → Buf (Elt Ideal) ℓ) (g : Dev Cert.SbAttnIdeal.nD → PrngReg)
    (m' : (ℓ : Loc Cert.SbAttnRefIdeal.nD Cert.SbAttnRefIdeal.τ Cert.SbAttnRefIdeal.sig) → Buf (Elt Ideal) ℓ) (g' : Dev Cert.SbAttnRefIdeal.nD → PrngReg), Pre_SbAttnIdeal_finite_sbf m →
    (∀ c : Dev Cert.SbAttnIdeal.nD,
      m' ((c.tc : Thread Cert.SbAttnRefIdeal.nD Cert.SbAttnRefIdeal.τ).loc Cert.SbAttnRefIdeal.main_arg0) = m ((c.tc : Thread Cert.SbAttnIdeal.nD Cert.SbAttnIdeal.τ).loc Cert.SbAttnIdeal.main_arg0)
      ∧ m' ((c.tc : Thread Cert.SbAttnRefIdeal.nD Cert.SbAttnRefIdeal.τ).loc Cert.SbAttnRefIdeal.main_arg1) = m ((c.tc : Thread Cert.SbAttnIdeal.nD Cert.SbAttnIdeal.τ).loc Cert.SbAttnIdeal.main_arg1)
      ∧ m' ((c.tc : Thread Cert.SbAttnRefIdeal.nD Cert.SbAttnRefIdeal.τ).loc Cert.SbAttnRefIdeal.main_arg2) = m ((c.tc : Thread Cert.SbAttnIdeal.nD Cert.SbAttnIdeal.τ).loc Cert.SbAttnIdeal.main_arg2)) →
    ∃ (v0 : (c : Dev Cert.SbAttnIdeal.nD) → Buf (Elt Ideal) ((c.tc : Thread Cert.SbAttnIdeal.nD Cert.SbAttnIdeal.τ).loc Cert.SbAttnIdeal.main_v3_0)) (v1 : (c : Dev Cert.SbAttnIdeal.nD) → Buf (Elt Ideal) ((c.tc : Thread Cert.SbAttnIdeal.nD Cert.SbAttnIdeal.τ).loc Cert.SbAttnIdeal.main_v3_1)),
      θ_run (Cert.SbAttnIdeal.defs (F := Ideal)) (onTc (τ := Cert.SbAttnIdeal.τ) (Cert.SbAttnIdeal.main (F := Ideal))) ⟨m, fun _ => 0, g⟩ (fun r => ∀ c : Dev Cert.SbAttnIdeal.nD,
          r.2.mem ((c.tc : Thread Cert.SbAttnIdeal.nD Cert.SbAttnIdeal.τ).loc Cert.SbAttnIdeal.main_v3_0) = v0 c
          ∧ r.2.mem ((c.tc : Thread Cert.SbAttnIdeal.nD Cert.SbAttnIdeal.τ).loc Cert.SbAttnIdeal.main_v3_1) = v1 c
          ∧ r.2.mem ((c.tc : Thread Cert.SbAttnIdeal.nD Cert.SbAttnIdeal.τ).loc Cert.SbAttnIdeal.main_arg0) = m ((c.tc : Thread Cert.SbAttnIdeal.nD Cert.SbAttnIdeal.τ).loc Cert.SbAttnIdeal.main_arg0)
          ∧ r.2.mem ((c.tc : Thread Cert.SbAttnIdeal.nD Cert.SbAttnIdeal.τ).loc Cert.SbAttnIdeal.main_arg1) = m ((c.tc : Thread Cert.SbAttnIdeal.nD Cert.SbAttnIdeal.τ).loc Cert.SbAttnIdeal.main_arg1)
          ∧ r.2.mem ((c.tc : Thread Cert.SbAttnIdeal.nD Cert.SbAttnIdeal.τ).loc Cert.SbAttnIdeal.main_arg2) = m ((c.tc : Thread Cert.SbAttnIdeal.nD Cert.SbAttnIdeal.τ).loc Cert.SbAttnIdeal.main_arg2))
      ∧ θ_run (Cert.SbAttnRefIdeal.defs (F := Ideal)) (onTc (τ := Cert.SbAttnRefIdeal.τ) (Cert.SbAttnRefIdeal.main (F := Ideal))) ⟨m', fun _ => 0, g'⟩ (fun r => ∀ c : Dev Cert.SbAttnRefIdeal.nD,
          r.2.mem ((c.tc : Thread Cert.SbAttnRefIdeal.nD Cert.SbAttnRefIdeal.τ).loc Cert.SbAttnRefIdeal.main_v30) = v0 c
          ∧ r.2.mem ((c.tc : Thread Cert.SbAttnRefIdeal.nD Cert.SbAttnRefIdeal.τ).loc Cert.SbAttnRefIdeal.main_v29) = v1 c
          ∧ r.2.mem ((c.tc : Thread Cert.SbAttnRefIdeal.nD Cert.SbAttnRefIdeal.τ).loc Cert.SbAttnRefIdeal.main_arg0) = m' ((c.tc : Thread Cert.SbAttnRefIdeal.nD Cert.SbAttnRefIdeal.τ).loc Cert.SbAttnRefIdeal.main_arg0)
          ∧ r.2.mem ((c.tc : Thread Cert.SbAttnRefIdeal.nD Cert.SbAttnRefIdeal.τ).loc Cert.SbAttnRefIdeal.main_arg1) = m' ((c.tc : Thread Cert.SbAttnRefIdeal.nD Cert.SbAttnRefIdeal.τ).loc Cert.SbAttnRefIdeal.main_arg1)
          ∧ r.2.mem ((c.tc : Thread Cert.SbAttnRefIdeal.nD Cert.SbAttnRefIdeal.τ).loc Cert.SbAttnRefIdeal.main_arg2) = m' ((c.tc : Thread Cert.SbAttnRefIdeal.nD Cert.SbAttnRefIdeal.τ).loc Cert.SbAttnRefIdeal.main_arg2))

def preserves_Conv_ConvIdeal : Prop :=
  True

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_SwiFwd_SwiFwdIdeal : Prop :=
  True

def algebraic_SwiFwdIdeal_SwiFwdRefIdeal [hSwiFwdIdeal : Cert.SwiFwdIdeal.Facts] [hSwiFwdRefIdeal : Cert.SwiFwdRefIdeal.Facts] : Prop :=
  ∀ (m : (ℓ : Loc Cert.SwiFwdIdeal.nD Cert.SwiFwdIdeal.τ Cert.SwiFwdIdeal.sig) → Buf (Elt Ideal) ℓ) (g : Dev Cert.SwiFwdIdeal.nD → PrngReg)
    (m' : (ℓ : Loc Cert.SwiFwdRefIdeal.nD Cert.SwiFwdRefIdeal.τ Cert.SwiFwdRefIdeal.sig) → Buf (Elt Ideal) ℓ) (g' : Dev Cert.SwiFwdRefIdeal.nD → PrngReg), Pre_SwiFwdIdeal m →
    (∀ c : Dev Cert.SwiFwdIdeal.nD,
      m' ((c.tc : Thread Cert.SwiFwdRefIdeal.nD Cert.SwiFwdRefIdeal.τ).loc Cert.SwiFwdRefIdeal.main_arg0) = m ((c.tc : Thread Cert.SwiFwdIdeal.nD Cert.SwiFwdIdeal.τ).loc Cert.SwiFwdIdeal.main_arg0)
      ∧ m' ((c.tc : Thread Cert.SwiFwdRefIdeal.nD Cert.SwiFwdRefIdeal.τ).loc Cert.SwiFwdRefIdeal.main_arg1) = m ((c.tc : Thread Cert.SwiFwdIdeal.nD Cert.SwiFwdIdeal.τ).loc Cert.SwiFwdIdeal.main_arg1)) →
    ∃ (v0 : (c : Dev Cert.SwiFwdIdeal.nD) → Buf (Elt Ideal) ((c.tc : Thread Cert.SwiFwdIdeal.nD Cert.SwiFwdIdeal.τ).loc Cert.SwiFwdIdeal.main_v3_0)) (v1 : (c : Dev Cert.SwiFwdIdeal.nD) → Buf (Elt Ideal) ((c.tc : Thread Cert.SwiFwdIdeal.nD Cert.SwiFwdIdeal.τ).loc Cert.SwiFwdIdeal.main_v3_1)) (v2 : (c : Dev Cert.SwiFwdIdeal.nD) → Buf (Elt Ideal) ((c.tc : Thread Cert.SwiFwdIdeal.nD Cert.SwiFwdIdeal.τ).loc Cert.SwiFwdIdeal.main_v3_2)),
      θ_run (Cert.SwiFwdIdeal.defs (F := Ideal)) (onTc (τ := Cert.SwiFwdIdeal.τ) (Cert.SwiFwdIdeal.main (F := Ideal))) ⟨m, fun _ => 0, g⟩ (fun r => ∀ c : Dev Cert.SwiFwdIdeal.nD,
          r.2.mem ((c.tc : Thread Cert.SwiFwdIdeal.nD Cert.SwiFwdIdeal.τ).loc Cert.SwiFwdIdeal.main_v3_0) = v0 c
          ∧ r.2.mem ((c.tc : Thread Cert.SwiFwdIdeal.nD Cert.SwiFwdIdeal.τ).loc Cert.SwiFwdIdeal.main_v3_1) = v1 c
          ∧ r.2.mem ((c.tc : Thread Cert.SwiFwdIdeal.nD Cert.SwiFwdIdeal.τ).loc Cert.SwiFwdIdeal.main_v3_2) = v2 c
          ∧ r.2.mem ((c.tc : Thread Cert.SwiFwdIdeal.nD Cert.SwiFwdIdeal.τ).loc Cert.SwiFwdIdeal.main_arg0) = m ((c.tc : Thread Cert.SwiFwdIdeal.nD Cert.SwiFwdIdeal.τ).loc Cert.SwiFwdIdeal.main_arg0)
          ∧ r.2.mem ((c.tc : Thread Cert.SwiFwdIdeal.nD Cert.SwiFwdIdeal.τ).loc Cert.SwiFwdIdeal.main_arg1) = m ((c.tc : Thread Cert.SwiFwdIdeal.nD Cert.SwiFwdIdeal.τ).loc Cert.SwiFwdIdeal.main_arg1))
      ∧ θ_run (Cert.SwiFwdRefIdeal.defs (F := Ideal)) (onTc (τ := Cert.SwiFwdRefIdeal.τ) (Cert.SwiFwdRefIdeal.main (F := Ideal))) ⟨m', fun _ => 0, g'⟩ (fun r => ∀ c : Dev Cert.SwiFwdRefIdeal.nD,
          r.2.mem ((c.tc : Thread Cert.SwiFwdRefIdeal.nD Cert.SwiFwdRefIdeal.τ).loc Cert.SwiFwdRefIdeal.main_v5) = v0 c
          ∧ r.2.mem ((c.tc : Thread Cert.SwiFwdRefIdeal.nD Cert.SwiFwdRefIdeal.τ).loc Cert.SwiFwdRefIdeal.main_v6) = v1 c
          ∧ r.2.mem ((c.tc : Thread Cert.SwiFwdRefIdeal.nD Cert.SwiFwdRefIdeal.τ).loc Cert.SwiFwdRefIdeal.main_v7) = v2 c
          ∧ r.2.mem ((c.tc : Thread Cert.SwiFwdRefIdeal.nD Cert.SwiFwdRefIdeal.τ).loc Cert.SwiFwdRefIdeal.main_arg0) = m' ((c.tc : Thread Cert.SwiFwdRefIdeal.nD Cert.SwiFwdRefIdeal.τ).loc Cert.SwiFwdRefIdeal.main_arg0)
          ∧ r.2.mem ((c.tc : Thread Cert.SwiFwdRefIdeal.nD Cert.SwiFwdRefIdeal.τ).loc Cert.SwiFwdRefIdeal.main_arg1) = m' ((c.tc : Thread Cert.SwiFwdRefIdeal.nD Cert.SwiFwdRefIdeal.τ).loc Cert.SwiFwdRefIdeal.main_arg1))

def preserves_GatesFwd_GatesFwdIdeal : Prop :=
  True

def algebraic_GatesFwdIdeal_GatesFwdRefIdeal [hGatesFwdIdeal : Cert.GatesFwdIdeal.Facts] [hGatesFwdRefIdeal : Cert.GatesFwdRefIdeal.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg)
    (m' : (ℓ : Loc Cert.GatesFwdRefIdeal.nD Cert.GatesFwdRefIdeal.τ Cert.GatesFwdRefIdeal.sig) → Buf (Elt Ideal) ℓ) (g' : Dev Cert.GatesFwdRefIdeal.nD → PrngReg), Pre_GatesFwdIdeal m →
    (∀ c : Dev Cert.GatesFwdIdeal.nD,
      m' ((c.tc : Thread Cert.GatesFwdRefIdeal.nD Cert.GatesFwdRefIdeal.τ).loc Cert.GatesFwdRefIdeal.main_arg0) = m ((c.tc : Thread Cert.GatesFwdIdeal.nD Cert.GatesFwdIdeal.τ).loc Cert.GatesFwdIdeal.main_arg0)
      ∧ m' ((c.tc : Thread Cert.GatesFwdRefIdeal.nD Cert.GatesFwdRefIdeal.τ).loc Cert.GatesFwdRefIdeal.main_arg1) = m ((c.tc : Thread Cert.GatesFwdIdeal.nD Cert.GatesFwdIdeal.τ).loc Cert.GatesFwdIdeal.main_arg1)
      ∧ m' ((c.tc : Thread Cert.GatesFwdRefIdeal.nD Cert.GatesFwdRefIdeal.τ).loc Cert.GatesFwdRefIdeal.main_arg2) = m ((c.tc : Thread Cert.GatesFwdIdeal.nD Cert.GatesFwdIdeal.τ).loc Cert.GatesFwdIdeal.main_arg2)) →
    ∃ (v0 : (c : Dev Cert.GatesFwdIdeal.nD) → Buf (Elt Ideal) ((c.tc : Thread Cert.GatesFwdIdeal.nD Cert.GatesFwdIdeal.τ).loc Cert.GatesFwdIdeal.main_v5)),
      θ_run (Cert.GatesFwdIdeal.defs (F := Ideal)) (onTc (τ := Cert.GatesFwdIdeal.τ) (Cert.GatesFwdIdeal.main (F := Ideal))) ⟨m, fun _ => 0, g⟩ (fun r => ∀ c : Dev Cert.GatesFwdIdeal.nD,
          r.2.mem ((c.tc : Thread Cert.GatesFwdIdeal.nD Cert.GatesFwdIdeal.τ).loc Cert.GatesFwdIdeal.main_v5) = v0 c
          ∧ r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
          ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1)
          ∧ r.2.mem ((c.tc : Thread Cert.GatesFwdIdeal.nD Cert.GatesFwdIdeal.τ).loc Cert.GatesFwdIdeal.main_arg2) = m ((c.tc : Thread Cert.GatesFwdIdeal.nD Cert.GatesFwdIdeal.τ).loc Cert.GatesFwdIdeal.main_arg2))
      ∧ θ_run (Cert.GatesFwdRefIdeal.defs (F := Ideal)) (onTc (τ := Cert.GatesFwdRefIdeal.τ) (Cert.GatesFwdRefIdeal.main (F := Ideal))) ⟨m', fun _ => 0, g'⟩ (fun r => ∀ c : Dev Cert.GatesFwdRefIdeal.nD,
          r.2.mem ((c.tc : Thread Cert.GatesFwdRefIdeal.nD Cert.GatesFwdRefIdeal.τ).loc Cert.GatesFwdRefIdeal.main_v18) = v0 c
          ∧ r.2.mem ((c.tc : Thread Cert.GatesFwdRefIdeal.nD Cert.GatesFwdRefIdeal.τ).loc Cert.GatesFwdRefIdeal.main_arg0) = m' ((c.tc : Thread Cert.GatesFwdRefIdeal.nD Cert.GatesFwdRefIdeal.τ).loc Cert.GatesFwdRefIdeal.main_arg0)
          ∧ r.2.mem ((c.tc : Thread Cert.GatesFwdRefIdeal.nD Cert.GatesFwdRefIdeal.τ).loc Cert.GatesFwdRefIdeal.main_arg1) = m' ((c.tc : Thread Cert.GatesFwdRefIdeal.nD Cert.GatesFwdRefIdeal.τ).loc Cert.GatesFwdRefIdeal.main_arg1)
          ∧ r.2.mem ((c.tc : Thread Cert.GatesFwdRefIdeal.nD Cert.GatesFwdRefIdeal.τ).loc Cert.GatesFwdRefIdeal.main_arg2) = m' ((c.tc : Thread Cert.GatesFwdRefIdeal.nD Cert.GatesFwdRefIdeal.τ).loc Cert.GatesFwdRefIdeal.main_arg2))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)
      ∧ m' ((c.tc : Thread Cert.PleFwdRefIdeal.nD Cert.PleFwdRefIdeal.τ).loc Cert.PleFwdRefIdeal.main_arg3) = m ((c.tc : Thread Cert.PleFwdIdeal.nD Cert.PleFwdIdeal.τ).loc Cert.PleFwdIdeal.main_arg3)
      ∧ m' ((c.tc : Thread Cert.PleFwdRefIdeal.nD Cert.PleFwdRefIdeal.τ).loc Cert.PleFwdRefIdeal.main_arg4) = m ((c.tc : Thread Cert.PleFwdIdeal.nD Cert.PleFwdIdeal.τ).loc Cert.PleFwdIdeal.main_arg4)
      ∧ m' ((c.tc : Thread Cert.PleFwdRefIdeal.nD Cert.PleFwdRefIdeal.τ).loc Cert.PleFwdRefIdeal.main_arg5) = m ((c.tc : Thread Cert.PleFwdIdeal.nD Cert.PleFwdIdeal.τ).loc Cert.PleFwdIdeal.main_arg5)) →
    ∃ (v0 : (c : Dev Cert.PleFwdIdeal.nD) → Buf (Elt Ideal) ((c.tc : Thread Cert.PleFwdIdeal.nD Cert.PleFwdIdeal.τ).loc Cert.PleFwdIdeal.main_v6_0)) (v1 : (c : Dev Cert.PleFwdIdeal.nD) → Buf (Elt Ideal) ((c.tc : Thread Cert.PleFwdIdeal.nD Cert.PleFwdIdeal.τ).loc Cert.PleFwdIdeal.main_v6_1)) (v2 : (c : Dev Cert.PleFwdIdeal.nD) → Buf (Elt Ideal) ((c.tc : Thread Cert.PleFwdIdeal.nD Cert.PleFwdIdeal.τ).loc Cert.PleFwdIdeal.main_v6_2)) (v3 : (c : Dev Cert.PleFwdIdeal.nD) → Buf (Elt Ideal) ((c.tc : Thread Cert.PleFwdIdeal.nD Cert.PleFwdIdeal.τ).loc Cert.PleFwdIdeal.main_v6_3)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v6_0) = v0 c
          ∧ r.2.mem ((c.tc : Thread Cert.PleFwdIdeal.nD Cert.PleFwdIdeal.τ).loc Cert.PleFwdIdeal.main_v6_1) = v1 c
          ∧ r.2.mem ((c.tc : Thread Cert.PleFwdIdeal.nD Cert.PleFwdIdeal.τ).loc Cert.PleFwdIdeal.main_v6_2) = v2 c
          ∧ r.2.mem ((c.tc : Thread Cert.PleFwdIdeal.nD Cert.PleFwdIdeal.τ).loc Cert.PleFwdIdeal.main_v6_3) = v3 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
          ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4)
          ∧ r.2.mem ((c.tc : Thread Cert.PleFwdIdeal.nD Cert.PleFwdIdeal.τ).loc Cert.PleFwdIdeal.main_arg5) = m ((c.tc : Thread Cert.PleFwdIdeal.nD Cert.PleFwdIdeal.τ).loc Cert.PleFwdIdeal.main_arg5))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v9) = v0 c
          ∧ r.2.mem ((c.tc : Thread Cert.PleFwdRefIdeal.nD Cert.PleFwdRefIdeal.τ).loc Cert.PleFwdRefIdeal.main_v10) = v1 c
          ∧ r.2.mem ((c.tc : Thread Cert.PleFwdRefIdeal.nD Cert.PleFwdRefIdeal.τ).loc Cert.PleFwdRefIdeal.main_v11) = v2 c
          ∧ r.2.mem ((c.tc : Thread Cert.PleFwdRefIdeal.nD Cert.PleFwdRefIdeal.τ).loc Cert.PleFwdRefIdeal.main_v25) = v3 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2)
          ∧ r.2.mem ((c.tc : Thread Cert.PleFwdRefIdeal.nD Cert.PleFwdRefIdeal.τ).loc Cert.PleFwdRefIdeal.main_arg3) = m' ((c.tc : Thread Cert.PleFwdRefIdeal.nD Cert.PleFwdRefIdeal.τ).loc Cert.PleFwdRefIdeal.main_arg3)
          ∧ r.2.mem ((c.tc : Thread Cert.PleFwdRefIdeal.nD Cert.PleFwdRefIdeal.τ).loc Cert.PleFwdRefIdeal.main_arg4) = m' ((c.tc : Thread Cert.PleFwdRefIdeal.nD Cert.PleFwdRefIdeal.τ).loc Cert.PleFwdRefIdeal.main_arg4)
          ∧ r.2.mem ((c.tc : Thread Cert.PleFwdRefIdeal.nD Cert.PleFwdRefIdeal.τ).loc Cert.PleFwdRefIdeal.main_arg5) = m' ((c.tc : Thread Cert.PleFwdRefIdeal.nD Cert.PleFwdRefIdeal.τ).loc Cert.PleFwdRefIdeal.main_arg5))

def preserves_QNormFwd_QNormFwdIdeal : Prop :=
  True

def algebraic_QNormFwdIdeal_QNormFwdRefIdeal [hQNormFwdIdeal : Cert.QNormFwdIdeal.Facts] [hQNormFwdRefIdeal : Cert.QNormFwdRefIdeal.Facts] : Prop :=
  ∀ (m : (ℓ : Loc Cert.QNormFwdIdeal.nD Cert.QNormFwdIdeal.τ Cert.QNormFwdIdeal.sig) → Buf (Elt Ideal) ℓ) (g : Dev Cert.QNormFwdIdeal.nD → PrngReg)
    (m' : (ℓ : Loc Cert.QNormFwdRefIdeal.nD Cert.QNormFwdRefIdeal.τ Cert.QNormFwdRefIdeal.sig) → Buf (Elt Ideal) ℓ) (g' : Dev Cert.QNormFwdRefIdeal.nD → PrngReg), Pre_QNormFwdIdeal m →
    (∀ c : Dev Cert.QNormFwdIdeal.nD,
      m' ((c.tc : Thread Cert.QNormFwdRefIdeal.nD Cert.QNormFwdRefIdeal.τ).loc Cert.QNormFwdRefIdeal.main_arg0) = m ((c.tc : Thread Cert.QNormFwdIdeal.nD Cert.QNormFwdIdeal.τ).loc Cert.QNormFwdIdeal.main_arg0)
      ∧ m' ((c.tc : Thread Cert.QNormFwdRefIdeal.nD Cert.QNormFwdRefIdeal.τ).loc Cert.QNormFwdRefIdeal.main_arg1) = m ((c.tc : Thread Cert.QNormFwdIdeal.nD Cert.QNormFwdIdeal.τ).loc Cert.QNormFwdIdeal.main_arg1)) →
    ∃ (v0 : (c : Dev Cert.QNormFwdIdeal.nD) → Buf (Elt Ideal) ((c.tc : Thread Cert.QNormFwdIdeal.nD Cert.QNormFwdIdeal.τ).loc Cert.QNormFwdIdeal.main_v1)),
      θ_run (Cert.QNormFwdIdeal.defs (F := Ideal)) (onTc (τ := Cert.QNormFwdIdeal.τ) (Cert.QNormFwdIdeal.main (F := Ideal))) ⟨m, fun _ => 0, g⟩ (fun r => ∀ c : Dev Cert.QNormFwdIdeal.nD,
          r.2.mem ((c.tc : Thread Cert.QNormFwdIdeal.nD Cert.QNormFwdIdeal.τ).loc Cert.QNormFwdIdeal.main_v1) = v0 c
          ∧ r.2.mem ((c.tc : Thread Cert.QNormFwdIdeal.nD Cert.QNormFwdIdeal.τ).loc Cert.QNormFwdIdeal.main_arg0) = m ((c.tc : Thread Cert.QNormFwdIdeal.nD Cert.QNormFwdIdeal.τ).loc Cert.QNormFwdIdeal.main_arg0)
          ∧ r.2.mem ((c.tc : Thread Cert.QNormFwdIdeal.nD Cert.QNormFwdIdeal.τ).loc Cert.QNormFwdIdeal.main_arg1) = m ((c.tc : Thread Cert.QNormFwdIdeal.nD Cert.QNormFwdIdeal.τ).loc Cert.QNormFwdIdeal.main_arg1))
      ∧ θ_run (Cert.QNormFwdRefIdeal.defs (F := Ideal)) (onTc (τ := Cert.QNormFwdRefIdeal.τ) (Cert.QNormFwdRefIdeal.main (F := Ideal))) ⟨m', fun _ => 0, g'⟩ (fun r => ∀ c : Dev Cert.QNormFwdRefIdeal.nD,
          r.2.mem ((c.tc : Thread Cert.QNormFwdRefIdeal.nD Cert.QNormFwdRefIdeal.τ).loc Cert.QNormFwdRefIdeal.main_v17) = v0 c
          ∧ r.2.mem ((c.tc : Thread Cert.QNormFwdRefIdeal.nD Cert.QNormFwdRefIdeal.τ).loc Cert.QNormFwdRefIdeal.main_arg0) = m' ((c.tc : Thread Cert.QNormFwdRefIdeal.nD Cert.QNormFwdRefIdeal.τ).loc Cert.QNormFwdRefIdeal.main_arg0)
          ∧ r.2.mem ((c.tc : Thread Cert.QNormFwdRefIdeal.nD Cert.QNormFwdRefIdeal.τ).loc Cert.QNormFwdRefIdeal.main_arg1) = m' ((c.tc : Thread Cert.QNormFwdRefIdeal.nD Cert.QNormFwdRefIdeal.τ).loc Cert.QNormFwdRefIdeal.main_arg1))

def preserves_OutNormFwd_OutNormFwdIdeal : Prop :=
  True

def algebraic_OutNormFwdIdeal_OutNormFwdRefIdeal [hOutNormFwdIdeal : Cert.OutNormFwdIdeal.Facts] [hOutNormFwdRefIdeal : Cert.OutNormFwdRefIdeal.Facts] : Prop :=
  ∀ (m : (ℓ : Loc Cert.OutNormFwdIdeal.nD Cert.OutNormFwdIdeal.τ Cert.OutNormFwdIdeal.sig) → Buf (Elt Ideal) ℓ) (g : Dev Cert.OutNormFwdIdeal.nD → PrngReg)
    (m' : (ℓ : Loc Cert.OutNormFwdRefIdeal.nD Cert.OutNormFwdRefIdeal.τ Cert.OutNormFwdRefIdeal.sig) → Buf (Elt Ideal) ℓ) (g' : Dev Cert.OutNormFwdRefIdeal.nD → PrngReg), Pre_OutNormFwdIdeal m →
    (∀ c : Dev Cert.OutNormFwdIdeal.nD,
      m' ((c.tc : Thread Cert.OutNormFwdRefIdeal.nD Cert.OutNormFwdRefIdeal.τ).loc Cert.OutNormFwdRefIdeal.main_arg0) = m ((c.tc : Thread Cert.OutNormFwdIdeal.nD Cert.OutNormFwdIdeal.τ).loc Cert.OutNormFwdIdeal.main_arg0)
      ∧ m' ((c.tc : Thread Cert.OutNormFwdRefIdeal.nD Cert.OutNormFwdRefIdeal.τ).loc Cert.OutNormFwdRefIdeal.main_arg1) = m ((c.tc : Thread Cert.OutNormFwdIdeal.nD Cert.OutNormFwdIdeal.τ).loc Cert.OutNormFwdIdeal.main_arg1)
      ∧ m' ((c.tc : Thread Cert.OutNormFwdRefIdeal.nD Cert.OutNormFwdRefIdeal.τ).loc Cert.OutNormFwdRefIdeal.main_arg2) = m ((c.tc : Thread Cert.OutNormFwdIdeal.nD Cert.OutNormFwdIdeal.τ).loc Cert.OutNormFwdIdeal.main_arg2)) →
    ∃ (v0 : (c : Dev Cert.OutNormFwdIdeal.nD) → Buf (Elt Ideal) ((c.tc : Thread Cert.OutNormFwdIdeal.nD Cert.OutNormFwdIdeal.τ).loc Cert.OutNormFwdIdeal.main_v2)),
      θ_run (Cert.OutNormFwdIdeal.defs (F := Ideal)) (onTc (τ := Cert.OutNormFwdIdeal.τ) (Cert.OutNormFwdIdeal.main (F := Ideal))) ⟨m, fun _ => 0, g⟩ (fun r => ∀ c : Dev Cert.OutNormFwdIdeal.nD,
          r.2.mem ((c.tc : Thread Cert.OutNormFwdIdeal.nD Cert.OutNormFwdIdeal.τ).loc Cert.OutNormFwdIdeal.main_v2) = v0 c
          ∧ r.2.mem ((c.tc : Thread Cert.OutNormFwdIdeal.nD Cert.OutNormFwdIdeal.τ).loc Cert.OutNormFwdIdeal.main_arg0) = m ((c.tc : Thread Cert.OutNormFwdIdeal.nD Cert.OutNormFwdIdeal.τ).loc Cert.OutNormFwdIdeal.main_arg0)
          ∧ r.2.mem ((c.tc : Thread Cert.OutNormFwdIdeal.nD Cert.OutNormFwdIdeal.τ).loc Cert.OutNormFwdIdeal.main_arg1) = m ((c.tc : Thread Cert.OutNormFwdIdeal.nD Cert.OutNormFwdIdeal.τ).loc Cert.OutNormFwdIdeal.main_arg1)
          ∧ r.2.mem ((c.tc : Thread Cert.OutNormFwdIdeal.nD Cert.OutNormFwdIdeal.τ).loc Cert.OutNormFwdIdeal.main_arg2) = m ((c.tc : Thread Cert.OutNormFwdIdeal.nD Cert.OutNormFwdIdeal.τ).loc Cert.OutNormFwdIdeal.main_arg2))
      ∧ θ_run (Cert.OutNormFwdRefIdeal.defs (F := Ideal)) (onTc (τ := Cert.OutNormFwdRefIdeal.τ) (Cert.OutNormFwdRefIdeal.main (F := Ideal))) ⟨m', fun _ => 0, g'⟩ (fun r => ∀ c : Dev Cert.OutNormFwdRefIdeal.nD,
          r.2.mem ((c.tc : Thread Cert.OutNormFwdRefIdeal.nD Cert.OutNormFwdRefIdeal.τ).loc Cert.OutNormFwdRefIdeal.main_v18) = v0 c
          ∧ r.2.mem ((c.tc : Thread Cert.OutNormFwdRefIdeal.nD Cert.OutNormFwdRefIdeal.τ).loc Cert.OutNormFwdRefIdeal.main_arg0) = m' ((c.tc : Thread Cert.OutNormFwdRefIdeal.nD Cert.OutNormFwdRefIdeal.τ).loc Cert.OutNormFwdRefIdeal.main_arg0)
          ∧ r.2.mem ((c.tc : Thread Cert.OutNormFwdRefIdeal.nD Cert.OutNormFwdRefIdeal.τ).loc Cert.OutNormFwdRefIdeal.main_arg1) = m' ((c.tc : Thread Cert.OutNormFwdRefIdeal.nD Cert.OutNormFwdRefIdeal.τ).loc Cert.OutNormFwdRefIdeal.main_arg1)
          ∧ r.2.mem ((c.tc : Thread Cert.OutNormFwdRefIdeal.nD Cert.OutNormFwdRefIdeal.τ).loc Cert.OutNormFwdRefIdeal.main_arg2) = m' ((c.tc : Thread Cert.OutNormFwdRefIdeal.nD Cert.OutNormFwdRefIdeal.τ).loc Cert.OutNormFwdRefIdeal.main_arg2))

def Claim : Prop :=
  ∃ (hLoss : Cert.Loss.Facts) (hLossIdeal : Cert.LossIdeal.Facts) (hLossRefIdeal : Cert.LossRefIdeal.Facts) (hPle : Cert.Ple.Facts) (hPleIdeal : Cert.PleIdeal.Facts) (hPleRefIdeal : Cert.PleRefIdeal.Facts) (hGates : Cert.Gates.Facts) (hGatesIdeal : Cert.GatesIdeal.Facts) (hGatesRefIdeal : Cert.GatesRefIdeal.Facts) (hQNorm : Cert.QNorm.Facts) (hQNormIdeal : Cert.QNormIdeal.Facts) (hQNormRefIdeal : Cert.QNormRefIdeal.Facts) (hKvGrad : Cert.KvGrad.Facts) (hKvGradIdeal : Cert.KvGradIdeal.Facts) (hKvGradRefIdeal : Cert.KvGradRefIdeal.Facts) (hOutNorm : Cert.OutNorm.Facts) (hOutNormIdeal : Cert.OutNormIdeal.Facts) (hOutNormRefIdeal : Cert.OutNormRefIdeal.Facts) (hSwi : Cert.Swi.Facts) (hSwiIdeal : Cert.SwiIdeal.Facts) (hSwiRefIdeal : Cert.SwiRefIdeal.Facts) (hPleDx : Cert.PleDx.Facts) (hPleDxIdeal : Cert.PleDxIdeal.Facts) (hPleDxRefIdeal : Cert.PleDxRefIdeal.Facts) (hFfnDx : Cert.FfnDx.Facts) (hFfnDxIdeal : Cert.FfnDxIdeal.Facts) (hFfnDxRefIdeal : Cert.FfnDxRefIdeal.Facts) (hGdnDx : Cert.GdnDx.Facts) (hGdnDxIdeal : Cert.GdnDxIdeal.Facts) (hGdnDxRefIdeal : Cert.GdnDxRefIdeal.Facts) (hKvDx : Cert.KvDx.Facts) (hKvDxIdeal : Cert.KvDxIdeal.Facts) (hKvDxRefIdeal : Cert.KvDxRefIdeal.Facts) (hSbQDx : Cert.SbQDx.Facts) (hSbQDxIdeal : Cert.SbQDxIdeal.Facts) (hSbQDxRefIdeal : Cert.SbQDxRefIdeal.Facts) (hSb : Cert.Sb.Facts) (hSbIdeal : Cert.SbIdeal.Facts) (hSbRefIdeal : Cert.SbRefIdeal.Facts) (hSbAttn : Cert.SbAttn.Facts) (hSbAttnIdeal : Cert.SbAttnIdeal.Facts) (hSbAttnRefIdeal : Cert.SbAttnRefIdeal.Facts) (hConv : Cert.Conv.Facts) (hConvIdeal : Cert.ConvIdeal.Facts) (hConvRefIdeal : Cert.ConvRefIdeal.Facts) (hRmsFwd : Cert.RmsFwd.Facts) (hRmsFwdIdeal : Cert.RmsFwdIdeal.Facts) (hRmsFwdRefIdeal : Cert.RmsFwdRefIdeal.Facts) (hSwiFwd : Cert.SwiFwd.Facts) (hSwiFwdIdeal : Cert.SwiFwdIdeal.Facts) (hSwiFwdRefIdeal : Cert.SwiFwdRefIdeal.Facts) (hGatesFwd : Cert.GatesFwd.Facts) (hGatesFwdIdeal : Cert.GatesFwdIdeal.Facts) (hGatesFwdRefIdeal : Cert.GatesFwdRefIdeal.Facts) (hPleFwd : Cert.PleFwd.Facts) (hPleFwdIdeal : Cert.PleFwdIdeal.Facts) (hPleFwdRefIdeal : Cert.PleFwdRefIdeal.Facts) (hQNormFwd : Cert.QNormFwd.Facts) (hQNormFwdIdeal : Cert.QNormFwdIdeal.Facts) (hQNormFwdRefIdeal : Cert.QNormFwdRefIdeal.Facts) (hOutNormFwd : Cert.OutNormFwd.Facts) (hOutNormFwdIdeal : Cert.OutNormFwdIdeal.Facts) (hOutNormFwdRefIdeal : Cert.OutNormFwdRefIdeal.Facts) (hPre_finite_gates : Cert.Pre_finite_gates.Facts) (hPre_finite_hng : Cert.Pre_finite_hng.Facts) (hPre_finite_swi : Cert.Pre_finite_swi.Facts) (hPre_finite_sb : Cert.Pre_finite_sb.Facts) (hPre_finite_sbf : Cert.Pre_finite_sbf.Facts) (hOn_written_hng : Cert.On_written_hng.Facts),
    quiescent_Loss (hLoss := hLoss)
    ∧ quiescent_LossIdeal (hLossIdeal := hLossIdeal)
    ∧ quiescent_LossRefIdeal (hLossRefIdeal := hLossRefIdeal)
    ∧ quiescent_Ple (hPle := hPle)
    ∧ quiescent_PleIdeal (hPleIdeal := hPleIdeal)
    ∧ quiescent_PleRefIdeal (hPleRefIdeal := hPleRefIdeal)
    ∧ quiescent_Gates (hGates := hGates)
    ∧ quiescent_GatesIdeal (hGatesIdeal := hGatesIdeal)
    ∧ quiescent_GatesIdeal_pre_finite_gates (hGatesIdeal := hGatesIdeal) (hPre_finite_gates := hPre_finite_gates)
    ∧ quiescent_GatesRefIdeal (hGatesRefIdeal := hGatesRefIdeal)
    ∧ quiescent_GatesRefIdeal_pre_finite_gates (hGatesRefIdeal := hGatesRefIdeal) (hPre_finite_gates := hPre_finite_gates)
    ∧ quiescent_QNorm (hQNorm := hQNorm)
    ∧ quiescent_QNormIdeal (hQNormIdeal := hQNormIdeal)
    ∧ quiescent_QNormRefIdeal (hQNormRefIdeal := hQNormRefIdeal)
    ∧ quiescent_KvGrad (hKvGrad := hKvGrad)
    ∧ quiescent_KvGradIdeal (hKvGradIdeal := hKvGradIdeal)
    ∧ quiescent_KvGradRefIdeal (hKvGradRefIdeal := hKvGradRefIdeal)
    ∧ quiescent_OutNorm (hOutNorm := hOutNorm)
    ∧ quiescent_OutNormIdeal (hOutNormIdeal := hOutNormIdeal)
    ∧ quiescent_OutNormIdeal_pre_finite_hng (hOutNormIdeal := hOutNormIdeal) (hPre_finite_hng := hPre_finite_hng)
    ∧ quiescent_OutNormRefIdeal (hOutNormRefIdeal := hOutNormRefIdeal)
    ∧ quiescent_OutNormRefIdeal_pre_finite_hng (hOutNormRefIdeal := hOutNormRefIdeal) (hPre_finite_hng := hPre_finite_hng)
    ∧ quiescent_Swi (hSwi := hSwi)
    ∧ quiescent_SwiIdeal (hSwiIdeal := hSwiIdeal)
    ∧ quiescent_SwiIdeal_pre_finite_swi (hSwiIdeal := hSwiIdeal) (hPre_finite_swi := hPre_finite_swi)
    ∧ quiescent_SwiRefIdeal (hSwiRefIdeal := hSwiRefIdeal)
    ∧ quiescent_SwiRefIdeal_pre_finite_swi (hSwiRefIdeal := hSwiRefIdeal) (hPre_finite_swi := hPre_finite_swi)
    ∧ quiescent_PleDx (hPleDx := hPleDx)
    ∧ quiescent_PleDxIdeal (hPleDxIdeal := hPleDxIdeal)
    ∧ quiescent_PleDxRefIdeal (hPleDxRefIdeal := hPleDxRefIdeal)
    ∧ quiescent_FfnDx (hFfnDx := hFfnDx)
    ∧ quiescent_FfnDxIdeal (hFfnDxIdeal := hFfnDxIdeal)
    ∧ quiescent_FfnDxRefIdeal (hFfnDxRefIdeal := hFfnDxRefIdeal)
    ∧ quiescent_GdnDx (hGdnDx := hGdnDx)
    ∧ quiescent_GdnDxIdeal (hGdnDxIdeal := hGdnDxIdeal)
    ∧ quiescent_GdnDxRefIdeal (hGdnDxRefIdeal := hGdnDxRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_SbQDx (hSbQDx := hSbQDx)
    ∧ quiescent_SbQDxIdeal (hSbQDxIdeal := hSbQDxIdeal)
    ∧ quiescent_SbQDxRefIdeal (hSbQDxRefIdeal := hSbQDxRefIdeal)
    ∧ quiescent_Sb (hSb := hSb)
    ∧ quiescent_SbIdeal (hSbIdeal := hSbIdeal)
    ∧ quiescent_SbIdeal_pre_finite_sb (hSbIdeal := hSbIdeal) (hPre_finite_sb := hPre_finite_sb)
    ∧ quiescent_SbRefIdeal (hSbRefIdeal := hSbRefIdeal)
    ∧ quiescent_SbRefIdeal_pre_finite_sb (hSbRefIdeal := hSbRefIdeal) (hPre_finite_sb := hPre_finite_sb)
    ∧ quiescent_SbAttn (hSbAttn := hSbAttn)
    ∧ quiescent_SbAttnIdeal (hSbAttnIdeal := hSbAttnIdeal)
    ∧ quiescent_SbAttnIdeal_pre_finite_sbf (hSbAttnIdeal := hSbAttnIdeal) (hPre_finite_sbf := hPre_finite_sbf)
    ∧ quiescent_SbAttnRefIdeal (hSbAttnRefIdeal := hSbAttnRefIdeal)
    ∧ quiescent_SbAttnRefIdeal_pre_finite_sbf (hSbAttnRefIdeal := hSbAttnRefIdeal) (hPre_finite_sbf := hPre_finite_sbf)
    ∧ quiescent_Conv (hConv := hConv)
    ∧ quiescent_ConvIdeal (hConvIdeal := hConvIdeal)
    ∧ quiescent_ConvRefIdeal (hConvRefIdeal := hConvRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_SwiFwd (hSwiFwd := hSwiFwd)
    ∧ quiescent_SwiFwdIdeal (hSwiFwdIdeal := hSwiFwdIdeal)
    ∧ quiescent_SwiFwdRefIdeal (hSwiFwdRefIdeal := hSwiFwdRefIdeal)
    ∧ quiescent_GatesFwd (hGatesFwd := hGatesFwd)
    ∧ quiescent_GatesFwdIdeal (hGatesFwdIdeal := hGatesFwdIdeal)
    ∧ quiescent_GatesFwdRefIdeal (hGatesFwdRefIdeal := hGatesFwdRefIdeal)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ quiescent_QNormFwd (hQNormFwd := hQNormFwd)
    ∧ quiescent_QNormFwdIdeal (hQNormFwdIdeal := hQNormFwdIdeal)
    ∧ quiescent_QNormFwdRefIdeal (hQNormFwdRefIdeal := hQNormFwdRefIdeal)
    ∧ quiescent_OutNormFwd (hOutNormFwd := hOutNormFwd)
    ∧ quiescent_OutNormFwdIdeal (hOutNormFwdIdeal := hOutNormFwdIdeal)
    ∧ quiescent_OutNormFwdRefIdeal (hOutNormFwdRefIdeal := hOutNormFwdRefIdeal)
    ∧ preserves_Loss_LossIdeal
    ∧ algebraic_LossIdeal_LossRefIdeal (hLossIdeal := hLossIdeal) (hLossRefIdeal := hLossRefIdeal)
    ∧ preserves_Ple_PleIdeal
    ∧ algebraic_PleIdeal_PleRefIdeal (hPleIdeal := hPleIdeal) (hPleRefIdeal := hPleRefIdeal)
    ∧ preserves_Gates_GatesIdeal
    ∧ algebraic_GatesIdeal_GatesRefIdeal_pre_finite_gates (hGatesIdeal := hGatesIdeal) (hGatesRefIdeal := hGatesRefIdeal) (hPre_finite_gates := hPre_finite_gates)
    ∧ preserves_QNorm_QNormIdeal
    ∧ algebraic_QNormIdeal_QNormRefIdeal (hQNormIdeal := hQNormIdeal) (hQNormRefIdeal := hQNormRefIdeal)
    ∧ preserves_KvGrad_KvGradIdeal
    ∧ algebraic_KvGradIdeal_KvGradRefIdeal (hKvGradIdeal := hKvGradIdeal) (hKvGradRefIdeal := hKvGradRefIdeal)
    ∧ preserves_OutNorm_OutNormIdeal
    ∧ algebraic_OutNormIdeal_OutNormRefIdeal_on_written_hng_pre_finite_hng (hOutNormIdeal := hOutNormIdeal) (hOutNormRefIdeal := hOutNormRefIdeal) (hPre_finite_hng := hPre_finite_hng) (hOn_written_hng := hOn_written_hng)
    ∧ preserves_Swi_SwiIdeal
    ∧ algebraic_SwiIdeal_SwiRefIdeal_pre_finite_swi (hSwiIdeal := hSwiIdeal) (hSwiRefIdeal := hSwiRefIdeal) (hPre_finite_swi := hPre_finite_swi)
    ∧ preserves_PleDx_PleDxIdeal
    ∧ algebraic_PleDxIdeal_PleDxRefIdeal (hPleDxIdeal := hPleDxIdeal) (hPleDxRefIdeal := hPleDxRefIdeal)
    ∧ preserves_FfnDx_FfnDxIdeal
    ∧ algebraic_FfnDxIdeal_FfnDxRefIdeal (hFfnDxIdeal := hFfnDxIdeal) (hFfnDxRefIdeal := hFfnDxRefIdeal)
    ∧ preserves_GdnDx_GdnDxIdeal
    ∧ algebraic_GdnDxIdeal_GdnDxRefIdeal (hGdnDxIdeal := hGdnDxIdeal) (hGdnDxRefIdeal := hGdnDxRefIdeal)
    ∧ preserves_KvDx_KvDxIdeal
    ∧ algebraic_KvDxIdeal_KvDxRefIdeal (hKvDxIdeal := hKvDxIdeal) (hKvDxRefIdeal := hKvDxRefIdeal)
    ∧ preserves_SbQDx_SbQDxIdeal
    ∧ algebraic_SbQDxIdeal_SbQDxRefIdeal (hSbQDxIdeal := hSbQDxIdeal) (hSbQDxRefIdeal := hSbQDxRefIdeal)
    ∧ preserves_Sb_SbIdeal
    ∧ algebraic_SbIdeal_SbRefIdeal_pre_finite_sb (hSbIdeal := hSbIdeal) (hSbRefIdeal := hSbRefIdeal) (hPre_finite_sb := hPre_finite_sb)
    ∧ preserves_SbAttn_SbAttnIdeal
    ∧ algebraic_SbAttnIdeal_SbAttnRefIdeal_pre_finite_sbf (hSbAttnIdeal := hSbAttnIdeal) (hSbAttnRefIdeal := hSbAttnRefIdeal) (hPre_finite_sbf := hPre_finite_sbf)
    ∧ preserves_Conv_ConvIdeal
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_SwiFwd_SwiFwdIdeal
    ∧ algebraic_SwiFwdIdeal_SwiFwdRefIdeal (hSwiFwdIdeal := hSwiFwdIdeal) (hSwiFwdRefIdeal := hSwiFwdRefIdeal)
    ∧ preserves_GatesFwd_GatesFwdIdeal
    ∧ algebraic_GatesFwdIdeal_GatesFwdRefIdeal (hGatesFwdIdeal := hGatesFwdIdeal) (hGatesFwdRefIdeal := hGatesFwdRefIdeal)
    ∧ preserves_PleFwd_PleFwdIdeal
    ∧ algebraic_PleFwdIdeal_PleFwdRefIdeal (hPleFwdIdeal := hPleFwdIdeal) (hPleFwdRefIdeal := hPleFwdRefIdeal)
    ∧ preserves_QNormFwd_QNormFwdIdeal
    ∧ algebraic_QNormFwdIdeal_QNormFwdRefIdeal (hQNormFwdIdeal := hQNormFwdIdeal) (hQNormFwdRefIdeal := hQNormFwdRefIdeal)
    ∧ preserves_OutNormFwd_OutNormFwdIdeal
    ∧ algebraic_OutNormFwdIdeal_OutNormFwdRefIdeal (hOutNormFwdIdeal := hOutNormFwdIdeal) (hOutNormFwdRefIdeal := hOutNormFwdRefIdeal)
-- ==== On_written_hng.lean ====
abbrev S4096x8x128 : Shape := ⟨3, ![4096, 8, 128]⟩
abbrev S128 : Shape := ⟨1, ![128]⟩
abbrev S4096x4096 : Shape := ⟨2, ![4096, 4096]⟩
abbrev S4096x1024 : Shape := ⟨2, ![4096, 1024]⟩
abbrev S4096 : Shape := ⟨1, ![4096]⟩
abbrev S_ : Shape := ⟨0, ![]⟩
abbrev S8x4096x128 : Shape := ⟨3, ![8, 4096, 128]⟩
abbrev S1x128 : Shape := ⟨2, ![1, 128]⟩

class Facts : Prop where
  bcast_S_S4096 : S_.BroadcastsInDim S4096 (![] : Fin 0 → Fin S4096.rank)
  bcast_S4096_S4096x4096_1 : S4096.BroadcastsInDim S4096x4096 (![1] : Fin 1 → Fin S4096x4096.rank)
  bcast_S_S8x4096x128 : S_.BroadcastsInDim S8x4096x128 (![] : Fin 0 → Fin S8x4096x128.rank)
  bcast_S_S1x128 : S_.BroadcastsInDim S1x128 (![] : Fin 0 → Fin S1x128.rank)

variable [Facts]

def fn {F : FTy → Type} [FloatOps F] (main_arg0 : FVec F S4096x8x128 .f32) (main_arg1 : FVec F S128 .f32) (main_arg2 : FVec F S4096x4096 .f32) (main_arg3 : FVec F S4096x1024 .f32) : IVec S8x4096x128 1 × IVec S1x128 1 × IVec S4096x4096 1 :=
  let main_v0 : IVec S4096 32 := iotaInDim S4096 32 0
  let main_c : IVec S_ 32 := constantI S_ 32 3072#32
  let main_v1 : IVec S4096 32 := broadcastInDim S4096 ![] bcast_S_S4096 main_c
  let main_v2 : IVec S4096 1 := cmpi .sge main_v0 main_v1
  let main_v3 : IVec S4096x4096 1 := broadcastInDim S4096x4096 ![1] bcast_S4096_S4096x4096_1 main_v2
  let main_c_0 : IVec S_ 1 := constantI S_ 1 1#1
  let main_v4 : IVec S8x4096x128 1 := broadcastInDim S8x4096x128 ![] bcast_S_S8x4096x128 main_c_0
  let main_c_1 : IVec S_ 1 := constantI S_ 1 1#1
  let main_v5 : IVec S1x128 1 := broadcastInDim S1x128 ![] bcast_S_S1x128 main_c_1
  (main_v4, main_v5, main_v3)
-- ==== Pre_finite_gates.lean ====
abbrev S4096x16 : Shape := ⟨2, ![4096, 16]⟩
abbrev S8 : Shape := ⟨1, ![8]⟩
abbrev S4096x8 : Shape := ⟨2, ![4096, 8]⟩
abbrev S_ : Shape := ⟨0, ![]⟩

class Facts : Prop where
  bcast_S_S4096x16 : S_.BroadcastsInDim S4096x16 (![] : Fin 0 → Fin S4096x16.rank)
  bcast_S_S8 : S_.BroadcastsInDim S8 (![] : Fin 0 → Fin S8.rank)
  bcast_S_S4096x8 : S_.BroadcastsInDim S4096x8 (![] : Fin 0 → Fin S4096x8.rank)

variable [Facts]

def fn {F : FTy → Type} [FloatOps F] (main_arg0 : FVec F S4096x16 .f32) (main_arg1 : FVec F S8 .f32) (main_arg2 : FVec F S8 .f32) (main_arg3 : FVec F S4096x8 .f32) (main_arg4 : FVec F S4096x8 .f32) : IVec S4096x16 1 × IVec S8 1 × IVec S8 1 × IVec S4096x8 1 :=
  let main_v0 : FVec F S4096x16 .f32 := Host.absf main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_v3 : FVec F S8 .f32 := Host.absf main_arg1
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  let main_v6 : FVec F S8 .f32 := Host.absf main_arg2
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  let main_v9 : FVec F S4096x8 .f32 := Host.absf main_arg3
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  (main_v2, main_v5, main_v8, main_v11)
-- ==== Pre_finite_hng.lean ====
abbrev S4096x8x128 : Shape := ⟨3, ![4096, 8, 128]⟩
abbrev S128 : Shape := ⟨1, ![128]⟩
abbrev S4096x4096 : Shape := ⟨2, ![4096, 4096]⟩
abbrev S4096x1024 : Shape := ⟨2, ![4096, 1024]⟩
abbrev S_ : Shape := ⟨0, ![]⟩

class Facts : Prop where
  bcast_S_S128 : S_.BroadcastsInDim S128 (![] : Fin 0 → Fin S128.rank)
  bcast_S_S4096x1024 : S_.BroadcastsInDim S4096x1024 (![] : Fin 0 → Fin S4096x1024.rank)

variable [Facts]

def fn {F : FTy → Type} [FloatOps F] (main_arg0 : FVec F S4096x8x128 .f32) (main_arg1 : FVec F S128 .f32) (main_arg2 : FVec F S4096x4096 .f32) (main_arg3 : FVec F S4096x1024 .f32) : IVec S128 1 × IVec S4096x1024 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S4096x1024 .f32 := Host.absf main_arg3
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Pre_finite_sb.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S4096x1024 .f32) (main_arg3 : FVec F S4096x1024 .f32) : IVec S4096x1024 1 × IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_sbf.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S4096x1024 .f32) : IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Pre_finite_swi.lean ====
abbrev S4096x5632 : Shape := ⟨2, ![4096, 5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x5632 .f32) (main_arg1 : FVec F S2816x1024 .f32) (main_arg2 : FVec F S4096x1024 .f32) : IVec S4096x5632 1 × IVec S2816x1024 1 × IVec S4096x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Loss.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x1024 : Shape := ⟨2, ![4096, 1024]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Ple.lean ====
abbrev S4096x1024 : Shape := ⟨2, ![4096, 1024]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleRefIdeal.lean ====
abbrev S4096x1024 : Shape := ⟨2, ![4096, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Gates.lean ====
abbrev S4096x16 : Shape := ⟨2, ![4096, 16]⟩
abbrev S8 : Shape := ⟨1, ![8]⟩
abbrev S4096x8 : Shape := ⟨2, ![4096, 8]⟩
abbrev S_ : Shape := ⟨0, ![]⟩
abbrev S4096x128 : Shape := ⟨2, ![4096, 128]⟩
abbrev S1x8 : Shape := ⟨2, ![1, 8]⟩
abbrev S1x128 : Shape := ⟨2, ![1, 128]⟩
abbrev S512x128 : Shape := ⟨2, ![512, 128]⟩
abbrev S128 : Shape := ⟨1, ![128]⟩

abbrev nBuf : Space → Nat
  | .hbm => 23
  | .vmem => 10
  | .smem => 0
  | _ => 0

abbrev bufTy : (tb : Table) → Fin (tcTables nBuf tb) → BufTy
  | .hbm, ⟨0, _⟩ => ⟨S4096x16, .f32⟩
  | .hbm, ⟨1, _⟩ => ⟨S8, .f32⟩
  | .hbm, ⟨2, _⟩ => ⟨S8, .f32⟩
  | .hbm, ⟨3, _⟩ => ⟨S4096x8, .f32⟩
  | .hbm, ⟨4, _⟩ => ⟨S4096x8, .f32⟩
  | .hbm, ⟨5, _⟩ => ⟨S_, .i32⟩
  | .hbm, ⟨6, _⟩ => ⟨S_, .f32⟩
  | .hbm, ⟨7, _⟩ => ⟨S4096x128, .f32⟩
  | .hbm, ⟨8, _⟩ => ⟨S4096x16, .f32⟩
  | .hbm, ⟨9, _⟩ => ⟨S_, .i32⟩
  | .hbm, ⟨10, _⟩ => ⟨S_, .f32⟩
  | .hbm, ⟨11, _⟩ => ⟨S4096x128, .f32⟩
  | .hbm, ⟨12, _⟩ => ⟨S1x8, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S1x8, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S4096x128, .bf16⟩
  | .hbm, ⟨21, _⟩ => ⟨S1x128, .f32⟩
  | .hbm, ⟨22, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S512x128, .bf16⟩
  | .local _ .vmem, ⟨7, _⟩ => ⟨S512x128, .bf16⟩
  | .local _ .vmem, ⟨8, _⟩ => ⟨S1x128, .f32⟩
  | .local _ .vmem, ⟨9, _⟩ => ⟨S1x128, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_call3_v0 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GatesRefIdeal.lean ====
abbrev S4096x16 : Shape := ⟨2, ![4096, 16]⟩
abbrev S8 : Shape := ⟨1, ![8]⟩
abbrev S4096x8 : Shape := ⟨2, ![4096, 8]⟩
abbrev S1x8 : Shape := ⟨2, ![1, 8]⟩
abbrev S_ : Shape := ⟨0, ![]⟩
abbrev S4096x128 : Shape := ⟨2, ![4096, 128]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S8, .f32⟩
  | .hbm, ⟨2, _⟩ => ⟨S8, .f32⟩
  | .hbm, ⟨3, _⟩ => ⟨S4096x8, .f32⟩
  | .hbm, ⟨4, _⟩ => ⟨S4096x8, .f32⟩
  | .hbm, ⟨5, _⟩ => ⟨S4096x8, .f32⟩
  | .hbm, ⟨6, _⟩ => ⟨S4096x8, .f32⟩
  | .hbm, ⟨7, _⟩ => ⟨S8, .f32⟩
  | .hbm, ⟨8, _⟩ => ⟨S8, .f32⟩
  | .hbm, ⟨9, _⟩ => ⟨S1x8, .f32⟩
  | .hbm, ⟨10, _⟩ => ⟨S4096x8, .f32⟩
  | .hbm, ⟨11, _⟩ => ⟨S4096x8, .f32⟩
  | .hbm, ⟨12, _⟩ => ⟨S_, .f32⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .i1⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S_, .f32⟩
  | .hbm, ⟨27, _⟩ => ⟨S4096x8, .f32⟩
  | .hbm, ⟨28, _⟩ => ⟨S4096x8, .i1⟩
  | .hbm, ⟨29, _⟩ => ⟨S_, .f32⟩
  | .hbm, ⟨30, _⟩ => ⟨S4096x8, .f32⟩
  | .hbm, ⟨31, _⟩ => ⟨S4096x8, .f32⟩
  | .hbm, ⟨32, _⟩ => ⟨S_, .f32⟩
  | .hbm, ⟨33, _⟩ => ⟨S4096x8, .f32⟩
  | .hbm, ⟨34, _⟩ => ⟨S4096x8, .i1⟩
  | .hbm, ⟨35, _⟩ => ⟨S_, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S4096x8, .f32⟩
  | .hbm, ⟨40, _⟩ => ⟨S_, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x8, .f32⟩
  | .hbm, ⟨48, _⟩ => ⟨S4096x8, .i1⟩
  | .hbm, ⟨49, _⟩ => ⟨S_, .f32⟩
  | .hbm, ⟨50, _⟩ => ⟨S4096x8, .f32⟩
  | .hbm, ⟨51, _⟩ => ⟨S4096x8, .f32⟩
  | .hbm, ⟨52, _⟩ => ⟨S4096x8, .f32⟩
  | .hbm, ⟨53, _⟩ => ⟨S4096x8, .f32⟩
  | .hbm, ⟨54, _⟩ => ⟨S4096x8, .f32⟩
  | .hbm, ⟨55, _⟩ => ⟨S_, .f32⟩
  | .hbm, ⟨56, _⟩ => ⟨S4096x8, .f32⟩
  | .hbm, ⟨57, _⟩ => ⟨S4096x8, .f32⟩
  | .hbm, ⟨58, _⟩ => ⟨S1x8, .f32⟩
  | .hbm, ⟨59, _⟩ => ⟨S4096x8, .f32⟩
  | .hbm, ⟨60, _⟩ => ⟨S4096x8, .f32⟩
  | .hbm, ⟨61, _⟩ => ⟨S4096x8, .f32⟩
  | .hbm, ⟨62, _⟩ => ⟨S4096x8, .f32⟩
  | .hbm, ⟨63, _⟩ => ⟨S_, .f32⟩
  | .hbm, ⟨64, _⟩ => ⟨S4096x8, .f32⟩
  | .hbm, ⟨65, _⟩ => ⟨S4096x8, .f32⟩
  | .hbm, ⟨66, _⟩ => ⟨S_, .f32⟩
  | .hbm, ⟨67, _⟩ => ⟨S4096x8, .f32⟩
  | .hbm, ⟨68, _⟩ => ⟨S4096x8, .f32⟩
  | .hbm, ⟨69, _⟩ => ⟨S_, .f32⟩
  | .hbm, ⟨70, _⟩ => ⟨S4096x8, .f32⟩
  | .hbm, ⟨71, _⟩ => ⟨S4096x8, .f32⟩
  | .hbm, ⟨72, _⟩ => ⟨S4096x8, .f32⟩
  | .hbm, ⟨73, _⟩ => ⟨S4096x8, .f32⟩
  | .hbm, ⟨74, _⟩ => ⟨S4096x8, .f32⟩
  | .hbm, ⟨75, _⟩ => ⟨S4096x8, .f32⟩
  | .hbm, ⟨76, _⟩ => ⟨S4096x8, .f32⟩
  | .hbm, ⟨77, _⟩ => ⟨S_, .f32⟩
  | .hbm, ⟨78, _⟩ => ⟨S8, .f32⟩
  | .hbm, ⟨79, _⟩ => ⟨S1x8, .f32⟩
  | .hbm, ⟨80, _⟩ => ⟨S_, .f32⟩
  | .hbm, ⟨81, _⟩ => ⟨S8, .f32⟩
  | .hbm, ⟨82, _⟩ => ⟨S4096x8, .f32⟩
  | .hbm, ⟨83, _⟩ => ⟨S_, .f32⟩
  | .hbm, ⟨84, _⟩ => ⟨S8, .f32⟩
  | .hbm, ⟨85, _⟩ => ⟨S1x8, .f32⟩
  | .hbm, ⟨86, _⟩ => ⟨S_, .f32⟩
  | .hbm, ⟨87, _⟩ => ⟨S8, .f32⟩
  | .hbm, ⟨88, _⟩ => ⟨S8, .f32⟩
  | .hbm, ⟨89, _⟩ => ⟨S8, .f32⟩
  | .hbm, ⟨90, _⟩ => ⟨S_, .f32⟩
  | .hbm, ⟨91, _⟩ => ⟨S4096x16, .f32⟩
  | .hbm, ⟨92, _⟩ => ⟨S_, .f32⟩
  | .hbm, ⟨93, _⟩ => ⟨S4096x16, .f32⟩
  | .hbm, ⟨94, _⟩ => ⟨S4096x16, .f32⟩
  | .hbm, ⟨95, _⟩ => ⟨S_, .i32⟩
  | .hbm, ⟨96, _⟩ => ⟨S_, .f32⟩
  | .hbm, ⟨97, _⟩ => ⟨S4096x128, .f32⟩
  | .hbm, ⟨98, _⟩ => ⟨S4096x128, .bf16⟩
  | .hbm, ⟨99, _⟩ => ⟨S1x8, .f32⟩
  | .hbm, ⟨100, _⟩ => ⟨S_, .i32⟩
  | .hbm, ⟨101, _⟩ => ⟨S_, .f32⟩
  | .hbm, ⟨102, _⟩ => ⟨S1x128, .f32⟩
  | .hbm, ⟨103, _⟩ => ⟨S1x8, .f32⟩
  | .hbm, ⟨104, _⟩ => ⟨S_, .i32⟩
  | .hbm, ⟨105, _⟩ => ⟨S_, .f32⟩
  | .hbm, ⟨106, _⟩ => ⟨S1x128, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v7_0 : Ref sig .tc := ⟨.hbm, 25, rfl⟩
abbrev main_call0_cst_0 : Ref sig .tc := ⟨.hbm, 26, rfl⟩
abbrev main_call0_v13 : Ref sig .tc := ⟨.hbm, 27, rfl⟩
abbrev main_call0_v14 : Ref sig .tc := ⟨.hbm, 28, rfl⟩
abbrev main_call0_cst_1 : Ref sig .tc := ⟨.hbm, 29, rfl⟩
abbrev main_call0_v15 : Ref sig .tc := ⟨.hbm, 30, rfl⟩
abbrev main_call0_v16 : Ref sig .tc := ⟨.hbm, 31, rfl⟩
abbrev main_call0_cst_2 : Ref sig .tc := ⟨.hbm, 32, rfl⟩
abbrev main_call0_v17 : Ref sig .tc := ⟨.hbm, 33, rfl⟩
abbrev main_call0_v18 : Ref sig .tc := ⟨.hbm, 34, rfl⟩
abbrev main_call0_cst_3 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_v7_1 : Ref sig .tc := ⟨.hbm, 39, rfl⟩
abbrev main_call0_cst_4 : Ref sig .tc := ⟨.hbm, 40, rfl⟩
abbrev main_call0_cst_5 : Ref sig .tc := ⟨.hbm, 41, rfl⟩
abbrev main_call0_v23 : Ref sig .tc := ⟨.hbm, 42, rfl⟩
abbrev main_call0_cst_6 : Ref sig .tc := ⟨.hbm, 43, rfl⟩
abbrev main_call0_cst_7 : Ref sig .tc := ⟨.hbm, 44, rfl⟩
abbrev main_call0_v24 : Ref sig .tc := ⟨.hbm, 45, rfl⟩
abbrev main_call0_cst_8 : Ref sig .tc := ⟨.hbm, 46, rfl⟩
abbrev main_call0_v25 : Ref sig .tc := ⟨.hbm, 47, rfl⟩
abbrev main_call0_v26 : Ref sig .tc := ⟨.hbm, 48, rfl⟩
abbrev main_call0_cst_9 : Ref sig .tc := ⟨.hbm, 49, rfl⟩
abbrev main_call0_v27 : Ref sig .tc := ⟨.hbm, 50, rfl⟩
abbrev main_call0_v28 : Ref sig .tc := ⟨.hbm, 51, rfl⟩
abbrev main_call0_v29 : Ref sig .tc := ⟨.hbm, 52, rfl⟩
abbrev main_call0_v30 : Ref sig .tc := ⟨.hbm, 53, rfl⟩
abbrev main_call0_v31 : Ref sig .tc := ⟨.hbm, 54, rfl⟩
abbrev main_call0_cst_10 : Ref sig .tc := ⟨.hbm, 55, rfl⟩
abbrev main_call0_v32 : Ref sig .tc := ⟨.hbm, 56, rfl⟩
abbrev main_v7_2 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_cst : Ref sig .tc := ⟨.hbm, 63, rfl⟩
abbrev main_v13 : Ref sig .tc := ⟨.hbm, 64, rfl⟩
abbrev main_v14 : Ref sig .tc := ⟨.hbm, 65, rfl⟩
abbrev main_cst_0 : Ref sig .tc := ⟨.hbm, 66, rfl⟩
abbrev main_v15 : Ref sig .tc := ⟨.hbm, 67, rfl⟩
abbrev main_v16 : Ref sig .tc := ⟨.hbm, 68, rfl⟩
abbrev main_cst_1 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_cst_2 : Ref sig .tc := ⟨.hbm, 77, rfl⟩
abbrev main_v24 : Ref sig .tc := ⟨.hbm, 78, rfl⟩
abbrev main_v25 : Ref sig .tc := ⟨.hbm, 79, rfl⟩
abbrev main_cst_3 : Ref sig .tc := ⟨.hbm, 80, rfl⟩
abbrev main_v26 : Ref sig .tc := ⟨.hbm, 81, rfl⟩
abbrev main_v27 : Ref sig .tc := ⟨.hbm, 82, rfl⟩
abbrev main_cst_4 : Ref sig .tc := ⟨.hbm, 83, rfl⟩
abbrev main_v28 : Ref sig .tc := ⟨.hbm, 84, rfl⟩
abbrev main_v29 : Ref sig .tc := ⟨.hbm, 85, rfl⟩
abbrev main_cst_5 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_cst_6 : Ref sig .tc := ⟨.hbm, 90, rfl⟩
abbrev main_v33 : Ref sig .tc := ⟨.hbm, 91, rfl⟩
abbrev main_cst_7 : Ref sig .tc := ⟨.hbm, 92, rfl⟩
abbrev main_v34 : Ref sig .tc := ⟨.hbm, 93, rfl⟩
abbrev main_v35 : Ref sig .tc := ⟨.hbm, 94, rfl⟩
abbrev main_c : Ref sig .tc := ⟨.hbm, 95, rfl⟩
abbrev main_call2_v0 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_c_8 : Ref sig .tc := ⟨.hbm, 100, rfl⟩
abbrev main_call3_v0 : Ref sig .tc := ⟨.hbm, 101, rfl⟩
abbrev main_v39 : Ref sig .tc := ⟨.hbm, 102, rfl⟩
abbrev main_v40 : Ref sig .tc := ⟨.hbm, 103, rfl⟩
abbrev main_c_9 : Ref sig .tc := ⟨.hbm, 104, rfl⟩
abbrev main_call4_v0 : Ref sig .tc := ⟨.hbm, 105, rfl⟩
abbrev main_v41 : Ref sig .tc := ⟨.hbm, 106, rfl⟩

abbrev nD : Nat := 1
abbrev τ : Topo := Topo.v7x

variable {F : FTy → Type} [FloatOps F]
-- ==== QNorm.lean ====
abbrev S4096x1024 : Shape := ⟨2, ![4096, 1024]⟩
abbrev S128 : Shape := ⟨1, ![128]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S128, .f32⟩
  | .hbm, ⟨2, _⟩ => ⟨S4096x1024, .f32⟩
  | .hbm, ⟨3, _⟩ => ⟨S1x128, .f32⟩
  | .hbm, ⟨4, _⟩ => ⟨S4096x1024, .bf16⟩
  | .hbm, ⟨5, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | .local _ .vmem, ⟨7, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== QNormRefIdeal.lean ====
abbrev S4096x1024 : Shape := ⟨2, ![4096, 1024]⟩
abbrev S128 : Shape := ⟨1, ![128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S1x128 : Shape := ⟨2, ![1, 128]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S128, .f32⟩
  | .hbm, ⟨2, _⟩ => ⟨S4096x1024, .f32⟩
  | .hbm, ⟨3, _⟩ => ⟨S4096x8x128, .f32⟩
  | .hbm, ⟨4, _⟩ => ⟨S4096x8x128, .f32⟩
  | .hbm, ⟨5, _⟩ => ⟨S_, .f32⟩
  | .hbm, ⟨6, _⟩ => ⟨S4096x8, .f32⟩
  | .hbm, ⟨7, _⟩ => ⟨S4096x8x1, .f32⟩
  | .hbm, ⟨8, _⟩ => ⟨S_, .f32⟩
  | .hbm, ⟨9, _⟩ => ⟨S4096x8x1, .f32⟩
  | .hbm, ⟨10, _⟩ => ⟨S4096x8x1, .f32⟩
  | .hbm, ⟨11, _⟩ => ⟨S_, .f32⟩
  | .hbm, ⟨12, _⟩ => ⟨S4096x8x1, .f32⟩
  | .hbm, ⟨13, _⟩ => ⟨S4096x8x1, .f32⟩
  | .hbm, ⟨14, _⟩ => ⟨S4096x8x1, .f32⟩
  | .hbm, ⟨15, _⟩ => ⟨S4096x8x1, .f32⟩
  | .hbm, ⟨16, _⟩ => ⟨S_, .f32⟩
  | .hbm, ⟨17, _⟩ => ⟨S4096x8x1, .f32⟩
  | .hbm, ⟨18, _⟩ => ⟨S4096x8x1, .f32⟩
  | .hbm, ⟨19, _⟩ => ⟨S4096x8x128, .f32⟩
  | .hbm, ⟨20, _⟩ => ⟨S4096x8x128, .f32⟩
  | .hbm, ⟨21, _⟩ => ⟨S1x1x128, .f32⟩
  | .hbm, ⟨22, _⟩ => ⟨S4096x8x128, .f32⟩
  | .hbm, ⟨23, _⟩ => ⟨S4096x8x128, .f32⟩
  | .hbm, ⟨24, _⟩ => ⟨S_, .f32⟩
  | .hbm, ⟨25, _⟩ => ⟨S4096x8x128, .f32⟩
  | .hbm, ⟨26, _⟩ => ⟨S4096x8x128, .f32⟩
  | .hbm, ⟨27, _⟩ => ⟨S4096x8x128, .f32⟩
  | .hbm, ⟨28, _⟩ => ⟨S_, .f32⟩
  | .hbm, ⟨29, _⟩ => ⟨S4096x8x128, .f32⟩
  | .hbm, ⟨30, _⟩ => ⟨S4096x8x128, .f32⟩
  | .hbm, ⟨31, _⟩ => ⟨S4096x8x128, .f32⟩
  | .hbm, ⟨32, _⟩ => ⟨S_, .f32⟩
  | .hbm, ⟨33, _⟩ => ⟨S128, .f32⟩
  | .hbm, ⟨34, _⟩ => ⟨S1x1x128, .f32⟩
  | .hbm, ⟨35, _⟩ => ⟨S4096x8x128, .f32⟩
  | .hbm, ⟨36, _⟩ => ⟨S4096x8x128, .f32⟩
  | .hbm, ⟨37, _⟩ => ⟨S_, .f32⟩
  | .hbm, ⟨38, _⟩ => ⟨S128, .f32⟩
  | .hbm, ⟨39, _⟩ => ⟨S4096x8x128, .f32⟩
  | .hbm, ⟨40, _⟩ => ⟨S_, .f32⟩
  | .hbm, ⟨41, _⟩ => ⟨S4096x8, .f32⟩
  | .hbm, ⟨42, _⟩ => ⟨S4096x8x1, .f32⟩
  | .hbm, ⟨43, _⟩ => ⟨S4096x8x128, .f32⟩
  | .hbm, ⟨44, _⟩ => ⟨S4096x8x128, .f32⟩
  | .hbm, ⟨45, _⟩ => ⟨S4096x8x1, .f32⟩
  | .hbm, ⟨46, _⟩ => ⟨S_, .f32⟩
  | .hbm, ⟨47, _⟩ => ⟨S4096x8x1, .f32⟩
  | .hbm, ⟨48, _⟩ => ⟨S4096x8x1, .f32⟩
  | .hbm, ⟨49, _⟩ => ⟨S_, .f32⟩
  | .hbm, ⟨50, _⟩ => ⟨S4096x8, .f32⟩
  | .hbm, ⟨51, _⟩ => ⟨S4096x8x128, .f32⟩
  | .hbm, ⟨52, _⟩ => ⟨S4096x8x128, .f32⟩
  | .hbm, ⟨53, _⟩ => ⟨S4096x8x128, .f32⟩
  | .hbm, ⟨54, _⟩ => ⟨S4096x8x128, .f32⟩
  | .hbm, ⟨55, _⟩ => ⟨S4096x8x128, .f32⟩
  | .hbm, ⟨56, _⟩ => ⟨S4096x1024, .f32⟩
  | .hbm, ⟨57, _⟩ => ⟨S4096x1024, .bf16⟩
  | .hbm, ⟨58, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== KvGrad.lean ====
abbrev S4096x2048 : Shape := ⟨2, ![4096, 2048]⟩
abbrev S128 : Shape := ⟨1, ![128]⟩
abbrev S4096x1024 : Shape := ⟨2, ![4096, 1024]⟩
abbrev S1x128 : Shape := ⟨2, ![1, 128]⟩
abbrev S256x1024 : Shape := ⟨2, ![256, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S128, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x128, .f32⟩
  | .hbm, ⟨7, _⟩ => ⟨S4096x2048, .bf16⟩
  | .hbm, ⟨8, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x128, .f32⟩
  | .local _ .vmem, ⟨11, _⟩ => ⟨S256x2048, .bf16⟩
  | .local _ .vmem, ⟨12, _⟩ => ⟨S256x2048, .bf16⟩
  | .local _ .vmem, ⟨13, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KvGradRefIdeal.lean ====
abbrev S4096x2048 : Shape := ⟨2, ![4096, 2048]⟩
abbrev S128 : Shape := ⟨1, ![128]⟩
abbrev S4096x1024 : Shape := ⟨2, ![4096, 1024]⟩
abbrev S4096x2x8x128 : Shape := ⟨4, ![4096, 2, 8, 128]⟩
abbrev S4096x1x8x128 : Shape := ⟨4, ![4096, 1, 8, 128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S128, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x2x8x128, .f32⟩
  | .hbm, ⟨7, _⟩ => ⟨S4096x1x8x128, .f32⟩
  | .hbm, ⟨8, _⟩ => ⟨S4096x8x128, .f32⟩
  | .hbm, ⟨9, _⟩ => ⟨S4096x8x128, .f32⟩
  | .hbm, ⟨10, _⟩ => ⟨S_, .f32⟩
  | .hbm, ⟨11, _⟩ => ⟨S4096x8, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S_, .f32⟩
  | .hbm, ⟨17, _⟩ => ⟨S4096x8x1, .f32⟩
  | .hbm, ⟨18, _⟩ => ⟨S4096x8x1, .f32⟩
  | .hbm, ⟨19, _⟩ => ⟨S4096x8x1, .f32⟩
  | .hbm, ⟨20, _⟩ => ⟨S4096x8x1, .f32⟩
  | .hbm, ⟨21, _⟩ => ⟨S_, .f32⟩
  | .hbm, ⟨22, _⟩ => ⟨S4096x8x1, .f32⟩
  | .hbm, ⟨23, _⟩ => ⟨S4096x8x1, .f32⟩
  | .hbm, ⟨24, _⟩ => ⟨S4096x8x128, .f32⟩
  | .hbm, ⟨25, _⟩ => ⟨S4096x8x128, .f32⟩
  | .hbm, ⟨26, _⟩ => ⟨S1x1x128, .f32⟩
  | .hbm, ⟨27, _⟩ => ⟨S4096x8x128, .f32⟩
  | .hbm, ⟨28, _⟩ => ⟨S4096x8x128, .f32⟩
  | .hbm, ⟨29, _⟩ => ⟨S4096x1x8x128, .f32⟩
  | .hbm, ⟨30, _⟩ => ⟨S4096x8x128, .f32⟩
  | .hbm, ⟨31, _⟩ => ⟨S4096x8x128, .f32⟩
  | .hbm, ⟨32, _⟩ => ⟨S4096x8x128, .f32⟩
  | .hbm, ⟨33, _⟩ => ⟨S4096x8x128, .f32⟩
  | .hbm, ⟨34, _⟩ => ⟨S4096x8x128, .f32⟩
  | .hbm, ⟨35, _⟩ => ⟨S4096x8x128, .f32⟩
  | .hbm, ⟨36, _⟩ => ⟨S4096x8x128, .f32⟩
  | .hbm, ⟨37, _⟩ => ⟨S4096x1x8x128, .f32⟩
  | .hbm, ⟨38, _⟩ => ⟨S_, .f32⟩
  | .hbm, ⟨39, _⟩ => ⟨S4096x2x8x128, .f32⟩
  | .hbm, ⟨40, _⟩ => ⟨S4096x8x128, .f32⟩
  | .hbm, ⟨41, _⟩ => ⟨S_, .f32⟩
  | .hbm, ⟨42, _⟩ => ⟨S128, .f32⟩
  | .hbm, ⟨43, _⟩ => ⟨S1x1x128, .f32⟩
  | .hbm, ⟨44, _⟩ => ⟨S4096x8x128, .f32⟩
  | .hbm, ⟨45, _⟩ => ⟨S4096x8x128, .f32⟩
  | .hbm, ⟨46, _⟩ => ⟨S_, .f32⟩
  | .hbm, ⟨47, _⟩ => ⟨S128, .f32⟩
  | .hbm, ⟨48, _⟩ => ⟨S4096x8x128, .f32⟩
  | .hbm, ⟨49, _⟩ => ⟨S_, .f32⟩
  | .hbm, ⟨50, _⟩ => ⟨S4096x8, .f32⟩
  | .hbm, ⟨51, _⟩ => ⟨S4096x8x1, .f32⟩
  | .hbm, ⟨52, _⟩ => ⟨S4096x8x128, .f32⟩
  | .hbm, ⟨53, _⟩ => ⟨S4096x8x128, .f32⟩
  | .hbm, ⟨54, _⟩ => ⟨S4096x8x1, .f32⟩
  | .hbm, ⟨55, _⟩ => ⟨S_, .f32⟩
  | .hbm, ⟨56, _⟩ => ⟨S4096x8x1, .f32⟩
  | .hbm, ⟨57, _⟩ => ⟨S4096x8x1, .f32⟩
  | .hbm, ⟨58, _⟩ => ⟨S_, .f32⟩
  | .hbm, ⟨59, _⟩ => ⟨S4096x8, .f32⟩
  | .hbm, ⟨60, _⟩ => ⟨S4096x8x128, .f32⟩
  | .hbm, ⟨61, _⟩ => ⟨S4096x8x128, .f32⟩
  | .hbm, ⟨62, _⟩ => ⟨S4096x8x128, .f32⟩
  | .hbm, ⟨63, _⟩ => ⟨S4096x8x128, .f32⟩
  | .hbm, ⟨64, _⟩ => ⟨S4096x8x128, .f32⟩
  | .hbm, ⟨65, _⟩ => ⟨S4096x1x8x128, .f32⟩
  | .hbm, ⟨66, _⟩ => ⟨S_, .f32⟩
  | .hbm, ⟨67, _⟩ => ⟨S4096x2x8x128, .f32⟩
  | .hbm, ⟨68, _⟩ => ⟨S4096x2x8x128, .f32⟩
  | .hbm, ⟨69, _⟩ => ⟨S4096x2048, .f32⟩
  | .hbm, ⟨70, _⟩ => ⟨S4096x2048, .bf16⟩
  | .hbm, ⟨71, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== OutNorm.lean ====
abbrev S4096x8x128 : Shape := ⟨3, ![4096, 8, 128]⟩
abbrev S128 : Shape := ⟨1, ![128]⟩
abbrev S4096x4096 : Shape := ⟨2, ![4096, 4096]⟩
abbrev S4096x1024 : Shape := ⟨2, ![4096, 1024]⟩
abbrev S8x4096x128 : Shape := ⟨3, ![8, 4096, 128]⟩
abbrev S1x128 : Shape := ⟨2, ![1, 128]⟩
abbrev S256x1024 : Shape := ⟨2, ![256, 1024]⟩
abbrev S8x256x128 : Shape := ⟨3, ![8, 256, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x8x128, .f32⟩
  | .hbm, ⟨1, _⟩ => ⟨S128, .f32⟩
  | .hbm, ⟨2, _⟩ => ⟨S4096x4096, .f32⟩
  | .hbm, ⟨3, _⟩ => ⟨S4096x1024, .f32⟩
  | .hbm, ⟨4, _⟩ => ⟨S8x4096x128, .f32⟩
  | .hbm, ⟨5, _⟩ => ⟨S1x128, .f32⟩
  | .hbm, ⟨6, _⟩ => ⟨S8x4096x128, .f32⟩
  | .hbm, ⟨7, _⟩ => ⟨S1x128, .f32⟩
  | .hbm, ⟨8, _⟩ => ⟨S4096x4096, .bf16⟩
  | .local _ .vmem, ⟨0, _⟩ => ⟨S256x1024, .f32⟩
  | .local _ .vmem, ⟨1, _⟩ => ⟨S256x1024, .f32⟩
  | .local _ .vmem, ⟨2, _⟩ => ⟨S8x256x128, .f32⟩
  | .local _ .vmem, ⟨3, _⟩ => ⟨S8x256x128, .f32⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | .local _ .vmem, ⟨7, _⟩ => ⟨S8x256x128, .f32⟩
  | .local _ .vmem, ⟨8, _⟩ => ⟨S8x256x128, .f32⟩
  | .local _ .vmem, ⟨9, _⟩ => ⟨S1x128, .f32⟩
  | .local _ .vmem, ⟨10, _⟩ => ⟨S256x1024, .bf16⟩
  | .local _ .vmem, ⟨11, _⟩ => ⟨S256x1024, .bf16⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutNormRefIdeal.lean ====
abbrev S4096x8x128 : Shape := ⟨3, ![4096, 8, 128]⟩
abbrev S128 : Shape := ⟨1, ![128]⟩
abbrev S4096x4096 : Shape := ⟨2, ![4096, 4096]⟩
abbrev S4096x1024 : Shape := ⟨2, ![4096, 1024]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S8x4096x128 : Shape := ⟨3, ![8, 4096, 128]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S128, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S4096x8x128, .f32⟩
  | .hbm, ⟨6, _⟩ => ⟨S4096x8x128, .f32⟩
  | .hbm, ⟨7, _⟩ => ⟨S_, .f32⟩
  | .hbm, ⟨8, _⟩ => ⟨S4096x8, .f32⟩
  | .hbm, ⟨9, _⟩ => ⟨S4096x8x1, .f32⟩
  | .hbm, ⟨10, _⟩ => ⟨S_, .f32⟩
  | .hbm, ⟨11, _⟩ => ⟨S4096x8x1, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S_, .f32⟩
  | .hbm, ⟨19, _⟩ => ⟨S4096x8x1, .f32⟩
  | .hbm, ⟨20, _⟩ => ⟨S4096x8x1, .f32⟩
  | .hbm, ⟨21, _⟩ => ⟨S4096x8x128, .f32⟩
  | .hbm, ⟨22, _⟩ => ⟨S4096x8x128, .f32⟩
  | .hbm, ⟨23, _⟩ => ⟨S1x1x128, .f32⟩
  | .hbm, ⟨24, _⟩ => ⟨S4096x8x128, .f32⟩
  | .hbm, ⟨25, _⟩ => ⟨S4096x8x128, .f32⟩
  | .hbm, ⟨26, _⟩ => ⟨S4096x8x128, .f32⟩
  | .hbm, ⟨27, _⟩ => ⟨S4096x8x128, .f32⟩
  | .hbm, ⟨28, _⟩ => ⟨S_, .f32⟩
  | .hbm, ⟨29, _⟩ => ⟨S4096x8x128, .f32⟩
  | .hbm, ⟨30, _⟩ => ⟨S4096x8x128, .f32⟩
  | .hbm, ⟨31, _⟩ => ⟨S_, .f32⟩
  | .hbm, ⟨32, _⟩ => ⟨S4096x8x128, .f32⟩
  | .hbm, ⟨33, _⟩ => ⟨S4096x8x128, .f32⟩
  | .hbm, ⟨34, _⟩ => ⟨S_, .f32⟩
  | .hbm, ⟨35, _⟩ => ⟨S4096x8x128, .f32⟩
  | .hbm, ⟨36, _⟩ => ⟨S4096x8x128, .f32⟩
  | .hbm, ⟨37, _⟩ => ⟨S4096x8x128, .f32⟩
  | .hbm, ⟨38, _⟩ => ⟨S4096x8x128, .f32⟩
  | .hbm, ⟨39, _⟩ => ⟨S4096x8x128, .f32⟩
  | .hbm, ⟨40, _⟩ => ⟨S4096x8x128, .f32⟩
  | .hbm, ⟨41, _⟩ => ⟨S4096x8x128, .f32⟩
  | .hbm, ⟨42, _⟩ => ⟨S4096x8x128, .f32⟩
  | .hbm, ⟨43, _⟩ => ⟨S4096x8x128, .f32⟩
  | .hbm, ⟨44, _⟩ => ⟨S4096x8x128, .f32⟩
  | .hbm, ⟨45, _⟩ => ⟨S4096x8x128, .f32⟩
  | .hbm, ⟨46, _⟩ => ⟨S4096x8x128, .f32⟩
  | .hbm, ⟨47, _⟩ => ⟨S4096x8x128, .f32⟩
  | .hbm, ⟨48, _⟩ => ⟨S_, .f32⟩
  | .hbm, ⟨49, _⟩ => ⟨S128, .f32⟩
  | .hbm, ⟨50, _⟩ => ⟨S1x1x128, .f32⟩
  | .hbm, ⟨51, _⟩ => ⟨S4096x8x128, .f32⟩
  | .hbm, ⟨52, _⟩ => ⟨S4096x8x128, .f32⟩
  | .hbm, ⟨53, _⟩ => ⟨S_, .f32⟩
  | .hbm, ⟨54, _⟩ => ⟨S128, .f32⟩
  | .hbm, ⟨55, _⟩ => ⟨S4096x8x128, .f32⟩
  | .hbm, ⟨56, _⟩ => ⟨S_, .f32⟩
  | .hbm, ⟨57, _⟩ => ⟨S4096x8, .f32⟩
  | .hbm, ⟨58, _⟩ => ⟨S4096x8x1, .f32⟩
  | .hbm, ⟨59, _⟩ => ⟨S4096x8x128, .f32⟩
  | .hbm, ⟨60, _⟩ => ⟨S4096x8x128, .f32⟩
  | .hbm, ⟨61, _⟩ => ⟨S4096x8x1, .f32⟩
  | .hbm, ⟨62, _⟩ => ⟨S_, .f32⟩
  | .hbm, ⟨63, _⟩ => ⟨S4096x8x1, .f32⟩
  | .hbm, ⟨64, _⟩ => ⟨S4096x8x1, .f32⟩
  | .hbm, ⟨65, _⟩ => ⟨S_, .f32⟩
  | .hbm, ⟨66, _⟩ => ⟨S4096x8, .f32⟩
  | .hbm, ⟨67, _⟩ => ⟨S4096x8x128, .f32⟩
  | .hbm, ⟨68, _⟩ => ⟨S4096x8x128, .f32⟩
  | .hbm, ⟨69, _⟩ => ⟨S4096x8x128, .f32⟩
  | .hbm, ⟨70, _⟩ => ⟨S4096x8x128, .f32⟩
  | .hbm, ⟨71, _⟩ => ⟨S4096x8x128, .f32⟩
  | .hbm, ⟨72, _⟩ => ⟨S4096x1024, .f32⟩
  | .hbm, ⟨73, _⟩ => ⟨S_, .f32⟩
  | .hbm, ⟨74, _⟩ => ⟨S4096x4096, .f32⟩
  | .hbm, ⟨75, _⟩ => ⟨S8x4096x128, .f32⟩
  | .hbm, ⟨76, _⟩ => ⟨S1x128, .f32⟩
  | .hbm, ⟨77, _⟩ => ⟨S4096x4096, .bf16⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Swi.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S1024x1024 : Shape := ⟨2, ![1024, 1024]⟩
abbrev S256x1024 : Shape := ⟨2, ![256, 1024]⟩
abbrev S1024x256 : Shape := ⟨2, ![1024, 256]⟩
abbrev S1024x5632 : Shape := ⟨2, ![1024, 5632]⟩

abbrev nBuf : Space → Nat
  | .hbm => 10
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x2816, .bf16⟩
  | .hbm, ⟨5, _⟩ => ⟨S4096x2816, .f32⟩
  | .hbm, ⟨6, _⟩ => ⟨S4096x2816, .bf16⟩
  | .hbm, ⟨7, _⟩ => ⟨S4096x1024, .bf16⟩
  | .hbm, ⟨8, _⟩ => ⟨S2816x1024, .bf16⟩
  | .hbm, ⟨9, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x5632, .bf16⟩
  | .local _ .vmem, ⟨9, _⟩ => ⟨S1024x5632, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let arg1 : BitVec 32 := BitVec.ofNat 32 (i 1).val
  let c256_i32 : BitVec 32 := 256#32
  let v20 : BitVec 32 := Scalar.muli arg1 c256_i32
  v20
def k0_off1 (i : grid0.Coords) : Fin 2 → Nat :=
  let c0_8 : Index := 0#32
  let arg1 : BitVec 32 := BitVec.ofNat 32 (i 1).val
  let c256_i32 : BitVec 32 := 256#32
  let v20 : BitVec 32 := Scalar.muli arg1 c256_i32
  let v21 : BitVec 32 := v20
  let v22 : Index := Scalar.indexCast v21
  ![0, v22.toNat]
def k0_mult2 (i : grid0.Coords) : BitVec 32 :=
  let c2816_i32 : BitVec 32 := 2816#32
  let arg1 : BitVec 32 := BitVec.ofNat 32 (i 1).val
  let c256_i32_9 : BitVec 32 := 256#32
  let v26 : BitVec 32 := Scalar.muli arg1 c256_i32_9
  let v27 : BitVec 32 := Scalar.addi c2816_i32 v26
  v27
def k0_off2 (i : grid0.Coords) : Fin 2 → Nat :=
  let c0_10 : Index := 0#32
  let c2816_i32 : BitVec 32 := 2816#32
  let arg1 : BitVec 32 := BitVec.ofNat 32 (i 1).val
  let c256_i32_9 : BitVec 32 := 256#32
  let v26 : BitVec 32 := Scalar.muli arg1 c256_i32_9
  let v27 : BitVec 32 := Scalar.addi c2816_i32 v26
  let v28 : BitVec 32 := v27
  let v29 : Index := Scalar.indexCast v28
  ![0, v29.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== SwiRefIdeal.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x5632, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x5632, .f32⟩
  | .hbm, ⟨31, _⟩ => ⟨S4096x5632, .f32⟩
  | .hbm, ⟨32, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== PleDx.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_11 : BitVec 32 := 0#32
  let v18 : BitVec 1 := Scalar.cmpi .eq arg2 c0_i32_11
  let v19 : BitVec 32 := Scalar.extui v18
  let c0_i32_12 : BitVec 32 := 0#32
  let v20 : BitVec 1 := Scalar.cmpi .ne v19 c0_i32_12
  v20

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== PleDxRefIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== FfnDx.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S5632x1024 : Shape := ⟨2, ![5632, 1024]⟩
abbrev S_ : Shape := ⟨0, ![]⟩
abbrev S8x128 : Shape := ⟨2, ![8, 128]⟩
abbrev S1x1024 : Shape := ⟨2, ![1, 1024]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x5632, .bf16⟩
  | .hbm, ⟨6, _⟩ => ⟨S5632x1024, .f32⟩
  | .hbm, ⟨7, _⟩ => ⟨S5632x1024, .bf16⟩
  | .hbm, ⟨8, _⟩ => ⟨S_, .f32⟩
  | .hbm, ⟨9, _⟩ => ⟨S8x128, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v18 : BitVec 1 := Scalar.cmpi .eq arg2 c1_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== FfnDxRefIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== GdnDx.lean ====
abbrev S4096x1024 : Shape := ⟨2, ![4096, 1024]⟩
abbrev S1024 : Shape := ⟨1, ![1024]⟩
abbrev S1024x4112 : Shape := ⟨2, ![1024, 4112]⟩
abbrev S4096x4096 : Shape := ⟨2, ![4096, 4096]⟩
abbrev S4096x16 : Shape := ⟨2, ![4096, 16]⟩
abbrev S4112x1024 : Shape := ⟨2, ![4112, 1024]⟩
abbrev S16x1024 : Shape := ⟨2, ![16, 1024]⟩
abbrev S_ : Shape := ⟨0, ![]⟩
abbrev S128x1024 : Shape := ⟨2, ![128, 1024]⟩
abbrev S4096x128 : Shape := ⟨2, ![4096, 128]⟩
abbrev S8x128 : Shape := ⟨2, ![8, 128]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 25
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4112, .f32⟩
  | .hbm, ⟨3, _⟩ => ⟨S4096x4096, .f32⟩
  | .hbm, ⟨4, _⟩ => ⟨S4096x16, .f32⟩
  | .hbm, ⟨5, _⟩ => ⟨S4096x1024, .f32⟩
  | .hbm, ⟨6, _⟩ => ⟨S4112x1024, .f32⟩
  | .hbm, ⟨7, _⟩ => ⟨S4112x1024, .bf16⟩
  | .hbm, ⟨8, _⟩ => ⟨S16x1024, .bf16⟩
  | .hbm, ⟨9, _⟩ => ⟨S_, .i32⟩
  | .hbm, ⟨10, _⟩ => ⟨S_, .bf16⟩
  | .hbm, ⟨11, _⟩ => ⟨S128x1024, .bf16⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S4096x128, .bf16⟩
  | .hbm, ⟨16, _⟩ => ⟨S4096x1024, .f32⟩
  | .hbm, ⟨17, _⟩ => ⟨S4096x4096, .bf16⟩
  | .hbm, ⟨18, _⟩ => ⟨S4096x1024, .bf16⟩
  | .hbm, ⟨19, _⟩ => ⟨S_, .f32⟩
  | .hbm, ⟨20, _⟩ => ⟨S8x128, .f32⟩
  | .hbm, ⟨21, _⟩ => ⟨S1x1024, .f32⟩
  | .hbm, ⟨22, _⟩ => ⟨S4096x1024, .f32⟩
  | .hbm, ⟨23, _⟩ => ⟨S4096x1024, .bf16⟩
  | .hbm, ⟨24, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_11 : BitVec 32 := 0#32
  let v18 : BitVec 1 := Scalar.cmpi .eq arg2 c0_i32_11
  let v19 : BitVec 32 := Scalar.extui v18
  let c0_i32_12 : BitVec 32 := 0#32
  let v20 : BitVec 1 := Scalar.cmpi .ne v19 c0_i32_12
  v20

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== GdnDxRefIdeal.lean ====
abbrev S4096x1024 : Shape := ⟨2, ![4096, 1024]⟩
abbrev S1024 : Shape := ⟨1, ![1024]⟩
abbrev S1024x4112 : Shape := ⟨2, ![1024, 4112]⟩
abbrev S4096x4096 : Shape := ⟨2, ![4096, 4096]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4112 : Shape := ⟨2, ![4096, 4112]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4112, .f32⟩
  | .hbm, ⟨3, _⟩ => ⟨S4096x4096, .f32⟩
  | .hbm, ⟨4, _⟩ => ⟨S4096x16, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4112, .f32⟩
  | .hbm, ⟨27, _⟩ => ⟨S4096x4112, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== KvDx.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S2048x1024 : Shape := ⟨2, ![2048, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x2048, .bf16⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_11 : BitVec 32 := 0#32
  let v18 : BitVec 1 := Scalar.cmpi .eq arg2 c0_i32_11
  let v19 : BitVec 32 := Scalar.extui v18
  let c0_i32_12 : BitVec 32 := 0#32
  let v20 : BitVec 1 := Scalar.cmpi .ne v19 c0_i32_12
  v20

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== KvDxRefIdeal.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== SbQDx.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S8x128 : Shape := ⟨2, ![8, 128]⟩
abbrev S1x1024 : Shape := ⟨2, ![1, 1024]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S_, .f32⟩
  | .hbm, ⟨8, _⟩ => ⟨S8x128, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_11 : BitVec 32 := 0#32
  let v18 : BitVec 1 := Scalar.cmpi .eq arg2 c0_i32_11
  let v19 : BitVec 32 := Scalar.extui v18
  let c0_i32_12 : BitVec 32 := 0#32
  let v20 : BitVec 1 := Scalar.cmpi .ne v19 c0_i32_12
  v20

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== SbQDxRefIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Sb.lean ====
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096x16 : Shape := ⟨3, ![8, 4096, 16]⟩
abbrev S4096x8x16 : Shape := ⟨3, ![4096, 8, 16]⟩
abbrev S512x256 : Shape := ⟨2, ![512, 256]⟩
abbrev S4096x256 : Shape := ⟨2, ![4096, 256]⟩
abbrev S2x512x1 : Shape := ⟨3, ![2, 512, 1]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S256x256 : Shape := ⟨2, ![256, 256]⟩
abbrev S1x512x1 : Shape := ⟨3, ![1, 512, 1]⟩
abbrev S256 : Shape := ⟨1, ![256]⟩
abbrev S256x1 : Shape := ⟨2, ![256, 1]⟩
abbrev S1x256x1 : Shape := ⟨3, ![1, 256, 1]⟩

abbrev nBuf : Space → Nat
  | .hbm => 55
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x8x128, .f32⟩
  | .hbm, ⟨9, _⟩ => ⟨S8x4096x128, .f32⟩
  | .hbm, ⟨10, _⟩ => ⟨S4096x8x128, .f32⟩
  | .hbm, ⟨11, _⟩ => ⟨S8x4096x128, .f32⟩
  | .hbm, ⟨12, _⟩ => ⟨S8x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S_, .f32⟩
  | .hbm, ⟨44, _⟩ => ⟨S8x4096x4096, .f32⟩
  | .hbm, ⟨45, _⟩ => ⟨S8x4096x4096, .f32⟩
  | .hbm, ⟨46, _⟩ => ⟨S8x4096x16, .f32⟩
  | .hbm, ⟨47, _⟩ => ⟨S4096x8x16, .f32⟩
  | .hbm, ⟨48, _⟩ => ⟨S_, .i32⟩
  | .hbm, ⟨49, _⟩ => ⟨S_, .f32⟩
  | .hbm, ⟨50, _⟩ => ⟨S4096x8x128, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S4096x256, .f32⟩
  | .local _ .vmem, ⟨16, _⟩ => ⟨S2x512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c : Ref sig .tc := ⟨.hbm, 48, rfl⟩
abbrev main_call3_v0 : Ref sig .tc := ⟨.hbm, 49, rfl⟩
abbrev main_v23 : Ref sig .tc := ⟨.hbm, 50, rfl⟩
abbrev main_v24 : Ref sig .tc := ⟨.hbm, 51, rfl⟩
abbrev main_v25_0 : Ref sig .tc := ⟨.hbm, 52, rfl⟩
abbrev main_v25_1 : Ref sig .tc := ⟨.hbm, 53, rfl⟩
abbrev main_v25_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_8 : BitVec 32 := 0#32
  let arg1 : BitVec 32 := BitVec.ofNat 32 (i 1).val
  let c2_i32 : BitVec 32 := 2#32
  let v26 : BitVec 32 := Scalar.muli arg1 c2_i32
  let v27 : BitVec 32 := Scalar.subi v26 c0_i32_8
  let c1_i32 : BitVec 32 := 1#32
  let v29 : BitVec 32 := Scalar.divsi v27 c1_i32
  let v30 : BitVec 32 := Scalar.muli v29 c1_i32
  let v31 : BitVec 32 := Scalar.addi c0_i32_8 v30
  let c1_i32_9 : BitVec 32 := 1#32
  ⟨c0_i32_8, v31, c1_i32_9⟩
def k0_mult1 (i : grid0.Coords) (k0_t1 : Fin (k0_t1_loop i).trips) : BitVec 32 :=
  let c0_i32_8 : BitVec 32 := 0#32
  let c1_i32_9 : BitVec 32 := 1#32
  let arg11 : BitVec 32 := Scf.iv c0_i32_8 c1_i32_9 k0_t1
  let c256_i32_197 : BitVec 32 := 256#32
  let v476 : BitVec 32 := Scalar.muli arg11 c256_i32_197
  v476
def k0_off1 (i : grid0.Coords) (k0_t1 : Fin (k0_t1_loop i).trips) : Fin 2 → Nat :=
  let c0_i32_8 : BitVec 32 := 0#32
  let c1_i32_9 : BitVec 32 := 1#32
  let arg11 : BitVec 32 := Scf.iv c0_i32_8 c1_i32_9 k0_t1
  let c256_i32_197 : BitVec 32 := 256#32
  let v476 : BitVec 32 := Scalar.muli arg11 c256_i32_197
  let v477 : BitVec 32 := v476
  let v478 : Index := Scalar.indexCast v477
  let c0_198 : Index := 0#32
  ![v478.toNat, 0]
def k0_off2 (i : grid0.Coords) (k0_t1 : Fin (k0_t1_loop i).trips) : Fin 2 → Nat :=
  let c0_i32_8 : BitVec 32 := 0#32
  let c1_i32_9 : BitVec 32 := 1#32
  let arg11 : BitVec 32 := Scf.iv c0_i32_8 c1_i32_9 k0_t1
  let c256_i32_197 : BitVec 32 := 256#32
  let v476 : BitVec 32 := Scalar.muli arg11 c256_i32_197
  let v477 : BitVec 32 := v476
  let v481 : Index := Scalar.indexCast v477
  let c128_199 : Index := 128#32
  ![v481.toNat, 128]
@[reducible] def k0_t2_loop (i : grid0.Coords) : Scf.Loop 32 :=
  let c0_i32_8 : BitVec 32 := 0#32
  let arg1 : BitVec 32 := BitVec.ofNat 32 (i 1).val
  let c2_i32 : BitVec 32 := 2#32
  let v26 : BitVec 32 := Scalar.muli arg1 c2_i32
  let v27 : BitVec 32 := Scalar.subi v26 c0_i32_8
  let c1_i32 : BitVec 32 := 1#32
  let v29 : BitVec 32 := Scalar.divsi v27 c1_i32
  let v30 : BitVec 32 := Scalar.muli v29 c1_i32
  let v31 : BitVec 32 := Scalar.addi c0_i32_8 v30
  let v28 : BitVec 32 := Scalar.addi c0_i32_8 v27
  let c1_i32_10 : BitVec 32 := 1#32
  ⟨v31, v28, c1_i32_10⟩
def k0_mult2 (i : grid0.Coords) (k0_t2 : Fin (k0_t2_loop i).trips) : BitVec 32 :=
  let c0_i32_8 : BitVec 32 := 0#32
  let arg1 : BitVec 32 := BitVec.ofNat 32 (i 1).val
  let c2_i32 : BitVec 32 := 2#32
  let v26 : BitVec 32 := Scalar.muli arg1 c2_i32
  let v27 : BitVec 32 := Scalar.subi v26 c0_i32_8
  let c1_i32 : BitVec 32 := 1#32
  let v29 : BitVec 32 := Scalar.divsi v27 c1_i32
  let v30 : BitVec 32 := Scalar.muli v29 c1_i32
  let v31 : BitVec 32 := Scalar.addi c0_i32_8 v30
  let c1_i32_10 : BitVec 32 := 1#32
  let arg11 : BitVec 32 := Scf.iv v31 c1_i32_10 k0_t2
  let c256_i32_197 : BitVec 32 := 256#32
  let v476 : BitVec 32 := Scalar.muli arg11 c256_i32_197
  v476
def k0_off3 (i : grid0.Coords) (k0_t2 : Fin (k0_t2_loop i).trips) : Fin 2 → Nat :=
  let c0_i32_8 : BitVec 32 := 0#32
  let arg1 : BitVec 32 := BitVec.ofNat 32 (i 1).val
  let c2_i32 : BitVec 32 := 2#32
  let v26 : BitVec 32 := Scalar.muli arg1 c2_i32
  let v27 : BitVec 32 := Scalar.subi v26 c0_i32_8
  let c1_i32 : BitVec 32 := 1#32
  let v29 : BitVec 32 := Scalar.divsi v27 c1_i32
  let v30 : BitVec 32 := Scalar.muli v29 c1_i32
  let v31 : BitVec 32 := Scalar.addi c0_i32_8 v30
  let c1_i32_10 : BitVec 32 := 1#32
  let arg11 : BitVec 32 := Scf.iv v31 c1_i32_10 k0_t2
  let c256_i32_197 : BitVec 32 := 256#32
  let v476 : BitVec 32 := Scalar.muli arg11 c256_i32_197
  let v477 : BitVec 32 := v476
  let v478 : Index := Scalar.indexCast v477
  let c0_198 : Index := 0#32
  ![v478.toNat, 0]
def k0_off4 (i : grid0.Coords) (k0_t2 : Fin (k0_t2_loop i).trips) : Fin 2 → Nat :=
  let c0_i32_8 : BitVec 32 := 0#32
  let arg1 : BitVec 32 := BitVec.ofNat 32 (i 1).val
  let c2_i32 : BitVec 32 := 2#32
  let v26 : BitVec 32 := Scalar.muli arg1 c2_i32
  let v27 : BitVec 32 := Scalar.subi v26 c0_i32_8
  let c1_i32 : BitVec 32 := 1#32
  let v29 : BitVec 32 := Scalar.divsi v27 c1_i32
  let v30 : BitVec 32 := Scalar.muli v29 c1_i32
  let v31 : BitVec 32 := Scalar.addi c0_i32_8 v30
  let c1_i32_10 : BitVec 32 := 1#32
  let arg11 : BitVec 32 := Scf.iv v31 c1_i32_10 k0_t2
  let c256_i32_197 : BitVec 32 := 256#32
  let v476 : BitVec 32 := Scalar.muli arg11 c256_i32_197
  let v477 : BitVec 32 := v476
  let v481 : Index := Scalar.indexCast v477
  let c128_199 : Index := 128#32
  ![v481.toNat, 128]
def k0_mult3 (i : grid0.Coords) : BitVec 32 :=
  let arg1 : BitVec 32 := BitVec.ofNat 32 (i 1).val
  let c2_i32_11 : BitVec 32 := 2#32
  let v32 : BitVec 32 := Scalar.muli arg1 c2_i32_11
  let c0_i32_12 : BitVec 32 := 0#32
  let v33 : BitVec 32 := Scalar.addi v32 c0_i32_12
  let c256_i32 : BitVec 32 := 256#32
  let v41 : BitVec 32 := Scalar.muli v33 c256_i32
  v41
def k0_off5 (i : grid0.Coords) (c0_i32_12 : BitVec 32) : Fin 2 → Nat :=
  let arg1 : BitVec 32 := BitVec.ofNat 32 (i 1).val
  let c2_i32_11 : BitVec 32 := 2#32
  let v32 : BitVec 32 := Scalar.muli arg1 c2_i32_11
  let v33 : BitVec 32 := Scalar.addi v32 c0_i32_12
  let c256_i32 : BitVec 32 := 256#32
  let v41 : BitVec 32 := Scalar.muli v33 c256_i32
  let v42 : BitVec 32 := v41
  let v43 : Index := Scalar.indexCast v42
  let c0_15 : Index := 0#32
  ![v43.toNat, 0]
def k0_off6 (i : grid0.Coords) (c0_i32_12 : BitVec 32) : Fin 2 → Nat :=
  let arg1 : BitVec 32 := BitVec.ofNat 32 (i 1).val
  let c2_i32_11 : BitVec 32 := 2#32
  let v32 : BitVec 32 := Scalar.muli arg1 c2_i32_11
  let v33 : BitVec 32 := Scalar.addi v32 c0_i32_12
  let c256_i32 : BitVec 32 := 256#32
  let v41 : BitVec 32 := Scalar.muli v33 c256_i32
  let v42 : BitVec 32 := v41
  let v46 : Index := Scalar.indexCast v42
  let c128 : Index := 128#32
  ![v46.toNat, 128]
def k0_mult4 (i : grid0.Coords) : BitVec 32 :=
  let arg1 : BitVec 32 := BitVec.ofNat 32 (i 1).val
  let c2_i32_103 : BitVec 32 := 2#32
  let v253 : BitVec 32 := Scalar.muli arg1 c2_i32_103
  let c1_i32_104 : BitVec 32 := 1#32
  let v254 : BitVec 32 := Scalar.addi v253 c1_i32_104
  let c256_i32_107 : BitVec 32 := 256#32
  let v262 : BitVec 32 := Scalar.muli v254 c256_i32_107
  v262
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SbRefIdeal.lean ====
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x128x4096 : Shape := ⟨3, ![8, 128, 4096]⟩

abbrev nBuf : Space → Nat
  | .hbm => 171
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x8x128, .f32⟩
  | 5 => ⟨S8x4096x128, .f32⟩
  | 6 => ⟨S4096x8x128, .f32⟩
  | 7 => ⟨S8x4096x128, .f32⟩
  | 8 => ⟨S4096x8x128, .f32⟩
  | 9 => ⟨S8x4096x128, .f32⟩
  | 10 => ⟨S8x4096x4096, .f32⟩
  | 11 => ⟨S4096, .i32⟩
  | 12 => ⟨S1x4096, .i32⟩
  | 13 => ⟨S4096, .i32⟩
  | 14 => ⟨S4096x1, .i32⟩
  | 15 => ⟨S4096x4096, .i32⟩
  | 16 => ⟨S4096x4096, .i32⟩
  | 17 => ⟨S4096x4096, .i1⟩
  | 18 => ⟨S8x4096x4096, .f32⟩
  | 19 => ⟨S8x4096x4096, .f32⟩
  | 20 => ⟨S_, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .i1⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S_, .f32⟩
  | 35 => ⟨S8x4096x4096, .f32⟩
  | 36 => ⟨S8x4096x4096, .i1⟩
  | 37 => ⟨S_, .f32⟩
  | 38 => ⟨S8x4096x4096, .f32⟩
  | 39 => ⟨S8x4096x4096, .f32⟩
  | 40 => ⟨S_, .f32⟩
  | 41 => ⟨S8x4096x4096, .f32⟩
  | 42 => ⟨S8x4096x4096, .i1⟩
  | 43 => ⟨S_, .f32⟩
  | 44 => ⟨S8x4096x4096, .f32⟩
  | 45 => ⟨S8x4096x4096, .f32⟩
  | 46 => ⟨S8x4096x4096, .f32⟩
  | 47 => ⟨S8x4096x4096, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x4096x4096, .f32⟩
  | 56 => ⟨S8x4096x4096, .i1⟩
  | 57 => ⟨S_, .f32⟩
  | 58 => ⟨S8x4096x4096, .f32⟩
  | 59 => ⟨S8x4096x4096, .f32⟩
  | 60 => ⟨S8x4096x4096, .f32⟩
  | 61 => ⟨S8x4096x4096, .f32⟩
  | 62 => ⟨S8x4096x4096, .f32⟩
  | 63 => ⟨S_, .f32⟩
  | 64 => ⟨S8x4096x4096, .f32⟩
  | 65 => ⟨S8x4096x4096, .f32⟩
  | 66 => ⟨S8x4096x4096, .f32⟩
  | 67 => ⟨S_, .f32⟩
  | 68 => ⟨S_, .f32⟩
  | 69 => ⟨S8x4096x4096, .i1⟩
  | 70 => ⟨S8x4096x4096, .f32⟩
  | 71 => ⟨S8x4096x4096, .f32⟩
  | 72 => ⟨S_, .f32⟩
  | 73 => ⟨S8x4096x4096, .f32⟩
  | 74 => ⟨S_, .f32⟩
  | 75 => ⟨S_, .f32⟩
  | 76 => ⟨S8x4096x4096, .f32⟩
  | 77 => ⟨S8x4096x4096, .f32⟩
  | 78 => ⟨S8x4096x4096, .f32⟩
  | 79 => ⟨S_, .f32⟩
  | 80 => ⟨S8x4096x4096, .f32⟩
  | 81 => ⟨S8x4096x4096, .f32⟩
  | 82 => ⟨S8x4096x4096, .f32⟩
  | 83 => ⟨S8x4096x4096, .f32⟩
  | 84 => ⟨S8x4096x4096, .i1⟩
  | 85 => ⟨S8x4096x4096, .f32⟩
  | 86 => ⟨S8x4096x4096, .f32⟩
  | 87 => ⟨S8x4096x4096, .f32⟩
  | 88 => ⟨S8x4096x4096, .f32⟩
  | 89 => ⟨S8x4096x4096, .f32⟩
  | 90 => ⟨S8x4096x4096, .f32⟩
  | 91 => ⟨S8x4096x4096, .f32⟩
  | 92 => ⟨S8x4096x4096, .f32⟩
  | 93 => ⟨S_, .f32⟩
  | 94 => ⟨S8x4096x4096, .f32⟩
  | 95 => ⟨S8x4096x4096, .i1⟩
  | 96 => ⟨S_, .f32⟩
  | 97 => ⟨S8x4096x4096, .f32⟩
  | 98 => ⟨S8x4096x4096, .f32⟩
  | 99 => ⟨S_, .f32⟩
  | 100 => ⟨S8x4096x4096, .f32⟩
  | 101 => ⟨S8x4096x4096, .i1⟩
  | 102 => ⟨S_, .f32⟩
  | 103 => ⟨S8x4096x4096, .f32⟩
  | 104 => ⟨S8x4096x4096, .f32⟩
  | 105 => ⟨S8x4096x4096, .f32⟩
  | 106 => ⟨S8x4096x4096, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S8x4096x4096, .f32⟩
  | 115 => ⟨S8x4096x4096, .i1⟩
  | 116 => ⟨S_, .f32⟩
  | 117 => ⟨S8x4096x4096, .f32⟩
  | 118 => ⟨S8x4096x4096, .f32⟩
  | 119 => ⟨S8x4096x4096, .f32⟩
  | 120 => ⟨S8x4096x4096, .f32⟩
  | 121 => ⟨S8x4096x4096, .f32⟩
  | 122 => ⟨S_, .f32⟩
  | 123 => ⟨S8x4096x4096, .f32⟩
  | 124 => ⟨S8x4096x4096, .f32⟩
  | 125 => ⟨S8x4096x4096, .f32⟩
  | 126 => ⟨S8x4096x4096, .f32⟩
  | 127 => ⟨S_, .f32⟩
  | _ => ⟨S4096x1024, .f32⟩

abbrev hbmTy0_1 (i : Nat) : BufTy := match i % 128 with
  | 0 => ⟨S_, .f32⟩
  | 1 => ⟨S8x4096x4096, .i1⟩
  | 2 => ⟨S8x4096x4096, .f32⟩
  | 3 => ⟨S8x4096x4096, .f32⟩
  | 4 => ⟨S_, .f32⟩
  | 5 => ⟨S8x4096x4096, .f32⟩
  | 6 => ⟨S8x4096x4096, .f32⟩
  | 7 => ⟨S8x4096x128, .f32⟩
  | 8 => ⟨S4096x8x128, .f32⟩
  | 9 => ⟨S4096x1024, .f32⟩
  | 10 => ⟨S4096x8x128, .f32⟩
  | 11 => ⟨S8x4096x128, .f32⟩
  | 12 => ⟨S8x128x4096, .f32⟩
  | 13 => ⟨S8x4096x128, .f32⟩
  | 14 => ⟨S8x4096x4096, .f32⟩
  | 15 => ⟨S8x4096x4096, .f32⟩
  | 16 => ⟨S_, .f32⟩
  | 17 => ⟨S8x4096x4096, .f32⟩
  | 18 => ⟨S8x4096x4096, .f32⟩
  | 19 => ⟨S8x4096x4096, .f32⟩
  | 20 => ⟨S8x4096x4096, .f32⟩
  | 21 => ⟨S8x4096x4096, .f32⟩
  | 22 => ⟨S8x4096x4096, .f32⟩
  | 23 => ⟨S_, .f32⟩
  | 24 => ⟨S_, .f32⟩
  | 25 => ⟨S8x4096x4096, .f32⟩
  | 26 => ⟨S8x4096x4096, .f32⟩
  | 27 => ⟨S_, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x128, .f32⟩
  | 36 => ⟨S8x4096x128, .f32⟩
  | 37 => ⟨S4096x8x128, .f32⟩
  | 38 => ⟨S4096x1024, .f32⟩
  | 39 => ⟨S4096x8x128, .f32⟩
  | 40 => ⟨S4096x1024, .f32⟩
  | 41 => ⟨S4096x8x128, .f32⟩
  | 42 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v15_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v15_2 : Ref sig .tc := ⟨.hbm, 65, rfl⟩
abbrev main_v15_0 : Ref sig .tc := ⟨.hbm, 66, rfl⟩
abbrev main_cst : Ref sig .tc := ⟨.hbm, 67, rfl⟩
abbrev main_call1_v0 : Ref sig .tc := ⟨.hbm, 68, rfl⟩
abbrev main_v16_1 : Ref sig .tc := ⟨.hbm, 69, rfl⟩
abbrev main_call1_v2 : Ref sig .tc := ⟨.hbm, 70, rfl⟩
abbrev main_v16_0 : Ref sig .tc := ⟨.hbm, 71, rfl⟩
abbrev main_call1_cst : Ref sig .tc := ⟨.hbm, 72, rfl⟩
abbrev main_v16_2 : Ref sig .tc := ⟨.hbm, 73, rfl⟩
abbrev main_call2_cst : Ref sig .tc := ⟨.hbm, 74, rfl⟩
abbrev main_call2_v0 : Ref sig .tc := ⟨.hbm, 75, rfl⟩
abbrev main_v17 : Ref sig .tc := ⟨.hbm, 76, rfl⟩
abbrev main_v18 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v19_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v19_2 : Ref sig .tc := ⟨.hbm, 124, rfl⟩
abbrev main_v19_0 : Ref sig .tc := ⟨.hbm, 125, rfl⟩
abbrev main_v20 : Ref sig .tc := ⟨.hbm, 126, rfl⟩
abbrev main_cst_0 : Ref sig .tc := ⟨.hbm, 127, rfl⟩
abbrev main_call4_v0 : Ref sig .tc := ⟨.hbm, 128, rfl⟩
abbrev main_v21_1 : Ref sig .tc := ⟨.hbm, 129, rfl⟩
abbrev main_call4_v2 : Ref sig .tc := ⟨.hbm, 130, rfl⟩
abbrev main_v21_0 : Ref sig .tc := ⟨.hbm, 131, rfl⟩
abbrev main_call4_cst : Ref sig .tc := ⟨.hbm, 132, rfl⟩
abbrev main_v21_2 : Ref sig .tc := ⟨.hbm, 133, rfl⟩
abbrev main_v22 : Ref sig .tc := ⟨.hbm, 134, rfl⟩
abbrev main_v23 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_call5_cst : Ref sig .tc := ⟨.hbm, 144, rfl⟩
abbrev main_call5_v0 : Ref sig .tc := ⟨.hbm, 145, rfl⟩
abbrev main_v32 : Ref sig .tc := ⟨.hbm, 146, rfl⟩
abbrev main_call6_v0 : Ref sig .tc := ⟨.hbm, 147, rfl⟩
abbrev main_call6_v1 : Ref sig .tc := ⟨.hbm, 148, rfl⟩
abbrev main_v33 : Ref sig .tc := ⟨.hbm, 149, rfl⟩
abbrev main_v34 : Ref sig .tc := ⟨.hbm, 150, rfl⟩
abbrev main_call7_cst : Ref sig .tc := ⟨.hbm, 151, rfl⟩
abbrev main_call7_v0 : Ref sig .tc := ⟨.hbm, 152, rfl⟩
abbrev main_v35 : Ref sig .tc := ⟨.hbm, 153, rfl⟩
abbrev main_v36 : Ref sig .tc := ⟨.hbm, 154, rfl⟩
abbrev main_call8_cst : Ref sig .tc := ⟨.hbm, 155, rfl⟩
abbrev main_call8_v0 : Ref sig .tc := ⟨.hbm, 156, rfl⟩
abbrev main_v37 : Ref sig .tc := ⟨.hbm, 157, rfl⟩
abbrev main_call9_v0 : Ref sig .tc := ⟨.hbm, 158, rfl⟩
abbrev main_call9_v1 : Ref sig .tc := ⟨.hbm, 159, rfl⟩
abbrev main_v38 : Ref sig .tc := ⟨.hbm, 160, rfl⟩
abbrev main_v39 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩

abbrev nD : Nat := 1
abbrev τ : Topo := Topo.v7x

variable {F : FTy → Type} [FloatOps F]
-- ==== SbAttn.lean ====
abbrev S4096x1024 : Shape := ⟨2, ![4096, 1024]⟩
abbrev S1024x256 : Shape := ⟨2, ![1024, 256]⟩
abbrev S4096x256 : Shape := ⟨2, ![4096, 256]⟩
abbrev S2x1024x128 : Shape := ⟨3, ![2, 1024, 128]⟩
abbrev S2x1024x1 : Shape := ⟨3, ![2, 1024, 1]⟩
abbrev S1024x128 : Shape := ⟨2, ![1024, 128]⟩
abbrev S512x256 : Shape := ⟨2, ![512, 256]⟩
abbrev S256x256 : Shape := ⟨2, ![256, 256]⟩
abbrev S1x256x1 : Shape := ⟨3, ![1, 256, 1]⟩
abbrev S256x1 : Shape := ⟨2, ![256, 1]⟩
abbrev S256x128 : Shape := ⟨2, ![256, 128]⟩
abbrev S256x512 : Shape := ⟨2, ![256, 512]⟩
abbrev S256 : Shape := ⟨1, ![256]⟩
abbrev S1x256x128 : Shape := ⟨3, ![1, 256, 128]⟩
abbrev S1x512x1 : Shape := ⟨3, ![1, 512, 1]⟩
abbrev S512x1 : Shape := ⟨2, ![512, 1]⟩
abbrev S512x128 : Shape := ⟨2, ![512, 128]⟩
abbrev S512x512 : Shape := ⟨2, ![512, 512]⟩
abbrev S512 : Shape := ⟨1, ![512]⟩
abbrev S1x512x128 : Shape := ⟨3, ![1, 512, 128]⟩
abbrev S768x256 : Shape := ⟨2, ![768, 256]⟩
abbrev S1x768x1 : Shape := ⟨3, ![1, 768, 1]⟩
abbrev S768x1 : Shape := ⟨2, ![768, 1]⟩
abbrev S768x128 : Shape := ⟨2, ![768, 128]⟩
abbrev S768x512 : Shape := ⟨2, ![768, 512]⟩
abbrev S768 : Shape := ⟨1, ![768]⟩
abbrev S1x768x128 : Shape := ⟨3, ![1, 768, 128]⟩
abbrev S1x1024x1 : Shape := ⟨3, ![1, 1024, 1]⟩
abbrev S1024x1 : Shape := ⟨2, ![1024, 1]⟩
abbrev S1024x512 : Shape := ⟨2, ![1024, 512]⟩
abbrev S1024 : Shape := ⟨1, ![1024]⟩
abbrev S1x1024x128 : Shape := ⟨3, ![1, 1024, 128]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S2x1024x128, .f32⟩
  | .local _ .vmem, ⟨11, _⟩ => ⟨S2x1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c4_i32 : BitVec 32 := 4#32
  let v19 : BitVec 32 := Scalar.muli arg1 c4_i32
  let c3_i32 : BitVec 32 := 3#32
  let v20 : BitVec 32 := Scalar.addi v19 c3_i32
  let c256_i32 : BitVec 32 := 256#32
  let v28 : BitVec 32 := Scalar.muli v20 c256_i32
  v28
def k0_off1 (i : grid0.Coords) (c3_i32 : BitVec 32) : Fin 2 → Nat :=
  let arg1 : BitVec 32 := BitVec.ofNat 32 (i 1).val
  let c4_i32 : BitVec 32 := 4#32
  let v19 : BitVec 32 := Scalar.muli arg1 c4_i32
  let v20 : BitVec 32 := Scalar.addi v19 c3_i32
  let c256_i32 : BitVec 32 := 256#32
  let v28 : BitVec 32 := Scalar.muli v20 c256_i32
  let v29 : BitVec 32 := v28
  let v38 : Index := Scalar.indexCast v29
  let c0_17 : Index := 0#32
  ![v38.toNat, 0]
def k0_off2 (i : grid0.Coords) (c3_i32 : BitVec 32) : Fin 2 → Nat :=
  let arg1 : BitVec 32 := BitVec.ofNat 32 (i 1).val
  let c4_i32 : BitVec 32 := 4#32
  let v19 : BitVec 32 := Scalar.muli arg1 c4_i32
  let v20 : BitVec 32 := Scalar.addi v19 c3_i32
  let c256_i32 : BitVec 32 := 256#32
  let v28 : BitVec 32 := Scalar.muli v20 c256_i32
  let v29 : BitVec 32 := v28
  let v41 : Index := Scalar.indexCast v29
  let c128_18 : Index := 128#32
  ![v41.toNat, 128]
def k0_mult2 (i : grid0.Coords) : BitVec 32 :=
  let arg1 : BitVec 32 := BitVec.ofNat 32 (i 1).val
  let c4_i32_67 : BitVec 32 := 4#32
  let v152 : BitVec 32 := Scalar.muli arg1 c4_i32_67
  let c2_i32 : BitVec 32 := 2#32
  let v153 : BitVec 32 := Scalar.addi v152 c2_i32
  let c256_i32_69 : BitVec 32 := 256#32
  let v161 : BitVec 32 := Scalar.muli v153 c256_i32_69
  v161
def k0_mult3 (i : grid0.Coords) : BitVec 32 :=
  let arg1 : BitVec 32 := BitVec.ofNat 32 (i 1).val
  let c4_i32_129 : BitVec 32 := 4#32
  let v285 : BitVec 32 := Scalar.muli arg1 c4_i32_129
  let c1_i32 : BitVec 32 := 1#32
  let v286 : BitVec 32 := Scalar.addi v285 c1_i32
  let c256_i32_132 : BitVec 32 := 256#32
  let v294 : BitVec 32 := Scalar.muli v286 c256_i32_132
  v294
def k0_mult4 (i : grid0.Coords) : BitVec 32 :=
  let arg1 : BitVec 32 := BitVec.ofNat 32 (i 1).val
  let c4_i32_192 : BitVec 32 := 4#32
  let v418 : BitVec 32 := Scalar.muli arg1 c4_i32_192
  let c0_i32 : BitVec 32 := 0#32
  let v419 : BitVec 32 := Scalar.addi v418 c0_i32
  let c256_i32_195 : BitVec 32 := 256#32
  let v427 : BitVec 32 := Scalar.muli v419 c256_i32_195
  v427
@[reducible] def k0_t1_loop (i : grid0.Coords) : Scf.Loop 32 :=
  let c0_i32_258 : BitVec 32 := 0#32
  let arg1 : BitVec 32 := BitVec.ofNat 32 (i 1).val
  let c4_i32_256 : BitVec 32 := 4#32
  let v549 : BitVec 32 := Scalar.muli arg1 c4_i32_256
  let v550 : BitVec 32 := Scalar.subi v549 c0_i32_258
  let c1_i32_259 : BitVec 32 := 1#32
  let v552 : BitVec 32 := Scalar.divsi v550 c1_i32_259
  let v553 : BitVec 32 := Scalar.muli v552 c1_i32_259
  let v554 : BitVec 32 := Scalar.addi c0_i32_258 v553
  let c1_i32_260 : BitVec 32 := 1#32
  ⟨c0_i32_258, v554, c1_i32_260⟩
def k0_mult5 (i : grid0.Coords) (k0_t1 : Fin (k0_t1_loop i).trips) : BitVec 32 :=
  let arg1 : BitVec 32 := BitVec.ofNat 32 (i 1).val
  let c4_i32_272 : BitVec 32 := 4#32
  let v563 : BitVec 32 := Scalar.muli arg1 c4_i32_272
  let c1_i32_273 : BitVec 32 := 1#32
  let v564 : BitVec 32 := Scalar.subi v563 c1_i32_273
  let c0_i32_258 : BitVec 32 := 0#32
  let c1_i32_260 : BitVec 32 := 1#32
  let arg9 : BitVec 32 := Scf.iv c0_i32_258 c1_i32_260 k0_t1
  let v565 : BitVec 32 := Scalar.subi v564 arg9
  let c256_i32_274 : BitVec 32 := 256#32
  let v566 : BitVec 32 := Scalar.muli v565 c256_i32_274
  v566
def k0_off3 (i : grid0.Coords) (k0_t1 : Fin (k0_t1_loop i).trips) : Fin 2 → Nat :=
  let arg1 : BitVec 32 := BitVec.ofNat 32 (i 1).val
  let c4_i32_272 : BitVec 32 := 4#32
  let v563 : BitVec 32 := Scalar.muli arg1 c4_i32_272
  let c1_i32_273 : BitVec 32 := 1#32
  let v564 : BitVec 32 := Scalar.subi v563 c1_i32_273
  let c0_i32_258 : BitVec 32 := 0#32
  let c1_i32_260 : BitVec 32 := 1#32
  let arg9 : BitVec 32 := Scf.iv c0_i32_258 c1_i32_260 k0_t1
  let v565 : BitVec 32 := Scalar.subi v564 arg9
  let c256_i32_274 : BitVec 32 := 256#32
  let v566 : BitVec 32 := Scalar.muli v565 c256_i32_274
  let v567 : BitVec 32 := v566
  let v576 : Index := Scalar.indexCast v567
  let c0_285 : Index := 0#32
  ![v576.toNat, 0]
def k0_off4 (i : grid0.Coords) (k0_t1 : Fin (k0_t1_loop i).trips) : Fin 2 → Nat :=
  let arg1 : BitVec 32 := BitVec.ofNat 32 (i 1).val
  let c4_i32_272 : BitVec 32 := 4#32
  let v563 : BitVec 32 := Scalar.muli arg1 c4_i32_272
  let c1_i32_273 : BitVec 32 := 1#32
  let v564 : BitVec 32 := Scalar.subi v563 c1_i32_273
  let c0_i32_258 : BitVec 32 := 0#32
  let c1_i32_260 : BitVec 32 := 1#32
  let arg9 : BitVec 32 := Scf.iv c0_i32_258 c1_i32_260 k0_t1
  let v565 : BitVec 32 := Scalar.subi v564 arg9
  let c256_i32_274 : BitVec 32 := 256#32
  let v566 : BitVec 32 := Scalar.muli v565 c256_i32_274
  let v567 : BitVec 32 := v566
  let v579 : Index := Scalar.indexCast v567
  let c128_286 : Index := 128#32
  ![v579.toNat, 128]
@[reducible] def k0_t2_loop (i : grid0.Coords) : Scf.Loop 32 :=
  let c0_i32_258 : BitVec 32 := 0#32
  let arg1 : BitVec 32 := BitVec.ofNat 32 (i 1).val
  let c4_i32_256 : BitVec 32 := 4#32
  let v549 : BitVec 32 := Scalar.muli arg1 c4_i32_256
  let v550 : BitVec 32 := Scalar.subi v549 c0_i32_258
  let c1_i32_259 : BitVec 32 := 1#32
  let v552 : BitVec 32 := Scalar.divsi v550 c1_i32_259
  let v553 : BitVec 32 := Scalar.muli v552 c1_i32_259
  let v554 : BitVec 32 := Scalar.addi c0_i32_258 v553
  let v551 : BitVec 32 := Scalar.addi c0_i32_258 v550
  let c1_i32_261 : BitVec 32 := 1#32
  ⟨v554, v551, c1_i32_261⟩
def k0_mult6 (i : grid0.Coords) (k0_t2 : Fin (k0_t2_loop i).trips) : BitVec 32 :=
  let arg1 : BitVec 32 := BitVec.ofNat 32 (i 1).val
  let c4_i32_272 : BitVec 32 := 4#32
  let v563 : BitVec 32 := Scalar.muli arg1 c4_i32_272
  let c1_i32_273 : BitVec 32 := 1#32
  let v564 : BitVec 32 := Scalar.subi v563 c1_i32_273
  let c0_i32_258 : BitVec 32 := 0#32
  let c4_i32_256 : BitVec 32 := 4#32
  let v549 : BitVec 32 := Scalar.muli arg1 c4_i32_256
  let v550 : BitVec 32 := Scalar.subi v549 c0_i32_258
  let c1_i32_259 : BitVec 32 := 1#32
  let v552 : BitVec 32 := Scalar.divsi v550 c1_i32_259
  let v553 : BitVec 32 := Scalar.muli v552 c1_i32_259
  let v554 : BitVec 32 := Scalar.addi c0_i32_258 v553
  let c1_i32_261 : BitVec 32 := 1#32
  let arg9 : BitVec 32 := Scf.iv v554 c1_i32_261 k0_t2
  let v565 : BitVec 32 := Scalar.subi v564 arg9
  let c256_i32_274 : BitVec 32 := 256#32
  let v566 : BitVec 32 := Scalar.muli v565 c256_i32_274
  v566
def k0_off5 (i : grid0.Coords) (k0_t2 : Fin (k0_t2_loop i).trips) : Fin 2 → Nat :=
  let arg1 : BitVec 32 := BitVec.ofNat 32 (i 1).val
  let c4_i32_272 : BitVec 32 := 4#32
  let v563 : BitVec 32 := Scalar.muli arg1 c4_i32_272
  let c1_i32_273 : BitVec 32 := 1#32
  let v564 : BitVec 32 := Scalar.subi v563 c1_i32_273
  let c0_i32_258 : BitVec 32 := 0#32
  let c4_i32_256 : BitVec 32 := 4#32
  let v549 : BitVec 32 := Scalar.muli arg1 c4_i32_256
  let v550 : BitVec 32 := Scalar.subi v549 c0_i32_258
  let c1_i32_259 : BitVec 32 := 1#32
  let v552 : BitVec 32 := Scalar.divsi v550 c1_i32_259
  let v553 : BitVec 32 := Scalar.muli v552 c1_i32_259
  let v554 : BitVec 32 := Scalar.addi c0_i32_258 v553
  let c1_i32_261 : BitVec 32 := 1#32
  let arg9 : BitVec 32 := Scf.iv v554 c1_i32_261 k0_t2
  let v565 : BitVec 32 := Scalar.subi v564 arg9
  let c256_i32_274 : BitVec 32 := 256#32
  let v566 : BitVec 32 := Scalar.muli v565 c256_i32_274
  let v567 : BitVec 32 := v566
  let v576 : Index := Scalar.indexCast v567
  let c0_285 : Index := 0#32
  ![v576.toNat, 0]
def k0_off6 (i : grid0.Coords) (k0_t2 : Fin (k0_t2_loop i).trips) : Fin 2 → Nat :=
  let arg1 : BitVec 32 := BitVec.ofNat 32 (i 1).val
  let c4_i32_272 : BitVec 32 := 4#32
  let v563 : BitVec 32 := Scalar.muli arg1 c4_i32_272
  let c1_i32_273 : BitVec 32 := 1#32
  let v564 : BitVec 32 := Scalar.subi v563 c1_i32_273
  let c0_i32_258 : BitVec 32 := 0#32
  let c4_i32_256 : BitVec 32 := 4#32
  let v549 : BitVec 32 := Scalar.muli arg1 c4_i32_256
  let v550 : BitVec 32 := Scalar.subi v549 c0_i32_258
  let c1_i32_259 : BitVec 32 := 1#32
  let v552 : BitVec 32 := Scalar.divsi v550 c1_i32_259
  let v553 : BitVec 32 := Scalar.muli v552 c1_i32_259
  let v554 : BitVec 32 := Scalar.addi c0_i32_258 v553
  let c1_i32_261 : BitVec 32 := 1#32
  let arg9 : BitVec 32 := Scf.iv v554 c1_i32_261 k0_t2
  let v565 : BitVec 32 := Scalar.subi v564 arg9
  let c256_i32_274 : BitVec 32 := 256#32
  let v566 : BitVec 32 := Scalar.muli v565 c256_i32_274
  let v567 : BitVec 32 := v566
  let v579 : Index := Scalar.indexCast v567
  let c128_286 : Index := 128#32
  ![v579.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SbAttnRefIdeal.lean ====
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096x16 : Shape := ⟨3, ![8, 4096, 16]⟩
abbrev S4096x8x16 : Shape := ⟨3, ![4096, 8, 16]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x8x128, .f32⟩
  | .hbm, ⟨4, _⟩ => ⟨S8x4096x128, .f32⟩
  | .hbm, ⟨5, _⟩ => ⟨S4096x8x128, .f32⟩
  | .hbm, ⟨6, _⟩ => ⟨S8x4096x128, .f32⟩
  | .hbm, ⟨7, _⟩ => ⟨S4096x8x128, .f32⟩
  | .hbm, ⟨8, _⟩ => ⟨S8x4096x128, .f32⟩
  | .hbm, ⟨9, _⟩ => ⟨S8x4096x4096, .f32⟩
  | .hbm, ⟨10, _⟩ => ⟨S4096, .i32⟩
  | .hbm, ⟨11, _⟩ => ⟨S1x4096, .i32⟩
  | .hbm, ⟨12, _⟩ => ⟨S4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S_, .f32⟩
  | .hbm, ⟨36, _⟩ => ⟨S8x4096x4096, .i1⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S_, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S8x4096x4096, .i1⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S_, .f32⟩
  | .hbm, ⟨61, _⟩ => ⟨S_, .f32⟩
  | .hbm, ⟨62, _⟩ => ⟨S8x4096x4096, .i1⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S8x4096x128, .f32⟩
  | .hbm, ⟨67, _⟩ => ⟨S4096x8x128, .f32⟩
  | .hbm, ⟨68, _⟩ => ⟨S4096x1024, .f32⟩
  | .hbm, ⟨69, _⟩ => ⟨S8x4096x16, .f32⟩
  | .hbm, ⟨70, _⟩ => ⟨S4096x8x16, .f32⟩
  | .hbm, ⟨71, _⟩ => ⟨S_, .i32⟩
  | .hbm, ⟨72, _⟩ => ⟨S_, .f32⟩
  | .hbm, ⟨73, _⟩ => ⟨S4096x8x128, .f32⟩
  | .hbm, ⟨74, _⟩ => ⟨S4096x1024, .f32⟩
  | .hbm, ⟨75, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_call2_cst : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v19 : Ref sig .tc := ⟨.hbm, 58, rfl⟩
abbrev main_v20 : Ref sig .tc := ⟨.hbm, 59, rfl⟩
abbrev main_cst_0 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_c : Ref sig .tc := ⟨.hbm, 71, rfl⟩
abbrev main_call5_v0 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩

abbrev nD : Nat := 1
abbrev τ : Topo := Topo.v7x

variable {F : FTy → Type} [FloatOps F]
-- ==== Conv.lean ====
abbrev S4096x4096 : Shape := ⟨2, ![4096, 4096]⟩
abbrev S4x3072 : Shape := ⟨2, ![4, 3072]⟩
abbrev S4096x8x128 : Shape := ⟨3, ![4096, 8, 128]⟩
abbrev S4096x24x128 : Shape := ⟨3, ![4096, 24, 128]⟩
abbrev S24x4096x128 : Shape := ⟨3, ![24, 4096, 128]⟩
abbrev S1x4096x128 : Shape := ⟨3, ![1, 4096, 128]⟩
abbrev S4096x128 : Shape := ⟨2, ![4096, 128]⟩
abbrev S4x128 : Shape := ⟨2, ![4, 128]⟩
abbrev S4104x128 : Shape := ⟨2, ![4104, 128]⟩
abbrev S8x128 : Shape := ⟨2, ![8, 128]⟩
abbrev S1x128 : Shape := ⟨2, ![1, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S128 : Shape := ⟨1, ![128]⟩

abbrev nBuf : Space → Nat
  | .hbm => 11
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4x3072, .f32⟩
  | .hbm, ⟨2, _⟩ => ⟨S4096x8x128, .f32⟩
  | .hbm, ⟨3, _⟩ => ⟨S4096x8x128, .f32⟩
  | .hbm, ⟨4, _⟩ => ⟨S4096x8x128, .f32⟩
  | .hbm, ⟨5, _⟩ => ⟨S4096x4096, .f32⟩
  | .hbm, ⟨6, _⟩ => ⟨S4096x24x128, .f32⟩
  | .hbm, ⟨7, _⟩ => ⟨S24x4096x128, .f32⟩
  | .hbm, ⟨8, _⟩ => ⟨S4096x4096, .bf16⟩
  | .hbm, ⟨9, _⟩ => ⟨S4096x4096, .bf16⟩
  | .hbm, ⟨10, _⟩ => ⟨S4x3072, .f32⟩
  | .local _ .vmem, ⟨0, _⟩ => ⟨S1x4096x128, .f32⟩
  | .local _ .vmem, ⟨1, _⟩ => ⟨S1x4096x128, .f32⟩
  | .local _ .vmem, ⟨2, _⟩ => ⟨S4096x128, .f32⟩
  | .local _ .vmem, ⟨3, _⟩ => ⟨S4096x128, .f32⟩
  | .local _ .vmem, ⟨4, _⟩ => ⟨S4x128, .f32⟩
  | .local _ .vmem, ⟨5, _⟩ => ⟨S4x128, .f32⟩
  | .local _ .vmem, ⟨6, _⟩ => ⟨S4096x128, .bf16⟩
  | .local _ .vmem, ⟨7, _⟩ => ⟨S4096x128, .bf16⟩
  | .local _ .vmem, ⟨8, _⟩ => ⟨S4x128, .f32⟩
  | .local _ .vmem, ⟨9, _⟩ => ⟨S4x128, .f32⟩
  | .local _ .vmem, ⟨10, _⟩ => ⟨S4104x128, .f32⟩
  | .local _ .vmem, ⟨11, _⟩ => ⟨S4104x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvRefIdeal.lean ====
abbrev S4096x4096 : Shape := ⟨2, ![4096, 4096]⟩
abbrev S4x3072 : Shape := ⟨2, ![4, 3072]⟩
abbrev S4096x8x128 : Shape := ⟨3, ![4096, 8, 128]⟩
abbrev S_ : Shape := ⟨0, ![]⟩
abbrev S3x3072 : Shape := ⟨2, ![3, 3072]⟩
abbrev S4096x3072 : Shape := ⟨2, ![4096, 3072]⟩
abbrev S4099x3072 : Shape := ⟨2, ![4099, 3072]⟩
abbrev S1x3072 : Shape := ⟨2, ![1, 3072]⟩
abbrev S3072 : Shape := ⟨1, ![3072]⟩
abbrev S4096x3x8x128 : Shape := ⟨4, ![4096, 3, 8, 128]⟩
abbrev S4096x1x8x128 : Shape := ⟨4, ![4096, 1, 8, 128]⟩
abbrev S4096x8 : Shape := ⟨2, ![4096, 8]⟩
abbrev S4096x8x1 : Shape := ⟨3, ![4096, 8, 1]⟩
abbrev S4096x1024 : Shape := ⟨2, ![4096, 1024]⟩

abbrev nBuf : Space → Nat
  | .hbm => 208
  | .vmem => 0
  | .smem => 0
  | _ => 0

abbrev hbmTy0_0 (i : Nat) : BufTy := match i % 128 with
  | 0 => ⟨S4096x4096, .f32⟩
  | 1 => ⟨S4x3072, .f32⟩
  | 2 => ⟨S4096x8x128, .f32⟩
  | 3 => ⟨S4096x8x128, .f32⟩
  | 4 => ⟨S4096x8x128, .f32⟩
  | 5 => ⟨S4096x4096, .f32⟩
  | 6 => ⟨S_, .f32⟩
  | 7 => ⟨S3x3072, .f32⟩
  | 8 => ⟨S4096x3072, .f32⟩
  | 9 => ⟨S4099x3072, .f32⟩
  | 10 => ⟨S_, .f32⟩
  | 11 => ⟨S3x3072, .f32⟩
  | 12 => ⟨S4096x3072, .f32⟩
  | 13 => ⟨S1x3072, .f32⟩
  | 14 => ⟨S3072, .f32⟩
  | 15 => ⟨S1x3072, .f32⟩
  | 16 => ⟨S4096x3072, .f32⟩
  | 17 => ⟨S4096x3072, .f32⟩
  | 18 => ⟨S_, .f32⟩
  | 19 => ⟨S4096x3072, .f32⟩
  | 20 => ⟨S4096x3072, .f32⟩
  | 21 => ⟨S4096x3072, .f32⟩
  | 22 => ⟨S1x3072, .f32⟩
  | 23 => ⟨S3072, .f32⟩
  | 24 => ⟨S1x3072, .f32⟩
  | 25 => ⟨S4096x3072, .f32⟩
  | 26 => ⟨S4096x3072, .f32⟩
  | 27 => ⟨S4096x3072, .f32⟩
  | 28 => ⟨S4096x3072, .f32⟩
  | 29 => ⟨S1x3072, .f32⟩
  | 30 => ⟨S3072, .f32⟩
  | 31 => ⟨S1x3072, .f32⟩
  | 32 => ⟨S4096x3072, .f32⟩
  | 33 => ⟨S4096x3072, .f32⟩
  | 34 => ⟨S4096x3072, .f32⟩
  | 35 => ⟨S4096x3072, .f32⟩
  | 36 => ⟨S1x3072, .f32⟩
  | 37 => ⟨S3072, .f32⟩
  | 38 => ⟨S1x3072, .f32⟩
  | 39 => ⟨S4096x3072, .f32⟩
  | 40 => ⟨S4096x3072, .f32⟩
  | 41 => ⟨S4096x3072, .f32⟩
  | 42 => ⟨S4096x3072, .f32⟩
  | 43 => ⟨S4096x3072, .f32⟩
  | 44 => ⟨S_, .f32⟩
  | 45 => ⟨S4096x3072, .f32⟩
  | 46 => ⟨S4096x3072, .f32⟩
  | 47 => ⟨S_, .f32⟩
  | 48 => ⟨S4096x3072, .f32⟩
  | 49 => ⟨S4096x3072, .f32⟩
  | 50 => ⟨S_, .f32⟩
  | 51 => ⟨S4096x3072, .f32⟩
  | 52 => ⟨S4096x3072, .f32⟩
  | 53 => ⟨S4096x3072, .f32⟩
  | 54 => ⟨S4096x3072, .f32⟩
  | 55 => ⟨S4096x3x8x128, .f32⟩
  | 56 => ⟨S4096x1x8x128, .f32⟩
  | 57 => ⟨S4096x8x128, .f32⟩
  | 58 => ⟨S4096x8x128, .f32⟩
  | 59 => ⟨S_, .f32⟩
  | 60 => ⟨S4096x8, .f32⟩
  | 61 => ⟨S4096x8x1, .f32⟩
  | 62 => ⟨S_, .f32⟩
  | 63 => ⟨S4096x8x1, .f32⟩
  | 64 => ⟨S4096x8x1, .f32⟩
  | 65 => ⟨S4096x8x1, .f32⟩
  | 66 => ⟨S4096x8x1, .f32⟩
  | 67 => ⟨S_, .f32⟩
  | 68 => ⟨S4096x8x1, .f32⟩
  | 69 => ⟨S4096x8x1, .f32⟩
  | 70 => ⟨S4096x8x128, .f32⟩
  | 71 => ⟨S4096x8x128, .f32⟩
  | 72 => ⟨S_, .f32⟩
  | 73 => ⟨S4096x8x128, .f32⟩
  | 74 => ⟨S4096x8x128, .f32⟩
  | 75 => ⟨S4096x1x8x128, .f32⟩
  | 76 => ⟨S4096x8x128, .f32⟩
  | 77 => ⟨S4096x8x128, .f32⟩
  | 78 => ⟨S_, .f32⟩
  | 79 => ⟨S4096x8, .f32⟩
  | 80 => ⟨S4096x8x1, .f32⟩
  | 81 => ⟨S_, .f32⟩
  | 82 => ⟨S4096x8x1, .f32⟩
  | 83 => ⟨S4096x8x1, .f32⟩
  | 84 => ⟨S4096x8x1, .f32⟩
  | 85 => ⟨S4096x8x1, .f32⟩
  | 86 => ⟨S_, .f32⟩
  | 87 => ⟨S4096x8x1, .f32⟩
  | 88 => ⟨S4096x8x1, .f32⟩
  | 89 => ⟨S4096x8x128, .f32⟩
  | 90 => ⟨S4096x8x128, .f32⟩
  | 91 => ⟨S4096x1x8x128, .f32⟩
  | 92 => ⟨S4096x8x128, .f32⟩
  | 93 => ⟨S4096x1024, .f32⟩
  | 94 => ⟨S4096x1024, .f32⟩
  | 95 => ⟨S_, .f32⟩
  | 96 => ⟨S4096x4096, .f32⟩
  | 97 => ⟨S4096x1x8x128, .f32⟩
  | 98 => ⟨S_, .f32⟩
  | 99 => ⟨S4096x3x8x128, .f32⟩
  | 100 => ⟨S4096x8x128, .f32⟩
  | 101 => ⟨S_, .f32⟩
  | 102 => ⟨S4096x8, .f32⟩
  | 103 => ⟨S4096x8x1, .f32⟩
  | 104 => ⟨S4096x8x128, .f32⟩
  | 105 => ⟨S4096x8x128, .f32⟩
  | 106 => ⟨S4096x8x1, .f32⟩
  | 107 => ⟨S_, .f32⟩
  | 108 => ⟨S4096x8, .f32⟩
  | 109 => ⟨S4096x8x128, .f32⟩
  | 110 => ⟨S4096x8x128, .f32⟩
  | 111 => ⟨S4096x8x128, .f32⟩
  | 112 => ⟨S4096x8x128, .f32⟩
  | 113 => ⟨S4096x8x128, .f32⟩
  | 114 => ⟨S4096x1x8x128, .f32⟩
  | 115 => ⟨S_, .f32⟩
  | 116 => ⟨S4096x3x8x128, .f32⟩
  | 117 => ⟨S4096x3x8x128, .f32⟩
  | 118 => ⟨S_, .f32⟩
  | 119 => ⟨S4096x8x128, .f32⟩
  | 120 => ⟨S4096x8x128, .f32⟩
  | 121 => ⟨S4096x8x128, .f32⟩
  | 122 => ⟨S_, .f32⟩
  | 123 => ⟨S4096x8, .f32⟩
  | 124 => ⟨S4096x8x1, .f32⟩
  | 125 => ⟨S4096x8x128, .f32⟩
  | 126 => ⟨S4096x8x128, .f32⟩
  | 127 => ⟨S4096x8x1, .f32⟩
  | _ => ⟨S4096x4096, .f32⟩

abbrev hbmTy0_1 (i : Nat) : BufTy := match i % 128 with
  | 0 => ⟨S_, .f32⟩
  | 1 => ⟨S4096x8, .f32⟩
  | 2 => ⟨S4096x8x128, .f32⟩
  | 3 => ⟨S4096x8x128, .f32⟩
  | 4 => ⟨S4096x8x128, .f32⟩
  | 5 => ⟨S4096x8x128, .f32⟩
  | 6 => ⟨S4096x8x128, .f32⟩
  | 7 => ⟨S4096x1x8x128, .f32⟩
  | 8 => ⟨S_, .f32⟩
  | 9 => ⟨S4096x3x8x128, .f32⟩
  | 10 => ⟨S4096x3x8x128, .f32⟩
  | 11 => ⟨S4096x3072, .f32⟩
  | 12 => ⟨S4096x3072, .f32⟩
  | 13 => ⟨S4096x3072, .f32⟩
  | 14 => ⟨S4096x3072, .f32⟩
  | 15 => ⟨S4096x3072, .f32⟩
  | 16 => ⟨S4096x3072, .f32⟩
  | 17 => ⟨S_, .f32⟩
  | 18 => ⟨S3072, .f32⟩
  | 19 => ⟨S1x3072, .f32⟩
  | 20 => ⟨S4096x3072, .f32⟩
  | 21 => ⟨S4096x3072, .f32⟩
  | 22 => ⟨S_, .f32⟩
  | 23 => ⟨S3072, .f32⟩
  | 24 => ⟨S1x3072, .f32⟩
  | 25 => ⟨S_, .f32⟩
  | 26 => ⟨S4x3072, .f32⟩
  | 27 => ⟨S_, .f32⟩
  | 28 => ⟨S4099x3072, .f32⟩
  | 29 => ⟨S4096x3072, .f32⟩
  | 30 => ⟨S_, .f32⟩
  | 31 => ⟨S3072, .f32⟩
  | 32 => ⟨S1x3072, .f32⟩
  | 33 => ⟨S4096x3072, .f32⟩
  | 34 => ⟨S4096x3072, .f32⟩
  | 35 => ⟨S_, .f32⟩
  | 36 => ⟨S3072, .f32⟩
  | 37 => ⟨S1x3072, .f32⟩
  | 38 => ⟨S_, .f32⟩
  | 39 => ⟨S4x3072, .f32⟩
  | 40 => ⟨S4x3072, .f32⟩
  | 41 => ⟨S_, .f32⟩
  | 42 => ⟨S4099x3072, .f32⟩
  | 43 => ⟨S4099x3072, .f32⟩
  | 44 => ⟨S4096x3072, .f32⟩
  | 45 => ⟨S_, .f32⟩
  | 46 => ⟨S3072, .f32⟩
  | 47 => ⟨S1x3072, .f32⟩
  | 48 => ⟨S4096x3072, .f32⟩
  | 49 => ⟨S4096x3072, .f32⟩
  | 50 => ⟨S_, .f32⟩
  | 51 => ⟨S3072, .f32⟩
  | 52 => ⟨S1x3072, .f32⟩
  | 53 => ⟨S_, .f32⟩
  | 54 => ⟨S4x3072, .f32⟩
  | 55 => ⟨S4x3072, .f32⟩
  | 56 => ⟨S_, .f32⟩
  | 57 => ⟨S4099x3072, .f32⟩
  | 58 => ⟨S4099x3072, .f32⟩
  | 59 => ⟨S4096x3072, .f32⟩
  | 60 => ⟨S_, .f32⟩
  | 61 => ⟨S3072, .f32⟩
  | 62 => ⟨S1x3072, .f32⟩
  | 63 => ⟨S4096x3072, .f32⟩
  | 64 => ⟨S4096x3072, .f32⟩
  | 65 => ⟨S_, .f32⟩
  | 66 => ⟨S3072, .f32⟩
  | 67 => ⟨S1x3072, .f32⟩
  | 68 => ⟨S_, .f32⟩
  | 69 => ⟨S4x3072, .f32⟩
  | 70 => ⟨S4x3072, .f32⟩
  | 71 => ⟨S_, .f32⟩
  | 72 => ⟨S4099x3072, .f32⟩
  | 73 => ⟨S4099x3072, .f32⟩
  | 74 => ⟨S3x3072, .f32⟩
  | 75 => ⟨S4096x3072, .f32⟩
  | 76 => ⟨S_, .f32⟩
  | 77 => ⟨S4096x4096, .f32⟩
  | 78 => ⟨S4096x4096, .f32⟩
  | 79 => ⟨S4096x4096, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v33_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v33_1 : Ref sig .tc := ⟨.hbm, 53, rfl⟩
abbrev main_v33_0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_6 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_8 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_9 : Ref sig .tc := ⟨.hbm, 95, rfl⟩
abbrev main_v67 : Ref sig .tc := ⟨.hbm, 96, rfl⟩
abbrev main_v68 : Ref sig .tc := ⟨.hbm, 97, rfl⟩
abbrev main_cst_10 : Ref sig .tc := ⟨.hbm, 98, rfl⟩
abbrev main_v69 : Ref sig .tc := ⟨.hbm, 99, rfl⟩
abbrev main_v70 : Ref sig .tc := ⟨.hbm, 100, rfl⟩
abbrev main_cst_11 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_12 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_13 : Ref sig .tc := ⟨.hbm, 115, rfl⟩
abbrev main_v83 : Ref sig .tc := ⟨.hbm, 116, rfl⟩
abbrev main_v84 : Ref sig .tc := ⟨.hbm, 117, rfl⟩
abbrev main_cst_14 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_15 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_16 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_17 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_call1_v0 : Ref sig .tc := ⟨.hbm, 140, rfl⟩
abbrev main_call1_v1 : Ref sig .tc := ⟨.hbm, 141, rfl⟩
abbrev main_call1_v2 : Ref sig .tc := ⟨.hbm, 142, rfl⟩
abbrev main_v103 : Ref sig .tc := ⟨.hbm, 143, rfl⟩
abbrev main_v104 : Ref sig .tc := ⟨.hbm, 144, rfl⟩
abbrev main_cst_18 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_19 : Ref sig .tc := ⟨.hbm, 150, rfl⟩
abbrev main_v109 : Ref sig .tc := ⟨.hbm, 151, rfl⟩
abbrev main_v110 : Ref sig .tc := ⟨.hbm, 152, rfl⟩
abbrev main_cst_20 : Ref sig .tc := ⟨.hbm, 153, rfl⟩
abbrev main_v111 : Ref sig .tc := ⟨.hbm, 154, rfl⟩
abbrev main_cst_21 : Ref sig .tc := ⟨.hbm, 155, rfl⟩
abbrev main_v112 : Ref sig .tc := ⟨.hbm, 156, rfl⟩
abbrev main_v113 : Ref sig .tc := ⟨.hbm, 157, rfl⟩
abbrev main_cst_22 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_23 : Ref sig .tc := ⟨.hbm, 163, rfl⟩
abbrev main_v118 : Ref sig .tc := ⟨.hbm, 164, rfl⟩
abbrev main_v119 : Ref sig .tc := ⟨.hbm, 165, rfl⟩
abbrev main_cst_24 : Ref sig .tc := ⟨.hbm, 166, rfl⟩
abbrev main_v120 : Ref sig .tc := ⟨.hbm, 167, rfl⟩
abbrev main_v121 : Ref sig .tc := ⟨.hbm, 168, rfl⟩
abbrev main_cst_25 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_26 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_27 : Ref sig .tc := ⟨.hbm, 178, rfl⟩
abbrev main_v129 : Ref sig .tc := ⟨.hbm, 179, rfl⟩
abbrev main_v130 : Ref sig .tc := ⟨.hbm, 180, rfl⟩
abbrev main_cst_28 : Ref sig .tc := ⟨.hbm, 181, rfl⟩
abbrev main_v131 : Ref sig .tc := ⟨.hbm, 182, rfl⟩
abbrev main_v132 : Ref sig .tc := ⟨.hbm, 183, rfl⟩
abbrev main_cst_29 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_30 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_31 : Ref sig .tc := ⟨.hbm, 193, rfl⟩
abbrev main_v140 : Ref sig .tc := ⟨.hbm, 194, rfl⟩
abbrev main_v141 : Ref sig .tc := ⟨.hbm, 195, rfl⟩
abbrev main_cst_32 : Ref sig .tc := ⟨.hbm, 196, rfl⟩
abbrev main_v142 : Ref sig .tc := ⟨.hbm, 197, rfl⟩
abbrev main_v143 : Ref sig .tc := ⟨.hbm, 198, rfl⟩
abbrev main_cst_33 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_34 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩

abbrev nD : Nat := 1
abbrev τ : Topo := Topo.v7x

variable {F : FTy → Type} [FloatOps F]
-- ==== RmsFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== SwiFwd.lean ====
abbrev S4096x1024 : Shape := ⟨2, ![4096, 1024]⟩
abbrev S1024x5632 : Shape := ⟨2, ![1024, 5632]⟩
abbrev S5632x1024 : Shape := ⟨2, ![5632, 1024]⟩
abbrev S4096x2816 : Shape := ⟨2, ![4096, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S5632x1024, .f32⟩
  | .hbm, ⟨4, _⟩ => ⟨S5632x1024, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwiFwdRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | .hbm, ⟨16, _⟩ => ⟨S4096x2816, .bf16⟩
  | .hbm, ⟨17, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== GatesFwd.lean ====
abbrev S4096x16 : Shape := ⟨2, ![4096, 16]⟩
abbrev S8 : Shape := ⟨1, ![8]⟩
abbrev S_ : Shape := ⟨0, ![]⟩
abbrev S4096x128 : Shape := ⟨2, ![4096, 128]⟩
abbrev S1x8 : Shape := ⟨2, ![1, 8]⟩
abbrev S1x128 : Shape := ⟨2, ![1, 128]⟩
abbrev S512x128 : Shape := ⟨2, ![512, 128]⟩

abbrev nBuf : Space → Nat
  | .hbm => 15
  | .vmem => 6
  | .smem => 0
  | _ => 0

abbrev bufTy : (tb : Table) → Fin (tcTables nBuf tb) → BufTy
  | .hbm, ⟨0, _⟩ => ⟨S4096x16, .f32⟩
  | .hbm, ⟨1, _⟩ => ⟨S8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S1x8, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S1x8, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatesFwdRefIdeal.lean ====
abbrev S4096x16 : Shape := ⟨2, ![4096, 16]⟩
abbrev S8 : Shape := ⟨1, ![8]⟩
abbrev S4096x8 : Shape := ⟨2, ![4096, 8]⟩
abbrev S1x8 : Shape := ⟨2, ![1, 8]⟩
abbrev S_ : Shape := ⟨0, ![]⟩
abbrev S4096x128 : Shape := ⟨2, ![4096, 128]⟩

abbrev nBuf : Space → Nat
  | .hbm => 39
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S8, .f32⟩
  | .hbm, ⟨2, _⟩ => ⟨S8, .f32⟩
  | .hbm, ⟨3, _⟩ => ⟨S4096x8, .f32⟩
  | .hbm, ⟨4, _⟩ => ⟨S4096x8, .f32⟩
  | .hbm, ⟨5, _⟩ => ⟨S8, .f32⟩
  | .hbm, ⟨6, _⟩ => ⟨S8, .f32⟩
  | .hbm, ⟨7, _⟩ => ⟨S1x8, .f32⟩
  | .hbm, ⟨8, _⟩ => ⟨S4096x8, .f32⟩
  | .hbm, ⟨9, _⟩ => ⟨S4096x8, .f32⟩
  | .hbm, ⟨10, _⟩ => ⟨S_, .f32⟩
  | .hbm, ⟨11, _⟩ => ⟨S4096x8, .f32⟩
  | .hbm, ⟨12, _⟩ => ⟨S4096x8, .f32⟩
  | .hbm, ⟨13, _⟩ => ⟨S4096x8, .f32⟩
  | .hbm, ⟨14, _⟩ => ⟨S4096x8, .f32⟩
  | .hbm, ⟨15, _⟩ => ⟨S4096x8, .i1⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S1x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S_, .f32⟩
  | .hbm, ⟨30, _⟩ => ⟨S4096x8, .f32⟩
  | .hbm, ⟨31, _⟩ => ⟨S4096x8, .f32⟩
  | .hbm, ⟨32, _⟩ => ⟨S_, .f32⟩
  | .hbm, ⟨33, _⟩ => ⟨S4096x8, .f32⟩
  | .hbm, ⟨34, _⟩ => ⟨S4096x8, .f32⟩
  | .hbm, ⟨35, _⟩ => ⟨S4096x16, .f32⟩
  | .hbm, ⟨36, _⟩ => ⟨S_, .i32⟩
  | .hbm, ⟨37, _⟩ => ⟨S_, .f32⟩
  | .hbm, ⟨38, _⟩ => ⟨S4096x128, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_call1_v0 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== PleFwd.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1024 : Shape := ⟨1, ![1024]⟩
abbrev S1024x256 : Shape := ⟨2, ![1024, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S4096x1024, .bf16⟩
  | .hbm, ⟨7, _⟩ => ⟨S4096x256, .bf16⟩
  | .hbm, ⟨8, _⟩ => ⟨S1024x1024, .bf16⟩
  | .hbm, ⟨9, _⟩ => ⟨S1024x256, .f32⟩
  | .hbm, ⟨10, _⟩ => ⟨S1024x256, .bf16⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S4096x1024, .bf16⟩
  | .hbm, ⟨15, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S1024x1024, .bf16⟩
  | .local _ .vmem, ⟨7, _⟩ => ⟨S1024x256, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PleFwdRefIdeal.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1024, .bf16⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== QNormFwd.lean ====
abbrev S4096x1024 : Shape := ⟨2, ![4096, 1024]⟩
abbrev S128 : Shape := ⟨1, ![128]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S128, .f32⟩
  | .hbm, ⟨2, _⟩ => ⟨S1x128, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x128, .f32⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QNormFwdRefIdeal.lean ====
abbrev S4096x1024 : Shape := ⟨2, ![4096, 1024]⟩
abbrev S128 : Shape := ⟨1, ![128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S128, .f32⟩
  | .hbm, ⟨2, _⟩ => ⟨S4096x8x128, .f32⟩
  | .hbm, ⟨3, _⟩ => ⟨S4096x8x128, .f32⟩
  | .hbm, ⟨4, _⟩ => ⟨S_, .f32⟩
  | .hbm, ⟨5, _⟩ => ⟨S4096x8, .f32⟩
  | .hbm, ⟨6, _⟩ => ⟨S4096x8x1, .f32⟩
  | .hbm, ⟨7, _⟩ => ⟨S_, .f32⟩
  | .hbm, ⟨8, _⟩ => ⟨S4096x8x1, .f32⟩
  | .hbm, ⟨9, _⟩ => ⟨S4096x8x1, .f32⟩
  | .hbm, ⟨10, _⟩ => ⟨S_, .f32⟩
  | .hbm, ⟨11, _⟩ => ⟨S4096x8x1, .f32⟩
  | .hbm, ⟨12, _⟩ => ⟨S4096x8x1, .f32⟩
  | .hbm, ⟨13, _⟩ => ⟨S4096x8x1, .f32⟩
  | .hbm, ⟨14, _⟩ => ⟨S4096x8x128, .f32⟩
  | .hbm, ⟨15, _⟩ => ⟨S4096x8x128, .f32⟩
  | .hbm, ⟨16, _⟩ => ⟨S1x1x128, .f32⟩
  | .hbm, ⟨17, _⟩ => ⟨S4096x8x128, .f32⟩
  | .hbm, ⟨18, _⟩ => ⟨S4096x8x128, .f32⟩
  | .hbm, ⟨19, _⟩ => ⟨S_, .f32⟩
  | .hbm, ⟨20, _⟩ => ⟨S4096x8x128, .f32⟩
  | .hbm, ⟨21, _⟩ => ⟨S4096x8x128, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== OutNormFwd.lean ====
abbrev S4096x8x128 : Shape := ⟨3, ![4096, 8, 128]⟩
abbrev S128 : Shape := ⟨1, ![128]⟩
abbrev S4096x4096 : Shape := ⟨2, ![4096, 4096]⟩
abbrev S8x4096x128 : Shape := ⟨3, ![8, 4096, 128]⟩
abbrev S1x128 : Shape := ⟨2, ![1, 128]⟩
abbrev S4096x1024 : Shape := ⟨2, ![4096, 1024]⟩
abbrev S8x256x128 : Shape := ⟨3, ![8, 256, 128]⟩
abbrev S256x1024 : Shape := ⟨2, ![256, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S4096x8x128, .f32⟩
  | .hbm, ⟨1, _⟩ => ⟨S128, .f32⟩
  | .hbm, ⟨2, _⟩ => ⟨S4096x4096, .f32⟩
  | .hbm, ⟨3, _⟩ => ⟨S8x4096x128, .f32⟩
  | .hbm, ⟨4, _⟩ => ⟨S1x128, .f32⟩
  | .hbm, ⟨5, _⟩ => ⟨S4096x1024, .bf16⟩
  | .local _ .vmem, ⟨0, _⟩ => ⟨S8x256x128, .f32⟩
  | .local _ .vmem, ⟨1, _⟩ => ⟨S8x256x128, .f32⟩
  | .local _ .vmem, ⟨2, _⟩ => ⟨S1x128, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutNormFwdRefIdeal.lean ====
abbrev S4096x8x128 : Shape := ⟨3, ![4096, 8, 128]⟩
abbrev S128 : Shape := ⟨1, ![128]⟩
abbrev S4096x4096 : Shape := ⟨2, ![4096, 4096]⟩
abbrev S4096x1024 : Shape := ⟨2, ![4096, 1024]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S128, .f32⟩
  | .hbm, ⟨2, _⟩ => ⟨S4096x4096, .f32⟩
  | .hbm, ⟨3, _⟩ => ⟨S4096x1024, .f32⟩
  | .hbm, ⟨4, _⟩ => ⟨S4096x8x128, .f32⟩
  | .hbm, ⟨5, _⟩ => ⟨S4096x8x128, .f32⟩
  | .hbm, ⟨6, _⟩ => ⟨S_, .f32⟩
  | .hbm, ⟨7, _⟩ => ⟨S4096x8, .f32⟩
  | .hbm, ⟨8, _⟩ => ⟨S4096x8x1, .f32⟩
  | .hbm, ⟨9, _⟩ => ⟨S_, .f32⟩
  | .hbm, ⟨10, _⟩ => ⟨S4096x8x1, .f32⟩
  | .hbm, ⟨11, _⟩ => ⟨S4096x8x1, .f32⟩
  | .hbm, ⟨12, _⟩ => ⟨S_, .f32⟩
  | .hbm, ⟨13, _⟩ => ⟨S4096x8x1, .f32⟩
  | .hbm, ⟨14, _⟩ => ⟨S4096x8x1, .f32⟩
  | .hbm, ⟨15, _⟩ => ⟨S4096x8x1, .f32⟩
  | .hbm, ⟨16, _⟩ => ⟨S4096x8x128, .f32⟩
  | .hbm, ⟨17, _⟩ => ⟨S4096x8x128, .f32⟩
  | .hbm, ⟨18, _⟩ => ⟨S1x1x128, .f32⟩
  | .hbm, ⟨19, _⟩ => ⟨S4096x8x128, .f32⟩
  | .hbm, ⟨20, _⟩ => ⟨S4096x8x128, .f32⟩
  | .hbm, ⟨21, _⟩ => ⟨S4096x8x128, .f32⟩
  | .hbm, ⟨22, _⟩ => ⟨S4096x8x128, .f32⟩
  | .hbm, ⟨23, _⟩ => ⟨S_, .f32⟩
  | .hbm, ⟨24, _⟩ => ⟨S4096x8x128, .f32⟩
  | .hbm, ⟨25, _⟩ => ⟨S4096x8x128, .f32⟩
  | .hbm, ⟨26, _⟩ => ⟨S_, .f32⟩
  | .hbm, ⟨27, _⟩ => ⟨S4096x8x128, .f32⟩
  | .hbm, ⟨28, _⟩ => ⟨S4096x8x128, .f32⟩
  | .hbm, ⟨29, _⟩ => ⟨S4096x8x128, .f32⟩
  | .hbm, ⟨30, _⟩ => ⟨S4096x8x128, .f32⟩
  | .hbm, ⟨31, _⟩ => ⟨S4096x1024, .f32⟩
  | .hbm, ⟨32, _⟩ => ⟨S4096x1024, .bf16⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Proof.Common.lean ====
/-
  What the value proofs of this directory share: indices by coordinates, a sum kept across the grid points, the words
  of the float constants as real numbers, and extended reals that are finite.
-/
module

public import Idealize.ShloMosaic.Lib.Pointwise
public import Idealize.ShloMosaic.Lib.IdealHost
public import Idealize.ShloMosaic.Lib.Quiescent
public import Idealize.ShloMosaic.Lib.Pipeline.Value

@[expose] public section

noncomputable section

open Idealize.ShloMosaic

namespace Cert.Common

/-- Two indices of a two-axis shape are equal when their coordinates are. -/
theorem idx2 {n0 n1 : Nat} {i j : (⟨2, ![n0, n1]⟩ : Shape).Idx} (h0 : (i 0).val = (j 0).val) (h1 : (i 1).val = (j 1).val) :
    i = j := by
  funext a
  match a with
  | ⟨0, _⟩ => exact Fin.ext h0
  | ⟨1, _⟩ => exact Fin.ext h1

/-- An index is its two coordinates. -/
theorem ex_ix2 {n0 n1 : Nat} (i : (⟨2, ![n0, n1]⟩ : Shape).Idx) : ∃ (r : Fin n0) (l : Fin n1), i = ix2 r l :=
  ⟨i 0, i 1, eq_ix2 i⟩

theorem idx1 {n0 : Nat} {i j : (⟨1, ![n0]⟩ : Shape).Idx} (h0 : (i 0).val = (j 0).val) : i = j := by
  funext a
  match a with
  | ⟨0, _⟩ => exact Fin.ext h0

theorem idx3 {n0 n1 n2 : Nat} {i j : (⟨3, ![n0, n1, n2]⟩ : Shape).Idx} (h0 : (i 0).val = (j 0).val) (h1 : (i 1).val = (j 1).val)
    (h2 : (i 2).val = (j 2).val) : i = j := by
  funext a
  match a with
  | ⟨0, _⟩ => exact Fin.ext h0
  | ⟨1, _⟩ => exact Fin.ext h1
  | ⟨2, _⟩ => exact Fin.ext h2

/-- The place before a place of a run. -/
theorem pred_lt {n : Nat} (t : Fin n) : t.val - 1 < n := Nat.lt_of_le_of_lt (Nat.sub_le _ _) t.isLt

theorem hz2 : (![0, 0] : Fin 2 → Nat) = fun _ => 0 := funext fun a => by fin_cases a <;> rfl

/-- A load of a whole two-axis buffer reads it. -/
theorem ld_all {Val : EltTy → Type} {e : EltTy} {n0 n1 : Nat} (inb : ∀ a, (![0, 0] : Fin 2 → Nat) a + (![n0, n1] : Fin 2 → Nat) a ≤ (![n0, n1] : Fin 2 → Nat) a)
    (x : (⟨2, ![n0, n1]⟩ : Shape).Idx → Val e) : View.ld x (Rect.unit (s := ⟨2, ![n0, n1]⟩) ![0, 0] ![n0, n1] inb) = x :=
  View.ld_unit_zero (S := ⟨2, ![n0, n1]⟩) hz2 inb x
/-- A load of what one store of a whole two-axis buffer left reads the stored block. -/
theorem cov_all {Val : EltTy → Type} [∀ e, Nonempty (Val e)] {e : EltTy} {n0 n1 : Nat} {sig : RefSig} {κ : Kind} {sp : Space}
    (v : View sig κ sp ⟨2, ![n0, n1]⟩ e) (inb : ∀ a, (![0, 0] : Fin 2 → Nat) a + (![n0, n1] : Fin 2 → Nat) a ≤ (![n0, n1] : Fin 2 → Nat) a)
    (w : (⟨2, ![n0, n1]⟩ : Shape).Idx → Val e) :
    v.readCov [(⟨Rect.unit (s := ⟨2, ![n0, n1]⟩) ![0, 0] ![n0, n1] inb, w⟩ : View.Piece Val ⟨2, ![n0, n1]⟩ e)]
      (Rect.unit (s := ⟨2, ![n0, n1]⟩) ![0, 0] ![n0, n1] inb).toLoadRect = w :=
  View.readCov_unit_zero (S := ⟨2, ![n0, n1]⟩) v hz2 inb w

/-- A quantity that starts at `g 0` and gains `g (n + 1)` at point `n + 1` is the sum of `g` over the points so far. -/
theorem sum_of_steps {α : Type} [AddCommMonoid α] {N : ℕ} (f : (n : ℕ) → n < N → α) (g : (n : ℕ) → n < N → α)
    (h0 : ∀ h, f 0 h = g 0 h) (hs : ∀ n h, f (n + 1) h = f n (Nat.lt_of_succ_lt h) + g (n + 1) h) :
    ∀ n (h : n < N), f n h = ∑ k : Fin (n + 1), g k.val (Nat.lt_of_le_of_lt (Nat.le_of_lt_succ k.isLt) h)
  | 0, h => by rw [h0]; simp
  | n + 1, h => by rw [hs, sum_of_steps f g h0 hs n, Fin.sum_univ_castSucc (n := n + 1)]; rfl

/-- A product of an extended real with itself is not negative. -/
theorem mul_self_nonneg (x : EReal) : 0 ≤ x * x := by
  induction x with
  | bot => simp
  | top => simp
  | coe r => rw [← EReal.coe_mul]; exact EReal.coe_nonneg.mpr (_root_.mul_self_nonneg r)

/-- A sum of terms that are not negative may be scaled term by term. -/
theorem sum_mul_of_nonneg {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

/-! ## Constants -/

theorem half_f32 : Ideal.ofBits .f32 0x3F000000#32 = ((1 / 2 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem f1024_f32 : Ideal.ofBits .f32 0x44800000#32 = ((1024 : ℝ) : EReal) := by
  simp [Ideal.ofBits, Ideal.ieee, -EReal.coe_mul]; norm_num
theorem inv1024_f32 : Ideal.ofBits .f32 0x3A800000#32 = ((1 / 1024 : ℝ) : EReal) := by
  simp [Ideal.ofBits, Ideal.ieee, -EReal.coe_mul]; norm_num
theorem inv2048_f32 : Ideal.ofBits .f32 0x3A000000#32 = ((1 / 2048 : ℝ) : EReal) := by
  simp [Ideal.ofBits, Ideal.ieee, -EReal.coe_mul]; norm_num

/-! ## Selects on a lane number -/

theorem select_ofBool {α : Type} (p : Prop) [Decidable p] (a b : α) :
    Scalar.select (BitVec.ofBool (decide p)) a b = if p then a else b := by
  by_cases h : p <;> simp [h, Scalar.select]

theorem andi_ofBool (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

theorem lane_slt : ∀ (l : Fin 128), IntOp.cmpi CmpIPredicate.slt (BitVec.ofNat 32 l.val) 8#32 = BitVec.ofBool (decide (l.val < 8)) := by
  decide +kernel
theorem lane_sge : ∀ (l : Fin 128), IntOp.cmpi CmpIPredicate.sge (BitVec.ofNat 32 l.val) 8#32 = BitVec.ofBool (decide (8 ≤ l.val)) := by
  decide +kernel
theorem lane_slt16 : ∀ (l : Fin 128), IntOp.cmpi CmpIPredicate.slt (BitVec.ofNat 32 l.val) 16#32 = BitVec.ofBool (decide (l.val < 16)) := by
  decide +kernel

/-! ## Finite arguments -/

theorem top_f32 : Ideal.ofBits .f32 0x7F800000#32 = (⊤ : EReal) := by
  simp [Ideal.ofBits, Ideal.ieee]

/-- An extended real whose absolute value is below `⊤` is a real number. -/
theorem real_of_abs_lt (x : EReal) (h : max x (-x) < ⊤) : ∃ r : ℝ, x = (r : EReal) := by
  induction x with
  | bot => simp at h
  | top => simp at h
  | coe r => exact ⟨r, rfl⟩

/-- An array all of whose absolute values compare below the word of infinity is an array of real numbers. -/
theorem reals_of_lt {S S0 : Shape} (d : Fin S0.rank → Fin S.rank) (x : FVec Ideal S .f32)
    (hb : S0.BroadcastsInDim S d)
    (h : cmpf .olt (Host.absf x) (broadcastInDim S d hb (constant S0 .f32 0x7F800000#32)) = fun _ => 1#1) :
    ∃ f : S.Idx → ℝ, x = fun i => (f i : EReal) := by
  have key (i : S.Idx) : ∃ r : ℝ, x i = (r : EReal) := by
    have hi : Ideal.cmp .olt (max (x i) (-(x i))) (Ideal.ofBits .f32 0x7F800000#32) = 1 := congrFun h i
    rw [top_f32, Ideal.cmp_olt_eq_one] at hi
    exact real_of_abs_lt _ hi
  exact ⟨fun i => (key i).choose, funext fun i => (key i).choose_spec⟩

/-- A host sum over the first two axes of three, at an index. -/
theorem host_sum01 {n0 n1 n2 : Nat} (h : (⟨3, ![n0, n1, n2]⟩ : Shape).ReducesTo [0, 1] ⟨1, ![n2]⟩)
    (v : (⟨3, ![n0, n1, n2]⟩ : Shape).Idx → EReal) (init : EReal) (l : Fin n2) :
    Ideal.hostReduceAdd h v init (ix1 l) = init + ∑ a : Fin n0, ∑ b : Fin n1, v (ix3 a b l) := by
  unfold Ideal.hostReduceAdd
  congr 1
  rw [← Fintype.sum_prod_type' fun a b => v (ix3 a b l)]
  refine Finset.sum_filter_eq_sum_of_fiber _ (fun k : Fin n0 × Fin n1 => (ix3 k.1 k.2 l : (⟨3, ![n0, n1, n2]⟩ : Shape).Idx))
    (fun _ _ e => Prod.ext (congrFun e 0) (congrFun e 1)) (fun i => ⟨fun e => ⟨(i 0, i 1), ?_⟩, ?_⟩) v
  · funext a
    match a with
    | ⟨0, _⟩ => rfl
    | ⟨1, _⟩ => rfl
    | ⟨2, _⟩ => exact Fin.ext (congrArg Fin.val (congrFun e 0)).symm
  · rintro ⟨k, rfl⟩
    funext b
    match b with
    | ⟨0, _⟩ => rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) :=
  (EReal.coe_strictMono.monotone.map_max).symm

end Cert.Common
-- ==== Proof.Loss.lean ====
/-
  The loss and its gradient: each grid point writes 512 rows of `(y - t) / 1024` and adds the column sums of its rows'
  squares, halved and divided by 1024, to the one loss row. The reference takes the gradient of half the sum of the rows'
  mean squares and the same column sums over all 4096 rows at once. Squares are not negative, so a sum of them may be
  scaled term by term, and no argument needs to be finite.
-/
module

public import proofs.«01_k».proof.Defs
public import proofs.«01_k».proof.Proof.Common
public import proofs.«01_k».proof.Proof.Gen.LossIdeal.Value
public import proofs.«01_k».proof.Proof.Gen.LossRefIdeal.Read

@[expose] public section

set_option maxRecDepth 16384
noncomputable section

open Idealize.ShloMosaic Idealize.ShloMosaic.TcCoe Idealize.SL.Sem
open Idealize.ShloMosaic.Pipeline (Dat)
open Cert.Common

namespace Cert.LossIdeal.Val

open Cert.LossIdeal Cert.LossIdeal.Gen Cert.LossIdeal.Value

variable (m : (ℓ : Loc nD τ sig) → Buf (Elt Ideal) ℓ) (c : Dev nD) (t : Fin cfg0.N)

/-- The two arguments. -/
abbrev out : S4096x1024.Idx → EReal := m ((c : Thread nD τ).loc main_arg0)
abbrev target : S4096x1024.Idx → EReal := m ((c : Thread nD τ).loc main_arg1)

/-- The gradient. -/
def dout : Vec Ideal S4096x1024 .f32 := fun i => ((out m c i - target m c i) * ((1 / 1024 : ℝ) : EReal) : EReal)
/-- The square of the difference. -/
def sq (i : S4096x1024.Idx) : EReal := (out m c i - target m c i) * (out m c i - target m c i)
/-- The loss of column `q`. -/
def column (q : Fin 1024) : EReal := (∑ r : Fin 4096, sq m c (ix2 r q)) * ((1 / 2048 : ℝ) : EReal)
def loss : Vec Ideal S1x1024 .f32 := fun j => column m c (j 1)

/-- Row `512 t + r` of the array. -/
abbrev row (j : S512x1024.Idx) : S4096x1024.Idx :=
  ix2 ⟨512 * t.val + (j 0).val, by have h : t.val < 8 := N_0 ▸ t.isLt; have h' : (j 0).val < 512 := (j 0).isLt; omega⟩ (j 1)

theorem index_eq : ∀ t : Fin grid0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = 0 ∧ win0_3.index t 1 = 0) := by
  decide +kernel

theorem iblk0 (j : S512x1024.Idx) : iblk m c 0 t j = out m c (row t j) := by
  unfold iblk
  rw [View.read_apply]
  show V m c main_arg0 _ = _
  rw [V_main_arg0]
  exact congrArg _ (idx2
    (by show win0_0.index t 0 * 512 + 1 * (j 0).val = 512 * t.val + (j 0).val; rw [(index_eq t).1.1]; omega)
    (by show win0_0.index t 1 * 1024 + 1 * (j 1).val = (j 1).val; rw [(index_eq t).1.2]; omega))

theorem iblk1 (j : S512x1024.Idx) : iblk m c 1 t j = target m c (row t j) := by
  unfold iblk
  rw [View.read_apply]
  show V m c main_arg1 _ = _
  rw [V_main_arg1]
  exact congrArg _ (idx2
    (by show win0_1.index t 0 * 512 + 1 * (j 0).val = 512 * t.val + (j 0).val; rw [(index_eq t).2.1.1]; omega)
    (by show win0_1.index t 1 * 1024 + 1 * (j 1).val = (j 1).val; rw [(index_eq t).2.1.2]; omega))

/-- Where window 2's block at point `t` puts its element `j`. -/
theorem emb2 (j : S512x1024.Idx) : ((cfg0.win 2).blk t).view.emb j = row t j :=
  idx2 (by show win0_2.index t 0 * 512 + 1 * (j 0).val = 512 * t.val + (j 0).val; rw [(index_eq t).2.2.1.1]; omega)
    (by show win0_2.index t 1 * 1024 + 1 * (j 1).val = (j 1).val; rw [(index_eq t).2.2.1.2]; omega)
/-- Window 3's one block is the whole row. -/
theorem emb3 (j : S1x1024.Idx) : ((cfg0.win 3).blk t).view.emb j = j :=
  idx2 (by show win0_3.index t 0 * 1 + 1 * (j 0).val = (j 0).val; rw [(index_eq t).2.2.2.1]; omega)
    (by show win0_3.index t 1 * 1024 + 1 * (j 1).val = (j 1).val; rw [(index_eq t).2.2.2.2]; omega)

theorem covered (i : S4096x1024.Idx) : ∃ (t : Fin cfg0.N) (j : S512x1024.Idx), row t j = i := by
  have h : (i 0).val < 4096 := (i 0).isLt
  exact ⟨⟨(i 0).val / 512, by show _ < grid0.N; rw [N_0]; omega⟩, ix2 ⟨(i 0).val % 512, by omega⟩ (i 1),
    idx2 (by show 512 * ((i 0).val / 512) + (i 0).val % 512 = (i 0).val; omega) rfl⟩

/-! ## What one point leaves -/

section body
variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S1x1024 .f32) (h4 : a4.IsWhole) (x0 x1 : Vec Ideal S512x1024 .f32)

/-- What a block adds to the loss of column `q`. -/
def gain (x0 x1 : Vec Ideal S512x1024 .f32) (q : Fin 1024) : EReal :=
  (∑ r : Fin 512, (x0 (ix2 r q) - x1 (ix2 r q)) * (x0 (ix2 r q) - x1 (ix2 r q))) * ((1 / 2048 : ℝ) : EReal)

theorem pay3 (j : S512x1024.Idx) : k0_pay3 x0 x1 j = ((x0 j - x1 j) * ((1 / 1024 : ℝ) : EReal) : EReal) := by
  pointwise [k0_pay3, k0_pay2]
  rw [inv1024_f32]

theorem pay4 (x : Vec Ideal S1x1024 .f32) (j : S1x1024.Idx) : k0_pay4 x0 x1 x j = (x j + gain x0 x1 (j 1) : EReal) := by
  pointwise [k0_pay4, k0_pay2]
  rw [inv2048_f32]
  rfl

theorem out_A_2 (hc : cond0_0 i) : out0_A_2 c i a1 h1 a2 h2 a3 h3 a4 h4 hc x0 x1 = k0_pay3 x0 x1 := by
  unfold out0_A_2
  rw [View.read_writes_eq_canon _ _ _ (fun _ => cover0_A_2 ..)]
  unfold kernelRun0_A
  dsimp only
  rw [View.canon_unit_zero hz2]
  simp only [View.readAt_eq_ld, h1.read_unread, h2.read_unread, ld_all]

theorem out_A_3 (hc : cond0_0 i) : out0_A_3 c i a1 h1 a2 h2 a3 h3 a4 h4 hc x0 x1 = k0_pay4 x0 x1 (k0_pay1 (F := Ideal)) := by
  unfold out0_A_3
  rw [View.read_writes_eq_canon _ _ _ (fun _ => cover0_A_3 ..)]
  unfold kernelRun0_A
  dsimp only
  sl_unfold_words
  rw [View.canon_cons_unit_zero hz2]
  simp only [View.readAt_eq_ld, h1.read_unread, h2.read_unread, ld_all,
    cov_all]

theorem out_B_2 (hc : ¬cond0_0 i) (xo : Vec Ideal S1x1024 .f32) :
    out0_B_2 c i a1 h1 a2 h2 a3 h3 a4 h4 hc x0 x1 xo = k0_pay3 x0 x1 := by
  unfold out0_B_2
  rw [View.read_writes_eq_canon _ _ _ (fun _ => cover0_B_2 ..)]
  unfold kernelRun0_B
  dsimp only
  rw [View.canon_unit_zero hz2]
  simp only [View.readAt_eq_ld, h1.read_unread, h2.read_unread, ld_all]

theorem out_B_3 (hc : ¬cond0_0 i) (xo : Vec Ideal S1x1024 .f32) :
    out0_B_3 c i a1 h1 a2 h2 a3 h3 a4 h4 hc x0 x1 xo = k0_pay4 x0 x1 xo := by
  unfold out0_B_3
  rw [View.read_writes_eq_canon _ _ _ (fun _ => cover0_B_3 ..)]
  unfold kernelRun0_B
  dsimp only
  rw [View.canon_unit_zero hz2]
  simp only [View.readAt_eq_ld, h1.read_unread, h2.read_unread, h4.read_unread, ld_all]

end body

/-! ## What the two arrays hold at the end -/

theorem left2 : (outsAt0 m c t.val t.isLt).1 = k0_pay3 (iblk m c 0 t) (iblk m c 1 t) := by
  by_cases h0 : t.val % 8 = 0
  · rw [outsAt0_A m c t h0]
    dsimp only
    rw [out_A_2]
  · rw [outsAt0_B m c t h0]
    dsimp only
    rw [out_B_2]

theorem left3_A (h0 : t.val % 8 = 0) (j : S1x1024.Idx) :
    (outsAt0 m c t.val t.isLt).2 j = gain (iblk m c 0 t) (iblk m c 1 t) (j 1) := by
  rw [outsAt0_A m c t h0]
  dsimp only
  rw [out_A_3, pay4]
  pointwise [k0_pay1]

theorem left3_B (h0 : ¬t.val % 8 = 0) (j : S1x1024.Idx) :
    (outsAt0 m c t.val t.isLt).2 j = ((outsAt0 m c (t.val - 1) (pred_lt t)).2 j
      + gain (iblk m c 0 t) (iblk m c 1 t) (j 1) : EReal) := by
  rw [outsAt0_B m c t h0]
  dsimp only
  rw [out_B_3, pay4]

theorem left3 (j : S1x1024.Idx) (n : ℕ) (h : n < cfg0.N) : (outsAt0 m c n h).2 j
    = ∑ k : Fin (n + 1), gain (iblk m c 0 ⟨k.val, by omega⟩) (iblk m c 1 ⟨k.val, by omega⟩) (j 1) :=
  sum_of_steps (α := EReal) (fun n h => (outsAt0 m c n h).2 j) (fun n h => gain (iblk m c 0 ⟨n, h⟩) (iblk m c 1 ⟨n, h⟩) (j 1))
    (fun h => left3_A m c ⟨0, h⟩ (Nat.zero_mod _) j)
    (fun n h => left3_B m c ⟨n + 1, h⟩ (by have : n + 1 < 8 := N_0 ▸ h; show ¬(n + 1) % 8 = 0; omega) j) n h

theorem final2 : (dats m 0 c).arrAt 2 cfg0.N = dout m c := by
  refine (dats m 0 c).arrAt_eq_of_cover 2 (dout m c) (fun t _ => ?_) fun i => ?_
  · rw [flushed2]
    funext j
    rw [View.read_apply, emb2]
    show (outsAt0 m c t.val t.isLt).1 j = dout m c _
    rw [left2, pay3, iblk0, iblk1]
    rfl
  · obtain ⟨t, j, rfl⟩ := covered i
    exact ⟨t, flush0_2 t, emb2 t j ▸ View.emb_mem_set _ _⟩

theorem gain_eq (q : Fin 1024) : gain (iblk m c 0 t) (iblk m c 1 t) q
    = (∑ r : Fin 512, sq m c (row t (ix2 r q))) * ((1 / 2048 : ℝ) : EReal) := by
  unfold gain
  congr 1
  refine Finset.sum_congr rfl fun r _ => ?_
  rw [iblk0, iblk1]
  rfl

theorem column_eq (q : Fin 1024) : column m c q = ∑ t : Fin 8, (∑ r : Fin 512,
    sq m c (ix2 ⟨t.val * 512 + r.val, by omega⟩ q)) * ((1 / 2048 : ℝ) : EReal) := by
  unfold column
  rw [Fin.sum_univ_tiles 8 512 rfl]
  exact sum_mul_of_nonneg _ _ (fun t => Finset.sum_nonneg fun r _ => mul_self_nonneg _) _

theorem total (j : S1x1024.Idx) (t : Fin cfg0.N) (ht : t.val % 8 = 7) :
    (outsAt0 m c t.val t.isLt).2 j = loss m c j := by
  have h8 : t.val + 1 = 8 := by have : t.val < 8 := N_0 ▸ t.isLt; omega
  rw [left3]
  refine (Fintype.sum_equiv (finCongr h8) _ _ fun k => ?_).trans (column_eq m c (j 1)).symm
  refine (gain_eq m c _ _).trans (congrArg (· * ((1 / 2048 : ℝ) : EReal)) ?_)
  refine Finset.sum_congr rfl fun r _ => congrArg _ (idx2 ?_ rfl)
  show 512 * k.val + r.val = k.val * 512 + r.val
  omega

theorem final3 : (dats m 0 c).arrAt 3 cfg0.N = loss m c := by
  refine (dats m 0 c).arrAt_eq_of_cover 3 (loss m c) (fun t ht => ?_) fun i => ?_
  · rw [flushed3]
    funext j
    rw [View.read_apply, emb3]
    exact total m c j t ((flush0_3 t).mp ht)
  · exact ⟨⟨7, by rw [show cfg0.N = 8 from N_0]; omega⟩, (flush0_3 _).mpr rfl, emb3 ⟨7, _⟩ i ▸ View.emb_mem_set _ _⟩

end Cert.LossIdeal.Val

/-! ## The reference -/

namespace Cert.LossRefIdeal.Val

open Cert.LossRefIdeal Cert.LossRefIdeal.Read

variable (y t : S4096x1024.Idx → EReal)

theorem grad (i : S4096x1024.Idx) : val_main_v14 (F := Ideal) y t i = ((y i - t i) * ((1 / 1024 : ℝ) : EReal) : EReal) := by
  rw [val_main_v14_apply, val_main_v3_apply, val_main_v0_apply, val_main_v2_apply, val_main_cst_apply]
  rw [val_main_v13_apply, val_main_v12_apply, val_main_v11_apply, val_main_cst_6_apply, val_main_v10_apply,
    val_main_v9_apply, val_main_cst_4_apply, val_main_cst_5_apply]
  show Ideal.div (Ideal.ofBits .f32 0x3F000000#32 * Ideal.ofBits .f32 0x3F800000#32) (Ideal.ofBits .f32 0x44800000#32)
    * (Ideal.ofBits .f32 0x40000000#32 * (y i - t i)) = _
  rw [half_f32, Ideal.ofBits_one_f32, f1024_f32, two_f32, Ideal.div_coe (by norm_num), mul_one, ← mul_assoc, ← EReal.coe_mul,
    ← EReal.coe_mul, mul_comm]
  norm_num

theorem loss (j : S1x1024.Idx) (q : Fin 1024) (hq : q = j 1) : val_main_v22 (F := Ideal) y t j
    = ((∑ r : Fin 4096, (y (ix2 r q) - t (ix2 r q)) * (y (ix2 r q) - t (ix2 r q))) * ((1 / 2048 : ℝ) : EReal) : EReal) := by
  rw [val_main_v22_apply, val_main_v21_apply, val_main_cst_9_apply, val_main_v20_apply, val_main_v19_apply, val_main_cst_8_apply,
    val_main_v18_apply, val_main_v17_apply, val_main_cst_7_apply]
  simp only [val_main_v16_apply, val_main_v15_apply]
  have e (k : Fin 4096) : idx_main_v17 (idx_main_v18 j) k = ix2 k q := idx2 rfl (hq ▸ rfl)
  simp only [e]
  show Ideal.div (Ideal.ofBits .f32 0x3F000000#32 * (Ideal.ofBits .f32 0x00000000#32 + ∑ k : Fin 4096,
    (y (ix2 k q) - t (ix2 k q)) * (y (ix2 k q) - t (ix2 k q)))) (Ideal.ofBits .f32 0x44800000#32) = _
  rw [half_f32, Ideal.ofBits_zero_f32, f1024_f32, Ideal.div_coe (by norm_num), zero_add, mul_comm ((1 / 2 : ℝ) : EReal), mul_assoc,
    ← EReal.coe_mul]
  norm_num

end Cert.LossRefIdeal.Val

/-! ## The claims -/

namespace Cert.Proof.Loss

open Cert.LossIdeal.Val

theorem frame_ref : Cert.quiescent_LossRefIdeal := fun m ρ _ =>
  (θ_run Cert.LossRefIdeal.defs _ _).mono (fun r h => ⟨fun c => (h c).2.2,
      Idealize.ShloMosaic.sem_eq_zero_of_no_sems (by decide) r.2⟩)
    (Cert.LossRefIdeal.Value.run (F := Ideal) m ρ)

/-- Both programs end with the gradient of the loss and the loss of each column. -/
theorem algebraic : Cert.algebraic_LossIdeal_LossRefIdeal := by
  intro m ρ m' ρ' _ hagree
  refine ⟨dout m, loss m, ?_, ?_⟩
  · refine (θ_run Cert.LossIdeal.defs _ _).mono (fun r h c => ?_) (Cert.LossIdeal.Value.run_blocks (F := Ideal) m ρ)
    obtain ⟨h2, h3, ha⟩ := h c
    exact ⟨h2.trans (final2 m c), h3.trans (final3 m c), ha⟩
  · refine (θ_run Cert.LossRefIdeal.defs _ _).mono (fun r h c => ?_) (Cert.LossRefIdeal.Value.run (F := Ideal) m' ρ')
    obtain ⟨h2, h3, ha⟩ := h c
    obtain ⟨e0, e1⟩ := hagree c
    refine ⟨h2.trans ?_, h3.trans ?_, ha⟩
    · rw [Cert.LossRefIdeal.Read.val_main_v14_eq, e0, e1]
      funext i
      exact Cert.LossRefIdeal.Val.grad _ _ i
    · rw [Cert.LossRefIdeal.Read.val_main_v22_eq, e0, e1]
      funext j
      exact Cert.LossRefIdeal.Val.loss _ _ j _ rfl

end Cert.Proof.Loss
-- ==== Proof.Ple.lean ====
/-
  The gradient of the per-layer gate `pp · sigmoid(gpre)`, block by block: what one grid point writes, what the two
  result arrays hold, what the reference computes, and that the two agree. Extended-real products commute and
  associate, so no argument needs to be finite.
-/
module

public import proofs.«01_k».proof.Defs
public import proofs.«01_k».proof.Proof.Common
public import proofs.«01_k».proof.Proof.Gen.PleIdeal.Value
public import proofs.«01_k».proof.Proof.Gen.PleRefIdeal.Read
public import Idealize.ShloMosaic.Lib.Pointwise
public import Idealize.ShloMosaic.Lib.Quiescent

@[expose] public section

set_option maxRecDepth 16384
noncomputable section

open Idealize.ShloMosaic Idealize.ShloMosaic.TcCoe Idealize.SL.Sem
open Idealize.ShloMosaic.Pipeline (Dat)
open Cert.Common

namespace Cert.PleIdeal.Val

open Cert.PleIdeal Cert.PleIdeal.Gen Cert.PleIdeal.Value

variable (m : (ℓ : Loc nD τ sig) → Buf (Elt Ideal) ℓ) (ρ : Dev nD → PrngReg)

/-- An array of 4096 rows of 1024 extended reals. -/
local notation "Arr" => S4096x1024.Idx → EReal

/-- The three arguments. -/
abbrev gpre (c : Dev nD) : Arr := m ((c : Thread nD τ).loc main_arg0)
abbrev pp (c : Dev nD) : Arr := m ((c : Thread nD τ).loc main_arg1)
abbrev dh (c : Dev nD) : Arr := m ((c : Thread nD τ).loc main_arg2)

/-- The gate's gradient: the cotangent times the gated value times the slope of the sigmoid. -/
def dgate (c : Dev nD) : Arr := fun i =>
  dh m c i * pp m c i * Ideal.logistic (gpre m c i) * (1 - Ideal.logistic (gpre m c i))
/-- The gated value's gradient: the cotangent times the sigmoid. -/
def dpp (c : Dev nD) : Arr := fun i => dh m c i * Ideal.logistic (gpre m c i)

/-- Row `512 t + r` of the array. -/
abbrev row (t : Fin grid0.N) (j : S512x1024.Idx) : S4096x1024.Idx :=
  ix2 ⟨512 * t.val + (j 0).val, by have h : t.val < 8 := N_0 ▸ t.isLt; have h' : (j 0).val < 512 := (j 0).isLt; omega⟩ (j 1)

/-- Every window moves down the rows with the grid point. -/
theorem index_eq : ∀ t : Fin grid0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0) := by
  decide +kernel

theorem V_v0 (c : Dev nD) : V m c main_v0 = (gpre m c : Arr) := by
  dsimp only [V, hostOps0]; after_results; rfl
theorem V_v1 (c : Dev nD) : V m c main_v1 = (pp m c : Arr) := by
  dsimp only [V, hostOps0]; after_results; rfl

theorem iblk0 (c : Dev nD) (t : Fin grid0.N) (j : S512x1024.Idx) : iblk m c 0 t j = dh m c (row t j) := by
  unfold iblk
  rw [View.read_apply]
  show V m c main_arg2 _ = _
  rw [V_main_arg2]
  refine congrArg _ (idx2 ?_ ?_)
  · show win0_0.index t 0 * 512 + 1 * (j 0).val = 512 * t.val + (j 0).val; rw [(index_eq t).1.1]; omega
  · show win0_0.index t 1 * 1024 + 1 * (j 1).val = (j 1).val; rw [(index_eq t).1.2]; omega

theorem iblk1 (c : Dev nD) (t : Fin grid0.N) (j : S512x1024.Idx) : iblk m c 1 t j = gpre m c (row t j) := by
  unfold iblk
  rw [View.read_apply]
  show V m c main_v0 _ = _
  rw [V_v0]
  refine congrArg _ (idx2 ?_ ?_)
  · show win0_1.index t 0 * 512 + 1 * (j 0).val = 512 * t.val + (j 0).val; rw [(index_eq t).2.1.1]; omega
  · show win0_1.index t 1 * 1024 + 1 * (j 1).val = (j 1).val; rw [(index_eq t).2.1.2]; omega

theorem iblk2 (c : Dev nD) (t : Fin grid0.N) (j : S512x1024.Idx) : iblk m c 2 t j = pp m c (row t j) := by
  unfold iblk
  rw [View.read_apply]
  show V m c main_v1 _ = _
  rw [V_v1]
  refine congrArg _ (idx2 ?_ ?_)
  · show win0_2.index t 0 * 512 + 1 * (j 0).val = 512 * t.val + (j 0).val; rw [(index_eq t).2.2.1.1]; omega
  · show win0_2.index t 1 * 1024 + 1 * (j 1).val = (j 1).val; rw [(index_eq t).2.2.1.2]; omega

/-- Where the block that window 3 writes at point `t` puts its element `j`. -/
theorem emb3 (t : Fin cfg0.N) (j : S512x1024.Idx) : ((cfg0.win 3).blk t).view.emb j = row t j := by
  refine idx2 ?_ ?_
  · show win0_3.index t 0 * 512 + 1 * (j 0).val = 512 * t.val + (j 0).val; rw [(index_eq t).2.2.2.1.1]; omega
  · show win0_3.index t 1 * 1024 + 1 * (j 1).val = (j 1).val; rw [(index_eq t).2.2.2.1.2]; omega
theorem emb4 (t : Fin cfg0.N) (j : S512x1024.Idx) : ((cfg0.win 4).blk t).view.emb j = row t j := by
  refine idx2 ?_ ?_
  · show win0_4.index t 0 * 512 + 1 * (j 0).val = 512 * t.val + (j 0).val; rw [(index_eq t).2.2.2.2.1]; omega
  · show win0_4.index t 1 * 1024 + 1 * (j 1).val = (j 1).val; rw [(index_eq t).2.2.2.2.2]; omega

/-- Every row lies in one point's block. -/
theorem covered (i : S4096x1024.Idx) : ∃ (t : Fin cfg0.N) (j : S512x1024.Idx), row t j = i := by
  have h : (i 0).val < 4096 := (i 0).isLt
  refine ⟨⟨(i 0).val / 512, by show _ < grid0.N; rw [N_0]; omega⟩, ix2 ⟨(i 0).val % 512, by omega⟩ (i 1), ?_⟩
  refine idx2 ?_ ?_
  · show 512 * ((i 0).val / 512) + (i 0).val % 512 = (i 0).val; omega
  · rfl

theorem out3 (x0 : Vec Ideal S512x1024 .f32) (x1 x2 : Vec Ideal S512x1024 .bf16) (j : S512x1024.Idx) :
    out0_3 x0 x1 x2 j = (x0 j * x2 j * Ideal.logistic (x1 j) * (1 - Ideal.logistic (x1 j)) : EReal) := by
  unfold out0_3
  rw [View.canon_unit_zero hz2]
  unfold k0_pay3 k0_pay1
  simp only [View.ld_unit_zero (S := S512x1024) hz2, shapeCast_self]
  pointwise []

theorem out4 (x0 : Vec Ideal S512x1024 .f32) (x1 x2 : Vec Ideal S512x1024 .bf16) (j : S512x1024.Idx) :
    out0_4 x0 x1 x2 j = (x0 j * Ideal.logistic (x1 j) : EReal) := by
  unfold out0_4
  rw [View.canon_unit_zero hz2]
  unfold k0_pay2 k0_pay1
  simp only [View.ld_unit_zero (S := S512x1024) hz2, shapeCast_self]
  pointwise []

theorem final3 (c : Dev nD) : (dats m 0 c).arrAt 3 cfg0.N = (dgate m c : Arr) := by
  refine (dats m 0 c).arrAt_eq_of_cover 3 (dgate m c) (fun t _ => ?_) fun i => ?_
  · rw [flushed3]
    funext j
    rw [View.read_apply, emb3]
    show out0_3 (F := Ideal) _ _ _ j = dgate m c _
    rw [out3, iblk0, iblk1, iblk2]
    rfl
  · obtain ⟨t, j, rfl⟩ := covered i
    exact ⟨t, flush0_3 t, emb3 t j ▸ View.emb_mem_set _ _⟩

theorem final4 (c : Dev nD) : (dats m 0 c).arrAt 4 cfg0.N = (dpp m c : Arr) := by
  refine (dats m 0 c).arrAt_eq_of_cover 4 (dpp m c) (fun t _ => ?_) fun i => ?_
  · rw [flushed4]
    funext j
    rw [View.read_apply, emb4]
    show out0_4 (F := Ideal) _ _ _ j = dpp m c _
    rw [out4, iblk0, iblk1]
    rfl
  · obtain ⟨t, j, rfl⟩ := covered i
    exact ⟨t, flush0_4 t, emb4 t j ▸ View.emb_mem_set _ _⟩

end Cert.PleIdeal.Val

/-! ## The reference: the same products in another order -/

namespace Cert.PleRefIdeal.Val

open Cert.PleRefIdeal Cert.PleRefIdeal.Read

variable (g p d : S4096x1024.Idx → EReal) (i : S4096x1024.Idx)

theorem sigmoid : val_main_v5 (F := Ideal) g i = (Ideal.logistic (g i) : EReal) := by
  rw [val_main_v5_apply, val_main_v4_apply, val_main_v3_apply, val_main_v2_apply, val_main_v1_apply, val_main_v0_apply]
  show Ideal.div (Ideal.ofBits .f32 0x3F800000#32) (Ideal.ofBits .f32 0x3F800000#32 + _) = _
  rw [Ideal.ofBits_one_f32]
  rfl

theorem gate : val_main_v13 (F := Ideal) g p d i
    = (p i * d i * (Ideal.logistic (g i) * (1 - Ideal.logistic (g i))) : EReal) := by
  rw [val_main_v13_apply, val_main_v12_apply, val_main_v10_apply, val_main_v8_apply, val_main_v7_apply, val_main_v6_apply,
    sigmoid]
  show p i * d i * (_ * (Ideal.ofBits .f32 0x3F800000#32 - _)) = _
  rw [Ideal.ofBits_one_f32]

theorem gated : val_main_v14 (F := Ideal) g d i = (d i * Ideal.logistic (g i) : EReal) := by
  rw [val_main_v14_apply, val_main_v11_apply, sigmoid]
  rfl

end Cert.PleRefIdeal.Val

/-! ## The claims -/

namespace Cert.Proof.Ple

open Cert.PleIdeal.Val

theorem frame_ref : Cert.quiescent_PleRefIdeal := fun m ρ _ =>
  (θ_run Cert.PleRefIdeal.defs _ _).mono (fun r h => ⟨fun c => (h c).2.2,
      Idealize.ShloMosaic.sem_eq_zero_of_no_sems (by decide) r.2⟩)
    (Cert.PleRefIdeal.Value.run (F := Ideal) m ρ)

/-- Both programs end with the gate's gradient and the gated value's gradient. -/
theorem algebraic : Cert.algebraic_PleIdeal_PleRefIdeal := by
  intro m ρ m' ρ' _ hagree
  refine ⟨dgate m, dpp m, ?_, ?_⟩
  · refine (θ_run Cert.PleIdeal.defs _ _).mono (fun r h c => ?_) (Cert.PleIdeal.Value.run_blocks (F := Ideal) m ρ)
    obtain ⟨h3, h4, ha⟩ := h c
    exact ⟨h3.trans (final3 m c), h4.trans (final4 m c), ha⟩
  · refine (θ_run Cert.PleRefIdeal.defs _ _).mono (fun r h c => ?_) (Cert.PleRefIdeal.Value.run (F := Ideal) m' ρ')
    obtain ⟨h3, h4, ha⟩ := h c
    obtain ⟨e0, e1, e2⟩ := hagree c
    refine ⟨h3.trans ?_, h4.trans ?_, ha⟩
    · rw [Cert.PleRefIdeal.Read.val_main_v13_eq, e0, e1, e2]
      funext i
      rw [Cert.PleRefIdeal.Val.gate]
      show _ = dh m c i * pp m c i * Ideal.logistic (gpre m c i) * (1 - Ideal.logistic (gpre m c i))
      rw [mul_comm (dh m c i)]
      exact (mul_assoc (_ : EReal) _ _).symm
    · rw [Cert.PleRefIdeal.Read.val_main_v14_eq, e0, e2]
      funext i
      rw [Cert.PleRefIdeal.Val.gated]
      rfl

end Cert.Proof.Ple
-- ==== Proof.Gates.lean ====
/-
  The gradients through the delta rule's decay and write strength. The decay of head `h` is `-exp a_h * softplus (x_h + t_h)`
  on the first eight columns, the write strength the logistic of the next eight. The kernel works on 128 lanes, of which it
  masks all but these, and sums the columns of the two vectors' gradients block by block.
-/
module

public import proofs.«01_k».proof.Defs
public import proofs.«01_k».proof.Proof.Common
public import proofs.«01_k».proof.Proof.Gen.GatesIdeal.Value
public import proofs.«01_k».proof.Proof.Gen.GatesRefIdeal.Run
public import proofs.«01_k».proof.Proof.Gen.GatesRefIdeal.Read

@[expose] public section

set_option maxRecDepth 16384
noncomputable section

open Idealize.ShloMosaic Idealize.ShloMosaic.TcCoe Idealize.SL.Sem
open Idealize.ShloMosaic.Pipeline (Dat)
open Cert.Common

namespace Cert.GatesIdeal.Val

open Cert.GatesIdeal Cert.GatesIdeal.Gen Cert.GatesIdeal.Value

variable (m : (ℓ : Loc nD τ sig) → Buf (Elt Ideal) ℓ) (c : Dev nD) (t : Fin cfg0.N)

/-- The five arguments. -/
abbrev ab : S4096x16.Idx → EReal := m ((c : Thread nD τ).loc main_arg0)
abbrev alog : S8.Idx → EReal := m ((c : Thread nD τ).loc main_arg1)
abbrev bias : S8.Idx → EReal := m ((c : Thread nD τ).loc main_arg2)
abbrev dg : S4096x8.Idx → EReal := m ((c : Thread nD τ).loc main_arg3)
abbrev dbeta : S4096x8.Idx → EReal := m ((c : Thread nD τ).loc main_arg4)

/-! ## One element, in the kernel's own order -/

/-- The decay's gradient to its input. -/
def dxs (x d a t : EReal) : EReal := d * (0 - Ideal.exp a) * Ideal.logistic (x + t)
/-- The write strength's gradient to its input. -/
def dxb (x d : EReal) : EReal := d * Ideal.logistic x * (1 - Ideal.logistic x)
/-- The decay times its gradient. -/
def dgg (x d a t : EReal) : EReal :=
  d * ((0 - Ideal.exp a) * (max (x + t) 0 + Ideal.log (1 + Ideal.exp (0 - max (x + t) (-(x + t))))))

/-! ## What the kernel's operands hold: the arguments on their lanes, zero elsewhere -/

def lx (r : Fin 4096) (l : Fin 128) : EReal := if h : l.val < 16 then ab m c (ix2 r ⟨l.val, h⟩) else 0
def ld (r : Fin 4096) (l : Fin 128) : EReal :=
  if h : l.val < 8 then dg m c (ix2 r ⟨l.val, h⟩) else if h' : l.val < 16 then dbeta m c (ix2 r ⟨l.val - 8, by omega⟩) else 0
def la (l : Fin 128) : EReal := if h : l.val < 8 then alog m c (ix1 ⟨l.val, h⟩) else 0
def lt (l : Fin 128) : EReal := if h : l.val < 8 then bias m c (ix1 ⟨l.val, h⟩) else 0

/-- The three results. -/
def dab (r : Fin 4096) (l : Fin 128) : EReal :=
  (if l.val < 8 then dxs (lx m c r l) (ld m c r l) (la m c l) (lt m c l) else 0)
    + (if 8 ≤ l.val ∧ l.val < 16 then dxb (lx m c r l) (ld m c r l) else 0)
def dal (l : Fin 128) : EReal :=
  ∑ r : Fin 4096, if l.val < 8 then dgg (lx m c r l) (ld m c r l) (la m c l) (lt m c l) else 0
def ddt (l : Fin 128) : EReal :=
  ∑ r : Fin 4096, if l.val < 8 then dxs (lx m c r l) (ld m c r l) (la m c l) (lt m c l) else 0

def arr4 : Vec Ideal S4096x128 .bf16 := fun i => dab m c (i 0) (i 1)
def arr5 : Vec Ideal S1x128 .f32 := fun i => dal m c (i 1)
def arr6 : Vec Ideal S1x128 .f32 := fun i => ddt m c (i 1)

theorem zero_word : Scalar.sitofp (F := Ideal) .f32 (0#32) = (0 : EReal) := by simp

abbrev zeroS : Vec Ideal S_ .f32 := sitofp (F := Ideal) .f32 (constantI S_ 32 0#32)

theorem V_ops :
    V m c main_v0 = (pad S4096x128 ![0, 0] ![0, 112] ![0, 0] (ab m c)
    zeroS pads_S4096x16_S4096x128_000_01120 h_S_ : Vec Ideal S4096x128 .f32)
    ∧ V m c main_v2 = (pad S4096x128 ![0, 0] ![0, 112] ![0, 0]
    (concatenate S4096x16 1 [⟨S4096x8, dg m c⟩, ⟨S4096x8, dbeta m c⟩] concatenates_S4096x8_S4096x8_S4096x16_d1)
    zeroS pads_S4096x16_S4096x128_000_01120 h_S_ : Vec Ideal S4096x128 .f32)
    ∧ V m c main_v4 = (pad S1x128 ![0, 0] ![0, 120] ![0, 0] (shapeCast S1x8 (alog m c) shapeCasts_S8_S1x8)
    zeroS pads_S1x8_S1x128_000_01200 h_S_ : Vec Ideal S1x128 .f32)
    ∧ V m c main_v6 = (pad S1x128 ![0, 0] ![0, 120] ![0, 0] (shapeCast S1x8 (bias m c) shapeCasts_S8_S1x8)
    zeroS pads_S1x8_S1x128_000_01200 h_S_ : Vec Ideal S1x128 .f32) := by
  refine ⟨?_, ?_, ?_, ?_⟩ <;>
  · simp only [V, hostOps0, hostOps0_1, hostOps0_2, hostOps0_3, hostOps0_4, hostOps0_5, hostOps0_6, hostOps0_7,
      List.flatten_cons, List.flatten_nil, List.append_nil, List.cons_append, List.nil_append]
    after_results
    rfl

theorem V_v0_at (r : Fin 4096) (l : Fin 128) : V m c main_v0 (ix2 r l : S4096x128.Idx) = lx m c r l := by
  rw [(V_ops m c).1]
  pointwise []
  exact dite_congr rfl (fun _ => rfl) fun _ => zero_word
theorem V_v2_at (r : Fin 4096) (l : Fin 128) : V m c main_v2 (ix2 r l : S4096x128.Idx) = ld m c r l := by
  rw [(V_ops m c).2.1]
  pointwise []
  unfold ld
  rw [show FloatOps.sitofp (F := Ideal) .f32 0#32 = (0 : EReal) from zero_word]
  by_cases h : l.val < 8
  · rw [dif_pos (show l.val < 16 by omega), dif_pos h, dif_pos h]
  · by_cases h' : l.val < 16
    · rw [dif_pos h', dif_neg h, dif_neg h, dif_pos h']
    · rw [dif_neg h', dif_neg h, dif_neg h']
theorem V_v4_at (r : Fin 1) (l : Fin 128) : V m c main_v4 (ix2 r l : S1x128.Idx) = la m c l := by
  rw [(V_ops m c).2.2.1]
  pointwise []
  exact dite_congr rfl (fun _ => rfl) fun _ => zero_word
theorem V_v6_at (r : Fin 1) (l : Fin 128) : V m c main_v6 (ix2 r l : S1x128.Idx) = lt m c l := by
  rw [(V_ops m c).2.2.2]
  pointwise []
  exact dite_congr rfl (fun _ => rfl) fun _ => zero_word

/-! ## The blocks -/

/-- Element `j` of the block of rows of point `t`. -/
def row (j : S512x128.Idx) : S4096x128.Idx :=
  ix2 ⟨512 * t.val + (j 0).val, by have h : t.val < 8 := N_0 ▸ t.isLt; have : (j 0).val < 512 := (j 0).isLt; omega⟩ (j 1)

theorem index_eq : ∀ t : Fin grid0.N, ((win0_0.index t 0 = t.val ∧ win0_0.index t 1 = 0) ∧ win0_1.index t 0 = t.val ∧ win0_1.index t 1 = 0)
    ∧ ((win0_2.index t 0 = 0 ∧ win0_2.index t 1 = 0) ∧ win0_3.index t 0 = 0 ∧ win0_3.index t 1 = 0)
    ∧ (win0_4.index t 0 = t.val ∧ win0_4.index t 1 = 0)
    ∧ (win0_5.index t 0 = 0 ∧ win0_5.index t 1 = 0) ∧ win0_6.index t 0 = 0 ∧ win0_6.index t 1 = 0 := by decide +kernel

theorem iblk0 (j : S512x128.Idx) : iblk m c 0 t j = ld m c (row t j 0) (row t j 1) := by
  unfold iblk
  rw [View.read_apply]
  refine Eq.trans (congrArg (V m c main_v2) (idx2 (j := row t j) ?_ ?_)) (V_v2_at m c _ _)
  · show win0_0.index t 0 * 512 + 1 * (j 0).val = 512 * t.val + (j 0).val; rw [(index_eq t).1.1.1]; omega
  · show win0_0.index t 1 * 128 + 1 * (j 1).val = (j 1).val; rw [(index_eq t).1.1.2]; omega

theorem iblk1 (j : S512x128.Idx) : iblk m c 1 t j = lx m c (row t j 0) (row t j 1) := by
  unfold iblk
  rw [View.read_apply]
  refine Eq.trans (congrArg (V m c main_v0) (idx2 (j := row t j) ?_ ?_)) (V_v0_at m c _ _)
  · show win0_1.index t 0 * 512 + 1 * (j 0).val = 512 * t.val + (j 0).val; rw [(index_eq t).1.2.1]; omega
  · show win0_1.index t 1 * 128 + 1 * (j 1).val = (j 1).val; rw [(index_eq t).1.2.2]; omega

theorem iblk2 (j : S1x128.Idx) : iblk m c 2 t j = la m c (j 1) := by
  unfold iblk
  rw [View.read_apply]
  refine Eq.trans (congrArg (V m c main_v4) (idx2 (j := ix2 (j 0) (j 1)) ?_ ?_)) (V_v4_at m c (j 0) (j 1))
  · show win0_2.index t 0 * 1 + 1 * (j 0).val = (j 0).val; rw [(index_eq t).2.1.1.1]; omega
  · show win0_2.index t 1 * 128 + 1 * (j 1).val = (j 1).val; rw [(index_eq t).2.1.1.2]; omega

theorem iblk3 (j : S1x128.Idx) : iblk m c 3 t j = lt m c (j 1) := by
  unfold iblk
  rw [View.read_apply]
  refine Eq.trans (congrArg (V m c main_v6) (idx2 (j := ix2 (j 0) (j 1)) ?_ ?_)) (V_v6_at m c (j 0) (j 1))
  · show win0_3.index t 0 * 1 + 1 * (j 0).val = (j 0).val; rw [(index_eq t).2.1.2.1]; omega
  · show win0_3.index t 1 * 128 + 1 * (j 1).val = (j 1).val; rw [(index_eq t).2.1.2.2]; omega

theorem emb4 (j : S512x128.Idx) : ((cfg0.win 4).blk t).view.emb j = row t j :=
  idx2 (by show win0_4.index t 0 * 512 + 1 * (j 0).val = 512 * t.val + (j 0).val; rw [(index_eq t).2.2.1.1]; omega)
    (by show win0_4.index t 1 * 128 + 1 * (j 1).val = (j 1).val; rw [(index_eq t).2.2.1.2]; omega)
theorem emb5 (j : S1x128.Idx) : ((cfg0.win 5).blk t).view.emb j = j :=
  idx2 (by show win0_5.index t 0 * 1 + 1 * (j 0).val = (j 0).val; rw [(index_eq t).2.2.2.1.1]; omega)
    (by show win0_5.index t 1 * 128 + 1 * (j 1).val = (j 1).val; rw [(index_eq t).2.2.2.1.2]; omega)
theorem emb6 (j : S1x128.Idx) : ((cfg0.win 6).blk t).view.emb j = j :=
  idx2 (by show win0_6.index t 0 * 1 + 1 * (j 0).val = (j 0).val; rw [(index_eq t).2.2.2.2.1]; omega)
    (by show win0_6.index t 1 * 128 + 1 * (j 1).val = (j 1).val; rw [(index_eq t).2.2.2.2.2]; omega)

theorem covered (i : S4096x128.Idx) : ∃ (t : Fin cfg0.N) (j : S512x128.Idx), row t j = i := by
  have h : (i 0).val < 4096 := (i 0).isLt
  exact ⟨⟨(i 0).val / 512, by show _ < grid0.N; rw [N_0]; omega⟩, ix2 ⟨(i 0).val % 512, by omega⟩ (i 1),
    idx2 (by show 512 * ((i 0).val / 512) + (i 0).val % 512 = (i 0).val; omega) rfl⟩

/-! ## The body -/

section body
variable (c : Dev nD) (i : grid0.Coords) (a1 : Memref sig .tc .vmem S512x128 .f32) (h1 : a1.IsWhole)
  (a2 : Memref sig .tc .vmem S512x128 .f32) (h2 : a2.IsWhole) (a3 : Memref sig .tc .vmem S1x128 .f32) (h3 : a3.IsWhole)
  (a4 : Memref sig .tc .vmem S1x128 .f32) (h4 : a4.IsWhole) (a5 : Memref sig .tc .vmem S512x128 .bf16) (h5 : a5.IsWhole)
  (a6 : Memref sig .tc .vmem S1x128 .f32) (h6 : a6.IsWhole) (a7 : Memref sig .tc .vmem S1x128 .f32) (h7 : a7.IsWhole)
  (d x : Vec Ideal S512x128 .f32) (a t : Vec Ideal S1x128 .f32)

abbrev lanes : IVec S512x128 32 := iota .tc S512x128 32 [1] iota_S512x128_d1_w32

theorem out_A (hc : cond0_0 i) :
    out0_A_4 c i a1 h1 a2 h2 a3 h3 a4 h4 a5 h5 a6 h6 a7 h7 hc d x a t
        = k0_pay1 (k0_pay7 d) lanes (k0_pay11 x d a t) (k0_pay12 x) 8#32
      ∧ out0_A_5 c i a1 h1 a2 h2 a3 h3 a4 h4 a5 h5 a6 h6 a7 h7 hc d x a t
        = k0_pay2 (k0_pay7 d) lanes (k0_pay10 x a t) (k0_pay4 (F := Ideal))
      ∧ out0_A_6 c i a1 h1 a2 h2 a3 h3 a4 h4 a5 h5 a6 h6 a7 h7 hc d x a t = k0_pay3 (k0_pay11 x d a t) (k0_pay5 (F := Ideal)) := by
  unfold out0_A_4 out0_A_5 out0_A_6
  rw [View.read_writes_eq_canon _ _ _ (fun _ => cover0_A_4 ..), View.read_writes_eq_canon _ _ _ (fun _ => cover0_A_5 ..),
    View.read_writes_eq_canon _ _ _ (fun _ => cover0_A_6 ..)]
  unfold kernelRun0_A
  dsimp only
  sl_unfold_words
  rw [View.canon_unit_zero hz2, View.canon_cons_unit_zero hz2, View.canon_cons_unit_zero hz2]
  simp only [View.readAt_eq_ld, h1.read_unread, h2.read_unread, h3.read_unread, h4.read_unread, ld_all, cov_all, and_self]

theorem out_B (hc : ¬cond0_0 i) (p q : Vec Ideal S1x128 .f32) :
    out0_B_4 c i a1 h1 a2 h2 a3 h3 a4 h4 a5 h5 a6 h6 a7 h7 hc d x a t p q
        = k0_pay1 (k0_pay7 d) lanes (k0_pay11 x d a t) (k0_pay12 x) 8#32
      ∧ out0_B_5 c i a1 h1 a2 h2 a3 h3 a4 h4 a5 h5 a6 h6 a7 h7 hc d x a t p q = k0_pay2 (k0_pay7 d) lanes (k0_pay10 x a t) p
      ∧ out0_B_6 c i a1 h1 a2 h2 a3 h3 a4 h4 a5 h5 a6 h6 a7 h7 hc d x a t p q = k0_pay3 (k0_pay11 x d a t) q := by
  unfold out0_B_4 out0_B_5 out0_B_6
  rw [View.read_writes_eq_canon _ _ _ (fun _ => cover0_B_4 ..), View.read_writes_eq_canon _ _ _ (fun _ => cover0_B_5 ..),
    View.read_writes_eq_canon _ _ _ (fun _ => cover0_B_6 ..)]
  unfold kernelRun0_B
  dsimp only
  sl_unfold_words
  rw [View.canon_unit_zero hz2, View.canon_unit_zero hz2, View.canon_unit_zero hz2]
  simp only [View.readAt_eq_ld, h1.read_unread, h2.read_unread, h3.read_unread, h4.read_unread, h6.read_unread, h7.read_unread, ld_all, cov_all, and_self]

theorem pay1_at (r : Fin 512) (l : Fin 128) : k0_pay1 (k0_pay7 d) lanes (k0_pay11 x d a t) (k0_pay12 x) 8#32 (ix2 r l)
    = ((if l.val < 8 then dxs (x (ix2 r l)) (d (ix2 r l)) (a (ix2 0 l)) (t (ix2 0 l)) else 0)
      + (if 8 ≤ l.val ∧ l.val < 16 then dxb (x (ix2 r l)) (d (ix2 r l)) else 0) : EReal) := by
  pointwise [k0_pay1, k0_pay7, k0_pay11, k0_pay12, k0_pay6, k0_pay8, k0_pay9]
  rw [lane_slt, lane_sge, lane_slt16, andi_ofBool, select_ofBool, select_ofBool]
  rfl

theorem pay2_at (p : Vec Ideal S1x128 .f32) (r : Fin 1) (l : Fin 128) :
    k0_pay2 (k0_pay7 d) lanes (k0_pay10 x a t) p (ix2 r l) = (p (ix2 r l)
      + ∑ r : Fin 512, (if l.val < 8 then dgg (x (ix2 r l)) (d (ix2 r l)) (a (ix2 0 l)) (t (ix2 0 l)) else 0) : EReal) := by
  pointwise [k0_pay2, k0_pay7, k0_pay10, k0_pay6, k0_pay8, k0_pay9]
  simp only [lane_slt, select_ofBool]
  rfl

theorem pay3_at (p : Vec Ideal S1x128 .f32) (r : Fin 1) (l : Fin 128) :
    k0_pay3 (k0_pay11 x d a t) p (ix2 r l) = (p (ix2 r l)
      + ∑ r : Fin 512, (if l.val < 8 then dxs (x (ix2 r l)) (d (ix2 r l)) (a (ix2 0 l)) (t (ix2 0 l)) else 0) : EReal) := by
  pointwise [k0_pay3, k0_pay7, k0_pay11, k0_pay6, k0_pay8, k0_pay9]
  simp only [lane_slt, select_ofBool]
  rfl

theorem pay4_at (j : S1x128.Idx) : k0_pay4 (F := Ideal) j = (0 : EReal) := by pointwise [k0_pay4]
theorem pay5_at (j : S1x128.Idx) : k0_pay5 (F := Ideal) j = (0 : EReal) := by pointwise [k0_pay5]
end body

/-! ## What the three arrays hold at the end -/

/-- What the block of point `t` adds to column `l` of the two sums. -/
def gal (l : Fin 128) : EReal := ∑ r : Fin 512, if l.val < 8 then
  dgg (lx m c (row t (ix2 r l) 0) l) (ld m c (row t (ix2 r l) 0) l) (la m c l) (lt m c l) else 0
def gdt (l : Fin 128) : EReal := ∑ r : Fin 512, if l.val < 8 then
  dxs (lx m c (row t (ix2 r l) 0) l) (ld m c (row t (ix2 r l) 0) l) (la m c l) (lt m c l) else 0

theorem left4 (r : Fin 512) (l : Fin 128) :
    (outsAt0 m c t.val t.isLt).1 (ix2 r l) = dab m c (row t (ix2 r l) 0) l := by
  have e : (outsAt0 m c t.val t.isLt).1
      = k0_pay1 (k0_pay7 (iblk m c 0 t)) lanes (k0_pay11 (iblk m c 1 t) (iblk m c 0 t) (iblk m c 2 t) (iblk m c 3 t))
        (k0_pay12 (iblk m c 1 t)) 8#32 := by
    by_cases h0 : t.val % 8 = 0
    · rw [outsAt0_A m c t h0]
      dsimp only
      rw [(out_A ..).1]
    · rw [outsAt0_B m c t h0]
      dsimp only
      rw [(out_B ..).1]
  rw [e, pay1_at, iblk0, iblk1, iblk2, iblk3]
  rfl

theorem left5_A (h0 : t.val % 8 = 0) (l : Fin 128) :
    (outsAt0 m c t.val t.isLt).2.1 (ix2 0 l) = gal m c t l := by
  rw [outsAt0_A m c t h0]
  dsimp only
  rw [(out_A ..).2.1, pay2_at, pay4_at, zero_add]
  simp only [iblk0, iblk1, iblk2, iblk3]
  rfl
theorem left5_B (h0 : ¬t.val % 8 = 0) (l : Fin 128) : (outsAt0 m c t.val t.isLt).2.1 (ix2 0 l)
    = ((outsAt0 m c (t.val - 1) (pred_lt t)).2.1 (ix2 0 l) + gal m c t l : EReal) := by
  rw [outsAt0_B m c t h0]
  dsimp only
  rw [(out_B ..).2.1, pay2_at]
  simp only [iblk0, iblk1, iblk2, iblk3]
  rfl
theorem left6_A (h0 : t.val % 8 = 0) (l : Fin 128) :
    (outsAt0 m c t.val t.isLt).2.2 (ix2 0 l) = gdt m c t l := by
  rw [outsAt0_A m c t h0]
  dsimp only
  rw [(out_A ..).2.2, pay3_at, pay5_at, zero_add]
  simp only [iblk0, iblk1, iblk2, iblk3]
  rfl
theorem left6_B (h0 : ¬t.val % 8 = 0) (l : Fin 128) : (outsAt0 m c t.val t.isLt).2.2 (ix2 0 l)
    = ((outsAt0 m c (t.val - 1) (pred_lt t)).2.2 (ix2 0 l) + gdt m c t l : EReal) := by
  rw [outsAt0_B m c t h0]
  dsimp only
  rw [(out_B ..).2.2, pay3_at]
  simp only [iblk0, iblk1, iblk2, iblk3]
  rfl

theorem step_ne {n : ℕ} (h : n + 1 < cfg0.N) : ¬(n + 1) % 8 = 0 := by have : n + 1 < 8 := N_0 ▸ h; omega

theorem left5 (l : Fin 128) (n : ℕ) (h : n < cfg0.N) : (outsAt0 m c n h).2.1 (ix2 0 l)
    = ∑ k : Fin (n + 1), gal m c ⟨k.val, by omega⟩ l :=
  sum_of_steps (α := EReal) (fun n h => (outsAt0 m c n h).2.1 (ix2 0 l)) (fun n h => gal m c ⟨n, h⟩ l)
    (fun h => left5_A m c ⟨0, h⟩ (Nat.zero_mod _) l) (fun n h => left5_B m c ⟨n + 1, h⟩ (step_ne h) l) n h
theorem left6 (l : Fin 128) (n : ℕ) (h : n < cfg0.N) : (outsAt0 m c n h).2.2 (ix2 0 l)
    = ∑ k : Fin (n + 1), gdt m c ⟨k.val, by omega⟩ l :=
  sum_of_steps (α := EReal) (fun n h => (outsAt0 m c n h).2.2 (ix2 0 l)) (fun n h => gdt m c ⟨n, h⟩ l)
    (fun h => left6_A m c ⟨0, h⟩ (Nat.zero_mod _) l) (fun n h => left6_B m c ⟨n + 1, h⟩ (step_ne h) l) n h

theorem final4 : (dats m 0 c).arrAt 4 cfg0.N = arr4 m c := by
  refine (dats m 0 c).arrAt_eq_of_cover 4 (arr4 m c) (fun t _ => ?_) fun i => ?_
  · rw [flushed4]
    funext j
    rw [View.read_apply, emb4]
    show (outsAt0 m c t.val t.isLt).1 j = dab m c (row t j 0) (j 1)
    exact (congrArg _ (eq_ix2 j)).trans (left4 m c t (j 0) (j 1))
  · obtain ⟨t, j, rfl⟩ := covered i
    exact ⟨t, flush0_4 t, emb4 t j ▸ View.emb_mem_set _ _⟩

/-- The sum of a column over the blocks is its sum over the rows. -/
theorem over_rows (f : Fin 4096 → EReal) (t : Fin cfg0.N) (ht : t.val % 8 = 7) (l : Fin 128) :
    (∑ k : Fin (t.val + 1), ∑ r : Fin 512, f (row ⟨k.val, Nat.lt_of_le_of_lt (Nat.le_of_lt_succ k.isLt) t.isLt⟩ (ix2 r l) 0))
      = ∑ r, f r := by
  have h8 : t.val + 1 = 8 := by have : t.val < 8 := N_0 ▸ t.isLt; omega
  rw [Fin.sum_univ_tiles 8 512 rfl f]
  refine Fintype.sum_equiv (finCongr h8) _ _ fun k => Finset.sum_congr rfl fun r _ => congrArg f (Fin.ext ?_)
  show 512 * k.val + r.val = k.val * 512 + r.val
  omega

theorem final5 : (dats m 0 c).arrAt 5 cfg0.N = arr5 m c := by
  refine (dats m 0 c).arrAt_eq_of_cover 5 (arr5 m c) (fun t ht => ?_) fun i => ?_
  · rw [flushed5]
    funext j
    rw [View.read_apply, emb5]
    show (outsAt0 m c t.val t.isLt).2.1 j = dal m c (j 1)
    refine (congrArg _ (idx2 (j := ix2 0 (j 1)) (Fin.val_eq_zero (j 0)) rfl)).trans ((left5 m c (j 1) t.val t.isLt).trans ?_)
    exact over_rows (fun r => if (j 1).val < 8 then dgg (lx m c r (j 1)) (ld m c r (j 1)) (la m c (j 1)) (lt m c (j 1)) else 0) t
      ((flush0_5 t).mp ht) (j 1)
  · exact ⟨⟨7, by rw [show cfg0.N = 8 from N_0]; omega⟩, (flush0_5 _).mpr rfl, emb5 ⟨7, _⟩ i ▸ View.emb_mem_set _ _⟩

theorem final6 : (dats m 0 c).arrAt 6 cfg0.N = arr6 m c := by
  refine (dats m 0 c).arrAt_eq_of_cover 6 (arr6 m c) (fun t ht => ?_) fun i => ?_
  · rw [flushed6]
    funext j
    rw [View.read_apply, emb6]
    show (outsAt0 m c t.val t.isLt).2.2 j = ddt m c (j 1)
    refine (congrArg _ (idx2 (j := ix2 0 (j 1)) (Fin.val_eq_zero (j 0)) rfl)).trans ((left6 m c (j 1) t.val t.isLt).trans ?_)
    exact over_rows (fun r => if (j 1).val < 8 then dxs (lx m c r (j 1)) (ld m c r (j 1)) (la m c (j 1)) (lt m c (j 1)) else 0) t
      ((flush0_6 t).mp ht) (j 1)
  · exact ⟨⟨7, by rw [show cfg0.N = 8 from N_0]; omega⟩, (flush0_6 _).mpr rfl, emb6 ⟨7, _⟩ i ▸ View.emb_mem_set _ _⟩

end Cert.GatesIdeal.Val

/-! ## The reference -/

namespace Cert.GatesRefIdeal.Val

open Cert.GatesRefIdeal Cert.GatesRefIdeal.Read
open Cert.GatesIdeal.Val (dxs dxb dgg)

section read
variable (x0 : S4096x16.Idx → EReal) (x1 x2 : S8.Idx → EReal) (x3 x4 : S4096x8.Idx → EReal)

theorem sum_at (r : Fin 4096) (l : Fin 8) :
    val_main_v6 (F := Ideal) x0 x2 (ix2 r l) = (x0 (ix2 r ⟨l.val, by omega⟩) + x2 (ix1 l) : EReal) := by
  pointwise [val_main_v6, val_main_v5, val_main_v4, val_main_v0]

theorem softplus_at (r : Fin 4096) (l : Fin 8) : val_main_v7_0 (F := Ideal) x0 x2 (ix2 r l)
    = (max (val_main_v6 (F := Ideal) x0 x2 (ix2 r l)) 0 + Ideal.log1p (Ideal.exp
      (-max (val_main_v6 (F := Ideal) x0 x2 (ix2 r l)) (-(val_main_v6 (F := Ideal) x0 x2 (ix2 r l) : EReal)))) : EReal) := by
  pointwise [val_main_v7_0, val_main_call0_v11, val_main_call0_v10, val_main_call0_v9, val_main_call0_v8, val_main_call0_v7,
    val_main_call0_v6, val_main_call0_v5, val_main_call0_v4, val_main_call0_v3, val_main_call0_v2, val_main_call0_v1,
    val_main_call0_v0, val_main_call0_cst]
  exact if_neg (fun h => h rfl)

theorem decay_at (r : Fin 4096) (l : Fin 8) : val_main_v27 (F := Ideal) x0 x1 x2 x3 (ix2 r l)
    = (-Ideal.exp (x1 (ix1 l)) * x3 (ix2 r l) * Ideal.exp
      ((if (val_main_v6 (F := Ideal) x0 x2 (ix2 r l) : EReal) = ⊤ then 0 else val_main_v6 (F := Ideal) x0 x2 (ix2 r l))
        - if (val_main_v7_0 (F := Ideal) x0 x2 (ix2 r l) : EReal) = ⊤ then 0 else val_main_v7_0 (F := Ideal) x0 x2 (ix2 r l)) : EReal) := by
  pointwise [val_main_v27, val_main_v22, val_main_v7_1, val_main_v21, val_main_v8, val_main_v3, val_main_v2, val_main_call0_v21,
    val_main_call0_v20, val_main_call0_v16, val_main_call0_v14, val_main_call0_v15, val_main_call0_v13, val_main_call0_v18,
    val_main_call0_v17, val_main_call0_v19, val_main_call0_cst_0, val_main_call0_cst_1, val_main_call0_cst_2, val_main_call0_cst_3]
  rw [top_f32]

theorem v37_at (r : Fin 4096) (l : Fin 128) : val_main_v37 (F := Ideal) x0 x1 x2 x3 x4 (ix2 r l)
    = (if h : l.val < 16 then
      (if h' : 8 ≤ l.val ∧ l.val - 8 < 8 then x4 (ix2 r ⟨l.val - 8, h'.2⟩)
          * (Ideal.logistic (x0 (ix2 r ⟨8 + (l.val - 8), by omega⟩)) * (1 - Ideal.logistic (x0 (ix2 r ⟨8 + (l.val - 8), by omega⟩))))
        else 0) + if h' : l.val < 8 then val_main_v27 (F := Ideal) x0 x1 x2 x3 (ix2 r ⟨l.val, h'⟩) else 0
      else 0 : EReal) := by
  pointwise [val_main_v37, val_main_v36, val_main_v35, val_main_v34, val_main_v33, val_main_call2_v0, val_main_c, val_main_cst_6,
    val_main_cst_7, val_main_v20, val_main_v19, val_main_v18, val_main_v17, val_main_v16, val_main_v15, val_main_v14, val_main_v13,
    val_main_v12, val_main_v11, val_main_cst, val_main_cst_0, val_main_cst_1, val_main_v1]
  exact dite_congr rfl (fun _ => rfl) fun _ => Cert.GatesIdeal.Val.zero_word

theorem v39_at (r : Fin 1) (l : Fin 128) : val_main_v39 (F := Ideal) x0 x1 x2 x3 (ix2 r l)
    = (if h : l.val < 8 then (-∑ x : Fin 4096, x3 (ix2 x ⟨l.val, h⟩) * val_main_v7_0 (F := Ideal) x0 x2 (ix2 x ⟨l.val, h⟩))
      * Ideal.exp (x1 (ix1 ⟨l.val, h⟩)) else 0 : EReal) := by
  pointwise [val_main_v39, val_main_v38, val_main_v32, val_main_v31, val_main_v26, val_main_v25, val_main_v24, val_main_v23,
    val_main_call3_v0, val_main_c_8, val_main_cst_2, val_main_cst_3, val_main_v2]
  refine dite_congr rfl (fun _ => ?_) fun _ => Cert.GatesIdeal.Val.zero_word
  rw [Fin.sum_univ_one]

theorem v41_at (r : Fin 1) (l : Fin 128) : val_main_v41 (F := Ideal) x0 x1 x2 x3 (ix2 r l)
    = (if h : l.val < 8 then ∑ x : Fin 4096, val_main_v27 (F := Ideal) x0 x1 x2 x3 (ix2 x ⟨l.val, h⟩) else 0 : EReal) := by
  pointwise [val_main_v41, val_main_v40, val_main_v30, val_main_v29, val_main_v28, val_main_call4_v0, val_main_c_9, val_main_cst_4,
    val_main_cst_5]
  refine dite_congr rfl (fun _ => ?_) fun _ => Cert.GatesIdeal.Val.zero_word
  rw [Fin.sum_univ_one]
end read

/-! ## The two forms of one element agree at real arguments -/

/-- The softplus of a real number. -/
def sp (s : ℝ) : ℝ := max s 0 + Real.log (1 + Real.exp (-|s|))

theorem log_one_add (u : ℝ) : Ideal.log (1 + Ideal.exp (u : EReal)) = ((Real.log (1 + Real.exp u) : ℝ) : EReal) := by
  rw [Ideal.exp_coe, ← EReal.coe_one, ← EReal.coe_add, Ideal.log_coe, if_neg (by have := Real.exp_pos u; linarith)]

theorem softplus_coe (s : ℝ) : max (s : EReal) 0 + Ideal.log (1 + Ideal.exp (-max (s : EReal) (-(s : EReal)))) = ((sp s : ℝ) : EReal) := by
  rw [← EReal.coe_neg, coe_max, ← EReal.coe_neg, log_one_add, ← EReal.coe_zero, coe_max, ← EReal.coe_add]
  rfl

/-- The derivative of the softplus is the logistic. -/
theorem exp_sub_sp (s : ℝ) : Real.exp (s - sp s) = (1 + Real.exp (-s))⁻¹ := by
  unfold sp
  have hp (u : ℝ) : 0 < 1 + Real.exp u := by have := Real.exp_pos u; linarith
  rcases le_total 0 s with h | h
  · rw [max_eq_left h, abs_of_nonneg h, sub_add_cancel_left, Real.exp_neg, Real.exp_log (hp _)]
  · rw [max_eq_right h, abs_of_nonpos h, neg_neg, zero_add, Real.exp_sub, Real.exp_log (hp _), Real.exp_neg]
    have := Real.exp_pos s
    field_simp
    ring

section agree
variable (x0 : S4096x16.Idx → ℝ) (x1 x2 : S8.Idx → ℝ) (x3 : S4096x8.Idx → ℝ) (r : Fin 4096) (l : Fin 8)

theorem softplus_real : val_main_v7_0 (F := Ideal) (fun i => (x0 i : EReal)) (fun i => (x2 i : EReal)) (ix2 r l)
    = ((sp (x0 (ix2 r ⟨l.val, by omega⟩) + x2 (ix1 l)) : ℝ) : EReal) := by
  rw [softplus_at, sum_at]
  exact softplus_coe _

theorem decay_real : val_main_v27 (F := Ideal) (fun i => (x0 i : EReal)) (fun i => (x1 i : EReal)) (fun i => (x2 i : EReal))
      (fun i => (x3 i : EReal)) (ix2 r l)
    = dxs (x0 (ix2 r ⟨l.val, by omega⟩)) (x3 (ix2 r l)) (x1 (ix1 l)) (x2 (ix1 l)) := by
  rw [decay_at, softplus_real, sum_at]
  unfold dxs
  rw [if_neg (EReal.coe_ne_top _), ← EReal.coe_add, if_neg (EReal.coe_ne_top _), ← EReal.coe_sub, Ideal.exp_coe, Ideal.exp_coe,
    exp_sub_sp, Ideal.logistic_coe, zero_sub, ← EReal.coe_neg, ← EReal.coe_mul, ← EReal.coe_mul, ← EReal.coe_mul, ← EReal.coe_mul,
    mul_comm (-Real.exp _)]

theorem dgg_real (x d a t : ℝ) : dgg x d a t = ((d * ((-Real.exp a) * sp (x + t)) : ℝ) : EReal) := by
  unfold dgg
  rw [zero_sub, zero_sub, ← EReal.coe_add, softplus_coe, Ideal.exp_coe, ← EReal.coe_neg, ← EReal.coe_mul, ← EReal.coe_mul]
end agree

end Cert.GatesRefIdeal.Val

/-! ## The claims -/

namespace Cert.Proof.Gates

open Cert.GatesIdeal.Val Cert.GatesRefIdeal.Val Cert.GatesRefIdeal.Read
open Cert.GatesIdeal (nD τ sig main_arg0 main_arg1 main_arg2 main_arg3 S4096x16 S4096x8 S8)

theorem frame_ref : Cert.quiescent_GatesRefIdeal := fun m ρ _ =>
  (θ_run Cert.GatesRefIdeal.defs _ _).mono (fun r h => ⟨fun c => (h c).2.2.2,
      Idealize.ShloMosaic.sem_eq_zero_of_no_sems (by decide) r.2⟩)
    (Cert.GatesRefIdeal.Value.run (F := Ideal) m ρ)

/-- The precondition read: four of the arguments are arrays of real numbers. -/
theorem reals [Cert.Pre_finite_gates.Facts] (m : (ℓ : Loc nD τ sig) → Buf (Elt Ideal) ℓ) (h : Cert.Pre_GatesIdeal_finite_gates m)
    (c : Dev nD) : (∃ f : S4096x16.Idx → ℝ, ab m c = fun i => (f i : EReal)) ∧ (∃ f : S8.Idx → ℝ, alog m c = fun i => (f i : EReal))
      ∧ (∃ f : S8.Idx → ℝ, bias m c = fun i => (f i : EReal)) ∧ ∃ f : S4096x8.Idx → ℝ, dg m c = fun i => (f i : EReal) := by
  obtain ⟨h0, h1, h2, h3⟩ := h c
  exact ⟨reals_of_lt _ _ _ h0, reals_of_lt _ _ _ h1, reals_of_lt _ _ _ h2, reals_of_lt _ _ _ h3⟩

section
variable (m : (ℓ : Loc nD τ sig) → Buf (Elt Ideal) ℓ) (c : Dev nD)
  {f0 : S4096x16.Idx → ℝ} {f1 f2 : S8.Idx → ℝ} {f3 : S4096x8.Idx → ℝ} (h0 : ab m c = fun i => ((f0 i : ℝ) : EReal))
  (h1 : alog m c = fun i => ((f1 i : ℝ) : EReal)) (h2 : bias m c = fun i => ((f2 i : ℝ) : EReal))
  (h3 : dg m c = fun i => ((f3 i : ℝ) : EReal))
include h0 h1 h2 h3

/-- On the decay's lanes the kernel's element is the reference's. -/
theorem lane_dxs (r : Fin 4096) (l : Fin 128) (h : l.val < 8) : dxs (lx m c r l) (ld m c r l) (la m c l) (lt m c l)
    = val_main_v27 (F := Ideal) (ab m c) (alog m c) (bias m c) (dg m c) (ix2 r ⟨l.val, h⟩) := by
  rw [lx, ld, la, lt, dif_pos (show l.val < 16 by omega), dif_pos h, dif_pos h, dif_pos h, h0, h1, h2, h3]
  exact (decay_real f0 f1 f2 f3 r ⟨l.val, h⟩).symm

theorem dab_eq (r : Fin 4096) (l : Fin 128) : dab m c r l = val_main_v37 (F := Ideal) (ab m c) (alog m c)
    (bias m c) (dg m c) (dbeta m c) (ix2 r l) := by
  rw [v37_at]
  unfold dab
  by_cases h8 : l.val < 8
  · rw [if_pos h8, if_neg (by omega), dif_pos (by omega), dif_neg (by omega), dif_pos h8, lane_dxs m c h0 h1 h2 h3 r l h8, add_comm]
  · rw [if_neg h8]
    by_cases h16 : l.val < 16
    · rw [if_pos (by omega), dif_pos h16, dif_pos (by omega), dif_neg h8, add_comm]
      unfold dxb lx ld
      rw [dif_pos h16, dif_neg h8, dif_pos h16, mul_assoc (_ : EReal) _ _]
      have e : (⟨8 + (l.val - 8), by omega⟩ : Fin 16) = ⟨l.val, h16⟩ := Fin.ext (by show 8 + (l.val - 8) = l.val; omega)
      rw [e]
    · rw [if_neg (by omega), dif_neg h16, add_zero]

theorem dal_eq (l : Fin 128) : dal m c l = val_main_v39 (F := Ideal) (ab m c) (alog m c)
    (bias m c) (dg m c) (ix2 0 l) := by
  rw [v39_at]
  unfold dal
  by_cases h8 : l.val < 8
  · rw [dif_pos h8, h0, h1, h2, h3]
    have e (r : Fin 4096) : (if l.val < 8 then dgg (lx m c r l) (ld m c r l) (la m c l) (lt m c l) else 0)
        = ((f3 (ix2 r ⟨l.val, h8⟩) * ((-Real.exp (f1 (ix1 ⟨l.val, h8⟩)))
          * sp (f0 (ix2 r ⟨l.val, by omega⟩) + f2 (ix1 ⟨l.val, h8⟩))) : ℝ) : EReal) := by
      rw [if_pos h8, lx, ld, la, lt, dif_pos (show l.val < 16 by omega), dif_pos h8, dif_pos h8, dif_pos h8, h0, h1, h2, h3]
      exact dgg_real _ _ _ _
    simp only [e, softplus_real, ← EReal.coe_mul, ← coe_sum, ← EReal.coe_neg, Ideal.exp_coe]
    rw [EReal.coe_eq_coe_iff, ← Finset.sum_neg_distrib, Finset.sum_mul]
    exact Finset.sum_congr rfl fun r _ => by ring
  · simp only [if_neg h8, dif_neg h8, Finset.sum_const_zero]

theorem ddt_eq (l : Fin 128) : ddt m c l = val_main_v41 (F := Ideal) (ab m c) (alog m c)
    (bias m c) (dg m c) (ix2 0 l) := by
  rw [v41_at]
  unfold ddt
  by_cases h8 : l.val < 8
  · rw [dif_pos h8]
    exact Finset.sum_congr rfl fun r _ => by rw [if_pos h8, lane_dxs m c h0 h1 h2 h3 r l h8]
  · simp only [if_neg h8, dif_neg h8, Finset.sum_const_zero]
end

/-- Both programs end with the gradients of the gates' inputs and of the two vectors. -/
theorem algebraic [Cert.Pre_finite_gates.Facts] : Cert.algebraic_GatesIdeal_GatesRefIdeal_pre_finite_gates := by
  intro m ρ m' ρ' hpre hagree
  refine ⟨arr4 m, arr5 m, arr6 m, ?_, ?_⟩
  · refine (θ_run Cert.GatesIdeal.defs _ _).mono (fun r h c => ?_) (Cert.GatesIdeal.Value.run_blocks (F := Ideal) m ρ)
    obtain ⟨h4, h5, h6, ha⟩ := h c
    exact ⟨h4.trans (final4 m c), h5.trans (final5 m c), h6.trans (final6 m c), ha⟩
  · refine (θ_run Cert.GatesRefIdeal.defs _ _).mono (fun r h c => ?_) (Cert.GatesRefIdeal.Value.run (F := Ideal) m' ρ')
    obtain ⟨h4, h5, h6, ha⟩ := h c
    obtain ⟨e0, e1, e2, e3, e4⟩ := hagree c
    obtain ⟨⟨f0, h0⟩, ⟨f1, h1⟩, ⟨f2, h2⟩, f3, h3⟩ := reals m hpre c
    refine ⟨h4.trans ?_, h5.trans ?_, h6.trans ?_, ha⟩
    · rw [val_main_v37_eq, e0, e1, e2, e3, e4]
      funext i
      exact (congrArg _ (eq_ix2 i)).trans (dab_eq m c h0 h1 h2 h3 (i 0) (i 1)).symm
    · rw [val_main_v39_eq, e0, e1, e2, e3]
      funext i
      exact (congrArg _ (idx2 (j := ix2 0 (i 1)) (Fin.val_eq_zero (i 0)) rfl)).trans (dal_eq m c h0 h1 h2 h3 (i 1)).symm
    · rw [val_main_v41_eq, e0, e1, e2, e3]
      funext i
      exact (congrArg _ (idx2 (j := ix2 0 (i 1)) (Fin.val_eq_zero (i 0)) rfl)).trans (ddt_eq m c h0 h1 h2 h3 (i 1)).symm

end Cert.Proof.Gates
-- ==== Proof.Rms.lean ====
/-
  The gradient of a root-mean-square norm, one row at a time, in the two orders the programs of this directory compute it:
  by hand, and as the derivative of `x * rsqrt (mean (x * x) + eps)` taken operation by operation. On every row
  the two give the same.
-/
module

public import proofs.«01_k».proof.Proof.Common

@[expose] public section

noncomputable section

open Idealize.ShloMosaic

namespace Cert.Rms

open Cert.Common

variable {n : ℕ}

/-- The mean of the squares, with the small constant. -/
def msq (e c : EReal) (x : Fin n → EReal) : EReal := Ideal.div (∑ j, x j * x j) c + e
/-- The inverse root of it. -/
def rinv (e c : EReal) (x : Fin n → EReal) : EReal := Ideal.rsqrt (msq e c x)
/-- The kernels' order: `y` is the gradient that reaches the normed row. -/
def kdx (e c : EReal) (x y : Fin n → EReal) (l : Fin n) : EReal :=
  rinv e c x * y l - x l * (rinv e c x * rinv e c x * rinv e c x) * Ideal.div (∑ j, x j * y j) c
/-- What the mean sends back to each of the two factors of the square. -/
def pull (e c h : EReal) (x y : Fin n → EReal) : EReal :=
  Ideal.div ((∑ j, x j * y j) * (h * Ideal.div (rinv e c x) (msq e c x))) c
/-- The derivative's order. -/
def rdx (e c h : EReal) (x y : Fin n → EReal) (l : Fin n) : EReal :=
  y l * rinv e c x + x l * pull e c h x y + pull e c h x y * x l

/-- The word of the small constant is a positive real number. -/
theorem eps_f32 : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num
theorem neg_half_f32 : Ideal.ofBits .f32 0xBF000000#32 = ((-(1 / 2) : ℝ) : EReal) := by
  simp [Ideal.ofBits, Ideal.ieee, -EReal.coe_mul]; norm_num
theorem f128_f32 : Ideal.ofBits .f32 0x43000000#32 = ((128 : ℝ) : EReal) := by
  simp [Ideal.ofBits, Ideal.ieee, -EReal.coe_mul]; norm_num

section arbitrary
variable {e c : ℝ} (he : 0 < e) (hc : 0 < c) (x y : Fin n → EReal)
include he hc

/-- The mean of squares is infinite, or a positive real number and then every element of the row is a real number. -/
theorem msq_cases : msq (e : EReal) (c : EReal) x = ⊤
    ∨ ∃ X : ℝ, 0 < X ∧ msq (e : EReal) (c : EReal) x = (X : EReal) ∧ ∀ l, ∃ r : ℝ, x l = (r : EReal) := by
  have h0 : (0 : EReal) ≤ ∑ j, x j * x j := Finset.sum_nonneg fun j _ => Cert.Common.mul_self_nonneg (x j)
  unfold msq
  rw [Ideal.div_coe hc.ne']
  have hp : 0 < 1 / c := by positivity
  generalize hS : ∑ j, x j * x j = T at h0 ⊢
  induction T with
  | bot => simp at h0
  | top => left; rw [EReal.top_mul_coe_of_pos hp, EReal.top_add_coe]
  | coe T =>
    right
    have h0' : 0 ≤ T := EReal.coe_nonneg.mp h0
    refine ⟨T * (1 / c) + e, by positivity, by rw [← EReal.coe_mul, ← EReal.coe_add], fun l => ?_⟩
    have hl : x l * x l ≤ (T : EReal) := hS ▸ Finset.single_le_sum (f := fun j => x j * x j)
      (fun j _ => Cert.Common.mul_self_nonneg (x j)) (Finset.mem_univ l)
    generalize x l = z at hl
    induction z with
    | bot => simp at hl
    | top => simp at hl
    | coe r => exact ⟨r, rfl⟩

/-- On every row, of real numbers or not, the derivative's order computes what the kernels' order computes: a row that is not
    of real numbers has an infinite mean, and both orders give zero. -/
theorem rdx_eq_kdx (l : Fin n) :
    rdx (e : EReal) (c : EReal) ((-(1 / 2) : ℝ) : EReal) x y l = kdx (e : EReal) (c : EReal) x y l := by
  unfold rdx kdx pull rinv
  rcases msq_cases he hc x with h | ⟨X, hX, h, hx⟩
  · rw [h, Ideal.rsqrt_top, Ideal.div_coe hc.ne', Ideal.div_coe hc.ne']
    have : Ideal.div 0 ⊤ = (0 : EReal) := by simp [Ideal.div]
    simp [this]
  · obtain ⟨r, hr⟩ := hx l
    have hs : (Real.sqrt X)⁻¹ * (Real.sqrt X)⁻¹ = 1 / X := by
      rw [← mul_inv, Real.mul_self_sqrt hX.le, one_div]
    rw [h, hr, Ideal.rsqrt_coe, if_neg (not_lt.mpr hX.le), if_neg hX.ne', Ideal.div_coe hX.ne', Ideal.div_coe hc.ne',
      Ideal.div_coe hc.ne']
    generalize ∑ j, x j * y j = P
    generalize (Real.sqrt X)⁻¹ = s at hs
    have two (a : EReal) : a + a = ((2 : ℝ) : EReal) * a := by
      rw [show ((2 : ℝ) : EReal) = 1 + 1 from (by rw [← EReal.coe_one, ← EReal.coe_add]; norm_num), EReal.right_distrib_of_nonneg zero_le_one zero_le_one, one_mul]
    rw [add_assoc, mul_comm _ (r : EReal), two, mul_comm (y l), sub_eq_add_neg, ← EReal.neg_mul]
    congr 1
    simp only [← EReal.coe_mul, ← EReal.coe_neg]
    rw [mul_assoc P, ← EReal.coe_mul, mul_left_comm (r : EReal) P, mul_left_comm _ P, mul_left_comm _ P, ← EReal.coe_mul,
      ← EReal.coe_mul, ← EReal.coe_mul, ← hs]
    congr 2
    ring
end arbitrary

/-- The same with the constants as words. -/
theorem rdx_eq {C : BitVec 32} {c : ℝ} (hC : Ideal.ofBits .f32 C = (c : EReal)) (hc : 0 < c) (x y : Fin n → EReal) (l : Fin n) :
    rdx (Ideal.ofBits .f32 0x358637BD#32) (Ideal.ofBits .f32 C) (Ideal.ofBits .f32 0xBF000000#32) x y l
      = kdx (Ideal.ofBits .f32 0x358637BD#32) (Ideal.ofBits .f32 C) x y l := by
  obtain ⟨e, he, h⟩ := eps_f32
  rw [h, hC, neg_half_f32]
  exact rdx_eq_kdx he hc x y l

/-- A row element times the reciprocal root of the row's mean of squares is always a real number. -/
theorem mul_rinv_real {n : ℕ} {C : BitVec 32} {c : ℝ} (hC : Ideal.ofBits .f32 C = (c : EReal)) (hc : 0 < c) (x : Fin n → EReal) (l : Fin n) :
    ∃ q : ℝ, x l * rinv (Ideal.ofBits .f32 0x358637BD#32) (Ideal.ofBits .f32 C) x = (q : EReal) := by
  obtain ⟨e, he, hE⟩ := eps_f32
  rw [hE, hC]
  unfold rinv
  rcases msq_cases he hc x with h | ⟨X, hX, h, hx⟩
  · exact ⟨0, by rw [h, Ideal.rsqrt_top, mul_zero, EReal.coe_zero]⟩
  · obtain ⟨r, hr⟩ := hx l
    exact ⟨r * (Real.sqrt X)⁻¹, by rw [h, hr, Ideal.rsqrt_coe, if_neg (not_lt.mpr hX.le), if_neg hX.ne', EReal.coe_mul]⟩

end Cert.Rms
-- ==== Proof.QNorm.lean ====
/-
  The gradient of the attention's query norm: the eight heads of 128 columns of each row, and the weight's gradient summed
  over rows and heads.
-/
module

public import proofs.«01_k».proof.Defs
public import proofs.«01_k».proof.Proof.Rms
public import proofs.«01_k».proof.Proof.Gen.QNormIdeal.Value
public import proofs.«01_k».proof.Proof.Gen.QNormRefIdeal.Run
public import proofs.«01_k».proof.Proof.Gen.QNormRefIdeal.Read

@[expose] public section

set_option maxRecDepth 16384
noncomputable section

open Idealize.ShloMosaic Idealize.ShloMosaic.TcCoe Idealize.SL.Sem
open Idealize.ShloMosaic.Pipeline (Dat)
open Cert.Common Cert.Rms

namespace Cert.QNormIdeal.Val

open Cert.QNormIdeal Cert.QNormIdeal.Gen Cert.QNormIdeal.Value

abbrev eps : EReal := Ideal.ofBits .f32 0x358637BD#32
abbrev wide : EReal := Ideal.ofBits .f32 0x43000000#32
abbrev scale : EReal := Ideal.ofBits .f32 0x3DB504F3#32

/-- Column `l` of head `h`. -/
def col (h : Fin 8) (l : Fin 128) : Fin 1024 := ⟨128 * h.val + l.val, by omega⟩
/-- The head and the lane of a column. -/
def hd (l : Fin 1024) : Fin 8 := ⟨l.val / 128, by omega⟩
def ln (l : Fin 1024) : Fin 128 := ⟨l.val % 128, by omega⟩
theorem hd_col (h : Fin 8) (l : Fin 128) : hd (col h l) = h := Fin.ext (by show (128 * h.val + l.val) / 128 = h.val; omega)
theorem ln_col (h : Fin 8) (l : Fin 128) : ln (col h l) = l := Fin.ext (by show (128 * h.val + l.val) % 128 = l.val; omega)

/-! ## One head of one block -/

section pay
variable (g : Vec Ideal S1x128 .f32) (x d : Vec Ideal S256x128 .f32)

/-- One element of the gradient to the query. -/
def dxh (g : S1x128.Idx → EReal) (x d : S256x128.Idx → EReal) (r : Fin 256) (l : Fin 128) : EReal :=
  kdx eps wide (fun j => x (ix2 r j)) (fun j => d (ix2 r j) * scale * g (ix2 0 j)) l
/-- One head's part of the weight's gradient. -/
def dgh (x d : S256x128.Idx → EReal) (l : Fin 128) : EReal :=
  ∑ r : Fin 256, d (ix2 r l) * scale * x (ix2 r l) * rinv eps wide fun j => x (ix2 r j)

variable (r : Fin 256) (l : Fin 128)

theorem dx0 : k0_pay6 (F := Ideal) g x d (ix2 r l) = dxh g x d r l := by
  pointwise [k0_pay6, k0_pay4, k0_pay5, k0_pay2]
  rfl
theorem dx1 : k0_pay10 (F := Ideal) (k0_pay2 g) x d (ix2 r l) = dxh g x d r l := by
  pointwise [k0_pay10, k0_pay8, k0_pay9, k0_pay2]
  rfl
theorem dx2 : k0_pay15 (F := Ideal) (k0_pay2 g) x d (k0_pay12 x) (ix2 r l) = dxh g x d r l := by
  pointwise [k0_pay15, k0_pay12, k0_pay13, k0_pay14, k0_pay2]
  rfl
theorem dx3 : k0_pay19 (F := Ideal) (k0_pay2 g) x d (k0_pay17 x) (ix2 r l) = dxh g x d r l := by
  pointwise [k0_pay19, k0_pay17, k0_pay18, k0_pay2]
  rfl
theorem dx4 : k0_pay25 (F := Ideal) x (k0_pay21 x) (k0_pay23 (k0_pay2 g) d)
    (k0_pay24 (k0_pay2 g) x d) (FloatOps.ofBits FTy.f32 0x43000000#32) (ix2 r l) = dxh g x d r l := by
  pointwise [k0_pay25, k0_pay24, k0_pay23, k0_pay22, k0_pay21, k0_pay2]
  rfl
theorem dx5 : k0_pay32 (F := Ideal) (k0_pay30 (k0_pay2 g) x d) (k0_pay31 (k0_pay2 g) x d) (ix2 r l)
    = dxh g x d r l := by
  pointwise [k0_pay32, k0_pay31, k0_pay30, k0_pay29, k0_pay28, k0_pay27, k0_pay2]
  rfl
theorem dx6 : k0_pay36 (F := Ideal) (k0_pay2 g) x d (ix2 r l) = dxh g x d r l := by
  pointwise [k0_pay36, k0_pay34, k0_pay35, k0_pay2]
  rfl
theorem dx7 : k0_pay40 (F := Ideal) (k0_pay2 g) x d (ix2 r l) = dxh g x d r l := by
  pointwise [k0_pay40, k0_pay38, k0_pay39, k0_pay2]
  rfl

end pay

theorem dg_at (p : Vec Ideal S1x128 .f32) (x d : Fin 8 → Vec Ideal S256x128 .f32) (l : Fin 128) :
    k0_pay41 (F := Ideal)
      (k0_pay33
        (k0_pay26
          (k0_pay20 (k0_pay16 (k0_pay11 k0_pay3 (k0_pay7 (x 0) (d 0)) (x 1) (d 1)) (x 2) (d 2) (k0_pay12 (x 2)))
            (x 3) (d 3) (k0_pay17 (x 3)))
          (x 4) (k0_pay21 (x 4)) (k0_pay22 (d 4)))
        (x 5) (k0_pay27 (x 5)) (k0_pay28 (d 5)))
      (k0_pay37 (x 6) (d 6)) (x 7) (d 7) p (ix2 0 l)
    = (p (ix2 0 l) + ∑ h : Fin 8, dgh (x h) (d h) l : EReal) := by
  pointwise [k0_pay41, k0_pay33, k0_pay26, k0_pay20, k0_pay16, k0_pay11, k0_pay3, k0_pay7, k0_pay12, k0_pay17, k0_pay21,
    k0_pay22, k0_pay27, k0_pay28, k0_pay37, k0_pay4, k0_pay5, k0_pay8, k0_pay9, k0_pay13, k0_pay14, k0_pay18, k0_pay34,
    k0_pay35, k0_pay38, k0_pay39]
  rw [Fin.sum_univ_eight]
  rfl

/-- The columns of head `h` of a block. -/
def head (h : Fin 8) (x : S256x1024.Idx → EReal) : S256x128.Idx → EReal := fun j => x (ix2 (j 0) (col h (j 1)))

/-- What a load of 128 columns at the offset of head `h` reads. -/
theorem ld_head (h : Fin 8) {off : Fin 2 → Nat} (ho : off = ![0, 128 * h.val])
    (inb : ∀ a, off a + (![256, 128] : Fin 2 → Nat) a ≤ S256x1024.size a) (x : Vec Ideal S256x1024 .f32) :
    View.ld x (Rect.unit (s := S256x1024) off ![256, 128] inb) = head h x := by
  subst ho
  rw [View.ld_unit]
  funext j
  exact congrArg x (idx2 (Nat.zero_add _) rfl)

/-- The eight loads of a block. -/
theorem heads (x : Vec Ideal S256x1024 .f32) :
    View.ld x (Rect.unit ![0, 0] ![256, 128] inb_S256x1024_S256x128_0_0) = head 0 x
      ∧ View.ld x (Rect.unit ![0, 128] ![256, 128] inb_S256x1024_S256x128_0_128) = head 1 x
      ∧ View.ld x (Rect.unit ![0, 256] ![256, 128] inb_S256x1024_S256x128_0_256) = head 2 x
      ∧ View.ld x (Rect.unit ![0, 384] ![256, 128] inb_S256x1024_S256x128_0_384) = head 3 x
      ∧ View.ld x (Rect.unit ![0, 512] ![256, 128] inb_S256x1024_S256x128_0_512) = head 4 x
      ∧ View.ld x (Rect.unit ![0, 640] ![256, 128] inb_S256x1024_S256x128_0_640) = head 5 x
      ∧ View.ld x (Rect.unit ![0, 768] ![256, 128] inb_S256x1024_S256x128_0_768) = head 6 x
      ∧ View.ld x (Rect.unit ![0, 896] ![256, 128] inb_S256x1024_S256x128_0_896) = head 7 x :=
  ⟨ld_head 0 rfl _ x, ld_head 1 rfl _ x, ld_head 2 rfl _ x, ld_head 3 rfl _ x, ld_head 4 rfl _ x, ld_head 5 rfl _ x,
    ld_head 6 rfl _ x, ld_head 7 rfl _ x⟩

/-- A block whose element of row `r`, head `h`, lane `l` is `f r h l`. -/
def blk (f : Fin 256 → Fin 8 → Fin 128 → EReal) (i : S256x1024.Idx) : EReal := f (i 0) (hd (i 1)) (ln (i 1))

/-- A store of 128 columns at the offset of head `h` writes that head's part of it. -/
theorem piece (f : Fin 256 → Fin 8 → Fin 128 → EReal) (h : Fin 8) {off : Fin 2 → Nat} (ho : off = ![0, 128 * h.val])
    (inb : ∀ a, off a + (![256, 128] : Fin 2 → Nat) a ≤ S256x1024.size a) (w : S256x128.Idx → EReal)
    (hw : ∀ r l, w (ix2 r l) = f r h l) (y : S256x128.Idx) : w y = blk f ((Rect.unit (s := S256x1024) off ![256, 128] inb).emb y) := by
  obtain ⟨r, l, rfl⟩ := ex_ix2 y
  subst ho
  have e : (Rect.unit (s := S256x1024) ![0, 128 * h.val] ![256, 128] inb).emb (ix2 r l) = (ix2 r (col h l) : S256x1024.Idx) :=
    idx2 (by show 0 + 1 * r.val = r.val; omega) (by show 128 * h.val + 1 * l.val = 128 * h.val + l.val; omega)
  rw [hw, e]
  show _ = f r (hd (col h l)) (ln (col h l))
  rw [hd_col, ln_col]

/-- The gradient to the block of queries. -/
abbrev dxf (g : S1x128.Idx → EReal) (x d : S256x1024.Idx → EReal) (r : Fin 256) (h : Fin 8) (l : Fin 128) : EReal := dxh g (head h x) (head h d) r l

section body
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S1x128 .f32) (h3 : a3.IsWhole)
  (a4 : Memref sig .tc .vmem S256x1024 .bf16) (h4 : a4.IsWhole) (a5 : Memref sig .tc .vmem S1x128 .f32) (h5 : a5.IsWhole)
  (d x : Vec Ideal S256x1024 .f32) (g : Vec Ideal S1x128 .f32)

theorem out3_A (hc : cond0_0 i) : out0_A_3 c i a1 h1 a2 h2 a3 h3 a4 h4 a5 h5 hc d x g = blk (dxf g x d) := by
  unfold out0_A_3
  rw [View.read_writes_eq_canon _ _ _ (fun _ => cover0_A_3 ..)]
  funext j
  refine View.canon_apply_of_pieces (Val := Elt Ideal) (blk (dxf g x d)) _ (fun p hp => ?_) j (cover0_A_3 ..)
  revert p
  unfold kernelRun0_A
  dsimp only
  sl_unfold_words
  simp only [View.readAt_eq_ld, h1.read_unread, h2.read_unread, h3.read_unread, ld_all,
    List.forall_mem_cons, List.not_mem_nil, false_imp_iff, implies_true, and_true]
  simp only [heads]
  exact ⟨piece (dxf g x d) 7 rfl _ _ (dx7 g _ _), piece (dxf g x d) 6 rfl _ _ (dx6 g _ _), piece (dxf g x d) 5 rfl _ _ (dx5 g _ _),
    piece (dxf g x d) 4 rfl _ _ (dx4 g _ _), piece (dxf g x d) 3 rfl _ _ (dx3 g _ _), piece (dxf g x d) 2 rfl _ _ (dx2 g _ _),
    piece (dxf g x d) 1 rfl _ _ (dx1 g _ _), piece (dxf g x d) 0 rfl _ _ (dx0 g _ _)⟩
theorem out3_B (hc : ¬cond0_0 i) (p : Vec Ideal S1x128 .f32) :
    out0_B_3 c i a1 h1 a2 h2 a3 h3 a4 h4 a5 h5 hc d x g p = blk (dxf g x d) := by
  unfold out0_B_3
  rw [View.read_writes_eq_canon _ _ _ (fun _ => cover0_B_3 ..)]
  funext j
  refine View.canon_apply_of_pieces (Val := Elt Ideal) (blk (dxf g x d)) _ (fun p hp => ?_) j (cover0_B_3 ..)
  revert p
  unfold kernelRun0_B
  dsimp only
  sl_unfold_words
  simp only [View.readAt_eq_ld, h1.read_unread, h2.read_unread, h3.read_unread, ld_all,
    List.forall_mem_cons, List.not_mem_nil, false_imp_iff, implies_true, and_true]
  simp only [heads]
  exact ⟨piece (dxf g x d) 7 rfl _ _ (dx7 g _ _), piece (dxf g x d) 6 rfl _ _ (dx6 g _ _), piece (dxf g x d) 5 rfl _ _ (dx5 g _ _),
    piece (dxf g x d) 4 rfl _ _ (dx4 g _ _), piece (dxf g x d) 3 rfl _ _ (dx3 g _ _), piece (dxf g x d) 2 rfl _ _ (dx2 g _ _),
    piece (dxf g x d) 1 rfl _ _ (dx1 g _ _), piece (dxf g x d) 0 rfl _ _ (dx0 g _ _)⟩

/-- What a block adds to the weight's gradient. -/
def dgb (x d : S256x1024.Idx → EReal) (l : Fin 128) : EReal := ∑ h : Fin 8, dgh (head h x) (head h d) l

theorem out4_A (hc : cond0_0 i) (l : Fin 128) : out0_A_4 c i a1 h1 a2 h2 a3 h3 a4 h4 a5 h5 hc d x g (ix2 0 l) = dgb x d l := by
  unfold out0_A_4
  rw [View.read_writes_eq_canon _ _ _ (fun _ => cover0_A_4 ..)]
  unfold kernelRun0_A
  dsimp only
  sl_unfold_words
  rw [View.canon_cons_unit_zero hz2]
  simp only [View.readAt_eq_ld, h1.read_unread, h2.read_unread, h3.read_unread, cov_all]
  simp only [heads]
  exact (dg_at (k0_pay1 (F := Ideal)) (fun h => head h x) (fun h => head h d) l).trans
    ((congrArg (· + dgb x d l) (by pointwise [k0_pay1])).trans (zero_add _))
theorem out4_B (hc : ¬cond0_0 i) (p : Vec Ideal S1x128 .f32) (l : Fin 128) :
    out0_B_4 c i a1 h1 a2 h2 a3 h3 a4 h4 a5 h5 hc d x g p (ix2 0 l) = (p (ix2 0 l) + dgb x d l : EReal) := by
  unfold out0_B_4
  rw [View.read_writes_eq_canon _ _ _ (fun _ => cover0_B_4 ..)]
  unfold kernelRun0_B
  dsimp only
  sl_unfold_words
  rw [View.canon_unit_zero hz2]
  simp only [View.readAt_eq_ld, h1.read_unread, h2.read_unread, h3.read_unread, h5.read_unread, ld_all]
  simp only [heads]
  exact dg_at p (fun h => head h x) (fun h => head h d) l
end body

/-! ## The blocks and the arrays -/

variable (m : (ℓ : Loc nD τ sig) → Buf (Elt Ideal) ℓ) (c : Dev nD) (t : Fin cfg0.N)

/-- The query's projection, the weight and the gradient that reaches the queries. -/
abbrev qx : S4096x1024.Idx → EReal := m ((c : Thread nD τ).loc main_arg0)
abbrev qg : S128.Idx → EReal := m ((c : Thread nD τ).loc main_arg1)
abbrev qd : S4096x1024.Idx → EReal := m ((c : Thread nD τ).loc main_arg2)

/-- Row `r`, head `h` of an array. -/
def hrow (x : S4096x1024.Idx → EReal) (r : Fin 4096) (h : Fin 8) : Fin 128 → EReal := fun l => x (ix2 r (col h l))

/-- The two results. -/
def dq (x : S4096x1024.Idx → EReal) (g : S128.Idx → EReal) (d : S4096x1024.Idx → EReal) (r : Fin 4096) (h : Fin 8) (l : Fin 128) : EReal :=
  kdx eps wide (hrow x r h) (fun j => hrow d r h j * scale * g (ix1 j)) l
def dw (x d : S4096x1024.Idx → EReal) (l : Fin 128) : EReal :=
  ∑ r : Fin 4096, ∑ h : Fin 8, hrow d r h l * scale * hrow x r h l * rinv eps wide (hrow x r h)

def arr3 : Vec Ideal S4096x1024 .bf16 := fun i =>
  dq (qx m c) (qg m c) (qd m c) (i 0) (hd (i 1)) (ln (i 1))
def arr4 : Vec Ideal S1x128 .f32 := fun i => dw (qx m c) (qd m c) (i 1)

theorem V_v0_at (r : Fin 1) (l : Fin 128) : V m c main_v0 (ix2 r l : S1x128.Idx) = qg m c (ix1 l) := by
  have e : V m c main_v0 = (shapeCast S1x128 (qg m c) shapeCasts_S128_S1x128 : Vec Ideal S1x128 .f32) := by
    simp only [V, hostOps0]; after_results; rfl
  rw [e]
  pointwise []

/-- Element `j` of the block of rows of point `t`. -/
def row (j : S256x1024.Idx) : S4096x1024.Idx :=
  ix2 ⟨256 * t.val + (j 0).val, by have h : t.val < 16 := N_0 ▸ t.isLt; have : (j 0).val < 256 := (j 0).isLt; omega⟩ (j 1)

theorem index_eq : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ win0_4.index t 0 = 0 ∧ win0_4.index t 1 = 0 := by decide +kernel

theorem iblk0 (j : S256x1024.Idx) : iblk m c 0 t j = qd m c (row t j) := by
  unfold iblk
  rw [View.read_apply]
  refine congrArg (V m c main_arg2) (idx2 (j := row t j) ?_ ?_)
  · show win0_0.index t 0 * 256 + 1 * (j 0).val = 256 * t.val + (j 0).val; rw [(index_eq t).1.1]; omega
  · show win0_0.index t 1 * 1024 + 1 * (j 1).val = (j 1).val; rw [(index_eq t).1.2]; omega
theorem iblk1 (j : S256x1024.Idx) : iblk m c 1 t j = qx m c (row t j) := by
  unfold iblk
  rw [View.read_apply]
  refine congrArg (V m c main_arg0) (idx2 (j := row t j) ?_ ?_)
  · show win0_1.index t 0 * 256 + 1 * (j 0).val = 256 * t.val + (j 0).val; rw [(index_eq t).2.1.1]; omega
  · show win0_1.index t 1 * 1024 + 1 * (j 1).val = (j 1).val; rw [(index_eq t).2.1.2]; omega
theorem iblk2 (j : S1x128.Idx) : iblk m c 2 t j = qg m c (ix1 (j 1)) := by
  unfold iblk
  rw [View.read_apply]
  refine Eq.trans (congrArg (V m c main_v0) (idx2 (j := ix2 (j 0) (j 1)) ?_ ?_)) (V_v0_at m c (j 0) (j 1))
  · show win0_2.index t 0 * 1 + 1 * (j 0).val = (j 0).val; rw [(index_eq t).2.2.1.1]; omega
  · show win0_2.index t 1 * 128 + 1 * (j 1).val = (j 1).val; rw [(index_eq t).2.2.1.2]; omega

theorem emb3 (j : S256x1024.Idx) : ((cfg0.win 3).blk t).view.emb j = row t j :=
  idx2 (by show win0_3.index t 0 * 256 + 1 * (j 0).val = 256 * t.val + (j 0).val; rw [(index_eq t).2.2.2.1.1]; omega)
    (by show win0_3.index t 1 * 1024 + 1 * (j 1).val = (j 1).val; rw [(index_eq t).2.2.2.1.2]; omega)
theorem emb4 (j : S1x128.Idx) : ((cfg0.win 4).blk t).view.emb j = j :=
  idx2 (by show win0_4.index t 0 * 1 + 1 * (j 0).val = (j 0).val; rw [(index_eq t).2.2.2.2.1]; omega)
    (by show win0_4.index t 1 * 128 + 1 * (j 1).val = (j 1).val; rw [(index_eq t).2.2.2.2.2]; omega)

theorem covered (i : S4096x1024.Idx) : ∃ (t : Fin cfg0.N) (j : S256x1024.Idx), row t j = i := by
  have h : (i 0).val < 4096 := (i 0).isLt
  exact ⟨⟨(i 0).val / 256, by show _ < grid0.N; rw [N_0]; omega⟩, ix2 ⟨(i 0).val % 256, by omega⟩ (i 1),
    idx2 (by show 256 * ((i 0).val / 256) + (i 0).val % 256 = (i 0).val; omega) rfl⟩

/-! ## What the two arrays hold at the end -/

theorem left3 (j : S256x1024.Idx) : (outsAt0 m c t.val t.isLt).1 j = arr3 m c (row t j) := by
  have e : (outsAt0 m c t.val t.isLt).1 = blk (dxf (iblk m c 2 t) (iblk m c 1 t) (iblk m c 0 t)) := by
    by_cases h0 : t.val % 16 = 0
    · rw [outsAt0_A m c t h0]
      dsimp only
      rw [out3_A]
    · rw [outsAt0_B m c t h0]
      dsimp only
      rw [out3_B]
  rw [e]
  unfold blk dxf dxh head
  simp only [iblk0, iblk1, iblk2]
  rfl

/-- What the block of point `t` adds to the weight's gradient. -/
def part (l : Fin 128) : EReal := ∑ r : Fin 256, ∑ h : Fin 8,
  hrow (qd m c) (row t (ix2 r 0) 0) h l * scale * hrow (qx m c) (row t (ix2 r 0) 0) h l
    * rinv eps wide (hrow (qx m c) (row t (ix2 r 0) 0) h)

theorem part_eq (l : Fin 128) : dgb (iblk m c 1 t) (iblk m c 0 t) l = part m c t l := by
  unfold dgb dgh head part
  rw [Finset.sum_comm]
  simp only [iblk0, iblk1]
  rfl

theorem left4_A (h0 : t.val % 16 = 0) (l : Fin 128) :
    (outsAt0 m c t.val t.isLt).2 (ix2 0 l) = part m c t l := by
  rw [outsAt0_A m c t h0]
  dsimp only
  rw [out4_A, part_eq]
theorem left4_B (h0 : ¬t.val % 16 = 0) (l : Fin 128) : (outsAt0 m c t.val t.isLt).2 (ix2 0 l)
    = ((outsAt0 m c (t.val - 1) (pred_lt t)).2 (ix2 0 l) + part m c t l : EReal) := by
  rw [outsAt0_B m c t h0]
  dsimp only
  rw [out4_B, part_eq]

theorem step_ne {n : ℕ} (h : n + 1 < cfg0.N) : ¬(n + 1) % 16 = 0 := by have : n + 1 < 16 := N_0 ▸ h; omega

theorem left4 (l : Fin 128) (n : ℕ) (h : n < cfg0.N) : (outsAt0 m c n h).2 (ix2 0 l)
    = ∑ k : Fin (n + 1), part m c ⟨k.val, by omega⟩ l :=
  sum_of_steps (α := EReal) (fun n h => (outsAt0 m c n h).2 (ix2 0 l)) (fun n h => part m c ⟨n, h⟩ l)
    (fun h => left4_A m c ⟨0, h⟩ (Nat.zero_mod _) l) (fun n h => left4_B m c ⟨n + 1, h⟩ (step_ne h) l) n h

theorem final3 : (dats m 0 c).arrAt 3 cfg0.N = arr3 m c := by
  refine (dats m 0 c).arrAt_eq_of_cover 3 (arr3 m c) (fun t _ => ?_) fun i => ?_
  · rw [flushed3]
    funext j
    rw [View.read_apply, emb3]
    exact left3 m c t j
  · obtain ⟨t, j, rfl⟩ := covered i
    exact ⟨t, flush0_3 t, emb3 t j ▸ View.emb_mem_set _ _⟩

/-- The sum over the blocks is the sum over the rows. -/
theorem over_rows (f : Fin 4096 → EReal) (t : Fin cfg0.N) (ht : t.val % 16 = 15) :
    (∑ k : Fin (t.val + 1), ∑ r : Fin 256, f (row ⟨k.val, Nat.lt_of_le_of_lt (Nat.le_of_lt_succ k.isLt) t.isLt⟩ (ix2 r 0) 0))
      = ∑ r, f r := by
  have h16 : t.val + 1 = 16 := by have : t.val < 16 := N_0 ▸ t.isLt; omega
  rw [Fin.sum_univ_tiles 16 256 rfl f]
  refine Fintype.sum_equiv (finCongr h16) _ _ fun k => Finset.sum_congr rfl fun r _ => congrArg f (Fin.ext ?_)
  show 256 * k.val + r.val = k.val * 256 + r.val
  omega

theorem final4 : (dats m 0 c).arrAt 4 cfg0.N = arr4 m c := by
  refine (dats m 0 c).arrAt_eq_of_cover 4 (arr4 m c) (fun t ht => ?_) fun i => ?_
  · rw [flushed4]
    funext j
    rw [View.read_apply, emb4]
    show (outsAt0 m c t.val t.isLt).2 j = dw (qx m c) (qd m c) (j 1)
    refine (congrArg _ (idx2 (j := ix2 0 (j 1)) (Fin.val_eq_zero (j 0)) rfl)).trans ((left4 m c (j 1) t.val t.isLt).trans ?_)
    exact over_rows (fun r => ∑ h : Fin 8, hrow (qd m c) r h (j 1) * scale * hrow (qx m c) r h (j 1)
      * rinv eps wide (hrow (qx m c) r h)) t ((flush0_4 t).mp ht)
  · exact ⟨⟨15, by rw [show cfg0.N = 16 from N_0]; omega⟩, (flush0_4 _).mpr rfl, emb4 ⟨15, _⟩ i ▸ View.emb_mem_set _ _⟩

end Cert.QNormIdeal.Val

/-! ## The reference -/

namespace Cert.QNormRefIdeal.Val

open Cert.QNormRefIdeal Cert.QNormRefIdeal.Read
open Cert.QNormIdeal.Val (eps wide scale hrow col dq dw)

section read
variable (x0 : S4096x1024.Idx → EReal) (x1 : S128.Idx → EReal) (x2 : S4096x1024.Idx → EReal)

theorem v43_at (r : Fin 4096) (l : Fin 1024) : val_main_v43 (F := Ideal) x0 x1 x2 (ix2 r l)
    = dq x0 x1 x2 r ⟨l.val / 128, by omega⟩ ⟨l.val % 128, by omega⟩ := by
  unfold dq
  rw [← rdx_eq f128_f32 (by norm_num)]
  pointwise [val_main_v43, val_main_v42, val_main_v41, val_main_v40, val_main_v39, val_main_v38, val_main_v37, val_main_v36,
    val_main_v35, val_main_v34, val_main_v33, val_main_v32, val_main_v31, val_main_v30, val_main_v29, val_main_v28, val_main_v26,
    val_main_v25, val_main_v21, val_main_v20, val_main_v19, val_main_v14, val_main_v11, val_main_v10, val_main_v9, val_main_v8,
    val_main_v7, val_main_v6, val_main_v5, val_main_v4, val_main_v3, val_main_v2, val_main_v1, val_main_v0, val_main_cst,
    val_main_cst_0, val_main_cst_1, val_main_cst_2, val_main_cst_4, val_main_cst_7, val_main_cst_8, val_main_cst_9]
  simp only [Fin.sum_univ_one]
  have e : l = col ⟨l.val / 128, by omega⟩ ⟨l.val % 128, by omega⟩ := Fin.ext (by show l.val = 128 * (l.val / 128) + l.val % 128; omega)
  have e' (x : Fin 128) (p) : (⟨l.val / 128 * 128 + x.val, p⟩ : Fin 1024) = col ⟨l.val / 128, by omega⟩ x :=
    Fin.ext (by show l.val / 128 * 128 + x.val = 128 * (l.val / 128) + x.val; omega)
  simp only [e']
  have h0 : x0 (ix2 r l) = hrow x0 r ⟨l.val / 128, by omega⟩ ⟨l.val % 128, by omega⟩ := congrArg (fun z => x0 (ix2 r z)) e
  have h2 : x2 (ix2 r l) = hrow x2 r ⟨l.val / 128, by omega⟩ ⟨l.val % 128, by omega⟩ := congrArg (fun z => x2 (ix2 r z)) e
  rw [h0, h2]
  rfl

theorem v44_at (r : Fin 1) (l : Fin 128) : val_main_v44 (F := Ideal) x0 x2 (ix2 r l) = dw x0 x2 l := by
  pointwise [val_main_v44, val_main_v27, val_main_v24, val_main_v23, val_main_v22, val_main_v13, val_main_v12, val_main_v21,
    val_main_v20, val_main_v19, val_main_v8, val_main_v7, val_main_v6, val_main_v5, val_main_v4, val_main_v3, val_main_v2,
    val_main_v1, val_main_v0, val_main_cst, val_main_cst_0, val_main_cst_1, val_main_cst_4, val_main_cst_5, val_main_cst_6,
    host_sum01]
  simp only [Fin.sum_univ_one]
  unfold dw
  refine Finset.sum_congr rfl fun r _ => Finset.sum_congr rfl fun h _ => ?_
  have e (x : Fin 128) (p) : (⟨h.val * 128 + x.val, p⟩ : Fin 1024) = col h x :=
    Fin.ext (by show h.val * 128 + x.val = 128 * h.val + x.val; omega)
  simp only [e]
  show hrow x0 r h l * rinv eps wide (hrow x0 r h) * (hrow x2 r h l * scale) = _
  rw [mul_comm, ← mul_assoc]
end read

end Cert.QNormRefIdeal.Val

namespace Cert.Proof.QNorm

open Cert.QNormIdeal Cert.QNormIdeal.Gen Cert.QNormIdeal.Value Cert.QNormIdeal.Val Cert.QNormRefIdeal.Val Cert.QNormRefIdeal.Read

/-- The reference writes no argument and awaits nothing. -/
theorem frame_ref : Cert.quiescent_QNormRefIdeal := fun m ρ _ =>
  (θ_run Cert.QNormRefIdeal.defs _ _).mono (fun r h => ⟨fun c => (h c).2.2,
      Idealize.ShloMosaic.sem_eq_zero_of_no_sems (by decide) r.2⟩)
    (Cert.QNormRefIdeal.Value.run (F := Ideal) m ρ)

/-- Both programs end with the gradients of the query's projection and of the norm's weight. -/
theorem algebraic : Cert.algebraic_QNormIdeal_QNormRefIdeal := by
  intro m ρ m' ρ' _ hagree
  refine ⟨arr3 m, arr4 m, ?_, ?_⟩
  · refine (θ_run Cert.QNormIdeal.defs _ _).mono (fun r h c => ?_) (Cert.QNormIdeal.Value.run_blocks (F := Ideal) m ρ)
    obtain ⟨h3, h4, ha⟩ := h c
    exact ⟨h3.trans (final3 m c), h4.trans (final4 m c), ha⟩
  · refine (θ_run Cert.QNormRefIdeal.defs _ _).mono (fun r h c => ?_) (Cert.QNormRefIdeal.Value.run (F := Ideal) m' ρ')
    obtain ⟨h3, h4, ha⟩ := h c
    obtain ⟨e0, e1, e2⟩ := hagree c
    refine ⟨h3.trans ?_, h4.trans ?_, ha⟩
    · rw [val_main_v43_eq, e0, e1, e2]
      funext i
      exact (congrArg _ (eq_ix2 i)).trans (v43_at _ _ _ (i 0) (i 1))
    · rw [val_main_v44_eq, e0, e2]
      funext i
      exact (congrArg _ (idx2 (j := ix2 0 (i 1)) (Fin.val_eq_zero (i 0)) rfl)).trans (v44_at _ _ 0 (i 1))

end Cert.Proof.QNorm
-- ==== Proof.KvGrad.lean ====
/-
  The gradient of the shared keys and values: the norm of the keys, whose gradient arrives from two layers, and the values,
  whose gradient is the sum of two.
-/
module

public import proofs.«01_k».proof.Defs
public import proofs.«01_k».proof.Proof.QNorm
public import proofs.«01_k».proof.Proof.Gen.KvGradIdeal.Value
public import proofs.«01_k».proof.Proof.Gen.KvGradRefIdeal.Run
public import proofs.«01_k».proof.Proof.Gen.KvGradRefIdeal.Read

@[expose] public section

set_option maxRecDepth 16384
noncomputable section

open Idealize.ShloMosaic Idealize.ShloMosaic.TcCoe Idealize.SL.Sem
open Idealize.ShloMosaic.Pipeline (Dat)
open Cert.Common Cert.Rms

namespace Cert.KvGradIdeal.Val

open Cert.KvGradIdeal Cert.KvGradIdeal.Gen Cert.KvGradIdeal.Value
open Cert.QNormIdeal.Val (eps wide col head heads hrow hd ln hd_col ln_col)

/-! ## One head of one block -/

section pay
variable (g : Vec Ideal S1x128 .f32) (x d e : Vec Ideal S256x128 .f32)

/-- One element of the gradient to the keys. -/
def dxh (g : S1x128.Idx → EReal) (x d e : S256x128.Idx → EReal) (r : Fin 256) (l : Fin 128) : EReal :=
  kdx eps wide (fun j => x (ix2 r j)) (fun j => (d (ix2 r j) + e (ix2 r j)) * g (ix2 0 j)) l
/-- One head's part of the weight's gradient. -/
def dgh (x d e : S256x128.Idx → EReal) (l : Fin 128) : EReal :=
  ∑ r : Fin 256, (d (ix2 r l) + e (ix2 r l)) * x (ix2 r l) * rinv eps wide fun j => x (ix2 r j)

variable (r : Fin 256) (l : Fin 128)

theorem dx0 : k0_pay9 (F := Ideal) g x d e (ix2 r l) = dxh g x d e r l := by
  pointwise [k0_pay9, k0_pay5, k0_pay7, k0_pay8]
  rfl
theorem dx1 : k0_pay13 (F := Ideal) (k0_pay5 g) x d e (ix2 r l) = dxh g x d e r l := by
  pointwise [k0_pay13, k0_pay11, k0_pay12, k0_pay5]
  rfl
theorem dx2 : k0_pay17 (F := Ideal) (k0_pay5 g) x d e (ix2 r l) = dxh g x d e r l := by
  pointwise [k0_pay17, k0_pay15, k0_pay16, k0_pay5]
  rfl
theorem dx3 : k0_pay21 (F := Ideal) (k0_pay5 g) x d e (ix2 r l) = dxh g x d e r l := by
  pointwise [k0_pay21, k0_pay19, k0_pay20, k0_pay5]
  rfl
theorem dx4 : k0_pay26 (F := Ideal) (k0_pay5 g) x (k0_pay23 d) e (ix2 r l) = dxh g x d e r l := by
  pointwise [k0_pay26, k0_pay24, k0_pay25, k0_pay23, k0_pay5]
  rfl
theorem dx5 : k0_pay31 (F := Ideal) (k0_pay5 g) x (k0_pay28 d e) (k0_pay29 x) (ix2 r l) = dxh g x d e r l := by
  pointwise [k0_pay31, k0_pay30, k0_pay29, k0_pay28, k0_pay5]
  rfl
theorem dx6 : k0_pay36 (F := Ideal) (k0_pay5 g) x (k0_pay33 d e) (k0_pay34 x) (ix2 r l) = dxh g x d e r l := by
  pointwise [k0_pay36, k0_pay35, k0_pay34, k0_pay33, k0_pay5]
  rfl
theorem dx7 : k0_pay1 (F := Ideal) x (k0_pay39 x) (k0_pay40 (k0_pay5 g) d e) (k0_pay41 (k0_pay5 g) x d e) (ix2 r l) = dxh g x d e r l := by
  pointwise [k0_pay1, k0_pay41, k0_pay40, k0_pay39, k0_pay38, k0_pay5]
  rfl
end pay

theorem dg_at (p : Vec Ideal S1x128 .f32) (x d e : Fin 8 → Vec Ideal S256x128 .f32) (l : Fin 128) :
    k0_pay3 (F := Ideal)
      (k0_pay37
        (k0_pay32
          (k0_pay27
            (k0_pay22
              (k0_pay18 (k0_pay10 k0_pay6 (x 0) (k0_pay7 (d 0) (e 0)) (k0_pay8 (x 0))) (k0_pay14 (x 1) (d 1) (e 1)) (x 2) (d 2) (e 2))
              (x 3) (d 3) (e 3))
            (x 4) (k0_pay23 (d 4)) (e 4))
          (x 5) (k0_pay28 (d 5) (e 5)) (k0_pay29 (x 5)))
        (x 6) (k0_pay33 (d 6) (e 6)) (k0_pay34 (x 6)))
      (x 7) (k0_pay38 (d 7) (e 7)) (k0_pay39 (x 7)) p (ix2 0 l)
    = (p (ix2 0 l) + ∑ h : Fin 8, dgh (x h) (d h) (e h) l : EReal) := by
  pointwise [k0_pay3, k0_pay37, k0_pay32, k0_pay27, k0_pay22, k0_pay18, k0_pay10, k0_pay6, k0_pay7, k0_pay8, k0_pay14, k0_pay23,
    k0_pay28, k0_pay29, k0_pay33, k0_pay34, k0_pay38, k0_pay39, k0_pay35, k0_pay30, k0_pay24, k0_pay25, k0_pay19, k0_pay20,
    k0_pay15, k0_pay16, k0_pay11, k0_pay12]
  rw [Fin.sum_univ_eight]
  rfl

theorem dv_at (u v : Vec Ideal S256x1024 .f32) (r : Fin 256) (l : Fin 1024) :
    k0_pay2 (F := Ideal) u v (ix2 r l) = (u (ix2 r l) + v (ix2 r l) : EReal) := by
  pointwise [k0_pay2]

/-- The gradient to the block of keys and values. -/
def dxf (g : S1x128.Idx → EReal) (x d e : S256x1024.Idx → EReal) (r : Fin 256) (h : Fin 8) (l : Fin 128) : EReal :=
  dxh g (head h x) (head h d) (head h e) r l
def dxr (g : S1x128.Idx → EReal) (x d e u v : S256x1024.Idx → EReal) (r : Fin 256) (l : Fin 2048) : EReal :=
  if h : l.val < 1024 then dxf g x d e r (hd ⟨l.val, h⟩) (ln ⟨l.val, h⟩) else u (ix2 r ⟨l.val - 1024, by omega⟩) + v (ix2 r ⟨l.val - 1024, by omega⟩)
def dxb (g : S1x128.Idx → EReal) (x d e u v : S256x1024.Idx → EReal) (i : S256x2048.Idx) : EReal := dxr g x d e u v (i 0) (i 1)

theorem dxr_k (g : S1x128.Idx → EReal) (x d e u v : S256x1024.Idx → EReal) (r : Fin 256) (h : Fin 8) (l : Fin 128) :
    dxr g x d e u v r ⟨128 * h.val + l.val, by omega⟩ = dxf g x d e r h l := by
  unfold dxr
  rw [dif_pos (show 128 * h.val + l.val < 1024 by omega)]
  show dxf g x d e r (hd (col h l)) (ln (col h l)) = _
  rw [hd_col, ln_col]
theorem dxr_v (g : S1x128.Idx → EReal) (x d e u v : S256x1024.Idx → EReal) (r : Fin 256) (l : Fin 1024) :
    dxr g x d e u v r ⟨1024 + l.val, by omega⟩ = u (ix2 r l) + v (ix2 r l) := by
  unfold dxr
  have e1 (p) : (⟨1024 + l.val - 1024, p⟩ : Fin 1024) = l := Fin.ext (by show 1024 + l.val - 1024 = l.val; omega)
  rw [dif_neg (show ¬1024 + l.val < 1024 by omega), e1]

/-- A store of 128 columns at the offset of head `h` writes that head's part of it. -/
theorem piece (h : Fin 8) {off : Fin 2 → Nat} (ho : off = ![0, 128 * h.val])
    (inb : ∀ a, off a + (![256, 128] : Fin 2 → Nat) a ≤ S256x2048.size a)
    (g : Vec Ideal S1x128 .f32) (x d e u v : Vec Ideal S256x1024 .f32) (w : S256x128.Idx → EReal)
    (hw : ∀ r l, w (ix2 r l) = dxf g x d e r h l)
    (y : S256x128.Idx) : w y = dxb g x d e u v ((Rect.unit (s := S256x2048) off ![256, 128] inb).emb y) := by
  have q := hw (y 0) (y 1)
  rw [show (ix2 (y 0) (y 1) : S256x128.Idx) = y from idx2 rfl rfl] at q
  rw [q]
  subst ho
  refine (dxr_k g x d e u v (y 0) h (y 1)).symm.trans (congrArg₂ (dxr g x d e u v) (Fin.ext ?_) (Fin.ext ?_))
  · show (y 0).val = 0 + 1 * (y 0).val; omega
  · show 128 * h.val + (y 1).val = 128 * h.val + 1 * (y 1).val; omega

/-- The store of the last 1024 columns writes the values' part. -/
theorem piece_v (inb : ∀ a, (![0, 1024] : Fin 2 → Nat) a + (S256x1024.size : Fin 2 → Nat) a ≤ S256x2048.size a) (g : Vec Ideal S1x128 .f32)
    (x d e u v : Vec Ideal S256x1024 .f32) (y : S256x1024.Idx) :
    k0_pay2 (F := Ideal) u v y = dxb g x d e u v ((Rect.unit (s := S256x2048) ![0, 1024] S256x1024.size inb).emb y) := by
  have q := dv_at u v (y 0) (y 1)
  rw [show (ix2 (y 0) (y 1) : S256x1024.Idx) = y from idx2 rfl rfl] at q
  refine q.trans ?_
  have q' := dxr_v g x d e u v (y 0) (y 1)
  rw [show (ix2 (y 0) (y 1) : S256x1024.Idx) = y from idx2 rfl rfl] at q'
  refine q'.symm.trans (congrArg₂ (dxr g x d e u v) (Fin.ext ?_) (Fin.ext ?_))
  · show (y 0).val = 0 + 1 * (y 0).val; omega
  · show 1024 + (y 1).val = 1024 + 1 * (y 1).val; omega

section body
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S256x1024 .f32) (h3 : a3.IsWhole)
  (a4 : Memref sig .tc .vmem S256x1024 .f32) (h4 : a4.IsWhole) (a5 : Memref sig .tc .vmem S256x1024 .f32) (h5 : a5.IsWhole)
  (a6 : Memref sig .tc .vmem S1x128 .f32) (h6 : a6.IsWhole)
  (a7 : Memref sig .tc .vmem S256x2048 .bf16) (h7 : a7.IsWhole) (a8 : Memref sig .tc .vmem S1x128 .f32) (h8 : a8.IsWhole)
  (d e u v x : Vec Ideal S256x1024 .f32) (g : Vec Ideal S1x128 .f32)

theorem out6_A (hc : cond0_0 i) :
    out0_A_6 c i a1 h1 a2 h2 a3 h3 a4 h4 a5 h5 a6 h6 a7 h7 a8 h8 hc d e u v x g = dxb g x d e u v := by
  unfold out0_A_6
  rw [View.read_writes_eq_canon _ _ _ (fun _ => cover0_A_6 ..)]
  funext j
  refine View.canon_apply_of_pieces (Val := Elt Ideal) (dxb g x d e u v) _ (fun p hp => ?_) j (cover0_A_6 ..)
  revert p
  unfold kernelRun0_A
  dsimp only
  sl_unfold_words
  simp only [View.readAt_eq_ld, h1.read_unread, h2.read_unread, h3.read_unread, h4.read_unread, h5.read_unread, h6.read_unread,
    ld_all, List.forall_mem_cons, List.not_mem_nil, false_imp_iff, implies_true, and_true]
  simp only [heads]
  exact ⟨piece_v _ g x d e u v,
    piece 7 rfl _ g x d e u v _ (dx7 g _ _ _), piece 6 rfl _ g x d e u v _ (dx6 g _ _ _), piece 5 rfl _ g x d e u v _ (dx5 g _ _ _),
    piece 4 rfl _ g x d e u v _ (dx4 g _ _ _), piece 3 rfl _ g x d e u v _ (dx3 g _ _ _), piece 2 rfl _ g x d e u v _ (dx2 g _ _ _),
    piece 1 rfl _ g x d e u v _ (dx1 g _ _ _), piece 0 rfl _ g x d e u v _ (dx0 g _ _ _)⟩
theorem out6_B (hc : ¬cond0_0 i) (p : Vec Ideal S1x128 .f32) :
    out0_B_6 c i a1 h1 a2 h2 a3 h3 a4 h4 a5 h5 a6 h6 a7 h7 a8 h8 hc d e u v x g p = dxb g x d e u v := by
  unfold out0_B_6
  rw [View.read_writes_eq_canon _ _ _ (fun _ => cover0_B_6 ..)]
  funext j
  refine View.canon_apply_of_pieces (Val := Elt Ideal) (dxb g x d e u v) _ (fun p hp => ?_) j (cover0_B_6 ..)
  revert p
  unfold kernelRun0_B
  dsimp only
  sl_unfold_words
  simp only [View.readAt_eq_ld, h1.read_unread, h2.read_unread, h3.read_unread, h4.read_unread, h5.read_unread, h6.read_unread,
    ld_all, List.forall_mem_cons, List.not_mem_nil, false_imp_iff, implies_true, and_true]
  simp only [heads]
  exact ⟨piece_v _ g x d e u v,
    piece 7 rfl _ g x d e u v _ (dx7 g _ _ _), piece 6 rfl _ g x d e u v _ (dx6 g _ _ _), piece 5 rfl _ g x d e u v _ (dx5 g _ _ _),
    piece 4 rfl _ g x d e u v _ (dx4 g _ _ _), piece 3 rfl _ g x d e u v _ (dx3 g _ _ _), piece 2 rfl _ g x d e u v _ (dx2 g _ _ _),
    piece 1 rfl _ g x d e u v _ (dx1 g _ _ _), piece 0 rfl _ g x d e u v _ (dx0 g _ _ _)⟩

/-- What a block adds to the weight's gradient. -/
def dgb (x d e : S256x1024.Idx → EReal) (l : Fin 128) : EReal := ∑ h : Fin 8, dgh (head h x) (head h d) (head h e) l

theorem out7_A (hc : cond0_0 i) (l : Fin 128) :
    out0_A_7 c i a1 h1 a2 h2 a3 h3 a4 h4 a5 h5 a6 h6 a7 h7 a8 h8 hc d e u v x g (ix2 0 l) = dgb x d e l := by
  unfold out0_A_7
  rw [View.read_writes_eq_canon _ _ _ (fun _ => cover0_A_7 ..)]
  unfold kernelRun0_A
  dsimp only
  sl_unfold_words
  rw [View.canon_cons_unit_zero hz2]
  simp only [View.readAt_eq_ld, h1.read_unread, h2.read_unread, h5.read_unread, h6.read_unread,
    cov_all]
  simp only [heads]
  exact (dg_at (k0_pay4 (F := Ideal)) (fun h => head h x) (fun h => head h d) (fun h => head h e) l).trans
    ((congrArg (· + dgb x d e l) (by pointwise [k0_pay4])).trans (zero_add _))
theorem out7_B (hc : ¬cond0_0 i) (p : Vec Ideal S1x128 .f32) (l : Fin 128) :
    out0_B_7 c i a1 h1 a2 h2 a3 h3 a4 h4 a5 h5 a6 h6 a7 h7 a8 h8 hc d e u v x g p (ix2 0 l) = (p (ix2 0 l) + dgb x d e l : EReal) := by
  unfold out0_B_7
  rw [View.read_writes_eq_canon _ _ _ (fun _ => cover0_B_7 ..)]
  unfold kernelRun0_B
  dsimp only
  sl_unfold_words
  rw [View.canon_unit_zero hz2]
  simp only [View.readAt_eq_ld, h1.read_unread, h2.read_unread, h5.read_unread, h6.read_unread, h8.read_unread,
    ld_all]
  simp only [heads]
  exact dg_at p (fun h => head h x) (fun h => head h d) (fun h => head h e) l
end body

/-! ## The blocks and the arrays -/

variable (m : (ℓ : Loc nD τ sig) → Buf (Elt Ideal) ℓ) (c : Dev nD) (t : Fin cfg0.N)

/-- The projection to keys and values, the weight, and the gradients that reach the keys and the values. -/
abbrev kv : S4096x2048.Idx → EReal := m ((c : Thread nD τ).loc main_arg0)
abbrev kg : S128.Idx → EReal := m ((c : Thread nD τ).loc main_arg1)
abbrev k0 : S4096x1024.Idx → EReal := m ((c : Thread nD τ).loc main_arg2)
abbrev k1 : S4096x1024.Idx → EReal := m ((c : Thread nD τ).loc main_arg3)
abbrev w0 : S4096x1024.Idx → EReal := m ((c : Thread nD τ).loc main_arg4)
abbrev w1 : S4096x1024.Idx → EReal := m ((c : Thread nD τ).loc main_arg5)

/-- The keys' half of the projection. -/
def keys (x : S4096x2048.Idx → EReal) : S4096x1024.Idx → EReal :=
  fun i => x (ix2 (i 0) ⟨(i 1).val, by have h : (i 1).val < 1024 := (i 1).isLt; omega⟩)

/-- The two results. -/
def dk (x : S4096x2048.Idx → EReal) (g : S128.Idx → EReal) (d e : S4096x1024.Idx → EReal) (r : Fin 4096) (h : Fin 8) (l : Fin 128) : EReal :=
  kdx eps wide (hrow (keys x) r h) (fun j => (hrow d r h j + hrow e r h j) * g (ix1 j)) l
def dkv (x : S4096x2048.Idx → EReal) (g : S128.Idx → EReal) (d e u v : S4096x1024.Idx → EReal) (r : Fin 4096) (l : Fin 2048) : EReal :=
  if h : l.val < 1024 then dk x g d e r ⟨l.val / 128, by omega⟩ ⟨l.val % 128, by omega⟩
  else u (ix2 r ⟨l.val - 1024, by omega⟩) + v (ix2 r ⟨l.val - 1024, by omega⟩)
def dw (x : S4096x2048.Idx → EReal) (d e : S4096x1024.Idx → EReal) (l : Fin 128) : EReal :=
  ∑ r : Fin 4096, ∑ h : Fin 8, (hrow d r h l + hrow e r h l) * hrow (keys x) r h l * rinv eps wide (hrow (keys x) r h)

def arr6 : Vec Ideal S4096x2048 .bf16 := fun i => dkv (kv m c) (kg m c) (k0 m c) (k1 m c) (w0 m c) (w1 m c) (i 0) (i 1)
def arr7 : Vec Ideal S1x128 .f32 := fun i => dw (kv m c) (k0 m c) (k1 m c) (i 1)

theorem V_v0_at (r : Fin 1) (l : Fin 128) : V m c main_v0 (ix2 r l : S1x128.Idx) = kg m c (ix1 l) := by
  have e : V m c main_v0 = (shapeCast S1x128 (kg m c) shapeCasts_S128_S1x128 : Vec Ideal S1x128 .f32) := by
    simp only [V, hostOps0]; after_results; rfl
  rw [e]
  pointwise []

/-- Row `r` of the block of point `t`. -/
def row (r : Fin 256) : Fin 4096 := ⟨256 * t.val + r.val, by have h : t.val < 16 := N_0 ▸ t.isLt; omega⟩
/-- Element `j` of that block, in an array of 1024 columns, of the keys' half and of the result. -/
def at1 (j : S256x1024.Idx) : S4096x1024.Idx := ix2 (row t (j 0)) (j 1)
def at2 (j : S256x2048.Idx) : S4096x2048.Idx := ix2 (row t (j 0)) (j 1)

theorem index_in : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ win0_3.index t 0 = t.val ∧ win0_3.index t 1 = 0 := by decide +kernel
theorem index_eq : ∀ t : Fin grid0.N, (win0_4.index t 0 = t.val ∧ win0_4.index t 1 = 0) ∧ (win0_5.index t 0 = 0 ∧ win0_5.index t 1 = 0)
    ∧ (win0_6.index t 0 = t.val ∧ win0_6.index t 1 = 0) ∧ win0_7.index t 0 = 0 ∧ win0_7.index t 1 = 0 := by decide +kernel

theorem iblk0 (j : S256x1024.Idx) : iblk m c 0 t j = k0 m c (at1 t j) := by
  unfold iblk
  rw [View.read_apply]
  refine congrArg (V m c main_arg2) (idx2 (j := at1 t j) ?_ ?_)
  · show win0_0.index t 0 * 256 + 1 * (j 0).val = 256 * t.val + (j 0).val; rw [(index_in t).1.1]; omega
  · show win0_0.index t 1 * 1024 + 1 * (j 1).val = (j 1).val; rw [(index_in t).1.2]; omega
theorem iblk1 (j : S256x1024.Idx) : iblk m c 1 t j = k1 m c (at1 t j) := by
  unfold iblk
  rw [View.read_apply]
  refine congrArg (V m c main_arg3) (idx2 (j := at1 t j) ?_ ?_)
  · show win0_1.index t 0 * 256 + 1 * (j 0).val = 256 * t.val + (j 0).val; rw [(index_in t).2.1.1]; omega
  · show win0_1.index t 1 * 1024 + 1 * (j 1).val = (j 1).val; rw [(index_in t).2.1.2]; omega
theorem iblk2 (j : S256x1024.Idx) : iblk m c 2 t j = w0 m c (at1 t j) := by
  unfold iblk
  rw [View.read_apply]
  refine congrArg (V m c main_arg4) (idx2 (j := at1 t j) ?_ ?_)
  · show win0_2.index t 0 * 256 + 1 * (j 0).val = 256 * t.val + (j 0).val; rw [(index_in t).2.2.1.1]; omega
  · show win0_2.index t 1 * 1024 + 1 * (j 1).val = (j 1).val; rw [(index_in t).2.2.1.2]; omega
theorem iblk3 (j : S256x1024.Idx) : iblk m c 3 t j = w1 m c (at1 t j) := by
  unfold iblk
  rw [View.read_apply]
  refine congrArg (V m c main_arg5) (idx2 (j := at1 t j) ?_ ?_)
  · show win0_3.index t 0 * 256 + 1 * (j 0).val = 256 * t.val + (j 0).val; rw [(index_in t).2.2.2.1]; omega
  · show win0_3.index t 1 * 1024 + 1 * (j 1).val = (j 1).val; rw [(index_in t).2.2.2.2]; omega
theorem iblk4 (j : S256x1024.Idx) : iblk m c 4 t j = keys (kv m c) (at1 t j) := by
  unfold iblk
  rw [View.read_apply]
  refine congrArg (V m c main_arg0) (idx2 ?_ ?_)
  · show win0_4.index t 0 * 256 + 1 * (j 0).val = 256 * t.val + (j 0).val; rw [(index_eq t).1.1]; omega
  · show win0_4.index t 1 * 1024 + 1 * (j 1).val = (j 1).val; rw [(index_eq t).1.2]; omega
theorem iblk5 (j : S1x128.Idx) : iblk m c 5 t j = kg m c (ix1 (j 1)) := by
  unfold iblk
  rw [View.read_apply]
  refine Eq.trans (congrArg (V m c main_v0) (idx2 (j := ix2 (j 0) (j 1)) ?_ ?_)) (V_v0_at m c (j 0) (j 1))
  · show win0_5.index t 0 * 1 + 1 * (j 0).val = (j 0).val; rw [(index_eq t).2.1.1]; omega
  · show win0_5.index t 1 * 128 + 1 * (j 1).val = (j 1).val; rw [(index_eq t).2.1.2]; omega

theorem emb6 (j : S256x2048.Idx) : ((cfg0.win 6).blk t).view.emb j = at2 t j :=
  idx2 (by show win0_6.index t 0 * 256 + 1 * (j 0).val = 256 * t.val + (j 0).val; rw [(index_eq t).2.2.1.1]; omega)
    (by show win0_6.index t 1 * 2048 + 1 * (j 1).val = (j 1).val; rw [(index_eq t).2.2.1.2]; omega)
theorem emb7 (j : S1x128.Idx) : ((cfg0.win 7).blk t).view.emb j = j :=
  idx2 (by show win0_7.index t 0 * 1 + 1 * (j 0).val = (j 0).val; rw [(index_eq t).2.2.2.1]; omega)
    (by show win0_7.index t 1 * 128 + 1 * (j 1).val = (j 1).val; rw [(index_eq t).2.2.2.2]; omega)

theorem covered (i : S4096x2048.Idx) : ∃ (t : Fin cfg0.N) (j : S256x2048.Idx), at2 t j = i := by
  have h : (i 0).val < 4096 := (i 0).isLt
  exact ⟨⟨(i 0).val / 256, by show _ < grid0.N; rw [N_0]; omega⟩, ix2 ⟨(i 0).val % 256, by omega⟩ (i 1),
    idx2 (by show 256 * ((i 0).val / 256) + (i 0).val % 256 = (i 0).val; omega) rfl⟩

/-! ## What the two arrays hold at the end -/

theorem left6 (j : S256x2048.Idx) : (outsAt0 m c t.val t.isLt).1 j = arr6 m c (at2 t j) := by
  have e : (outsAt0 m c t.val t.isLt).1
      = dxb (iblk m c 5 t) (iblk m c 4 t) (iblk m c 0 t) (iblk m c 1 t) (iblk m c 2 t) (iblk m c 3 t) := by
    by_cases h0 : t.val % 16 = 0
    · rw [outsAt0_A m c t h0]
      dsimp only
      rw [out6_A]
    · rw [outsAt0_B m c t h0]
      dsimp only
      rw [out6_B]
  rw [e]
  unfold dxb dxr dxf dxh head
  simp only [iblk0, iblk1, iblk2, iblk3, iblk4, iblk5]
  rfl

/-- What the block of point `t` adds to the weight's gradient. -/
def part (l : Fin 128) : EReal := ∑ r : Fin 256, ∑ h : Fin 8,
  (hrow (k0 m c) (row t r) h l + hrow (k1 m c) (row t r) h l) * hrow (keys (kv m c)) (row t r) h l
    * rinv eps wide (hrow (keys (kv m c)) (row t r) h)

theorem part_eq (l : Fin 128) : dgb (iblk m c 4 t) (iblk m c 0 t) (iblk m c 1 t) l = part m c t l := by
  unfold dgb dgh head part
  rw [Finset.sum_comm]
  simp only [iblk0, iblk1, iblk4]
  rfl

theorem left7_A (h0 : t.val % 16 = 0) (l : Fin 128) :
    (outsAt0 m c t.val t.isLt).2 (ix2 0 l) = part m c t l := by
  rw [outsAt0_A m c t h0]
  dsimp only
  rw [out7_A, part_eq]
theorem left7_B (h0 : ¬t.val % 16 = 0) (l : Fin 128) : (outsAt0 m c t.val t.isLt).2 (ix2 0 l)
    = ((outsAt0 m c (t.val - 1) (pred_lt t)).2 (ix2 0 l) + part m c t l : EReal) := by
  rw [outsAt0_B m c t h0]
  dsimp only
  rw [out7_B, part_eq]

theorem step_ne {n : ℕ} (h : n + 1 < cfg0.N) : ¬(n + 1) % 16 = 0 := by have : n + 1 < 16 := N_0 ▸ h; omega

theorem left7 (l : Fin 128) (n : ℕ) (h : n < cfg0.N) : (outsAt0 m c n h).2 (ix2 0 l)
    = ∑ k : Fin (n + 1), part m c ⟨k.val, by omega⟩ l :=
  sum_of_steps (α := EReal) (fun n h => (outsAt0 m c n h).2 (ix2 0 l)) (fun n h => part m c ⟨n, h⟩ l)
    (fun h => left7_A m c ⟨0, h⟩ (Nat.zero_mod _) l) (fun n h => left7_B m c ⟨n + 1, h⟩ (step_ne h) l) n h

theorem final6 : (dats m 0 c).arrAt 6 cfg0.N = arr6 m c := by
  refine (dats m 0 c).arrAt_eq_of_cover 6 (arr6 m c) (fun t _ => ?_) fun i => ?_
  · rw [flushed6]
    funext j
    rw [View.read_apply, emb6]
    exact left6 m c t j
  · obtain ⟨t, j, rfl⟩ := covered i
    exact ⟨t, flush0_6 t, emb6 t j ▸ View.emb_mem_set _ _⟩

/-- The sum over the blocks is the sum over the rows. -/
theorem over_rows (f : Fin 4096 → EReal) (t : Fin cfg0.N) (ht : t.val % 16 = 15) :
    (∑ k : Fin (t.val + 1), ∑ r : Fin 256, f (row ⟨k.val, Nat.lt_of_le_of_lt (Nat.le_of_lt_succ k.isLt) t.isLt⟩ r)) = ∑ r, f r := by
  have h16 : t.val + 1 = 16 := by have : t.val < 16 := N_0 ▸ t.isLt; omega
  rw [Fin.sum_univ_tiles 16 256 rfl f]
  refine Fintype.sum_equiv (finCongr h16) _ _ fun k => Finset.sum_congr rfl fun r _ => congrArg f (Fin.ext ?_)
  show 256 * k.val + r.val = k.val * 256 + r.val
  omega

theorem final7 : (dats m 0 c).arrAt 7 cfg0.N = arr7 m c := by
  refine (dats m 0 c).arrAt_eq_of_cover 7 (arr7 m c) (fun t ht => ?_) fun i => ?_
  · rw [flushed7]
    funext j
    rw [View.read_apply, emb7]
    show (outsAt0 m c t.val t.isLt).2 j = dw (kv m c) (k0 m c) (k1 m c) (j 1)
    refine (congrArg _ (idx2 (j := ix2 0 (j 1)) (Fin.val_eq_zero (j 0)) rfl)).trans ((left7 m c (j 1) t.val t.isLt).trans ?_)
    exact over_rows (fun r => ∑ h : Fin 8, (hrow (k0 m c) r h (j 1) + hrow (k1 m c) r h (j 1)) * hrow (keys (kv m c)) r h (j 1)
      * rinv eps wide (hrow (keys (kv m c)) r h)) t ((flush0_7 t).mp ht)
  · exact ⟨⟨15, by rw [show cfg0.N = 16 from N_0]; omega⟩, (flush0_7 _).mpr rfl, emb7 ⟨15, _⟩ i ▸ View.emb_mem_set _ _⟩

end Cert.KvGradIdeal.Val

/-! ## The reference -/

namespace Cert.KvGradRefIdeal.Val

open Cert.KvGradRefIdeal Cert.KvGradRefIdeal.Read
open Cert.QNormIdeal.Val (eps wide col hrow)
open Cert.KvGradIdeal.Val (dk dkv dw keys)

section read
variable (x0 : S4096x2048.Idx → EReal) (x1 : S128.Idx → EReal) (x2 x3 x4 x5 : S4096x1024.Idx → EReal)

/-- The gradient to head `h` of the keys. -/
theorem v48_at (r : Fin 4096) (h : Fin 8) (l : Fin 128) : val_main_v48 (F := Ideal) x0 x1 x2 x3 (ix3 r h l) = dk x0 x1 x2 x3 r h l := by
  unfold dk
  rw [← rdx_eq f128_f32 (by norm_num)]
  pointwise [val_main_v48, val_main_v47, val_main_v46, val_main_v45, val_main_v44, val_main_v43, val_main_v42, val_main_v41, val_main_v40,
    val_main_v39, val_main_v38, val_main_v37, val_main_v36, val_main_v35, val_main_v33, val_main_v32, val_main_v25, val_main_v23,
    val_main_v21, val_main_v16, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2, val_main_cst_6, val_main_cst_7, val_main_cst_8]
  simp only [Fin.sum_univ_one]
  have e (x : Fin 128) (p) : (⟨h.val * 128 + x.val, p⟩ : Fin 2048) = ⟨128 * h.val + x.val, by omega⟩ :=
    Fin.ext (by show h.val * 128 + x.val = 128 * h.val + x.val; omega)
  have e' (x : Fin 128) (p) : (⟨h.val * 128 + x.val, p⟩ : Fin 1024) = col h x :=
    Fin.ext (by show h.val * 128 + x.val = 128 * h.val + x.val; omega)
  simp only [e, e']
  rfl

set_option maxHeartbeats 2000000 in
theorem v53_at (r : Fin 4096) (l : Fin 2048) : val_main_v53 (F := Ideal) x0 x1 x2 x3 x4 x5 (ix2 r l) = dkv x0 x1 x2 x3 x4 x5 r l := by
  pointwise [val_main_v53, val_main_v52, val_main_v51, val_main_v50, val_main_v49, val_main_v28, val_main_v27, val_main_v26, val_main_v24,
    val_main_v22, val_main_cst, val_main_cst_0, val_main_cst_1, val_main_cst_2, val_main_cst_3, val_main_cst_6, val_main_cst_7,
    val_main_cst_8, val_main_cst_9]
  unfold dkv
  have hl := l.isLt
  by_cases h : l.val < 1024
  · have e1 (p) : (⟨l.val / 128 % 8, p⟩ : Fin 8) = ⟨l.val / 128, by omega⟩ := Fin.ext (by show l.val / 128 % 8 = l.val / 128; omega)
    rw [dif_neg (show ¬((1 ≤ l.val / 1024 ∧ l.val / 1024 - 1 < 1) ∧ l.val / 128 % 8 < 8 ∧ l.val % 128 < 128) by omega),
      dif_pos (show l.val / 1024 < 1 ∧ l.val / 128 % 8 < 8 ∧ l.val % 128 < 128 by omega), dif_pos h, zero_add]
    exact (congrArg (fun i => val_main_v48 (F := Ideal) x0 x1 x2 x3 (ix3 r i ⟨l.val % 128, by omega⟩)) (e1 _)).trans
      (v48_at x0 x1 x2 x3 r _ _)
  · have e1 (p) : (⟨l.val / 128 % 8 * 128 + l.val % 128, p⟩ : Fin 1024) = ⟨l.val - 1024, by omega⟩ :=
      Fin.ext (by show l.val / 128 % 8 * 128 + l.val % 128 = l.val - 1024; omega)
    rw [dif_pos (show (1 ≤ l.val / 1024 ∧ l.val / 1024 - 1 < 1) ∧ l.val / 128 % 8 < 8 ∧ l.val % 128 < 128 by omega),
      dif_neg (show ¬(l.val / 1024 < 1 ∧ l.val / 128 % 8 < 8 ∧ l.val % 128 < 128) by omega), dif_neg h, add_zero]
    exact congrArg (fun i => x4 (ix2 r i) + x5 (ix2 r i)) (e1 _)

theorem v54_at (r : Fin 1) (l : Fin 128) : val_main_v54 (F := Ideal) x0 x2 x3 (ix2 r l) = dw x0 x2 x3 l := by
  pointwise [val_main_v54, val_main_v34, val_main_v31, val_main_v30, val_main_v29, val_main_v15, val_main_v14, val_main_v25, val_main_v23,
    val_main_v21, val_main_v10, val_main_v9, val_main_v8, val_main_v7, val_main_v6, val_main_v5, val_main_v4, val_main_v3, val_main_v2,
    val_main_v1, val_main_v0, val_main_cst, val_main_cst_0, val_main_cst_1, val_main_cst_4, val_main_cst_5, host_sum01]
  simp only [Fin.sum_univ_one]
  unfold dw
  refine Finset.sum_congr rfl fun r _ => Finset.sum_congr rfl fun h _ => ?_
  have e (x : Fin 128) (p) : (⟨h.val * 128 + x.val, p⟩ : Fin 2048) = ⟨128 * h.val + x.val, by omega⟩ :=
    Fin.ext (by show h.val * 128 + x.val = 128 * h.val + x.val; omega)
  have e' (x : Fin 128) (p) : (⟨h.val * 128 + x.val, p⟩ : Fin 1024) = col h x :=
    Fin.ext (by show h.val * 128 + x.val = 128 * h.val + x.val; omega)
  simp only [e, e']
  show hrow (keys x0) r h l * rinv eps wide (hrow (keys x0) r h) * (hrow x2 r h l + hrow x3 r h l) = _
  rw [mul_comm, ← mul_assoc]
end read
end Cert.KvGradRefIdeal.Val

namespace Cert.Proof.KvGrad

open Cert.KvGradIdeal Cert.KvGradIdeal.Gen Cert.KvGradIdeal.Value Cert.KvGradIdeal.Val Cert.KvGradRefIdeal.Val Cert.KvGradRefIdeal.Read

/-- The reference writes no argument and awaits nothing. -/
theorem frame_ref : Cert.quiescent_KvGradRefIdeal := fun m ρ _ =>
  (θ_run Cert.KvGradRefIdeal.defs _ _).mono (fun r h => ⟨fun c => (h c).2.2,
      Idealize.ShloMosaic.sem_eq_zero_of_no_sems (by decide) r.2⟩)
    (Cert.KvGradRefIdeal.Value.run (F := Ideal) m ρ)

/-- Both programs end with the gradients of the projection and of the norm's weight. -/
theorem algebraic : Cert.algebraic_KvGradIdeal_KvGradRefIdeal := by
  intro m ρ m' ρ' _ hagree
  refine ⟨arr6 m, arr7 m, ?_, ?_⟩
  · refine (θ_run Cert.KvGradIdeal.defs _ _).mono (fun r h c => ?_) (Cert.KvGradIdeal.Value.run_blocks (F := Ideal) m ρ)
    obtain ⟨h6, h7, ha⟩ := h c
    exact ⟨h6.trans (final6 m c), h7.trans (final7 m c), ha⟩
  · refine (θ_run Cert.KvGradRefIdeal.defs _ _).mono (fun r h c => ?_) (Cert.KvGradRefIdeal.Value.run (F := Ideal) m' ρ')
    obtain ⟨h6, h7, ha⟩ := h c
    obtain ⟨e0, e1, e2, e3, e4, e5⟩ := hagree c
    refine ⟨h6.trans ?_, h7.trans ?_, ha⟩
    · rw [val_main_v53_eq, e0, e1, e2, e3, e4, e5]
      funext i
      exact (congrArg _ (eq_ix2 i)).trans (v53_at _ _ _ _ _ _ (i 0) (i 1))
    · rw [val_main_v54_eq, e0, e2, e3]
      funext i
      exact (congrArg _ (idx2 (j := ix2 0 (i 1)) (Fin.val_eq_zero (i 0)) rfl)).trans (v54_at _ _ _ 0 (i 1))

end Cert.Proof.KvGrad
-- ==== Proof.Silu.lean ====
/-
  The function `t · σ(t)` of the gates and its derivative, in the kernels' order and in that of the chain rule.
-/
module

public import proofs.«01_k».proof.Proof.Common

@[expose] public section

noncomputable section

open Idealize.ShloMosaic

namespace Cert.Silu

/-- The function and its derivative. -/
def silu (t : EReal) : EReal := t * Ideal.logistic t
def dsilu (t : EReal) : EReal := Ideal.logistic t + t * Ideal.logistic t * (1 - Ideal.logistic t)

theorem logistic_real (z : EReal) : ∃ s : ℝ, Ideal.logistic z = (s : EReal) := by
  induction z with
  | bot => exact ⟨0, by simp⟩
  | top => exact ⟨1, by simp⟩
  | coe r => exact ⟨_, Ideal.logistic_coe r⟩

/-- The two terms of the chain rule, scaled by a real number, are that number times the derivative. -/
theorem chain (t : ℝ) (z : EReal) :
    (t : EReal) * Ideal.logistic z + z * (t : EReal) * (Ideal.logistic z * (1 - Ideal.logistic z)) = t * dsilu z := by
  unfold dsilu
  have one_sub : (1 : EReal) - 1 = 0 := by rw [← EReal.coe_one, ← EReal.coe_sub, sub_self, EReal.coe_zero]
  induction z with
  | bot => simp
  | top => simp [one_sub]
  | coe r =>
    rw [Ideal.logistic_coe]
    generalize (1 + Real.exp (-r))⁻¹ = s
    rw [← EReal.coe_one, ← EReal.coe_sub]
    simp only [← EReal.coe_mul, ← EReal.coe_add]
    congr 1
    ring

end Cert.Silu
-- ==== Proof.OutNorm.lean ====
/-
  The gradient of the delta rule's gated output norm: its output laid head by head, the gate in the last 1024 columns of the
  projection.
-/
module

public import proofs.«01_k».proof.Defs
public import proofs.«01_k».proof.Proof.QNorm
public import proofs.«01_k».proof.Proof.Silu
public import proofs.«01_k».proof.Proof.Gen.OutNormIdeal.Value
public import proofs.«01_k».proof.Proof.Gen.OutNormRefIdeal.Run
public import proofs.«01_k».proof.Proof.Gen.OutNormRefIdeal.Read

@[expose] public section

set_option maxRecDepth 16384
noncomputable section

open Idealize.ShloMosaic Idealize.ShloMosaic.TcCoe Idealize.SL.Sem
open Idealize.ShloMosaic.Pipeline (Dat)
open Cert.Common Cert.Rms

namespace Cert.OutNormIdeal.Val

open Cert.OutNormIdeal Cert.OutNormIdeal.Gen Cert.OutNormIdeal.Value
open Cert.QNormIdeal.Val (eps wide col head heads hd ln blk piece)
open Cert.Silu

/-! ## One head of one block -/

section pay
variable (g : Vec Ideal S1x128 .f32) (x : Vec Ideal S1x256x128 .f32) (d z : Vec Ideal S256x128 .f32)

/-- One element of the gradient to the delta rule's output. -/
def dxh (g : S1x128.Idx → EReal) (x : S1x256x128.Idx → EReal) (d z : S256x128.Idx → EReal) (r : Fin 256) (l : Fin 128) : EReal :=
  kdx eps wide (fun j => x (ix3 0 r j)) (fun j => d (ix2 r j) * silu (z (ix2 r j)) * g (ix2 0 j)) l
/-- One element of the gradient to the gate. -/
def dzh (g : S1x128.Idx → EReal) (x : S1x256x128.Idx → EReal) (d z : S256x128.Idx → EReal) (r : Fin 256) (l : Fin 128) : EReal :=
  d (ix2 r l) * (x (ix3 0 r l) * rinv eps wide (fun j => x (ix3 0 r j)) * g (ix2 0 l)) * dsilu (z (ix2 r l))
/-- One head's part of the weight's gradient. -/
def dgh (x : S1x256x128.Idx → EReal) (d z : S256x128.Idx → EReal) (l : Fin 128) : EReal :=
  ∑ r : Fin 256, d (ix2 r l) * silu (z (ix2 r l)) * x (ix3 0 r l) * rinv eps wide fun j => x (ix3 0 r j)

variable (r : Fin 256) (l : Fin 128)

theorem dx0 :
    k0_pay13 (F := Ideal) (k0_pay5 x) (k0_pay6 x) (k0_pay11 g d z) (k0_pay12 g x d z) (ix3 0 r l) = dxh g x d z r l := by
  pointwise [k0_pay13, k0_pay5, k0_pay6, k0_pay11, k0_pay12, k0_pay3, k0_pay10, k0_pay8, k0_pay7]
  rfl
theorem dx1 :
    k0_pay23 (F := Ideal) (k0_pay3 g) (k0_pay15 x) d (k0_pay16 x) (k0_pay18 z) (ix3 0 r l) = dxh g x d z r l := by
  pointwise [k0_pay23, k0_pay3, k0_pay15, k0_pay16, k0_pay18, k0_pay22, k0_pay17]
  rfl
theorem dx2 :
    k0_pay31 (F := Ideal) (k0_pay3 g) (k0_pay25 x) d (k0_pay26 x) z (ix3 0 r l) = dxh g x d z r l := by
  pointwise [k0_pay31, k0_pay3, k0_pay25, k0_pay26, k0_pay30, k0_pay28, k0_pay27]
  rfl
theorem dx3 :
    k0_pay39 (F := Ideal) (k0_pay3 g) (k0_pay33 x) d z (ix3 0 r l) = dxh g x d z r l := by
  pointwise [k0_pay39, k0_pay3, k0_pay33, k0_pay34, k0_pay38, k0_pay36, k0_pay35]
  rfl
theorem dx4 :
    k0_pay53 (F := Ideal) (k0_pay43 x) (k0_pay50 (k0_pay3 g) x d z) (k0_pay51 (k0_pay3 g) x d z) (k0_pay52 x) (ix3 0 r l) = dxh g x d z r l := by
  pointwise [k0_pay53, k0_pay43, k0_pay50, k0_pay51, k0_pay52, k0_pay44, k0_pay49, k0_pay48, k0_pay46, k0_pay45, k0_pay3]
  rfl
theorem dx5 :
    k0_pay62 (F := Ideal) (k0_pay55 x) (k0_pay56 x) (k0_pay60 d z) (k0_pay61 (k0_pay3 g)) (ix3 0 r l) = dxh g x d z r l := by
  pointwise [k0_pay62, k0_pay55, k0_pay56, k0_pay60, k0_pay61, k0_pay58, k0_pay57, k0_pay3]
  rfl
theorem dx6 :
    k0_pay71 (F := Ideal) (k0_pay3 g) (k0_pay64 x) d (k0_pay65 x) (k0_pay67 z) (ix3 0 r l) = dxh g x d z r l := by
  pointwise [k0_pay71, k0_pay3, k0_pay64, k0_pay65, k0_pay67, k0_pay70, k0_pay66]
  rfl
theorem dx7 :
    k0_pay80 (F := Ideal) (k0_pay3 g) (k0_pay73 x) d (k0_pay74 x) (FloatOps.ofBits FTy.f32 897988541#32) z (ix3 0 r l) = dxh g x d z r l := by
  pointwise [k0_pay80, k0_pay3, k0_pay73, k0_pay74, k0_pay75, k0_pay79, k0_pay77, k0_pay76]
  rfl
theorem dz0 :
    k0_pay9 (F := Ideal) g x d z (ix2 r l) = dzh g x d z r l := by
  pointwise [k0_pay9, k0_pay3, k0_pay5, k0_pay6, k0_pay7, k0_pay8]
  rfl
theorem dz1 :
    k0_pay21 (F := Ideal) (k0_pay19 z) (k0_pay20 (k0_pay3 g) x d) (ix2 r l) = dzh g x d z r l := by
  pointwise [k0_pay21, k0_pay19, k0_pay20, k0_pay17, k0_pay18, k0_pay15, k0_pay16, k0_pay3]
  rfl
theorem dz2 :
    k0_pay29 (F := Ideal) (k0_pay3 g) (k0_pay25 x) d (k0_pay26 x) z (ix2 r l) = dzh g x d z r l := by
  pointwise [k0_pay29, k0_pay3, k0_pay25, k0_pay26, k0_pay27, k0_pay28]
  rfl
theorem dz3 :
    k0_pay37 (F := Ideal) (k0_pay3 g) (k0_pay33 x) d z (ix2 r l) = dzh g x d z r l := by
  pointwise [k0_pay37, k0_pay3, k0_pay33, k0_pay34, k0_pay35, k0_pay36]
  rfl
theorem dz4 :
    k0_pay47 (F := Ideal) (k0_pay3 g) x d z (ix2 r l) = dzh g x d z r l := by
  pointwise [k0_pay47, k0_pay3, k0_pay43, k0_pay44, k0_pay45, k0_pay46]
  rfl
theorem dz5 :
    k0_pay59 (F := Ideal) (k0_pay3 g) x d z (ix2 r l) = dzh g x d z r l := by
  pointwise [k0_pay59, k0_pay3, k0_pay55, k0_pay56, k0_pay57, k0_pay58]
  rfl
theorem dz6 :
    k0_pay69 (F := Ideal) (k0_pay3 g) (k0_pay64 x) d (k0_pay65 x) (k0_pay68 z) (ix2 r l) = dzh g x d z r l := by
  pointwise [k0_pay69, k0_pay3, k0_pay64, k0_pay65, k0_pay68, k0_pay66, k0_pay67]
  rfl
theorem dz7 :
    k0_pay78 (F := Ideal) (k0_pay3 g) (k0_pay73 x) d (k0_pay74 x) (FloatOps.ofBits FTy.f32 897988541#32) z (ix2 r l) = dzh g x d z r l := by
  pointwise [k0_pay78, k0_pay3, k0_pay73, k0_pay74, k0_pay75, k0_pay76, k0_pay77]
  rfl
end pay

theorem dg_at (p : Vec Ideal S1x128 .f32) (x : Fin 8 → Vec Ideal S1x256x128 .f32) (d z : Fin 8 → Vec Ideal S256x128 .f32) (l : Fin 128) :
    k0_pay1 (F := Ideal)
      (k0_pay81
        (k0_pay72
          (k0_pay63
            (k0_pay54
              (k0_pay42
                (k0_pay32
                  (k0_pay24
                    (k0_pay14 k0_pay4 (k0_pay5 (x 0)) (k0_pay6 (x 0)) (k0_pay10 (d 0) (z 0)))
                    (k0_pay15 (x 1)) (d 1) (k0_pay16 (x 1)) (k0_pay18 (z 1)))
                  (k0_pay25 (x 2)) (d 2) (k0_pay26 (x 2)) (z 2))
                (k0_pay40 (k0_pay33 (x 3)) (d 3) (z 3)) (k0_pay41 (k0_pay33 (x 3))))
              (k0_pay43 (x 4)) (k0_pay44 (x 4)) (k0_pay48 (d 4) (z 4)))
            (k0_pay55 (x 5)) (k0_pay56 (x 5)) (k0_pay60 (d 5) (z 5)))
          (k0_pay64 (x 6)) (d 6) (k0_pay65 (x 6)) (k0_pay67 (z 6)))
        (k0_pay73 (x 7)) (d 7) (k0_pay74 (x 7)) (FloatOps.ofBits FTy.f32 897988541#32) (z 7))
      p (ix2 0 l)
    = (p (ix2 0 l) + ∑ h : Fin 8, dgh (x h) (d h) (z h) l : EReal) := by
  pointwise [k0_pay1, k0_pay4, k0_pay5, k0_pay6, k0_pay7, k0_pay8, k0_pay10, k0_pay14, k0_pay15, k0_pay16, k0_pay17, k0_pay18, k0_pay22, k0_pay24, k0_pay25, k0_pay26, k0_pay27, k0_pay28, k0_pay30, k0_pay32, k0_pay33, k0_pay34, k0_pay35, k0_pay36, k0_pay38, k0_pay40, k0_pay41, k0_pay42, k0_pay43, k0_pay44, k0_pay45, k0_pay46, k0_pay48, k0_pay54, k0_pay55, k0_pay56, k0_pay57, k0_pay58, k0_pay60, k0_pay63, k0_pay64, k0_pay65, k0_pay66, k0_pay67, k0_pay70, k0_pay72, k0_pay73, k0_pay74, k0_pay75, k0_pay76, k0_pay77, k0_pay79, k0_pay81]
  rw [Fin.sum_univ_eight]
  rfl

/-- Head `h` of a block that keeps the heads apart. -/
def head3 (h : Fin 8) (x : S8x256x128.Idx → EReal) : S1x256x128.Idx → EReal := fun j => x (ix3 h (j 1) (j 2))

/-- What a load of head `h` reads. -/
theorem ld_head3 (h : Fin 8) {off : Fin 3 → Nat} (ho : off = ![h.val, 0, 0])
    (inb : ∀ a, off a + (![1, 256, 128] : Fin 3 → Nat) a ≤ S8x256x128.size a) (x : Vec Ideal S8x256x128 .f32) :
    View.ld x (Rect.unit (s := S8x256x128) off ![1, 256, 128] inb) = head3 h x := by
  subst ho
  rw [View.ld_unit]
  funext j
  have h0 : (j 0).val < 1 := (j 0).isLt
  exact congrArg x (idx3 (by show h.val + (j 0).val = h.val; omega) (Nat.zero_add _) (Nat.zero_add _))

theorem heads3 (x : Vec Ideal S8x256x128 .f32) :
    View.ld x (Rect.unit ![0, 0, 0] ![1, 256, 128] inb_S8x256x128_S1x256x128_0_0_0) = head3 0 x
      ∧ View.ld x (Rect.unit ![1, 0, 0] ![1, 256, 128] inb_S8x256x128_S1x256x128_1_0_0) = head3 1 x
      ∧ View.ld x (Rect.unit ![2, 0, 0] ![1, 256, 128] inb_S8x256x128_S1x256x128_2_0_0) = head3 2 x
      ∧ View.ld x (Rect.unit ![3, 0, 0] ![1, 256, 128] inb_S8x256x128_S1x256x128_3_0_0) = head3 3 x
      ∧ View.ld x (Rect.unit ![4, 0, 0] ![1, 256, 128] inb_S8x256x128_S1x256x128_4_0_0) = head3 4 x
      ∧ View.ld x (Rect.unit ![5, 0, 0] ![1, 256, 128] inb_S8x256x128_S1x256x128_5_0_0) = head3 5 x
      ∧ View.ld x (Rect.unit ![6, 0, 0] ![1, 256, 128] inb_S8x256x128_S1x256x128_6_0_0) = head3 6 x
      ∧ View.ld x (Rect.unit ![7, 0, 0] ![1, 256, 128] inb_S8x256x128_S1x256x128_7_0_0) = head3 7 x :=
  ⟨ld_head3 0 rfl _ x, ld_head3 1 rfl _ x, ld_head3 2 rfl _ x, ld_head3 3 rfl _ x, ld_head3 4 rfl _ x, ld_head3 5 rfl _ x, ld_head3 6 rfl _ x, ld_head3 7 rfl _ x⟩

/-- The gradients to the block of outputs and of gates. -/
abbrev dxf (g : S1x128.Idx → EReal) (x : S8x256x128.Idx → EReal) (d z : S256x1024.Idx → EReal) (r : Fin 256) (h : Fin 8) (l : Fin 128) : EReal :=
  dxh g (head3 h x) (head h d) (head h z) r l
abbrev dzf (g : S1x128.Idx → EReal) (x : S8x256x128.Idx → EReal) (d z : S256x1024.Idx → EReal) (r : Fin 256) (h : Fin 8) (l : Fin 128) : EReal :=
  dzh g (head3 h x) (head h d) (head h z) r l

/-- A block that keeps the heads apart, and a store of one head's part. -/
def blk3 (f : Fin 256 → Fin 8 → Fin 128 → EReal) (i : S8x256x128.Idx) : EReal := f (i 1) (i 0) (i 2)
theorem piece3 (f : Fin 256 → Fin 8 → Fin 128 → EReal) (h : Fin 8) {off : Fin 3 → Nat} (ho : off = ![h.val, 0, 0])
    (inb : ∀ a, off a + (![1, 256, 128] : Fin 3 → Nat) a ≤ S8x256x128.size a) (w : S1x256x128.Idx → EReal)
    (hw : ∀ r l, w (ix3 0 r l) = f r h l) (y : S1x256x128.Idx) : w y = blk3 f ((Rect.unit (s := S8x256x128) off ![1, 256, 128] inb).emb y) := by
  have q := hw (y 1) (y 2)
  have h0 : (y 0).val < 1 := (y 0).isLt
  rw [show (ix3 0 (y 1) (y 2) : S1x256x128.Idx) = y from idx3 (by show 0 = (y 0).val; omega) rfl rfl] at q
  subst ho
  have e : (Rect.unit (s := S8x256x128) ![h.val, 0, 0] ![1, 256, 128] inb).emb y = (ix3 h (y 1) (y 2) : S8x256x128.Idx) :=
    idx3 (by show h.val + 1 * (y 0).val = h.val; omega) (by show 0 + 1 * (y 1).val = (y 1).val; omega) (by show 0 + 1 * (y 2).val = (y 2).val; omega)
  rw [q, e]
  rfl

section body
variable (c : Dev nD) (i : grid0.Coords) (a1 : Memref sig .tc .vmem S256x1024 .f32) (h1 : a1.IsWhole)
  (a2 : Memref sig .tc .vmem S8x256x128 .f32) (h2 : a2.IsWhole) (a3 : Memref sig .tc .vmem S1x128 .f32) (h3 : a3.IsWhole)
  (a4 : Memref sig .tc .vmem S256x1024 .f32) (h4 : a4.IsWhole) (a5 : Memref sig .tc .vmem S8x256x128 .f32) (h5 : a5.IsWhole)
  (a6 : Memref sig .tc .vmem S1x128 .f32) (h6 : a6.IsWhole) (a7 : Memref sig .tc .vmem S256x1024 .bf16) (h7 : a7.IsWhole)
  (d : Vec Ideal S256x1024 .f32) (x : Vec Ideal S8x256x128 .f32) (g : Vec Ideal S1x128 .f32) (z : Vec Ideal S256x1024 .f32)

theorem out4_A (hc : cond0_0 i) : out0_A_4 c i a1 h1 a2 h2 a3 h3 a4 h4 a5 h5 a6 h6 a7 h7 hc d x g z = blk3 (dxf g x d z) := by
  unfold out0_A_4
  rw [View.read_writes_eq_canon _ _ _ (fun _ => cover0_A_4 ..)]
  funext j
  refine View.canon_apply_of_pieces (Val := Elt Ideal) (blk3 (dxf g x d z)) _ (fun p hp => ?_) j (cover0_A_4 ..)
  revert p
  unfold kernelRun0_A
  dsimp only
  sl_unfold_words
  simp only [View.readAt_eq_ld, h1.read_unread, h2.read_unread, h3.read_unread, h4.read_unread, ld_all,
    List.forall_mem_cons, List.not_mem_nil, false_imp_iff, implies_true, and_true]
  simp only [heads, heads3]
  exact ⟨piece3 (dxf g x d z) 7 rfl _ _ (dx7 g _ _ _), piece3 (dxf g x d z) 6 rfl _ _ (dx6 g _ _ _), piece3 (dxf g x d z) 5 rfl _ _ (dx5 g _ _ _), piece3 (dxf g x d z) 4 rfl _ _ (dx4 g _ _ _), piece3 (dxf g x d z) 3 rfl _ _ (dx3 g _ _ _), piece3 (dxf g x d z) 2 rfl _ _ (dx2 g _ _ _), piece3 (dxf g x d z) 1 rfl _ _ (dx1 g _ _ _), piece3 (dxf g x d z) 0 rfl _ _ (dx0 g _ _ _)⟩
theorem out4_B (hc : ¬cond0_0 i) (p : Vec Ideal S1x128 .f32) : out0_B_4 c i a1 h1 a2 h2 a3 h3 a4 h4 a5 h5 a6 h6 a7 h7 hc d x g z p = blk3 (dxf g x d z) := by
  unfold out0_B_4
  rw [View.read_writes_eq_canon _ _ _ (fun _ => cover0_B_4 ..)]
  funext j
  refine View.canon_apply_of_pieces (Val := Elt Ideal) (blk3 (dxf g x d z)) _ (fun p hp => ?_) j (cover0_B_4 ..)
  revert p
  unfold kernelRun0_B
  dsimp only
  sl_unfold_words
  simp only [View.readAt_eq_ld, h1.read_unread, h2.read_unread, h3.read_unread, h4.read_unread, ld_all,
    List.forall_mem_cons, List.not_mem_nil, false_imp_iff, implies_true, and_true]
  simp only [heads, heads3]
  exact ⟨piece3 (dxf g x d z) 7 rfl _ _ (dx7 g _ _ _), piece3 (dxf g x d z) 6 rfl _ _ (dx6 g _ _ _), piece3 (dxf g x d z) 5 rfl _ _ (dx5 g _ _ _), piece3 (dxf g x d z) 4 rfl _ _ (dx4 g _ _ _), piece3 (dxf g x d z) 3 rfl _ _ (dx3 g _ _ _), piece3 (dxf g x d z) 2 rfl _ _ (dx2 g _ _ _), piece3 (dxf g x d z) 1 rfl _ _ (dx1 g _ _ _), piece3 (dxf g x d z) 0 rfl _ _ (dx0 g _ _ _)⟩
theorem out6_A (hc : cond0_0 i) : out0_A_6 c i a1 h1 a2 h2 a3 h3 a4 h4 a5 h5 a6 h6 a7 h7 hc d x g z = blk (dzf g x d z) := by
  unfold out0_A_6
  rw [View.read_writes_eq_canon _ _ _ (fun _ => cover0_A_6 ..)]
  funext j
  refine View.canon_apply_of_pieces (Val := Elt Ideal) (blk (dzf g x d z)) _ (fun p hp => ?_) j (cover0_A_6 ..)
  revert p
  unfold kernelRun0_A
  dsimp only
  sl_unfold_words
  simp only [View.readAt_eq_ld, h1.read_unread, h2.read_unread, h3.read_unread, h4.read_unread, ld_all,
    List.forall_mem_cons, List.not_mem_nil, false_imp_iff, implies_true, and_true]
  simp only [heads, heads3]
  exact ⟨piece (dzf g x d z) 7 rfl _ _ (dz7 g _ _ _), piece (dzf g x d z) 6 rfl _ _ (dz6 g _ _ _), piece (dzf g x d z) 5 rfl _ _ (dz5 g _ _ _), piece (dzf g x d z) 4 rfl _ _ (dz4 g _ _ _), piece (dzf g x d z) 3 rfl _ _ (dz3 g _ _ _), piece (dzf g x d z) 2 rfl _ _ (dz2 g _ _ _), piece (dzf g x d z) 1 rfl _ _ (dz1 g _ _ _), piece (dzf g x d z) 0 rfl _ _ (dz0 g _ _ _)⟩
theorem out6_B (hc : ¬cond0_0 i) (p : Vec Ideal S1x128 .f32) : out0_B_6 c i a1 h1 a2 h2 a3 h3 a4 h4 a5 h5 a6 h6 a7 h7 hc d x g z p = blk (dzf g x d z) := by
  unfold out0_B_6
  rw [View.read_writes_eq_canon _ _ _ (fun _ => cover0_B_6 ..)]
  funext j
  refine View.canon_apply_of_pieces (Val := Elt Ideal) (blk (dzf g x d z)) _ (fun p hp => ?_) j (cover0_B_6 ..)
  revert p
  unfold kernelRun0_B
  dsimp only
  sl_unfold_words
  simp only [View.readAt_eq_ld, h1.read_unread, h2.read_unread, h3.read_unread, h4.read_unread, ld_all,
    List.forall_mem_cons, List.not_mem_nil, false_imp_iff, implies_true, and_true]
  simp only [heads, heads3]
  exact ⟨piece (dzf g x d z) 7 rfl _ _ (dz7 g _ _ _), piece (dzf g x d z) 6 rfl _ _ (dz6 g _ _ _), piece (dzf g x d z) 5 rfl _ _ (dz5 g _ _ _), piece (dzf g x d z) 4 rfl _ _ (dz4 g _ _ _), piece (dzf g x d z) 3 rfl _ _ (dz3 g _ _ _), piece (dzf g x d z) 2 rfl _ _ (dz2 g _ _ _), piece (dzf g x d z) 1 rfl _ _ (dz1 g _ _ _), piece (dzf g x d z) 0 rfl _ _ (dz0 g _ _ _)⟩

/-- What a block adds to the weight's gradient. -/
def dgb (x : S8x256x128.Idx → EReal) (d z : S256x1024.Idx → EReal) (l : Fin 128) : EReal :=
  ∑ h : Fin 8, dgh (head3 h x) (head h d) (head h z) l

theorem out5_A (hc : cond0_0 i) (l : Fin 128) : out0_A_5 c i a1 h1 a2 h2 a3 h3 a4 h4 a5 h5 a6 h6 a7 h7 hc d x g z (ix2 0 l) = dgb x d z l := by
  unfold out0_A_5
  rw [View.read_writes_eq_canon _ _ _ (fun _ => cover0_A_5 ..)]
  unfold kernelRun0_A
  dsimp only
  sl_unfold_words
  rw [View.canon_cons_unit_zero hz2]
  simp only [View.readAt_eq_ld, h1.read_unread, h2.read_unread, h3.read_unread, h4.read_unread, cov_all]
  simp only [heads, heads3]
  exact (dg_at (k0_pay2 (F := Ideal)) (fun h => head3 h x) (fun h => head h d) (fun h => head h z) l).trans
    ((congrArg (· + dgb x d z l) (by pointwise [k0_pay2])).trans (zero_add _))
theorem out5_B (hc : ¬cond0_0 i) (p : Vec Ideal S1x128 .f32) (l : Fin 128) :
    out0_B_5 c i a1 h1 a2 h2 a3 h3 a4 h4 a5 h5 a6 h6 a7 h7 hc d x g z p (ix2 0 l) = (p (ix2 0 l) + dgb x d z l : EReal) := by
  unfold out0_B_5
  rw [View.read_writes_eq_canon _ _ _ (fun _ => cover0_B_5 ..)]
  unfold kernelRun0_B
  dsimp only
  sl_unfold_words
  rw [View.canon_unit_zero hz2]
  simp only [View.readAt_eq_ld, h1.read_unread, h2.read_unread, h3.read_unread, h4.read_unread, h6.read_unread,
    ld_all]
  simp only [heads, heads3]
  exact dg_at p (fun h => head3 h x) (fun h => head h d) (fun h => head h z) l
end body

/-! ## The blocks and the arrays -/

variable (m : (ℓ : Loc nD τ sig) → Buf (Elt Ideal) ℓ) (c : Dev nD) (t : Fin cfg0.N)

/-- The delta rule's output, the weight, the projection, and the gradient that arrives. -/
abbrev ox : S4096x8x128.Idx → EReal := m ((c : Thread nD τ).loc main_arg0)
abbrev og : S128.Idx → EReal := m ((c : Thread nD τ).loc main_arg1)
abbrev pj : S4096x4096.Idx → EReal := m ((c : Thread nD τ).loc main_arg2)
abbrev od : S4096x1024.Idx → EReal := m ((c : Thread nD τ).loc main_arg3)

/-- Head `h` of row `r` of the output, of the gate and of the gradient. -/
def xrow (x : S4096x8x128.Idx → EReal) (r : Fin 4096) (h : Fin 8) (l : Fin 128) : EReal := x (ix3 r h l)
def zrow (z : S4096x4096.Idx → EReal) (r : Fin 4096) (h : Fin 8) (l : Fin 128) : EReal := z (ix2 r ⟨3072 + (128 * h.val + l.val), by omega⟩)
def drow (d : S4096x1024.Idx → EReal) (r : Fin 4096) (h : Fin 8) (l : Fin 128) : EReal := d (ix2 r (col h l))

/-- The three results. -/
def dx (x : S4096x8x128.Idx → EReal) (g : S128.Idx → EReal) (z : S4096x4096.Idx → EReal) (d : S4096x1024.Idx → EReal)
    (r : Fin 4096) (h : Fin 8) (l : Fin 128) : EReal :=
  kdx eps wide (xrow x r h) (fun j => drow d r h j * silu (zrow z r h j) * g (ix1 j)) l
def dw (x : S4096x8x128.Idx → EReal) (z : S4096x4096.Idx → EReal) (d : S4096x1024.Idx → EReal) (l : Fin 128) : EReal :=
  ∑ r : Fin 4096, ∑ h : Fin 8, drow d r h l * silu (zrow z r h l) * xrow x r h l * rinv eps wide (xrow x r h)
def dz (x : S4096x8x128.Idx → EReal) (g : S128.Idx → EReal) (z : S4096x4096.Idx → EReal) (d : S4096x1024.Idx → EReal)
    (r : Fin 4096) (h : Fin 8) (l : Fin 128) : EReal :=
  drow d r h l * (xrow x r h l * rinv eps wide (xrow x r h) * g (ix1 l)) * dsilu (zrow z r h l)
/-- Columns 3072 and up of the third result are written, the others not. -/
def dzw (x : S4096x8x128.Idx → EReal) (g : S128.Idx → EReal) (z : S4096x4096.Idx → EReal) (d : S4096x1024.Idx → EReal)
    (r l : Fin 4096) : EReal :=
  dz x g z d r ⟨(l.val - 3072) / 128, by omega⟩ ⟨l.val % 128, by omega⟩

def arr4 : Vec Ideal S8x4096x128 .f32 := fun i => dx (ox m c) (og m c) (pj m c) (od m c) (i 1) (i 0) (i 2)
def arr5 : Vec Ideal S1x128 .f32 := fun i => dw (ox m c) (pj m c) (od m c) (i 1)
def arr6 : Vec Ideal S4096x4096 .bf16 := fun i => dzw (ox m c) (og m c) (pj m c) (od m c) (i 0) (i 1)

theorem V_v0_at (h : Fin 8) (r : Fin 4096) (l : Fin 128) :
    V m c main_v0 (ix3 h r l : S8x4096x128.Idx) = ox m c (ix3 r h l) := by
  have e : V m c main_v0 = (transpose S8x4096x128 [1, 0, 2] (ox m c) transposes_S4096x8x128_S8x4096x128_1_0_2 : Vec Ideal S8x4096x128 .f32) := by
    simp only [V, hostOps0]; after_results; try rfl
  rw [e]
  pointwise []
theorem V_v1_at (r : Fin 1) (l : Fin 128) : V m c main_v1 (ix2 r l : S1x128.Idx) = og m c (ix1 l) := by
  have e : V m c main_v1 = (shapeCast S1x128 (og m c) shapeCasts_S128_S1x128 : Vec Ideal S1x128 .f32) := by
    simp only [V, hostOps0]; after_results; rfl
  rw [e]
  pointwise []

/-- Row `r` of the block of point `t`. -/
def row (r : Fin 256) : Fin 4096 := ⟨256 * t.val + r.val, by have h : t.val < 16 := N_0 ▸ t.isLt; omega⟩
def at1 (j : S256x1024.Idx) : S4096x1024.Idx := ix2 (row t (j 0)) (j 1)
def at3 (j : S8x256x128.Idx) : S8x4096x128.Idx := ix3 (j 0) (row t (j 1)) (j 2)
def at4 (j : S256x1024.Idx) : S4096x4096.Idx :=
  ix2 (row t (j 0)) ⟨3072 + (j 1).val, by have h : (j 1).val < 1024 := (j 1).isLt; omega⟩

theorem index_in : ∀ t : Fin grid0.N, (win0_0.index t 0 = t.val ∧ win0_0.index t 1 = 0)
    ∧ (win0_1.index t 0 = 0 ∧ win0_1.index t 1 = t.val ∧ win0_1.index t 2 = 0)
    ∧ (win0_2.index t 0 = 0 ∧ win0_2.index t 1 = 0) ∧ win0_3.index t 0 = t.val ∧ win0_3.index t 1 = 3 := by decide +kernel
theorem index_out : ∀ t : Fin grid0.N, (win0_4.index t 0 = 0 ∧ win0_4.index t 1 = t.val ∧ win0_4.index t 2 = 0)
    ∧ (win0_5.index t 0 = 0 ∧ win0_5.index t 1 = 0) ∧ win0_6.index t 0 = t.val ∧ win0_6.index t 1 = 3 := by decide +kernel

theorem iblk0 (j : S256x1024.Idx) : iblk m c 0 t j = od m c (at1 t j) := by
  unfold iblk
  rw [View.read_apply]
  refine congrArg (V m c main_arg3) (idx2 (j := at1 t j) ?_ ?_)
  · show win0_0.index t 0 * 256 + 1 * (j 0).val = 256 * t.val + (j 0).val; rw [(index_in t).1.1]; omega
  · show win0_0.index t 1 * 1024 + 1 * (j 1).val = (j 1).val; rw [(index_in t).1.2]; omega
theorem iblk1 (j : S8x256x128.Idx) : iblk m c 1 t j = ox m c (ix3 (row t (j 1)) (j 0) (j 2)) := by
  unfold iblk
  rw [View.read_apply]
  refine Eq.trans (congrArg (V m c main_v0) (idx3 (j := at3 t j) ?_ ?_ ?_)) (V_v0_at m c (j 0) (row t (j 1)) (j 2))
  · show win0_1.index t 0 * 8 + 1 * (j 0).val = (j 0).val; rw [(index_in t).2.1.1]; omega
  · show win0_1.index t 1 * 256 + 1 * (j 1).val = 256 * t.val + (j 1).val; rw [(index_in t).2.1.2.1]; omega
  · show win0_1.index t 2 * 128 + 1 * (j 2).val = (j 2).val; rw [(index_in t).2.1.2.2]; omega
theorem iblk2 (j : S1x128.Idx) : iblk m c 2 t j = og m c (ix1 (j 1)) := by
  unfold iblk
  rw [View.read_apply]
  refine Eq.trans (congrArg (V m c main_v1) (idx2 (j := ix2 (j 0) (j 1)) ?_ ?_)) (V_v1_at m c (j 0) (j 1))
  · show win0_2.index t 0 * 1 + 1 * (j 0).val = (j 0).val; rw [(index_in t).2.2.1.1]; omega
  · show win0_2.index t 1 * 128 + 1 * (j 1).val = (j 1).val; rw [(index_in t).2.2.1.2]; omega
theorem iblk3 (j : S256x1024.Idx) : iblk m c 3 t j = pj m c (at4 t j) := by
  unfold iblk
  rw [View.read_apply]
  refine congrArg (V m c main_arg2) (idx2 (j := at4 t j) ?_ ?_)
  · show win0_3.index t 0 * 256 + 1 * (j 0).val = 256 * t.val + (j 0).val; rw [(index_in t).2.2.2.1]; omega
  · show win0_3.index t 1 * 1024 + 1 * (j 1).val = 3072 + (j 1).val; rw [(index_in t).2.2.2.2]; omega

theorem emb4 (j : S8x256x128.Idx) : ((cfg0.win 4).blk t).view.emb j = at3 t j :=
  idx3 (by show win0_4.index t 0 * 8 + 1 * (j 0).val = (j 0).val; rw [(index_out t).1.1]; omega)
    (by show win0_4.index t 1 * 256 + 1 * (j 1).val = 256 * t.val + (j 1).val; rw [(index_out t).1.2.1]; omega)
    (by show win0_4.index t 2 * 128 + 1 * (j 2).val = (j 2).val; rw [(index_out t).1.2.2]; omega)
theorem emb5 (j : S1x128.Idx) : ((cfg0.win 5).blk t).view.emb j = j :=
  idx2 (by show win0_5.index t 0 * 1 + 1 * (j 0).val = (j 0).val; rw [(index_out t).2.1.1]; omega)
    (by show win0_5.index t 1 * 128 + 1 * (j 1).val = (j 1).val; rw [(index_out t).2.1.2]; omega)
theorem emb6 (j : S256x1024.Idx) : ((cfg0.win 6).blk t).view.emb j = at4 t j :=
  idx2 (by show win0_6.index t 0 * 256 + 1 * (j 0).val = 256 * t.val + (j 0).val; rw [(index_out t).2.2.1]; omega)
    (by show win0_6.index t 1 * 1024 + 1 * (j 1).val = 3072 + (j 1).val; rw [(index_out t).2.2.2]; omega)

theorem covered3 (i : S8x4096x128.Idx) : ∃ (t : Fin cfg0.N) (j : S8x256x128.Idx), at3 t j = i := by
  have h : (i 1).val < 4096 := (i 1).isLt
  exact ⟨⟨(i 1).val / 256, by show _ < grid0.N; rw [N_0]; omega⟩, ix3 (i 0) ⟨(i 1).val % 256, by omega⟩ (i 2),
    idx3 rfl (by show 256 * ((i 1).val / 256) + (i 1).val % 256 = (i 1).val; omega) rfl⟩
theorem covered4 (i : S4096x4096.Idx) (h : 3072 ≤ (i 1).val) : ∃ (t : Fin cfg0.N) (j : S256x1024.Idx), at4 t j = i := by
  have h0 : (i 0).val < 4096 := (i 0).isLt
  have h1 : (i 1).val < 4096 := (i 1).isLt
  exact ⟨⟨(i 0).val / 256, by show _ < grid0.N; rw [N_0]; omega⟩, ix2 ⟨(i 0).val % 256, by omega⟩ ⟨(i 1).val - 3072, by omega⟩,
    idx2 (by show 256 * ((i 0).val / 256) + (i 0).val % 256 = (i 0).val; omega) (by show 3072 + ((i 1).val - 3072) = (i 1).val; omega)⟩

/-! ## What the arrays hold at the end -/

theorem left4 (j : S8x256x128.Idx) : (outsAt0 m c t.val t.isLt).1 j = arr4 m c (at3 t j) := by
  have e : (outsAt0 m c t.val t.isLt).1 = blk3 (dxf (iblk m c 2 t) (iblk m c 1 t) (iblk m c 0 t) (iblk m c 3 t)) := by
    by_cases h0 : t.val % 16 = 0
    · rw [outsAt0_A m c t h0]
      dsimp only
      rw [out4_A]
    · rw [outsAt0_B m c t h0]
      dsimp only
      rw [out4_B]
  rw [e]
  unfold blk3 dxf dxh head head3
  simp only [iblk0, iblk1, iblk2, iblk3]
  rfl

theorem left6 (j : S256x1024.Idx) : (outsAt0 m c t.val t.isLt).2.2 j = arr6 m c (at4 t j) := by
  have e : (outsAt0 m c t.val t.isLt).2.2 = blk (dzf (iblk m c 2 t) (iblk m c 1 t) (iblk m c 0 t) (iblk m c 3 t)) := by
    by_cases h0 : t.val % 16 = 0
    · rw [outsAt0_A m c t h0]
      dsimp only
      rw [out6_A]
    · rw [outsAt0_B m c t h0]
      dsimp only
      rw [out6_B]
  rw [e]
  unfold blk dzf dzh head head3
  simp only [iblk0, iblk1, iblk2, iblk3]
  have hj : (j 1).val < 1024 := (j 1).isLt
  show _ = dz (ox m c) (og m c) (pj m c) (od m c) (row t (j 0)) ⟨(3072 + (j 1).val - 3072) / 128, by omega⟩ ⟨(3072 + (j 1).val) % 128, by omega⟩
  have e1 (p) : (⟨(3072 + (j 1).val - 3072) / 128, p⟩ : Fin 8) = ⟨(j 1).val / 128, by omega⟩ := Fin.ext (by show (3072 + (j 1).val - 3072) / 128 = (j 1).val / 128; omega)
  have e2 (p) : (⟨(3072 + (j 1).val) % 128, p⟩ : Fin 128) = ⟨(j 1).val % 128, by omega⟩ := Fin.ext (by show (3072 + (j 1).val) % 128 = (j 1).val % 128; omega)
  rw [e1, e2]
  rfl

/-- What the block of point `t` adds to the weight's gradient. -/
def part (l : Fin 128) : EReal := ∑ r : Fin 256, ∑ h : Fin 8,
  drow (od m c) (row t r) h l * silu (zrow (pj m c) (row t r) h l) * xrow (ox m c) (row t r) h l * rinv eps wide (xrow (ox m c) (row t r) h)

theorem part_eq (l : Fin 128) : dgb (iblk m c 1 t) (iblk m c 0 t) (iblk m c 3 t) l = part m c t l := by
  unfold dgb dgh head head3 part
  rw [Finset.sum_comm]
  simp only [iblk0, iblk1, iblk3]
  rfl

theorem left5_A (h0 : t.val % 16 = 0) (l : Fin 128) :
    (outsAt0 m c t.val t.isLt).2.1 (ix2 0 l) = part m c t l := by
  rw [outsAt0_A m c t h0]
  dsimp only
  rw [out5_A, part_eq]
theorem left5_B (h0 : ¬t.val % 16 = 0) (l : Fin 128) : (outsAt0 m c t.val t.isLt).2.1 (ix2 0 l)
    = ((outsAt0 m c (t.val - 1) (pred_lt t)).2.1 (ix2 0 l) + part m c t l : EReal) := by
  rw [outsAt0_B m c t h0]
  dsimp only
  rw [out5_B, part_eq]

theorem step_ne {n : ℕ} (h : n + 1 < cfg0.N) : ¬(n + 1) % 16 = 0 := by have : n + 1 < 16 := N_0 ▸ h; omega

theorem left5 (l : Fin 128) (n : ℕ) (h : n < cfg0.N) : (outsAt0 m c n h).2.1 (ix2 0 l)
    = ∑ k : Fin (n + 1), part m c ⟨k.val, by omega⟩ l :=
  sum_of_steps (α := EReal) (fun n h => (outsAt0 m c n h).2.1 (ix2 0 l)) (fun n h => part m c ⟨n, h⟩ l)
    (fun h => left5_A m c ⟨0, h⟩ (Nat.zero_mod _) l) (fun n h => left5_B m c ⟨n + 1, h⟩ (step_ne h) l) n h

theorem final4 : (dats m 0 c).arrAt 4 cfg0.N = arr4 m c := by
  refine (dats m 0 c).arrAt_eq_of_cover 4 (arr4 m c) (fun t _ => ?_) fun i => ?_
  · rw [flushed4]
    funext j
    rw [View.read_apply, emb4]
    exact left4 m c t j
  · obtain ⟨t, j, rfl⟩ := covered3 i
    exact ⟨t, flush0_4 t, emb4 t j ▸ View.emb_mem_set _ _⟩

theorem final6 (i : S4096x4096.Idx) (h : 3072 ≤ (i 1).val) : (dats m 0 c).arrAt 6 cfg0.N i = arr6 m c i := by
  obtain ⟨t, j, rfl⟩ := covered4 i h
  refine (dats m 0 c).arrAt_apply_of_mem 6 (arr6 m c) (fun t _ => ?_) cfg0.N t (at4 t j) t.isLt (flush0_6 t)
    (emb6 t j ▸ View.emb_mem_set _ _)
  rw [flushed6]
  funext j
  rw [View.read_apply, emb6]
  exact left6 m c t j

/-- The sum over the blocks is the sum over the rows. -/
theorem over_rows (f : Fin 4096 → EReal) (t : Fin cfg0.N) (ht : t.val % 16 = 15) :
    (∑ k : Fin (t.val + 1), ∑ r : Fin 256, f (row ⟨k.val, Nat.lt_of_le_of_lt (Nat.le_of_lt_succ k.isLt) t.isLt⟩ r)) = ∑ r, f r := by
  have h16 : t.val + 1 = 16 := by have : t.val < 16 := N_0 ▸ t.isLt; omega
  rw [Fin.sum_univ_tiles 16 256 rfl f]
  refine Fintype.sum_equiv (finCongr h16) _ _ fun k => Finset.sum_congr rfl fun r _ => congrArg f (Fin.ext ?_)
  show 256 * k.val + r.val = k.val * 256 + r.val
  omega

theorem final5 : (dats m 0 c).arrAt 5 cfg0.N = arr5 m c := by
  refine (dats m 0 c).arrAt_eq_of_cover 5 (arr5 m c) (fun t ht => ?_) fun i => ?_
  · rw [flushed5]
    funext j
    rw [View.read_apply, emb5]
    show (outsAt0 m c t.val t.isLt).2.1 j = dw (ox m c) (pj m c) (od m c) (j 1)
    refine (congrArg _ (idx2 (j := ix2 0 (j 1)) (Fin.val_eq_zero (j 0)) rfl)).trans ((left5 m c (j 1) t.val t.isLt).trans ?_)
    exact over_rows (fun r => ∑ h : Fin 8, drow (od m c) r h (j 1) * silu (zrow (pj m c) r h (j 1)) * xrow (ox m c) r h (j 1)
      * rinv eps wide (xrow (ox m c) r h)) t ((flush0_5 t).mp ht)
  · exact ⟨⟨15, by rw [show cfg0.N = 16 from N_0]; omega⟩, (flush0_5 _).mpr rfl, emb5 ⟨15, _⟩ i ▸ View.emb_mem_set _ _⟩

theorem reals [Cert.Pre_finite_hng.Facts] (h : Cert.Pre_OutNormIdeal_finite_hng m) (c : Dev nD) :
    (∃ f : S128.Idx → ℝ, og m c = fun i => (f i : EReal)) ∧ ∃ f : S4096x1024.Idx → ℝ, od m c = fun i => (f i : EReal) := by
  obtain ⟨h0, h1⟩ := h c
  exact ⟨reals_of_lt _ _ _ h0, reals_of_lt _ _ _ h1⟩

end Cert.OutNormIdeal.Val

/-! ## The reference -/

namespace Cert.OutNormRefIdeal.Val

open Cert.OutNormRefIdeal Cert.OutNormRefIdeal.Read
open Cert.QNormIdeal.Val (eps wide col)
open Cert.OutNormIdeal.Val (xrow zrow drow dz)
open Cert.Silu

theorem col_eq (h : Fin 8) (x : Fin 128) (p) : (⟨h.val * 128 + x.val, p⟩ : Fin 1024) = col h x :=
  Fin.ext (by show h.val * 128 + x.val = 128 * h.val + x.val; omega)
theorem col4_eq (h : Fin 8) (x : Fin 128) (p) : (⟨3072 + (h.val * 128 + x.val), p⟩ : Fin 4096) = ⟨3072 + (128 * h.val + x.val), by omega⟩ :=
  Fin.ext (by show 3072 + (h.val * 128 + x.val) = 3072 + (128 * h.val + x.val); omega)

section read
variable (x0 : S4096x8x128.Idx → EReal) (x1 : S128.Idx → EReal) (x2 : S4096x4096.Idx → EReal) (x3 : S4096x1024.Idx → EReal)

theorem v46_at (h : Fin 8) (r : Fin 4096) (l : Fin 128) :
    val_main_v46 (F := Ideal) x0 x1 x2 x3 (ix3 h r l) = Cert.OutNormIdeal.Val.dx x0 x1 x2 x3 r h l := by
  unfold Cert.OutNormIdeal.Val.dx
  rw [← rdx_eq f128_f32 (by norm_num)]
  pointwise [val_main_v0, val_main_v1, val_main_v2, val_main_cst, val_main_v3, val_main_v4, val_main_cst_0, val_main_v5, val_main_v6,
    val_main_cst_1, val_main_v7, val_main_v8, val_main_v9, val_main_v10, val_main_cst_2, val_main_v11, val_main_v12, val_main_v15,
    val_main_call0_v0, val_main_call0_v1, val_main_call0_cst, val_main_call0_v2, val_main_call0_v3, val_main_call0_cst_0, val_main_call0_v4,
    val_main_v18_2, val_main_v18_0, val_main_v20, val_main_v22, val_main_v27, val_main_v28, val_main_v30, val_main_cst_5, val_main_v31,
    val_main_v32, val_main_v33, val_main_v34, val_main_v35, val_main_cst_6, val_main_v36, val_main_v37, val_main_cst_7, val_main_v38,
    val_main_v39, val_main_v40, val_main_v41, val_main_v42, val_main_v43, val_main_v46]
  simp only [Fin.sum_univ_one]
  simp only [col_eq, col4_eq]
  rfl

theorem v47_at (r : Fin 1) (l : Fin 128) : val_main_v47 (F := Ideal) x0 x2 x3 (ix2 r l) = Cert.OutNormIdeal.Val.dw x0 x2 x3 l := by
  pointwise [val_main_v0, val_main_v1, val_main_v2, val_main_cst, val_main_v3, val_main_v4, val_main_cst_0, val_main_v5, val_main_v6,
    val_main_cst_1, val_main_v7, val_main_v8, val_main_v9, val_main_v13, val_main_v14, val_main_call0_v0, val_main_call0_v1,
    val_main_call0_cst, val_main_call0_v2, val_main_call0_v3, val_main_call0_cst_0, val_main_call0_v4, val_main_v18_2, val_main_v18_0,
    val_main_v20, val_main_v22, val_main_v24, val_main_cst_3, val_main_v25, val_main_v26, val_main_cst_4, val_main_v29, val_main_v47,
    host_sum01]
  simp only [Fin.sum_univ_one]
  unfold Cert.OutNormIdeal.Val.dw
  refine Finset.sum_congr rfl fun r _ => Finset.sum_congr rfl fun h _ => ?_
  simp only [col_eq, col4_eq]
  show xrow x0 r h l * rinv eps wide (xrow x0 r h) * (drow x3 r h l * silu (zrow x2 r h l)) = _
  rw [mul_comm, ← mul_assoc]

/-- The reference's order of the gate's gradient. -/
def rdz (r : Fin 4096) (h : Fin 8) (l : Fin 128) : EReal :=
  xrow x0 r h l * rinv eps wide (xrow x0 r h) * x1 (ix1 l) * drow x3 r h l * Ideal.logistic (zrow x2 r h l)
    + zrow x2 r h l * (xrow x0 r h l * rinv eps wide (xrow x0 r h) * x1 (ix1 l) * drow x3 r h l)
      * (Ideal.logistic (zrow x2 r h l) * (1 - Ideal.logistic (zrow x2 r h l)))

theorem v23_at (r : Fin 4096) (h : Fin 8) (l : Fin 128) : val_main_v23 (F := Ideal) x0 x1 x2 x3 (ix3 r h l) = rdz x0 x1 x2 x3 r h l := by
  pointwise [val_main_v0, val_main_v1, val_main_v2, val_main_cst, val_main_v3, val_main_v4, val_main_cst_0, val_main_v5, val_main_v6,
    val_main_cst_1, val_main_v7, val_main_v8, val_main_v9, val_main_v13, val_main_v14, val_main_v15, val_main_v16, val_main_v17,
    val_main_call0_v0, val_main_call0_v1, val_main_call0_cst, val_main_call0_v2, val_main_call0_v3, val_main_call0_cst_0, val_main_call0_v4,
    val_main_v18_2, val_main_call0_cst_1, val_main_call0_v6, val_main_call0_v7, val_main_v18_1, val_main_v20, val_main_v21,
    val_main_call1_v0, val_main_call1_v1, val_main_call1_v2, val_main_v23]
  simp only [col_eq, col4_eq]
  rfl

set_option maxHeartbeats 2000000 in
theorem v48_at (r l : Fin 4096) (hl : 3072 ≤ l.val) : val_main_v48 (F := Ideal) x0 x1 x2 x3 (ix2 r l)
    = rdz x0 x1 x2 x3 r ⟨(l.val - 3072) / 128, by omega⟩ ⟨l.val % 128, by omega⟩ := by
  rw [← v23_at]
  pointwise [val_main_v48, val_main_v45, val_main_v44, val_main_cst_8]
  rw [dif_pos (show 3072 ≤ l.val ∧ l.val - 3072 < 1024 by have := l.isLt; omega)]
  exact congrArg (fun k => val_main_v23 (F := Ideal) x0 x1 x2 x3 (ix3 r ⟨(l.val - 3072) / 128, by omega⟩ k))
    (Fin.ext (by show (l.val - 3072) % 128 = l.val % 128; omega))

/-- Where the weight and the arriving gradient are real numbers the two orders agree. -/
theorem rdz_eq (f1 : S128.Idx → ℝ) (f3 : S4096x1024.Idx → ℝ) (h1 : x1 = fun i => (f1 i : EReal)) (h3 : x3 = fun i => (f3 i : EReal))
    (r : Fin 4096) (h : Fin 8) (l : Fin 128) : rdz x0 x1 x2 x3 r h l = dz x0 x1 x2 x3 r h l := by
  unfold rdz dz
  obtain ⟨q, hq⟩ := mul_rinv_real f128_f32 (by norm_num) (xrow x0 r h) l
  have e3 : drow x3 r h l = (f3 (ix2 r (col h l)) : EReal) := by rw [h3]; rfl
  rw [show xrow x0 r h l * rinv eps wide (xrow x0 r h) = (q : EReal) from hq, e3, show x1 (ix1 l) = (f1 (ix1 l) : EReal) from by rw [h1],
    ← EReal.coe_mul, ← EReal.coe_mul, chain, ← EReal.coe_mul, mul_comm (f3 _)]
end read
end Cert.OutNormRefIdeal.Val

namespace Cert.Proof.OutNorm

open Cert.OutNormIdeal Cert.OutNormIdeal.Gen Cert.OutNormIdeal.Value Cert.OutNormIdeal.Val Cert.OutNormRefIdeal.Val Cert.OutNormRefIdeal.Read

/-- The reference writes no argument and awaits nothing. -/
theorem frame_ref : Cert.quiescent_OutNormRefIdeal := fun m ρ _ =>
  (θ_run Cert.OutNormRefIdeal.defs _ _).mono (fun r h => ⟨fun c => (h c).2.2.2,
      Idealize.ShloMosaic.sem_eq_zero_of_no_sems (by decide) r.2⟩)
    (Cert.OutNormRefIdeal.Value.run (F := Ideal) m ρ)

theorem lane_from : ∀ l : Fin 4096, IntOp.cmpi CmpIPredicate.sge (BitVec.ofNat 32 l.val) 3072#32 = 1#1 → 3072 ≤ l.val := by
  decide +kernel

/-- The mask of the third result selects columns 3072 and up. -/
theorem written [Cert.On_written_hng.Facts] (a : FVec Ideal S4096x8x128 .f32) (b : FVec Ideal S128 .f32) (d : FVec Ideal S4096x4096 .f32)
    (e : FVec Ideal S4096x1024 .f32) (i : S4096x4096.Idx) (h : (Cert.On_written_hng.fn (F := Ideal) a b d e).2.2 i = 1#1) :
    3072 ≤ (i 1).val :=
  lane_from (i 1) h

/-- Both programs end with the gradients of the output, the weight and the gate. -/
theorem algebraic [Cert.Pre_finite_hng.Facts] [Cert.On_written_hng.Facts] :
    Cert.algebraic_OutNormIdeal_OutNormRefIdeal_on_written_hng_pre_finite_hng := by
  intro m ρ m' ρ' hpre hagree
  refine ⟨arr4 m, arr5 m, arr6 m, ?_, ?_⟩
  · refine (θ_run Cert.OutNormIdeal.defs _ _).mono (fun r h c => ?_) (Cert.OutNormIdeal.Value.run_blocks (F := Ideal) m ρ)
    obtain ⟨h4, h5, h6, ha⟩ := h c
    exact ⟨fun i _ => congrFun (h4.trans (final4 m c)) i, fun i _ => congrFun (h5.trans (final5 m c)) i,
      fun i hi => (congrFun h6 i).trans (final6 m c i (written _ _ _ _ i hi)), ha⟩
  · refine (θ_run Cert.OutNormRefIdeal.defs _ _).mono (fun r h c => ?_) (Cert.OutNormRefIdeal.Value.run (F := Ideal) m' ρ')
    obtain ⟨h4, h5, h6, ha⟩ := h c
    obtain ⟨e0, e1, e2, e3⟩ := hagree c
    obtain ⟨⟨f1, h1⟩, ⟨f3, h3⟩⟩ := reals m hpre c
    refine ⟨fun i _ => congrFun ((h4.trans (val_main_v46_eq _ _)).trans ?_) i,
      fun i _ => congrFun ((h5.trans (val_main_v47_eq _ _ _)).trans ?_) i,
      fun i hi => (congrFun (h6.trans (val_main_v48_eq _ _ _ _)) i).trans ?_, ha⟩
    · rw [e0, e1, e2, e3]
      funext i
      exact (congrArg _ (idx3 (i := i) (j := ix3 (i 0) (i 1) (i 2)) rfl rfl rfl)).trans (v46_at _ _ _ _ (i 0) (i 1) (i 2))
    · rw [e0, e2, e3]
      funext i
      exact (congrArg _ (idx2 (j := ix2 0 (i 1)) (Fin.val_eq_zero (i 0)) rfl)).trans (v47_at _ _ _ 0 (i 1))
    · rw [e0, e1, e2, e3]
      exact (congrArg _ (eq_ix2 i)).trans
        ((v48_at _ _ _ _ (i 0) (i 1) (written _ _ _ _ i hi)).trans (rdz_eq _ _ _ _ f1 f3 h1 h3 _ _ _))

end Cert.Proof.OutNorm
-- ==== Proof.SwiRun.lean ====
/-
  The run of the gate's backward: a point stores two column blocks of its row block of the output, at places that depend on
  the point, so the output's block is described by what the points of the row block have written of it so far.
-/
module

public import proofs.«01_k».proof.Proof.Gen.SwiIdeal.Frame
public import proofs.«01_k».proof.Proof.Gen.SwiIdeal.Skeleton
public import Idealize.ShloMosaic.Lib.Pipeline.DatRel
public import Idealize.ShloMosaic.Lib.Pipeline.ArrRel
public import Idealize.ShloMosaic.Lib.WritesUnit

@[expose] public section

set_option maxRecDepth 16384

noncomputable section

namespace Cert.SwiIdeal.Val

open Cert.SwiIdeal Cert.SwiIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at a point: it leaves its four input blocks as they were and stores its two column blocks into the output
block, whatever that held. -/
noncomputable def bodyRun (c : Dev nD) (i : grid0.Coords)
    (m2 : Memref sig .tc .vmem S1024x1024 .bf16) (hm2 : m2.IsWhole)
    (m3 : Memref sig .tc .vmem S256x1024 .bf16) (hm3 : m3.IsWhole)
    (m4 : Memref sig .tc .vmem S1024x256 .bf16) (hm4 : m4.IsWhole)
    (m5 : Memref sig .tc .vmem S1024x256 .bf16) (hm5 : m5.IsWhole)
    (m6 : Memref sig .tc .vmem S1024x5632 .bf16) (hm6 : m6.IsWhole)
    (x0 : Vec F S1024x1024 .bf16) (x1 : Vec F S256x1024 .bf16) (x2 x3 : Vec F S1024x256 .bf16) (x4 : Vec F S1024x5632 .bf16) :
    { L : List (View.Piece (Elt F) S1024x5632 .bf16) //
      ∀ (E : Set ℕ) (K : PUnit → sProp (MT nD τ sig Unit (Elt F) ℕ (UR sig nD τ) ℕ)),
        iprop(owns (c : Thread nD τ) m2 fullShare x0 ∗ owns (c : Thread nD τ) m3 fullShare x1
            ∗ owns (c : Thread nD τ) m4 fullShare x2 ∗ owns (c : Thread nD τ) m5 fullShare x3
            ∗ owns (c : Thread nD τ) m6 fullShare x4
            ∗ (iprop(owns (c : Thread nD τ) m2 fullShare x0 ∗ owns (c : Thread nD τ) m3 fullShare x1
              ∗ owns (c : Thread nD τ) m4 fullShare x2 ∗ owns (c : Thread nD τ) m5 fullShare x3
              ∗ (m6.view.loc (c : Thread nD τ) ↦[m6.view.set]{fullShare} m6.view.writes (Elt F) (hm6.unread x4) L)) -∗ K ⟨⟩))
          ⊢ wp frame (wpE (defs₀ (F := F)) Variants.none c none) E
              (cc0_ffn_bwd_act i m2 hm2 m3 hm3 m4 hm4 m5 hm5 m6 hm6) K } := by
  refine ⟨?_, fun E K => ?run⟩
  case run =>
    simp only [cc0_ffn_bwd_act_eq_skeleton]; unfold cc0_ffn_bwd_act_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := hm2.eq_unread hf0; obtain rfl := hm3.eq_unread hf1; obtain rfl := hm4.eq_unread hf2
    obtain rfl := hm5.eq_unread hf3; obtain rfl := hm6.eq_unread hf4
    sl_exec
    sl_step
    iapply Hk
    isplitl [H0]
    · iexists _; isplitr; · ipureintro; exact hm2.read_unread _
      iexact H0
    isplitl [H1]
    · iexists _; isplitr; · ipureintro; exact hm3.read_unread _
      iexact H1
    isplitl [H2]
    · iexists _; isplitr; · ipureintro; exact hm4.read_unread _
      iexact H2
    isplitl [H3]
    · iexists _; isplitr; · ipureintro; exact hm5.read_unread _
      iexact H3
    iexact H4

section

variable (c : Dev nD) (i : grid0.Coords)
  (m2 : Memref sig .tc .vmem S1024x1024 .bf16) (hm2 : m2.IsWhole)
  (m3 : Memref sig .tc .vmem S256x1024 .bf16) (hm3 : m3.IsWhole)
  (m4 : Memref sig .tc .vmem S1024x256 .bf16) (hm4 : m4.IsWhole)
  (m5 : Memref sig .tc .vmem S1024x256 .bf16) (hm5 : m5.IsWhole)
  (m6 : Memref sig .tc .vmem S1024x5632 .bf16) (hm6 : m6.IsWhole)
  (x0 : Vec F S1024x1024 .bf16) (x1 : Vec F S256x1024 .bf16) (x2 x3 : Vec F S1024x256 .bf16) (x4 : Vec F S1024x5632 .bf16)

/-- The two stores of the body, the later one first. -/
theorem body_pieces : (bodyRun c i m2 hm2 m3 hm3 m4 hm4 m5 hm5 m6 hm6 x0 x1 x2 x3 x4).1
    = [⟨Rect.unit (s := S1024x5632) (k0_off2 i) S1024x256.size (k0_off2_inb i), k0_pay6 x0 x1 x2⟩,
       ⟨Rect.unit (s := S1024x5632) (k0_off1 i) S1024x256.size (k0_off1_inb i), k0_pay5 x0 x1 x2 x3⟩] := by
  have hz2 : (![0, 0] : Fin 2 → Nat) = fun _ => 0 := by funext a; fin_cases a <;> rfl
  unfold bodyRun
  dsimp only
  sl_unfold_words
  simp only [View.readAt_eq_ld, hm2.read_unread, hm3.read_unread, hm4.read_unread, hm5.read_unread]
  rw [View.ld_unit_zero (S := S1024x1024) hz2, View.ld_unit_zero (S := S256x1024) hz2,
    View.ld_unit_zero (S := S1024x256) hz2, View.ld_unit_zero (S := S1024x256) hz2]

/-- What the output block holds after the body, in the columns of the gate's derivative. -/
theorem body_gate (y : S1024x256.Idx) (z : S1024x5632.Idx) (h0 : (z 0).val = (y 0).val)
    (h1 : (z 1).val = 256 * (i 1).val + (y 1).val) (hi : (i 1).val < 11) :
    m6.view.read (Elt F) (m6.view.writes (Elt F) (hm6.unread x4)
      (bodyRun c i m2 hm2 m3 hm3 m4 hm4 m5 hm5 m6 hm6 x0 x1 x2 x3 x4).1) z = k0_pay5 x0 x1 x2 x3 y := by
  have hy : (y 1).val < 256 := (y 1).isLt
  rw [body_pieces]
  rw [View.read_writes_cons_unit_of_not_mem _ _ _ _ _ z (k0_off2_eq i) 1 (by
    left
    show (z 1).val < 256 * (i 1).val + 2816
    omega)]
  exact View.read_writes_cons_unit_of_mem _ _ _ _ _ z y (k0_off1_eq i) (fun a => by
    fin_cases a
    · show (z 0).val = 0 + (y 0).val; omega
    · exact h1)

/-- What it holds in the columns of the up half's derivative. -/
theorem body_up (y : S1024x256.Idx) (z : S1024x5632.Idx) (h0 : (z 0).val = (y 0).val)
    (h1 : (z 1).val = 256 * (i 1).val + 2816 + (y 1).val) :
    m6.view.read (Elt F) (m6.view.writes (Elt F) (hm6.unread x4)
      (bodyRun c i m2 hm2 m3 hm3 m4 hm4 m5 hm5 m6 hm6 x0 x1 x2 x3 x4).1) z = k0_pay6 x0 x1 x2 y := by
  rw [body_pieces]
  exact View.read_writes_cons_unit_of_mem _ _ _ _ _ z y (k0_off2_eq i) (fun a => by
    fin_cases a
    · show (z 0).val = 0 + (y 0).val; omega
    · exact h1)

/-- Every other column is as the body found it. -/
theorem body_rest (z : S1024x5632.Idx) (h1 : (z 1).val < 256 * (i 1).val ∨ 256 * (i 1).val + 256 ≤ (z 1).val)
    (h2 : (z 1).val < 256 * (i 1).val + 2816 ∨ 256 * (i 1).val + 2816 + 256 ≤ (z 1).val) :
    m6.view.read (Elt F) (m6.view.writes (Elt F) (hm6.unread x4)
      (bodyRun c i m2 hm2 m3 hm3 m4 hm4 m5 hm5 m6 hm6 x0 x1 x2 x3 x4).1) z = x4 z := by
  rw [body_pieces]
  rw [View.read_writes_cons_unit_of_not_mem _ _ _ _ _ z (k0_off2_eq i) 1 (by exact h2),
    View.read_writes_cons_unit_of_not_mem _ _ _ _ _ z (k0_off1_eq i) 1 (by exact h1)]
  rw [View.writes_nil, hm6.read_unread]

end

variable (m : (ℓ : Loc nD τ sig) → Buf (Elt F) ℓ) (ρ : Dev nD → PrngReg)

/-- What the columns written at the points of `t`'s row block, up to `t`, hold: each point's own two column blocks. -/
def Written (c : Dev nD) (t : Fin cfg0.N) (X : S1024x5632.Idx → Elt F .bf16) : Prop :=
  ∀ u : Fin cfg0.N, u.val / 11 = t.val / 11 → u.val ≤ t.val → ∀ (y : S1024x256.Idx) (z : S1024x5632.Idx),
    (z 0).val = (y 0).val →
    ((z 1).val = 256 * (u.val % 11) + (y 1).val → X z = k0_pay5 (iblk m c 0 u) (iblk m c 1 u) (iblk m c 2 u) (iblk m c 3 u) y)
    ∧ ((z 1).val = 256 * (u.val % 11) + 2816 + (y 1).val → X z = k0_pay6 (iblk m c 0 u) (iblk m c 1 u) (iblk m c 2 u) y)

/-- The proof data of the pipeline, the output block's contents left to `Written`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Only the output window is held to a predicate. -/
def held (w : Fin cfg0.W) : Bool := match w with
  | ⟨4, _⟩ => true
  | _ => false

/-- The predicate: `Written`, for the output window. -/
def Rl (c : Dev nD) (w : Fin cfg0.W) (t : Fin cfg0.N) : ((cfg0.win w).block.Idx → Elt F (cfg0.win w).elt) → Prop := match w with
  | ⟨4, _⟩ => fun X => Written m c t X
  | _ => fun _ => True

/-- The relational proof data. -/
abbrev rdat (c : Dev nD) := (dats m 0 c).toRRel held (Rl m c)

theorem leaves4 (c : Dev nD) (t : Fin cfg0.N) {X} (h : (rdat m c).Leaves 4 t X) : Written m c t X :=
  (dats m 0 c).toRRel_leaves (fgt := held) (Rl := Rl m c) (w := 4) rfl h

/-- What the body finds in the output block: what the points before it in the row block left. -/
theorem finds4 (c : Dev nD) (t : Fin cfg0.N) {Y} (h : (rdat m c).Finds 4 t Y) (h0 : t.val % 11 ≠ 0) :
    Written m c ⟨t.val - 1, by omega⟩ Y := by
  have hne : t.val ≠ 0 := by omega
  have h' := (((rdat m c).finds_of_pos (w := 4) (t := t) rfl hne Y).mp h)
  rcases h' with h' | h'
  · exfalso
    have := (flush0_4 _).mp h'
    have h2 : (t.val - 1) % 11 = 10 := this
    omega
  · exact leaves4 m c _ h'

theorem col_eq : ∀ t : Fin cfg0.N, (grid0.coords t 1).val = t.val % 11 :=
  (by decide +kernel : ∀ t : Fin grid0.N, (grid0.coords t 1).val = t.val % 11)

/-- One point more: the body adds its two column blocks and keeps the others. -/
theorem written_step (c : Dev nD) (t : Fin cfg0.N) (x4 : Vec F S1024x5632 .bf16)
    (m2 : Memref sig .tc .vmem S1024x1024 .bf16) (hm2 : m2.IsWhole)
    (m3 : Memref sig .tc .vmem S256x1024 .bf16) (hm3 : m3.IsWhole)
    (m4 : Memref sig .tc .vmem S1024x256 .bf16) (hm4 : m4.IsWhole)
    (m5 : Memref sig .tc .vmem S1024x256 .bf16) (hm5 : m5.IsWhole)
    (m6 : Memref sig .tc .vmem S1024x5632 .bf16) (hm6 : m6.IsWhole)
    (hx : t.val % 11 ≠ 0 → Written m c ⟨t.val - 1, by omega⟩ x4) :
    Written m c t (m6.view.read (Elt F) (m6.view.writes (Elt F) (hm6.unread x4)
      (bodyRun c (grid0.coords t) m2 hm2 m3 hm3 m4 hm4 m5 hm5 m6 hm6
        (iblk m c 0 t) (iblk m c 1 t) (iblk m c 2 t) (iblk m c 3 t) x4).1)) := by
  intro u hu hle y z hz
  have hc := col_eq t
  have hy : (y 1).val < 256 := (y 1).isLt
  by_cases hut : u.val = t.val
  · obtain rfl : u = t := Fin.ext hut
    refine ⟨fun h1 => ?_, fun h1 => ?_⟩
    · exact body_gate c _ _ _ _ _ _ _ _ _ _ _ _ _ _ _ _ y z hz (by rw [hc]; exact h1) (by rw [hc]; omega)
    · exact body_up c _ _ _ _ _ _ _ _ _ _ _ _ _ _ _ _ y z hz (by rw [hc]; exact h1)
  · have hprev := hx (by omega) u (by show u.val / 11 = (t.val - 1) / 11; omega) (by show u.val ≤ t.val - 1; omega) y z hz
    refine ⟨fun h1 => ?_, fun h1 => ?_⟩
    · rw [body_rest c _ _ _ _ _ _ _ _ _ _ _ _ _ _ _ _ z (by rw [hc]; omega) (by rw [hc]; omega)]
      exact hprev.1 h1
    · rw [body_rest c _ _ _ _ _ _ _ _ _ _ _ _ _ _ _ _ z (by rw [hc]; omega) (by rw [hc]; omega)]
      exact hprev.2 h1

set_option maxHeartbeats 1000000 in
/-- The body at any point: the inputs hold their blocks, the output block what the points before it left. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ Y, ⌜(rdat m c).Finds 4 t Y⌝ ∗ owns (c : Thread nD τ) (st0_4 t) fullShare Y))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ (∃ X, ⌜Written m c t X⌝ ∗ owns (c : Thread nD τ) (st0_4 t) fullShare X))) := by
  unfold bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%Y, %hY, H4⟩⟩
  iapply ((bodyRun c (grid0.coords t) _ _ _ _ _ _ _ _ _ _ (iblk m c 0 t) (iblk m c 1 t) (iblk m c 2 t) (iblk m c 3 t) Y).2 Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexists _; isplitr
  swap
  · unfold owns; iexists _; isplitr
    swap; · iexact H4
    ipureintro; rfl
  ipureintro
  exact written_step m c t Y _ _ _ _ _ _ _ _ _ _ (finds4 m c t hY)

/-- The library's body obligation at every point. -/
theorem body_obligation (c : Dev nD) :
    Pipeline.BodyObligationRel (dats (F := F) m 0 c) (defs₀ (F := F)) Variants.none () Set.univ held (Rl m c) := fun t => by
  rw [bigSep_W0, bigSep_W0]
  rw [show defs₀ (F := F) .tc cfg0.body (cfg0.bodyArgs t (cfg0.slots t)) = bodyAt0 t from by
    unfold defs₀; rw [Defs.onTc_tc]]
  exact sound_body m c t

set_option backward.isDefEq.respectTransparency.types false in
/-- The run: the output array is in the proof data's relation, everything else as launched, every counter at zero. -/
theorem run_main_quiescent : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c)⟩, h.2⟩)
    (run_main_quiescent m ρ)

end Cert.SwiIdeal.Val

end
-- ==== Proof.Swi.lean ====
/-
  The gradient of the gated unit `silu g · u`, fused with the product by the transpose of the output weight.
-/
module

public import proofs.«01_k».proof.Defs
public import proofs.«01_k».proof.Proof.SwiRun
public import proofs.«01_k».proof.Proof.Silu
public import proofs.«01_k».proof.Proof.Gen.SwiRefIdeal.Run
public import proofs.«01_k».proof.Proof.Gen.SwiRefIdeal.Read

@[expose] public section

set_option maxRecDepth 16384
noncomputable section

open Idealize.ShloMosaic Idealize.ShloMosaic.TcCoe Idealize.SL.Sem
open Idealize.ShloMosaic.Pipeline (Dat)
open Cert.Common Cert.Silu

namespace Cert.SwiIdeal.Val

open Cert.SwiIdeal Cert.SwiIdeal.Gen

/-! ## A point's two blocks -/

section pay
variable (d : Vec Ideal S1024x1024 .bf16) (w : Vec Ideal S256x1024 .bf16) (g u : Vec Ideal S1024x256 .bf16)

/-- The activation's gradient: `d` times the transpose of `w`. -/
def act {R K L : ℕ} (d : Fin R → Fin K → EReal) (w : Fin L → Fin K → EReal) (r : Fin R) (l : Fin L) : EReal := ∑ k, d r k * w l k

theorem gate_at (r : Fin 1024) (l : Fin 256) : k0_pay5 (F := Ideal) d w g u (ix2 r l)
    = (act (fun r k => d (ix2 r k)) (fun l k => w (ix2 l k)) r l * u (ix2 r l) * dsilu (g (ix2 r l)) : EReal) := by
  pointwise [k0_pay5, k0_pay1, k0_pay2, k0_pay3, k0_pay4]
  rfl
theorem up_at (r : Fin 1024) (l : Fin 256) : k0_pay6 (F := Ideal) d w g (ix2 r l)
    = (act (fun r k => d (ix2 r k)) (fun l k => w (ix2 l k)) r l * silu (g (ix2 r l)) : EReal) := by
  pointwise [k0_pay6, k0_pay1, k0_pay2, k0_pay3, k0_pay4]
  rfl
end pay

/-! ## The blocks of the arguments -/

variable (m : (ℓ : Loc nD τ sig) → Buf (Elt Ideal) ℓ) (ρ : Dev nD → PrngReg)

abbrev gu (c : Dev nD) : S4096x5632.Idx → EReal := m ((c.tc : Thread nD τ).loc main_arg0)
abbrev wo (c : Dev nD) : S2816x1024.Idx → EReal := m ((c.tc : Thread nD τ).loc main_arg1)
abbrev dh (c : Dev nD) : S4096x1024.Idx → EReal := m ((c.tc : Thread nD τ).loc main_arg2)

/-- A column of the gate's half and of the other. -/
def lo (l : Fin 2816) : Fin 5632 := ⟨l.val, by omega⟩
def hi (l : Fin 2816) : Fin 5632 := ⟨2816 + l.val, by omega⟩

/-- The derivatives of the two halves, entry by entry. -/
def gate (x0 : S4096x5632.Idx → EReal) (x1 : S2816x1024.Idx → EReal) (x2 : S4096x1024.Idx → EReal) (r : Fin 4096) (l : Fin 2816) : EReal :=
  act (fun r k => x2 (ix2 r k)) (fun l k => x1 (ix2 l k)) r l * x0 (ix2 r (hi l)) * dsilu (x0 (ix2 r (lo l)))
def up (x0 : S4096x5632.Idx → EReal) (x1 : S2816x1024.Idx → EReal) (x2 : S4096x1024.Idx → EReal) (r : Fin 4096) (l : Fin 2816) : EReal :=
  act (fun r k => x2 (ix2 r k)) (fun l k => x1 (ix2 l k)) r l * silu (x0 (ix2 r (lo l)))
/-- The whole array: the gate's derivative beside the other's. -/
def both (x0 : S4096x5632.Idx → EReal) (x1 : S2816x1024.Idx → EReal) (x2 : S4096x1024.Idx → EReal) (r : Fin 4096) (l : Fin 5632) : EReal :=
  if h : l.val < 2816 then gate x0 x1 x2 r ⟨l.val, h⟩ else up x0 x1 x2 r ⟨l.val - 2816, by omega⟩

def arr4 (c : Dev nD) : Vec Ideal S4096x5632 .bf16 := fun i => both (gu m c) (wo m c) (dh m c) (i 0) (i 1)

theorem V_d_at (c : Dev nD) (r : Fin 4096) (k : Fin 1024) : V (F := Ideal) m c main_v4 (ix2 r k : S4096x1024.Idx) = dh m c (ix2 r k) := by
  have e : V m c main_v4 = (truncf (F := Ideal) .bf16 (dh m c) bitsLt_bf16_f32 : Vec Ideal S4096x1024 .bf16) := by
    simp only [V, hostOps0]
    after_results
    try rfl
  rw [e]
  pointwise []
theorem V_w_at (c : Dev nD) (r : Fin 2816) (k : Fin 1024) : V (F := Ideal) m c main_v5 (ix2 r k : S2816x1024.Idx) = wo m c (ix2 r k) := by
  have e : V m c main_v5 = (truncf (F := Ideal) .bf16 (wo m c) bitsLt_bf16_f32 : Vec Ideal S2816x1024 .bf16) := by
    simp only [V, hostOps0]
    after_results
    try rfl
  rw [e]
  pointwise []
theorem V_g_at (c : Dev nD) (r : Fin 4096) (l : Fin 2816) : V (F := Ideal) m c main_v1 (ix2 r l : S4096x2816.Idx) = gu m c (ix2 r (lo l)) := by
  have e : V m c main_v1 = (truncf (F := Ideal) .bf16 (extractStridedSlice S4096x2816 ![0, 0] (gu m c : FVec Ideal S4096x5632 .f32) (by decide) : FVec Ideal S4096x2816 .f32) bitsLt_bf16_f32 : Vec Ideal S4096x2816 .bf16) := by
    simp only [V, hostOps0]
    after_results
    try rfl
  rw [e]
  pointwise []
  rfl
theorem V_u_at (c : Dev nD) (r : Fin 4096) (l : Fin 2816) : V (F := Ideal) m c main_v3 (ix2 r l : S4096x2816.Idx) = gu m c (ix2 r (hi l)) := by
  have e : V m c main_v3 = (truncf (F := Ideal) .bf16 (extractStridedSlice S4096x2816 ![0, 2816] (gu m c : FVec Ideal S4096x5632 .f32) (by decide) : FVec Ideal S4096x2816 .f32) bitsLt_bf16_f32 : Vec Ideal S4096x2816 .bf16) := by
    simp only [V, hostOps0]
    after_results
    try rfl
  rw [e]
  pointwise []
  rfl

/-- Row `r` of the row block of point `t`, and column `l` of its column block. -/
def row (t : Fin cfg0.N) (r : Fin 1024) : Fin 4096 := ⟨1024 * (t.val / 11) + r.val, by have h : t.val < 44 := N_0 ▸ t.isLt; omega⟩
def col (t : Fin cfg0.N) (l : Fin 256) : Fin 2816 := ⟨256 * (t.val % 11) + l.val, by omega⟩

theorem index_in : ∀ t : Fin grid0.N, (win0_0.index t 0 = t.val / 11 ∧ win0_0.index t 1 = 0) ∧ (win0_1.index t 0 = t.val % 11 ∧ win0_1.index t 1 = 0)
    ∧ (win0_2.index t 0 = t.val / 11 ∧ win0_2.index t 1 = t.val % 11) ∧ (win0_3.index t 0 = t.val / 11 ∧ win0_3.index t 1 = t.val % 11)
    ∧ win0_4.index t 0 = t.val / 11 ∧ win0_4.index t 1 = 0 := by decide +kernel

theorem iblk0 (c : Dev nD) (t : Fin cfg0.N) (r : Fin 1024) (k : Fin 1024) : iblk m c 0 t (ix2 r k) = dh m c (ix2 (row t r) k) := by
  unfold iblk
  rw [View.read_apply]
  refine Eq.trans (congrArg (V m c main_v4) (idx2 (j := ix2 (row t r) k) ?_ ?_)) (V_d_at m c _ _)
  · show win0_0.index t 0 * 1024 + 1 * r.val = 1024 * (t.val / 11) + r.val; rw [(index_in t).1.1]; omega
  · show win0_0.index t 1 * 1024 + 1 * k.val = k.val; rw [(index_in t).1.2]; omega
theorem iblk1 (c : Dev nD) (t : Fin cfg0.N) (l : Fin 256) (k : Fin 1024) : iblk m c 1 t (ix2 l k) = wo m c (ix2 (col t l) k) := by
  unfold iblk
  rw [View.read_apply]
  refine Eq.trans (congrArg (V m c main_v5) (idx2 (j := ix2 (col t l) k) ?_ ?_)) (V_w_at m c _ _)
  · show win0_1.index t 0 * 256 + 1 * l.val = 256 * (t.val % 11) + l.val; rw [(index_in t).2.1.1]; omega
  · show win0_1.index t 1 * 1024 + 1 * k.val = k.val; rw [(index_in t).2.1.2]; omega
theorem iblk2 (c : Dev nD) (t : Fin cfg0.N) (r : Fin 1024) (l : Fin 256) : iblk m c 2 t (ix2 r l) = gu m c (ix2 (row t r) (lo (col t l))) := by
  unfold iblk
  rw [View.read_apply]
  refine Eq.trans (congrArg (V m c main_v1) (idx2 (j := ix2 (row t r) (col t l)) ?_ ?_)) (V_g_at m c _ _)
  · show win0_2.index t 0 * 1024 + 1 * r.val = 1024 * (t.val / 11) + r.val; rw [(index_in t).2.2.1.1]; omega
  · show win0_2.index t 1 * 256 + 1 * l.val = 256 * (t.val % 11) + l.val; rw [(index_in t).2.2.1.2]; omega
theorem iblk3 (c : Dev nD) (t : Fin cfg0.N) (r : Fin 1024) (l : Fin 256) : iblk m c 3 t (ix2 r l) = gu m c (ix2 (row t r) (hi (col t l))) := by
  unfold iblk
  rw [View.read_apply]
  refine Eq.trans (congrArg (V m c main_v3) (idx2 (j := ix2 (row t r) (col t l)) ?_ ?_)) (V_u_at m c _ _)
  · show win0_3.index t 0 * 1024 + 1 * r.val = 1024 * (t.val / 11) + r.val; rw [(index_in t).2.2.2.1.1]; omega
  · show win0_3.index t 1 * 256 + 1 * l.val = 256 * (t.val % 11) + l.val; rw [(index_in t).2.2.2.1.2]; omega

/-- A point's blocks are the entries of the two derivatives at its rows and columns. -/
theorem block_gate (c : Dev nD) (t : Fin cfg0.N) (r : Fin 1024) (l : Fin 256) :
    k0_pay5 (F := Ideal) (iblk m c 0 t) (iblk m c 1 t) (iblk m c 2 t) (iblk m c 3 t) (ix2 r l)
      = gate (gu m c) (wo m c) (dh m c) (row t r) (col t l) := by
  rw [gate_at]
  unfold gate act
  simp only [iblk0, iblk1, iblk2, iblk3]
theorem block_up (c : Dev nD) (t : Fin cfg0.N) (r : Fin 1024) (l : Fin 256) :
    k0_pay6 (F := Ideal) (iblk m c 0 t) (iblk m c 1 t) (iblk m c 2 t) (ix2 r l)
      = up (gu m c) (wo m c) (dh m c) (row t r) (col t l) := by
  rw [up_at]
  unfold up act
  simp only [iblk0, iblk1, iblk2]

/-! ## What the array holds at the end -/

/-- After the last point of a row block, the output block holds the row block of the whole array. -/
theorem written_all (c : Dev nD) (t : Fin cfg0.N) (ht : t.val % 11 = 10) (X : S1024x5632.Idx → Elt Ideal .bf16) (h : Written m c t X)
    (r : Fin 1024) (l : Fin 5632) : X (ix2 r l) = both (gu m c) (wo m c) (dh m c) (row t r) l := by
  have htN : t.val < 44 := N_0 ▸ t.isLt
  unfold both
  split
  · rename_i hl
    have hu : 11 * (t.val / 11) + l.val / 256 < cfg0.N := by show _ < grid0.N; rw [N_0]; omega
    have e := (h ⟨_, hu⟩ (by show (11 * (t.val / 11) + l.val / 256) / 11 = t.val / 11; omega) (by show 11 * (t.val / 11) + l.val / 256 ≤ t.val; omega)
      (ix2 r ⟨l.val % 256, by omega⟩) (ix2 r l) rfl).1
      (by show l.val = 256 * ((11 * (t.val / 11) + l.val / 256) % 11) + l.val % 256; omega)
    rw [e, block_gate]
    congr 1
    · exact Fin.ext (by show 1024 * ((11 * (t.val / 11) + l.val / 256) / 11) + r.val = 1024 * (t.val / 11) + r.val; omega)
    · exact Fin.ext (by show 256 * ((11 * (t.val / 11) + l.val / 256) % 11) + l.val % 256 = l.val; omega)
  · rename_i hl
    have hl5 : l.val < 5632 := l.isLt
    have hu : 11 * (t.val / 11) + (l.val - 2816) / 256 < cfg0.N := by show _ < grid0.N; rw [N_0]; omega
    have e := (h ⟨_, hu⟩ (by show (11 * (t.val / 11) + (l.val - 2816) / 256) / 11 = t.val / 11; omega)
      (by show 11 * (t.val / 11) + (l.val - 2816) / 256 ≤ t.val; omega)
      (ix2 r ⟨(l.val - 2816) % 256, by omega⟩) (ix2 r l) rfl).2
      (by show l.val = 256 * ((11 * (t.val / 11) + (l.val - 2816) / 256) % 11) + 2816 + (l.val - 2816) % 256; omega)
    rw [e, block_up]
    congr 1
    · exact Fin.ext (by show 1024 * ((11 * (t.val / 11) + (l.val - 2816) / 256) / 11) + r.val = 1024 * (t.val / 11) + r.val; omega)
    · exact Fin.ext (by show 256 * ((11 * (t.val / 11) + (l.val - 2816) / 256) % 11) + (l.val - 2816) % 256 = l.val - 2816; omega)

theorem emb4 (t : Fin cfg0.N) (j : S1024x5632.Idx) : ((cfg0.win 4).blk t).view.emb j = (ix2 (row t (j 0)) (j 1) : S4096x5632.Idx) :=
  idx2 (by show win0_4.index t 0 * 1024 + 1 * (j 0).val = 1024 * (t.val / 11) + (j 0).val; rw [(index_in t).2.2.2.2.1]; omega)
    (by show win0_4.index t 1 * 5632 + 1 * (j 1).val = (j 1).val; rw [(index_in t).2.2.2.2.2]; omega)

/-- Exact data whose output block is, at the last point of each row block, as `Written` says, end with the whole array. -/
theorem final4 (c : Dev nD) (after : (w : Fin cfg0.W) → Fin cfg0.N → (cfg0.win w).block.Idx → Elt Ideal (cfg0.win w).elt)
    (ha : ∀ t : Fin cfg0.N, (cfg0.win 4).flush t = true → Written m c t (after 4 t)) :
    ((rdat m c).withAfter after).arrAt 4 cfg0.N = arr4 m c := by
  refine ((rdat m c).withAfter after).arrAt_eq_of_cover 4 (arr4 m c) (fun t ht => ?_) fun i => ?_
  · funext j
    rw [View.read_apply, emb4]
    show after 4 t j = both (gu m c) (wo m c) (dh m c) (row t (j 0)) (j 1)
    exact (congrArg _ (eq_ix2 j)).trans
      (written_all m c t ((flush0_4 t).mp ht) _ (ha t ht) (j 0) (j 1))
  · have h0 : (i 0).val < 4096 := (i 0).isLt
    have hN : 11 * ((i 0).val / 1024) + 10 < cfg0.N := by show _ < grid0.N; rw [N_0]; omega
    refine ⟨⟨_, hN⟩, (flush0_4 _).mpr (by show (11 * ((i 0).val / 1024) + 10) % 11 = 10; omega), ?_⟩
    have e := (emb4 ⟨11 * ((i 0).val / 1024) + 10, hN⟩ (ix2 ⟨(i 0).val % 1024, by omega⟩ (i 1) : S1024x5632.Idx)).trans
      (idx2 (j := i) (by show 1024 * ((11 * ((i 0).val / 1024) + 10) / 11) + (i 0).val % 1024 = (i 0).val; omega) rfl)
    exact Set.mem_of_eq_of_mem e.symm (View.emb_mem_set _ _)

/-- The run with its result. -/
theorem run_result : θ_run defs (onTc (τ := τ) (main (F := Ideal))) ⟨m, fun _ => 0, ρ⟩ (fun r => ∀ c : Dev nD,
      r.2.mem ((c.tc : Thread nD τ).loc main_v6) = arr4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
      obtain ⟨after, hl, hA⟩ := h.1.exists_exact c
      exact ⟨(hA 4).trans (final4 m c after fun t ht => leaves4 m c t (hl 4 t ht)),
       ((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c)⟩)
    (run_main_quiescent m ρ)

end Cert.SwiIdeal.Val

/-! ## The reference -/

namespace Cert.SwiRefIdeal.Val

open Cert.SwiRefIdeal Cert.SwiRefIdeal.Read

section read
variable (x0 : S4096x5632.Idx → EReal) (x1 : S2816x1024.Idx → EReal) (x2 : S4096x1024.Idx → EReal)
variable (f0 : S4096x5632.Idx → ℝ) (f1 : S2816x1024.Idx → ℝ) (f2 : S4096x1024.Idx → ℝ)

theorem v12_at (h0 : x0 = fun i => (f0 i : EReal)) (h1 : x1 = fun i => (f1 i : EReal)) (h2 : x2 = fun i => (f2 i : EReal))
    (r : Fin 4096) (l : Fin 5632) : val_main_v12 (F := Ideal) x0 x1 x2 (ix2 r l) = Cert.SwiIdeal.Val.both x0 x1 x2 r l := by
  pointwise [val_main_v0, val_main_call0_v0, val_main_call0_v1, val_main_call0_cst, val_main_call0_v2, val_main_call0_v3, val_main_call0_cst_0, val_main_call0_v4, val_main_v1_2, val_main_call0_cst_1, val_main_call0_v6, val_main_call0_v7, val_main_v1_1, val_main_v1_0, val_main_v2, val_main_v5, val_main_v6, val_main_v7, val_main_cst, val_main_v8, val_main_call1_v0, val_main_call1_v1, val_main_call1_v2, val_main_v9, val_main_cst_0, val_main_v10, val_main_v11, val_main_v12]
  unfold Cert.SwiIdeal.Val.both
  by_cases hl : l.val < 2816
  · rw [dif_neg (by omega), dif_pos hl, dif_pos hl, zero_add]
    obtain ⟨a, ha⟩ : ∃ a : ℝ, (∑ k : Fin 1024, x2 (ix2 r k) * x1 (ix2 ⟨l.val, hl⟩ k)) * x0 (ix2 r ⟨2816 + l.val, by omega⟩) = (a : EReal) := by
      refine ⟨(∑ k : Fin 1024, f2 (ix2 r k) * f1 (ix2 ⟨l.val, hl⟩ k)) * f0 (ix2 r ⟨2816 + l.val, by omega⟩), ?_⟩
      rw [h0, h1, h2, EReal.coe_mul, coe_sum]
      simp only [EReal.coe_mul]
    refine Eq.trans ?_ ((chain a (x0 (ix2 r l))).trans ?_)
    · rw [ha]
      rfl
    · rw [← ha]
      rfl
  · have hl5 : l.val < 5632 := l.isLt
    rw [dif_pos ⟨by omega, by omega⟩, dif_neg hl, dif_neg hl, add_zero, mul_comm]
    rfl
end read
end Cert.SwiRefIdeal.Val

namespace Cert.Proof.Swi

open Cert.SwiIdeal Cert.SwiIdeal.Gen Cert.SwiIdeal.Val Cert.SwiRefIdeal.Val

/-- Finite arguments are real ones. -/
theorem reals [Cert.Pre_finite_swi.Facts] (m : (ℓ : Loc nD τ sig) → Buf (Elt Ideal) ℓ) (h : Cert.Pre_SwiIdeal_finite_swi m)
    (c : Dev nD) : (∃ f : S4096x5632.Idx → ℝ, gu m c = fun i => (f i : EReal)) ∧ (∃ f : S2816x1024.Idx → ℝ, wo m c = fun i => (f i : EReal))
      ∧ ∃ f : S4096x1024.Idx → ℝ, dh m c = fun i => (f i : EReal) := by
  obtain ⟨h0, h1, h2⟩ := h c
  exact ⟨reals_of_lt _ _ _ h0, reals_of_lt _ _ _ h1, reals_of_lt _ _ _ h2⟩

/-- The reference writes no argument and awaits nothing. -/
theorem frame_ref : Cert.quiescent_SwiRefIdeal := fun m ρ _ =>
  (θ_run Cert.SwiRefIdeal.defs _ _).mono (fun r h => ⟨fun c => (h c).2,
      Idealize.ShloMosaic.sem_eq_zero_of_no_sems (by decide) r.2⟩)
    (Cert.SwiRefIdeal.Value.run (F := Ideal) m ρ)

/-- Both programs end with the gradient of the gated unit's input. -/
theorem algebraic [Cert.Pre_finite_swi.Facts] : Cert.algebraic_SwiIdeal_SwiRefIdeal_pre_finite_swi := by
  intro m ρ m' ρ' hpre hagree
  refine ⟨arr4 m, run_result m ρ, ?_⟩
  refine (θ_run Cert.SwiRefIdeal.defs _ _).mono (fun r h c => ?_) (Cert.SwiRefIdeal.Value.run (F := Ideal) m' ρ')
  obtain ⟨h12, ha⟩ := h c
  obtain ⟨e0, e1, e2⟩ := hagree c
  obtain ⟨⟨f0, h0⟩, ⟨f1, h1⟩, ⟨f2, h2⟩⟩ := reals m hpre c
  refine ⟨(h12.trans (Cert.SwiRefIdeal.Read.val_main_v12_eq _ _ _)).trans ?_, ha⟩
  rw [e0, e1, e2]
  funext i
  exact (congrArg _ (eq_ix2 i)).trans (v12_at _ _ _ f0 f1 f2 h0 h1 h2 (i 0) (i 1))

end Cert.Proof.Swi

end
-- ==== Proof.NormDx.lean ====
/-
  The gradient of a norm whose output feeds a product: the product's gradient to its left factor, the norm's own gradient, and
  the gradient that passes the norm by.
-/
module

public import proofs.«01_k».proof.Proof.Rms

@[expose] public section

noncomputable section

open Idealize.ShloMosaic Cert.Common Cert.Rms

namespace Cert.NormDx

abbrev eps : EReal := Ideal.ofBits .f32 0x358637BD#32
abbrev wide : EReal := Ideal.ofBits .f32 0x44800000#32

/-- Row `r` of a matrix. -/
def mrow {n k : ℕ} (x : (⟨2, ![n, k]⟩ : Shape).Idx → EReal) (r : Fin n) (l : Fin k) : EReal := x (ix2 r l)
/-- One element of the product by a transposed matrix. -/
def prod {n k p : ℕ} (a : (⟨2, ![n, k]⟩ : Shape).Idx → EReal) (b : (⟨2, ![p, k]⟩ : Shape).Idx → EReal) (r : Fin n) (l : Fin p) : EReal :=
  ∑ j : Fin k, a (ix2 r j) * b (ix2 l j)
/-- One element of the product of two matrices. -/
def prodn {n k p : ℕ} (a : (⟨2, ![n, k]⟩ : Shape).Idx → EReal) (b : (⟨2, ![k, p]⟩ : Shape).Idx → EReal) (r : Fin n) (l : Fin p) : EReal :=
  ∑ j : Fin k, a (ix2 r j) * b (ix2 j l)
/-- One element of the gradient to the norm's input: the norm's own and the one that passes it by. -/
def ndx {n : ℕ} (x : (⟨2, ![n, 1024]⟩ : Shape).Idx → EReal) (g : Fin 1024 → EReal) (y : Fin n → Fin 1024 → EReal)
    (d : (⟨2, ![n, 1024]⟩ : Shape).Idx → EReal) (r : Fin n) (l : Fin 1024) : EReal :=
  d (ix2 r l) + kdx eps wide (mrow x r) (fun j => y r j * g j) l
/-- The gradient to the norm's weight. -/
def ndw {n : ℕ} (x : (⟨2, ![n, 1024]⟩ : Shape).Idx → EReal) (y : Fin n → Fin 1024 → EReal) (l : Fin 1024) : EReal :=
  ∑ r : Fin n, y r l * x (ix2 r l) * rinv eps wide (mrow x r)

end Cert.NormDx
-- ==== Proof.PleDx.lean ====
/-
  The gradient of the norm before the embedding's gate, fused with the product of the gate's gradient by the transpose of the
  gate's weight.
-/
module

public import proofs.«01_k».proof.Defs
public import proofs.«01_k».proof.Proof.NormDx
public import proofs.«01_k».proof.Proof.Gen.PleDxIdeal.Value
public import proofs.«01_k».proof.Proof.Gen.PleDxRefIdeal.Run
public import proofs.«01_k».proof.Proof.Gen.PleDxRefIdeal.Read

@[expose] public section

set_option maxRecDepth 16384
noncomputable section

open Idealize.ShloMosaic Idealize.ShloMosaic.TcCoe Idealize.SL.Sem
open Idealize.ShloMosaic.Pipeline (Dat)
open Cert.Common Cert.Rms Cert.NormDx

namespace Cert.PleDxIdeal.Val

open Cert.PleDxIdeal Cert.PleDxIdeal.Gen Cert.PleDxIdeal.Value

section pay
variable (a b : Vec Ideal S1024x1024 .bf16) (x d : Vec Ideal S1024x1024 .f32) (g : Vec Ideal S1x1024 .f32)

theorem prod_at (r l : Fin 1024) : k0_pay3 (F := Ideal) (k0_pay1 (F := Ideal)) a b (ix2 r l) = prod a b r l := by
  pointwise [k0_pay3, k0_pay1]
  rfl
theorem dx_at (y : Vec Ideal S1024x1024 .f32) (r l : Fin 1024) :
    k0_pay6 (F := Ideal) y x g d (ix2 r l) = ndx x (fun j => g (ix2 0 j)) (fun r l => y (ix2 r l)) d r l := by
  unfold ndx kdx
  pointwise [k0_pay6, k0_pay5]
  rw [sub_eq_add_neg, add_assoc]
  rfl
theorem dxc_at (y : Vec Ideal S1024x1024 .f32) (r l : Fin 1024) :
    k0_pay7 (F := Ideal) y x g d (ix2 r l) = ndx x (fun j => g (ix2 0 j)) (fun r l => y (ix2 r l)) d r l := by
  refine Eq.trans ?_ (dx_at x d g y r l)
  pointwise [k0_pay7]
theorem dw_at (p : Vec Ideal S1x1024 .f32) (y : Vec Ideal S1024x1024 .f32) (l : Fin 1024) :
    k0_pay4 (F := Ideal) (k0_pay8 p) (k0_pay9 y x) (ix2 0 l) = (p (ix2 0 l) + ndw x (fun r l => y (ix2 r l)) l : EReal) := by
  pointwise [k0_pay4, k0_pay8, k0_pay9, k0_pay5]
  rfl
end pay

section body
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .f32) (h8 : a8.IsWhole) (a9 : Memref sig .tc .vmem S1024x1024 .bf16) (h9 : a9.IsWhole)
  (a10 : Memref sig .tc .vmem S1x1024 .f32) (h10 : a10.IsWhole) (a11 : Memref sig .tc .vmem S1024x1024 .f32) (h11 : a11.IsWhole)
  (hc0 : cond0_0 i) (hc2 : cond0_2 i) (a b : Vec Ideal S1024x1024 .bf16) (x : Vec Ideal S1024x1024 .f32) (g : Vec Ideal S1x1024 .f32)
  (d : Vec Ideal S1024x1024 .f32)

set_option maxHeartbeats 1000000 in
theorem out_A (hc1 : cond0_1 i) :
    (∀ r l, out0_A_5 c i a3 h3 a4 h4 a5 h5 a6 h6 a7 h7 a8 h8 a9 h9 a10 h10 a11 h11 hc0 hc1 hc2 a b x g d (ix2 r l) = ndx x (fun j => g (ix2 0 j)) (prod a b) d r l)
      ∧ (∀ r l, out0_A_6 c i a3 h3 a4 h4 a5 h5 a6 h6 a7 h7 a8 h8 a9 h9 a10 h10 a11 h11 hc0 hc1 hc2 a b x g d (ix2 r l) = ndx x (fun j => g (ix2 0 j)) (prod a b) d r l)
      ∧ ∀ l, out0_A_7 c i a3 h3 a4 h4 a5 h5 a6 h6 a7 h7 a8 h8 a9 h9 a10 h10 a11 h11 hc0 hc1 hc2 a b x g d (ix2 0 l) = ndw x (prod a b) l := by
  unfold out0_A_5 out0_A_6 out0_A_7
  rw [View.read_writes_eq_canon _ _ _ (fun _ => cover0_A_5 ..), View.read_writes_eq_canon _ _ _ (fun _ => cover0_A_6 ..),
    View.read_writes_eq_canon _ _ _ (fun _ => cover0_A_7 ..)]
  unfold kernelRun0_A
  dsimp only
  sl_unfold_words
  rw [View.canon_unit_zero hz2, View.canon_unit_zero hz2, View.canon_cons_unit_zero hz2]
  simp only [View.readAt_eq_ld, h3.read_unread, h4.read_unread, h5.read_unread, h6.read_unread, h7.read_unread, h10.read_unread,
    ld_all, View.readCov_cons_toLoadRect, cov_all]
  refine ⟨fun r l => (dx_at x d g _ r l).trans (by simp only [prod_at]), fun r l => (dxc_at x d g _ r l).trans (by simp only [prod_at]),
    fun l => (dw_at x _ _ l).trans ((congrArg₂ (· + ·) (?_ : _ = (0 : EReal)) (by simp only [prod_at])).trans (zero_add _))⟩
  pointwise [k0_pay2]
set_option maxHeartbeats 1000000 in
theorem out_B (hc1 : ¬cond0_1 i) (p : Vec Ideal S1x1024 .f32) :
    (∀ r l, out0_B_5 c i a3 h3 a4 h4 a5 h5 a6 h6 a7 h7 a8 h8 a9 h9 a10 h10 a11 h11 hc0 hc1 hc2 a b x g d p (ix2 r l) = ndx x (fun j => g (ix2 0 j)) (prod a b) d r l)
      ∧ (∀ r l, out0_B_6 c i a3 h3 a4 h4 a5 h5 a6 h6 a7 h7 a8 h8 a9 h9 a10 h10 a11 h11 hc0 hc1 hc2 a b x g d p (ix2 r l) = ndx x (fun j => g (ix2 0 j)) (prod a b) d r l)
      ∧ ∀ l, out0_B_7 c i a3 h3 a4 h4 a5 h5 a6 h6 a7 h7 a8 h8 a9 h9 a10 h10 a11 h11 hc0 hc1 hc2 a b x g d p (ix2 0 l) = (p (ix2 0 l) + ndw x (prod a b) l : EReal) := by
  unfold out0_B_5 out0_B_6 out0_B_7
  rw [View.read_writes_eq_canon _ _ _ (fun _ => cover0_B_5 ..), View.read_writes_eq_canon _ _ _ (fun _ => cover0_B_6 ..),
    View.read_writes_eq_canon _ _ _ (fun _ => cover0_B_7 ..)]
  unfold kernelRun0_B
  dsimp only
  sl_unfold_words
  rw [View.canon_unit_zero hz2, View.canon_unit_zero hz2, View.canon_unit_zero hz2]
  simp only [View.readAt_eq_ld, h3.read_unread, h4.read_unread, h5.read_unread, h6.read_unread, h7.read_unread, h10.read_unread,
    ld_all, View.readCov_cons_toLoadRect, cov_all]
  exact ⟨fun r l => (dx_at x d g _ r l).trans (by simp only [prod_at]), fun r l => (dxc_at x d g _ r l).trans (by simp only [prod_at]),
    fun l => (dw_at x _ _ l).trans (by simp only [prod_at])⟩
end body

/-! ## The blocks and the arrays -/

variable (m : (ℓ : Loc nD τ sig) → Buf (Elt Ideal) ℓ) (c : Dev nD) (t : Fin cfg0.N)

/-- The hidden state, the norm's weight, the gate's weight, the gate's gradient and the gradient that passes the norm by. -/
abbrev hx : S4096x1024.Idx → EReal := m ((c : Thread nD τ).loc main_arg0)
abbrev hg : S1024.Idx → EReal := m ((c : Thread nD τ).loc main_arg1)
abbrev hw : S1024x1024.Idx → EReal := m ((c : Thread nD τ).loc main_arg2)
abbrev hy : S4096x1024.Idx → EReal := m ((c : Thread nD τ).loc main_arg3)
abbrev hd : S4096x1024.Idx → EReal := m ((c : Thread nD τ).loc main_arg4)

/-- The results' elements. -/
def dx (r : Fin 4096) (l : Fin 1024) : EReal := ndx (hx m c) (fun j => hg m c (ix1 j)) (prod (hy m c) (hw m c)) (hd m c) r l
def dw (l : Fin 1024) : EReal := ndw (hx m c) (prod (hy m c) (hw m c)) l

def arr5 : Vec Ideal S4096x1024 .f32 := fun i => dx m c (i 0) (i 1)
def arr6 : Vec Ideal S4096x1024 .bf16 := fun i => dx m c (i 0) (i 1)
def arr7 : Vec Ideal S1x1024 .f32 := fun i => dw m c (i 1)

theorem V_a_at (i : S4096x1024.Idx) : V m c main_v0 i = hy m c i := by
  have e : V m c main_v0 = (truncf (F := Ideal) .bf16 (hy m c) bitsLt_bf16_f32 : Vec Ideal S4096x1024 .bf16) := by
    simp only [V, hostOps0]; after_results; try rfl
  rw [e]
  rfl
theorem V_w_at (r l : Fin 1024) : V m c main_v1 (ix2 r l : S1024x1024.Idx) = hw m c (ix2 r l) := by
  have e : V m c main_v1 = (truncf (F := Ideal) .bf16 (hw m c) bitsLt_bf16_f32 : Vec Ideal S1024x1024 .bf16) := by
    simp only [V, hostOps0]; after_results; try rfl
  rw [e]
  pointwise []
theorem V_g_at (r : Fin 1) (l : Fin 1024) : V m c main_v2 (ix2 r l : S1x1024.Idx) = hg m c (ix1 l) := by
  have e : V m c main_v2 = (shapeCast S1x1024 (hg m c) shapeCasts_S1024_S1x1024 : Vec Ideal S1x1024 .f32) := by
    simp only [V, hostOps0]; after_results; try rfl
  rw [e]
  pointwise []

/-- Row `r` of the block of point `t`. -/
def row (r : Fin 1024) : Fin 4096 := ⟨1024 * t.val + r.val, by have h : t.val < 4 := N_0 ▸ t.isLt; omega⟩
def at1 (j : S1024x1024.Idx) : S4096x1024.Idx := ix2 (row t (j 0)) (j 1)

theorem index_in : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ win0_4.index t 0 = t.val ∧ win0_4.index t 1 = 0 := by decide +kernel
theorem index_out : ∀ t : Fin grid0.N, (win0_5.index t 0 = t.val ∧ win0_5.index t 1 = 0) ∧ (win0_6.index t 0 = t.val ∧ win0_6.index t 1 = 0)
    ∧ win0_7.index t 0 = 0 ∧ win0_7.index t 1 = 0 := by decide +kernel

theorem iblk0 (j : S1024x1024.Idx) : iblk m c 0 t j = hy m c (ix2 (row t (j 0)) (j 1)) := by
  unfold iblk
  rw [View.read_apply]
  refine Eq.trans (congrArg (V m c main_v0) (idx2 (j := ix2 (row t (j 0)) (j 1)) ?_ ?_)) (V_a_at m c _)
  · show win0_0.index t 0 * 1024 + 1 * (j 0).val = 1024 * t.val + (j 0).val; rw [(index_in t).1.1]; omega
  · show win0_0.index t 1 * 1024 + 1 * (j 1).val = (j 1).val; rw [(index_in t).1.2]; omega
theorem iblk1 (j : S1024x1024.Idx) : iblk m c 1 t j = hw m c (ix2 (j 0) (j 1)) := by
  unfold iblk
  rw [View.read_apply]
  refine Eq.trans (congrArg (V m c main_v1) (idx2 (j := ix2 (j 0) (j 1)) ?_ ?_)) (V_w_at m c (j 0) (j 1))
  · show win0_1.index t 0 * 1024 + 1 * (j 0).val = (j 0).val; rw [(index_in t).2.1.1]; omega
  · show win0_1.index t 1 * 1024 + 1 * (j 1).val = (j 1).val; rw [(index_in t).2.1.2]; omega
theorem iblk2 (j : S1024x1024.Idx) : iblk m c 2 t j = hx m c (at1 t j) := by
  unfold iblk
  rw [View.read_apply]
  refine congrArg (V m c main_arg0) (idx2 (j := at1 t j) ?_ ?_)
  · show win0_2.index t 0 * 1024 + 1 * (j 0).val = 1024 * t.val + (j 0).val; rw [(index_in t).2.2.1.1]; omega
  · show win0_2.index t 1 * 1024 + 1 * (j 1).val = (j 1).val; rw [(index_in t).2.2.1.2]; omega
theorem iblk3 (j : S1x1024.Idx) : iblk m c 3 t j = hg m c (ix1 (j 1)) := by
  unfold iblk
  rw [View.read_apply]
  refine Eq.trans (congrArg (V m c main_v2) (idx2 (j := ix2 (j 0) (j 1)) ?_ ?_)) (V_g_at m c (j 0) (j 1))
  · show win0_3.index t 0 * 1 + 1 * (j 0).val = (j 0).val; rw [(index_in t).2.2.2.1.1]; omega
  · show win0_3.index t 1 * 1024 + 1 * (j 1).val = (j 1).val; rw [(index_in t).2.2.2.1.2]; omega
theorem iblk4 (j : S1024x1024.Idx) : iblk m c 4 t j = hd m c (at1 t j) := by
  unfold iblk
  rw [View.read_apply]
  refine congrArg (V m c main_arg4) (idx2 (j := at1 t j) ?_ ?_)
  · show win0_4.index t 0 * 1024 + 1 * (j 0).val = 1024 * t.val + (j 0).val; rw [(index_in t).2.2.2.2.1]; omega
  · show win0_4.index t 1 * 1024 + 1 * (j 1).val = (j 1).val; rw [(index_in t).2.2.2.2.2]; omega

theorem emb5 (j : S1024x1024.Idx) : ((cfg0.win 5).blk t).view.emb j = at1 t j :=
  idx2 (by show win0_5.index t 0 * 1024 + 1 * (j 0).val = 1024 * t.val + (j 0).val; rw [(index_out t).1.1]; omega)
    (by show win0_5.index t 1 * 1024 + 1 * (j 1).val = (j 1).val; rw [(index_out t).1.2]; omega)
theorem emb6 (j : S1024x1024.Idx) : ((cfg0.win 6).blk t).view.emb j = at1 t j :=
  idx2 (by show win0_6.index t 0 * 1024 + 1 * (j 0).val = 1024 * t.val + (j 0).val; rw [(index_out t).2.1.1]; omega)
    (by show win0_6.index t 1 * 1024 + 1 * (j 1).val = (j 1).val; rw [(index_out t).2.1.2]; omega)
theorem emb7 (j : S1x1024.Idx) : ((cfg0.win 7).blk t).view.emb j = j :=
  idx2 (by show win0_7.index t 0 * 1 + 1 * (j 0).val = (j 0).val; rw [(index_out t).2.2.1]; omega)
    (by show win0_7.index t 1 * 1024 + 1 * (j 1).val = (j 1).val; rw [(index_out t).2.2.2]; omega)

theorem covered (i : S4096x1024.Idx) : ∃ (t : Fin cfg0.N) (j : S1024x1024.Idx), at1 t j = i := by
  have h : (i 0).val < 4096 := (i 0).isLt
  exact ⟨⟨(i 0).val / 1024, by show _ < grid0.N; rw [N_0]; omega⟩, ix2 ⟨(i 0).val % 1024, by omega⟩ (i 1),
    idx2 (by show 1024 * ((i 0).val / 1024) + (i 0).val % 1024 = (i 0).val; omega) rfl⟩

/-! ## What the arrays hold at the end -/

/-- The block of point `t` holds the rows of the result. -/
theorem block_dx (r l : Fin 1024) :
    ndx (iblk m c 2 t) (fun j => iblk m c 3 t (ix2 0 j)) (prod (iblk m c 0 t) (iblk m c 1 t)) (iblk m c 4 t) r l = dx m c (row t r) l := by
  unfold ndx prod mrow
  simp only [iblk0, iblk1, iblk2, iblk3, iblk4]
  rfl

theorem left5 (r l : Fin 1024) : (outsAt0 m c t.val t.isLt).1 (ix2 r l) = dx m c (row t r) l := by
  by_cases h1 : t.val % 4 = 0
  · rw [outsAt0_A m c t h1]
    dsimp only
    rw [(out_A ..).1, block_dx]
  · rw [outsAt0_B m c t h1]
    dsimp only
    rw [(out_B ..).1, block_dx]
theorem left6 (r l : Fin 1024) : (outsAt0 m c t.val t.isLt).2.1 (ix2 r l) = dx m c (row t r) l := by
  by_cases h1 : t.val % 4 = 0
  · rw [outsAt0_A m c t h1]
    dsimp only
    rw [(out_A ..).2.1, block_dx]
  · rw [outsAt0_B m c t h1]
    dsimp only
    rw [(out_B ..).2.1, block_dx]

/-- What the block of point `t` adds to the weight's gradient. -/
def part (l : Fin 1024) : EReal :=
  ∑ r : Fin 1024, prod (hy m c) (hw m c) (row t r) l * hx m c (ix2 (row t r) l) * rinv eps wide (mrow (hx m c) (row t r))

theorem part_eq (l : Fin 1024) : ndw (iblk m c 2 t) (prod (iblk m c 0 t) (iblk m c 1 t)) l = part m c t l := by
  unfold ndw prod mrow part
  simp only [iblk0, iblk1, iblk2]
  rfl

theorem left7_A (h1 : t.val % 4 = 0) (l : Fin 1024) :
    (outsAt0 m c t.val t.isLt).2.2 (ix2 0 l) = part m c t l := by
  rw [outsAt0_A m c t h1]
  dsimp only
  rw [(out_A ..).2.2, part_eq]
theorem left7_B (h1 : ¬t.val % 4 = 0) (l : Fin 1024) : (outsAt0 m c t.val t.isLt).2.2 (ix2 0 l)
    = ((outsAt0 m c (t.val - 1) (pred_lt t)).2.2 (ix2 0 l) + part m c t l : EReal) := by
  rw [outsAt0_B m c t h1]
  dsimp only
  rw [(out_B ..).2.2, part_eq]

theorem step_ne {n : ℕ} (h : n + 1 < cfg0.N) : ¬(n + 1) % 4 = 0 := by have : n + 1 < 4 := N_0 ▸ h; omega

theorem left7 (l : Fin 1024) (n : ℕ) (h : n < cfg0.N) : (outsAt0 m c n h).2.2 (ix2 0 l)
    = ∑ k : Fin (n + 1), part m c ⟨k.val, by omega⟩ l :=
  sum_of_steps (α := EReal) (fun n h => (outsAt0 m c n h).2.2 (ix2 0 l)) (fun n h => part m c ⟨n, h⟩ l)
    (fun h => left7_A m c ⟨0, h⟩ (Nat.zero_mod _) l) (fun n h => left7_B m c ⟨n + 1, h⟩ (step_ne h) l) n h

theorem final5 : (dats m 0 c).arrAt 5 cfg0.N = arr5 m c := by
  refine (dats m 0 c).arrAt_eq_of_cover 5 (arr5 m c) (fun t _ => ?_) fun i => ?_
  · rw [flushed5]
    funext j
    rw [View.read_apply, emb5]
    show (outsAt0 m c t.val t.isLt).1 j = dx m c (row t (j 0)) (j 1)
    exact (congrArg _ (eq_ix2 j)).trans (left5 m c t (j 0) (j 1))
  · obtain ⟨t, j, rfl⟩ := covered i
    exact ⟨t, flush0_5 t, emb5 t j ▸ View.emb_mem_set _ _⟩
theorem final6 : (dats m 0 c).arrAt 6 cfg0.N = arr6 m c := by
  refine (dats m 0 c).arrAt_eq_of_cover 6 (arr6 m c) (fun t _ => ?_) fun i => ?_
  · rw [flushed6]
    funext j
    rw [View.read_apply, emb6]
    show (outsAt0 m c t.val t.isLt).2.1 j = dx m c (row t (j 0)) (j 1)
    exact (congrArg _ (eq_ix2 j)).trans (left6 m c t (j 0) (j 1))
  · obtain ⟨t, j, rfl⟩ := covered i
    exact ⟨t, flush0_6 t, emb6 t j ▸ View.emb_mem_set _ _⟩

/-- The sum over the blocks is the sum over the rows. -/
theorem over_rows (f : Fin 4096 → EReal) (t : Fin cfg0.N) (ht : t.val % 4 = 3) :
    (∑ k : Fin (t.val + 1), ∑ r : Fin 1024, f (row ⟨k.val, Nat.lt_of_le_of_lt (Nat.le_of_lt_succ k.isLt) t.isLt⟩ r)) = ∑ r, f r := by
  have h4 : t.val + 1 = 4 := by have : t.val < 4 := N_0 ▸ t.isLt; omega
  rw [Fin.sum_univ_tiles 4 1024 rfl f]
  refine Fintype.sum_equiv (finCongr h4) _ _ fun k => Finset.sum_congr rfl fun r _ => congrArg f (Fin.ext ?_)
  show 1024 * k.val + r.val = k.val * 1024 + r.val
  omega

theorem final7 : (dats m 0 c).arrAt 7 cfg0.N = arr7 m c := by
  refine (dats m 0 c).arrAt_eq_of_cover 7 (arr7 m c) (fun t ht => ?_) fun i => ?_
  · rw [flushed7]
    funext j
    rw [View.read_apply, emb7]
    show (outsAt0 m c t.val t.isLt).2.2 j = dw m c (j 1)
    refine (congrArg _ (idx2 (j := ix2 0 (j 1)) (Fin.val_eq_zero (j 0)) rfl)).trans ((left7 m c (j 1) t.val t.isLt).trans ?_)
    exact over_rows (fun r => prod (hy m c) (hw m c) r (j 1) * hx m c (ix2 r (j 1)) * rinv eps wide (mrow (hx m c) r)) t ((flush0_7 t).mp ht)
  · exact ⟨⟨3, by rw [show cfg0.N = 4 from N_0]; omega⟩, (flush0_7 _).mpr rfl, emb7 ⟨3, _⟩ i ▸ View.emb_mem_set _ _⟩

end Cert.PleDxIdeal.Val

/-! ## The reference -/

namespace Cert.PleDxRefIdeal.Val

open Cert.PleDxRefIdeal Cert.PleDxRefIdeal.Read

section read
variable (x0 : S4096x1024.Idx → EReal) (x1 : S1024.Idx → EReal) (x2 : S1024x1024.Idx → EReal) (x3 x4 : S4096x1024.Idx → EReal)

theorem v38_at (r : Fin 4096) (l : Fin 1024) :
    val_main_v38 (F := Ideal) x0 x1 x2 x3 x4 (ix2 r l) = ndx x0 (fun j => x1 (ix1 j)) (prod x3 x2) x4 r l := by
  unfold ndx
  rw [← rdx_eq f1024_f32 (by norm_num)]
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v13, val_main_v17, val_main_v21,
    val_main_v22, val_main_v24, val_main_cst_5, val_main_v25, val_main_v26, val_main_v27, val_main_v28, val_main_v29, val_main_v30,
    val_main_cst_6, val_main_v31, val_main_v32, val_main_cst_7, val_main_v33, val_main_v34, val_main_v35, val_main_v36, val_main_v37,
    val_main_v38]
  simp only [Fin.sum_univ_one]
  unfold rdx
  rw [← add_assoc, ← add_assoc]
  rfl
theorem v40_at (r : Fin 1) (l : Fin 1024) : val_main_v40 (F := Ideal) x0 x2 x3 (ix2 r l) = ndw x0 (prod x3 x2) l := by
  pointwise [val_main_v0, val_main_cst, val_main_v1, val_main_v2, val_main_cst_0, val_main_v3, val_main_v4, val_main_cst_1, val_main_v5,
    val_main_v6, val_main_v7, val_main_v11, val_main_v12, val_main_v17, val_main_v18, val_main_cst_3, val_main_v19, val_main_v20,
    val_main_cst_4, val_main_v23, val_main_v40]
  simp only [Fin.sum_univ_one]
  refine Finset.sum_congr rfl fun r _ => ?_
  show x0 (ix2 r l) * rinv eps wide (mrow x0 r) * prod x3 x2 r l = prod x3 x2 r l * x0 (ix2 r l) * rinv eps wide (mrow x0 r)
  rw [mul_comm, ← mul_assoc]
end read
end Cert.PleDxRefIdeal.Val

namespace Cert.Proof.PleDx

open Cert.PleDxIdeal Cert.PleDxIdeal.Gen Cert.PleDxIdeal.Value Cert.PleDxIdeal.Val Cert.PleDxRefIdeal.Val Cert.PleDxRefIdeal.Read

/-- The reference writes no argument and awaits nothing. -/
theorem frame_ref : Cert.quiescent_PleDxRefIdeal := fun m ρ _ =>
  (θ_run Cert.PleDxRefIdeal.defs _ _).mono (fun r h => ⟨fun c => (h c).2.2.2,
      Idealize.ShloMosaic.sem_eq_zero_of_no_sems (by decide) r.2⟩)
    (Cert.PleDxRefIdeal.Value.run (F := Ideal) m ρ)

/-- Both programs end with the gradient of the norm's input, its rounded copy, and that of the norm's weight. -/
theorem algebraic : Cert.algebraic_PleDxIdeal_PleDxRefIdeal := by
  intro m ρ m' ρ' _ hagree
  refine ⟨arr5 m, arr6 m, arr7 m, ?_, ?_⟩
  · refine (θ_run Cert.PleDxIdeal.defs _ _).mono (fun r h c => ?_) (Cert.PleDxIdeal.Value.run_blocks (F := Ideal) m ρ)
    obtain ⟨h5, h6, h7, ha⟩ := h c
    exact ⟨h5.trans (final5 m c), h6.trans (final6 m c), h7.trans (final7 m c), ha⟩
  · refine (θ_run Cert.PleDxRefIdeal.defs _ _).mono (fun r h c => ?_) (Cert.PleDxRefIdeal.Value.run (F := Ideal) m' ρ')
    obtain ⟨h5, h6, h7, ha⟩ := h c
    obtain ⟨e0, e1, e2, e3, e4⟩ := hagree c
    refine ⟨(h5.trans (val_main_v38_eq _ _)).trans ?_, (h6.trans (val_main_v39_eq _ _)).trans ?_, (h7.trans (val_main_v40_eq _ _ _)).trans ?_, ha⟩
    iterate 2
      · rw [e0, e1, e2, e3, e4]
        funext i
        exact (congrArg _ (eq_ix2 i)).trans (v38_at _ _ _ _ _ (i 0) (i 1))
    · rw [e0, e2, e3]
      funext i
      exact (congrArg _ (idx2 (j := ix2 0 (i 1)) (Fin.val_eq_zero (i 0)) rfl)).trans (v40_at _ _ _ 0 (i 1))

end Cert.Proof.PleDx
-- ==== Proof.FfnDx.lean ====
/-
  The gradient of the norm before the SwiGLU, fused with the product of its gradient by the transpose of its weight: the product
  is the sum over two runs of columns, the first kept between the grid's points.
-/
module

public import proofs.«01_k».proof.Defs
public import proofs.«01_k».proof.Proof.NormDx
public import proofs.«01_k».proof.Proof.Gen.FfnDxIdeal.Value
public import proofs.«01_k».proof.Proof.Gen.FfnDxRefIdeal.Run
public import proofs.«01_k».proof.Proof.Gen.FfnDxRefIdeal.Read

@[expose] public section

set_option maxRecDepth 16384
noncomputable section

open Idealize.ShloMosaic Idealize.ShloMosaic.TcCoe Idealize.SL.Sem
open Idealize.ShloMosaic.Pipeline (Dat)
open Cert.Common Cert.Rms Cert.NormDx

namespace Cert.FfnDxIdeal.Val

open Cert.FfnDxIdeal Cert.FfnDxIdeal.Gen Cert.FfnDxIdeal.Value

section pay
variable (a : Vec Ideal S512x2816 .bf16) (b : Vec Ideal S2816x1024 .bf16) (x d : Vec Ideal S512x1024 .f32) (g : Vec Ideal S1x1024 .f32)

theorem prod_at (r : Fin 512) (l : Fin 1024) : k0_pay3 (F := Ideal) (k0_pay1 (F := Ideal)) a b (ix2 r l) = prodn a b r l := by
  pointwise [k0_pay3, k0_pay1]
  rfl
theorem acc_at (s : Vec Ideal S512x1024 .f32) (r : Fin 512) (l : Fin 1024) :
    k0_pay3 (F := Ideal) s a b (ix2 r l) = (s (ix2 r l) + prodn a b r l : EReal) := by
  pointwise [k0_pay3]
  rfl
theorem dx_at (y : Vec Ideal S512x1024 .f32) (r : Fin 512) (l : Fin 1024) :
    k0_pay6 (F := Ideal) y x g d (ix2 r l) = ndx x (fun j => g (ix2 0 j)) (fun r l => y (ix2 r l)) d r l := by
  unfold ndx kdx
  pointwise [k0_pay6, k0_pay5]
  rw [sub_eq_add_neg, add_assoc]
  rfl
theorem dxc_at (y : Vec Ideal S512x1024 .f32) (r : Fin 512) (l : Fin 1024) :
    k0_pay7 (F := Ideal) y x g d (ix2 r l) = ndx x (fun j => g (ix2 0 j)) (fun r l => y (ix2 r l)) d r l := by
  refine Eq.trans ?_ (dx_at x d g y r l)
  pointwise [k0_pay7]
theorem dw_at (p : Vec Ideal S1x1024 .f32) (y : Vec Ideal S512x1024 .f32) (l : Fin 1024) :
    k0_pay4 (F := Ideal) (k0_pay8 p) (k0_pay9 y x) (ix2 0 l) = (p (ix2 0 l) + ndw x (fun r l => y (ix2 r l)) l : EReal) := by
  pointwise [k0_pay4, k0_pay8, k0_pay9, k0_pay5]
  rfl
end pay

section body
variable (c : Dev nD) (i : grid0.Coords) (a3 : Memref sig .tc .vmem S512x2816 .bf16) (h3 : a3.IsWhole)
  (a4 : Memref sig .tc .vmem S2816x1024 .bf16) (h4 : a4.IsWhole) (a5 : Memref sig .tc .vmem S512x1024 .f32) (h5 : a5.IsWhole)
  (a6 : Memref sig .tc .vmem S1x1024 .f32) (h6 : a6.IsWhole) (a7 : Memref sig .tc .vmem S512x1024 .f32) (h7 : a7.IsWhole)
  (a8 : Memref sig .tc .vmem S512x1024 .f32) (h8 : a8.IsWhole) (a9 : Memref sig .tc .vmem S512x1024 .bf16) (h9 : a9.IsWhole)
  (a10 : Memref sig .tc .vmem S1x1024 .f32) (h10 : a10.IsWhole) (a11 : Memref sig .tc .vmem S512x1024 .f32) (h11 : a11.IsWhole)
  (a : Vec Ideal S512x2816 .bf16) (b : Vec Ideal S2816x1024 .bf16) (x : Vec Ideal S512x1024 .f32) (g : Vec Ideal S1x1024 .f32)
  (d : Vec Ideal S512x1024 .f32)

theorem acc_A (hc0 : cond0_0 i) (hc1 : cond0_1 i) (hc2 : ¬cond0_2 i) (r : Fin 512) (l : Fin 1024) :
    sout0_A_0 c i a3 h3 a4 h4 a5 h5 a6 h6 a7 h7 a8 h8 a9 h9 a10 h10 a11 h11 hc0 hc1 hc2 a b x g d (ix2 r l) = prodn a b r l := by
  unfold sout0_A_0
  rw [View.read_writes_eq_canon _ _ _ (fun _ => scover0_A_0 ..)]
  unfold kernelRun0_A
  dsimp only
  sl_unfold_words
  rw [View.canon_cons_unit_zero hz2]
  simp only [View.readAt_eq_ld, h3.read_unread, h4.read_unread, h5.read_unread, h6.read_unread, h7.read_unread, h10.read_unread, h11.read_unread,
    ld_all, View.readCov_cons_toLoadRect, cov_all]
  exact prod_at a b r l
theorem acc_C (hc0 : cond0_0 i) (hc1 : ¬cond0_1 i) (hc2 : ¬cond0_2 i) (r : Fin 512) (l : Fin 1024) :
    sout0_C_0 c i a3 h3 a4 h4 a5 h5 a6 h6 a7 h7 a8 h8 a9 h9 a10 h10 a11 h11 hc0 hc1 hc2 a b x g d (ix2 r l) = prodn a b r l := by
  unfold sout0_C_0
  rw [View.read_writes_eq_canon _ _ _ (fun _ => scover0_C_0 ..)]
  unfold kernelRun0_C
  dsimp only
  sl_unfold_words
  rw [View.canon_cons_unit_zero hz2]
  simp only [View.readAt_eq_ld, h3.read_unread, h4.read_unread, h5.read_unread, h6.read_unread, h7.read_unread, h10.read_unread, h11.read_unread,
    ld_all, View.readCov_cons_toLoadRect, cov_all]
  exact prod_at a b r l
theorem out7_A (hc0 : cond0_0 i) (hc1 : cond0_1 i) (hc2 : ¬cond0_2 i) (l : Fin 1024) :
    out0_A_7 c i a3 h3 a4 h4 a5 h5 a6 h6 a7 h7 a8 h8 a9 h9 a10 h10 a11 h11 hc0 hc1 hc2 a b x g d (ix2 0 l) = (0 : EReal) := by
  unfold out0_A_7
  rw [View.read_writes_eq_canon _ _ _ (fun _ => cover0_A_7 ..)]
  unfold kernelRun0_A
  dsimp only
  sl_unfold_words
  rw [View.canon_unit_zero hz2]
  pointwise [k0_pay2]
theorem out5_B (hc0 : ¬cond0_0 i) (hc1 : ¬cond0_1 i) (hc2 : cond0_2 i) (p : Vec Ideal S1x1024 .f32) (s : Vec Ideal S512x1024 .f32) (r : Fin 512) (l : Fin 1024) :
    out0_B_5 c i a3 h3 a4 h4 a5 h5 a6 h6 a7 h7 a8 h8 a9 h9 a10 h10 a11 h11 hc0 hc1 hc2 a b x g d p s (ix2 r l) = ndx x (fun j => g (ix2 0 j)) (fun r l => s (ix2 r l) + prodn a b r l) d r l := by
  unfold out0_B_5
  rw [View.read_writes_eq_canon _ _ _ (fun _ => cover0_B_5 ..)]
  unfold kernelRun0_B
  dsimp only
  sl_unfold_words
  rw [View.canon_unit_zero hz2]
  simp only [View.readAt_eq_ld, h3.read_unread, h4.read_unread, h5.read_unread, h6.read_unread, h7.read_unread, h10.read_unread, h11.read_unread,
    ld_all, View.readCov_cons_toLoadRect, cov_all]
  exact (dx_at x d g _ r l).trans (congrArg (fun y => ndx x (fun j => g (ix2 0 j)) y d r l) (funext fun r => funext fun l => acc_at a b s r l))
theorem out6_B (hc0 : ¬cond0_0 i) (hc1 : ¬cond0_1 i) (hc2 : cond0_2 i) (p : Vec Ideal S1x1024 .f32) (s : Vec Ideal S512x1024 .f32) (r : Fin 512) (l : Fin 1024) :
    out0_B_6 c i a3 h3 a4 h4 a5 h5 a6 h6 a7 h7 a8 h8 a9 h9 a10 h10 a11 h11 hc0 hc1 hc2 a b x g d p s (ix2 r l) = ndx x (fun j => g (ix2 0 j)) (fun r l => s (ix2 r l) + prodn a b r l) d r l := by
  unfold out0_B_6
  rw [View.read_writes_eq_canon _ _ _ (fun _ => cover0_B_6 ..)]
  unfold kernelRun0_B
  dsimp only
  sl_unfold_words
  rw [View.canon_unit_zero hz2]
  simp only [View.readAt_eq_ld, h3.read_unread, h4.read_unread, h5.read_unread, h6.read_unread, h7.read_unread, h10.read_unread, h11.read_unread,
    ld_all, View.readCov_cons_toLoadRect, cov_all]
  exact (dxc_at x d g _ r l).trans (congrArg (fun y => ndx x (fun j => g (ix2 0 j)) y d r l) (funext fun r => funext fun l => acc_at a b s r l))
set_option maxHeartbeats 1000000 in
theorem out7_B (hc0 : ¬cond0_0 i) (hc1 : ¬cond0_1 i) (hc2 : cond0_2 i) (p : Vec Ideal S1x1024 .f32) (s : Vec Ideal S512x1024 .f32) (l : Fin 1024) :
    out0_B_7 c i a3 h3 a4 h4 a5 h5 a6 h6 a7 h7 a8 h8 a9 h9 a10 h10 a11 h11 hc0 hc1 hc2 a b x g d p s (ix2 0 l) = (p (ix2 0 l) + ndw x (fun r l => s (ix2 r l) + prodn a b r l) l : EReal) := by
  unfold out0_B_7
  rw [View.read_writes_eq_canon _ _ _ (fun _ => cover0_B_7 ..)]
  unfold kernelRun0_B
  dsimp only
  sl_unfold_words
  rw [View.canon_unit_zero hz2]
  simp only [View.readAt_eq_ld, h3.read_unread, h4.read_unread, h5.read_unread, h6.read_unread, h7.read_unread, h10.read_unread, h11.read_unread,
    ld_all, View.readCov_cons_toLoadRect, cov_all]
  exact (dw_at x _ _ l).trans (congrArg (p (ix2 0 l) + ·) (congrArg (fun y => ndw x y l) (funext fun r => funext fun l => acc_at a b s r l)))
end body

/-! ## The blocks and the arrays -/

variable (m : (ℓ : Loc nD τ sig) → Buf (Elt Ideal) ℓ) (c : Dev nD) (t : Fin cfg0.N)

/-- The hidden state, the norm's weight, the gate's weight, the gate's gradient and the gradient that passes the norm by. -/
abbrev hx : S4096x1024.Idx → EReal := m ((c : Thread nD τ).loc main_arg0)
abbrev hg : S1024.Idx → EReal := m ((c : Thread nD τ).loc main_arg1)
abbrev hw : S1024x5632.Idx → EReal := m ((c : Thread nD τ).loc main_arg2)
abbrev hy : S4096x5632.Idx → EReal := m ((c : Thread nD τ).loc main_arg3)
abbrev hd : S4096x1024.Idx → EReal := m ((c : Thread nD τ).loc main_arg4)

/-- The results' elements. -/
def dx (r : Fin 4096) (l : Fin 1024) : EReal := ndx (hx m c) (fun j => hg m c (ix1 j)) (prod (hy m c) (hw m c)) (hd m c) r l
def dw (l : Fin 1024) : EReal := ndw (hx m c) (prod (hy m c) (hw m c)) l

def arr5 : Vec Ideal S4096x1024 .f32 := fun i => dx m c (i 0) (i 1)
def arr6 : Vec Ideal S4096x1024 .bf16 := fun i => dx m c (i 0) (i 1)
def arr7 : Vec Ideal S1x1024 .f32 := fun i => dw m c (i 1)

theorem V_a_at (i : S4096x5632.Idx) : V m c main_v0 i = hy m c i := by
  have e : V m c main_v0 = (truncf (F := Ideal) .bf16 (hy m c) bitsLt_bf16_f32 : Vec Ideal S4096x5632 .bf16) := by
    simp only [V, hostOps0]; after_results; try rfl
  rw [e]
  rfl
theorem V_w_at (r : Fin 5632) (l : Fin 1024) : V m c main_v2 (ix2 r l : S5632x1024.Idx) = hw m c (ix2 l r) := by
  have e : V m c main_v2 = (truncf (F := Ideal) .bf16 (transpose S5632x1024 [1, 0] (hw m c) transposes_S1024x5632_S5632x1024_1_0) bitsLt_bf16_f32 : Vec Ideal S5632x1024 .bf16) := by
    simp only [V, hostOps0]; after_results; try rfl
  rw [e]
  pointwise []
theorem V_g_at (r : Fin 1) (l : Fin 1024) : V m c main_v4 (ix2 r l : S1x1024.Idx) = hg m c (ix1 l) := by
  have e : V m c main_v4 = (shapeCast S1x1024 (hg m c) shapeCasts_S1024_S1x1024 : Vec Ideal S1x1024 .f32) := by
    simp only [V, hostOps0]; after_results; try rfl
  rw [e]
  pointwise []

/-- Row `r` of the block of point `t`. -/
def row (r : Fin 512) : Fin 4096 := ⟨512 * (t.val / 2) + r.val, by have h : t.val < 16 := N_0 ▸ t.isLt; omega⟩
/-- Column `k` of the run of columns of point `t`. -/
def run (k : Fin 2816) : Fin 5632 := ⟨2816 * (t.val % 2) + k.val, by omega⟩
def at1 (j : S512x1024.Idx) : S4096x1024.Idx := ix2 (row t (j 0)) (j 1)

theorem index_in : ∀ t : Fin grid0.N, (win0_0.index t 0 = t.val / 2 ∧ win0_0.index t 1 = t.val % 2) ∧ (win0_1.index t 0 = t.val % 2 ∧ win0_1.index t 1 = 0)
    ∧ (win0_2.index t 0 = t.val / 2 ∧ win0_2.index t 1 = 0) ∧ (win0_3.index t 0 = 0 ∧ win0_3.index t 1 = 0)
    ∧ win0_4.index t 0 = t.val / 2 ∧ win0_4.index t 1 = 0 := by decide +kernel
theorem index_out : ∀ t : Fin grid0.N, (win0_5.index t 0 = t.val / 2 ∧ win0_5.index t 1 = 0) ∧ (win0_6.index t 0 = t.val / 2 ∧ win0_6.index t 1 = 0)
    ∧ win0_7.index t 0 = 0 ∧ win0_7.index t 1 = 0 := by decide +kernel

theorem iblk0 (j : S512x2816.Idx) : iblk m c 0 t j = hy m c (ix2 (row t (j 0)) (run t (j 1))) := by
  unfold iblk
  rw [View.read_apply]
  refine Eq.trans (congrArg (V m c main_v0) (idx2 (j := ix2 (row t (j 0)) (run t (j 1))) ?_ ?_)) (V_a_at m c _)
  · show win0_0.index t 0 * 512 + 1 * (j 0).val = 512 * (t.val / 2) + (j 0).val; rw [(index_in t).1.1]; omega
  · show win0_0.index t 1 * 2816 + 1 * (j 1).val = 2816 * (t.val % 2) + (j 1).val; rw [(index_in t).1.2]; omega
theorem iblk1 (j : S2816x1024.Idx) : iblk m c 1 t j = hw m c (ix2 (j 1) (run t (j 0))) := by
  unfold iblk
  rw [View.read_apply]
  refine Eq.trans (congrArg (V m c main_v2) (idx2 (j := ix2 (run t (j 0)) (j 1)) ?_ ?_)) (V_w_at m c (run t (j 0)) (j 1))
  · show win0_1.index t 0 * 2816 + 1 * (j 0).val = 2816 * (t.val % 2) + (j 0).val; rw [(index_in t).2.1.1]; omega
  · show win0_1.index t 1 * 1024 + 1 * (j 1).val = (j 1).val; rw [(index_in t).2.1.2]; omega
theorem iblk2 (j : S512x1024.Idx) : iblk m c 2 t j = hx m c (at1 t j) := by
  unfold iblk
  rw [View.read_apply]
  refine congrArg (V m c main_arg0) (idx2 (j := at1 t j) ?_ ?_)
  · show win0_2.index t 0 * 512 + 1 * (j 0).val = 512 * (t.val / 2) + (j 0).val; rw [(index_in t).2.2.1.1]; omega
  · show win0_2.index t 1 * 1024 + 1 * (j 1).val = (j 1).val; rw [(index_in t).2.2.1.2]; omega
theorem iblk3 (j : S1x1024.Idx) : iblk m c 3 t j = hg m c (ix1 (j 1)) := by
  unfold iblk
  rw [View.read_apply]
  refine Eq.trans (congrArg (V m c main_v4) (idx2 (j := ix2 (j 0) (j 1)) ?_ ?_)) (V_g_at m c (j 0) (j 1))
  · show win0_3.index t 0 * 1 + 1 * (j 0).val = (j 0).val; rw [(index_in t).2.2.2.1.1]; omega
  · show win0_3.index t 1 * 1024 + 1 * (j 1).val = (j 1).val; rw [(index_in t).2.2.2.1.2]; omega
theorem iblk4 (j : S512x1024.Idx) : iblk m c 4 t j = hd m c (at1 t j) := by
  unfold iblk
  rw [View.read_apply]
  refine congrArg (V m c main_arg4) (idx2 (j := at1 t j) ?_ ?_)
  · show win0_4.index t 0 * 512 + 1 * (j 0).val = 512 * (t.val / 2) + (j 0).val; rw [(index_in t).2.2.2.2.1]; omega
  · show win0_4.index t 1 * 1024 + 1 * (j 1).val = (j 1).val; rw [(index_in t).2.2.2.2.2]; omega

theorem emb5 (j : S512x1024.Idx) : ((cfg0.win 5).blk t).view.emb j = at1 t j :=
  idx2 (by show win0_5.index t 0 * 512 + 1 * (j 0).val = 512 * (t.val / 2) + (j 0).val; rw [(index_out t).1.1]; omega)
    (by show win0_5.index t 1 * 1024 + 1 * (j 1).val = (j 1).val; rw [(index_out t).1.2]; omega)
theorem emb6 (j : S512x1024.Idx) : ((cfg0.win 6).blk t).view.emb j = at1 t j :=
  idx2 (by show win0_6.index t 0 * 512 + 1 * (j 0).val = 512 * (t.val / 2) + (j 0).val; rw [(index_out t).2.1.1]; omega)
    (by show win0_6.index t 1 * 1024 + 1 * (j 1).val = (j 1).val; rw [(index_out t).2.1.2]; omega)
theorem emb7 (j : S1x1024.Idx) : ((cfg0.win 7).blk t).view.emb j = j :=
  idx2 (by show win0_7.index t 0 * 1 + 1 * (j 0).val = (j 0).val; rw [(index_out t).2.2.1]; omega)
    (by show win0_7.index t 1 * 1024 + 1 * (j 1).val = (j 1).val; rw [(index_out t).2.2.2]; omega)

theorem covered (i : S4096x1024.Idx) : ∃ (t : Fin cfg0.N) (j : S512x1024.Idx), t.val % 2 = 1 ∧ at1 t j = i := by
  have h : (i 0).val < 4096 := (i 0).isLt
  exact ⟨⟨2 * ((i 0).val / 512) + 1, by show _ < grid0.N; rw [N_0]; omega⟩, ix2 ⟨(i 0).val % 512, by omega⟩ (i 1), by show (2 * ((i 0).val / 512) + 1) % 2 = 1; omega,
    idx2 (by show 512 * ((2 * ((i 0).val / 512) + 1) / 2) + (i 0).val % 512 = (i 0).val; omega) rfl⟩

/-! ## What the arrays hold at the end -/

/-- The run of columns of point `t`. -/
theorem acc_run (r : Fin 512) (l : Fin 1024) :
    prodn (iblk m c 0 t) (iblk m c 1 t) r l = ∑ k : Fin 2816, hy m c (ix2 (row t r) (run t k)) * hw m c (ix2 l (run t k)) := by
  unfold prodn
  simp only [iblk0, iblk1]
  rfl

/-- At an even point the scratch holds the first run's product. -/
theorem scratch_even (h0 : t.val % 2 = 0) (r : Fin 512) (l : Fin 1024) :
    (outsAt0 m c t.val t.isLt).2.2.2 (ix2 r l) = ∑ k : Fin 2816, hy m c (ix2 (row t r) (run t k)) * hw m c (ix2 l (run t k)) := by
  rw [← acc_run]
  by_cases h1 : t.val % 16 = 0
  · rw [outsAt0_A m c t h0 h1 (by omega)]
    dsimp only
    rw [acc_A]
  · rw [outsAt0_C m c t h0 h1 (by omega)]
    dsimp only
    rw [acc_C]

/-- The two runs make the product. -/
theorem two_runs (h0 : t.val % 2 = 1) (r : Fin 512) (l : Fin 1024) :
    ((outsAt0 m c (t.val - 1) (pred_lt t)).2.2.2 (ix2 r l) + prodn (iblk m c 0 t) (iblk m c 1 t) r l : EReal)
      = prod (hy m c) (hw m c) (row t r) l := by
  have e := scratch_even m c ⟨t.val - 1, pred_lt t⟩ (by show (t.val - 1) % 2 = 0; omega) r l
  refine (congrArg (· + prodn (iblk m c 0 t) (iblk m c 1 t) r l) e).trans ?_
  rw [acc_run]
  unfold prod
  rw [Fin.sum_univ_tiles 2 2816 rfl (fun k => hy m c (ix2 (row t r) k) * hw m c (ix2 l k)), Fin.sum_univ_two]
  refine congrArg₂ (· + ·) (Finset.sum_congr rfl fun k _ => ?_) (Finset.sum_congr rfl fun k _ => ?_)
  · have er : row ⟨t.val - 1, pred_lt t⟩ r = row t r := Fin.ext (by
      show 512 * ((t.val - 1) / 2) + r.val = 512 * (t.val / 2) + r.val; omega)
    have ek : run ⟨t.val - 1, pred_lt t⟩ k = ⟨0 * 2816 + k.val, by omega⟩ := Fin.ext (by
      show 2816 * ((t.val - 1) % 2) + k.val = 0 * 2816 + k.val; omega)
    rw [er, ek]
    rfl
  · have ek : run t k = ⟨1 * 2816 + k.val, by omega⟩ := Fin.ext (by show 2816 * (t.val % 2) + k.val = 1 * 2816 + k.val; omega)
    rw [ek]
    rfl

/-- The block of an odd point holds the rows of the result. -/
theorem block_dx (h0 : t.val % 2 = 1) (r : Fin 512) (l : Fin 1024) :
    ndx (iblk m c 2 t) (fun j => iblk m c 3 t (ix2 0 j)) (fun r l => (outsAt0 m c (t.val - 1) (pred_lt t)).2.2.2 (ix2 r l)
      + prodn (iblk m c 0 t) (iblk m c 1 t) r l) (iblk m c 4 t) r l = dx m c (row t r) l := by
  simp only [two_runs m c t h0]
  unfold ndx mrow
  simp only [iblk2, iblk3, iblk4]
  rfl

theorem left5 (h0 : t.val % 2 = 1) (r : Fin 512) (l : Fin 1024) :
    (outsAt0 m c t.val t.isLt).1 (ix2 r l) = dx m c (row t r) l := by
  rw [outsAt0_B m c t (by omega) (by omega) h0]
  dsimp only
  rw [out5_B, block_dx m c t h0]
theorem left6 (h0 : t.val % 2 = 1) (r : Fin 512) (l : Fin 1024) :
    (outsAt0 m c t.val t.isLt).2.1 (ix2 r l) = dx m c (row t r) l := by
  rw [outsAt0_B m c t (by omega) (by omega) h0]
  dsimp only
  rw [out6_B, block_dx m c t h0]

/-- What the rows of block `q` add to the weight's gradient. -/
def part (q : Fin 8) (l : Fin 1024) : EReal :=
  ∑ r : Fin 512, prod (hy m c) (hw m c) ⟨q.val * 512 + r.val, by omega⟩ l * hx m c (ix2 ⟨q.val * 512 + r.val, by omega⟩ l)
    * rinv eps wide (mrow (hx m c) ⟨q.val * 512 + r.val, by omega⟩)

theorem left7_odd (h0 : t.val % 2 = 1) (q : Fin 8) (hq : t.val / 2 = q.val) (l : Fin 1024) :
    (outsAt0 m c t.val t.isLt).2.2.1 (ix2 0 l)
      = ((outsAt0 m c (t.val - 1) (pred_lt t)).2.2.1 (ix2 0 l) + part m c q l : EReal) := by
  rw [outsAt0_B m c t (by omega) (by omega) h0]
  dsimp only
  rw [out7_B]
  refine congrArg (_ + ·) ?_
  simp only [two_runs m c t h0]
  have er (r : Fin 512) : row t r = ⟨q.val * 512 + r.val, by omega⟩ := Fin.ext (by
    show 512 * (t.val / 2) + r.val = q.val * 512 + r.val; omega)
  unfold ndw mrow part
  simp only [iblk2, er]
  refine Finset.sum_congr rfl fun r _ => ?_
  show prod (hy m c) (hw m c) _ l * hx m c (ix2 (row t r) l) * rinv eps wide (fun k => hx m c (ix2 (row t r) k)) = _
  rw [er]
  rfl

theorem left7_first (h1 : t.val % 16 = 0) (l : Fin 1024) : (outsAt0 m c t.val t.isLt).2.2.1 (ix2 0 l) = (0 : EReal) := by
  rw [outsAt0_A m c t (by omega) h1 (by omega)]
  dsimp only
  rw [out7_A]
theorem left7_even (h0 : t.val % 2 = 0) (h1 : ¬t.val % 16 = 0) (l : Fin 1024) : (outsAt0 m c t.val t.isLt).2.2.1 (ix2 0 l)
    = (outsAt0 m c (t.val - 1) (pred_lt t)).2.2.1 (ix2 0 l) := by
  rw [outsAt0_C m c t h0 h1 (by omega)]
  rfl

theorem odd_lt {q : ℕ} (h : q < 8) : 2 * q + 1 < cfg0.N := by rw [show cfg0.N = 16 from N_0]; omega

theorem left7 (l : Fin 1024) (q : ℕ) (h : q < 8) : (outsAt0 m c (2 * q + 1) (odd_lt h)).2.2.1 (ix2 0 l)
    = ∑ k : Fin (q + 1), part m c ⟨k.val, by omega⟩ l := by
  refine sum_of_steps (α := EReal) (N := 8) (fun q h => (outsAt0 m c (2 * q + 1) (odd_lt h)).2.2.1 (ix2 0 l)) (fun q h => part m c ⟨q, h⟩ l)
    (fun h => ?_) (fun n h => ?_) q h
  · refine (left7_odd m c ⟨2 * 0 + 1, odd_lt h⟩ (by show (2 * 0 + 1) % 2 = 1; omega) ⟨0, h⟩ (by show (2 * 0 + 1) / 2 = 0; omega) l).trans ?_
    exact (congrArg (· + part m c ⟨0, h⟩ l) (left7_first m c ⟨0, by rw [show cfg0.N = 16 from N_0]; omega⟩ (Nat.zero_mod _) l)).trans (zero_add _)
  · refine (left7_odd m c ⟨2 * (n + 1) + 1, odd_lt h⟩ (by show (2 * (n + 1) + 1) % 2 = 1; omega) ⟨n + 1, h⟩ (by show (2 * (n + 1) + 1) / 2 = n + 1; omega) l).trans ?_
    refine congrArg (· + part m c ⟨n + 1, h⟩ l) ?_
    exact left7_even m c ⟨2 * (n + 1), Nat.lt_of_succ_lt (odd_lt h)⟩ (by show 2 * (n + 1) % 2 = 0; omega) (by show ¬2 * (n + 1) % 16 = 0; omega) l

theorem final5 : (dats m 0 c).arrAt 5 cfg0.N = arr5 m c := by
  refine (dats m 0 c).arrAt_eq_of_cover 5 (arr5 m c) (fun t ht => ?_) fun i => ?_
  · rw [flushed5]
    funext j
    rw [View.read_apply, emb5]
    show (outsAt0 m c t.val t.isLt).1 j = dx m c (row t (j 0)) (j 1)
    exact (congrArg _ (eq_ix2 j)).trans (left5 m c t ((flush0_5 t).mp ht) (j 0) (j 1))
  · obtain ⟨t, j, h0, rfl⟩ := covered i
    exact ⟨t, (flush0_5 t).mpr h0, emb5 t j ▸ View.emb_mem_set _ _⟩
theorem final6 : (dats m 0 c).arrAt 6 cfg0.N = arr6 m c := by
  refine (dats m 0 c).arrAt_eq_of_cover 6 (arr6 m c) (fun t ht => ?_) fun i => ?_
  · rw [flushed6]
    funext j
    rw [View.read_apply, emb6]
    show (outsAt0 m c t.val t.isLt).2.1 j = dx m c (row t (j 0)) (j 1)
    exact (congrArg _ (eq_ix2 j)).trans (left6 m c t ((flush0_6 t).mp ht) (j 0) (j 1))
  · obtain ⟨t, j, h0, rfl⟩ := covered i
    exact ⟨t, (flush0_6 t).mpr h0, emb6 t j ▸ View.emb_mem_set _ _⟩

theorem final7 : (dats m 0 c).arrAt 7 cfg0.N = arr7 m c := by
  refine (dats m 0 c).arrAt_eq_of_cover 7 (arr7 m c) (fun t ht => ?_) fun i => ?_
  · have h15 : t.val = 15 := by
      have h := (flush0_7 t).mp ht
      have hN : t.val < 16 := N_0 ▸ t.isLt
      omega
    obtain ⟨t, tlt⟩ := t
    obtain rfl : t = 2 * 7 + 1 := h15
    rw [flushed7]
    funext j
    rw [View.read_apply, emb7]
    show (outsAt0 m c (2 * 7 + 1) _).2.2.1 j = dw m c (j 1)
    refine (congrArg _ (idx2 (i := j) (j := ix2 0 (j 1)) (Fin.val_eq_zero (j 0)) rfl)).trans ((left7 m c (j 1) 7 (by omega)).trans ?_)
    unfold dw ndw
    rw [Fin.sum_univ_tiles 8 512 rfl (fun r => prod (hy m c) (hw m c) r (j 1) * hx m c (ix2 r (j 1)) * rinv eps wide (mrow (hx m c) r))]
    rfl
  · exact ⟨⟨15, by rw [show cfg0.N = 16 from N_0]; omega⟩, (flush0_7 _).mpr rfl, emb7 ⟨15, _⟩ i ▸ View.emb_mem_set _ _⟩

end Cert.FfnDxIdeal.Val

/-! ## The reference -/

namespace Cert.FfnDxRefIdeal.Val

open Cert.FfnDxRefIdeal Cert.FfnDxRefIdeal.Read

section read
variable (x0 : S4096x1024.Idx → EReal) (x1 : S1024.Idx → EReal) (x2 : S1024x5632.Idx → EReal) (x3 : S4096x5632.Idx → EReal) (x4 : S4096x1024.Idx → EReal)

theorem v38_at (r : Fin 4096) (l : Fin 1024) :
    val_main_v38 (F := Ideal) x0 x1 x2 x3 x4 (ix2 r l) = ndx x0 (fun j => x1 (ix1 j)) (prod x3 x2) x4 r l := by
  unfold ndx
  rw [← rdx_eq f1024_f32 (by norm_num)]
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v13, val_main_v17, val_main_v21,
    val_main_v22, val_main_v24, val_main_cst_5, val_main_v25, val_main_v26, val_main_v27, val_main_v28, val_main_v29, val_main_v30,
    val_main_cst_6, val_main_v31, val_main_v32, val_main_cst_7, val_main_v33, val_main_v34, val_main_v35, val_main_v36, val_main_v37,
    val_main_v38]
  simp only [Fin.sum_univ_one]
  unfold rdx
  rw [← add_assoc, ← add_assoc]
  rfl
theorem v40_at (r : Fin 1) (l : Fin 1024) : val_main_v40 (F := Ideal) x0 x2 x3 (ix2 r l) = ndw x0 (prod x3 x2) l := by
  pointwise [val_main_v0, val_main_cst, val_main_v1, val_main_v2, val_main_cst_0, val_main_v3, val_main_v4, val_main_cst_1, val_main_v5,
    val_main_v6, val_main_v7, val_main_v11, val_main_v12, val_main_v17, val_main_v18, val_main_cst_3, val_main_v19, val_main_v20,
    val_main_cst_4, val_main_v23, val_main_v40]
  simp only [Fin.sum_univ_one]
  refine Finset.sum_congr rfl fun r _ => ?_
  show x0 (ix2 r l) * rinv eps wide (mrow x0 r) * prod x3 x2 r l = prod x3 x2 r l * x0 (ix2 r l) * rinv eps wide (mrow x0 r)
  rw [mul_comm, ← mul_assoc]
end read
end Cert.FfnDxRefIdeal.Val

namespace Cert.Proof.FfnDx

open Cert.FfnDxIdeal Cert.FfnDxIdeal.Gen Cert.FfnDxIdeal.Value Cert.FfnDxIdeal.Val Cert.FfnDxRefIdeal.Val Cert.FfnDxRefIdeal.Read

/-- The reference writes no argument and awaits nothing. -/
theorem frame_ref : Cert.quiescent_FfnDxRefIdeal := fun m ρ _ =>
  (θ_run Cert.FfnDxRefIdeal.defs _ _).mono (fun r h => ⟨fun c => (h c).2.2.2,
      Idealize.ShloMosaic.sem_eq_zero_of_no_sems (by decide) r.2⟩)
    (Cert.FfnDxRefIdeal.Value.run (F := Ideal) m ρ)

/-- Both programs end with the gradient of the norm's input, its rounded copy, and that of the norm's weight. -/
theorem algebraic : Cert.algebraic_FfnDxIdeal_FfnDxRefIdeal := by
  intro m ρ m' ρ' _ hagree
  refine ⟨arr5 m, arr6 m, arr7 m, ?_, ?_⟩
  · refine (θ_run Cert.FfnDxIdeal.defs _ _).mono (fun r h c => ?_) (Cert.FfnDxIdeal.Value.run_blocks (F := Ideal) m ρ)
    obtain ⟨h5, h6, h7, ha⟩ := h c
    exact ⟨h5.trans (final5 m c), h6.trans (final6 m c), h7.trans (final7 m c), ha⟩
  · refine (θ_run Cert.FfnDxRefIdeal.defs _ _).mono (fun r h c => ?_) (Cert.FfnDxRefIdeal.Value.run (F := Ideal) m' ρ')
    obtain ⟨h5, h6, h7, ha⟩ := h c
    obtain ⟨e0, e1, e2, e3, e4⟩ := hagree c
    refine ⟨(h5.trans (val_main_v38_eq _ _)).trans ?_, (h6.trans (val_main_v39_eq _ _)).trans ?_, (h7.trans (val_main_v40_eq _ _ _)).trans ?_, ha⟩
    · rw [e0, e1, e2, e3, e4]
      funext i
      exact (congrArg _ (eq_ix2 i)).trans (v38_at _ _ _ _ _ (i 0) (i 1))
    · rw [e0, e1, e2, e3, e4]
      funext i
      exact (congrArg _ (eq_ix2 i)).trans (v38_at _ _ _ _ _ (i 0) (i 1))
    · rw [e0, e2, e3]
      funext i
      exact (congrArg _ (idx2 (j := ix2 0 (i 1)) (Fin.val_eq_zero (i 0)) rfl)).trans (v40_at _ _ _ 0 (i 1))

end Cert.Proof.FfnDx
-- ==== Proof.GdnDx.lean ====
/-
  The gradient of the norm before the delta rule's mixer, fused with the product of its gradient by the transpose of its weight;
  the columns of the decay and of the write strength come in as a second product, padded to a tile.
-/
module

public import proofs.«01_k».proof.Defs
public import proofs.«01_k».proof.Proof.NormDx
public import proofs.«01_k».proof.Proof.Gen.GdnDxIdeal.Value
public import proofs.«01_k».proof.Proof.Gen.GdnDxRefIdeal.Run
public import proofs.«01_k».proof.Proof.Gen.GdnDxRefIdeal.Read

@[expose] public section

set_option maxRecDepth 16384
noncomputable section

open Idealize.ShloMosaic Idealize.ShloMosaic.TcCoe Idealize.SL.Sem
open Idealize.ShloMosaic.Pipeline (Dat)
open Cert.Common Cert.Rms Cert.NormDx

namespace Cert.GdnDxIdeal.Val

open Cert.GdnDxIdeal Cert.GdnDxIdeal.Gen Cert.GdnDxIdeal.Value

section pay
variable (a : Vec Ideal S256x4096 .bf16) (b : Vec Ideal S4096x1024 .bf16) (e x d : Vec Ideal S256x1024 .f32) (g : Vec Ideal S1x1024 .f32)

/-- The product with the second product's share. -/
def both (a : Vec Ideal S256x4096 .bf16) (b : Vec Ideal S4096x1024 .bf16) (e : Vec Ideal S256x1024 .f32) (r : Fin 256) (l : Fin 1024) : EReal :=
  prodn a b r l + e (ix2 r l)

theorem both_at (r : Fin 256) (l : Fin 1024) : k0_pay5 (F := Ideal) (k0_pay3 (F := Ideal) (k0_pay1 (F := Ideal)) a b) e (ix2 r l) = both a b e r l := by
  pointwise [k0_pay5, k0_pay3, k0_pay1]
  rfl
theorem dx_at (s : Vec Ideal S256x1024 .f32) (r : Fin 256) (l : Fin 1024) :
    k0_pay7 (F := Ideal) s e x g d (ix2 r l) = ndx x (fun j => g (ix2 0 j)) (fun r l => k0_pay5 (F := Ideal) s e (ix2 r l)) d r l := by
  unfold ndx kdx
  pointwise [k0_pay7, k0_pay6, k0_pay5]
  rw [sub_eq_add_neg, add_assoc]
  rfl
theorem dxc_at (s : Vec Ideal S256x1024 .f32) (r : Fin 256) (l : Fin 1024) :
    k0_pay8 (F := Ideal) s e x g d (ix2 r l) = ndx x (fun j => g (ix2 0 j)) (fun r l => k0_pay5 (F := Ideal) s e (ix2 r l)) d r l := by
  refine Eq.trans ?_ (dx_at e x d g s r l)
  pointwise [k0_pay8]
theorem dw_at (p : Vec Ideal S1x1024 .f32) (s : Vec Ideal S256x1024 .f32) (l : Fin 1024) :
    k0_pay4 (F := Ideal) (k0_pay5 s e) x (k0_pay6 x) p (ix2 0 l) = (p (ix2 0 l) + ndw x (fun r l => k0_pay5 (F := Ideal) s e (ix2 r l)) l : EReal) := by
  pointwise [k0_pay4, k0_pay5, k0_pay6]
  rfl
end pay

section body
variable (c : Dev nD) (i : grid0.Coords) (a3 : Memref sig .tc .vmem S256x4096 .bf16) (h3 : a3.IsWhole)
  (a4 : Memref sig .tc .vmem S4096x1024 .bf16) (h4 : a4.IsWhole) (a5 : Memref sig .tc .vmem S256x1024 .f32) (h5 : a5.IsWhole)
  (a6 : Memref sig .tc .vmem S256x1024 .f32) (h6 : a6.IsWhole) (a7 : Memref sig .tc .vmem S1x1024 .f32) (h7 : a7.IsWhole)
  (a8 : Memref sig .tc .vmem S256x1024 .f32) (h8 : a8.IsWhole) (a9 : Memref sig .tc .vmem S256x1024 .f32) (h9 : a9.IsWhole)
  (a10 : Memref sig .tc .vmem S256x1024 .bf16) (h10 : a10.IsWhole) (a11 : Memref sig .tc .vmem S1x1024 .f32) (h11 : a11.IsWhole)
  (a12 : Memref sig .tc .vmem S256x1024 .f32) (h12 : a12.IsWhole)
  (hc0 : cond0_0 i) (hc2 : cond0_2 i) (a : Vec Ideal S256x4096 .bf16) (b : Vec Ideal S4096x1024 .bf16) (e x : Vec Ideal S256x1024 .f32)
  (g : Vec Ideal S1x1024 .f32) (d : Vec Ideal S256x1024 .f32)

set_option maxHeartbeats 1000000 in
theorem out_A (hc1 : cond0_1 i) :
    (∀ r l, out0_A_6 c i a3 h3 a4 h4 a5 h5 a6 h6 a7 h7 a8 h8 a9 h9 a10 h10 a11 h11 a12 h12 hc0 hc1 hc2 a b e x g d (ix2 r l) = ndx x (fun j => g (ix2 0 j)) (both a b e) d r l)
      ∧ (∀ r l, out0_A_7 c i a3 h3 a4 h4 a5 h5 a6 h6 a7 h7 a8 h8 a9 h9 a10 h10 a11 h11 a12 h12 hc0 hc1 hc2 a b e x g d (ix2 r l) = ndx x (fun j => g (ix2 0 j)) (both a b e) d r l)
      ∧ ∀ l, out0_A_8 c i a3 h3 a4 h4 a5 h5 a6 h6 a7 h7 a8 h8 a9 h9 a10 h10 a11 h11 a12 h12 hc0 hc1 hc2 a b e x g d (ix2 0 l) = ndw x (both a b e) l := by
  unfold out0_A_6 out0_A_7 out0_A_8
  rw [View.read_writes_eq_canon _ _ _ (fun _ => cover0_A_6 ..), View.read_writes_eq_canon _ _ _ (fun _ => cover0_A_7 ..),
    View.read_writes_eq_canon _ _ _ (fun _ => cover0_A_8 ..)]
  unfold kernelRun0_A
  dsimp only
  sl_unfold_words
  rw [View.canon_unit_zero hz2, View.canon_unit_zero hz2, View.canon_cons_unit_zero hz2]
  simp only [View.readAt_eq_ld, h3.read_unread, h4.read_unread, h5.read_unread, h6.read_unread, h7.read_unread, h8.read_unread, h11.read_unread,
    ld_all, View.readCov_cons_toLoadRect, cov_all]
  refine ⟨fun r l => (dx_at e x d g _ r l).trans (by simp only [both_at]), fun r l => (dxc_at e x d g _ r l).trans (by simp only [both_at]),
    fun l => (dw_at e x _ _ l).trans ((congrArg₂ (· + ·) (?_ : _ = (0 : EReal)) (by simp only [both_at])).trans (zero_add _))⟩
  pointwise [k0_pay2]
set_option maxHeartbeats 1000000 in
theorem out_B (hc1 : ¬cond0_1 i) (p : Vec Ideal S1x1024 .f32) :
    (∀ r l, out0_B_6 c i a3 h3 a4 h4 a5 h5 a6 h6 a7 h7 a8 h8 a9 h9 a10 h10 a11 h11 a12 h12 hc0 hc1 hc2 a b e x g d p (ix2 r l) = ndx x (fun j => g (ix2 0 j)) (both a b e) d r l)
      ∧ (∀ r l, out0_B_7 c i a3 h3 a4 h4 a5 h5 a6 h6 a7 h7 a8 h8 a9 h9 a10 h10 a11 h11 a12 h12 hc0 hc1 hc2 a b e x g d p (ix2 r l) = ndx x (fun j => g (ix2 0 j)) (both a b e) d r l)
      ∧ ∀ l, out0_B_8 c i a3 h3 a4 h4 a5 h5 a6 h6 a7 h7 a8 h8 a9 h9 a10 h10 a11 h11 a12 h12 hc0 hc1 hc2 a b e x g d p (ix2 0 l) = (p (ix2 0 l) + ndw x (both a b e) l : EReal) := by
  unfold out0_B_6 out0_B_7 out0_B_8
  rw [View.read_writes_eq_canon _ _ _ (fun _ => cover0_B_6 ..), View.read_writes_eq_canon _ _ _ (fun _ => cover0_B_7 ..),
    View.read_writes_eq_canon _ _ _ (fun _ => cover0_B_8 ..)]
  unfold kernelRun0_B
  dsimp only
  sl_unfold_words
  rw [View.canon_unit_zero hz2, View.canon_unit_zero hz2, View.canon_unit_zero hz2]
  simp only [View.readAt_eq_ld, h3.read_unread, h4.read_unread, h5.read_unread, h6.read_unread, h7.read_unread, h8.read_unread, h11.read_unread,
    ld_all, View.readCov_cons_toLoadRect, cov_all]
  exact ⟨fun r l => (dx_at e x d g _ r l).trans (by simp only [both_at]), fun r l => (dxc_at e x d g _ r l).trans (by simp only [both_at]),
    fun l => (dw_at e x _ _ l).trans (by simp only [both_at])⟩
end body

/-! ## The blocks and the arrays -/

variable (m : (ℓ : Loc nD τ sig) → Buf (Elt Ideal) ℓ) (c : Dev nD) (t : Fin cfg0.N)

/-- The hidden state, the norm's weight, the product's weight, the gradients of its columns and the one that passes the norm by. -/
abbrev hx : S4096x1024.Idx → EReal := m ((c : Thread nD τ).loc main_arg0)
abbrev hg : S1024.Idx → EReal := m ((c : Thread nD τ).loc main_arg1)
abbrev hw : S1024x4112.Idx → EReal := m ((c : Thread nD τ).loc main_arg2)
abbrev hy : S4096x4096.Idx → EReal := m ((c : Thread nD τ).loc main_arg3)
abbrev hab : S4096x16.Idx → EReal := m ((c : Thread nD τ).loc main_arg4)
abbrev hd : S4096x1024.Idx → EReal := m ((c : Thread nD τ).loc main_arg5)

/-- One element of the gradient to the norm's output: the product over the wide columns and that over the sixteen narrow ones. -/
def narrow (ab : S4096x16.Idx → EReal) (w : S1024x4112.Idx → EReal) (r : Fin 4096) (l : Fin 1024) : EReal :=
  ∑ k : Fin 16, ab (ix2 r k) * w (ix2 l ⟨4096 + k.val, by omega⟩)
def cols (y : S4096x4096.Idx → EReal) (ab : S4096x16.Idx → EReal) (w : S1024x4112.Idx → EReal) (r : Fin 4096) (l : Fin 1024) : EReal :=
  (∑ k : Fin 4096, y (ix2 r k) * w (ix2 l ⟨k.val, by omega⟩)) + narrow ab w r l

/-- The results' elements. -/
def dx (r : Fin 4096) (l : Fin 1024) : EReal := ndx (hx m c) (fun j => hg m c (ix1 j)) (cols (hy m c) (hab m c) (hw m c)) (hd m c) r l
def dw (l : Fin 1024) : EReal := ndw (hx m c) (cols (hy m c) (hab m c) (hw m c)) l

def arr5 : Vec Ideal S4096x1024 .f32 := fun i => dx m c (i 0) (i 1)
def arr6 : Vec Ideal S4096x1024 .bf16 := fun i => dx m c (i 0) (i 1)
def arr7 : Vec Ideal S1x1024 .f32 := fun i => dw m c (i 1)

theorem V_a : V m c main_v7 = (truncf (F := Ideal) .bf16 (hy m c) bitsLt_bf16_f32 : Vec Ideal S4096x4096 .bf16) := by
  simp only [V, hostOps0, hostOps0_1, hostOps0_2, hostOps0_3, hostOps0_4, List.flatten_cons, List.flatten_nil, List.append_nil,
    List.cons_append, List.nil_append]
  after_results
  try rfl
theorem V_w : V m c main_v8 = (extractStridedSlice S4096x1024 ![0, 0]
    (truncf (F := Ideal) .bf16 (transpose S4112x1024 [1, 0] (hw m c) transposes_S1024x4112_S4112x1024_1_0) bitsLt_bf16_f32)
    slices_S4112x1024_S4096x1024_0_0 : Vec Ideal S4096x1024 .bf16) := by
  simp only [V, hostOps0, hostOps0_1, hostOps0_2, hostOps0_3, hostOps0_4, List.flatten_cons, List.flatten_nil, List.append_nil,
    List.cons_append, List.nil_append]
  after_results
  try rfl
theorem V_g : V m c main_v10 = (shapeCast S1x1024 (hg m c) shapeCasts_S1024_S1x1024 : Vec Ideal S1x1024 .f32) := by
  simp only [V, hostOps0, hostOps0_1, hostOps0_2, hostOps0_3, hostOps0_4, List.flatten_cons, List.flatten_nil, List.append_nil,
    List.cons_append, List.nil_append]
  after_results
  try rfl
theorem V_e : V m c main_v6 = (Host.dotGeneral (F := Ideal) dot_S4096x128_S128x1024_S4096x1024_1_0_0_1_n_n none
    (truncf (F := Ideal) .bf16 (pad S4096x128 ![0, 0] ![0, 112] ![0, 0] (hab m c) (sitofp (F := Ideal) .f32 (constantI S_ 32 0#32))
      pads_S4096x16_S4096x128_000_01120 h_S_) bitsLt_bf16_f32)
    (pad S128x1024 ![0, 0] ![112, 0] ![0, 0] (extractStridedSlice S16x1024 ![4096, 0]
      (truncf (F := Ideal) .bf16 (transpose S4112x1024 [1, 0] (hw m c) transposes_S1024x4112_S4112x1024_1_0) bitsLt_bf16_f32)
      slices_S4112x1024_S16x1024_4096_0) (sitofp (F := Ideal) .bf16 (constantI S_ 32 0#32)) pads_S16x1024_S128x1024_01120_000 h_S_)
    : Vec Ideal S4096x1024 .f32) := by
  simp only [V, hostOps0, hostOps0_1, hostOps0_2, hostOps0_3, hostOps0_4, List.flatten_cons, List.flatten_nil, List.append_nil,
    List.cons_append, List.nil_append]
  after_results
  try rfl

theorem V_a_at (i : S4096x4096.Idx) : V m c main_v7 i = hy m c i := by
  rw [V_a]
  rfl
theorem V_w_at (r : Fin 4096) (l : Fin 1024) : V m c main_v8 (ix2 r l : S4096x1024.Idx) = hw m c (ix2 l ⟨r.val, by omega⟩) := by
  rw [V_w]
  pointwise []
theorem V_g_at (r : Fin 1) (l : Fin 1024) : V m c main_v10 (ix2 r l : S1x1024.Idx) = hg m c (ix1 l) := by
  rw [V_g]
  pointwise []
theorem zero_word : FloatOps.sitofp (F := Ideal) .f32 0#32 = (0 : EReal) := by
  show (((0 : ℤ) : ℝ) : EReal) = 0
  simp
theorem V_e_at (r : Fin 4096) (l : Fin 1024) : V m c main_v6 (ix2 r l : S4096x1024.Idx) = narrow (hab m c) (hw m c) r l := by
  rw [V_e]
  pointwise []
  rw [zero_word]
  simp only [zero_mul, Finset.sum_const_zero, add_zero]
  rfl

/-- Row `r` of the block of point `t`. -/
def row (r : Fin 256) : Fin 4096 := ⟨256 * t.val + r.val, by have h : t.val < 16 := N_0 ▸ t.isLt; omega⟩
def at1 (j : S256x1024.Idx) : S4096x1024.Idx := ix2 (row t (j 0)) (j 1)

theorem index_in : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) ∧ (win0_4.index t 0 = 0 ∧ win0_4.index t 1 = 0)
    ∧ win0_5.index t 0 = t.val ∧ win0_5.index t 1 = 0 := by decide +kernel
theorem index_out : ∀ t : Fin grid0.N, (win0_6.index t 0 = t.val ∧ win0_6.index t 1 = 0) ∧ (win0_7.index t 0 = t.val ∧ win0_7.index t 1 = 0)
    ∧ win0_8.index t 0 = 0 ∧ win0_8.index t 1 = 0 := by decide +kernel

theorem iblk0 (j : S256x4096.Idx) : iblk m c 0 t j = hy m c (ix2 (row t (j 0)) (j 1)) := by
  unfold iblk
  rw [View.read_apply]
  refine Eq.trans (congrArg (V m c main_v7) (idx2 (j := ix2 (row t (j 0)) (j 1)) ?_ ?_)) (V_a_at m c _)
  · show win0_0.index t 0 * 256 + 1 * (j 0).val = 256 * t.val + (j 0).val; rw [(index_in t).1.1]; omega
  · show win0_0.index t 1 * 4096 + 1 * (j 1).val = (j 1).val; rw [(index_in t).1.2]; omega
theorem iblk1 (j : S4096x1024.Idx) : iblk m c 1 t j = hw m c (ix2 (j 1) ⟨(j 0).val, Nat.lt_trans (j 0).isLt (by decide)⟩) := by
  unfold iblk
  rw [View.read_apply]
  refine Eq.trans (congrArg (V m c main_v8) (idx2 (j := ix2 (j 0) (j 1)) ?_ ?_)) (V_w_at m c (j 0) (j 1))
  · show win0_1.index t 0 * 4096 + 1 * (j 0).val = (j 0).val; rw [(index_in t).2.1.1]; omega
  · show win0_1.index t 1 * 1024 + 1 * (j 1).val = (j 1).val; rw [(index_in t).2.1.2]; omega
theorem iblk2 (j : S256x1024.Idx) : iblk m c 2 t j = narrow (hab m c) (hw m c) (row t (j 0)) (j 1) := by
  unfold iblk
  rw [View.read_apply]
  refine Eq.trans (congrArg (V m c main_v6) (idx2 (j := ix2 (row t (j 0)) (j 1)) ?_ ?_)) (V_e_at m c _ _)
  · show win0_2.index t 0 * 256 + 1 * (j 0).val = 256 * t.val + (j 0).val; rw [(index_in t).2.2.1.1]; omega
  · show win0_2.index t 1 * 1024 + 1 * (j 1).val = (j 1).val; rw [(index_in t).2.2.1.2]; omega
theorem iblk3 (j : S256x1024.Idx) : iblk m c 3 t j = hx m c (at1 t j) := by
  unfold iblk
  rw [View.read_apply]
  refine congrArg (V m c main_arg0) (idx2 (j := at1 t j) ?_ ?_)
  · show win0_3.index t 0 * 256 + 1 * (j 0).val = 256 * t.val + (j 0).val; rw [(index_in t).2.2.2.1.1]; omega
  · show win0_3.index t 1 * 1024 + 1 * (j 1).val = (j 1).val; rw [(index_in t).2.2.2.1.2]; omega
theorem iblk4 (j : S1x1024.Idx) : iblk m c 4 t j = hg m c (ix1 (j 1)) := by
  unfold iblk
  rw [View.read_apply]
  refine Eq.trans (congrArg (V m c main_v10) (idx2 (j := ix2 (j 0) (j 1)) ?_ ?_)) (V_g_at m c (j 0) (j 1))
  · show win0_4.index t 0 * 1 + 1 * (j 0).val = (j 0).val; rw [(index_in t).2.2.2.2.1.1]; omega
  · show win0_4.index t 1 * 1024 + 1 * (j 1).val = (j 1).val; rw [(index_in t).2.2.2.2.1.2]; omega
theorem iblk5 (j : S256x1024.Idx) : iblk m c 5 t j = hd m c (at1 t j) := by
  unfold iblk
  rw [View.read_apply]
  refine congrArg (V m c main_arg5) (idx2 (j := at1 t j) ?_ ?_)
  · show win0_5.index t 0 * 256 + 1 * (j 0).val = 256 * t.val + (j 0).val; rw [(index_in t).2.2.2.2.2.1]; omega
  · show win0_5.index t 1 * 1024 + 1 * (j 1).val = (j 1).val; rw [(index_in t).2.2.2.2.2.2]; omega

theorem emb5 (j : S256x1024.Idx) : ((cfg0.win 6).blk t).view.emb j = at1 t j :=
  idx2 (by show win0_6.index t 0 * 256 + 1 * (j 0).val = 256 * t.val + (j 0).val; rw [(index_out t).1.1]; omega)
    (by show win0_6.index t 1 * 1024 + 1 * (j 1).val = (j 1).val; rw [(index_out t).1.2]; omega)
theorem emb6 (j : S256x1024.Idx) : ((cfg0.win 7).blk t).view.emb j = at1 t j :=
  idx2 (by show win0_7.index t 0 * 256 + 1 * (j 0).val = 256 * t.val + (j 0).val; rw [(index_out t).2.1.1]; omega)
    (by show win0_7.index t 1 * 1024 + 1 * (j 1).val = (j 1).val; rw [(index_out t).2.1.2]; omega)
theorem emb7 (j : S1x1024.Idx) : ((cfg0.win 8).blk t).view.emb j = j :=
  idx2 (by show win0_8.index t 0 * 1 + 1 * (j 0).val = (j 0).val; rw [(index_out t).2.2.1]; omega)
    (by show win0_8.index t 1 * 1024 + 1 * (j 1).val = (j 1).val; rw [(index_out t).2.2.2]; omega)

theorem covered (i : S4096x1024.Idx) : ∃ (t : Fin cfg0.N) (j : S256x1024.Idx), at1 t j = i := by
  have h : (i 0).val < 4096 := (i 0).isLt
  exact ⟨⟨(i 0).val / 256, by show _ < grid0.N; rw [N_0]; omega⟩, ix2 ⟨(i 0).val % 256, by omega⟩ (i 1),
    idx2 (by show 256 * ((i 0).val / 256) + (i 0).val % 256 = (i 0).val; omega) rfl⟩

/-! ## What the arrays hold at the end -/

/-- The block of point `t` holds the rows of the result. -/
theorem block_dx (r : Fin 256) (l : Fin 1024) :
    ndx (iblk m c 3 t) (fun j => iblk m c 4 t (ix2 0 j)) (both (iblk m c 0 t) (iblk m c 1 t) (iblk m c 2 t)) (iblk m c 5 t) r l = dx m c (row t r) l := by
  unfold ndx both prodn mrow
  simp only [iblk0, iblk1, iblk2, iblk3, iblk4, iblk5]
  rfl

theorem left5 (r : Fin 256) (l : Fin 1024) : (outsAt0 m c t.val t.isLt).1 (ix2 r l) = dx m c (row t r) l := by
  by_cases h1 : t.val % 16 = 0
  · rw [outsAt0_A m c t h1]
    dsimp only
    rw [(out_A ..).1, block_dx]
  · rw [outsAt0_B m c t h1]
    dsimp only
    rw [(out_B ..).1, block_dx]
theorem left6 (r : Fin 256) (l : Fin 1024) : (outsAt0 m c t.val t.isLt).2.1 (ix2 r l) = dx m c (row t r) l := by
  by_cases h1 : t.val % 16 = 0
  · rw [outsAt0_A m c t h1]
    dsimp only
    rw [(out_A ..).2.1, block_dx]
  · rw [outsAt0_B m c t h1]
    dsimp only
    rw [(out_B ..).2.1, block_dx]

/-- What the block of point `t` adds to the weight's gradient. -/
def part (l : Fin 1024) : EReal :=
  ∑ r : Fin 256, cols (hy m c) (hab m c) (hw m c) (row t r) l * hx m c (ix2 (row t r) l) * rinv eps wide (mrow (hx m c) (row t r))

theorem part_eq (l : Fin 1024) : ndw (iblk m c 3 t) (both (iblk m c 0 t) (iblk m c 1 t) (iblk m c 2 t)) l = part m c t l := by
  unfold ndw both prodn mrow part
  simp only [iblk0, iblk1, iblk2, iblk3]
  rfl

theorem left7_A (h1 : t.val % 16 = 0) (l : Fin 1024) :
    (outsAt0 m c t.val t.isLt).2.2 (ix2 0 l) = part m c t l := by
  rw [outsAt0_A m c t h1]
  dsimp only
  rw [(out_A ..).2.2, part_eq]
theorem left7_B (h1 : ¬t.val % 16 = 0) (l : Fin 1024) : (outsAt0 m c t.val t.isLt).2.2 (ix2 0 l)
    = ((outsAt0 m c (t.val - 1) (pred_lt t)).2.2 (ix2 0 l) + part m c t l : EReal) := by
  rw [outsAt0_B m c t h1]
  dsimp only
  rw [(out_B ..).2.2, part_eq]

theorem step_ne {n : ℕ} (h : n + 1 < cfg0.N) : ¬(n + 1) % 16 = 0 := by have : n + 1 < 16 := N_0 ▸ h; omega

theorem left7 (l : Fin 1024) (n : ℕ) (h : n < cfg0.N) : (outsAt0 m c n h).2.2 (ix2 0 l)
    = ∑ k : Fin (n + 1), part m c ⟨k.val, by omega⟩ l :=
  sum_of_steps (α := EReal) (fun n h => (outsAt0 m c n h).2.2 (ix2 0 l)) (fun n h => part m c ⟨n, h⟩ l)
    (fun h => left7_A m c ⟨0, h⟩ (Nat.zero_mod _) l) (fun n h => left7_B m c ⟨n + 1, h⟩ (step_ne h) l) n h

theorem final5 : (dats m 0 c).arrAt 6 cfg0.N = arr5 m c := by
  refine (dats m 0 c).arrAt_eq_of_cover 6 (arr5 m c) (fun t _ => ?_) fun i => ?_
  · rw [flushed6]
    funext j
    rw [View.read_apply, emb5]
    show (outsAt0 m c t.val t.isLt).1 j = dx m c (row t (j 0)) (j 1)
    exact (congrArg _ (eq_ix2 j)).trans (left5 m c t (j 0) (j 1))
  · obtain ⟨t, j, rfl⟩ := covered i
    exact ⟨t, flush0_6 t, emb5 t j ▸ View.emb_mem_set _ _⟩
theorem final6 : (dats m 0 c).arrAt 7 cfg0.N = arr6 m c := by
  refine (dats m 0 c).arrAt_eq_of_cover 7 (arr6 m c) (fun t _ => ?_) fun i => ?_
  · rw [flushed7]
    funext j
    rw [View.read_apply, emb6]
    show (outsAt0 m c t.val t.isLt).2.1 j = dx m c (row t (j 0)) (j 1)
    exact (congrArg _ (eq_ix2 j)).trans (left6 m c t (j 0) (j 1))
  · obtain ⟨t, j, rfl⟩ := covered i
    exact ⟨t, flush0_7 t, emb6 t j ▸ View.emb_mem_set _ _⟩

/-- The sum over the blocks is the sum over the rows. -/
theorem over_rows (f : Fin 4096 → EReal) (t : Fin cfg0.N) (ht : t.val % 16 = 15) :
    (∑ k : Fin (t.val + 1), ∑ r : Fin 256, f (row ⟨k.val, Nat.lt_of_le_of_lt (Nat.le_of_lt_succ k.isLt) t.isLt⟩ r)) = ∑ r, f r := by
  have h4 : t.val + 1 = 16 := by have : t.val < 16 := N_0 ▸ t.isLt; omega
  rw [Fin.sum_univ_tiles 16 256 rfl f]
  refine Fintype.sum_equiv (finCongr h4) _ _ fun k => Finset.sum_congr rfl fun r _ => congrArg f (Fin.ext ?_)
  show 256 * k.val + r.val = k.val * 256 + r.val
  omega

theorem final7 : (dats m 0 c).arrAt 8 cfg0.N = arr7 m c := by
  refine (dats m 0 c).arrAt_eq_of_cover 8 (arr7 m c) (fun t ht => ?_) fun i => ?_
  · rw [flushed8]
    funext j
    rw [View.read_apply, emb7]
    show (outsAt0 m c t.val t.isLt).2.2 j = dw m c (j 1)
    refine (congrArg _ (idx2 (j := ix2 0 (j 1)) (Fin.val_eq_zero (j 0)) rfl)).trans ((left7 m c (j 1) t.val t.isLt).trans ?_)
    exact over_rows (fun r => cols (hy m c) (hab m c) (hw m c) r (j 1) * hx m c (ix2 r (j 1)) * rinv eps wide (mrow (hx m c) r)) t ((flush0_8 t).mp ht)
  · exact ⟨⟨15, by rw [show cfg0.N = 16 from N_0]; omega⟩, (flush0_8 _).mpr rfl, emb7 ⟨15, _⟩ i ▸ View.emb_mem_set _ _⟩

end Cert.GdnDxIdeal.Val

/-! ## The reference -/

namespace Cert.GdnDxRefIdeal.Val

open Cert.GdnDxRefIdeal Cert.GdnDxRefIdeal.Read
open Cert.GdnDxIdeal.Val (cols narrow)

section read
variable (x0 : S4096x1024.Idx → EReal) (x1 : S1024.Idx → EReal) (x2 : S1024x4112.Idx → EReal) (x3 : S4096x4096.Idx → EReal) (x4 : S4096x16.Idx → EReal)
  (x5 : S4096x1024.Idx → EReal)

theorem cols_at (r : Fin 4096) (l : Fin 1024) : val_main_v18 (F := Ideal) x2 x3 x4 (ix2 r l) = cols x3 x4 x2 r l := by
  pointwise [val_main_v18, val_main_v17]
  rfl
theorem v39_at (r : Fin 4096) (l : Fin 1024) :
    val_main_v39 (F := Ideal) x0 x1 x2 x3 x4 x5 (ix2 r l) = ndx x0 (fun j => x1 (ix1 j)) (cols x3 x4 x2) x5 r l := by
  unfold ndx
  rw [← rdx_eq f1024_f32 (by norm_num)]
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v13, val_main_v22, val_main_v23,
    val_main_v25, val_main_cst_5, val_main_v26, val_main_v27, val_main_v28, val_main_v29, val_main_v30, val_main_v31, val_main_cst_6,
    val_main_v32, val_main_v33, val_main_cst_7, val_main_v34, val_main_v35, val_main_v36, val_main_v37, val_main_v38, val_main_v39]
  simp only [Fin.sum_univ_one, cols_at]
  unfold rdx
  rw [← add_assoc, ← add_assoc]
  rfl
theorem v41_at (r : Fin 1) (l : Fin 1024) : val_main_v41 (F := Ideal) x0 x2 x3 x4 (ix2 r l) = ndw x0 (cols x3 x4 x2) l := by
  pointwise [val_main_v0, val_main_cst, val_main_v1, val_main_v2, val_main_cst_0, val_main_v3, val_main_v4, val_main_cst_1, val_main_v5,
    val_main_v6, val_main_v7, val_main_v11, val_main_v12, val_main_v19, val_main_cst_3, val_main_v20, val_main_v21, val_main_cst_4,
    val_main_v24, val_main_v41]
  simp only [Fin.sum_univ_one, cols_at]
  refine Finset.sum_congr rfl fun r _ => ?_
  show x0 (ix2 r l) * rinv eps wide (mrow x0 r) * cols x3 x4 x2 r l = cols x3 x4 x2 r l * x0 (ix2 r l) * rinv eps wide (mrow x0 r)
  rw [mul_comm, ← mul_assoc]
end read
end Cert.GdnDxRefIdeal.Val

namespace Cert.Proof.GdnDx

open Cert.GdnDxIdeal Cert.GdnDxIdeal.Gen Cert.GdnDxIdeal.Value Cert.GdnDxIdeal.Val Cert.GdnDxRefIdeal.Val Cert.GdnDxRefIdeal.Read

/-- The reference writes no argument and awaits nothing. -/
theorem frame_ref : Cert.quiescent_GdnDxRefIdeal := fun m ρ _ =>
  (θ_run Cert.GdnDxRefIdeal.defs _ _).mono (fun r h => ⟨fun c => (h c).2.2.2,
      Idealize.ShloMosaic.sem_eq_zero_of_no_sems (by decide) r.2⟩)
    (Cert.GdnDxRefIdeal.Value.run (F := Ideal) m ρ)

/-- Both programs end with the gradient of the norm's input, its rounded copy, and that of the norm's weight. -/
theorem algebraic : Cert.algebraic_GdnDxIdeal_GdnDxRefIdeal := by
  intro m ρ m' ρ' _ hagree
  refine ⟨arr5 m, arr6 m, arr7 m, ?_, ?_⟩
  · refine (θ_run Cert.GdnDxIdeal.defs _ _).mono (fun r h c => ?_) (Cert.GdnDxIdeal.Value.run_blocks (F := Ideal) m ρ)
    obtain ⟨h5, h6, h7, ha⟩ := h c
    exact ⟨h5.trans (final5 m c), h6.trans (final6 m c), h7.trans (final7 m c), ha⟩
  · refine (θ_run Cert.GdnDxRefIdeal.defs _ _).mono (fun r h c => ?_) (Cert.GdnDxRefIdeal.Value.run (F := Ideal) m' ρ')
    obtain ⟨h5, h6, h7, ha⟩ := h c
    obtain ⟨e0, e1, e2, e3, e4, e5⟩ := hagree c
    refine ⟨(h5.trans (val_main_v39_eq _ _)).trans ?_, (h6.trans (val_main_v40_eq _ _)).trans ?_, (h7.trans (val_main_v41_eq _ _ _ _)).trans ?_, ha⟩
    iterate 2
      · rw [e0, e1, e2, e3, e4, e5]
        funext i
        exact (congrArg _ (eq_ix2 i)).trans (v39_at _ _ _ _ _ _ (i 0) (i 1))
    · rw [e0, e2, e3, e4]
      funext i
      exact (congrArg _ (idx2 (j := ix2 0 (i 1)) (Fin.val_eq_zero (i 0)) rfl)).trans (v41_at _ _ _ _ 0 (i 1))

end Cert.Proof.GdnDx
-- ==== Proof.KvDx.lean ====
/-
  The gradient of the norm before the shared keys and values, fused with the product of their gradient by the transpose of
  their weight.
-/
module

public import proofs.«01_k».proof.Defs
public import proofs.«01_k».proof.Proof.NormDx
public import proofs.«01_k».proof.Proof.Gen.KvDxIdeal.Value
public import proofs.«01_k».proof.Proof.Gen.KvDxRefIdeal.Run
public import proofs.«01_k».proof.Proof.Gen.KvDxRefIdeal.Read

@[expose] public section

set_option maxRecDepth 16384
noncomputable section

open Idealize.ShloMosaic Idealize.ShloMosaic.TcCoe Idealize.SL.Sem
open Idealize.ShloMosaic.Pipeline (Dat)
open Cert.Common Cert.Rms Cert.NormDx

namespace Cert.KvDxIdeal.Val

open Cert.KvDxIdeal Cert.KvDxIdeal.Gen Cert.KvDxIdeal.Value

section pay
variable (a : Vec Ideal S512x2048 .bf16) (b : Vec Ideal S2048x1024 .bf16) (x d : Vec Ideal S512x1024 .f32) (g : Vec Ideal S1x1024 .f32)

theorem prod_at (r : Fin 512) (l : Fin 1024) : k0_pay3 (F := Ideal) (k0_pay1 (F := Ideal)) a b (ix2 r l) = prodn a b r l := by
  pointwise [k0_pay3, k0_pay1]
  rfl
theorem dx_at (y : Vec Ideal S512x1024 .f32) (r : Fin 512) (l : Fin 1024) :
    k0_pay6 (F := Ideal) y x g d (ix2 r l) = ndx x (fun j => g (ix2 0 j)) (fun r l => y (ix2 r l)) d r l := by
  unfold ndx kdx
  pointwise [k0_pay6, k0_pay5]
  rw [sub_eq_add_neg, add_assoc]
  rfl
theorem dxc_at (y : Vec Ideal S512x1024 .f32) (r : Fin 512) (l : Fin 1024) :
    k0_pay7 (F := Ideal) y x g d (ix2 r l) = ndx x (fun j => g (ix2 0 j)) (fun r l => y (ix2 r l)) d r l := by
  refine Eq.trans ?_ (dx_at x d g y r l)
  pointwise [k0_pay7]
theorem dw_at (p : Vec Ideal S1x1024 .f32) (y : Vec Ideal S512x1024 .f32) (l : Fin 1024) :
    k0_pay4 (F := Ideal) (k0_pay8 p) (k0_pay9 y x) (ix2 0 l) = (p (ix2 0 l) + ndw x (fun r l => y (ix2 r l)) l : EReal) := by
  pointwise [k0_pay4, k0_pay8, k0_pay9, k0_pay5]
  rfl
end pay

section body
variable (c : Dev nD) (i : grid0.Coords) (a3 : Memref sig .tc .vmem S512x2048 .bf16) (h3 : a3.IsWhole)
  (a4 : Memref sig .tc .vmem S2048x1024 .bf16) (h4 : a4.IsWhole) (a5 : Memref sig .tc .vmem S512x1024 .f32) (h5 : a5.IsWhole)
  (a6 : Memref sig .tc .vmem S1x1024 .f32) (h6 : a6.IsWhole) (a7 : Memref sig .tc .vmem S512x1024 .f32) (h7 : a7.IsWhole)
  (a8 : Memref sig .tc .vmem S512x1024 .f32) (h8 : a8.IsWhole) (a9 : Memref sig .tc .vmem S512x1024 .bf16) (h9 : a9.IsWhole)
  (a10 : Memref sig .tc .vmem S1x1024 .f32) (h10 : a10.IsWhole) (a11 : Memref sig .tc .vmem S512x1024 .f32) (h11 : a11.IsWhole)
  (hc0 : cond0_0 i) (hc2 : cond0_2 i) (a : Vec Ideal S512x2048 .bf16) (b : Vec Ideal S2048x1024 .bf16) (x : Vec Ideal S512x1024 .f32) (g : Vec Ideal S1x1024 .f32)
  (d : Vec Ideal S512x1024 .f32)

set_option maxHeartbeats 1000000 in
theorem out_A (hc1 : cond0_1 i) :
    (∀ r l, out0_A_5 c i a3 h3 a4 h4 a5 h5 a6 h6 a7 h7 a8 h8 a9 h9 a10 h10 a11 h11 hc0 hc1 hc2 a b x g d (ix2 r l) = ndx x (fun j => g (ix2 0 j)) (prodn a b) d r l)
      ∧ (∀ r l, out0_A_6 c i a3 h3 a4 h4 a5 h5 a6 h6 a7 h7 a8 h8 a9 h9 a10 h10 a11 h11 hc0 hc1 hc2 a b x g d (ix2 r l) = ndx x (fun j => g (ix2 0 j)) (prodn a b) d r l)
      ∧ ∀ l, out0_A_7 c i a3 h3 a4 h4 a5 h5 a6 h6 a7 h7 a8 h8 a9 h9 a10 h10 a11 h11 hc0 hc1 hc2 a b x g d (ix2 0 l) = ndw x (prodn a b) l := by
  unfold out0_A_5 out0_A_6 out0_A_7
  rw [View.read_writes_eq_canon _ _ _ (fun _ => cover0_A_5 ..), View.read_writes_eq_canon _ _ _ (fun _ => cover0_A_6 ..),
    View.read_writes_eq_canon _ _ _ (fun _ => cover0_A_7 ..)]
  unfold kernelRun0_A
  dsimp only
  sl_unfold_words
  rw [View.canon_unit_zero hz2, View.canon_unit_zero hz2, View.canon_cons_unit_zero hz2]
  simp only [View.readAt_eq_ld, h3.read_unread, h4.read_unread, h5.read_unread, h6.read_unread, h7.read_unread, h10.read_unread,
    ld_all, View.readCov_cons_toLoadRect, cov_all]
  refine ⟨fun r l => (dx_at x d g _ r l).trans (by simp only [prod_at]), fun r l => (dxc_at x d g _ r l).trans (by simp only [prod_at]),
    fun l => (dw_at x _ _ l).trans ((congrArg₂ (· + ·) (?_ : _ = (0 : EReal)) (by simp only [prod_at])).trans (zero_add _))⟩
  pointwise [k0_pay2]
set_option maxHeartbeats 1000000 in
theorem out_B (hc1 : ¬cond0_1 i) (p : Vec Ideal S1x1024 .f32) :
    (∀ r l, out0_B_5 c i a3 h3 a4 h4 a5 h5 a6 h6 a7 h7 a8 h8 a9 h9 a10 h10 a11 h11 hc0 hc1 hc2 a b x g d p (ix2 r l) = ndx x (fun j => g (ix2 0 j)) (prodn a b) d r l)
      ∧ (∀ r l, out0_B_6 c i a3 h3 a4 h4 a5 h5 a6 h6 a7 h7 a8 h8 a9 h9 a10 h10 a11 h11 hc0 hc1 hc2 a b x g d p (ix2 r l) = ndx x (fun j => g (ix2 0 j)) (prodn a b) d r l)
      ∧ ∀ l, out0_B_7 c i a3 h3 a4 h4 a5 h5 a6 h6 a7 h7 a8 h8 a9 h9 a10 h10 a11 h11 hc0 hc1 hc2 a b x g d p (ix2 0 l) = (p (ix2 0 l) + ndw x (prodn a b) l : EReal) := by
  unfold out0_B_5 out0_B_6 out0_B_7
  rw [View.read_writes_eq_canon _ _ _ (fun _ => cover0_B_5 ..), View.read_writes_eq_canon _ _ _ (fun _ => cover0_B_6 ..),
    View.read_writes_eq_canon _ _ _ (fun _ => cover0_B_7 ..)]
  unfold kernelRun0_B
  dsimp only
  sl_unfold_words
  rw [View.canon_unit_zero hz2, View.canon_unit_zero hz2, View.canon_unit_zero hz2]
  simp only [View.readAt_eq_ld, h3.read_unread, h4.read_unread, h5.read_unread, h6.read_unread, h7.read_unread, h10.read_unread,
    ld_all, View.readCov_cons_toLoadRect, cov_all]
  exact ⟨fun r l => (dx_at x d g _ r l).trans (by simp only [prod_at]), fun r l => (dxc_at x d g _ r l).trans (by simp only [prod_at]),
    fun l => (dw_at x _ _ l).trans (by simp only [prod_at])⟩
end body

/-! ## The blocks and the arrays -/

variable (m : (ℓ : Loc nD τ sig) → Buf (Elt Ideal) ℓ) (c : Dev nD) (t : Fin cfg0.N)

/-- The hidden state, the norm's weight, the gate's weight, the gate's gradient and the gradient that passes the norm by. -/
abbrev hx : S4096x1024.Idx → EReal := m ((c : Thread nD τ).loc main_arg0)
abbrev hg : S1024.Idx → EReal := m ((c : Thread nD τ).loc main_arg1)
abbrev hw : S1024x2048.Idx → EReal := m ((c : Thread nD τ).loc main_arg2)
abbrev hy : S4096x2048.Idx → EReal := m ((c : Thread nD τ).loc main_arg3)
abbrev hd : S4096x1024.Idx → EReal := m ((c : Thread nD τ).loc main_arg4)

/-- The results' elements. -/
def dx (r : Fin 4096) (l : Fin 1024) : EReal := ndx (hx m c) (fun j => hg m c (ix1 j)) (prod (hy m c) (hw m c)) (hd m c) r l
def dw (l : Fin 1024) : EReal := ndw (hx m c) (prod (hy m c) (hw m c)) l

def arr5 : Vec Ideal S4096x1024 .f32 := fun i => dx m c (i 0) (i 1)
def arr6 : Vec Ideal S4096x1024 .bf16 := fun i => dx m c (i 0) (i 1)
def arr7 : Vec Ideal S1x1024 .f32 := fun i => dw m c (i 1)

theorem V_a_at (i : S4096x2048.Idx) : V m c main_v0 i = hy m c i := by
  have e : V m c main_v0 = (truncf (F := Ideal) .bf16 (hy m c) bitsLt_bf16_f32 : Vec Ideal S4096x2048 .bf16) := by
    simp only [V, hostOps0]; after_results; try rfl
  rw [e]
  rfl
theorem V_w_at (r : Fin 2048) (l : Fin 1024) : V m c main_v2 (ix2 r l : S2048x1024.Idx) = hw m c (ix2 l r) := by
  have e : V m c main_v2 = (truncf (F := Ideal) .bf16 (transpose S2048x1024 [1, 0] (hw m c) transposes_S1024x2048_S2048x1024_1_0) bitsLt_bf16_f32 : Vec Ideal S2048x1024 .bf16) := by
    simp only [V, hostOps0]; after_results; try rfl
  rw [e]
  pointwise []
theorem V_g_at (r : Fin 1) (l : Fin 1024) : V m c main_v3 (ix2 r l : S1x1024.Idx) = hg m c (ix1 l) := by
  have e : V m c main_v3 = (shapeCast S1x1024 (hg m c) shapeCasts_S1024_S1x1024 : Vec Ideal S1x1024 .f32) := by
    simp only [V, hostOps0]; after_results; try rfl
  rw [e]
  pointwise []

/-- Row `r` of the block of point `t`. -/
def row (r : Fin 512) : Fin 4096 := ⟨512 * t.val + r.val, by have h : t.val < 8 := N_0 ▸ t.isLt; omega⟩
def at1 (j : S512x1024.Idx) : S4096x1024.Idx := ix2 (row t (j 0)) (j 1)

theorem index_in : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ win0_4.index t 0 = t.val ∧ win0_4.index t 1 = 0 := by decide +kernel
theorem index_out : ∀ t : Fin grid0.N, (win0_5.index t 0 = t.val ∧ win0_5.index t 1 = 0) ∧ (win0_6.index t 0 = t.val ∧ win0_6.index t 1 = 0)
    ∧ win0_7.index t 0 = 0 ∧ win0_7.index t 1 = 0 := by decide +kernel

theorem iblk0 (j : S512x2048.Idx) : iblk m c 0 t j = hy m c (ix2 (row t (j 0)) (j 1)) := by
  unfold iblk
  rw [View.read_apply]
  refine Eq.trans (congrArg (V m c main_v0) (idx2 (j := ix2 (row t (j 0)) (j 1)) ?_ ?_)) (V_a_at m c _)
  · show win0_0.index t 0 * 512 + 1 * (j 0).val = 512 * t.val + (j 0).val; rw [(index_in t).1.1]; omega
  · show win0_0.index t 1 * 2048 + 1 * (j 1).val = (j 1).val; rw [(index_in t).1.2]; omega
theorem iblk1 (j : S2048x1024.Idx) : iblk m c 1 t j = hw m c (ix2 (j 1) (j 0)) := by
  unfold iblk
  rw [View.read_apply]
  refine Eq.trans (congrArg (V m c main_v2) (idx2 (j := ix2 (j 0) (j 1)) ?_ ?_)) (V_w_at m c (j 0) (j 1))
  · show win0_1.index t 0 * 2048 + 1 * (j 0).val = (j 0).val; rw [(index_in t).2.1.1]; omega
  · show win0_1.index t 1 * 1024 + 1 * (j 1).val = (j 1).val; rw [(index_in t).2.1.2]; omega
theorem iblk2 (j : S512x1024.Idx) : iblk m c 2 t j = hx m c (at1 t j) := by
  unfold iblk
  rw [View.read_apply]
  refine congrArg (V m c main_arg0) (idx2 (j := at1 t j) ?_ ?_)
  · show win0_2.index t 0 * 512 + 1 * (j 0).val = 512 * t.val + (j 0).val; rw [(index_in t).2.2.1.1]; omega
  · show win0_2.index t 1 * 1024 + 1 * (j 1).val = (j 1).val; rw [(index_in t).2.2.1.2]; omega
theorem iblk3 (j : S1x1024.Idx) : iblk m c 3 t j = hg m c (ix1 (j 1)) := by
  unfold iblk
  rw [View.read_apply]
  refine Eq.trans (congrArg (V m c main_v3) (idx2 (j := ix2 (j 0) (j 1)) ?_ ?_)) (V_g_at m c (j 0) (j 1))
  · show win0_3.index t 0 * 1 + 1 * (j 0).val = (j 0).val; rw [(index_in t).2.2.2.1.1]; omega
  · show win0_3.index t 1 * 1024 + 1 * (j 1).val = (j 1).val; rw [(index_in t).2.2.2.1.2]; omega
theorem iblk4 (j : S512x1024.Idx) : iblk m c 4 t j = hd m c (at1 t j) := by
  unfold iblk
  rw [View.read_apply]
  refine congrArg (V m c main_arg4) (idx2 (j := at1 t j) ?_ ?_)
  · show win0_4.index t 0 * 512 + 1 * (j 0).val = 512 * t.val + (j 0).val; rw [(index_in t).2.2.2.2.1]; omega
  · show win0_4.index t 1 * 1024 + 1 * (j 1).val = (j 1).val; rw [(index_in t).2.2.2.2.2]; omega

theorem emb5 (j : S512x1024.Idx) : ((cfg0.win 5).blk t).view.emb j = at1 t j :=
  idx2 (by show win0_5.index t 0 * 512 + 1 * (j 0).val = 512 * t.val + (j 0).val; rw [(index_out t).1.1]; omega)
    (by show win0_5.index t 1 * 1024 + 1 * (j 1).val = (j 1).val; rw [(index_out t).1.2]; omega)
theorem emb6 (j : S512x1024.Idx) : ((cfg0.win 6).blk t).view.emb j = at1 t j :=
  idx2 (by show win0_6.index t 0 * 512 + 1 * (j 0).val = 512 * t.val + (j 0).val; rw [(index_out t).2.1.1]; omega)
    (by show win0_6.index t 1 * 1024 + 1 * (j 1).val = (j 1).val; rw [(index_out t).2.1.2]; omega)
theorem emb7 (j : S1x1024.Idx) : ((cfg0.win 7).blk t).view.emb j = j :=
  idx2 (by show win0_7.index t 0 * 1 + 1 * (j 0).val = (j 0).val; rw [(index_out t).2.2.1]; omega)
    (by show win0_7.index t 1 * 1024 + 1 * (j 1).val = (j 1).val; rw [(index_out t).2.2.2]; omega)

theorem covered (i : S4096x1024.Idx) : ∃ (t : Fin cfg0.N) (j : S512x1024.Idx), at1 t j = i := by
  have h : (i 0).val < 4096 := (i 0).isLt
  exact ⟨⟨(i 0).val / 512, by show _ < grid0.N; rw [N_0]; omega⟩, ix2 ⟨(i 0).val % 512, by omega⟩ (i 1),
    idx2 (by show 512 * ((i 0).val / 512) + (i 0).val % 512 = (i 0).val; omega) rfl⟩

/-! ## What the arrays hold at the end -/

/-- The block of point `t` holds the rows of the result. -/
theorem block_dx (r : Fin 512) (l : Fin 1024) :
    ndx (iblk m c 2 t) (fun j => iblk m c 3 t (ix2 0 j)) (prodn (iblk m c 0 t) (iblk m c 1 t)) (iblk m c 4 t) r l = dx m c (row t r) l := by
  unfold ndx prodn mrow
  simp only [iblk0, iblk1, iblk2, iblk3, iblk4]
  rfl

theorem left5 (r : Fin 512) (l : Fin 1024) : (outsAt0 m c t.val t.isLt).1 (ix2 r l) = dx m c (row t r) l := by
  by_cases h1 : t.val % 8 = 0
  · rw [outsAt0_A m c t h1]
    dsimp only
    rw [(out_A ..).1, block_dx]
  · rw [outsAt0_B m c t h1]
    dsimp only
    rw [(out_B ..).1, block_dx]
theorem left6 (r : Fin 512) (l : Fin 1024) : (outsAt0 m c t.val t.isLt).2.1 (ix2 r l) = dx m c (row t r) l := by
  by_cases h1 : t.val % 8 = 0
  · rw [outsAt0_A m c t h1]
    dsimp only
    rw [(out_A ..).2.1, block_dx]
  · rw [outsAt0_B m c t h1]
    dsimp only
    rw [(out_B ..).2.1, block_dx]

/-- What the block of point `t` adds to the weight's gradient. -/
def part (l : Fin 1024) : EReal :=
  ∑ r : Fin 512, prod (hy m c) (hw m c) (row t r) l * hx m c (ix2 (row t r) l) * rinv eps wide (mrow (hx m c) (row t r))

theorem part_eq (l : Fin 1024) : ndw (iblk m c 2 t) (prodn (iblk m c 0 t) (iblk m c 1 t)) l = part m c t l := by
  unfold ndw prodn mrow part
  simp only [iblk0, iblk1, iblk2]
  rfl

theorem left7_A (h1 : t.val % 8 = 0) (l : Fin 1024) :
    (outsAt0 m c t.val t.isLt).2.2 (ix2 0 l) = part m c t l := by
  rw [outsAt0_A m c t h1]
  dsimp only
  rw [(out_A ..).2.2, part_eq]
theorem left7_B (h1 : ¬t.val % 8 = 0) (l : Fin 1024) : (outsAt0 m c t.val t.isLt).2.2 (ix2 0 l)
    = ((outsAt0 m c (t.val - 1) (pred_lt t)).2.2 (ix2 0 l) + part m c t l : EReal) := by
  rw [outsAt0_B m c t h1]
  dsimp only
  rw [(out_B ..).2.2, part_eq]

theorem step_ne {n : ℕ} (h : n + 1 < cfg0.N) : ¬(n + 1) % 8 = 0 := by have : n + 1 < 8 := N_0 ▸ h; omega

theorem left7 (l : Fin 1024) (n : ℕ) (h : n < cfg0.N) : (outsAt0 m c n h).2.2 (ix2 0 l)
    = ∑ k : Fin (n + 1), part m c ⟨k.val, by omega⟩ l :=
  sum_of_steps (α := EReal) (fun n h => (outsAt0 m c n h).2.2 (ix2 0 l)) (fun n h => part m c ⟨n, h⟩ l)
    (fun h => left7_A m c ⟨0, h⟩ (Nat.zero_mod _) l) (fun n h => left7_B m c ⟨n + 1, h⟩ (step_ne h) l) n h

theorem final5 : (dats m 0 c).arrAt 5 cfg0.N = arr5 m c := by
  refine (dats m 0 c).arrAt_eq_of_cover 5 (arr5 m c) (fun t _ => ?_) fun i => ?_
  · rw [flushed5]
    funext j
    rw [View.read_apply, emb5]
    show (outsAt0 m c t.val t.isLt).1 j = dx m c (row t (j 0)) (j 1)
    exact (congrArg _ (eq_ix2 j)).trans (left5 m c t (j 0) (j 1))
  · obtain ⟨t, j, rfl⟩ := covered i
    exact ⟨t, flush0_5 t, emb5 t j ▸ View.emb_mem_set _ _⟩
theorem final6 : (dats m 0 c).arrAt 6 cfg0.N = arr6 m c := by
  refine (dats m 0 c).arrAt_eq_of_cover 6 (arr6 m c) (fun t _ => ?_) fun i => ?_
  · rw [flushed6]
    funext j
    rw [View.read_apply, emb6]
    show (outsAt0 m c t.val t.isLt).2.1 j = dx m c (row t (j 0)) (j 1)
    exact (congrArg _ (eq_ix2 j)).trans (left6 m c t (j 0) (j 1))
  · obtain ⟨t, j, rfl⟩ := covered i
    exact ⟨t, flush0_6 t, emb6 t j ▸ View.emb_mem_set _ _⟩

/-- The sum over the blocks is the sum over the rows. -/
theorem over_rows (f : Fin 4096 → EReal) (t : Fin cfg0.N) (ht : t.val % 8 = 7) :
    (∑ k : Fin (t.val + 1), ∑ r : Fin 512, f (row ⟨k.val, Nat.lt_of_le_of_lt (Nat.le_of_lt_succ k.isLt) t.isLt⟩ r)) = ∑ r, f r := by
  have h4 : t.val + 1 = 8 := by have : t.val < 8 := N_0 ▸ t.isLt; omega
  rw [Fin.sum_univ_tiles 8 512 rfl f]
  refine Fintype.sum_equiv (finCongr h4) _ _ fun k => Finset.sum_congr rfl fun r _ => congrArg f (Fin.ext ?_)
  show 512 * k.val + r.val = k.val * 512 + r.val
  omega

theorem final7 : (dats m 0 c).arrAt 7 cfg0.N = arr7 m c := by
  refine (dats m 0 c).arrAt_eq_of_cover 7 (arr7 m c) (fun t ht => ?_) fun i => ?_
  · rw [flushed7]
    funext j
    rw [View.read_apply, emb7]
    show (outsAt0 m c t.val t.isLt).2.2 j = dw m c (j 1)
    refine (congrArg _ (idx2 (j := ix2 0 (j 1)) (Fin.val_eq_zero (j 0)) rfl)).trans ((left7 m c (j 1) t.val t.isLt).trans ?_)
    exact over_rows (fun r => prod (hy m c) (hw m c) r (j 1) * hx m c (ix2 r (j 1)) * rinv eps wide (mrow (hx m c) r)) t ((flush0_7 t).mp ht)
  · exact ⟨⟨7, by rw [show cfg0.N = 8 from N_0]; omega⟩, (flush0_7 _).mpr rfl, emb7 ⟨7, _⟩ i ▸ View.emb_mem_set _ _⟩

end Cert.KvDxIdeal.Val

/-! ## The reference -/

namespace Cert.KvDxRefIdeal.Val

open Cert.KvDxRefIdeal Cert.KvDxRefIdeal.Read

section read
variable (x0 : S4096x1024.Idx → EReal) (x1 : S1024.Idx → EReal) (x2 : S1024x2048.Idx → EReal) (x3 : S4096x2048.Idx → EReal) (x4 : S4096x1024.Idx → EReal)

theorem v38_at (r : Fin 4096) (l : Fin 1024) :
    val_main_v38 (F := Ideal) x0 x1 x2 x3 x4 (ix2 r l) = ndx x0 (fun j => x1 (ix1 j)) (prod x3 x2) x4 r l := by
  unfold ndx
  rw [← rdx_eq f1024_f32 (by norm_num)]
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v13, val_main_v17, val_main_v21,
    val_main_v22, val_main_v24, val_main_cst_5, val_main_v25, val_main_v26, val_main_v27, val_main_v28, val_main_v29, val_main_v30,
    val_main_cst_6, val_main_v31, val_main_v32, val_main_cst_7, val_main_v33, val_main_v34, val_main_v35, val_main_v36, val_main_v37,
    val_main_v38]
  simp only [Fin.sum_univ_one]
  unfold rdx
  rw [← add_assoc, ← add_assoc]
  rfl
theorem v40_at (r : Fin 1) (l : Fin 1024) : val_main_v40 (F := Ideal) x0 x2 x3 (ix2 r l) = ndw x0 (prod x3 x2) l := by
  pointwise [val_main_v0, val_main_cst, val_main_v1, val_main_v2, val_main_cst_0, val_main_v3, val_main_v4, val_main_cst_1, val_main_v5,
    val_main_v6, val_main_v7, val_main_v11, val_main_v12, val_main_v17, val_main_v18, val_main_cst_3, val_main_v19, val_main_v20,
    val_main_cst_4, val_main_v23, val_main_v40]
  simp only [Fin.sum_univ_one]
  refine Finset.sum_congr rfl fun r _ => ?_
  show x0 (ix2 r l) * rinv eps wide (mrow x0 r) * prod x3 x2 r l = prod x3 x2 r l * x0 (ix2 r l) * rinv eps wide (mrow x0 r)
  rw [mul_comm, ← mul_assoc]
end read
end Cert.KvDxRefIdeal.Val

namespace Cert.Proof.KvDx

open Cert.KvDxIdeal Cert.KvDxIdeal.Gen Cert.KvDxIdeal.Value Cert.KvDxIdeal.Val Cert.KvDxRefIdeal.Val Cert.KvDxRefIdeal.Read

/-- The reference writes no argument and awaits nothing. -/
theorem frame_ref : Cert.quiescent_KvDxRefIdeal := fun m ρ _ =>
  (θ_run Cert.KvDxRefIdeal.defs _ _).mono (fun r h => ⟨fun c => (h c).2.2.2,
      Idealize.ShloMosaic.sem_eq_zero_of_no_sems (by decide) r.2⟩)
    (Cert.KvDxRefIdeal.Value.run (F := Ideal) m ρ)

/-- Both programs end with the gradient of the norm's input, its rounded copy, and that of the norm's weight. -/
theorem algebraic : Cert.algebraic_KvDxIdeal_KvDxRefIdeal := by
  intro m ρ m' ρ' _ hagree
  refine ⟨arr5 m, arr6 m, arr7 m, ?_, ?_⟩
  · refine (θ_run Cert.KvDxIdeal.defs _ _).mono (fun r h c => ?_) (Cert.KvDxIdeal.Value.run_blocks (F := Ideal) m ρ)
    obtain ⟨h5, h6, h7, ha⟩ := h c
    exact ⟨h5.trans (final5 m c), h6.trans (final6 m c), h7.trans (final7 m c), ha⟩
  · refine (θ_run Cert.KvDxRefIdeal.defs _ _).mono (fun r h c => ?_) (Cert.KvDxRefIdeal.Value.run (F := Ideal) m' ρ')
    obtain ⟨h5, h6, h7, ha⟩ := h c
    obtain ⟨e0, e1, e2, e3, e4⟩ := hagree c
    refine ⟨(h5.trans (val_main_v38_eq _ _)).trans ?_, (h6.trans (val_main_v39_eq _ _)).trans ?_, (h7.trans (val_main_v40_eq _ _ _)).trans ?_, ha⟩
    iterate 2
      · rw [e0, e1, e2, e3, e4]
        funext i
        exact (congrArg _ (eq_ix2 i)).trans (v38_at _ _ _ _ _ (i 0) (i 1))
    · rw [e0, e2, e3]
      funext i
      exact (congrArg _ (idx2 (j := ix2 0 (i 1)) (Fin.val_eq_zero (i 0)) rfl)).trans (v40_at _ _ _ 0 (i 1))

end Cert.Proof.KvDx
-- ==== Proof.SbQDx.lean ====
/-
  The gradient of the norm before the stick-breaking mixer, fused with the product of the queries' gradient by the transpose
  of their weight.
-/
module

public import proofs.«01_k».proof.Defs
public import proofs.«01_k».proof.Proof.NormDx
public import proofs.«01_k».proof.Proof.Gen.SbQDxIdeal.Value
public import proofs.«01_k».proof.Proof.Gen.SbQDxRefIdeal.Run
public import proofs.«01_k».proof.Proof.Gen.SbQDxRefIdeal.Read

@[expose] public section

set_option maxRecDepth 16384
noncomputable section

open Idealize.ShloMosaic Idealize.ShloMosaic.TcCoe Idealize.SL.Sem
open Idealize.ShloMosaic.Pipeline (Dat)
open Cert.Common Cert.Rms Cert.NormDx

namespace Cert.SbQDxIdeal.Val

open Cert.SbQDxIdeal Cert.SbQDxIdeal.Gen Cert.SbQDxIdeal.Value

section pay
variable (a b : Vec Ideal S1024x1024 .bf16) (x d : Vec Ideal S1024x1024 .f32) (g : Vec Ideal S1x1024 .f32)

theorem prod_at (r l : Fin 1024) : k0_pay3 (F := Ideal) (k0_pay1 (F := Ideal)) a b (ix2 r l) = prod a b r l := by
  pointwise [k0_pay3, k0_pay1]
  rfl
theorem dx_at (y : Vec Ideal S1024x1024 .f32) (r l : Fin 1024) :
    k0_pay6 (F := Ideal) y x g d (ix2 r l) = ndx x (fun j => g (ix2 0 j)) (fun r l => y (ix2 r l)) d r l := by
  unfold ndx kdx
  pointwise [k0_pay6, k0_pay5]
  rw [sub_eq_add_neg, add_assoc]
  rfl
theorem dxc_at (y : Vec Ideal S1024x1024 .f32) (r l : Fin 1024) :
    k0_pay7 (F := Ideal) y x g d (ix2 r l) = ndx x (fun j => g (ix2 0 j)) (fun r l => y (ix2 r l)) d r l := by
  refine Eq.trans ?_ (dx_at x d g y r l)
  pointwise [k0_pay7]
theorem dw_at (p : Vec Ideal S1x1024 .f32) (y : Vec Ideal S1024x1024 .f32) (l : Fin 1024) :
    k0_pay4 (F := Ideal) (k0_pay8 p) (k0_pay9 y x) (ix2 0 l) = (p (ix2 0 l) + ndw x (fun r l => y (ix2 r l)) l : EReal) := by
  pointwise [k0_pay4, k0_pay8, k0_pay9, k0_pay5]
  rfl
end pay

section body
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .f32) (h8 : a8.IsWhole) (a9 : Memref sig .tc .vmem S1024x1024 .bf16) (h9 : a9.IsWhole)
  (a10 : Memref sig .tc .vmem S1x1024 .f32) (h10 : a10.IsWhole) (a11 : Memref sig .tc .vmem S1024x1024 .f32) (h11 : a11.IsWhole)
  (hc0 : cond0_0 i) (hc2 : cond0_2 i) (a b : Vec Ideal S1024x1024 .bf16) (x : Vec Ideal S1024x1024 .f32) (g : Vec Ideal S1x1024 .f32)
  (d : Vec Ideal S1024x1024 .f32)

set_option maxHeartbeats 1000000 in
theorem out_A (hc1 : cond0_1 i) :
    (∀ r l, out0_A_5 c i a3 h3 a4 h4 a5 h5 a6 h6 a7 h7 a8 h8 a9 h9 a10 h10 a11 h11 hc0 hc1 hc2 a b x g d (ix2 r l) = ndx x (fun j => g (ix2 0 j)) (prod a b) d r l)
      ∧ (∀ r l, out0_A_6 c i a3 h3 a4 h4 a5 h5 a6 h6 a7 h7 a8 h8 a9 h9 a10 h10 a11 h11 hc0 hc1 hc2 a b x g d (ix2 r l) = ndx x (fun j => g (ix2 0 j)) (prod a b) d r l)
      ∧ ∀ l, out0_A_7 c i a3 h3 a4 h4 a5 h5 a6 h6 a7 h7 a8 h8 a9 h9 a10 h10 a11 h11 hc0 hc1 hc2 a b x g d (ix2 0 l) = ndw x (prod a b) l := by
  unfold out0_A_5 out0_A_6 out0_A_7
  rw [View.read_writes_eq_canon _ _ _ (fun _ => cover0_A_5 ..), View.read_writes_eq_canon _ _ _ (fun _ => cover0_A_6 ..),
    View.read_writes_eq_canon _ _ _ (fun _ => cover0_A_7 ..)]
  unfold kernelRun0_A
  dsimp only
  sl_unfold_words
  rw [View.canon_unit_zero hz2, View.canon_unit_zero hz2, View.canon_cons_unit_zero hz2]
  simp only [View.readAt_eq_ld, h3.read_unread, h4.read_unread, h5.read_unread, h6.read_unread, h7.read_unread, h10.read_unread,
    ld_all, View.readCov_cons_toLoadRect, cov_all]
  refine ⟨fun r l => (dx_at x d g _ r l).trans (by simp only [prod_at]), fun r l => (dxc_at x d g _ r l).trans (by simp only [prod_at]),
    fun l => (dw_at x _ _ l).trans ((congrArg₂ (· + ·) (?_ : _ = (0 : EReal)) (by simp only [prod_at])).trans (zero_add _))⟩
  pointwise [k0_pay2]
set_option maxHeartbeats 1000000 in
theorem out_B (hc1 : ¬cond0_1 i) (p : Vec Ideal S1x1024 .f32) :
    (∀ r l, out0_B_5 c i a3 h3 a4 h4 a5 h5 a6 h6 a7 h7 a8 h8 a9 h9 a10 h10 a11 h11 hc0 hc1 hc2 a b x g d p (ix2 r l) = ndx x (fun j => g (ix2 0 j)) (prod a b) d r l)
      ∧ (∀ r l, out0_B_6 c i a3 h3 a4 h4 a5 h5 a6 h6 a7 h7 a8 h8 a9 h9 a10 h10 a11 h11 hc0 hc1 hc2 a b x g d p (ix2 r l) = ndx x (fun j => g (ix2 0 j)) (prod a b) d r l)
      ∧ ∀ l, out0_B_7 c i a3 h3 a4 h4 a5 h5 a6 h6 a7 h7 a8 h8 a9 h9 a10 h10 a11 h11 hc0 hc1 hc2 a b x g d p (ix2 0 l) = (p (ix2 0 l) + ndw x (prod a b) l : EReal) := by
  unfold out0_B_5 out0_B_6 out0_B_7
  rw [View.read_writes_eq_canon _ _ _ (fun _ => cover0_B_5 ..), View.read_writes_eq_canon _ _ _ (fun _ => cover0_B_6 ..),
    View.read_writes_eq_canon _ _ _ (fun _ => cover0_B_7 ..)]
  unfold kernelRun0_B
  dsimp only
  sl_unfold_words
  rw [View.canon_unit_zero hz2, View.canon_unit_zero hz2, View.canon_unit_zero hz2]
  simp only [View.readAt_eq_ld, h3.read_unread, h4.read_unread, h5.read_unread, h6.read_unread, h7.read_unread, h10.read_unread,
    ld_all, View.readCov_cons_toLoadRect, cov_all]
  exact ⟨fun r l => (dx_at x d g _ r l).trans (by simp only [prod_at]), fun r l => (dxc_at x d g _ r l).trans (by simp only [prod_at]),
    fun l => (dw_at x _ _ l).trans (by simp only [prod_at])⟩
end body

/-! ## The blocks and the arrays -/

variable (m : (ℓ : Loc nD τ sig) → Buf (Elt Ideal) ℓ) (c : Dev nD) (t : Fin cfg0.N)

/-- The hidden state, the norm's weight, the gate's weight, the gate's gradient and the gradient that passes the norm by. -/
abbrev hx : S4096x1024.Idx → EReal := m ((c : Thread nD τ).loc main_arg0)
abbrev hg : S1024.Idx → EReal := m ((c : Thread nD τ).loc main_arg1)
abbrev hw : S1024x1024.Idx → EReal := m ((c : Thread nD τ).loc main_arg2)
abbrev hy : S4096x1024.Idx → EReal := m ((c : Thread nD τ).loc main_arg3)
abbrev hd : S4096x1024.Idx → EReal := m ((c : Thread nD τ).loc main_arg4)

/-- The results' elements. -/
def dx (r : Fin 4096) (l : Fin 1024) : EReal := ndx (hx m c) (fun j => hg m c (ix1 j)) (prod (hy m c) (hw m c)) (hd m c) r l
def dw (l : Fin 1024) : EReal := ndw (hx m c) (prod (hy m c) (hw m c)) l

def arr5 : Vec Ideal S4096x1024 .f32 := fun i => dx m c (i 0) (i 1)
def arr6 : Vec Ideal S4096x1024 .bf16 := fun i => dx m c (i 0) (i 1)
def arr7 : Vec Ideal S1x1024 .f32 := fun i => dw m c (i 1)

theorem V_a_at (i : S4096x1024.Idx) : V m c main_v0 i = hy m c i := by
  have e : V m c main_v0 = (truncf (F := Ideal) .bf16 (hy m c) bitsLt_bf16_f32 : Vec Ideal S4096x1024 .bf16) := by
    simp only [V, hostOps0]; after_results; try rfl
  rw [e]
  rfl
theorem V_w_at (r l : Fin 1024) : V m c main_v1 (ix2 r l : S1024x1024.Idx) = hw m c (ix2 r l) := by
  have e : V m c main_v1 = (truncf (F := Ideal) .bf16 (hw m c) bitsLt_bf16_f32 : Vec Ideal S1024x1024 .bf16) := by
    simp only [V, hostOps0]; after_results; try rfl
  rw [e]
  pointwise []
theorem V_g_at (r : Fin 1) (l : Fin 1024) : V m c main_v3 (ix2 r l : S1x1024.Idx) = hg m c (ix1 l) := by
  have e : V m c main_v3 = (shapeCast S1x1024 (hg m c) shapeCasts_S1024_S1x1024 : Vec Ideal S1x1024 .f32) := by
    simp only [V, hostOps0]; after_results; try rfl
  rw [e]
  pointwise []

/-- Row `r` of the block of point `t`. -/
def row (r : Fin 1024) : Fin 4096 := ⟨1024 * t.val + r.val, by have h : t.val < 4 := N_0 ▸ t.isLt; omega⟩
def at1 (j : S1024x1024.Idx) : S4096x1024.Idx := ix2 (row t (j 0)) (j 1)

theorem index_in : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ win0_4.index t 0 = t.val ∧ win0_4.index t 1 = 0 := by decide +kernel
theorem index_out : ∀ t : Fin grid0.N, (win0_5.index t 0 = t.val ∧ win0_5.index t 1 = 0) ∧ (win0_6.index t 0 = t.val ∧ win0_6.index t 1 = 0)
    ∧ win0_7.index t 0 = 0 ∧ win0_7.index t 1 = 0 := by decide +kernel

theorem iblk0 (j : S1024x1024.Idx) : iblk m c 0 t j = hy m c (ix2 (row t (j 0)) (j 1)) := by
  unfold iblk
  rw [View.read_apply]
  refine Eq.trans (congrArg (V m c main_v0) (idx2 (j := ix2 (row t (j 0)) (j 1)) ?_ ?_)) (V_a_at m c _)
  · show win0_0.index t 0 * 1024 + 1 * (j 0).val = 1024 * t.val + (j 0).val; rw [(index_in t).1.1]; omega
  · show win0_0.index t 1 * 1024 + 1 * (j 1).val = (j 1).val; rw [(index_in t).1.2]; omega
theorem iblk1 (j : S1024x1024.Idx) : iblk m c 1 t j = hw m c (ix2 (j 0) (j 1)) := by
  unfold iblk
  rw [View.read_apply]
  refine Eq.trans (congrArg (V m c main_v1) (idx2 (j := ix2 (j 0) (j 1)) ?_ ?_)) (V_w_at m c (j 0) (j 1))
  · show win0_1.index t 0 * 1024 + 1 * (j 0).val = (j 0).val; rw [(index_in t).2.1.1]; omega
  · show win0_1.index t 1 * 1024 + 1 * (j 1).val = (j 1).val; rw [(index_in t).2.1.2]; omega
theorem iblk2 (j : S1024x1024.Idx) : iblk m c 2 t j = hx m c (at1 t j) := by
  unfold iblk
  rw [View.read_apply]
  refine congrArg (V m c main_arg0) (idx2 (j := at1 t j) ?_ ?_)
  · show win0_2.index t 0 * 1024 + 1 * (j 0).val = 1024 * t.val + (j 0).val; rw [(index_in t).2.2.1.1]; omega
  · show win0_2.index t 1 * 1024 + 1 * (j 1).val = (j 1).val; rw [(index_in t).2.2.1.2]; omega
theorem iblk3 (j : S1x1024.Idx) : iblk m c 3 t j = hg m c (ix1 (j 1)) := by
  unfold iblk
  rw [View.read_apply]
  refine Eq.trans (congrArg (V m c main_v3) (idx2 (j := ix2 (j 0) (j 1)) ?_ ?_)) (V_g_at m c (j 0) (j 1))
  · show win0_3.index t 0 * 1 + 1 * (j 0).val = (j 0).val; rw [(index_in t).2.2.2.1.1]; omega
  · show win0_3.index t 1 * 1024 + 1 * (j 1).val = (j 1).val; rw [(index_in t).2.2.2.1.2]; omega
theorem iblk4 (j : S1024x1024.Idx) : iblk m c 4 t j = hd m c (at1 t j) := by
  unfold iblk
  rw [View.read_apply]
  refine congrArg (V m c main_arg4) (idx2 (j := at1 t j) ?_ ?_)
  · show win0_4.index t 0 * 1024 + 1 * (j 0).val = 1024 * t.val + (j 0).val; rw [(index_in t).2.2.2.2.1]; omega
  · show win0_4.index t 1 * 1024 + 1 * (j 1).val = (j 1).val; rw [(index_in t).2.2.2.2.2]; omega

theorem emb5 (j : S1024x1024.Idx) : ((cfg0.win 5).blk t).view.emb j = at1 t j :=
  idx2 (by show win0_5.index t 0 * 1024 + 1 * (j 0).val = 1024 * t.val + (j 0).val; rw [(index_out t).1.1]; omega)
    (by show win0_5.index t 1 * 1024 + 1 * (j 1).val = (j 1).val; rw [(index_out t).1.2]; omega)
theorem emb6 (j : S1024x1024.Idx) : ((cfg0.win 6).blk t).view.emb j = at1 t j :=
  idx2 (by show win0_6.index t 0 * 1024 + 1 * (j 0).val = 1024 * t.val + (j 0).val; rw [(index_out t).2.1.1]; omega)
    (by show win0_6.index t 1 * 1024 + 1 * (j 1).val = (j 1).val; rw [(index_out t).2.1.2]; omega)
theorem emb7 (j : S1x1024.Idx) : ((cfg0.win 7).blk t).view.emb j = j :=
  idx2 (by show win0_7.index t 0 * 1 + 1 * (j 0).val = (j 0).val; rw [(index_out t).2.2.1]; omega)
    (by show win0_7.index t 1 * 1024 + 1 * (j 1).val = (j 1).val; rw [(index_out t).2.2.2]; omega)

theorem covered (i : S4096x1024.Idx) : ∃ (t : Fin cfg0.N) (j : S1024x1024.Idx), at1 t j = i := by
  have h : (i 0).val < 4096 := (i 0).isLt
  exact ⟨⟨(i 0).val / 1024, by show _ < grid0.N; rw [N_0]; omega⟩, ix2 ⟨(i 0).val % 1024, by omega⟩ (i 1),
    idx2 (by show 1024 * ((i 0).val / 1024) + (i 0).val % 1024 = (i 0).val; omega) rfl⟩

/-! ## What the arrays hold at the end -/

/-- The block of point `t` holds the rows of the result. -/
theorem block_dx (r l : Fin 1024) :
    ndx (iblk m c 2 t) (fun j => iblk m c 3 t (ix2 0 j)) (prod (iblk m c 0 t) (iblk m c 1 t)) (iblk m c 4 t) r l = dx m c (row t r) l := by
  unfold ndx prod mrow
  simp only [iblk0, iblk1, iblk2, iblk3, iblk4]
  rfl

theorem left5 (r l : Fin 1024) : (outsAt0 m c t.val t.isLt).1 (ix2 r l) = dx m c (row t r) l := by
  by_cases h1 : t.val % 4 = 0
  · rw [outsAt0_A m c t h1]
    dsimp only
    rw [(out_A ..).1, block_dx]
  · rw [outsAt0_B m c t h1]
    dsimp only
    rw [(out_B ..).1, block_dx]
theorem left6 (r l : Fin 1024) : (outsAt0 m c t.val t.isLt).2.1 (ix2 r l) = dx m c (row t r) l := by
  by_cases h1 : t.val % 4 = 0
  · rw [outsAt0_A m c t h1]
    dsimp only
    rw [(out_A ..).2.1, block_dx]
  · rw [outsAt0_B m c t h1]
    dsimp only
    rw [(out_B ..).2.1, block_dx]

/-- What the block of point `t` adds to the weight's gradient. -/
def part (l : Fin 1024) : EReal :=
  ∑ r : Fin 1024, prod (hy m c) (hw m c) (row t r) l * hx m c (ix2 (row t r) l) * rinv eps wide (mrow (hx m c) (row t r))

theorem part_eq (l : Fin 1024) : ndw (iblk m c 2 t) (prod (iblk m c 0 t) (iblk m c 1 t)) l = part m c t l := by
  unfold ndw prod mrow part
  simp only [iblk0, iblk1, iblk2]
  rfl

theorem left7_A (h1 : t.val % 4 = 0) (l : Fin 1024) :
    (outsAt0 m c t.val t.isLt).2.2 (ix2 0 l) = part m c t l := by
  rw [outsAt0_A m c t h1]
  dsimp only
  rw [(out_A ..).2.2, part_eq]
theorem left7_B (h1 : ¬t.val % 4 = 0) (l : Fin 1024) : (outsAt0 m c t.val t.isLt).2.2 (ix2 0 l)
    = ((outsAt0 m c (t.val - 1) (pred_lt t)).2.2 (ix2 0 l) + part m c t l : EReal) := by
  rw [outsAt0_B m c t h1]
  dsimp only
  rw [(out_B ..).2.2, part_eq]

theorem step_ne {n : ℕ} (h : n + 1 < cfg0.N) : ¬(n + 1) % 4 = 0 := by have : n + 1 < 4 := N_0 ▸ h; omega

theorem left7 (l : Fin 1024) (n : ℕ) (h : n < cfg0.N) : (outsAt0 m c n h).2.2 (ix2 0 l)
    = ∑ k : Fin (n + 1), part m c ⟨k.val, by omega⟩ l :=
  sum_of_steps (α := EReal) (fun n h => (outsAt0 m c n h).2.2 (ix2 0 l)) (fun n h => part m c ⟨n, h⟩ l)
    (fun h => left7_A m c ⟨0, h⟩ (Nat.zero_mod _) l) (fun n h => left7_B m c ⟨n + 1, h⟩ (step_ne h) l) n h

theorem final5 : (dats m 0 c).arrAt 5 cfg0.N = arr5 m c := by
  refine (dats m 0 c).arrAt_eq_of_cover 5 (arr5 m c) (fun t _ => ?_) fun i => ?_
  · rw [flushed5]
    funext j
    rw [View.read_apply, emb5]
    show (outsAt0 m c t.val t.isLt).1 j = dx m c (row t (j 0)) (j 1)
    exact (congrArg _ (eq_ix2 j)).trans (left5 m c t (j 0) (j 1))
  · obtain ⟨t, j, rfl⟩ := covered i
    exact ⟨t, flush0_5 t, emb5 t j ▸ View.emb_mem_set _ _⟩
theorem final6 : (dats m 0 c).arrAt 6 cfg0.N = arr6 m c := by
  refine (dats m 0 c).arrAt_eq_of_cover 6 (arr6 m c) (fun t _ => ?_) fun i => ?_
  · rw [flushed6]
    funext j
    rw [View.read_apply, emb6]
    show (outsAt0 m c t.val t.isLt).2.1 j = dx m c (row t (j 0)) (j 1)
    exact (congrArg _ (eq_ix2 j)).trans (left6 m c t (j 0) (j 1))
  · obtain ⟨t, j, rfl⟩ := covered i
    exact ⟨t, flush0_6 t, emb6 t j ▸ View.emb_mem_set _ _⟩

/-- The sum over the blocks is the sum over the rows. -/
theorem over_rows (f : Fin 4096 → EReal) (t : Fin cfg0.N) (ht : t.val % 4 = 3) :
    (∑ k : Fin (t.val + 1), ∑ r : Fin 1024, f (row ⟨k.val, Nat.lt_of_le_of_lt (Nat.le_of_lt_succ k.isLt) t.isLt⟩ r)) = ∑ r, f r := by
  have h4 : t.val + 1 = 4 := by have : t.val < 4 := N_0 ▸ t.isLt; omega
  rw [Fin.sum_univ_tiles 4 1024 rfl f]
  refine Fintype.sum_equiv (finCongr h4) _ _ fun k => Finset.sum_congr rfl fun r _ => congrArg f (Fin.ext ?_)
  show 1024 * k.val + r.val = k.val * 1024 + r.val
  omega

theorem final7 : (dats m 0 c).arrAt 7 cfg0.N = arr7 m c := by
  refine (dats m 0 c).arrAt_eq_of_cover 7 (arr7 m c) (fun t ht => ?_) fun i => ?_
  · rw [flushed7]
    funext j
    rw [View.read_apply, emb7]
    show (outsAt0 m c t.val t.isLt).2.2 j = dw m c (j 1)
    refine (congrArg _ (idx2 (j := ix2 0 (j 1)) (Fin.val_eq_zero (j 0)) rfl)).trans ((left7 m c (j 1) t.val t.isLt).trans ?_)
    exact over_rows (fun r => prod (hy m c) (hw m c) r (j 1) * hx m c (ix2 r (j 1)) * rinv eps wide (mrow (hx m c) r)) t ((flush0_7 t).mp ht)
  · exact ⟨⟨3, by rw [show cfg0.N = 4 from N_0]; omega⟩, (flush0_7 _).mpr rfl, emb7 ⟨3, _⟩ i ▸ View.emb_mem_set _ _⟩

end Cert.SbQDxIdeal.Val

/-! ## The reference -/

namespace Cert.SbQDxRefIdeal.Val

open Cert.SbQDxRefIdeal Cert.SbQDxRefIdeal.Read

section read
variable (x0 : S4096x1024.Idx → EReal) (x1 : S1024.Idx → EReal) (x2 : S1024x1024.Idx → EReal) (x3 x4 : S4096x1024.Idx → EReal)

theorem v38_at (r : Fin 4096) (l : Fin 1024) :
    val_main_v38 (F := Ideal) x0 x1 x2 x3 x4 (ix2 r l) = ndx x0 (fun j => x1 (ix1 j)) (prod x3 x2) x4 r l := by
  unfold ndx
  rw [← rdx_eq f1024_f32 (by norm_num)]
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v13, val_main_v17, val_main_v21,
    val_main_v22, val_main_v24, val_main_cst_5, val_main_v25, val_main_v26, val_main_v27, val_main_v28, val_main_v29, val_main_v30,
    val_main_cst_6, val_main_v31, val_main_v32, val_main_cst_7, val_main_v33, val_main_v34, val_main_v35, val_main_v36, val_main_v37,
    val_main_v38]
  simp only [Fin.sum_univ_one]
  unfold rdx
  rw [← add_assoc, ← add_assoc]
  rfl
theorem v40_at (r : Fin 1) (l : Fin 1024) : val_main_v40 (F := Ideal) x0 x2 x3 (ix2 r l) = ndw x0 (prod x3 x2) l := by
  pointwise [val_main_v0, val_main_cst, val_main_v1, val_main_v2, val_main_cst_0, val_main_v3, val_main_v4, val_main_cst_1, val_main_v5,
    val_main_v6, val_main_v7, val_main_v11, val_main_v12, val_main_v17, val_main_v18, val_main_cst_3, val_main_v19, val_main_v20,
    val_main_cst_4, val_main_v23, val_main_v40]
  simp only [Fin.sum_univ_one]
  refine Finset.sum_congr rfl fun r _ => ?_
  show x0 (ix2 r l) * rinv eps wide (mrow x0 r) * prod x3 x2 r l = prod x3 x2 r l * x0 (ix2 r l) * rinv eps wide (mrow x0 r)
  rw [mul_comm, ← mul_assoc]
end read
end Cert.SbQDxRefIdeal.Val

namespace Cert.Proof.SbQDx

open Cert.SbQDxIdeal Cert.SbQDxIdeal.Gen Cert.SbQDxIdeal.Value Cert.SbQDxIdeal.Val Cert.SbQDxRefIdeal.Val Cert.SbQDxRefIdeal.Read

/-- The reference writes no argument and awaits nothing. -/
theorem frame_ref : Cert.quiescent_SbQDxRefIdeal := fun m ρ _ =>
  (θ_run Cert.SbQDxRefIdeal.defs _ _).mono (fun r h => ⟨fun c => (h c).2.2.2,
      Idealize.ShloMosaic.sem_eq_zero_of_no_sems (by decide) r.2⟩)
    (Cert.SbQDxRefIdeal.Value.run (F := Ideal) m ρ)

/-- Both programs end with the gradient of the norm's input, its rounded copy, and that of the norm's weight. -/
theorem algebraic : Cert.algebraic_SbQDxIdeal_SbQDxRefIdeal := by
  intro m ρ m' ρ' _ hagree
  refine ⟨arr5 m, arr6 m, arr7 m, ?_, ?_⟩
  · refine (θ_run Cert.SbQDxIdeal.defs _ _).mono (fun r h c => ?_) (Cert.SbQDxIdeal.Value.run_blocks (F := Ideal) m ρ)
    obtain ⟨h5, h6, h7, ha⟩ := h c
    exact ⟨h5.trans (final5 m c), h6.trans (final6 m c), h7.trans (final7 m c), ha⟩
  · refine (θ_run Cert.SbQDxRefIdeal.defs _ _).mono (fun r h c => ?_) (Cert.SbQDxRefIdeal.Value.run (F := Ideal) m' ρ')
    obtain ⟨h5, h6, h7, ha⟩ := h c
    obtain ⟨e0, e1, e2, e3, e4⟩ := hagree c
    refine ⟨(h5.trans (val_main_v38_eq _ _)).trans ?_, (h6.trans (val_main_v39_eq _ _)).trans ?_, (h7.trans (val_main_v40_eq _ _ _)).trans ?_, ha⟩
    iterate 2
      · rw [e0, e1, e2, e3, e4]
        funext i
        exact (congrArg _ (eq_ix2 i)).trans (v38_at _ _ _ _ _ (i 0) (i 1))
    · rw [e0, e2, e3]
      funext i
      exact (congrArg _ (idx2 (j := ix2 0 (i 1)) (Fin.val_eq_zero (i 0)) rfl)).trans (v40_at _ _ _ 0 (i 1))

end Cert.Proof.SbQDx
-- ==== Proof.SbMath.lean ====
/-
  One block of 256 keys of the stick-breaking attention's gradient, over the real numbers: the weights of the block's keys from
  the logarithms still unspent to their right, the gradients of the logarithms, and the gradient of the scores from what the
  keys to the left have given.
-/
module

public import proofs.«01_k».proof.Proof.Common

@[expose] public section

noncomputable section

open Idealize.ShloMosaic
open Cert.Common

namespace Cert.SbReal

/-- `log (1 + exp z)` and the sigmoid. -/
def sp (z : ℝ) : ℝ := max z 0 + Real.log (1 + Real.exp (-|z|))
def sgm (z : ℝ) : ℝ := (1 + Real.exp (-z))⁻¹

theorem abs_coe (z : ℝ) : (FloatOps.absf (F := Ideal) (φ := .f32) (z : EReal) : EReal) = ((|z| : ℝ) : EReal) := by
  show max (z : EReal) (-(z : EReal)) = _
  rw [← EReal.coe_neg, coe_max]
  rfl
theorem zero_sub_coe (a : ℝ) : (0 : EReal) - (a : EReal) = ((-a : ℝ) : EReal) := by
  rw [← EReal.coe_zero, ← EReal.coe_sub, zero_sub]
theorem sub_self_coe (a : ℝ) : (a : EReal) - (a : EReal) = 0 := by
  rw [← EReal.coe_sub, sub_self, EReal.coe_zero]
theorem sp_coe (z e : ℝ) (h : e = -|z|) : max (z : EReal) 0 + Ideal.log (1 + Ideal.exp (e : EReal)) = (sp z : EReal) := by
  subst h
  unfold sp
  rw [Ideal.exp_coe, ← EReal.coe_one, ← EReal.coe_add, Ideal.log_coe, ← EReal.coe_zero, coe_max, if_neg, EReal.coe_add]
  have := Real.exp_pos (-|z|)
  push Not
  linarith
theorem sig_coe (z : ℝ) : (if (0 : EReal) ≤ (z : EReal) then Ideal.div 1 (1 + Ideal.exp ((-|z| : ℝ) : EReal))
    else Ideal.exp ((-|z| : ℝ) : EReal) * Ideal.div 1 (1 + Ideal.exp ((-|z| : ℝ) : EReal))) = (sgm z : EReal) := by
  have hp := Real.exp_pos (-|z|)
  have hd : Ideal.div 1 (1 + Ideal.exp ((-|z| : ℝ) : EReal)) = ((1 / (1 + Real.exp (-|z|)) : ℝ) : EReal) := by
    rw [Ideal.exp_coe, ← EReal.coe_one, ← EReal.coe_add, Ideal.div_coe (by positivity), ← EReal.coe_mul, one_mul]
  rw [hd, Ideal.exp_coe, ← EReal.coe_mul, ← EReal.coe_zero]
  unfold sgm
  by_cases h : 0 ≤ z
  · rw [if_pos (EReal.coe_le_coe_iff.mpr h), abs_of_nonneg h, one_div]
  · rw [if_neg (fun h' => h (EReal.coe_le_coe_iff.mp h'))]
    have hz := Real.exp_pos z
    congr 1
    rw [abs_of_neg (not_le.mp h), neg_neg, Real.exp_neg]
    field_simp
    rw [add_comm]

theorem bit_coe (p : Prop) [Decidable p] : (FloatOps.sitofp (F := Ideal) FTy.f32 (BitVec.setWidth 32 (BitVec.ofBool (decide p))) : EReal)
    = (((if p then 1 else 0) : ℝ) : EReal) := by
  by_cases h : p
  · rw [if_pos h, decide_eq_true h]
    show (((1 : ℤ) : ℝ) : EReal) = _
    norm_num
  · rw [if_neg h, decide_eq_false h]
    show (((0 : ℤ) : ℝ) : EReal) = _
    norm_num
theorem key_and (x : Fin 256) : IntOp.andi (BitVec.ofNat 32 x.val) 255#32 = BitVec.ofNat 32 x.val :=
  (by decide : ∀ x : Fin 256, IntOp.andi (BitVec.ofNat 32 x.val) 255#32 = BitVec.ofNat 32 x.val) x
theorem key_int (n : ℕ) (h : n < 2 ^ 31) : (BitVec.ofNat 32 n).toInt = n := by
  rw [BitVec.toInt_ofNat']
  simp only [Int.bmod_def]
  omega
theorem key_lt (x c : Fin 256) : IntOp.cmpi CmpIPredicate.slt (IntOp.andi (BitVec.ofNat 32 x.val) 255#32) (BitVec.ofNat 32 c.val)
    = BitVec.ofBool (decide (x < c)) := by
  rw [key_and]
  show BitVec.ofBool (BitVec.slt _ _) = _
  rw [BitVec.slt_eq_decide, key_int _ (by omega), key_int _ (by omega)]
  congr 1
  exact decide_eq_decide.mpr (by rw [Int.ofNat_lt]; rfl)
theorem key_gt (x c : Fin 256) : IntOp.cmpi CmpIPredicate.sgt (IntOp.andi (BitVec.ofNat 32 x.val) 255#32) (BitVec.ofNat 32 c.val)
    = BitVec.ofBool (decide (c < x)) := by
  rw [key_and]
  show BitVec.ofBool (BitVec.slt _ _) = _
  rw [BitVec.slt_eq_decide, key_int _ (by omega), key_int _ (by omega)]
  congr 1
  exact decide_eq_decide.mpr (by rw [Int.ofNat_lt]; rfl)
theorem tri_gt (x c : Fin 256) : (FloatOps.sitofp (F := Ideal) FTy.f32 (BitVec.setWidth 32
    (IntOp.cmpi CmpIPredicate.sgt (IntOp.andi (BitVec.ofNat 32 x.val) 255#32) (BitVec.ofNat 32 c.val))) : EReal)
    = (((if c < x then 1 else 0) : ℝ) : EReal) := by
  rw [show IntOp.cmpi CmpIPredicate.sgt (IntOp.andi (BitVec.ofNat 32 x.val) 255#32) (BitVec.ofNat 32 c.val) = BitVec.ofBool (decide (c < x))
    from key_gt x c]
  exact bit_coe _
theorem tri_lt (x c : Fin 256) : (FloatOps.sitofp (F := Ideal) FTy.f32 (BitVec.setWidth 32
    (IntOp.cmpi CmpIPredicate.slt (IntOp.andi (BitVec.ofNat 32 x.val) 255#32) (BitVec.ofNat 32 c.val))) : EReal)
    = (((if x < c then 1 else 0) : ℝ) : EReal) := by
  rw [show IntOp.cmpi CmpIPredicate.slt (IntOp.andi (BitVec.ofNat 32 x.val) 255#32) (BitVec.ofNat 32 c.val) = BitVec.ofBool (decide (x < c))
    from key_lt x c]
  exact bit_coe _

/-- A choice by a bit, and a real number or zero by a condition. -/
theorem if_bit (p : Prop) [Decidable p] (a b : EReal) : Scalar.select (BitVec.ofBool (decide p)) a b = if p then a else b := by
  by_cases h : p
  · rw [if_pos h, decide_eq_true h]; rfl
  · rw [if_neg h, decide_eq_false h]; rfl
theorem at_coe (p q : Prop) [Decidable p] [Decidable q] (h : q ↔ p) (a : ℝ) :
    (if p then (a : EReal) else 0) = (((if q then a else 0) : ℝ) : EReal) := by
  by_cases hp : p
  · rw [if_pos hp, if_pos (h.mpr hp)]
  · rw [if_neg hp, if_neg (fun hq => hp (h.mp hq))]; rfl

theorem at_mul (p q : Prop) [Decidable p] [Decidable q] (h : q ↔ p) (a : ℝ) (b : EReal) :
    (if p then (a : EReal) * b else 0) = (((if q then a else 0) : ℝ) : EReal) * b := by
  rw [← at_coe p q h]
  by_cases hp : p
  · rw [if_pos hp, if_pos hp]
  · rw [if_neg hp, if_neg hp, zero_mul]

/-- A sum of products of real numbers. -/
theorem sum_mul_coe {ι : Type} [Fintype ι] (f g : ι → ℝ) : (∑ i, (f i : EReal) * (g i : EReal)) = ((∑ i, f i * g i : ℝ) : EReal) := by
  rw [coe_sum]
  exact Finset.sum_congr rfl fun i _ => (EReal.coe_mul _ _).symm

/-- The arguments of one block: rows of queries, the block's keys and values, the incoming gradient, the logarithms unspent to the
right of the block, what the keys to the left have given, and which pairs count. -/
structure Blk (R : ℕ) where
  q : Fin R → Fin 128 → ℝ
  k : Fin 256 → Fin 128 → ℝ
  v : Fin 256 → Fin 128 → ℝ
  o : Fin R → Fin 128 → ℝ
  cs : Fin R → ℝ
  ps : Fin R → ℝ
  m : Fin R → Fin 256 → Prop
  [dec : ∀ r c, Decidable (m r c)]

namespace Blk
variable {R : ℕ} (B : Blk R)
instance (r : Fin R) (c : Fin 256) : Decidable (B.m r c) := B.dec r c

def z (r : Fin R) (c : Fin 256) : ℝ := ∑ d, B.q r d * B.k c d
def a (r : Fin R) (c : Fin 256) : ℝ := ∑ d, B.o r d * B.v c d
def ln (r : Fin R) (c : Fin 256) : ℝ := if B.m r c then -sp (B.z r c) else 0
def w (r : Fin R) (c : Fin 256) : ℝ :=
  if B.m r c then Real.exp (B.z r c - sp (B.z r c) + (∑ x, B.ln r x * if c < x then 1 else 0) + B.cs r) else 0
def dl (r : Fin R) (c : Fin 256) : ℝ := B.a r c * B.w r c
def pt (r : Fin R) (c : Fin 256) : ℝ := ∑ x, B.dl r x * if x < c then 1 else 0
def dz (r : Fin R) (c : Fin 256) : ℝ :=
  if B.m r c then B.dl r c * (1 - sgm (B.z r c)) - sgm (B.z r c) * (B.ps r + B.pt r c) else 0
/-- What the block adds to the three gradients and to the running sum. -/
def dq (r : Fin R) (d : Fin 128) : ℝ := ∑ c, B.dz r c * B.k c d
def dk (c : Fin 256) (d : Fin 128) : ℝ := ∑ r, B.dz r c * B.q r d
def dv (c : Fin 256) (d : Fin 128) : ℝ := ∑ r, B.w r c * B.o r d
def tot (r : Fin R) : ℝ := ∑ c, B.dl r c
end Blk

end Cert.SbReal

end
-- ==== Proof.SbPay.lean ====
/-
  What a trip of the loop over the unmasked key blocks stores, head by head: each accumulator plus what the block adds to it.
-/
module

public import proofs.«01_k».proof.Proof.SbMath
public import proofs.«01_k».proof.Proof.Gen.SbIdeal.Skeleton

@[expose] public section

set_option maxRecDepth 16384
noncomputable section

open Idealize.ShloMosaic Idealize.ShloMosaic.TcCoe Idealize.SL.Sem
open Cert.Common

namespace Cert.SbIdeal.Val

open Cert.SbIdeal Cert.SbIdeal.Gen Cert.SbReal

/-- The loaded arrays hold the block's arguments. -/
structure Loaded {n : ℕ} (B : Blk n) (K V : (⟨2, ![256, 128]⟩ : Shape).Idx → EReal) (q o : (⟨2, ![n, 128]⟩ : Shape).Idx → EReal)
    (cs : (⟨2, ![n, 1]⟩ : Shape).Idx → EReal) (P : (⟨3, ![1, n, 1]⟩ : Shape).Idx → EReal) : Prop where
  k : ∀ c d, K (ix2 c d) = (B.k c d : EReal)
  v : ∀ c d, V (ix2 c d) = (B.v c d : EReal)
  q : ∀ r d, q (ix2 r d) = (B.q r d : EReal)
  o : ∀ r d, o (ix2 r d) = (B.o r d : EReal)
  cs : ∀ r, cs (ix2 r 0) = (B.cs r : EReal)
  ps : ∀ r, P (ix3 0 r 0) = (B.ps r : EReal)

section trip
variable {B : Blk 512} (hm : ∀ r c, B.m r c)
  {K V : Vec Ideal S256x128 .bf16} {q o : Vec Ideal S512x128 .bf16} {cs : FVec Ideal S512x1 .f32} {P : Vec Ideal S1x512x1 .f32}
  (h : Loaded B K V q o cs P)
include hm h

theorem z_at (r : Fin 512) (c : Fin 256) : k0_pay14 (F := Ideal) K q (ix2 r c) = (B.z r c : EReal) := by
  pointwise [k0_pay14, k0_pay6, k0_pay8]
  simp only [h.q, h.k]
  exact sum_mul_coe _ _
theorem e_at (r : Fin 512) (c : Fin 256) : k0_pay16 (F := Ideal) K q (ix2 r c) = ((-|B.z r c| : ℝ) : EReal) := by
  have hz := z_at hm h r c
  pointwise [k0_pay16]
  rw [hz, abs_coe, zero_sub_coe]
set_option maxHeartbeats 1000000 in
theorem w_at (r : Fin 512) (c : Fin 256) : k0_pay19 (F := Ideal) k0_pay76 cs (k0_pay14 K q) (k0_pay16 K q) (ix2 r c) = (B.w r c : EReal) := by
  have hz := z_at hm h
  have he := e_at hm h
  generalize k0_pay14 (F := Ideal) K q = z at hz ⊢
  generalize k0_pay16 (F := Ideal) K q = e at he ⊢
  pointwise [k0_pay19, k0_pay76, k0_pay17]
  simp only [hz, he, h.cs, tri_gt, sp_coe _ _ rfl, zero_sub_coe, sub_self_coe, zero_mul, Finset.sum_const_zero, add_zero, sum_mul_coe]
  simp only [← EReal.coe_sub, ← EReal.coe_add, Ideal.exp_coe]
  unfold Blk.w Blk.ln
  simp only [hm, if_true]
set_option maxHeartbeats 1000000 in
theorem w1_at (r : Fin 512) (c : Fin 256) : k0_pay20 (F := Ideal) k0_pay76 cs (k0_pay15 K q) (ix2 r c) = (B.w r c : EReal) := w_at hm h r c
theorem dl_at (r : Fin 512) (c : Fin 256) :
    k0_pay21 (F := Ideal) (k0_pay10 o) (k0_pay19 k0_pay76 cs (k0_pay14 K q) (k0_pay16 K q)) V (ix2 r c) = (B.dl r c : EReal) := by
  have hw := w_at hm h
  generalize k0_pay19 (F := Ideal) k0_pay76 cs (k0_pay14 K q) (k0_pay16 K q) = w at hw ⊢
  pointwise [k0_pay21, k0_pay10]
  simp only [h.o, h.v, hw, sum_mul_coe, ← EReal.coe_mul]
  rfl
set_option maxHeartbeats 1000000 in
theorem pt_at (r : Fin 512) (c : Fin 256) :
    k0_pay23 (F := Ideal) k0_pay77 (k0_pay10 o) (k0_pay19 k0_pay76 cs (k0_pay14 K q) (k0_pay16 K q)) V (ix2 r c) = (B.pt r c : EReal) := by
  have hd := dl_at hm h
  generalize k0_pay19 (F := Ideal) k0_pay76 cs (k0_pay14 K q) (k0_pay16 K q) = w at hd ⊢
  pointwise [k0_pay23, k0_pay77]
  simp only [hd, tri_lt, sub_self_coe, zero_mul, Finset.sum_const_zero, add_zero, sum_mul_coe]
  rfl
theorem sig_at (r : Fin 512) (c : Fin 256) :
    k0_pay28 (F := Ideal) (k0_pay14 K q) (k0_pay17 (k0_pay16 K q)) (ix2 r c) = (sgm (B.z r c) : EReal) := by
  have hz := z_at hm h
  have he := e_at hm h
  generalize k0_pay14 (F := Ideal) K q = z at hz ⊢
  generalize k0_pay16 (F := Ideal) K q = e at he ⊢
  pointwise [k0_pay28, k0_pay17]
  rw [hz, he, sig_coe]

/-- The block's gradients of the scores, first head's order of the operations. -/
abbrev DL (K V : Vec Ideal S256x128 .bf16) (q o : Vec Ideal S512x128 .bf16) (cs : FVec Ideal S512x1 .f32) : FVec Ideal S512x256 .f32 :=
  k0_pay21 (k0_pay10 o) (k0_pay19 k0_pay76 cs (k0_pay14 K q) (k0_pay16 K q)) V
abbrev PT (K V : Vec Ideal S256x128 .bf16) (q o : Vec Ideal S512x128 .bf16) (cs : FVec Ideal S512x1 .f32) : FVec Ideal S512x256 .f32 :=
  k0_pay23 k0_pay77 (k0_pay10 o) (k0_pay19 k0_pay76 cs (k0_pay14 K q) (k0_pay16 K q)) V
abbrev SG (K : Vec Ideal S256x128 .bf16) (q : Vec Ideal S512x128 .bf16) : FVec Ideal S512x256 .f32 :=
  k0_pay28 (k0_pay14 K q) (k0_pay17 (k0_pay16 K q))

theorem dz_at (r : Fin 512) (c : Fin 256) :
    k0_pay29 (F := Ideal) (DL K V q o cs) (PT K V q o cs) (k0_pay25 P) (SG K q) (ix2 r c) = (B.dz r c : EReal) := by
  have hd := dl_at hm h
  have hp := pt_at hm h
  have hs := sig_at hm h
  unfold DL PT SG
  generalize k0_pay21 (F := Ideal) (k0_pay10 o) (k0_pay19 k0_pay76 cs (k0_pay14 K q) (k0_pay16 K q)) V = d at hd ⊢
  generalize k0_pay23 (F := Ideal) k0_pay77 (k0_pay10 o) (k0_pay19 k0_pay76 cs (k0_pay14 K q) (k0_pay16 K q)) V = p at hp ⊢
  generalize k0_pay28 (F := Ideal) (k0_pay14 K q) (k0_pay17 (k0_pay16 K q)) = s at hs ⊢
  pointwise [k0_pay29, k0_pay25]
  rw [hd, hp, hs, h.ps, ← EReal.coe_one]
  simp only [← EReal.coe_sub, ← EReal.coe_add, ← EReal.coe_mul]
  unfold Blk.dz
  simp only [hm, if_true]

theorem dq_at (old : Vec Ideal S512x128 .f32) (r : Fin 512) (d : Fin 128) :
    k0_pay37 (F := Ideal) (k0_pay6 K) (DL K V q o cs) (PT K V q o cs) (k0_pay25 P) (SG K q) old (ix2 r d) = (old (ix2 r d) + (B.dq r d : EReal) : EReal) := by
  have hz := dz_at hm h
  pointwise [k0_pay37, k0_pay6]
  simp only [hz, h.k, sum_mul_coe]
  rfl
theorem dk_at (old : Vec Ideal S256x128 .f32) (c : Fin 256) (d : Fin 128) :
    k0_pay38 (F := Ideal) (k0_pay8 q) (DL K V q o cs) (PT K V q o cs) (k0_pay25 P) (SG K q) old (ix2 c d) = (old (ix2 c d) + (B.dk c d : EReal) : EReal) := by
  have hz := dz_at hm h
  pointwise [k0_pay38, k0_pay8]
  simp only [hz, h.q, sum_mul_coe]
  rfl
theorem dv_at (old : Vec Ideal S256x128 .f32) (c : Fin 256) (d : Fin 128) :
    k0_pay78 (F := Ideal) (k0_pay35 (k0_pay10 o) (k0_pay19 k0_pay76 cs (k0_pay14 K q) (k0_pay16 K q))) old (ix2 c d) = (old (ix2 c d) + (B.dv c d : EReal) : EReal) := by
  have hw := w_at hm h
  generalize k0_pay19 (F := Ideal) k0_pay76 cs (k0_pay14 K q) (k0_pay16 K q) = w at hw ⊢
  pointwise [k0_pay78, k0_pay35, k0_pay10]
  simp only [hw, h.o, sum_mul_coe]
  rfl
theorem ps_at (r : Fin 512) :
    k0_pay79 (F := Ideal) (k0_pay25 P) (k0_pay31 (DL K V q o cs)) (ix3 0 r 0) = ((B.ps r + B.tot r : ℝ) : EReal) := by
  have hd := dl_at hm h
  pointwise [k0_pay79, k0_pay25, k0_pay31]
  simp only [hd, h.ps, ← coe_sum, ← EReal.coe_add]
  rfl

end trip

end Cert.SbIdeal.Val
end
-- ==== Proof.SbDiag.lean ====
/-
  What the first block on the diagonal stores: its 512 queries see the 256 keys from the same position on, so a pair counts where
  the key comes before the query.
-/
module

public import proofs.«01_k».proof.Proof.SbPay

@[expose] public section

set_option maxRecDepth 16384
noncomputable section

open Idealize.ShloMosaic Idealize.ShloMosaic.TcCoe Idealize.SL.Sem
open Cert.Common

namespace Cert.SbIdeal.Val

open Cert.SbIdeal Cert.SbIdeal.Gen Cert.SbReal

theorem pair_lt (R : ℕ) (hR : R ≤ 512) (r : Fin R) (c : Fin 256) :
    IntOp.cmpi CmpIPredicate.slt (IntOp.addi 0#32 (BitVec.ofNat 32 c.val)) (IntOp.addi 0#32 (BitVec.ofNat 32 r.val)) = BitVec.ofBool (decide (c.val < r.val)) := by
  have hr := r.isLt
  rw [show IntOp.addi 0#32 (BitVec.ofNat 32 c.val) = BitVec.ofNat 32 c.val from BitVec.zero_add _,
    show IntOp.addi 0#32 (BitVec.ofNat 32 r.val) = BitVec.ofNat 32 r.val from BitVec.zero_add _]
  show BitVec.ofBool (BitVec.slt _ _) = _
  rw [BitVec.slt_eq_decide, key_int _ (by omega), key_int _ (by omega)]
  congr 1
  exact decide_eq_decide.mpr Int.ofNat_lt
theorem pair_lt1 (r c : Fin 256) :
    IntOp.cmpi CmpIPredicate.slt (IntOp.addi 256#32 (BitVec.ofNat 32 c.val)) (IntOp.addi 256#32 (BitVec.ofNat 32 r.val)) = BitVec.ofBool (decide (c.val < r.val)) := by
  have hr := r.isLt
  rw [show IntOp.addi 256#32 (BitVec.ofNat 32 c.val) = BitVec.ofNat 32 (256 + c.val) from (BitVec.ofNat_add _ _).symm,
    show IntOp.addi 256#32 (BitVec.ofNat 32 r.val) = BitVec.ofNat 32 (256 + r.val) from (BitVec.ofNat_add _ _).symm]
  show BitVec.ofBool (BitVec.slt _ _) = _
  rw [BitVec.slt_eq_decide, key_int _ (by omega), key_int _ (by omega)]
  congr 1
  exact decide_eq_decide.mpr (by omega)
theorem mask_at (r : Fin 512) (c : Fin 256) : k0_pay90 (ix2 r c) = BitVec.ofBool (decide (c.val < r.val)) := by
  pointwise [k0_pay90]
  exact pair_lt 512 le_rfl r c
section d0
variable {B : Blk 512} (hm : ∀ r c, B.m r c ↔ c.val < r.val)
  {K V : Vec Ideal S256x128 .bf16} {q o : Vec Ideal S512x128 .bf16} {cs : FVec Ideal S512x1 .f32} {P : Vec Ideal S1x512x1 .f32}
  (h : Loaded B K V q o cs P)

/-- The scores, the logarithms, and their sums to the right inside the block. -/
abbrev Z0 (K : Vec Ideal S256x128 .bf16) (q : Vec Ideal S512x128 .bf16) : FVec Ideal S512x256 .f32 := k0_pay99 (k0_pay91 K) (k0_pay93 q)
abbrev E0 (K : Vec Ideal S256x128 .bf16) (q : Vec Ideal S512x128 .bf16) : FVec Ideal S512x256 .f32 := k0_pay101 (k0_pay91 K) (k0_pay93 q)
abbrev L0 (K : Vec Ideal S256x128 .bf16) (q : Vec Ideal S512x128 .bf16) : FVec Ideal S512x256 .f32 := k0_pay103 (k0_pay91 K) (k0_pay93 q)
abbrev M0 (K : Vec Ideal S256x128 .bf16) (q : Vec Ideal S512x128 .bf16) : FVec Ideal S512x256 .f32 := k0_pay106 k0_pay76 k0_pay90 (k0_pay91 K) (k0_pay93 q)
abbrev W0 (K : Vec Ideal S256x128 .bf16) (q : Vec Ideal S512x128 .bf16) (cs : FVec Ideal S512x1 .f32) : FVec Ideal S512x256 .f32 :=
  k0_pay111 k0_pay90 cs (Z0 K q) (L0 K q) (M0 K q)
abbrev DL0 (K V : Vec Ideal S256x128 .bf16) (q o : Vec Ideal S512x128 .bf16) (cs : FVec Ideal S512x1 .f32) : FVec Ideal S512x256 .f32 :=
  k0_pay113 k0_pay90 (k0_pay95 o) cs (Z0 K q) (L0 K q) (M0 K q) V
abbrev PT0 (K V : Vec Ideal S256x128 .bf16) (q o : Vec Ideal S512x128 .bf16) (cs : FVec Ideal S512x1 .f32) : FVec Ideal S512x256 .f32 :=
  k0_pay115 k0_pay77 k0_pay90 (k0_pay95 o) cs (Z0 K q) (L0 K q) (M0 K q) V
abbrev DZ0 (K V : Vec Ideal S256x128 .bf16) (q o : Vec Ideal S512x128 .bf16) (cs : FVec Ideal S512x1 .f32) (P : Vec Ideal S1x512x1 .f32) :
    FVec Ideal S512x256 .f32 := k0_pay121 k0_pay90 (Z0 K q) (E0 K q) (DL0 K V q o cs) (PT0 K V q o cs) (k0_pay117 P)

include hm h

theorem z0_at (r : Fin 512) (c : Fin 256) : Z0 K q (ix2 r c) = (B.z r c : EReal) := by
  unfold Z0
  pointwise [k0_pay99, k0_pay91, k0_pay93]
  simp only [h.q, h.k]
  exact sum_mul_coe _ _
theorem l0_at (r : Fin 512) (c : Fin 256) : L0 K q (ix2 r c) = (sp (B.z r c) : EReal) := by
  have hz := z0_at hm h
  unfold L0
  unfold Z0 at hz
  pointwise [k0_pay103, k0_pay101]
  simp only [hz, abs_coe, zero_sub_coe, sp_coe _ _ rfl]
theorem m0_at (r : Fin 512) (c : Fin 256) : M0 K q (ix2 r c) = ((∑ x, B.ln r x * (if c < x then 1 else 0) : ℝ) : EReal) := by
  have hl := l0_at hm h
  unfold M0
  unfold L0 at hl
  pointwise [k0_pay106, k0_pay76]
  simp only [hl, mask_at, if_bit, tri_gt, zero_sub_coe, at_mul _ _ (hm _ _), at_coe _ _ (hm _ _), sub_self_coe, zero_mul, Finset.sum_const_zero, add_zero, sum_mul_coe]
  rfl
theorem w0_at (r : Fin 512) (c : Fin 256) : W0 K q cs (ix2 r c) = (B.w r c : EReal) := by
  have hz := z0_at hm h
  have hl := l0_at hm h
  have hM := m0_at hm h
  unfold W0
  generalize Z0 K q = z at hz ⊢
  generalize L0 K q = l at hl ⊢
  generalize M0 K q = M at hM ⊢
  pointwise [k0_pay111]
  simp only [mask_at, if_bit, hz, hl, hM, h.cs]
  simp only [← EReal.coe_sub, ← EReal.coe_add, Ideal.exp_coe, at_coe _ _ (hm _ _)]
  rfl
theorem dl0_at (r : Fin 512) (c : Fin 256) : DL0 K V q o cs (ix2 r c) = (B.dl r c : EReal) := by
  have hw := w0_at hm h
  unfold DL0
  unfold W0 at hw
  generalize Z0 K q = z at hw ⊢
  generalize L0 K q = l at hw ⊢
  generalize M0 K q = M at hw ⊢
  pointwise [k0_pay113, k0_pay95]
  simp only [h.o, h.v, hw, sum_mul_coe, ← EReal.coe_mul]
  rfl
theorem pt0_at (r : Fin 512) (c : Fin 256) : PT0 K V q o cs (ix2 r c) = (B.pt r c : EReal) := by
  have hd := dl0_at hm h
  unfold PT0
  unfold DL0 at hd
  generalize Z0 K q = z at hd ⊢
  generalize L0 K q = l at hd ⊢
  generalize M0 K q = M at hd ⊢
  pointwise [k0_pay115, k0_pay77]
  simp only [hd, tri_lt, sub_self_coe, zero_mul, Finset.sum_const_zero, add_zero, sum_mul_coe]
  rfl
theorem dz0_at (r : Fin 512) (c : Fin 256) : DZ0 K V q o cs P (ix2 r c) = (B.dz r c : EReal) := by
  have hz := z0_at hm h
  have hd := dl0_at hm h
  have hp := pt0_at hm h
  unfold DZ0 E0
  unfold Z0 at hz ⊢
  generalize DL0 K V q o cs = d at hd ⊢
  generalize PT0 K V q o cs = p at hp ⊢
  pointwise [k0_pay121, k0_pay117, k0_pay101]
  simp only [hz, hd, hp, h.ps, mask_at, if_bit, abs_coe, zero_sub_coe, sig_coe]
  simp only [← EReal.coe_one, ← EReal.coe_sub, ← EReal.coe_add, ← EReal.coe_mul, at_coe _ _ (hm _ _)]
  rfl

theorem dq0_at (old : Vec Ideal S512x128 .f32) (r : Fin 512) (d : Fin 128) :
    k0_pay127 (F := Ideal) (k0_pay123 k0_pay90 (k0_pay91 K) (Z0 K q) (E0 K q) (DL0 K V q o cs) (PT0 K V q o cs) (k0_pay117 P)) old (ix2 r d) = (old (ix2 r d) + (B.dq r d : EReal) : EReal) := by
  have hz := dz0_at hm h
  unfold DZ0 at hz
  pointwise [k0_pay127, k0_pay123, k0_pay91]
  simp only [hz, h.k, sum_mul_coe]
  rfl
theorem dk0_at (old : Vec Ideal S256x128 .f32) (c : Fin 256) (d : Fin 128) :
    k0_pay128 (F := Ideal) (k0_pay93 q) (k0_pay125 k0_pay90 (Z0 K q) (E0 K q) (DL0 K V q o cs) (PT0 K V q o cs) (k0_pay117 P)) (constant S256x128 .f32 0x00000000#32) old (ix2 c d) = (old (ix2 c d) + (B.dk c d : EReal) : EReal) := by
  have hz := dz0_at hm h
  unfold DZ0 at hz
  pointwise [k0_pay128, k0_pay125, k0_pay93]
  simp only [hz, h.q, sum_mul_coe]
  rfl
theorem dv0_at (old : Vec Ideal S256x128 .f32) (c : Fin 256) (d : Fin 128) :
    k0_pay129 (F := Ideal) (k0_pay95 o) (W0 K q cs) old (ix2 c d) = (old (ix2 c d) + (B.dv c d : EReal) : EReal) := by
  have hw := w0_at hm h
  generalize W0 K q cs = w at hw ⊢
  pointwise [k0_pay129, k0_pay95]
  simp only [hw, h.o, sum_mul_coe]
  rfl
theorem ps0_at (r : Fin 512) : k0_pay130 (F := Ideal) (k0_pay117 P) (k0_pay119 (DL0 K V q o cs)) (ix3 0 r 0) = ((B.ps r + B.tot r : ℝ) : EReal) := by
  have hd := dl0_at hm h
  generalize DL0 K V q o cs = d at hd ⊢
  pointwise [k0_pay130, k0_pay117, k0_pay119]
  simp only [hd, h.ps, ← coe_sum, ← EReal.coe_add]
  rfl
end d0

section d1
variable {B : Blk 256} (hm : ∀ r c, B.m r c ↔ c.val < r.val)
  {K V : Vec Ideal S256x128 .bf16} {q o : Vec Ideal S256x128 .bf16} {cs : FVec Ideal S256x1 .f32} {P : Vec Ideal S1x256x1 .f32}
  (h : Loaded B K V q o cs P)

/-- The same for the last 256 queries of the point and the keys from their position on. -/
abbrev Z1 (K q : Vec Ideal S256x128 .bf16) : FVec Ideal S256x256 .f32 := k0_pay144 (k0_pay136 K) (k0_pay138 q)
abbrev E1 (K q : Vec Ideal S256x128 .bf16) : FVec Ideal S256x256 .f32 := k0_pay146 (k0_pay136 K) (k0_pay138 q)
abbrev L1 (K q : Vec Ideal S256x128 .bf16) : FVec Ideal S256x256 .f32 := k0_pay148 (k0_pay136 K) (k0_pay138 q)
abbrev N1 (K q : Vec Ideal S256x128 .bf16) : FVec Ideal S256x256 .f32 := k0_pay150 (k0_pay136 K) (k0_pay138 q)
abbrev W1 (K q : Vec Ideal S256x128 .bf16) (cs : FVec Ideal S256x1 .f32) : FVec Ideal S256x256 .f32 :=
  k0_pay151 k0_pay76 k0_pay135 cs (Z1 K q) (L1 K q) (N1 K q) (FloatOps.ofBits FTy.f32 0#32)
abbrev DL1 (K V q o : Vec Ideal S256x128 .bf16) (cs : FVec Ideal S256x1 .f32) : FVec Ideal S256x256 .f32 :=
  k0_pay153 k0_pay76 k0_pay135 (k0_pay140 o) cs (Z1 K q) (L1 K q) (N1 K q) (FloatOps.ofBits FTy.f32 0#32) V
abbrev DY1 (K V q o : Vec Ideal S256x128 .bf16) (cs : FVec Ideal S256x1 .f32) (P : Vec Ideal S1x256x1 .f32) : FVec Ideal S256x256 .f32 :=
  k0_pay161 k0_pay77 (Z1 K q) (E1 K q) (DL1 K V q o cs)
    (k0_pay155 k0_pay76 k0_pay135 (k0_pay140 o) cs (Z1 K q) (L1 K q) (N1 K q) (FloatOps.ofBits FTy.f32 0#32) V)
    (k0_pay156 k0_pay76 k0_pay135 (k0_pay140 o) cs (Z1 K q) (L1 K q) (N1 K q) (FloatOps.ofBits FTy.f32 0#32) V) P

omit h in
theorem mask1_at (r c : Fin 256) : k0_pay135 (ix2 r c) = BitVec.ofBool (decide (c.val < r.val)) := by
  pointwise [k0_pay135]
  exact pair_lt1 r c

include hm h

theorem z1_at (r c : Fin 256) : Z1 K q (ix2 r c) = (B.z r c : EReal) := by
  unfold Z1
  pointwise [k0_pay144, k0_pay136, k0_pay138]
  simp only [h.q, h.k]
  exact sum_mul_coe _ _
theorem l1_at (r c : Fin 256) : L1 K q (ix2 r c) = (sp (B.z r c) : EReal) := by
  have hz := z1_at hm h
  unfold L1
  unfold Z1 at hz
  pointwise [k0_pay148, k0_pay146]
  simp only [hz, abs_coe, zero_sub_coe, sp_coe _ _ rfl]
theorem n1_at (r c : Fin 256) : N1 K q (ix2 r c) = ((-sp (B.z r c) : ℝ) : EReal) := by
  have hl := l1_at hm h
  unfold N1
  unfold L1 at hl
  pointwise [k0_pay150]
  rw [hl, zero_sub_coe]
theorem wt1_at (r c : Fin 256) : W1 K q cs (ix2 r c) = (B.w r c : EReal) := by
  have hz := z1_at hm h
  have hl := l1_at hm h
  have hn := n1_at hm h
  unfold W1
  generalize Z1 K q = z at hz ⊢
  generalize L1 K q = l at hl ⊢
  generalize N1 K q = n at hn ⊢
  pointwise [k0_pay151, k0_pay76]
  simp only [mask1_at, if_bit, hz, hl, hn, h.cs, tri_gt, at_mul _ _ (hm _ _), at_coe _ _ (hm _ _), sub_self_coe, zero_mul, Finset.sum_const_zero, add_zero, sum_mul_coe]
  simp only [← EReal.coe_sub, ← EReal.coe_add, Ideal.exp_coe, at_coe _ _ (hm _ _)]
  rfl
theorem dl1_at (r c : Fin 256) : DL1 K V q o cs (ix2 r c) = (B.dl r c : EReal) := by
  have hw := wt1_at hm h
  unfold DL1
  unfold W1 at hw
  generalize Z1 K q = z at hw ⊢
  generalize L1 K q = l at hw ⊢
  generalize N1 K q = M at hw ⊢
  generalize (FloatOps.ofBits (F := Ideal) FTy.f32 0#32) = b at hw ⊢
  pointwise [k0_pay153, k0_pay140]
  simp only [h.o, h.v, hw, sum_mul_coe, ← EReal.coe_mul]
  rfl
theorem dy1_at (r c : Fin 256) : DY1 K V q o cs P (ix2 r c)
    = ((B.dl r c * (1 - sgm (B.z r c)) - sgm (B.z r c) * (B.ps r + B.pt r c) : ℝ) : EReal) := by
  have hz := z1_at hm h
  have hd := dl1_at hm h
  unfold DY1 E1
  unfold DL1 at hd ⊢
  unfold Z1 at hz hd ⊢
  generalize L1 K q = l at hd ⊢
  generalize N1 K q = M at hd ⊢
  generalize (FloatOps.ofBits (F := Ideal) FTy.f32 0#32) = b at hd ⊢
  pointwise [k0_pay161, k0_pay155, k0_pay156, k0_pay158, k0_pay146, k0_pay77]
  simp only [hz, hd, h.ps, abs_coe, zero_sub_coe, sig_coe, tri_lt, sub_self_coe, zero_mul, Finset.sum_const_zero, add_zero, sum_mul_coe]
  simp only [← EReal.coe_one, ← EReal.coe_sub, ← EReal.coe_add, ← EReal.coe_mul]
  rfl
theorem dz1_at (r c : Fin 256) : k0_pay165 (F := Ideal) k0_pay135 (DY1 K V q o cs P) (ix2 r c) = (B.dz r c : EReal) := by
  have hy := dy1_at hm h
  generalize DY1 K V q o cs P = y at hy ⊢
  pointwise [k0_pay165]
  simp only [hy, mask1_at, if_bit, at_coe _ _ (hm _ _)]
  rfl

theorem dq1_at (old : Vec Ideal S256x128 .f32) (r : Fin 256) (d : Fin 128) :
    k0_pay170 (F := Ideal) k0_pay135 (k0_pay136 K) (DY1 K V q o cs P) old (ix2 r d) = (old (ix2 r d) + (B.dq r d : EReal) : EReal) := by
  have hz := dz1_at hm h
  generalize DY1 K V q o cs P = y at hz ⊢
  pointwise [k0_pay170, k0_pay136]
  simp only [hz, h.k, sum_mul_coe]
  rfl
theorem dk1_at (old : Vec Ideal S256x128 .f32) (c : Fin 256) (d : Fin 128) :
    k0_pay171 (F := Ideal) k0_pay135 (k0_pay138 q) (DY1 K V q o cs P) old (ix2 c d) = (old (ix2 c d) + (B.dk c d : EReal) : EReal) := by
  have hz := dz1_at hm h
  generalize DY1 K V q o cs P = y at hz ⊢
  pointwise [k0_pay171, k0_pay138]
  simp only [hz, h.q, sum_mul_coe]
  rfl
theorem dv1_at (old : Vec Ideal S256x128 .f32) (c : Fin 256) (d : Fin 128) :
    k0_pay172 (F := Ideal) (k0_pay140 o) (W1 K q cs) old (ix2 c d) = (old (ix2 c d) + (B.dv c d : EReal) : EReal) := by
  have hw := wt1_at hm h
  generalize W1 K q cs = w at hw ⊢
  pointwise [k0_pay172, k0_pay140]
  simp only [hw, h.o, sum_mul_coe]
  rfl
end d1

end Cert.SbIdeal.Val
end
-- ==== Proof.SbGlob.lean ====
/-
  The stick-breaking attention's gradient over the real numbers, for one head: the logarithms left to the right of a pair, the
  weights, the gradients of the logarithms and of the scores; and what one block of 256 keys contributes to each.
-/
module

public import proofs.«01_k».proof.Proof.SbMath

@[expose] public section

noncomputable section

open Finset

namespace Cert.SbReal

/-- One head: queries, keys, values and the incoming gradient by position. -/
structure Head where
  q : ℕ → Fin 128 → ℝ
  k : ℕ → Fin 128 → ℝ
  v : ℕ → Fin 128 → ℝ
  o : ℕ → Fin 128 → ℝ

namespace Head
variable (G : Head)

def Z (t s : ℕ) : ℝ := ∑ d, G.q t d * G.k s d
def LN (t s : ℕ) : ℝ := if s < t then -sp (G.Z t s) else 0
def SUF (t s : ℕ) : ℝ := ∑ x ∈ Ico (s + 1) 4096, G.LN t x
def W (t s : ℕ) : ℝ := if s < t then Real.exp (G.Z t s - sp (G.Z t s) + G.SUF t s) else 0
def DL (t s : ℕ) : ℝ := (∑ d, G.o t d * G.v s d) * G.W t s
def PRE (t s : ℕ) : ℝ := ∑ x ∈ range s, G.DL t x
def DZ (t s : ℕ) : ℝ := if s < t then G.DL t s * (1 - sgm (G.Z t s)) - sgm (G.Z t s) * G.PRE t s else 0
/-- The three gradients: over the keys below `n`, and over the queries below `n`. -/
def DQ (n t : ℕ) (d : Fin 128) : ℝ := ∑ s ∈ range n, G.DZ t s * G.k s d
def DK (n s : ℕ) (d : Fin 128) : ℝ := ∑ t ∈ range n, G.DZ t s * G.q t d
def DV (n s : ℕ) (d : Fin 128) : ℝ := ∑ t ∈ range n, G.W t s * G.o t d

/-- The block of `R` queries from `t0` and 256 keys from `s0`. -/
def blk (t0 s0 R : ℕ) : Blk R where
  q r := G.q (t0 + r)
  k c := G.k (s0 + c)
  v c := G.v (s0 + c)
  o r := G.o (t0 + r)
  cs r := G.SUF (t0 + r) (s0 + 255)
  ps r := G.PRE (t0 + r) s0
  m r c := s0 + c < t0 + r

theorem sum_above (f : ℕ → ℝ) (s0 : ℕ) (c : Fin 256) :
    (∑ x : Fin 256, f (s0 + x) * if c < x then 1 else 0) = ∑ x ∈ Ico (s0 + c + 1) (s0 + 256), f x := by
  have h : (∑ x : Fin 256, f (s0 + x) * if c < x then 1 else 0) = ∑ x ∈ range 256, f (s0 + x) * if c.val < x then 1 else 0 :=
    (Finset.sum_range (fun x => f (s0 + x) * if c.val < x then (1 : ℝ) else 0)).symm
  rw [h]
  simp only [mul_ite, mul_one, mul_zero]
  rw [← Finset.sum_filter, show s0 + c.val + 1 = (c.val + 1) + s0 by omega, Nat.add_comm s0 256, ← Finset.sum_Ico_add f]
  refine Finset.sum_congr ?_ fun _ _ => rfl
  ext x
  simp only [mem_filter, mem_range, mem_Ico]
  omega
theorem sum_below (f : ℕ → ℝ) (s0 : ℕ) (c : Fin 256) :
    (∑ x : Fin 256, f (s0 + x) * if x < c then 1 else 0) = ∑ x ∈ Ico s0 (s0 + c), f x := by
  have h : (∑ x : Fin 256, f (s0 + x) * if x < c then 1 else 0) = ∑ x ∈ range 256, f (s0 + x) * if x < c.val then 1 else 0 :=
    (Finset.sum_range (fun x => f (s0 + x) * if x < c.val then (1 : ℝ) else 0)).symm
  rw [h]
  simp only [mul_ite, mul_one, mul_zero]
  rw [← Finset.sum_filter, show Ico s0 (s0 + c.val) = Ico (0 + s0) (c.val + s0) by rw [Nat.zero_add, Nat.add_comm], ← Finset.sum_Ico_add f]
  refine Finset.sum_congr ?_ fun _ _ => rfl
  ext x
  simp only [mem_filter, mem_range, mem_Ico]
  omega
theorem sum_block (f : ℕ → ℝ) (s0 R : ℕ) : (∑ x : Fin R, f (s0 + x)) = ∑ x ∈ Ico s0 (s0 + R), f x := by
  rw [← Finset.sum_range (fun x => f (s0 + x)), Finset.sum_Ico_eq_sum_range, Nat.add_sub_cancel_left]
theorem sum_upto (f : ℕ → ℝ) (s0 R : ℕ) : (∑ x ∈ range s0, f x) + (∑ x : Fin R, f (s0 + x)) = ∑ x ∈ range (s0 + R), f x := by
  rw [sum_block, Finset.sum_range_add_sum_Ico f (Nat.le_add_right _ _)]

variable {t0 s0 R : ℕ} (hs : s0 + 256 ≤ 4096)

theorem blk_z (r : Fin R) (c : Fin 256) : (G.blk t0 s0 R).z r c = G.Z (t0 + r) (s0 + c) := rfl
theorem blk_m (r : Fin R) (c : Fin 256) : (G.blk t0 s0 R).m r c ↔ s0 + c.val < t0 + r.val := Iff.rfl
theorem blk_ln (r : Fin R) (c : Fin 256) : (G.blk t0 s0 R).ln r c = G.LN (t0 + r) (s0 + c) := by
  unfold Blk.ln LN
  rw [blk_z]
  exact if_congr (blk_m G r c) rfl rfl
include hs in
theorem blk_w (r : Fin R) (c : Fin 256) : (G.blk t0 s0 R).w r c = G.W (t0 + r) (s0 + c) := by
  unfold Blk.w W
  simp only [blk_ln, blk_z]
  rw [sum_above (fun x => G.LN (t0 + r) x)]
  refine if_congr (blk_m G r c) ?_ rfl
  rw [add_assoc, show (G.blk t0 s0 R).cs r = ∑ x ∈ Ico (s0 + 256) 4096, G.LN (t0 + r) x from rfl,
    Finset.sum_Ico_consecutive _ (by omega) hs]
  rfl
include hs in
theorem blk_dl (r : Fin R) (c : Fin 256) : (G.blk t0 s0 R).dl r c = G.DL (t0 + r) (s0 + c) := by
  unfold Blk.dl
  rw [blk_w G hs]
  rfl
include hs in
theorem blk_dz (r : Fin R) (c : Fin 256) : (G.blk t0 s0 R).dz r c = G.DZ (t0 + r) (s0 + c) := by
  unfold Blk.dz DZ Blk.pt
  simp only [blk_dl G hs, blk_z]
  rw [sum_below (fun x => G.DL (t0 + r) x), show (G.blk t0 s0 R).ps r = ∑ x ∈ range s0, G.DL (t0 + r) x from rfl,
    Finset.sum_range_add_sum_Ico _ (Nat.le_add_right _ _)]
  exact if_congr (blk_m G r c) rfl rfl
include hs in
theorem blk_tot (r : Fin R) : (G.blk t0 s0 R).ps r + (G.blk t0 s0 R).tot r = G.PRE (t0 + r) (s0 + 256) := by
  unfold Blk.tot
  simp only [blk_dl G hs]
  exact sum_upto (fun x => G.DL (t0 + r) x) s0 256
include hs in
theorem blk_dq (r : Fin R) (d : Fin 128) : G.DQ s0 (t0 + r) d + (G.blk t0 s0 R).dq r d = G.DQ (s0 + 256) (t0 + r) d := by
  unfold Blk.dq
  simp only [blk_dz G hs]
  exact sum_upto (fun x => G.DZ (t0 + r) x * G.k x d) s0 256
include hs in
theorem blk_dk (c : Fin 256) (d : Fin 128) : G.DK t0 (s0 + c) d + (G.blk t0 s0 R).dk c d = G.DK (t0 + R) (s0 + c) d := by
  unfold Blk.dk
  simp only [blk_dz G hs]
  exact sum_upto (fun x => G.DZ x (s0 + c) * G.q x d) t0 R
include hs in
theorem blk_dv (c : Fin 256) (d : Fin 128) : G.DV t0 (s0 + c) d + (G.blk t0 s0 R).dv c d = G.DV (t0 + R) (s0 + c) d := by
  unfold Blk.dv
  simp only [blk_w G hs]
  exact sum_upto (fun x => G.W x (s0 + c) * G.o x d) t0 R

/-- A key takes nothing from the queries up to its own position, and a query nothing to the keys from its own. -/
theorem DZ_zero {t s : ℕ} (h : t ≤ s) : G.DZ t s = 0 := if_neg (not_lt.mpr h)
theorem W_zero {t s : ℕ} (h : t ≤ s) : G.W t s = 0 := if_neg (not_lt.mpr h)
theorem DK_same {a b s : ℕ} (d : Fin 128) (hab : a ≤ b) (h : b ≤ s + 1) : G.DK b s d = G.DK a s d := by
  unfold DK
  rw [← Finset.sum_range_add_sum_Ico _ hab, Finset.sum_eq_zero (s := Ico a b), add_zero]
  intro x hx
  rw [DZ_zero G (by rw [mem_Ico] at hx; omega), zero_mul]
theorem DV_same {a b s : ℕ} (d : Fin 128) (hab : a ≤ b) (h : b ≤ s + 1) : G.DV b s d = G.DV a s d := by
  unfold DV
  rw [← Finset.sum_range_add_sum_Ico _ hab, Finset.sum_eq_zero (s := Ico a b), add_zero]
  intro x hx
  rw [W_zero G (by rw [mem_Ico] at hx; omega), zero_mul]
theorem DQ_same {a b t : ℕ} (d : Fin 128) (hab : a ≤ b) (h : t ≤ a) : G.DQ b t d = G.DQ a t d := by
  unfold DQ
  rw [← Finset.sum_range_add_sum_Ico _ hab, Finset.sum_eq_zero (s := Ico a b), add_zero]
  intro x hx
  rw [DZ_zero G (by rw [mem_Ico] at hx; omega), zero_mul]
end Head

end Cert.SbReal

end
-- ==== Proof.SbRun.lean ====
/-
  The accumulators over a point of the grid: after the blocks of keys below a bound, the gradient of the queries holds the sum over
  those keys, the gradients of the keys and values hold the point's queries at those keys, and the running sum is the one below
  the bound; one store after another.
-/
module

public import proofs.«01_k».proof.Proof.SbDiag
public import proofs.«01_k».proof.Proof.SbGlob
public import proofs.«01_k».proof.Proof.Gen.SbIdeal.Value
public import Idealize.ShloMosaic.Lib.WritesUnit
public import Idealize.ShloMosaic.Lib.Pipeline.ValueKit.Tiles

@[expose] public section

set_option maxRecDepth 16384
noncomputable section

open Idealize.ShloMosaic Idealize.ShloMosaic.TcCoe Idealize.SL.Sem
open Cert.Common

namespace Cert.SbIdeal.Val

open Cert.SbIdeal Cert.SbIdeal.Gen Cert.SbReal

/-- The column of a head's lane. -/
def col (h : Fin 2) (d : Fin 128) : Fin 256 := ⟨128 * h.val + d.val, by omega⟩

/-- What a view reads after stores, a rectangle inside a shape, and what is loaded of one. -/
abbrev rd {s e} (v : View sig .tc .vmem s e) (f : v.ty.Contents (Elt Ideal)) (L : List (View.Piece (Elt Ideal) s e)) :=
  v.read (Elt Ideal) (v.writes (Elt Ideal) f L)
abbrev Fits (s : Shape) (o n : Fin s.rank → ℕ) : Prop := ∀ a, o a + n a ≤ s.size a
abbrev lb (s : Shape) (X : s.Idx → EReal) (o n : Fin s.rank → ℕ) (b : Fits s o n) := View.ld (Val := Elt Ideal) (e' := .bf16) X (Rect.unit (s := s) o n b)
abbrev lf (s : Shape) (X : s.Idx → EReal) (o n : Fin s.rank → ℕ) (b : Fits s o n) := View.ld (Val := Elt Ideal) (e' := .f32) X (Rect.unit (s := s) o n b)

/-- The view reads the function of head, row and lane. -/
def At {N : ℕ} (X : (⟨2, ![N, 256]⟩ : Shape).Idx → EReal) (Fn : Fin 2 → ℕ → Fin 128 → ℝ) : Prop :=
  ∀ (h : Fin 2) (s : Fin N) (d : Fin 128), X (ix2 s (col h d)) = (Fn h s.val d : EReal)
def At3 (X : (⟨3, ![2, 512, 1]⟩ : Shape).Idx → EReal) (Fn : Fin 2 → ℕ → ℝ) : Prop :=
  ∀ (h : Fin 2) (r : Fin 512), X (ix3 h r 0) = (Fn h r.val : EReal)

/-- One store of a head's block of rows. -/
theorem At.step {N n : ℕ} {v : View sig .tc .vmem ⟨2, ![N, 256]⟩ .f32} {f : v.ty.Contents (Elt Ideal)}
    {L : List (View.Piece (Elt Ideal) ⟨2, ![N, 256]⟩ .f32)} {Fn F' : Fin 2 → ℕ → Fin 128 → ℝ}
    (hat : At (rd v f L) Fn) (off : ℕ) (h0 : Fin 2)
    {o : Fin 2 → ℕ} (inb : Fits ⟨2, ![N, 256]⟩ o ![n, 128]) (heq : o = ![off, 128 * h0.val])
    (A : (⟨2, ![n, 128]⟩ : Shape).Idx → EReal) (D : Fin n → Fin 128 → ℝ)
    (hA : ∀ i d, A (ix2 i d) = ((Fn h0 (off + i.val) d : ℝ) : EReal) + (D i d : EReal))
    (hin : ∀ (i : Fin n) d, F' h0 (off + i.val) d = Fn h0 (off + i.val) d + D i d)
    (hout : ∀ h s d, s < N → (h ≠ h0 ∨ s < off ∨ off + n ≤ s) → F' h s d = Fn h s d) :
    At (rd v f (⟨Rect.unit o ![n, 128] inb, A⟩ :: L)) F' := by
  intro h s d
  by_cases hh : h = h0 ∧ off ≤ s.val ∧ s.val < off + n
  · obtain ⟨rfl, hs⟩ := hh
    have e : s.val = off + (⟨s.val - off, by omega⟩ : Fin n).val := by show s.val = off + (s.val - off); omega
    have hr : rd v f (⟨Rect.unit o ![n, 128] inb, A⟩ :: L) (ix2 s (col h d))
        = A (ix2 ⟨s.val - off, by omega⟩ d) :=
      View.read_writes_cons_unit_of_mem _ _ _ _ _ (ix2 s (col h d)) (ix2 ⟨s.val - off, by omega⟩ d) heq (fun a => by
        fin_cases a
        · exact e
        · rfl)
    rw [hr, hA, ← EReal.coe_add, ← hin, ← e]
  · have hc : (s.val < off ∨ off + n ≤ s.val) ∨ h ≠ h0 := by
      by_cases h1 : h = h0
      · left
        by_contra h2
        exact hh ⟨h1, by omega⟩
      · exact Or.inr h1
    have hr : rd v f (⟨Rect.unit o ![n, 128] inb, A⟩ :: L) (ix2 s (col h d))
        = rd v f L (ix2 s (col h d)) := by
      unfold rd
      rcases hc with hc | hc
      · rw [View.read_writes_cons_unit_of_not_mem _ _ _ _ _ (ix2 s (col h d)) heq 0 (by exact hc)]
      · have hv : h.val ≠ h0.val := fun e => hc (Fin.ext e)
        rw [View.read_writes_cons_unit_of_not_mem _ _ _ _ _ (ix2 s (col h d)) heq 1 (by
          show 128 * h.val + d.val < 128 * h0.val ∨ 128 * h0.val + 128 ≤ 128 * h.val + d.val
          omega)]
    rw [hr, hat h s d, hout h s.val d s.isLt (by tauto)]
theorem At3.step {v : View sig .tc .vmem ⟨3, ![2, 512, 1]⟩ .f32} {f : v.ty.Contents (Elt Ideal)}
    {L : List (View.Piece (Elt Ideal) ⟨3, ![2, 512, 1]⟩ .f32)} {Fn F' : Fin 2 → ℕ → ℝ}
    (hat : At3 (rd v f L) Fn) (h0 : Fin 2)
    {o : Fin 3 → ℕ} (inb : Fits ⟨3, ![2, 512, 1]⟩ o ![1, 512, 1]) (heq : o = ![h0.val, 0, 0])
    (A : (⟨3, ![1, 512, 1]⟩ : Shape).Idx → EReal)
    (hA : ∀ i : Fin 512, A (ix3 0 i 0) = ((F' h0 i.val : ℝ) : EReal)) (hout : ∀ h s, h ≠ h0 → F' h s = Fn h s) :
    At3 (rd v f (⟨Rect.unit o ![1, 512, 1] inb, A⟩ :: L)) F' := by
  intro h r
  by_cases hh : h = h0
  · subst hh
    have hr : rd v f (⟨Rect.unit o ![1, 512, 1] inb, A⟩ :: L) (ix3 h r 0) = A (ix3 0 r 0) :=
      View.read_writes_cons_unit_of_mem _ _ _ _ _ (ix3 h r 0) (ix3 0 r 0) heq (fun a => by
        fin_cases a
        · rfl
        · show r.val = 0 + r.val; omega
        · rfl)
    rw [hr, hA]
  · have hv : h.val ≠ h0.val := fun e => hh (Fin.ext e)
    have hr : rd v f (⟨Rect.unit o ![1, 512, 1] inb, A⟩ :: L) (ix3 h r 0)
        = rd v f L (ix3 h r 0) := by
      unfold rd
      rw [View.read_writes_cons_unit_of_not_mem _ _ _ _ _ (ix3 h r 0) heq 0 (by
        show h.val < h0.val ∨ h0.val + 1 ≤ h.val
        omega)]
    rw [hr, hat h r, hout h r.val hh]

/-- What is loaded of a head's block of rows. -/
theorem At.ld {N n : ℕ} {X : (⟨2, ![N, 256]⟩ : Shape).Idx → EReal} {Fn : Fin 2 → ℕ → Fin 128 → ℝ} (hat : At X Fn) (off : ℕ) (h0 : Fin 2)
    {o : Fin 2 → ℕ} (inb : Fits ⟨2, ![N, 256]⟩ o ![n, 128]) (heq : o = ![off, 128 * h0.val])
    (i : Fin n) (d : Fin 128) : lf ⟨2, ![N, 256]⟩ X o ![n, 128] inb (ix2 i d) = (Fn h0 (off + i.val) d : EReal) := by
  subst heq
  have hb : off + n ≤ N := inb 0
  have hi := i.isLt
  exact (View.ld_unit_apply_of (Val := Elt Ideal) (e := .f32) (S := ⟨2, ![N, 256]⟩) X _ _ inb (ix2 i d) (ix2 ⟨off + i.val, by omega⟩ (col h0 d)) (fun a => by
    fin_cases a <;> first | rfl | exact (Nat.add_zero _).symm)).trans (hat h0 ⟨off + i.val, by omega⟩ d)
theorem At3.ld {n : ℕ} {X : (⟨3, ![2, 512, 1]⟩ : Shape).Idx → EReal} {Fn : Fin 2 → ℕ → ℝ} (hat : At3 X Fn) (off : ℕ) (h0 : Fin 2)
    {o : Fin 3 → ℕ} (inb : Fits ⟨3, ![2, 512, 1]⟩ o ![1, n, 1]) (heq : o = ![h0.val, off, 0])
    (i : Fin n) : lf ⟨3, ![2, 512, 1]⟩ X o ![1, n, 1] inb (ix3 0 i 0) = (Fn h0 (off + i.val) : EReal) := by
  subst heq
  have hb : off + n ≤ 512 := inb 1
  have hi := i.isLt
  exact (View.ld_unit_apply_of (Val := Elt Ideal) (e := .f32) (S := ⟨3, ![2, 512, 1]⟩) X _ _ inb (ix3 0 i 0) (ix3 h0 ⟨off + i.val, by omega⟩ 0) (fun a => by
    fin_cases a <;> first | rfl | exact (Nat.add_zero _).symm)).trans (hat h0 ⟨off + i.val, by omega⟩)

/-- The arrays a point is given: the pair of heads' rows from `t0` of the queries and of the incoming gradient, all their keys and
values, and in the sixteen first lanes of a row the logarithms left to the right of each block of keys. -/
structure Ins (G : Fin 2 → Head) (t0 : ℕ) (x0 : (⟨2, ![512, 256]⟩ : Shape).Idx → EReal) (x1 x2 : (⟨2, ![4096, 256]⟩ : Shape).Idx → EReal)
    (x3 x4 : (⟨2, ![512, 256]⟩ : Shape).Idx → EReal) : Prop where
  q : At x0 (fun h r d => (G h).q (t0 + r) d)
  k : At x1 (fun h s d => (G h).k s d)
  v : At x2 (fun h s d => (G h).v s d)
  o : At x3 (fun h r d => (G h).o (t0 + r) d)
  cs : ∀ (h : Fin 2) (r : Fin 512) (l : Fin 128), l.val < 16 → x4 (ix2 r (col h l)) = ((G h).SUF (t0 + r.val) (256 * l.val + 255) : EReal)

/-- A lane picked out of a row. -/
theorem pick (f : Fin 128 → EReal) (w : BitVec 32) (l : Fin 128) (hw : w = BitVec.ofNat 32 l.val) :
    (∑ x : Fin 128, Scalar.select (IntOp.cmpi CmpIPredicate.eq (BitVec.ofNat 32 x.val) w) (f x) 0) = f l := by
  subst hw
  rw [Finset.sum_eq_single l]
  · have e : IntOp.cmpi CmpIPredicate.eq (BitVec.ofNat 32 l.val) (BitVec.ofNat 32 l.val) = 1#1 := by
      show BitVec.ofBool (_ == _) = _
      rw [beq_self_eq_true]; rfl
    rw [e]; rfl
  · intro x _ hx
    have e : IntOp.cmpi CmpIPredicate.eq (BitVec.ofNat 32 x.val) (BitVec.ofNat 32 l.val) = 0#1 := by
      show BitVec.ofBool (_ == _) = _
      have hne : ¬ (BitVec.ofNat 32 x.val = BitVec.ofNat 32 l.val) := fun h => hx (Fin.ext (by
        have h2 := congrArg BitVec.toNat h
        rw [BitVec.toNat_ofNat, BitVec.toNat_ofNat, Nat.mod_eq_of_lt (by omega), Nat.mod_eq_of_lt (by omega)] at h2
        exact h2))
      rw [beq_eq_false_iff_ne.mpr hne]; rfl
    rw [e]; rfl
  · intro h; exact absurd (Finset.mem_univ l) h

variable {G : Fin 2 → Head} {t0 : ℕ} {x0 : Vec Ideal S512x256 .bf16} {x1 x2 : Vec Ideal S4096x256 .bf16} {x3 : Vec Ideal S512x256 .bf16}
  {x4 : Vec Ideal S512x256 .f32} (I : Ins G t0 x0 x1 x2 x3 x4)

theorem cs_trip (i : grid0.Coords) (k : Fin (k0_t1_loop i).trips) (l : Fin 128) (hl : l.val = k.val) (X : Vec Ideal S512x128 .f32) (r : Fin 512) :
    k0_pay12 (F := Ideal) i (iota Kind.tc S512x128 32 [1] iota_S512x128_d1_w32) 0#32 1#32 k X (ix2 r 0) = X (ix2 r l) := by
  pointwise [k0_pay12]
  refine pick (fun x => X (ix2 r x)) _ l ?_
  rw [hl]
  show 0#32 + BitVec.ofNat 32 k.val * 1#32 = _
  rw [BitVec.mul_one, BitVec.zero_add]

/-- How many blocks of keys each head has taken. -/
def bump (a : Fin 2 → ℕ) (h0 h : Fin 2) : ℕ := if h = h0 then a h + 1 else a h
theorem bump_both (k : ℕ) : bump (bump (fun _ => k) 0) 1 = fun _ => k + 1 := by
  funext h
  fin_cases h <;> rfl
theorem bump_self (a : Fin 2 → ℕ) (h0 : Fin 2) : bump a h0 h0 = a h0 + 1 := if_pos rfl
theorem bump_ne (a : Fin 2 → ℕ) {h0 h : Fin 2} (hh : h ≠ h0) : bump a h0 h = a h := if_neg hh

/-- The accumulators after so many blocks. -/
def FQ (G : Fin 2 → Head) (t0 : ℕ) (a : Fin 2 → ℕ) (h : Fin 2) (r : ℕ) (d : Fin 128) : ℝ := (G h).DQ (256 * a h) (t0 + r) d
def FK (G : Fin 2 → Head) (t0 : ℕ) (a : Fin 2 → ℕ) (h : Fin 2) (s : ℕ) (d : Fin 128) : ℝ := (G h).DK (if s < 256 * a h then t0 + 512 else t0) s d
def FV (G : Fin 2 → Head) (t0 : ℕ) (a : Fin 2 → ℕ) (h : Fin 2) (s : ℕ) (d : Fin 128) : ℝ := (G h).DV (if s < 256 * a h then t0 + 512 else t0) s d
def FP (G : Fin 2 → Head) (t0 : ℕ) (a : Fin 2 → ℕ) (h : Fin 2) (r : ℕ) : ℝ := (G h).PRE (t0 + r) (256 * a h)

section steps
variable {a : Fin 2 → ℕ} (h0 : Fin 2)

theorem stepQ {n : ℕ} {v : View sig .tc .vmem S512x256 .f32} {f : v.ty.Contents (Elt Ideal)} {L : List (View.Piece (Elt Ideal) S512x256 .f32)}
    (hat : At (rd v f L) (FQ G t0 a)) (off : ℕ)
    {o : Fin 2 → ℕ} (inb : Fits S512x256 o ![n, 128]) (heq : o = ![off, 128 * h0.val])
    (A : (⟨2, ![n, 128]⟩ : Shape).Idx → EReal) (D : Fin n → Fin 128 → ℝ)
    (hA : ∀ i d, A (ix2 i d) = ((FQ G t0 a h0 (off + i.val) d : ℝ) : EReal) + (D i d : EReal))
    (hD : ∀ (i : Fin n) d, (G h0).DQ (256 * a h0) (t0 + (off + i.val)) d + D i d = (G h0).DQ (256 * a h0 + 256) (t0 + (off + i.val)) d)
    (hout : ∀ r d, r < 512 → (r < off ∨ off + n ≤ r) → (G h0).DQ (256 * a h0 + 256) (t0 + r) d = (G h0).DQ (256 * a h0) (t0 + r) d) :
    At (rd v f (⟨Rect.unit o ![n, 128] inb, A⟩ :: L)) (FQ G t0 (bump a h0)) := by
  refine At.step hat off h0 inb heq A D hA (fun i d => ?_) (fun h s d hs hc => ?_)
  · unfold FQ
    rw [bump_self, hD]
    rfl
  · unfold FQ
    by_cases hh : h = h0
    · subst hh
      rw [bump_self]
      exact hout s d hs (by tauto)
    · rw [bump_ne a hh]
theorem stepK {v : View sig .tc .vmem S4096x256 .f32} {f : v.ty.Contents (Elt Ideal)} {L : List (View.Piece (Elt Ideal) S4096x256 .f32)}
    (hat : At (rd v f L) (FK G t0 a))
    {o : Fin 2 → ℕ} (inb : Fits S4096x256 o ![256, 128]) (heq : o = ![256 * a h0, 128 * h0.val])
    (A : (⟨2, ![256, 128]⟩ : Shape).Idx → EReal) (D : Fin 256 → Fin 128 → ℝ)
    (hA : ∀ i d, A (ix2 i d) = ((FK G t0 a h0 (256 * a h0 + i.val) d : ℝ) : EReal) + (D i d : EReal))
    (hD : ∀ (i : Fin 256) d, (G h0).DK t0 (256 * a h0 + i.val) d + D i d = (G h0).DK (t0 + 512) (256 * a h0 + i.val) d) :
    At (rd v f (⟨Rect.unit o ![256, 128] inb, A⟩ :: L)) (FK G t0 (bump a h0)) := by
  refine At.step hat (256 * a h0) h0 inb heq A D hA (fun i d => ?_) (fun h s d hs hc => ?_)
  · have hi := i.isLt
    unfold FK
    rw [bump_self, if_pos (by omega), if_neg (by omega), hD]
  · unfold FK
    by_cases hh : h = h0
    · subst hh
      rw [bump_self]
      congr 1
      exact if_congr (by have : s < 256 * a h ∨ 256 * a h + 256 ≤ s := by tauto
                         omega) rfl rfl
    · rw [bump_ne a hh]
theorem stepV {v : View sig .tc .vmem S4096x256 .f32} {f : v.ty.Contents (Elt Ideal)} {L : List (View.Piece (Elt Ideal) S4096x256 .f32)}
    (hat : At (rd v f L) (FV G t0 a))
    {o : Fin 2 → ℕ} (inb : Fits S4096x256 o ![256, 128]) (heq : o = ![256 * a h0, 128 * h0.val])
    (A : (⟨2, ![256, 128]⟩ : Shape).Idx → EReal) (D : Fin 256 → Fin 128 → ℝ)
    (hA : ∀ i d, A (ix2 i d) = ((FV G t0 a h0 (256 * a h0 + i.val) d : ℝ) : EReal) + (D i d : EReal))
    (hD : ∀ (i : Fin 256) d, (G h0).DV t0 (256 * a h0 + i.val) d + D i d = (G h0).DV (t0 + 512) (256 * a h0 + i.val) d) :
    At (rd v f (⟨Rect.unit o ![256, 128] inb, A⟩ :: L)) (FV G t0 (bump a h0)) := by
  refine At.step hat (256 * a h0) h0 inb heq A D hA (fun i d => ?_) (fun h s d hs hc => ?_)
  · have hi := i.isLt
    unfold FV
    rw [bump_self, if_pos (by omega), if_neg (by omega), hD]
  · unfold FV
    by_cases hh : h = h0
    · subst hh
      rw [bump_self]
      congr 1
      exact if_congr (by have : s < 256 * a h ∨ 256 * a h + 256 ≤ s := by tauto
                         omega) rfl rfl
    · rw [bump_ne a hh]
theorem stepP {v : View sig .tc .vmem S2x512x1 .f32} {f : v.ty.Contents (Elt Ideal)} {L : List (View.Piece (Elt Ideal) S2x512x1 .f32)}
    (hat : At3 (rd v f L) (FP G t0 a))
    {o : Fin 3 → ℕ} (inb : Fits S2x512x1 o ![1, 512, 1]) (heq : o = ![h0.val, 0, 0])
    (A : (⟨3, ![1, 512, 1]⟩ : Shape).Idx → EReal)
    (hA : ∀ i : Fin 512, A (ix3 0 i 0) = (((G h0).PRE (t0 + i.val) (256 * a h0 + 256) : ℝ) : EReal)) :
    At3 (rd v f (⟨Rect.unit o ![1, 512, 1] inb, A⟩ :: L)) (FP G t0 (bump a h0)) := by
  refine At3.step hat h0 inb heq A (fun i => ?_) (fun h s hh => ?_)
  · rw [hA]
    unfold FP
    rw [bump_self]
    rfl
  · unfold FP
    rw [bump_ne a hh]
end steps

section trip
variable (c : Dev nD) (i : grid0.Coords)
  (m2 : Memref sig .tc .vmem S512x256 .bf16) (hm2 : m2.IsWhole) (m3 : Memref sig .tc .vmem S4096x256 .bf16) (hm3 : m3.IsWhole)
  (m4 : Memref sig .tc .vmem S4096x256 .bf16) (hm4 : m4.IsWhole) (m5 : Memref sig .tc .vmem S512x256 .bf16) (hm5 : m5.IsWhole)
  (m6 : Memref sig .tc .vmem S512x256 .f32) (hm6 : m6.IsWhole) (m7 : Memref sig .tc .vmem S512x256 .f32) (hm7 : m7.IsWhole)
  (m8 : Memref sig .tc .vmem S4096x256 .f32) (hm8 : m8.IsWhole) (m9 : Memref sig .tc .vmem S4096x256 .f32) (hm9 : m9.IsWhole)
  (m10 : Memref sig .tc .vmem S2x512x1 .f32) (hm10 : m10.IsWhole)

include I in
theorem loaded_trip (h : Fin 2) (k : Fin (k0_t1_loop i).trips) (hk : k.val < 16) {o1 o2 : Fin 2 → ℕ} (e1 : o1 = ![256 * k.val, 128 * h.val]) (e2 : o2 = ![0, 128 * h.val])
    (b1 : Fits S4096x256 o1 ![256, 128]) (b2 : Fits S512x256 o2 ![512, 128])
    {X : S2x512x1.Idx → EReal} (hP : At3 X (FP G t0 fun _ => k.val)) {o3 : Fin 3 → ℕ} (e3 : o3 = ![h.val, 0, 0])
    (b3 : Fits S2x512x1 o3 ![1, 512, 1]) :
    Loaded ((G h).blk t0 (256 * k.val) 512) (lb S4096x256 x1 o1 ![256, 128] b1)
      (lb S4096x256 x2 o1 ![256, 128] b1)
      (lb S512x256 x0 o2 ![512, 128] b2) (lb S512x256 x3 o2 ![512, 128] b2)
      (k0_pay12 i (iota Kind.tc S512x128 32 [1] iota_S512x128_d1_w32) 0#32 1#32 k (lf S512x256 x4 o2 ![512, 128] b2))
      (lf S2x512x1 X o3 ![1, 512, 1] b3) where
  k cc d := At.ld I.k _ h b1 e1 cc d
  v cc d := At.ld I.v _ h b1 e1 cc d
  q r d := (At.ld I.q _ h b2 e2 r d).trans (by rw [Nat.zero_add]; rfl)
  o r d := (At.ld I.o _ h b2 e2 r d).trans (by rw [Nat.zero_add]; rfl)
  cs r := by
    subst e2
    rw [cs_trip i k ⟨k.val, by omega⟩ rfl]
    refine (View.ld_unit_apply_of (Val := Elt Ideal) (e := .f32) (S := S512x256) x4 _ _ b2 (ix2 r ⟨k.val, by omega⟩) (ix2 r (col h ⟨k.val, by omega⟩)) (fun a => by
      fin_cases a
      · show r.val = 0 + r.val; omega
      · rfl)).trans (I.cs h r ⟨k.val, by omega⟩ hk)
  ps r := (At3.ld hP _ h b3 e3 r).trans (by rw [Nat.zero_add]; rfl)

include I in
set_option maxHeartbeats 2000000 in
/-- One trip of the loop over the key blocks before the diagonal. -/
theorem trip_at (k : Fin (k0_t1_loop i).trips) (hk : k.val < 16) (ht : 256 * k.val + 256 ≤ t0) g7 g8 g9 g10 L7 L8 L9 L10
    (h7 : At (rd m7.view g7 L7) (FQ G t0 fun _ => k.val))
    (h8 : At (rd m8.view g8 L8) (FK G t0 fun _ => k.val))
    (h9 : At (rd m9.view g9 L9) (FV G t0 fun _ => k.val))
    (h10 : At3 (rd m10.view g10 L10) (FP G t0 fun _ => k.val))
    (T) (hT : T = tripL_k0_t1 (F := Ideal) Variants.none c none i m2 hm2 m3 hm3 m4 hm4 m5 hm5 m6 hm6 m7 hm7 m8 hm8 m9 hm9 m10 hm10 (iota Kind.tc S512x128 32 [1] iota_S512x128_d1_w32)
      (hm2.unread x0) (hm3.unread x1) (hm4.unread x2) (hm5.unread x3) (hm6.unread x4) k
      (m7.view.writes (Elt Ideal) g7 L7) (m8.view.writes (Elt Ideal) g8 L8) (m9.view.writes (Elt Ideal) g9 L9) (m10.view.writes (Elt Ideal) g10 L10)) :
    At (rd m7.view g7 (T.1 ++ L7)) (FQ G t0 fun _ => k.val + 1)
    ∧ At (rd m8.view g8 (T.2.1 ++ L8)) (FK G t0 fun _ => k.val + 1)
    ∧ At (rd m9.view g9 (T.2.2.1 ++ L9)) (FV G t0 fun _ => k.val + 1)
    ∧ At3 (rd m10.view g10 (T.2.2.2 ++ L10)) (FP G t0 fun _ => k.val + 1) := by
  have hs : 256 * k.val + 256 ≤ 4096 := by omega
  have hm : ∀ h r cc, ((G h).blk t0 (256 * k.val) 512).m r cc := fun h r cc => by
    show 256 * k.val + cc.val < t0 + r.val
    omega
  revert hT
  unfold tripL_k0_t1 trip_k0_t1
  dsimp only
  sl_unfold_words
  simp only [View.readAt_eq_ld, hm2.read_unread, hm3.read_unread, hm4.read_unread, hm5.read_unread, hm6.read_unread]
  intro hT
  subst hT
  have ld0 := loaded_trip I i 0 k hk (k0_off1_eq i k) rfl (k0_off1_inb i k) inb_S512x256_S512x128_0_0 h10 (o3 := ![0, 0, 0]) rfl inb_S2x512x1_S1x512x1_0_0_0
  have ld1 := loaded_trip I i 1 k hk (k0_off2_eq i k) rfl (k0_off2_inb i k) inb_S512x256_S512x128_0_128 h10 (o3 := ![1, 0, 0]) rfl inb_S2x512x1_S1x512x1_1_0_0
  rw [← bump_both]
  refine ⟨?_, ?_, ?_, ?_⟩
  · refine stepQ 1 (stepQ 0 h7 0 inb_S512x256_S512x128_0_0 rfl _ ((G 0).blk t0 (256 * k.val) 512).dq (fun r d => ?_) (fun r d => ?_) (fun r d h1 h2 => by omega))
      0 inb_S512x256_S512x128_0_128 rfl _ ((G 1).blk t0 (256 * k.val) 512).dq (fun r d => ?_) (fun r d => ?_) (fun r d h1 h2 => by omega)
    · refine (dq_at (hm 0) ld0 _ r d).trans ?_
      exact congrArg (fun x : EReal => x + _) (At.ld h7 0 0 inb_S512x256_S512x128_0_0 rfl r d)
    · rw [Nat.zero_add]
      exact (G 0).blk_dq hs r d
    · refine (dq_at (hm 1) ld1 _ r d).trans ?_
      exact congrArg (fun x : EReal => x + _) (At.ld h7 0 1 inb_S512x256_S512x128_0_128 rfl r d)
    · rw [Nat.zero_add]
      exact (G 1).blk_dq hs r d
  · refine stepK 1 (stepK 0 h8 (k0_off1_inb i k) (k0_off1_eq i k) _ ((G 0).blk t0 (256 * k.val) 512).dk (fun r d => ?_) (fun r d => ?_))
      (k0_off2_inb i k) (k0_off2_eq i k) _ ((G 1).blk t0 (256 * k.val) 512).dk (fun r d => ?_) (fun r d => ?_)
    · refine (dk_at (hm 0) ld0 _ r d).trans ?_
      exact congrArg (fun x : EReal => x + _) (At.ld h8 (256 * k.val) 0 (k0_off1_inb i k) (k0_off1_eq i k) r d)
    · exact (G 0).blk_dk hs r d
    · refine (dk_at (hm 1) ld1 _ r d).trans ?_
      exact congrArg (fun x : EReal => x + _) (At.ld h8 (256 * k.val) 1 (k0_off2_inb i k) (k0_off2_eq i k) r d)
    · exact (G 1).blk_dk hs r d
  · refine stepV 1 (stepV 0 h9 (k0_off1_inb i k) (k0_off1_eq i k) _ ((G 0).blk t0 (256 * k.val) 512).dv (fun r d => ?_) (fun r d => ?_))
      (k0_off2_inb i k) (k0_off2_eq i k) _ ((G 1).blk t0 (256 * k.val) 512).dv (fun r d => ?_) (fun r d => ?_)
    · refine (dv_at (hm 0) ld0 _ r d).trans ?_
      exact congrArg (fun x : EReal => x + _) (At.ld h9 (256 * k.val) 0 (k0_off1_inb i k) (k0_off1_eq i k) r d)
    · exact (G 0).blk_dv hs r d
    · refine (dv_at (hm 1) ld1 _ r d).trans ?_
      exact congrArg (fun x : EReal => x + _) (At.ld h9 (256 * k.val) 1 (k0_off2_inb i k) (k0_off2_eq i k) r d)
    · exact (G 1).blk_dv hs r d
  · refine stepP 1 (stepP 0 h10 inb_S2x512x1_S1x512x1_0_0_0 rfl _ (fun r => ?_)) inb_S2x512x1_S1x512x1_1_0_0 rfl _ (fun r => ?_)
    · refine (ps_at (hm 0) ld0 r).trans (congrArg (fun x : ℝ => (x : EReal)) ?_)
      exact (G 0).blk_tot hs r
    · refine (ps_at (hm 1) ld1 r).trans (congrArg (fun x : ℝ => (x : EReal)) ?_)
      exact (G 1).blk_tot hs r
end trip

end Cert.SbIdeal.Val
end
-- ==== Proof.SbTail.lean ====
module
public import proofs.«01_k».proof.Proof.SbRun
public import proofs.«01_k».proof.Proof.SbDiag
@[expose] public section
set_option maxRecDepth 16384
noncomputable section
open Idealize.ShloMosaic Idealize.ShloMosaic.TcCoe Idealize.SL.Sem
namespace Cert.SbIdeal.Val
open Cert.SbIdeal Cert.SbIdeal.Gen Cert.SbReal

/-!
The two blocks of keys that hold a point's own queries: 256 keys against all 512 queries, then 256 keys against
the last 256 queries.  For each of the four written arrays: the four stores (two blocks, two heads) take what the
loop left to what two more blocks of keys give.
-/

variable {G : Fin 2 → Head} {t0 n : ℕ} (ht : t0 = 256 * n) (hn : n < 15)
  {K0 K1 V0 V1 : Vec Ideal S256x128 .bf16} {q0 q1 o0 o1 : Vec Ideal S512x128 .bf16} {c0 c1 : FVec Ideal S512x1 .f32} {P0 P1 : Vec Ideal S1x512x1 .f32}
  (l0 : Loaded ((G 0).blk t0 (256 * n) 512) K0 V0 q0 o0 c0 P0) (l1 : Loaded ((G 1).blk t0 (256 * n) 512) K1 V1 q1 o1 c1 P1)
  {K2 K3 V2 V3 : Vec Ideal S256x128 .bf16} {q2 q3 o2 o3 : Vec Ideal S256x128 .bf16} {c2 c3 : FVec Ideal S256x1 .f32} {P2 P3 : Vec Ideal S1x256x1 .f32}
  (l2 : Loaded ((G 0).blk (t0 + 256) (256 * (n + 1)) 256) K2 V2 q2 o2 c2 P2) (l3 : Loaded ((G 1).blk (t0 + 256) (256 * (n + 1)) 256) K3 V3 q3 o3 c3 P3)

/-- The second head's gradient of the logarithms, and its sums to the left, as the kernel writes them. -/
abbrev D1 (K V : Vec Ideal S256x128 .bf16) (q o : Vec Ideal S512x128 .bf16) (c : FVec Ideal S512x1 .f32) : FVec Ideal S512x256 .f32 :=
  k0_pay114 k0_pay90 (k0_pay96 o) c (k0_pay100 (k0_pay92 K) (k0_pay94 q)) (k0_pay104 (k0_pay92 K) (k0_pay94 q)) (k0_pay108 k0_pay90 (k0_pay92 K) (k0_pay94 q))
    (k0_pay109 k0_pay76) (k0_pay110 k0_pay76 k0_pay90 (k0_pay92 K) (k0_pay94 q)) (constant S512x256 .f32 0x00000000#32) V
abbrev T1 (K V : Vec Ideal S256x128 .bf16) (q o : Vec Ideal S512x128 .bf16) (c : FVec Ideal S512x1 .f32) : FVec Ideal S512x256 .f32 :=
  k0_pay116 k0_pay77 k0_pay90 (k0_pay96 o) c (k0_pay100 (k0_pay92 K) (k0_pay94 q)) (k0_pay104 (k0_pay92 K) (k0_pay94 q)) (k0_pay108 k0_pay90 (k0_pay92 K) (k0_pay94 q))
    (k0_pay109 k0_pay76) (k0_pay110 k0_pay76 k0_pay90 (k0_pay92 K) (k0_pay94 q)) (constant S512x256 .f32 0x00000000#32) V
abbrev D3 (K V q o : Vec Ideal S256x128 .bf16) (c : FVec Ideal S256x1 .f32) : FVec Ideal S256x256 .f32 :=
  k0_pay154 k0_pay76 k0_pay135 (k0_pay141 o) c (k0_pay145 (k0_pay137 K) (k0_pay139 q)) (k0_pay149 (k0_pay137 K) (k0_pay139 q)) V

include ht in
theorem m0_iff (h : Fin 2) (r : Fin 512) (c : Fin 256) : ((G h).blk t0 (256 * n) 512).m r c ↔ c.val < r.val := by
  rw [Head.blk_m]; omega
include ht in
theorem m1_iff (h : Fin 2) (r : Fin 256) (c : Fin 256) : ((G h).blk (t0 + 256) (256 * (n + 1)) 256).m r c ↔ c.val < r.val := by
  rw [Head.blk_m]; omega

include ht hn l0 l1 l2 l3

theorem tailK {v : View sig .tc .vmem S4096x256 .f32} {f : v.ty.Contents (Elt Ideal)} {L : List (View.Piece (Elt Ideal) S4096x256 .f32)}
    (hat : At (rd v f L) (FK G t0 fun _ => n))
    {a0 a1 a2 a3 : Fin 2 → ℕ} (b0 : Fits S4096x256 a0 ![256, 128]) (b1 : Fits S4096x256 a1 ![256, 128])
    (b2 : Fits S4096x256 a2 ![256, 128]) (b3 : Fits S4096x256 a3 ![256, 128])
    (e0 : a0 = ![256 * n, 0]) (e1 : a1 = ![256 * n, 128]) (e2 : a2 = ![256 * (n + 1), 0]) (e3 : a3 = ![256 * (n + 1), 128])
    (L0 L1 L2 L3)
    (h0 : L0 = (⟨Rect.unit a0 ![256, 128] b0, k0_pay128 (F := Ideal) (k0_pay93 q0) (k0_pay125 k0_pay90 (Z0 K0 q0) (E0 K0 q0) (DL0 K0 V0 q0 o0 c0) (PT0 K0 V0 q0 o0 c0) (k0_pay117 P0))
      (constant S256x128 .f32 0x00000000#32) (lf S4096x256 (rd v f L) a0 ![256, 128] b0)⟩ : View.Piece (Elt Ideal) S4096x256 .f32) :: L)
    (h1 : L1 = (⟨Rect.unit a1 ![256, 128] b1, k0_pay132 (F := Ideal) (k0_pay94 q1) (k0_pay122 k0_pay90 (k0_pay100 (k0_pay92 K1) (k0_pay94 q1)) (k0_pay102 (k0_pay92 K1) (k0_pay94 q1))
      (D1 K1 V1 q1 o1 c1) (T1 K1 V1 q1 o1 c1) P1) (lf S4096x256 (rd v f L0) a1 ![256, 128] b1)⟩ : View.Piece (Elt Ideal) S4096x256 .f32) :: L0)
    (h2 : L2 = (⟨Rect.unit a2 ![256, 128] b2, k0_pay171 (F := Ideal) k0_pay135 (k0_pay138 q2) (DY1 K2 V2 q2 o2 c2 P2)
      (lf S4096x256 (rd v f L1) a2 ![256, 128] b2)⟩ : View.Piece (Elt Ideal) S4096x256 .f32) :: L1)
    (h3 : L3 = (⟨Rect.unit a3 ![256, 128] b3, k0_pay3 (F := Ideal) (k0_pay168 k0_pay135 (k0_pay139 q3) (D3 K3 V3 q3 o3 c3) (k0_pay157 k0_pay77 (D3 K3 V3 q3 o3 c3)) (k0_pay159 P3)
      (k0_pay160 (k0_pay145 (k0_pay137 K3) (k0_pay139 q3)) (k0_pay147 (k0_pay137 K3) (k0_pay139 q3))) k0_pay162)
      (lf S4096x256 (rd v f L2) a3 ![256, 128] b3)⟩ : View.Piece (Elt Ideal) S4096x256 .f32) :: L2) :
    At (rd v f L3) (FK G t0 fun _ => n + 2) := by
  have hs : 256 * n + 256 ≤ 4096 := by omega
  have hs1 : 256 * (n + 1) + 256 ≤ 4096 := by omega
  have s0 := stepK 0 hat b0 e0 _ ((G 0).blk t0 (256 * n) 512).dk
    (fun i d => (dk0_at (m0_iff ht 0) l0 _ i d).trans (congrArg (fun x : EReal => x + _) (At.ld hat (256 * n) 0 b0 e0 i d))) (fun i d => (G 0).blk_dk hs i d)
  rw [← h0] at s0
  have s1 := stepK 1 s0 b1 e1 _ ((G 1).blk t0 (256 * n) 512).dk
    (fun i d => (dk0_at (m0_iff ht 1) l1 _ i d).trans (congrArg (fun x : EReal => x + _) (At.ld s0 (256 * n) 1 b1 e1 i d))) (fun i d => (G 1).blk_dk hs i d)
  rw [bump_both] at s1
  have s1' : At (rd v f L1) (FK G t0 fun _ => n + 1) := by rw [h1]; exact s1
  have hd : ∀ h (i : Fin 256) d, (G h).DK t0 (256 * (n + 1) + i.val) d + ((G h).blk (t0 + 256) (256 * (n + 1)) 256).dk i d = (G h).DK (t0 + 512) (256 * (n + 1) + i.val) d := fun h i d => by
    rw [← (G h).DK_same (a := t0) (b := t0 + 256) d (by omega) (by omega)]
    exact (G h).blk_dk hs1 i d
  have s2 := stepK 0 s1' b2 e2 _ ((G 0).blk (t0 + 256) (256 * (n + 1)) 256).dk
    (fun i d => (dk1_at (m1_iff ht 0) l2 _ i d).trans (congrArg (fun x : EReal => x + _) (At.ld s1' (256 * (n + 1)) 0 b2 e2 i d))) (hd 0)
  rw [← h2] at s2
  have s3 := stepK 1 s2 b3 e3 _ ((G 1).blk (t0 + 256) (256 * (n + 1)) 256).dk
    (fun i d => (dk1_at (m1_iff ht 1) l3 _ i d).trans (congrArg (fun x : EReal => x + _) (At.ld s2 (256 * (n + 1)) 1 b3 e3 i d))) (hd 1)
  rw [bump_both] at s3
  rw [h3]
  exact s3

theorem tailV {v : View sig .tc .vmem S4096x256 .f32} {f : v.ty.Contents (Elt Ideal)} {L : List (View.Piece (Elt Ideal) S4096x256 .f32)}
    (hat : At (rd v f L) (FV G t0 fun _ => n))
    {a0 a1 a2 a3 : Fin 2 → ℕ} (b0 : Fits S4096x256 a0 ![256, 128]) (b1 : Fits S4096x256 a1 ![256, 128])
    (b2 : Fits S4096x256 a2 ![256, 128]) (b3 : Fits S4096x256 a3 ![256, 128])
    (e0 : a0 = ![256 * n, 0]) (e1 : a1 = ![256 * n, 128]) (e2 : a2 = ![256 * (n + 1), 0]) (e3 : a3 = ![256 * (n + 1), 128])
    (L0 L1 L2 L3)
    (h0 : L0 = (⟨Rect.unit a0 ![256, 128] b0, k0_pay129 (F := Ideal) (k0_pay95 o0) (W0 K0 q0 c0)
      (lf S4096x256 (rd v f L) a0 ![256, 128] b0)⟩ : View.Piece (Elt Ideal) S4096x256 .f32) :: L)
    (h1 : L1 = (⟨Rect.unit a1 ![256, 128] b1, k0_pay133 (F := Ideal) (k0_pay126 (k0_pay96 o1) (k0_pay112 k0_pay90 c1 (k0_pay100 (k0_pay92 K1) (k0_pay94 q1)) (k0_pay104 (k0_pay92 K1) (k0_pay94 q1))
      (k0_pay108 k0_pay90 (k0_pay92 K1) (k0_pay94 q1)) (k0_pay109 k0_pay76) (k0_pay110 k0_pay76 k0_pay90 (k0_pay92 K1) (k0_pay94 q1)) (constant S512x256 .f32 0x00000000#32)))
      (lf S4096x256 (rd v f L0) a1 ![256, 128] b1)⟩ : View.Piece (Elt Ideal) S4096x256 .f32) :: L0)
    (h2 : L2 = (⟨Rect.unit a2 ![256, 128] b2, k0_pay172 (F := Ideal) (k0_pay140 o2) (W1 K2 q2 c2)
      (lf S4096x256 (rd v f L1) a2 ![256, 128] b2)⟩ : View.Piece (Elt Ideal) S4096x256 .f32) :: L1)
    (h3 : L3 = (⟨Rect.unit a3 ![256, 128] b3, k0_pay4 (F := Ideal) (k0_pay169 (k0_pay141 o3) (k0_pay152 k0_pay76 k0_pay135 c3 (k0_pay145 (k0_pay137 K3) (k0_pay139 q3)) (k0_pay149 (k0_pay137 K3) (k0_pay139 q3))))
      (lf S4096x256 (rd v f L2) a3 ![256, 128] b3)⟩ : View.Piece (Elt Ideal) S4096x256 .f32) :: L2) :
    At (rd v f L3) (FV G t0 fun _ => n + 2) := by
  have hs : 256 * n + 256 ≤ 4096 := by omega
  have hs1 : 256 * (n + 1) + 256 ≤ 4096 := by omega
  have s0 := stepV 0 hat b0 e0 _ ((G 0).blk t0 (256 * n) 512).dv
    (fun i d => (dv0_at (m0_iff ht 0) l0 _ i d).trans (congrArg (fun x : EReal => x + _) (At.ld hat (256 * n) 0 b0 e0 i d))) (fun i d => (G 0).blk_dv hs i d)
  rw [← h0] at s0
  have s1 := stepV 1 s0 b1 e1 _ ((G 1).blk t0 (256 * n) 512).dv
    (fun i d => (dv0_at (m0_iff ht 1) l1 _ i d).trans (congrArg (fun x : EReal => x + _) (At.ld s0 (256 * n) 1 b1 e1 i d))) (fun i d => (G 1).blk_dv hs i d)
  rw [bump_both] at s1
  have s1' : At (rd v f L1) (FV G t0 fun _ => n + 1) := by rw [h1]; exact s1
  have hd : ∀ h (i : Fin 256) d, (G h).DV t0 (256 * (n + 1) + i.val) d + ((G h).blk (t0 + 256) (256 * (n + 1)) 256).dv i d = (G h).DV (t0 + 512) (256 * (n + 1) + i.val) d := fun h i d => by
    rw [← (G h).DV_same (a := t0) (b := t0 + 256) d (by omega) (by omega)]
    exact (G h).blk_dv hs1 i d
  have s2 := stepV 0 s1' b2 e2 _ ((G 0).blk (t0 + 256) (256 * (n + 1)) 256).dv
    (fun i d => (dv1_at (m1_iff ht 0) l2 _ i d).trans (congrArg (fun x : EReal => x + _) (At.ld s1' (256 * (n + 1)) 0 b2 e2 i d))) (hd 0)
  rw [← h2] at s2
  have s3 := stepV 1 s2 b3 e3 _ ((G 1).blk (t0 + 256) (256 * (n + 1)) 256).dv
    (fun i d => (dv1_at (m1_iff ht 1) l3 _ i d).trans (congrArg (fun x : EReal => x + _) (At.ld s2 (256 * (n + 1)) 1 b3 e3 i d))) (hd 1)
  rw [bump_both] at s3
  rw [h3]
  exact s3

theorem tailQ {v : View sig .tc .vmem S512x256 .f32} {f : v.ty.Contents (Elt Ideal)} {L : List (View.Piece (Elt Ideal) S512x256 .f32)}
    (hat : At (rd v f L) (FQ G t0 fun _ => n))
    {a0 a1 a2 a3 : Fin 2 → ℕ} (b0 : Fits S512x256 a0 ![512, 128]) (b1 : Fits S512x256 a1 ![512, 128])
    (b2 : Fits S512x256 a2 ![256, 128]) (b3 : Fits S512x256 a3 ![256, 128])
    (e0 : a0 = ![0, 0]) (e1 : a1 = ![0, 128]) (e2 : a2 = ![256, 0]) (e3 : a3 = ![256, 128])
    (L0 L1 L2 L3)
    (h0 : L0 = (⟨Rect.unit a0 ![512, 128] b0, k0_pay127 (F := Ideal) (k0_pay123 k0_pay90 (k0_pay91 K0) (Z0 K0 q0) (E0 K0 q0) (DL0 K0 V0 q0 o0 c0) (PT0 K0 V0 q0 o0 c0) (k0_pay117 P0))
      (lf S512x256 (rd v f L) a0 ![512, 128] b0)⟩ : View.Piece (Elt Ideal) S512x256 .f32) :: L)
    (h1 : L1 = (⟨Rect.unit a1 ![512, 128] b1, k0_pay131 (F := Ideal) (k0_pay124 k0_pay90 (k0_pay92 K1) (k0_pay100 (k0_pay92 K1) (k0_pay94 q1)) (k0_pay102 (k0_pay92 K1) (k0_pay94 q1)) (D1 K1 V1 q1 o1 c1) (T1 K1 V1 q1 o1 c1) P1)
      (lf S512x256 (rd v f L0) a1 ![512, 128] b1)⟩ : View.Piece (Elt Ideal) S512x256 .f32) :: L0)
    (h2 : L2 = (⟨Rect.unit a2 ![256, 128] b2, k0_pay170 (F := Ideal) k0_pay135 (k0_pay136 K2) (DY1 K2 V2 q2 o2 c2 P2)
      (lf S512x256 (rd v f L1) a2 ![256, 128] b2)⟩ : View.Piece (Elt Ideal) S512x256 .f32) :: L1)
    (h3 : L3 = (⟨Rect.unit a3 ![256, 128] b3, k0_pay2 (F := Ideal) (k0_pay167 k0_pay135 (k0_pay137 K3) (D3 K3 V3 q3 o3 c3) (k0_pay157 k0_pay77 (D3 K3 V3 q3 o3 c3)) (k0_pay159 P3)
      (k0_pay160 (k0_pay145 (k0_pay137 K3) (k0_pay139 q3)) (k0_pay147 (k0_pay137 K3) (k0_pay139 q3))) k0_pay162)
      (lf S512x256 (rd v f L2) a3 ![256, 128] b3)⟩ : View.Piece (Elt Ideal) S512x256 .f32) :: L2) :
    At (rd v f L3) (FQ G t0 fun _ => n + 2) := by
  have hs : 256 * n + 256 ≤ 4096 := by omega
  have hs1 : 256 * (n + 1) + 256 ≤ 4096 := by omega
  have hd : ∀ h (i : Fin 512) d, (G h).DQ (256 * n) (t0 + (0 + i.val)) d + ((G h).blk t0 (256 * n) 512).dq i d = (G h).DQ (256 * n + 256) (t0 + (0 + i.val)) d := fun h i d => by
    rw [Nat.zero_add]
    exact (G h).blk_dq hs i d
  have hd1 : ∀ h (i : Fin 256) d, (G h).DQ (256 * (n + 1)) (t0 + (256 + i.val)) d + ((G h).blk (t0 + 256) (256 * (n + 1)) 256).dq i d = (G h).DQ (256 * (n + 1) + 256) (t0 + (256 + i.val)) d := fun h i d => by
    rw [← Nat.add_assoc]
    exact (G h).blk_dq hs1 i d
  have hz : ∀ h r d, r < 512 → (r < 256 ∨ 256 + 256 ≤ r) → (G h).DQ (256 * (n + 1) + 256) (t0 + r) d = (G h).DQ (256 * (n + 1)) (t0 + r) d :=
    fun h r d h1 h2 => (G h).DQ_same d (by omega) (by omega)
  have s0 := stepQ 0 hat 0 b0 e0 _ ((G 0).blk t0 (256 * n) 512).dq
    (fun i d => (dq0_at (m0_iff ht 0) l0 _ i d).trans (congrArg (fun x : EReal => x + _) (At.ld hat 0 0 b0 e0 i d))) (hd 0) (fun r d h1 h2 => by omega)
  rw [← h0] at s0
  have s1 := stepQ 1 s0 0 b1 e1 _ ((G 1).blk t0 (256 * n) 512).dq
    (fun i d => (dq0_at (m0_iff ht 1) l1 _ i d).trans (congrArg (fun x : EReal => x + _) (At.ld s0 0 1 b1 e1 i d))) (hd 1) (fun r d h1 h2 => by omega)
  rw [bump_both] at s1
  have s1' : At (rd v f L1) (FQ G t0 fun _ => n + 1) := by rw [h1]; exact s1
  have s2 := stepQ 0 s1' 256 b2 e2 _ ((G 0).blk (t0 + 256) (256 * (n + 1)) 256).dq
    (fun i d => (dq1_at (m1_iff ht 0) l2 _ i d).trans (congrArg (fun x : EReal => x + _) (At.ld s1' 256 0 b2 e2 i d))) (hd1 0) (hz 0)
  rw [← h2] at s2
  have s3 := stepQ 1 s2 256 b3 e3 _ ((G 1).blk (t0 + 256) (256 * (n + 1)) 256).dq
    (fun i d => (dq1_at (m1_iff ht 1) l3 _ i d).trans (congrArg (fun x : EReal => x + _) (At.ld s2 256 1 b3 e3 i d))) (hd1 1) (hz 1)
  rw [bump_both] at s3
  rw [h3]
  exact s3

omit l2 l3 in
/-- The sums carried to the second of the two blocks. -/
theorem tailP {v : View sig .tc .vmem S2x512x1 .f32} {f : v.ty.Contents (Elt Ideal)} {L : List (View.Piece (Elt Ideal) S2x512x1 .f32)}
    (hat : At3 (rd v f L) (FP G t0 fun _ => n))
    {a0 a1 : Fin 3 → ℕ} (b0 : Fits S2x512x1 a0 ![1, 512, 1]) (b1 : Fits S2x512x1 a1 ![1, 512, 1])
    (e0 : a0 = ![0, 0, 0]) (e1 : a1 = ![1, 0, 0]) :
    At3 (rd v f (⟨Rect.unit a1 ![1, 512, 1] b1, k0_pay134 (F := Ideal) (k0_pay118 P1) (k0_pay120 (D1 K1 V1 q1 o1 c1))⟩
      :: ⟨Rect.unit a0 ![1, 512, 1] b0, k0_pay130 (F := Ideal) (k0_pay117 P0) (k0_pay119 (DL0 K0 V0 q0 o0 c0))⟩ :: L)) (FP G t0 fun _ => n + 1) := by
  have hs : 256 * n + 256 ≤ 4096 := by omega
  rw [← bump_both]
  refine stepP 1 (stepP 0 hat b0 e0 _ (fun r => ?_)) b1 e1 _ (fun r => ?_)
  · exact (ps0_at (m0_iff ht 0) l0 r).trans (congrArg (fun x : ℝ => (x : EReal)) ((G 0).blk_tot hs r))
  · exact (ps0_at (m0_iff ht 1) l1 r).trans (congrArg (fun x : ℝ => (x : EReal)) ((G 1).blk_tot hs r))

end Cert.SbIdeal.Val
end
-- ==== Proof.SbLoop.lean ====
module
public import proofs.«01_k».proof.Proof.SbTail
@[expose] public section
set_option maxRecDepth 16384
noncomputable section
open Idealize.ShloMosaic Idealize.ShloMosaic.TcCoe Idealize.SL.Sem
namespace Cert.SbIdeal.Val
open Cert.SbIdeal Cert.SbIdeal.Gen Cert.SbReal

/-!
What the loop before the diagonal leaves, and what the two blocks on the diagonal load.
-/

variable {G : Fin 2 → Head} {t0 : ℕ} {x0 : Vec Ideal S512x256 .bf16} {x1 x2 : Vec Ideal S4096x256 .bf16} {x3 : Vec Ideal S512x256 .bf16}
  {x4 : Vec Ideal S512x256 .f32} (I : Ins G t0 x0 x1 x2 x3 x4)
variable (c : Dev nD) (i : grid0.Coords)
  (m2 : Memref sig .tc .vmem S512x256 .bf16) (hm2 : m2.IsWhole) (m3 : Memref sig .tc .vmem S4096x256 .bf16) (hm3 : m3.IsWhole)
  (m4 : Memref sig .tc .vmem S4096x256 .bf16) (hm4 : m4.IsWhole) (m5 : Memref sig .tc .vmem S512x256 .bf16) (hm5 : m5.IsWhole)
  (m6 : Memref sig .tc .vmem S512x256 .f32) (hm6 : m6.IsWhole) (m7 : Memref sig .tc .vmem S512x256 .f32) (hm7 : m7.IsWhole)
  (m8 : Memref sig .tc .vmem S4096x256 .f32) (hm8 : m8.IsWhole) (m9 : Memref sig .tc .vmem S4096x256 .f32) (hm9 : m9.IsWhole)
  (m10 : Memref sig .tc .vmem S2x512x1 .f32) (hm10 : m10.IsWhole)

theorem t2_trips : Scf.trips (k0_t2_loop i).lb (k0_t2_loop i).ub (k0_t2_loop i).st = 0 := Nat.le_zero.mp (k0_t2_abs i).2.1
theorem t1_word : ∀ q : Fin 8, Scf.trips 0#32 (Scalar.addi 0#32 (Scalar.muli (Scalar.divsi (Scalar.subi (Scalar.muli (BitVec.ofNat 32 q.val) 2#32) 0#32) 1#32) 1#32)) 1#32 = 2 * q.val := by
  decide
theorem t1_trips : (k0_t1_loop i).trips = 2 * (i 1).val := t1_word (i 1)
theorem w0_word : ∀ q : Fin 8, Scalar.addi (Scalar.muli (BitVec.ofNat 32 q.val) 2#32) 0#32 = BitVec.ofNat 32 (2 * q.val) := by decide
theorem w1_word : ∀ q : Fin 8, Scalar.addi (Scalar.muli (BitVec.ofNat 32 q.val) 2#32) 1#32 = BitVec.ofNat 32 (2 * q.val + 1) := by decide

include I in
/-- The loop over the key blocks before the diagonal. -/
theorem loop_at (ht : t0 = 512 * (i 1).val) g7 g8 g9 g10
    (h7 : At (m7.view.read (Elt Ideal) g7) (FQ G t0 fun _ => 0)) (h8 : At (m8.view.read (Elt Ideal) g8) (FK G t0 fun _ => 0))
    (h9 : At (m9.view.read (Elt Ideal) g9) (FV G t0 fun _ => 0)) (h10 : At3 (m10.view.read (Elt Ideal) g10) (FP G t0 fun _ => 0))
    (n : ℕ) (hn : n ≤ (k0_t1_loop i).trips) (PB) (hPB : PB = pb_k0_t1 (F := Ideal) Variants.none c none i m2 hm2 m3 hm3 m4 hm4 m5 hm5 m6 hm6 m7 hm7 m8 hm8 m9 hm9 m10 hm10 (iota Kind.tc S512x128 32 [1] iota_S512x128_d1_w32)
      (hm2.unread x0) (hm3.unread x1) (hm4.unread x2) (hm5.unread x3) (hm6.unread x4) g7 g8 g9 g10 n) :
    At (rd m7.view g7 PB.1) (FQ G t0 fun _ => n)
    ∧ At (rd m8.view g8 PB.2.1) (FK G t0 fun _ => n)
    ∧ At (rd m9.view g9 PB.2.2.1) (FV G t0 fun _ => n)
    ∧ At3 (rd m10.view g10 PB.2.2.2) (FP G t0 fun _ => n) := by
  subst hPB
  induction n with
  | zero => exact ⟨h7, h8, h9, h10⟩
  | succ k ih =>
    have hk : k < (k0_t1_loop i).trips := hn
    have h16 := t1_trips i
    have hi : (i 1).val < 8 := (i 1).isLt
    obtain ⟨a, b, d, e⟩ := ih (Nat.le_of_lt hk)
    have hs := pb_k0_t1_succ (F := Ideal) Variants.none c none i m2 hm2 m3 hm3 m4 hm4 m5 hm5 m6 hm6 m7 hm7 m8 hm8 m9 hm9 m10 hm10 (iota Kind.tc S512x128 32 [1] iota_S512x128_d1_w32)
      (hm2.unread x0) (hm3.unread x1) (hm4.unread x2) (hm5.unread x3) (hm6.unread x4) g7 g8 g9 g10 ⟨k, hk⟩
    rw [hs]
    exact trip_at I c i m2 hm2 m3 hm3 m4 hm4 m5 hm5 m6 hm6 m7 hm7 m8 hm8 m9 hm9 m10 hm10 ⟨k, hk⟩ (by show k < 16; omega) (by show 256 * k + 256 ≤ t0; omega) g7 g8 g9 g10 _ _ _ _ a b d e _ rfl

theorem cs_d0 (w : BitVec 32) (l : Fin 128) (hw : w = BitVec.ofNat 32 l.val) (X : Vec Ideal S512x128 .f32) (r : Fin 512) :
    k0_pay97 (F := Ideal) (iota Kind.tc S512x128 32 [1] iota_S512x128_d1_w32) w X (ix2 r 0) = X (ix2 r l) := by
  pointwise [k0_pay97]
  exact pick (fun x => X (ix2 r x)) _ l hw
theorem cs_d1 (w : BitVec 32) (l : Fin 128) (hw : w = BitVec.ofNat 32 l.val) (X : Vec Ideal S256x128 .f32) (r : Fin 256) :
    k0_pay142 (F := Ideal) (iota Kind.tc S512x128 32 [1] iota_S512x128_d1_w32) w X (ix2 r 0) = X (ix2 r l) := by
  pointwise [k0_pay142]
  exact pick (fun x => X (ix2 r x)) _ l hw

include I in
theorem loaded_d0 (h : Fin 2) (n : ℕ) (hn : n < 16) (w : BitVec 32) (hw : w = BitVec.ofNat 32 n) {o1 o2 : Fin 2 → ℕ} (e1 : o1 = ![256 * n, 128 * h.val]) (e2 : o2 = ![0, 128 * h.val])
    (b1 : Fits S4096x256 o1 ![256, 128]) (b2 : Fits S512x256 o2 ![512, 128])
    {X : S2x512x1.Idx → EReal} (hP : At3 X (FP G t0 fun _ => n)) {o3 : Fin 3 → ℕ} (e3 : o3 = ![h.val, 0, 0])
    (b3 : Fits S2x512x1 o3 ![1, 512, 1]) :
    Loaded ((G h).blk t0 (256 * n) 512) (lb S4096x256 x1 o1 ![256, 128] b1)
      (lb S4096x256 x2 o1 ![256, 128] b1)
      (lb S512x256 x0 o2 ![512, 128] b2) (lb S512x256 x3 o2 ![512, 128] b2)
      (k0_pay97 (iota Kind.tc S512x128 32 [1] iota_S512x128_d1_w32) w (lf S512x256 x4 o2 ![512, 128] b2))
      (lf S2x512x1 X o3 ![1, 512, 1] b3) where
  k cc d := At.ld I.k _ h b1 e1 cc d
  v cc d := At.ld I.v _ h b1 e1 cc d
  q r d := (At.ld I.q _ h b2 e2 r d).trans (by rw [Nat.zero_add]; rfl)
  o r d := (At.ld I.o _ h b2 e2 r d).trans (by rw [Nat.zero_add]; rfl)
  cs r := by
    subst e2
    rw [cs_d0 w ⟨n, by omega⟩ hw]
    refine (View.ld_unit_apply_of (Val := Elt Ideal) (e := .f32) (S := S512x256) x4 _ _ b2 (ix2 r ⟨n, by omega⟩) (ix2 r (col h ⟨n, by omega⟩)) (fun a => by
      fin_cases a
      · show r.val = 0 + r.val; omega
      · rfl)).trans (I.cs h r ⟨n, by omega⟩ hn)
  ps r := (At3.ld hP _ h b3 e3 r).trans (by rw [Nat.zero_add]; rfl)

include I in
theorem loaded_d1 (h : Fin 2) (n : ℕ) (hn : n < 16) (w : BitVec 32) (hw : w = BitVec.ofNat 32 n) {o1 o2 : Fin 2 → ℕ} (e1 : o1 = ![256 * n, 128 * h.val]) (e2 : o2 = ![256, 128 * h.val])
    (b1 : Fits S4096x256 o1 ![256, 128]) (b2 : Fits S512x256 o2 ![256, 128])
    {X : S2x512x1.Idx → EReal} (hP : At3 X (FP G t0 fun _ => n)) {o3 : Fin 3 → ℕ} (e3 : o3 = ![h.val, 256, 0])
    (b3 : Fits S2x512x1 o3 ![1, 256, 1]) :
    Loaded ((G h).blk (t0 + 256) (256 * n) 256) (lb S4096x256 x1 o1 ![256, 128] b1)
      (lb S4096x256 x2 o1 ![256, 128] b1)
      (lb S512x256 x0 o2 ![256, 128] b2) (lb S512x256 x3 o2 ![256, 128] b2)
      (k0_pay142 (iota Kind.tc S512x128 32 [1] iota_S512x128_d1_w32) w (lf S512x256 x4 o2 ![256, 128] b2))
      (lf S2x512x1 X o3 ![1, 256, 1] b3) where
  k cc d := At.ld I.k _ h b1 e1 cc d
  v cc d := At.ld I.v _ h b1 e1 cc d
  q r d := (At.ld I.q _ h b2 e2 r d).trans (by rw [← Nat.add_assoc]; rfl)
  o r d := (At.ld I.o _ h b2 e2 r d).trans (by rw [← Nat.add_assoc]; rfl)
  cs r := by
    subst e2
    rw [cs_d1 w ⟨n, by omega⟩ hw]
    refine (View.ld_unit_apply_of (Val := Elt Ideal) (e := .f32) (S := S512x256) x4 _ _ b2 (ix2 r ⟨n, by omega⟩) (ix2 (⟨256 + r.val, by omega⟩ : Fin 512) (col h ⟨n, by omega⟩)) (fun a => by
      fin_cases a <;> rfl)).trans ((I.cs h ⟨256 + r.val, by omega⟩ ⟨n, by omega⟩ hn).trans ?_)
    show ((G h).SUF (t0 + (256 + r.val)) _ : EReal) = _
    rw [← Nat.add_assoc]
    rfl
  ps r := (At3.ld hP _ h b3 e3 r).trans (by unfold FP; rw [← Nat.add_assoc]; rfl)

end Cert.SbIdeal.Val
end
-- ==== Proof.SbOut.lean ====
module
public import proofs.«01_k».proof.Proof.SbLoop
public import proofs.«01_k».proof.Proof.Gen.SbIdeal.Value
@[expose] public section
set_option maxRecDepth 16384
noncomputable section
open Idealize.ShloMosaic Idealize.ShloMosaic.TcCoe Idealize.SL.Sem
namespace Cert.SbIdeal.Val
open Cert.SbIdeal Cert.SbIdeal.Gen Cert.SbReal

/-!
What one point of the grid leaves in its three outputs.
-/

variable {G : Fin 2 → Head} {t0 : ℕ} {x0 : Vec Ideal S512x256 .bf16} {x1 x2 : Vec Ideal S4096x256 .bf16} {x3 : Vec Ideal S512x256 .bf16}
  {x4 : Vec Ideal S512x256 .f32} (I : Ins G t0 x0 x1 x2 x3 x4)

/-- A whole array of zeros. -/
theorem zero_at {s : Shape} (v : View sig .tc .vmem s .f32) (f : v.ty.Contents (Elt Ideal)) (L : List (View.Piece (Elt Ideal) s .f32)) {o : Fin s.rank → ℕ}
    (inb : ∀ a, o a + s.size a ≤ s.size a) (heq : o = fun _ => 0) (A : s.Idx → EReal) (hA : ∀ j, A j = 0) (j : s.Idx) :
    rd v f (⟨Rect.unit o s.size inb, A⟩ :: L) j = 0 :=
  (View.read_writes_cons_unit_of_mem v f inb A L j j heq (fun a => (Nat.zero_add _).symm)).trans (hA j)

theorem pay72_zero (j : S4096x256.Idx) : k0_pay72 (F := Ideal) j = 0 := by
  pointwise [k0_pay72]
theorem pay73_zero (j : S4096x256.Idx) : k0_pay73 (F := Ideal) j = 0 := by
  pointwise [k0_pay73]
theorem pay74_zero (j : S512x256.Idx) : k0_pay74 (F := Ideal) j = 0 := by
  pointwise [k0_pay74]
theorem pay75_zero (j : S2x512x1.Idx) : k0_pay75 (F := Ideal) j = 0 := by
  pointwise [k0_pay75]

theorem zero_q (v : View sig .tc .vmem S512x256 .f32) (inb : ∀ a, (![0, 0] : Fin 2 → ℕ) a + S512x256.size a ≤ S512x256.size a) :
    At (rd v v.junk [⟨Rect.unit ![0, 0] S512x256.size inb, k0_pay74 (F := Ideal)⟩]) (FQ G t0 fun _ => 0) := fun h r d =>
  (zero_at v v.junk [] inb (by funext a; fin_cases a <;> rfl) _ pay74_zero _).trans (by unfold FQ Head.DQ; rw [Nat.mul_zero, Finset.range_zero, Finset.sum_empty]; rfl)
theorem zero_p (v : View sig .tc .vmem S2x512x1 .f32) (inb : ∀ a, (![0, 0, 0] : Fin 3 → ℕ) a + S2x512x1.size a ≤ S2x512x1.size a) :
    At3 (rd v v.junk [⟨Rect.unit ![0, 0, 0] S2x512x1.size inb, k0_pay75 (F := Ideal)⟩]) (FP G t0 fun _ => 0) := fun h r =>
  (zero_at v v.junk [] inb (by funext a; fin_cases a <;> rfl) _ pay75_zero _).trans (by unfold FP Head.PRE; rw [Nat.mul_zero, Finset.range_zero, Finset.sum_empty]; rfl)
theorem zero_k (ht : t0 = 0) (v : View sig .tc .vmem S4096x256 .f32) (inb : ∀ a, (![0, 0] : Fin 2 → ℕ) a + S4096x256.size a ≤ S4096x256.size a) :
    At (rd v v.junk [⟨Rect.unit ![0, 0] S4096x256.size inb, k0_pay72 (F := Ideal)⟩]) (FK G t0 fun _ => 0) := fun h r d => by
  subst ht
  exact (zero_at v v.junk [] inb (by funext a; fin_cases a <;> rfl) _ pay72_zero _).trans (by unfold FK Head.DK; rw [Nat.mul_zero, if_neg (Nat.not_lt_zero _), Finset.range_zero, Finset.sum_empty]; rfl)
theorem zero_v (ht : t0 = 0) (v : View sig .tc .vmem S4096x256 .f32) (inb : ∀ a, (![0, 0] : Fin 2 → ℕ) a + S4096x256.size a ≤ S4096x256.size a) :
    At (rd v v.junk [⟨Rect.unit ![0, 0] S4096x256.size inb, k0_pay73 (F := Ideal)⟩]) (FV G t0 fun _ => 0) := fun h r d => by
  subst ht
  exact (zero_at v v.junk [] inb (by funext a; fin_cases a <;> rfl) _ pay73_zero _).trans (by unfold FV Head.DV; rw [Nat.mul_zero, if_neg (Nat.not_lt_zero _), Finset.range_zero, Finset.sum_empty]; rfl)
variable (c : Dev nD) (i : grid0.Coords)
  (m2 : Memref sig .tc .vmem S512x256 .bf16) (hm2 : m2.IsWhole) (m3 : Memref sig .tc .vmem S4096x256 .bf16) (hm3 : m3.IsWhole)
  (m4 : Memref sig .tc .vmem S4096x256 .bf16) (hm4 : m4.IsWhole) (m5 : Memref sig .tc .vmem S512x256 .bf16) (hm5 : m5.IsWhole)
  (m6 : Memref sig .tc .vmem S512x256 .f32) (hm6 : m6.IsWhole) (m7 : Memref sig .tc .vmem S512x256 .f32) (hm7 : m7.IsWhole)
  (m8 : Memref sig .tc .vmem S4096x256 .f32) (hm8 : m8.IsWhole) (m9 : Memref sig .tc .vmem S4096x256 .f32) (hm9 : m9.IsWhole)
  (m10 : Memref sig .tc .vmem S2x512x1 .f32) (hm10 : m10.IsWhole)
theorem off5_0 : k0_off5 i (BitVec.ofNat 32 0) = ![256 * (2 * (i 1).val), 0] := (k0_off5_eq i 0).trans (by congr 1; omega)
theorem off5_1 : k0_off5 i (BitVec.ofNat 32 1) = ![256 * (2 * (i 1).val + 1), 0] := (k0_off5_eq i 1).trans (by congr 1; omega)
theorem off6_0 : k0_off6 i (BitVec.ofNat 32 0) = ![256 * (2 * (i 1).val), 128] := (k0_off6_eq i 0).trans (by congr 1; omega)
theorem off6_1 : k0_off6 i (BitVec.ofNat 32 1) = ![256 * (2 * (i 1).val + 1), 128] := (k0_off6_eq i 1).trans (by congr 1; omega)

include I in
set_option maxHeartbeats 4000000 in
/-- A whole point of the grid: one after the first. -/
theorem run_B (ht : t0 = 512 * (i 1).val) (hc0 : ¬cond0_0 i)
    (y6 y7 : Vec Ideal S4096x256 .f32) (h6 : At y6 (FK G t0 fun _ => 0)) (h7 : At y7 (FV G t0 fun _ => 0)) :
    At (out0_B_5 c i m2 hm2 m3 hm3 m4 hm4 m5 hm5 m6 hm6 m7 hm7 m8 hm8 m9 hm9 m10 hm10 hc0 x0 x1 x2 x3 x4 y6 y7) (FQ G t0 fun _ => 2 * (i 1).val + 2)
    ∧ At (out0_B_6 c i m2 hm2 m3 hm3 m4 hm4 m5 hm5 m6 hm6 m7 hm7 m8 hm8 m9 hm9 m10 hm10 hc0 x0 x1 x2 x3 x4 y6 y7) (FK G t0 fun _ => 2 * (i 1).val + 2)
    ∧ At (out0_B_7 c i m2 hm2 m3 hm3 m4 hm4 m5 hm5 m6 hm6 m7 hm7 m8 hm8 m9 hm9 m10 hm10 hc0 x0 x1 x2 x3 x4 y6 y7) (FV G t0 fun _ => 2 * (i 1).val + 2) := by
  have hi : (i 1).val < 8 := (i 1).isLt
  unfold out0_B_5 out0_B_6 out0_B_7
  have k5 := fun f => View.read_writes_eq_canon (Val := Elt Ideal) m7.view f _ (cover0_B_5 c i m2 hm2 m3 hm3 m4 hm4 m5 hm5 m6 hm6 m7 hm7 m8 hm8 m9 hm9 m10 hm10 hc0 x0 x1 x2 x3 x4 y6 y7)
  rw [View.read_writes_eq_canon VO0_5 _ _ (fun _ => cover0_B_5 ..), ← k5 m7.view.junk]
  clear k5
  unfold kernelRun0_B
  dsimp only
  sl_unfold_words
  generalize hn : Scf.trips (Scalar.addi 0#32 _) _ 1#32 = n
  have hn0 : n = 0 := hn.symm.trans (t2_trips i)
  subst hn0
  clear hn
  simp only [pb_k0_t2, List.nil_append, View.readCov, View.readAt_eq_ld, hm2.read_unread, hm3.read_unread, hm4.read_unread, hm5.read_unread, hm6.read_unread]
  generalize hPB : pb_k0_t1 (F := Ideal) _ _ _ _ _ _ _ _ _ _ _ _ _ _ _ _ _ _ _ _ _ _ _ _ _ _ _ _ _ _ _ _ _ = PB
  obtain ⟨s7, s8, s9, s10⟩ := loop_at I c i m2 hm2 m3 hm3 m4 hm4 m5 hm5 m6 hm6 m7 hm7 m8 hm8 m9 hm9 m10 hm10 ht _ _ _ _ (zero_q _ _) (by rw [hm8.read_unread]; exact h6) (by rw [hm9.read_unread]; exact h7) (zero_p _ _) _ le_rfl PB hPB.symm
  rw [t1_trips] at s7 s8 s9 s10
  simp only [rd, ← View.writes_append] at s7 s8 s9 s10
  have ht2 : t0 = 256 * (2 * (i 1).val) := by omega
  have d0 := loaded_d0 I 0 (2 * (i 1).val) (by omega) _ (w0_word (i 1)) (off5_0 i) rfl (k0_off5_inb i 0) inb_S512x256_S512x128_0_0 s10 (o3 := ![0, 0, 0]) rfl inb_S2x512x1_S1x512x1_0_0_0
  have d1 := loaded_d0 I 1 (2 * (i 1).val) (by omega) _ (w0_word (i 1)) (off6_0 i) rfl (k0_off6_inb i 0) inb_S512x256_S512x128_0_128 s10 (o3 := ![1, 0, 0]) rfl inb_S2x512x1_S1x512x1_1_0_0
  have s11 := tailP ht2 (by omega) d0 d1 s10 inb_S2x512x1_S1x512x1_0_0_0 inb_S2x512x1_S1x512x1_1_0_0 rfl rfl
  have d2 := loaded_d1 I 0 (2 * (i 1).val + 1) (by omega) _ (w1_word (i 1)) (off5_1 i) rfl (k0_off5_inb i 1) inb_S512x256_S256x128_256_0 s11 (o3 := ![0, 256, 0]) rfl inb_S2x512x1_S1x256x1_0_256_0
  have d3 := loaded_d1 I 1 (2 * (i 1).val + 1) (by omega) _ (w1_word (i 1)) (off6_1 i) rfl (k0_off6_inb i 1) inb_S512x256_S256x128_256_128 s11 (o3 := ![1, 256, 0]) rfl inb_S2x512x1_S1x256x1_1_256_0
  refine ⟨?_, ?_, ?_⟩
  · exact tailQ ht2 (by omega) d0 d1 d2 d3 s7 inb_S512x256_S512x128_0_0 inb_S512x256_S512x128_0_128 inb_S512x256_S256x128_256_0 inb_S512x256_S256x128_256_128
      rfl rfl rfl rfl _ _ _ _ rfl rfl rfl rfl
  · exact tailK ht2 (by omega) d0 d1 d2 d3 s8 (k0_off5_inb i 0) (k0_off6_inb i 0) (k0_off5_inb i 1) (k0_off6_inb i 1)
      (off5_0 i) (off6_0 i) (off5_1 i) (off6_1 i) _ _ _ _ rfl rfl rfl rfl
  · exact tailV ht2 (by omega) d0 d1 d2 d3 s9 (k0_off5_inb i 0) (k0_off6_inb i 0) (k0_off5_inb i 1) (k0_off6_inb i 1)
      (off5_0 i) (off6_0 i) (off5_1 i) (off6_1 i) _ _ _ _ rfl rfl rfl rfl

include I in
set_option maxHeartbeats 4000000 in
/-- A whole point of the grid: the first of a pair of heads. -/
theorem run_A (ht : t0 = 512 * (i 1).val) (hc0 : cond0_0 i) (hz : t0 = 0) :
    At (out0_A_5 c i m2 hm2 m3 hm3 m4 hm4 m5 hm5 m6 hm6 m7 hm7 m8 hm8 m9 hm9 m10 hm10 hc0 x0 x1 x2 x3 x4) (FQ G t0 fun _ => 2 * (i 1).val + 2)
    ∧ At (out0_A_6 c i m2 hm2 m3 hm3 m4 hm4 m5 hm5 m6 hm6 m7 hm7 m8 hm8 m9 hm9 m10 hm10 hc0 x0 x1 x2 x3 x4) (FK G t0 fun _ => 2 * (i 1).val + 2)
    ∧ At (out0_A_7 c i m2 hm2 m3 hm3 m4 hm4 m5 hm5 m6 hm6 m7 hm7 m8 hm8 m9 hm9 m10 hm10 hc0 x0 x1 x2 x3 x4) (FV G t0 fun _ => 2 * (i 1).val + 2) := by
  have hi : (i 1).val < 8 := (i 1).isLt
  unfold out0_A_5 out0_A_6 out0_A_7
  have k5 := fun f => View.read_writes_eq_canon (Val := Elt Ideal) m7.view f _ (cover0_A_5 c i m2 hm2 m3 hm3 m4 hm4 m5 hm5 m6 hm6 m7 hm7 m8 hm8 m9 hm9 m10 hm10 hc0 x0 x1 x2 x3 x4)
  rw [View.read_writes_eq_canon VO0_5 _ _ (fun _ => cover0_A_5 ..), ← k5 m7.view.junk]
  have k6 := fun f => View.read_writes_eq_canon (Val := Elt Ideal) m8.view f _ (cover0_A_6 c i m2 hm2 m3 hm3 m4 hm4 m5 hm5 m6 hm6 m7 hm7 m8 hm8 m9 hm9 m10 hm10 hc0 x0 x1 x2 x3 x4)
  have k7 := fun f => View.read_writes_eq_canon (Val := Elt Ideal) m9.view f _ (cover0_A_7 c i m2 hm2 m3 hm3 m4 hm4 m5 hm5 m6 hm6 m7 hm7 m8 hm8 m9 hm9 m10 hm10 hc0 x0 x1 x2 x3 x4)
  rw [View.read_writes_eq_canon VO0_6 _ _ (fun _ => cover0_A_6 ..), ← k6 m8.view.junk,
    View.read_writes_eq_canon VO0_7 _ _ (fun _ => cover0_A_7 ..), ← k7 m9.view.junk]
  clear k5 k6 k7
  unfold kernelRun0_A
  dsimp only
  sl_unfold_words
  generalize hn : Scf.trips (Scalar.addi 0#32 _) _ 1#32 = n
  have hn0 : n = 0 := hn.symm.trans (t2_trips i)
  subst hn0
  clear hn
  simp only [pb_k0_t2, List.nil_append, View.readCov, View.readAt_eq_ld, hm2.read_unread, hm3.read_unread, hm4.read_unread, hm5.read_unread, hm6.read_unread]
  generalize hPB : pb_k0_t1 (F := Ideal) _ _ _ _ _ _ _ _ _ _ _ _ _ _ _ _ _ _ _ _ _ _ _ _ _ _ _ _ _ _ _ _ _ = PB
  obtain ⟨s7, s8, s9, s10⟩ := loop_at I c i m2 hm2 m3 hm3 m4 hm4 m5 hm5 m6 hm6 m7 hm7 m8 hm8 m9 hm9 m10 hm10 ht _ _ _ _ (zero_q _ _) (zero_k hz _ _) (zero_v hz _ _) (zero_p _ _) _ le_rfl PB hPB.symm
  rw [t1_trips] at s7 s8 s9 s10
  simp only [rd, ← View.writes_append] at s7 s8 s9 s10
  have ht2 : t0 = 256 * (2 * (i 1).val) := by omega
  have d0 := loaded_d0 I 0 (2 * (i 1).val) (by omega) _ (w0_word (i 1)) (off5_0 i) rfl (k0_off5_inb i 0) inb_S512x256_S512x128_0_0 s10 (o3 := ![0, 0, 0]) rfl inb_S2x512x1_S1x512x1_0_0_0
  have d1 := loaded_d0 I 1 (2 * (i 1).val) (by omega) _ (w0_word (i 1)) (off6_0 i) rfl (k0_off6_inb i 0) inb_S512x256_S512x128_0_128 s10 (o3 := ![1, 0, 0]) rfl inb_S2x512x1_S1x512x1_1_0_0
  have s11 := tailP ht2 (by omega) d0 d1 s10 inb_S2x512x1_S1x512x1_0_0_0 inb_S2x512x1_S1x512x1_1_0_0 rfl rfl
  have d2 := loaded_d1 I 0 (2 * (i 1).val + 1) (by omega) _ (w1_word (i 1)) (off5_1 i) rfl (k0_off5_inb i 1) inb_S512x256_S256x128_256_0 s11 (o3 := ![0, 256, 0]) rfl inb_S2x512x1_S1x256x1_0_256_0
  have d3 := loaded_d1 I 1 (2 * (i 1).val + 1) (by omega) _ (w1_word (i 1)) (off6_1 i) rfl (k0_off6_inb i 1) inb_S512x256_S256x128_256_128 s11 (o3 := ![1, 256, 0]) rfl inb_S2x512x1_S1x256x1_1_256_0
  refine ⟨?_, ?_, ?_⟩
  · exact tailQ ht2 (by omega) d0 d1 d2 d3 s7 inb_S512x256_S512x128_0_0 inb_S512x256_S512x128_0_128 inb_S512x256_S256x128_256_0 inb_S512x256_S256x128_256_128
      rfl rfl rfl rfl _ _ _ _ rfl rfl rfl rfl
  · exact tailK ht2 (by omega) d0 d1 d2 d3 s8 (k0_off5_inb i 0) (k0_off6_inb i 0) (k0_off5_inb i 1) (k0_off6_inb i 1)
      (off5_0 i) (off6_0 i) (off5_1 i) (off6_1 i) _ _ _ _ rfl rfl rfl rfl
  · exact tailV ht2 (by omega) d0 d1 d2 d3 s9 (k0_off5_inb i 0) (k0_off6_inb i 0) (k0_off5_inb i 1) (k0_off6_inb i 1)
      (off5_0 i) (off6_0 i) (off5_1 i) (off6_1 i) _ _ _ _ rfl rfl rfl rfl

end Cert.SbIdeal.Val
end
-- ==== Proof.SbWin.lean ====
/-
  A running sum as the host writes it: a window as wide as the axis, over the axis padded on one side. Padded on the right it
  sums what stands at a position and beyond it, padded on the left what stands up to it.
-/
module

public import proofs.«01_k».proof.Proof.SbMath

@[expose] public section

noncomputable section

open Idealize.ShloMosaic Cert.Common Finset

namespace Cert.SbReal

/-- Adding a list's values from the left to zero is their sum. -/
theorem foldl_sum {n : ℕ} (g : Fin n → EReal) : (List.finRange n).foldl (fun r i => r + g i) 0 = ∑ i, g i := by
  rw [Fin.sum_univ_def, List.sum_eq_foldl, List.foldl_map]

variable {A N M : ℕ}

theorem numel_row : (⟨3, ![1, 1, M]⟩ : Shape).numel = M := by
  show ∏ a : Fin 3, (![1, 1, M] : Fin 3 → ℕ) a = M
  rw [Fin.prod_univ_three]
  show 1 * 1 * M = M
  omega
theorem symm_row (n : Fin (⟨3, ![1, 1, M]⟩ : Shape).numel) :
    ((⟨3, ![1, 1, M]⟩ : Shape).rowMajor.symm n 0).val = 0 ∧ ((⟨3, ![1, 1, M]⟩ : Shape).rowMajor.symm n 1).val = 0
      ∧ ((⟨3, ![1, 1, M]⟩ : Shape).rowMajor.symm n 2).val = n.val := by
  have h := Shape.rowMajor_val_three ((⟨3, ![1, 1, M]⟩ : Shape).rowMajor.symm n)
  rw [Equiv.apply_symm_apply] at h
  have h0 : ((⟨3, ![1, 1, M]⟩ : Shape).rowMajor.symm n 0).val = 0 := Nat.lt_one_iff.mp ((⟨3, ![1, 1, M]⟩ : Shape).rowMajor.symm n 0).isLt
  have h1 : ((⟨3, ![1, 1, M]⟩ : Shape).rowMajor.symm n 1).val = 0 := Nat.lt_one_iff.mp ((⟨3, ![1, 1, M]⟩ : Shape).rowMajor.symm n 1).isLt
  refine ⟨h0, h1, ?_⟩
  rw [h0, h1] at h
  have e : ((⟨3, ![1, 1, M]⟩ : Shape).rowMajor.symm n 2).val = (0 * 1 + 0) * M + ((⟨3, ![1, 1, M]⟩ : Shape).rowMajor.symm n 2).val := by omega
  exact e.trans h.symm

/-- A window as wide as the last axis, at a position where the row holds the real numbers `f`. -/
theorem window_at (L H : ℕ) (x : (⟨3, ![A, N, M]⟩ : Shape).Idx → EReal)
    (h : (⟨3, ![A, N, M]⟩ : Shape).ReduceWindows (![1, 1, M] : Fin 3 → ℕ) ![1, 1, 1] ![0, 0, L] ![0, 0, H] ⟨3, ![A, N, M]⟩)
    (a : Fin A) (n : Fin N) (f : ℕ → ℝ) (hx : ∀ s : Fin M, x (ix3 a n s) = (f s.val : EReal)) (j : Fin M) :
    Ideal.hostReduceWindowAdd (s := ⟨3, ![A, N, M]⟩) ![1, 1, M] ![1, 1, 1] ![0, 0, L] ![0, 0, H] h x 0 (ix3 a n j)
      = ((∑ w ∈ range M, if L ≤ j.val + w ∧ j.val + w - L < M then f (j.val + w - L) else 0 : ℝ) : EReal) := by
  unfold Ideal.hostReduceWindowAdd Host.reduceWindow
  refine (foldl_sum _).trans ?_
  rw [coe_sum, Finset.sum_range (fun w => ((if L ≤ j.val + w ∧ j.val + w - L < M then f (j.val + w - L) else 0 : ℝ) : EReal))]
  refine Fintype.sum_equiv (finCongr numel_row) _ _ fun w => ?_
  obtain ⟨w0, w1, w2⟩ := symm_row (M := M) w
  have hcond : (L ≤ j.val + w.val ∧ j.val + w.val - L < M) ↔ ∀ b : Fin 3,
      (![0, 0, L] : Fin 3 → ℕ) b ≤ (ix3 a n j (b.cast h.1.symm)).val * (![1, 1, 1] : Fin 3 → ℕ) b + ((⟨3, ![1, 1, M]⟩ : Shape).rowMajor.symm w b).val
      ∧ (ix3 a n j (b.cast h.1.symm)).val * (![1, 1, 1] : Fin 3 → ℕ) b + ((⟨3, ![1, 1, M]⟩ : Shape).rowMajor.symm w b).val - (![0, 0, L] : Fin 3 → ℕ) b
        < (![A, N, M] : Fin 3 → ℕ) b := by
    constructor
    · intro hc b
      match b with
      | ⟨0, _⟩ =>
        show 0 ≤ _ ∧ a.val * 1 + ((⟨3, ![1, 1, M]⟩ : Shape).rowMajor.symm w 0).val - 0 < A
        rw [w0]; have := a.isLt; omega
      | ⟨1, _⟩ =>
        show 0 ≤ _ ∧ n.val * 1 + ((⟨3, ![1, 1, M]⟩ : Shape).rowMajor.symm w 1).val - 0 < N
        rw [w1]; have := n.isLt; omega
      | ⟨2, _⟩ =>
        show L ≤ j.val * 1 + ((⟨3, ![1, 1, M]⟩ : Shape).rowMajor.symm w 2).val ∧ j.val * 1 + ((⟨3, ![1, 1, M]⟩ : Shape).rowMajor.symm w 2).val - L < M
        rw [w2]; omega
    · intro hc
      have h2 : L ≤ j.val * 1 + ((⟨3, ![1, 1, M]⟩ : Shape).rowMajor.symm w 2).val ∧ j.val * 1 + ((⟨3, ![1, 1, M]⟩ : Shape).rowMajor.symm w 2).val - L < M := hc 2
      rw [w2] at h2; omega
  by_cases hc : L ≤ j.val + w.val ∧ j.val + w.val - L < M
  · refine (dif_pos (hcond.mp hc)).trans ?_
    refine (congrArg x (idx3 (j := ix3 a n ⟨j.val + w.val - L, hc.2⟩) ?_ ?_ ?_)).trans ((hx _).trans ?_)
    · show a.val * 1 + ((⟨3, ![1, 1, M]⟩ : Shape).rowMajor.symm w 0).val - 0 = a.val
      rw [w0]; omega
    · show n.val * 1 + ((⟨3, ![1, 1, M]⟩ : Shape).rowMajor.symm w 1).val - 0 = n.val
      rw [w1]; omega
    · show j.val * 1 + ((⟨3, ![1, 1, M]⟩ : Shape).rowMajor.symm w 2).val - L = j.val + w.val - L
      rw [w2]; omega
    · exact congrArg ((↑) : ℝ → EReal) (if_pos hc).symm
  · exact (dif_neg fun hn => hc (hcond.mpr hn)).trans (congrArg ((↑) : ℝ → EReal) (if_neg hc).symm)

/-- Padded on the right: what stands at the position and beyond it. -/
theorem window_from (H : ℕ) (x : (⟨3, ![A, N, M]⟩ : Shape).Idx → EReal)
    (h : (⟨3, ![A, N, M]⟩ : Shape).ReduceWindows (![1, 1, M] : Fin 3 → ℕ) ![1, 1, 1] ![0, 0, 0] ![0, 0, H] ⟨3, ![A, N, M]⟩)
    (a : Fin A) (n : Fin N) (f : ℕ → ℝ) (hx : ∀ s : Fin M, x (ix3 a n s) = (f s.val : EReal)) (j : Fin M) :
    Ideal.hostReduceWindowAdd (s := ⟨3, ![A, N, M]⟩) ![1, 1, M] ![1, 1, 1] ![0, 0, 0] ![0, 0, H] h x 0 (ix3 a n j)
      = ((∑ s ∈ Ico j.val M, f s : ℝ) : EReal) := by
  refine (window_at 0 H x h a n f hx j).trans (congrArg ((↑) : ℝ → EReal) ?_)
  rw [Finset.sum_Ico_eq_sum_range, ← Finset.sum_filter]
  refine Finset.sum_congr ?_ fun w _ => by rw [Nat.sub_zero]
  ext w
  simp only [mem_filter, mem_range]
  omega
/-- Padded on the left: what stands up to the position. -/
theorem window_upto (L : ℕ) (hL : L + 1 = M) (x : (⟨3, ![A, N, M]⟩ : Shape).Idx → EReal)
    (h : (⟨3, ![A, N, M]⟩ : Shape).ReduceWindows (![1, 1, M] : Fin 3 → ℕ) ![1, 1, 1] ![0, 0, L] ![0, 0, 0] ⟨3, ![A, N, M]⟩)
    (a : Fin A) (n : Fin N) (f : ℕ → ℝ) (hx : ∀ s : Fin M, x (ix3 a n s) = (f s.val : EReal)) (j : Fin M) :
    Ideal.hostReduceWindowAdd (s := ⟨3, ![A, N, M]⟩) ![1, 1, M] ![1, 1, 1] ![0, 0, L] ![0, 0, 0] h x 0 (ix3 a n j)
      = ((∑ s ∈ range (j.val + 1), f s : ℝ) : EReal) := by
  refine (window_at L 0 x h a n f hx j).trans (congrArg ((↑) : ℝ → EReal) ?_)
  have hj := j.isLt
  rw [← Finset.sum_filter]
  refine Finset.sum_nbij' (fun w => j.val + w - L) (fun s => s + L - j.val) ?_ ?_ ?_ ?_ ?_ <;> intro w hw <;>
    simp only [mem_filter, mem_range] at hw ⊢ <;> first | omega | rfl

end Cert.SbReal

end
-- ==== Proof.SbHost.lean ====
/-
  The stick-breaking attention's arrays by head: the columns of a head are its lanes; and the host's softplus at a real number.
-/
module

public import proofs.«01_k».proof.Proof.SbWin
public import proofs.«01_k».proof.Proof.SbGlob

@[expose] public section

noncomputable section

open Idealize.ShloMosaic Cert.Common Finset

namespace Cert.SbReal

abbrev Arr : Type := (⟨2, ![4096, 1024]⟩ : Shape).Idx → ℝ

/-- The column of a head's lane. -/
def lane (h : Fin 8) (d : Fin 128) : Fin 1024 := ⟨128 * h.val + d.val, by omega⟩
/-- The rows of a head. -/
def rows (f : Arr) (h : Fin 8) (t : ℕ) (d : Fin 128) : ℝ := f (ix2 ⟨t % 4096, Nat.mod_lt _ (by norm_num)⟩ (lane h d))
def head (q k v o : Arr) (h : Fin 8) : Head where
  q := rows q h
  k := rows k h
  v := rows v h
  o := rows o h

theorem rows_at (f : Arr) (h : Fin 8) (t : Fin 4096) (d : Fin 128) : f (ix2 t (lane h d)) = rows f h t.val d :=
  congrArg f (idx2 (j := ix2 _ (lane h d)) (Nat.mod_eq_of_lt t.isLt).symm rfl)

theorem pos_int (n : Fin 4096) : (BitVec.ofNat 32 n.val).toInt = n.val := key_int _ (by omega)
theorem before (s t : Fin 4096) : IntOp.cmpi CmpIPredicate.slt (BitVec.ofNat 32 s.val) (BitVec.ofNat 32 t.val) = BitVec.ofBool (decide (s.val < t.val)) := by
  show BitVec.ofBool (BitVec.slt _ _) = _
  rw [BitVec.slt_eq_decide, pos_int, pos_int]
  congr 1
  exact decide_eq_decide.mpr Int.ofNat_lt

/-- One row per position, by head. -/
def IsRows (X : (⟨3, ![8, 4096, 128]⟩ : Shape).Idx → EReal) (g : Fin 8 → ℕ → Fin 128 → ℝ) : Prop :=
  ∀ h (t : Fin 4096) d, X (ix3 h t d) = (g h t.val d : EReal)
/-- One number per pair of positions, by head. -/
def IsPair (X : (⟨3, ![8, 4096, 4096]⟩ : Shape).Idx → EReal) (g : Fin 8 → ℕ → ℕ → ℝ) : Prop :=
  ∀ h (t s : Fin 4096), X (ix3 h t s) = (g h t.val s.val : EReal)

theorem sp_log (z : ℝ) : sp z = Real.log (1 + Real.exp z) := by
  unfold sp
  have hz := Real.exp_pos z
  have hz' := Real.exp_pos (-z)
  rcases le_total 0 z with h | h
  · rw [max_eq_left h, abs_of_nonneg h, show (1 : ℝ) + Real.exp z = Real.exp z * (1 + Real.exp (-z)) by
      rw [mul_add, mul_one, ← Real.exp_add, add_neg_cancel, Real.exp_zero, add_comm], Real.log_mul hz.ne' (by positivity), Real.log_exp]
  · rw [max_eq_right h, abs_of_nonpos h, neg_neg, zero_add]
theorem exp_sub_sp (z : ℝ) : Real.exp (z - sp z) = sgm z := by
  have hz := Real.exp_pos z
  rw [sp_log, Real.exp_sub, Real.exp_log (by positivity)]
  unfold sgm
  rw [Real.exp_neg]
  field_simp
  rw [add_comm]
theorem sp_neg (z : ℝ) : sp (-z) = sp z - z := by
  unfold sp
  rw [abs_neg]
  rcases le_total 0 z with h | h
  · rw [max_eq_left h, max_eq_right (neg_nonpos.mpr h)]; ring
  · rw [max_eq_right h, max_eq_left (neg_nonneg.mpr h)]; ring
theorem sgm_neg (z : ℝ) : sgm (-z) = 1 - sgm z := by
  unfold sgm
  have hz := Real.exp_pos z
  rw [neg_neg, Real.exp_neg]
  field_simp
  ring

/-- The host's softplus, which passes on what is not a number. -/
theorem softplus_coe (z : ℝ) : (if (z : EReal) ≠ (z : EReal) then (z : EReal)
    else max (z : EReal) 0 + Ideal.log1p (Ideal.exp (-FloatOps.absf (F := Ideal) (φ := .f32) (z : EReal)))) = (sp z : EReal) := by
  rw [if_neg (fun h => h rfl), abs_coe, ← EReal.coe_neg]
  exact sp_coe z _ rfl
/-- Its derivative, guarded where an argument is infinite. -/
theorem guard_coe (a b : ℝ) : Ideal.exp ((if (a : EReal) = Ideal.ofBits .f32 0x7F800000#32 then 0 else (a : EReal))
    - if (b : EReal) = Ideal.ofBits .f32 0x7F800000#32 then 0 else (b : EReal)) = (Real.exp (a - b) : EReal) := by
  rw [top_f32, if_neg (EReal.coe_ne_top a), if_neg (EReal.coe_ne_top b), ← EReal.coe_sub, Ideal.exp_coe]
theorem if_bit' (s t : Fin 4096) (a b : EReal) :
    Scalar.select (IntOp.cmpi CmpIPredicate.slt (BitVec.ofNat 32 s.val) (BitVec.ofNat 32 t.val)) a b = if s.val < t.val then a else b := by
  rw [before]
  by_cases h : s.val < t.val
  · rw [decide_eq_true h, if_pos h]; rfl
  · rw [decide_eq_false h, if_neg h]; rfl
theorem if_coe (p : Prop) [Decidable p] (a b : ℝ) : (if p then (a : EReal) else (b : EReal)) = ((if p then a else b : ℝ) : EReal) := by
  split <;> rfl

theorem bot_word : Ideal.ofBits .f32 0xFF800000#32 = (⊥ : EReal) := by
  simp [Ideal.ofBits, Ideal.ieee]
theorem zero_word : Ideal.ofBits .f32 0x00000000#32 = ((0 : ℝ) : EReal) := by
  simp [Ideal.ofBits, Ideal.ieee]

variable (G : Head)
/-- The whole row from a position is its entry and what is left of it. -/
theorem suf_eq (t s : ℕ) (hs : s < 4096) : (∑ x ∈ Ico s 4096, G.LN t x) - G.LN t s = G.SUF t s := by
  rw [Finset.sum_eq_sum_Ico_succ_bot hs]
  unfold Head.SUF
  ring
theorem pre_eq (t s : ℕ) : -G.DL t s + (∑ x ∈ range (s + 1), G.DL t x) = G.PRE t s := by
  rw [Finset.sum_range_succ]
  unfold Head.PRE
  ring

end Cert.SbReal

end
-- ==== Proof.SbPrep.lean ====
/-
  What the call reads: the arguments in pairs of heads, and the logarithms left beyond each block of 256 keys, one lane a block.
-/
module

public import proofs.«01_k».proof.Proof.SbOut
public import proofs.«01_k».proof.Proof.SbHost

@[expose] public section

set_option maxRecDepth 16384
noncomputable section

open Idealize.ShloMosaic Idealize.ShloMosaic.TcCoe Idealize.SL.Sem
open Cert.Common Cert.SbReal

namespace Cert.SbIdeal.Val

open Cert.SbIdeal Cert.SbIdeal.Gen Cert.SbIdeal.Value

/-! ## The host's table, by stage -/

section table
variable (q k : Vec Ideal S4096x1024 .f32)

def byHead (x : Vec Ideal S4096x1024 .f32) : Vec Ideal S8x4096x128 .f32 :=
  transpose S8x4096x128 [1, 0, 2] (shapeCast S4096x8x128 x shapeCasts_S4096x1024_S4096x8x128) transposes_S4096x8x128_S8x4096x128_1_0_2
def scores : Vec Ideal S8x4096x4096 .f32 :=
  Host.dotGeneral (F := Ideal) (φ₁ := .f32) (φ₂ := .f32) dot_S8x4096x128_S8x4096x128_S8x4096x4096_2_2_1_1_0_0 none (byHead q) (byHead k)
def nought : Vec Ideal S8x4096x4096 .f32 := broadcastInDim S8x4096x4096 ![] bcast_S_S8x4096x4096 (constant (F := Ideal) S_ .f32 0x00000000#32)
def zz : Vec Ideal S8x4096x4096 .f32 := Host.negf (F := Ideal) (φ := .f32) (Host.negf (F := Ideal) (φ := .f32) (scores q k))
def softplus (z : Vec Ideal S8x4096x4096 .f32) : Vec Ideal S8x4096x4096 .f32 :=
  select (cmpf (F := Ideal) (φ := .f32) .une (subf (F := Ideal) (φ := .f32) z nought) (subf (F := Ideal) (φ := .f32) z nought)) (addf (F := Ideal) (φ := .f32) z nought)
    (addf (F := Ideal) (φ := .f32) (maximumf (F := Ideal) (φ := .f32) z nought)
      (Host.log1p (F := Ideal) (φ := .f32) (Host.exp (F := Ideal) (φ := .f32) (Host.negf (F := Ideal) (φ := .f32) (Host.absf (F := Ideal) (φ := .f32) (subf (F := Ideal) (φ := .f32) z nought))))))
def earlier : Vec Ideal S8x4096x4096 .i1 :=
  broadcastInDim S8x4096x4096 ![1, 2] bcast_S4096x4096_S8x4096x4096_1_2 (cmpi .slt
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))
def logs : Vec Ideal S8x4096x4096 .f32 :=
  select earlier (Host.negf (F := Ideal) (φ := .f32) (softplus (zz q k))) (broadcastInDim S8x4096x4096 ![] bcast_S_S8x4096x4096 (constant (F := Ideal) S_ .f32 0x00000000#32))
def sums : Vec Ideal S8x4096x4096 .f32 :=
  Host.reduceWindowAdd (F := Ideal) (φ := .f32) ![1, 1, 4096] ![1, 1, 1] ![0, 0, 0] ![0, 0, 4095] (logs q k)
    (broadcastInDim S_ ![] bcast_S_S_ (constant (F := Ideal) S_ .f32 0x00000000#32)) reduceWindows_S8x4096x4096_S8x4096x4096_w1s1p0_0_w1s1p0_0_w4096s1p0_4095 h_S_
def beyond : Vec Ideal S8x4096x4096 .f32 := subf (F := Ideal) (φ := .f32) (sums q k) (logs q k)
def table : Vec Ideal S4096x1024 .f32 :=
  shapeCast S4096x1024 (pad S4096x8x128 ![0, 0, 0] ![0, 0, 112] ![0, 0, 0]
    (transpose S4096x8x16 [1, 0, 2] (Host.slice S8x4096x16 ![0, 0, 255] ![1, 1, 256] (beyond q k) slicesBy_S8x4096x4096_S8x4096x16_0s1_0s1_255s256) transposes_S8x4096x16_S4096x8x16_1_0_2)
    (sitofp (F := Ideal) .f32 (constantI S_ 32 0#32)) pads_S4096x8x16_S4096x8x128_000_000_01120 h_S_) shapeCasts_S4096x8x128_S4096x1024

end table

variable (m : (ℓ : Loc nD τ sig) → Buf (Elt Ideal) ℓ) (c : Dev nD) (t : Fin cfg0.N)

theorem V_table : V (F := Ideal) m c main_v24 = table (m ((c : Thread nD τ).loc main_arg0)) (m ((c : Thread nD τ).loc main_arg1)) := by
  simp only [V, StableHlo.TRef.binary, StableHlo.TRef.nullary, StableHlo.TRef.ternary, StableHlo.TRef.unary, StableHlo.TRef.toBuf, StableHlo.TRef.ofBuf, cast_eq, hostOps0, hostOps0_1, hostOps0_2, hostOps0_3, hostOps0_4, hostOps0_5, hostOps0_6, hostOps0_7, List.flatten_cons, List.flatten_nil, List.append_nil, List.cons_append, List.nil_append]
  after_results_simp
  unfold table beyond sums logs earlier softplus zz nought scores byHead
  rfl

section read
variable (f0 f1 f2 f3 : Arr)

abbrev lift (f : Arr) : Vec Ideal S4096x1024 .f32 := fun i => (f i : EReal)

theorem byHead_at (f : Arr) : IsRows (byHead (lift f)) (rows f) := fun h t d => by
  pointwise [byHead]
  rw [show (ix2 t ⟨h.val * 128 + d.val, by omega⟩ : S4096x1024.Idx) = ix2 t (lane h d) from idx2 rfl (by show h.val * 128 + d.val = 128 * h.val + d.val; omega)]
  exact congrArg ((↑) : ℝ → EReal) (rows_at f h t d)
theorem scores_at : IsPair (scores (lift f0) (lift f1)) fun h => (head f0 f1 f2 f3 h).Z := fun h t s => by
  pointwise [scores]
  simp only [byHead_at f0 h, byHead_at f1 h]
  exact sum_mul_coe _ _
theorem zz_at : IsPair (zz (lift f0) (lift f1)) fun h => (head f0 f1 f2 f3 h).Z := fun h t s => by
  pointwise [zz]
  rw [scores_at f0 f1 f2 f3, neg_neg]
theorem softplus_at (z : Vec Ideal S8x4096x4096 .f32) (g : Fin 8 → ℕ → ℕ → ℝ) (hz : IsPair z g) : IsPair (softplus z) fun h t s => sp (g h t s) := fun h t s => by
  pointwise [softplus, nought]
  rw [hz]
  exact softplus_coe _
theorem logs_at : IsPair (logs (lift f0) (lift f1)) fun h => (head f0 f1 f2 f3 h).LN := fun h t s => by
  pointwise [logs, earlier]
  rw [softplus_at _ _ (zz_at f0 f1 f2 f3), if_bit', ← EReal.coe_neg]
  exact if_coe (s.val < t.val) _ 0
theorem beyond_at : IsPair (beyond (lift f0) (lift f1)) fun h => (head f0 f1 f2 f3 h).SUF := fun h t s => by
  pointwise [beyond]
  unfold sums Host.reduceWindowAdd
  rw [Ideal.hostReduceWindowAdd_def, show (broadcastInDim S_ ![] bcast_S_S_ (constant (F := Ideal) S_ .f32 0x00000000#32) : Vec Ideal S_ .f32) (Shape.Idx.first h_S_) = (0 : EReal) by pointwise []]
  refine (congrArg₂ (fun a b : EReal => a - b) (window_from (A := 8) (N := 4096) (M := 4096) 4095 _ _ h t ((head f0 f1 f2 f3 h).LN t.val) (fun x => logs_at f0 f1 f2 f3 h t x) s) (logs_at f0 f1 f2 f3 h t s)).trans ?_
  rw [← EReal.coe_sub, suf_eq _ _ _ s.isLt]
theorem table_at (h : Fin 8) (t : Fin 4096) (l : Fin 128) (hl : l.val < 16) :
    table (lift f0) (lift f1) (ix2 t (lane h l)) = ((head f0 f1 f2 f3 h).SUF t.val (256 * l.val + 255) : EReal) := by
  refine Eq.trans ?_ (beyond_at f0 f1 f2 f3 h t ⟨256 * l.val + 255, by omega⟩)
  pointwise [table]
  have e1 : (lane h l).val / 128 = h.val := by show (128 * h.val + l.val) / 128 = h.val; omega
  have e2 : (lane h l).val % 128 = l.val := by show (128 * h.val + l.val) % 128 = l.val; omega
  rw [dif_pos (⟨by rw [e1]; exact h.isLt, by rw [e2]; exact hl⟩ : (lane h l).val / 128 < 8 ∧ (lane h l).val % 128 < 16)]
  exact congrArg _ (idx3 e1 rfl (by show 255 + 256 * ((lane h l).val % 128) = 256 * l.val + 255; rw [e2]; omega))
end read

/-! ## The blocks -/

theorem pairs_lt : t.val / 8 < 4 := by have h : t.val < 32 := N_0 ▸ t.isLt; omega
/-- A head of the pair of point `t`. -/
def hd (h : Fin 2) : Fin 8 := ⟨2 * (t.val / 8) + h.val, by have := pairs_lt t; omega⟩
/-- A row of the block of point `t`. -/
def row (r : Fin 512) : Fin 4096 := ⟨512 * (t.val % 8) + r.val, by omega⟩

theorem index_in : ∀ t : Fin grid0.N, (win0_0.index t 0 = t.val % 8 ∧ win0_0.index t 1 = t.val / 8) ∧ (win0_1.index t 0 = 0 ∧ win0_1.index t 1 = t.val / 8)
    ∧ (win0_2.index t 0 = 0 ∧ win0_2.index t 1 = t.val / 8) ∧ (win0_3.index t 0 = t.val % 8 ∧ win0_3.index t 1 = t.val / 8)
    ∧ win0_4.index t 0 = t.val % 8 ∧ win0_4.index t 1 = t.val / 8 := by decide +kernel
theorem index_out : ∀ t : Fin grid0.N, (win0_5.index t 0 = t.val % 8 ∧ win0_5.index t 1 = t.val / 8) ∧ (win0_6.index t 0 = 0 ∧ win0_6.index t 1 = t.val / 8)
    ∧ win0_7.index t 0 = 0 ∧ win0_7.index t 1 = t.val / 8 := by decide +kernel

section blocks
variable (c : Dev nD) (t : Fin cfg0.N)

theorem iblk0 (r : Fin 512) (h : Fin 2) (d : Fin 128) : iblk m c 0 t (ix2 r (col h d)) = V (F := Ideal) m c main_v0 (ix2 (row t r) (lane (hd t h) d)) := by
  unfold iblk
  rw [View.read_apply]
  refine congrArg (V m c main_v0) (idx2 (j := ix2 (row t r) (lane (hd t h) d)) ?_ ?_)
  · show win0_0.index t 0 * 512 + 1 * r.val = 512 * (t.val % 8) + r.val; rw [(index_in t).1.1]; omega
  · show win0_0.index t 1 * 256 + 1 * (128 * h.val + d.val) = 128 * (2 * (t.val / 8) + h.val) + d.val; rw [(index_in t).1.2]; omega
theorem iblk1 (s : Fin 4096) (h : Fin 2) (d : Fin 128) : iblk m c 1 t (ix2 s (col h d)) = V (F := Ideal) m c main_v1 (ix2 s (lane (hd t h) d)) := by
  unfold iblk
  rw [View.read_apply]
  refine congrArg (V m c main_v1) (idx2 (j := ix2 s (lane (hd t h) d)) ?_ ?_)
  · show win0_1.index t 0 * 4096 + 1 * s.val = s.val; rw [(index_in t).2.1.1]; omega
  · show win0_1.index t 1 * 256 + 1 * (128 * h.val + d.val) = 128 * (2 * (t.val / 8) + h.val) + d.val; rw [(index_in t).2.1.2]; omega
theorem iblk2 (s : Fin 4096) (h : Fin 2) (d : Fin 128) : iblk m c 2 t (ix2 s (col h d)) = V (F := Ideal) m c main_v2 (ix2 s (lane (hd t h) d)) := by
  unfold iblk
  rw [View.read_apply]
  refine congrArg (V m c main_v2) (idx2 (j := ix2 s (lane (hd t h) d)) ?_ ?_)
  · show win0_2.index t 0 * 4096 + 1 * s.val = s.val; rw [(index_in t).2.2.1.1]; omega
  · show win0_2.index t 1 * 256 + 1 * (128 * h.val + d.val) = 128 * (2 * (t.val / 8) + h.val) + d.val; rw [(index_in t).2.2.1.2]; omega
theorem iblk3 (r : Fin 512) (h : Fin 2) (d : Fin 128) : iblk m c 3 t (ix2 r (col h d)) = V (F := Ideal) m c main_v3 (ix2 (row t r) (lane (hd t h) d)) := by
  unfold iblk
  rw [View.read_apply]
  refine congrArg (V m c main_v3) (idx2 (j := ix2 (row t r) (lane (hd t h) d)) ?_ ?_)
  · show win0_3.index t 0 * 512 + 1 * r.val = 512 * (t.val % 8) + r.val; rw [(index_in t).2.2.2.1.1]; omega
  · show win0_3.index t 1 * 256 + 1 * (128 * h.val + d.val) = 128 * (2 * (t.val / 8) + h.val) + d.val; rw [(index_in t).2.2.2.1.2]; omega
theorem iblk4 (r : Fin 512) (h : Fin 2) (d : Fin 128) : iblk m c 4 t (ix2 r (col h d)) = V (F := Ideal) m c main_v24 (ix2 (row t r) (lane (hd t h) d)) := by
  unfold iblk
  rw [View.read_apply]
  refine congrArg (V m c main_v24) (idx2 (j := ix2 (row t r) (lane (hd t h) d)) ?_ ?_)
  · show win0_4.index t 0 * 512 + 1 * r.val = 512 * (t.val % 8) + r.val; rw [(index_in t).2.2.2.2.1]; omega
  · show win0_4.index t 1 * 256 + 1 * (128 * h.val + d.val) = 128 * (2 * (t.val / 8) + h.val) + d.val; rw [(index_in t).2.2.2.2.2]; omega
end blocks

theorem V_q : V (F := Ideal) m c main_v0 = (m ((c : Thread nD τ).loc main_arg0) : S4096x1024.Idx → EReal) := by
  simp only [V, hostOps0, hostOps0_1, hostOps0_2, hostOps0_3, hostOps0_4, hostOps0_5, hostOps0_6, hostOps0_7, List.flatten_cons, List.flatten_nil, List.append_nil, List.cons_append, List.nil_append]
  after_results
  try rfl
theorem V_k : V (F := Ideal) m c main_v1 = (m ((c : Thread nD τ).loc main_arg1) : S4096x1024.Idx → EReal) := by
  simp only [V, hostOps0, hostOps0_1, hostOps0_2, hostOps0_3, hostOps0_4, hostOps0_5, hostOps0_6, hostOps0_7, List.flatten_cons, List.flatten_nil, List.append_nil, List.cons_append, List.nil_append]
  after_results
  try rfl
theorem V_v : V (F := Ideal) m c main_v2 = (m ((c : Thread nD τ).loc main_arg2) : S4096x1024.Idx → EReal) := by
  simp only [V, hostOps0, hostOps0_1, hostOps0_2, hostOps0_3, hostOps0_4, hostOps0_5, hostOps0_6, hostOps0_7, List.flatten_cons, List.flatten_nil, List.append_nil, List.cons_append, List.nil_append]
  after_results
  try rfl
theorem V_o : V (F := Ideal) m c main_v3 = (m ((c : Thread nD τ).loc main_arg3) : S4096x1024.Idx → EReal) := by
  simp only [V, hostOps0, hostOps0_1, hostOps0_2, hostOps0_3, hostOps0_4, hostOps0_5, hostOps0_6, hostOps0_7, List.flatten_cons, List.flatten_nil, List.append_nil, List.cons_append, List.nil_append]
  after_results
  try rfl

/-- The heads a point reads. -/
def GP (f0 f1 f2 f3 : Arr) (t : Fin cfg0.N) (h : Fin 2) : Head := head f0 f1 f2 f3 (hd t h)

theorem lane_at (f : Arr) (h : Fin 8) (t : Fin 4096) (d : Fin 128) : lift f (ix2 t (lane h d)) = (rows f h t.val d : EReal) :=
  congrArg ((↑) : ℝ → EReal) (rows_at f h t d)

/-- What a point reads, where the arguments are real numbers. -/
theorem ins (f0 f1 f2 f3 : Arr) (h0 : (m ((c : Thread nD τ).loc main_arg0) : S4096x1024.Idx → EReal) = lift f0)
    (h1 : (m ((c : Thread nD τ).loc main_arg1) : S4096x1024.Idx → EReal) = lift f1) (h2 : (m ((c : Thread nD τ).loc main_arg2) : S4096x1024.Idx → EReal) = lift f2)
    (h3 : (m ((c : Thread nD τ).loc main_arg3) : S4096x1024.Idx → EReal) = lift f3) :
    Ins (GP f0 f1 f2 f3 t) (512 * (t.val % 8)) (iblk m c 0 t) (iblk m c 1 t) (iblk m c 2 t) (iblk m c 3 t) (iblk m c 4 t) where
  q h r d := (iblk0 m c t r h d).trans ((congrFun ((V_q m c).trans h0) _).trans (lane_at f0 _ _ d))
  k h s d := (iblk1 m c t s h d).trans ((congrFun ((V_k m c).trans h1) _).trans (lane_at f1 _ _ d))
  v h s d := (iblk2 m c t s h d).trans ((congrFun ((V_v m c).trans h2) _).trans (lane_at f2 _ _ d))
  o h r d := (iblk3 m c t r h d).trans ((congrFun ((V_o m c).trans h3) _).trans (lane_at f3 _ _ d))
  cs h r l hl := (iblk4 m c t r h l).trans ((congrFun ((V_table m c).trans (congrArg₂ table h0 h1)) _).trans (table_at f0 f1 f2 f3 (hd t h) (row t r) l hl))

end Cert.SbIdeal.Val

end
-- ==== Proof.SbAcc.lean ====
/-
  The outputs over the grid: the queries' gradient is whole after each point, the keys' and values' gradients hold the queries so
  far; and the three arrays at the end.
-/
module

public import proofs.«01_k».proof.Proof.SbPrep

@[expose] public section

set_option maxRecDepth 16384

noncomputable section

open Idealize.ShloMosaic Idealize.ShloMosaic.TcCoe Idealize.SL.Sem
open Cert.Common Cert.SbReal

namespace Cert.SbIdeal.Val

open Cert.SbIdeal Cert.SbIdeal.Gen Cert.SbIdeal.Value

variable (G : Fin 2 → Head)

/-- After a point the keys hold all queries up to the point's last. -/
theorem fk_done (n : ℕ) (h : Fin 2) (s : ℕ) (d : Fin 128) : FK G (512 * n) (fun _ => 2 * n + 2) h s d = (G h).DK (512 * n + 512) s d := by
  unfold FK
  split
  · rfl
  · exact ((G h).DK_same d (by omega) (by beta_reduce at *; omega)).symm
theorem fv_done (n : ℕ) (h : Fin 2) (s : ℕ) (d : Fin 128) : FV G (512 * n) (fun _ => 2 * n + 2) h s d = (G h).DV (512 * n + 512) s d := by
  unfold FV
  split
  · rfl
  · exact ((G h).DV_same d (by omega) (by beta_reduce at *; omega)).symm
theorem fk_start (t0 : ℕ) (h : Fin 2) (s : ℕ) (d : Fin 128) : FK G t0 (fun _ => 0) h s d = (G h).DK t0 s d := by
  unfold FK
  rw [if_neg (by beta_reduce; omega)]
theorem fv_start (t0 : ℕ) (h : Fin 2) (s : ℕ) (d : Fin 128) : FV G t0 (fun _ => 0) h s d = (G h).DV t0 s d := by
  unfold FV
  rw [if_neg (by beta_reduce; omega)]

theorem At.mono {N : ℕ} {X : (⟨2, ![N, 256]⟩ : Shape).Idx → EReal} {Fn F' : Fin 2 → ℕ → Fin 128 → ℝ} (hX : At X Fn) (hF : ∀ h s d, Fn h s d = F' h s d) : At X F' :=
  fun h s d => (hX h s d).trans (congrArg ((↑) : ℝ → EReal) (hF h s.val d))

theorem coords1 : ∀ t : Fin grid0.N, (grid0.coords t 1).val = t.val % 8 := by decide +kernel

variable (m : (ℓ : Loc nD τ sig) → Buf (Elt Ideal) ℓ) (c : Dev nD) (f0 f1 f2 f3 : Arr)

section real
variable (h0 : (m ((c : Thread nD τ).loc main_arg0) : S4096x1024.Idx → EReal) = lift f0)
  (h1 : (m ((c : Thread nD τ).loc main_arg1) : S4096x1024.Idx → EReal) = lift f1) (h2 : (m ((c : Thread nD τ).loc main_arg2) : S4096x1024.Idx → EReal) = lift f2)
  (h3 : (m ((c : Thread nD τ).loc main_arg3) : S4096x1024.Idx → EReal) = lift f3)

/-- What the three outputs hold after a point. -/
structure Left (t : Fin cfg0.N) (x5 : Vec Ideal S512x256 .f32) (x6 x7 : Vec Ideal S4096x256 .f32) : Prop where
  q : At x5 (FQ (GP f0 f1 f2 f3 t) (512 * (t.val % 8)) fun _ => 2 * (t.val % 8) + 2)
  k : At x6 (fun h s d => (GP f0 f1 f2 f3 t h).DK (512 * (t.val % 8) + 512) s d)
  v : At x7 (fun h s d => (GP f0 f1 f2 f3 t h).DV (512 * (t.val % 8) + 512) s d)

include h0 h1 h2 h3

theorem left_first (t : Fin cfg0.N) (ht : t.val % 8 = 0) :
    Left f0 f1 f2 f3 t (outsAt0 m c t.val t.isLt).1 (outsAt0 m c t.val t.isLt).2.1 (outsAt0 m c t.val t.isLt).2.2 := by
  rw [outsAt0_A m c t ht]
  dsimp only
  have hr := run_A (ins m c t f0 f1 f2 f3 h0 h1 h2 h3) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (congrArg (512 * ·) (coords1 t).symm) ((hcond0_0 t).mpr ht) (by rw [ht])
  rw [show (grid0.coords t 1).val = t.val % 8 from coords1 t] at hr
  exact ⟨hr.1, hr.2.1.mono (fk_done _ _), hr.2.2.mono (fv_done _ _)⟩

theorem left_next (t t' : Fin cfg0.N) (ht : ¬t.val % 8 = 0) (e : t'.val = t.val - 1)
    (hl : Left f0 f1 f2 f3 t' (outsAt0 m c t'.val t'.isLt).1 (outsAt0 m c t'.val t'.isLt).2.1 (outsAt0 m c t'.val t'.isLt).2.2) :
    Left f0 f1 f2 f3 t (outsAt0 m c t.val t.isLt).1 (outsAt0 m c t.val t.isLt).2.1 (outsAt0 m c t.val t.isLt).2.2 := by
  obtain ⟨n, hn⟩ := t'
  obtain rfl : n = t.val - 1 := e
  rw [outsAt0_B m c t ht]
  dsimp only
  have eG : GP f0 f1 f2 f3 (⟨t.val - 1, hn⟩ : Fin cfg0.N) = GP f0 f1 f2 f3 t := by
    unfold GP hd
    funext h
    congr 2
    show 2 * ((t.val - 1) / 8) + h.val = 2 * (t.val / 8) + h.val
    omega
  have et : 512 * ((t.val - 1) % 8) + 512 = 512 * (t.val % 8) := by omega
  have hk := hl.k
  have hv := hl.v
  rw [eG] at hk hv
  have hr := run_B (ins m c t f0 f1 f2 f3 h0 h1 h2 h3) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (congrArg (512 * ·) (coords1 t).symm) (fun h => ht ((hcond0_0 t).mp h)) (outsAt0 m c (t.val - 1) hn).2.1 (outsAt0 m c (t.val - 1) hn).2.2
    (hk.mono fun h s d => (congrArg (fun n => (GP f0 f1 f2 f3 t h).DK n s d) et).trans (fk_start _ _ h s d).symm)
    (hv.mono fun h s d => (congrArg (fun n => (GP f0 f1 f2 f3 t h).DV n s d) et).trans (fv_start _ _ h s d).symm)
  rw [show (grid0.coords t 1).val = t.val % 8 from coords1 t] at hr
  exact ⟨hr.1, hr.2.1.mono (fk_done _ _), hr.2.2.mono (fv_done _ _)⟩

theorem left_all : ∀ (n : ℕ) (hn : n < cfg0.N),
    Left f0 f1 f2 f3 ⟨n, hn⟩ (outsAt0 m c n hn).1 (outsAt0 m c n hn).2.1 (outsAt0 m c n hn).2.2
  | 0, hn => left_first m c f0 f1 f2 f3 h0 h1 h2 h3 ⟨0, hn⟩ rfl
  | n + 1, hn => by
    by_cases ht : (n + 1) % 8 = 0
    · exact left_first m c f0 f1 f2 f3 h0 h1 h2 h3 ⟨n + 1, hn⟩ ht
    · exact left_next m c f0 f1 f2 f3 h0 h1 h2 h3 ⟨n + 1, hn⟩ ⟨n, Nat.lt_of_succ_lt hn⟩ ht rfl (left_all n (Nat.lt_of_succ_lt hn))
end real

/-! ## The arrays -/

/-- A gradient as an array: head and lane out of the column. -/
def arr (g : Fin 8 → ℕ → Fin 128 → ℝ) : Vec Ideal S4096x1024 .f32 := fun i =>
  (g ⟨(i 1).val / 128, by have h : (i 1).val < 1024 := (i 1).isLt; omega⟩ (i 0).val ⟨(i 1).val % 128, by omega⟩ : EReal)

theorem arr_at (g : Fin 8 → ℕ → Fin 128 → ℝ) (h : Fin 8) (t : Fin 4096) (d : Fin 128) : arr g (ix2 t (lane h d)) = (g h t.val d : EReal) := by
  unfold arr
  congr 2
  · exact Fin.ext (by show (128 * h.val + d.val) / 128 = h.val; omega)
  · exact Fin.ext (by show (128 * h.val + d.val) % 128 = d.val; omega)

abbrev gq : Fin 8 → ℕ → Fin 128 → ℝ := fun h => (head f0 f1 f2 f3 h).DQ 4096
abbrev gk : Fin 8 → ℕ → Fin 128 → ℝ := fun h => (head f0 f1 f2 f3 h).DK 4096
abbrev gv : Fin 8 → ℕ → Fin 128 → ℝ := fun h => (head f0 f1 f2 f3 h).DV 4096

theorem lanes {N : ℕ} (j : (⟨2, ![N, 256]⟩ : Shape).Idx) : ∃ (r : Fin N) (h : Fin 2) (d : Fin 128), j = ix2 r (col h d) := by
  have hl : (j 1).val < 256 := (j 1).isLt
  exact ⟨j 0, ⟨(j 1).val / 128, by omega⟩, ⟨(j 1).val % 128, by omega⟩, idx2 rfl (by show (j 1).val = 128 * ((j 1).val / 128) + (j 1).val % 128; omega)⟩

theorem emb5 (t : Fin cfg0.N) (r : Fin 512) (h : Fin 2) (d : Fin 128) : ((cfg0.win 5).blk t).view.emb (ix2 r (col h d)) = ix2 (row t r) (lane (hd t h) d) :=
  idx2 (by show win0_5.index t 0 * 512 + 1 * r.val = 512 * (t.val % 8) + r.val; rw [(index_out t).1.1]; omega)
    (by show win0_5.index t 1 * 256 + 1 * (128 * h.val + d.val) = 128 * (2 * (t.val / 8) + h.val) + d.val; rw [(index_out t).1.2]; omega)
theorem emb6 (t : Fin cfg0.N) (s : Fin 4096) (h : Fin 2) (d : Fin 128) : ((cfg0.win 6).blk t).view.emb (ix2 s (col h d)) = ix2 s (lane (hd t h) d) :=
  idx2 (by show win0_6.index t 0 * 4096 + 1 * s.val = s.val; rw [(index_out t).2.1.1]; omega)
    (by show win0_6.index t 1 * 256 + 1 * (128 * h.val + d.val) = 128 * (2 * (t.val / 8) + h.val) + d.val; rw [(index_out t).2.1.2]; omega)
theorem emb7 (t : Fin cfg0.N) (s : Fin 4096) (h : Fin 2) (d : Fin 128) : ((cfg0.win 7).blk t).view.emb (ix2 s (col h d)) = ix2 s (lane (hd t h) d) :=
  idx2 (by show win0_7.index t 0 * 4096 + 1 * s.val = s.val; rw [(index_out t).2.2.1]; omega)
    (by show win0_7.index t 1 * 256 + 1 * (128 * h.val + d.val) = 128 * (2 * (t.val / 8) + h.val) + d.val; rw [(index_out t).2.2.2]; omega)

/-- Every element lies in the block of some point, written back there. -/
theorem covered_q (i : S4096x1024.Idx) : ∃ (t : Fin cfg0.N) (r : Fin 512) (h : Fin 2) (d : Fin 128), ix2 (row t r) (lane (hd t h) d) = i := by
  have hr : (i 0).val < 4096 := (i 0).isLt
  have hc : (i 1).val < 1024 := (i 1).isLt
  refine ⟨⟨8 * ((i 1).val / 256) + (i 0).val / 512, by show _ < grid0.N; rw [N_0]; omega⟩, ⟨(i 0).val % 512, by omega⟩, ⟨(i 1).val / 128 % 2, by omega⟩, ⟨(i 1).val % 128, by omega⟩, idx2 ?_ ?_⟩
  · show 512 * ((8 * ((i 1).val / 256) + (i 0).val / 512) % 8) + (i 0).val % 512 = (i 0).val; omega
  · show 128 * (2 * ((8 * ((i 1).val / 256) + (i 0).val / 512) / 8) + (i 1).val / 128 % 2) + (i 1).val % 128 = (i 1).val; omega
theorem covered_k (i : S4096x1024.Idx) : ∃ (t : Fin cfg0.N) (s : Fin 4096) (h : Fin 2) (d : Fin 128), t.val % 8 = 7 ∧ ix2 s (lane (hd t h) d) = i := by
  have hc : (i 1).val < 1024 := (i 1).isLt
  refine ⟨⟨8 * ((i 1).val / 256) + 7, by show _ < grid0.N; rw [N_0]; omega⟩, i 0, ⟨(i 1).val / 128 % 2, by omega⟩, ⟨(i 1).val % 128, by omega⟩, ?_, idx2 rfl ?_⟩
  · show (8 * ((i 1).val / 256) + 7) % 8 = 7; omega
  · show 128 * (2 * ((8 * ((i 1).val / 256) + 7) / 8) + (i 1).val / 128 % 2) + (i 1).val % 128 = (i 1).val; omega

section real
variable (h0 : (m ((c : Thread nD τ).loc main_arg0) : S4096x1024.Idx → EReal) = lift f0)
  (h1 : (m ((c : Thread nD τ).loc main_arg1) : S4096x1024.Idx → EReal) = lift f1) (h2 : (m ((c : Thread nD τ).loc main_arg2) : S4096x1024.Idx → EReal) = lift f2)
  (h3 : (m ((c : Thread nD τ).loc main_arg3) : S4096x1024.Idx → EReal) = lift f3)
include h0 h1 h2 h3

theorem final5 : (dats m 0 c).arrAt 5 cfg0.N = arr (gq f0 f1 f2 f3) := by
  refine (dats m 0 c).arrAt_eq_of_cover 5 (arr (gq f0 f1 f2 f3)) (fun t ht => ?_) fun i => ?_
  · rw [flushed5]
    funext j
    obtain ⟨r, h, d, rfl⟩ := lanes j
    rw [View.read_apply, emb5, arr_at]
    show (outsAt0 m c t.val t.isLt).1 (ix2 r (col h d)) = _
    refine ((left_all m c f0 f1 f2 f3 h0 h1 h2 h3 t.val t.isLt).q h r d).trans (congrArg ((↑) : ℝ → EReal) ?_)
    show (head f0 f1 f2 f3 (hd t h)).DQ (256 * (2 * (t.val % 8) + 2)) (512 * (t.val % 8) + r.val) d = (head f0 f1 f2 f3 (hd t h)).DQ 4096 (512 * (t.val % 8) + r.val) d
    exact ((head f0 f1 f2 f3 (hd t h)).DQ_same d (by omega) (by omega)).symm
  · obtain ⟨t, r, h, d, rfl⟩ := covered_q i
    exact ⟨t, flush0_5 t, emb5 t r h d ▸ View.emb_mem_set _ _⟩
theorem final6 : (dats m 0 c).arrAt 6 cfg0.N = arr (gk f0 f1 f2 f3) := by
  refine (dats m 0 c).arrAt_eq_of_cover 6 (arr (gk f0 f1 f2 f3)) (fun t ht => ?_) fun i => ?_
  · rw [flushed6]
    funext j
    obtain ⟨r, h, d, rfl⟩ := lanes j
    rw [View.read_apply, emb6, arr_at]
    show (outsAt0 m c t.val t.isLt).2.1 (ix2 r (col h d)) = _
    refine ((left_all m c f0 f1 f2 f3 h0 h1 h2 h3 t.val t.isLt).k h r d).trans (congrArg ((↑) : ℝ → EReal) ?_)
    show (head f0 f1 f2 f3 (hd t h)).DK (512 * (t.val % 8) + 512) r.val d = (head f0 f1 f2 f3 (hd t h)).DK 4096 r.val d
    rw [(flush0_6 t).mp ht]
  · obtain ⟨t, s, h, d, ht, rfl⟩ := covered_k i
    exact ⟨t, (flush0_6 t).mpr ht, emb6 t s h d ▸ View.emb_mem_set _ _⟩
theorem final7 : (dats m 0 c).arrAt 7 cfg0.N = arr (gv f0 f1 f2 f3) := by
  refine (dats m 0 c).arrAt_eq_of_cover 7 (arr (gv f0 f1 f2 f3)) (fun t ht => ?_) fun i => ?_
  · rw [flushed7]
    funext j
    obtain ⟨r, h, d, rfl⟩ := lanes j
    rw [View.read_apply, emb7, arr_at]
    show (outsAt0 m c t.val t.isLt).2.2 (ix2 r (col h d)) = _
    refine ((left_all m c f0 f1 f2 f3 h0 h1 h2 h3 t.val t.isLt).v h r d).trans (congrArg ((↑) : ℝ → EReal) ?_)
    show (head f0 f1 f2 f3 (hd t h)).DV (512 * (t.val % 8) + 512) r.val d = (head f0 f1 f2 f3 (hd t h)).DV 4096 r.val d
    rw [(flush0_7 t).mp ht]
  · obtain ⟨t, s, h, d, ht, rfl⟩ := covered_k i
    exact ⟨t, (flush0_7 t).mpr ht, emb7 t s h d ▸ View.emb_mem_set _ _⟩
end real

end Cert.SbIdeal.Val

end
-- ==== Proof.SbRef.lean ====
/-
  The reference of the stick-breaking attention's gradient, read at an index: per head the scores, the logarithms left beyond a
  pair, the weights, the gradients of the logarithms summed up to a pair, the gradients of the scores, and the three products.
-/
module

public import proofs.«01_k».proof.Proof.SbHost
public import proofs.«01_k».proof.Proof.Gen.SbRefIdeal.Read

@[expose] public section

noncomputable section

open Idealize.ShloMosaic Idealize.ShloMosaic.TcCoe Idealize.SL.Sem
open Cert.Common Cert.SbReal

namespace Cert.SbRefIdeal.Val

open Cert.SbRefIdeal Cert.SbRefIdeal.Read

variable (f0 f1 f2 f3 : Arr)

/-- The arguments as extended reals. -/
abbrev lift (f : Arr) : S4096x1024.Idx → EReal := fun i => (f i : EReal)

theorem lane_at (f : Arr) (h : Fin 8) (t : Fin 4096) (d : Fin 128) (n : ℕ) (hn : n < 1024) (e : n = 128 * h.val + d.val) :
    lift f (ix2 t ⟨n, hn⟩) = (rows f h t.val d : EReal) := by
  subst e
  exact congrArg ((↑) : ℝ → EReal) (rows_at f h t d)
theorem v1_at : IsRows (val_main_v1 (F := Ideal) (lift f0)) (rows f0) := fun h t d => by
  pointwise [val_main_v0, val_main_v1]
  exact lane_at f0 h t d _ _ (by omega)
theorem v3_at : IsRows (val_main_v3 (F := Ideal) (lift f1)) (rows f1) := fun h t d => by
  pointwise [val_main_v2, val_main_v3]
  exact lane_at f1 h t d _ _ (by omega)
theorem v5_at : IsRows (val_main_v5 (F := Ideal) (lift f2)) (rows f2) := fun h t d => by
  pointwise [val_main_v4, val_main_v5]
  exact lane_at f2 h t d _ _ (by omega)
theorem v27_at : IsRows (val_main_v27 (F := Ideal) (lift f3)) (rows f3) := fun h t d => by
  pointwise [val_main_v26, val_main_v27]
  exact lane_at f3 h t d _ _ (by omega)

theorem v6_at : IsPair (val_main_v6 (F := Ideal) (lift f0) (lift f1)) fun h => (head f0 f1 f2 f3 h).Z := fun h t s => by
  pointwise [val_main_v6]
  simp only [v1_at f0 h, v3_at f1 h]
  exact sum_mul_coe _ _
theorem z_at (h : Fin 8) (t s : Fin 4096) : val_main_call0_v0 (F := Ideal) (lift f0) (lift f1) (ix3 h t s) = ((head f0 f1 f2 f3 h).Z t.val s.val : EReal) := by
  pointwise [val_main_v14, val_main_call0_v0]
  rw [v6_at f0 f1 f2 f3, neg_neg]
theorem sp_at : IsPair (val_main_call0_v1_0 (F := Ideal) (lift f0) (lift f1)) fun h t s => sp ((head f0 f1 f2 f3 h).Z t s) := fun h t s => by
  pointwise [val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1_0]
  rw [z_at f0 f1 f2 f3]
  exact softplus_coe _
theorem v15_at : IsPair (val_main_v15_1 (F := Ideal) (lift f0) (lift f1)) fun h t s => sgm ((head f0 f1 f2 f3 h).Z t s) := fun h t s => by
  pointwise [val_main_call0_call0_v13, val_main_call0_call0_v14, val_main_call0_call0_cst_0, val_main_call0_call0_cst_1, val_main_call0_call0_v15, val_main_call0_call0_v16, val_main_call0_call0_v17, val_main_call0_call0_v18, val_main_call0_call0_cst_2, val_main_call0_call0_cst_3, val_main_call0_call0_v19, val_main_call0_call0_v20, val_main_call0_call0_v21, val_main_v15_1]
  rw [z_at f0 f1 f2 f3, sp_at f0 f1 f2 f3]
  exact (guard_coe _ _).trans (congrArg _ (exp_sub_sp _))
theorem zn_at (h : Fin 8) (t s : Fin 4096) : val_main_call3_v0 (F := Ideal) (lift f0) (lift f1) (ix3 h t s) = ((-(head f0 f1 f2 f3 h).Z t.val s.val : ℝ) : EReal) := by
  pointwise [val_main_call3_v0]
  rw [v6_at f0 f1 f2 f3, EReal.coe_neg]
theorem spn_at : IsPair (val_main_call3_v1_0 (F := Ideal) (lift f0) (lift f1)) fun h t s => sp (-(head f0 f1 f2 f3 h).Z t s) := fun h t s => by
  pointwise [val_main_call3_call0_cst, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_v1_0]
  rw [zn_at f0 f1 f2 f3]
  exact softplus_coe _
theorem v19_at : IsPair (val_main_v19_1 (F := Ideal) (lift f0) (lift f1)) fun h t s => 1 - sgm ((head f0 f1 f2 f3 h).Z t s) := fun h t s => by
  pointwise [val_main_call3_call0_v13, val_main_call3_call0_v14, val_main_call3_call0_cst_0, val_main_call3_call0_cst_1, val_main_call3_call0_v15, val_main_call3_call0_v16, val_main_call3_call0_v17, val_main_call3_call0_v18, val_main_call3_call0_cst_2, val_main_call3_call0_cst_3, val_main_call3_call0_v19, val_main_call3_call0_v20, val_main_call3_call0_v21, val_main_v19_1]
  rw [zn_at f0 f1 f2 f3, spn_at f0 f1 f2 f3]
  exact (guard_coe _ _).trans (congrArg _ ((exp_sub_sp _).trans (sgm_neg _)))

theorem v16_at : IsPair (val_main_v16_0 (F := Ideal) (lift f0) (lift f1)) fun h => (head f0 f1 f2 f3 h).LN := fun h t s => by
  pointwise [val_main_v7, val_main_v8, val_main_v9, val_main_v10, val_main_v11, val_main_v12, val_main_v13, val_main_v16_1, val_main_cst, val_main_call1_v0, val_main_call1_v2, val_main_v15_0, val_main_v16_0]
  rw [sp_at f0 f1 f2 f3, if_bit', ← EReal.coe_neg]
  exact (congrArg (fun x : EReal => if s.val < t.val then _ else x) (zero_word : Ideal.ofBits .f32 0#32 = ((0 : ℝ) : EReal))).trans (if_coe (s.val < t.val) _ 0)
theorem v18_at : IsPair (val_main_v18 (F := Ideal) (lift f0) (lift f1)) fun h => (head f0 f1 f2 f3 h).SUF := fun h t s => by
  pointwise [val_main_v18]
  unfold val_main_v17 Host.reduceWindowAdd
  rw [Ideal.hostReduceWindowAdd_def, show val_main_call2_v0 (F := Ideal) (Shape.Idx.first Gen.h_S_) = (0 : EReal) by pointwise [val_main_call2_cst, val_main_call2_v0]]
  refine (congrArg₂ (fun a b : EReal => a - b) (window_from (A := 8) (N := 4096) (M := 4096) 4095 _ _ h t ((head f0 f1 f2 f3 h).LN t.val) (fun x => v16_at f0 f1 f2 f3 h t x) s) (v16_at f0 f1 f2 f3 h t s)).trans ?_
  rw [← EReal.coe_sub, suf_eq _ _ _ s.isLt]
theorem v22_at : IsPair (val_main_v22 (F := Ideal) (lift f0) (lift f1)) fun h => (head f0 f1 f2 f3 h).W := fun h t s => by
  pointwise [val_main_v7, val_main_v8, val_main_v9, val_main_v10, val_main_v11, val_main_v12, val_main_v13, val_main_v19_0, val_main_v20, val_main_cst_0, val_main_call4_v0, val_main_v21_1, val_main_call4_v2, val_main_v21_0, val_main_v22]
  rw [spn_at f0 f1 f2 f3, v18_at f0 f1 f2 f3, if_bit', ← EReal.coe_neg, ← EReal.coe_add]
  unfold Head.W
  by_cases hs : s.val < t.val
  · rw [if_pos hs, if_pos hs, Ideal.exp_coe]
    beta_reduce
    rw [sp_neg]
    exact congrArg (fun x : ℝ => ((Real.exp x : ℝ) : EReal)) (by ring)
  · rw [if_neg hs, if_neg hs]
    show Ideal.exp (Ideal.ofBits .f32 4286578688#32) = _
    rw [bot_word, Ideal.exp_bot]
    rfl
theorem v32_at : IsPair (val_main_v32 (F := Ideal) (lift f0) (lift f1) (lift f2) (lift f3)) fun h => (head f0 f1 f2 f3 h).DL := fun h t s => by
  pointwise [val_main_v7, val_main_v8, val_main_v9, val_main_v10, val_main_v11, val_main_v12, val_main_v13, val_main_v21_1, val_main_v30, val_main_v31, val_main_call5_cst, val_main_call5_v0, val_main_v32]
  simp only [v27_at f3 h, v5_at f2 h, v22_at f0 f1 f2 f3 h]
  rw [if_bit', sum_mul_coe, ← EReal.coe_mul]
  by_cases hs : s.val < t.val
  · rw [if_pos hs]; rfl
  · rw [if_neg hs]
    show (0 : EReal) = (((head f0 f1 f2 f3 h).DL t.val s.val : ℝ) : EReal)
    unfold Head.DL Head.W
    rw [if_neg hs, mul_zero]
    rfl
theorem v36_at (h : Fin 8) (t s : Fin 4096) : -val_main_v32 (F := Ideal) (lift f0) (lift f1) (lift f2) (lift f3) (ix3 h t s)
    + val_main_v35 (F := Ideal) (lift f0) (lift f1) (lift f2) (lift f3) (ix3 h t s) = ((head f0 f1 f2 f3 h).PRE t.val s.val : EReal) := by
  unfold val_main_v35 Host.reduceWindowAdd
  rw [Ideal.hostReduceWindowAdd_def, show val_main_call7_v0 (F := Ideal) (Shape.Idx.first Gen.h_S_) = (0 : EReal) by pointwise [val_main_call7_cst, val_main_call7_v0]]
  refine (congrArg₂ (fun a b : EReal => -a + b) (v32_at f0 f1 f2 f3 h t s) (window_upto (A := 8) (N := 4096) (M := 4096) 4095 rfl _ _ h t ((head f0 f1 f2 f3 h).DL t.val) (fun x => v32_at f0 f1 f2 f3 h t x) s)).trans ?_
  rw [← EReal.coe_neg, ← EReal.coe_add, pre_eq]
theorem v40_at : IsPair (val_main_v40 (F := Ideal) (lift f0) (lift f1) (lift f2) (lift f3)) fun h => (head f0 f1 f2 f3 h).DZ := fun h t s => by
  pointwise [val_main_v7, val_main_v8, val_main_v9, val_main_v10, val_main_v11, val_main_v12, val_main_v13, val_main_v16_1, val_main_call6_v0, val_main_call6_v1, val_main_v33, val_main_v34, val_main_v36, val_main_call8_cst, val_main_call8_v0, val_main_v37, val_main_call9_v0, val_main_call9_v1, val_main_v38, val_main_v39, val_main_v40]
  rw [v36_at f0 f1 f2 f3, v32_at f0 f1 f2 f3, v19_at f0 f1 f2 f3, v15_at f0 f1 f2 f3, if_bit']
  unfold Head.DZ
  by_cases hs : s.val < t.val
  · rw [if_pos hs, if_pos hs]
    simp only [← EReal.coe_neg, ← EReal.coe_mul, ← EReal.coe_add]
    exact congrArg ((↑) : ℝ → EReal) (by ring)
  · have hw : (head f0 f1 f2 f3 h).DL t.val s.val = 0 := by
      unfold Head.DL Head.W
      rw [if_neg hs, mul_zero]
    beta_reduce
    rw [if_neg hs, if_neg hs, hw, ← EReal.coe_zero]
    simp only [← EReal.coe_neg, ← EReal.coe_mul, ← EReal.coe_add]
    exact congrArg ((↑) : ℝ → EReal) (by ring)

theorem head_lane (h : Fin 8) (d : Fin 128) (p : (lane h d).val / 128 < 8) (p' : (lane h d).val % 128 < 128) :
    (⟨(lane h d).val / 128, p⟩ : Fin 8) = h ∧ (⟨(lane h d).val % 128, p'⟩ : Fin 128) = d :=
  ⟨Fin.ext (by show (128 * h.val + d.val) / 128 = h.val; omega), Fin.ext (by show (128 * h.val + d.val) % 128 = d.val; omega)⟩

/-- The gradient of the values. -/
theorem v44_at (h : Fin 8) (s : Fin 4096) (d : Fin 128) :
    val_main_v44 (F := Ideal) (lift f0) (lift f1) (lift f3) (ix2 s (lane h d)) = ((head f0 f1 f2 f3 h).DV 4096 s.val d : EReal) := by
  pointwise [val_main_v28, val_main_v29, val_main_v43, val_main_v44]
  rw [(head_lane h d (by have := (lane h d).isLt; omega) (by omega)).1, (head_lane h d (by have := (lane h d).isLt; omega) (by omega)).2]
  simp only [v27_at f3 h, v22_at f0 f1 f2 f3 h]
  rw [sum_mul_coe]
  unfold Head.DV
  rw [Finset.sum_range]
  exact congrArg ((↑) : ℝ → EReal) (Finset.sum_congr rfl fun _ _ => mul_comm _ _)
/-- The gradient of the keys. -/
theorem v46_at (h : Fin 8) (s : Fin 4096) (d : Fin 128) :
    val_main_v46 (F := Ideal) (lift f0) (lift f1) (lift f2) (lift f3) (ix2 s (lane h d)) = ((head f0 f1 f2 f3 h).DK 4096 s.val d : EReal) := by
  pointwise [val_main_v41, val_main_v45, val_main_v46]
  rw [(head_lane h d (by have := (lane h d).isLt; omega) (by omega)).1, (head_lane h d (by have := (lane h d).isLt; omega) (by omega)).2]
  simp only [v1_at f0 h, v40_at f0 f1 f2 f3 h]
  rw [sum_mul_coe]
  unfold Head.DK
  rw [Finset.sum_range]
  rfl
/-- The gradient of the queries. -/
theorem v48_at (h : Fin 8) (t : Fin 4096) (d : Fin 128) :
    val_main_v48 (F := Ideal) (lift f0) (lift f1) (lift f2) (lift f3) (ix2 t (lane h d)) = ((head f0 f1 f2 f3 h).DQ 4096 t.val d : EReal) := by
  pointwise [val_main_v42, val_main_v47, val_main_v48]
  rw [(head_lane h d (by have := (lane h d).isLt; omega) (by omega)).1, (head_lane h d (by have := (lane h d).isLt; omega) (by omega)).2]
  simp only [v3_at f1 h, v40_at f0 f1 f2 f3 h]
  rw [sum_mul_coe]
  unfold Head.DQ
  rw [Finset.sum_range]
  rfl

end Cert.SbRefIdeal.Val

end
-- ==== Proof.Sb.lean ====
/-
  The stick-breaking attention's backward call and the derivative of the attention end with the same three gradients.
-/
module

public import proofs.«01_k».proof.Proof.SbAcc
public import proofs.«01_k».proof.Proof.SbRef
public import proofs.«01_k».proof.Proof.Gen.SbIdeal.Value
public import proofs.«01_k».proof.Proof.Gen.SbRefIdeal.Run
public import proofs.«01_k».proof.Proof.Gen.SbRefIdeal.Read
public import proofs.«01_k».proof.Defs

@[expose] public section

noncomputable section

open Idealize.ShloMosaic Idealize.ShloMosaic.TcCoe Idealize.SL.Sem
open Cert.Common Cert.SbReal

namespace Cert.Proof.Sb

open Cert.SbIdeal Cert.SbIdeal.Gen Cert.SbIdeal.Val

variable (m : (ℓ : Loc nD τ sig) → Buf (Elt Ideal) ℓ)

/-- The arguments as real numbers. -/
def fq (c : Dev nD) : Arr := fun i => ((m ((c : Thread nD τ).loc main_arg0) : S4096x1024.Idx → EReal) i).toReal
def fk (c : Dev nD) : Arr := fun i => ((m ((c : Thread nD τ).loc main_arg1) : S4096x1024.Idx → EReal) i).toReal
def fv (c : Dev nD) : Arr := fun i => ((m ((c : Thread nD τ).loc main_arg2) : S4096x1024.Idx → EReal) i).toReal
def fo (c : Dev nD) : Arr := fun i => ((m ((c : Thread nD τ).loc main_arg3) : S4096x1024.Idx → EReal) i).toReal

theorem toReal_of (x : S4096x1024.Idx → EReal) (h : ∃ f : S4096x1024.Idx → ℝ, x = fun i => (f i : EReal)) : x = lift fun i => (x i).toReal := by
  obtain ⟨f, rfl⟩ := h
  funext i
  exact congrArg ((↑) : ℝ → EReal) (EReal.toReal_coe _).symm

/-- Finite arguments are real ones. -/
theorem reals [Cert.Pre_finite_sb.Facts] (h : Cert.Pre_SbIdeal_finite_sb m) (c : Dev nD) :
    (m ((c : Thread nD τ).loc main_arg0) : S4096x1024.Idx → EReal) = lift (fq m c) ∧ (m ((c : Thread nD τ).loc main_arg1) : S4096x1024.Idx → EReal) = lift (fk m c)
      ∧ (m ((c : Thread nD τ).loc main_arg2) : S4096x1024.Idx → EReal) = lift (fv m c) ∧ (m ((c : Thread nD τ).loc main_arg3) : S4096x1024.Idx → EReal) = lift (fo m c) := by
  obtain ⟨h0, h1, h2, h3⟩ := h c
  exact ⟨toReal_of _ (reals_of_lt _ _ _ h0), toReal_of _ (reals_of_lt _ _ _ h1), toReal_of _ (reals_of_lt _ _ _ h2), toReal_of _ (reals_of_lt _ _ _ h3)⟩

theorem arr_of (g : Fin 8 → ℕ → Fin 128 → ℝ) (x : S4096x1024.Idx → EReal) (h : ∀ n (t : Fin 4096) d, x (ix2 t (lane n d)) = (g n t.val d : EReal)) : x = arr g := by
  funext i
  have hi : (i 1).val < 1024 := (i 1).isLt
  obtain ⟨t, n, d, rfl⟩ : ∃ (t : Fin 4096) (n : Fin 8) (d : Fin 128), i = ix2 t (lane n d) :=
    ⟨i 0, ⟨(i 1).val / 128, by omega⟩, ⟨(i 1).val % 128, by omega⟩, idx2 rfl (by show (i 1).val = 128 * ((i 1).val / 128) + (i 1).val % 128; omega)⟩
  rw [arr_at, h]

/-- The reference writes no argument and awaits nothing. -/
theorem frame_ref : Cert.quiescent_SbRefIdeal := fun m ρ _ =>
  (θ_run Cert.SbRefIdeal.defs _ _).mono (fun r h => ⟨fun c => (h c).2.2.2,
      Idealize.ShloMosaic.sem_eq_zero_of_no_sems (by decide) r.2⟩)
    (Cert.SbRefIdeal.Value.run (F := Ideal) m ρ)

/-- Both programs end with the gradients of the queries, the keys and the values. -/
theorem algebraic [Cert.Pre_finite_sb.Facts] : Cert.algebraic_SbIdeal_SbRefIdeal_pre_finite_sb := by
  intro m ρ m' ρ' hpre hagree
  refine ⟨fun c => arr (gq (fq m c) (fk m c) (fv m c) (fo m c)), fun c => arr (gk (fq m c) (fk m c) (fv m c) (fo m c)), fun c => arr (gv (fq m c) (fk m c) (fv m c) (fo m c)), ?_, ?_⟩
  · refine (θ_run Cert.SbIdeal.defs _ _).mono (fun r h c => ?_) (Cert.SbIdeal.Value.run_blocks (F := Ideal) m ρ)
    obtain ⟨h5, h6, h7, ha⟩ := h c
    obtain ⟨e0, e1, e2, e3⟩ := reals m hpre c
    exact ⟨h5.trans (final5 m c _ _ _ _ e0 e1 e2 e3), h6.trans (final6 m c _ _ _ _ e0 e1 e2 e3), h7.trans (final7 m c _ _ _ _ e0 e1 e2 e3), ha⟩
  · refine (θ_run Cert.SbRefIdeal.defs _ _).mono (fun r h c => ?_) (Cert.SbRefIdeal.Value.run (F := Ideal) m' ρ')
    obtain ⟨h5, h6, h7, ha⟩ := h c
    obtain ⟨a0, a1, a2, a3⟩ := hagree c
    obtain ⟨e0, e1, e2, e3⟩ := reals m hpre c
    refine ⟨(h5.trans (Cert.SbRefIdeal.Read.val_main_v48_eq _ _)).trans ?_, (h6.trans (Cert.SbRefIdeal.Read.val_main_v46_eq _ _)).trans ?_, (h7.trans (Cert.SbRefIdeal.Read.val_main_v44_eq _ _)).trans ?_, ha⟩
    · rw [a0, a1, a2, a3]
      refine Eq.trans ?_ (arr_of _ _ (Cert.SbRefIdeal.Val.v48_at (fq m c) (fk m c) (fv m c) (fo m c)))
      exact congr (congr (congrArg₂ (Cert.SbRefIdeal.Read.val_main_v48 (F := Ideal)) e0 e1) e2) e3
    · rw [a0, a1, a2, a3]
      refine Eq.trans ?_ (arr_of _ _ (Cert.SbRefIdeal.Val.v46_at (fq m c) (fk m c) (fv m c) (fo m c)))
      exact congr (congr (congrArg₂ (Cert.SbRefIdeal.Read.val_main_v46 (F := Ideal)) e0 e1) e2) e3
    · rw [a0, a1, a3]
      refine Eq.trans ?_ (arr_of _ _ (Cert.SbRefIdeal.Val.v44_at (fq m c) (fk m c) (fv m c) (fo m c)))
      exact congr (congrArg₂ (Cert.SbRefIdeal.Read.val_main_v44 (F := Ideal)) e0 e1) e3

end Cert.Proof.Sb

end
-- ==== Proof.SbAttnPay.lean ====
/-
  What a block of 256 keys stores in the stick-breaking attention: the output plus the block's weights times its values, and the
  logarithms left plus the block's own; once for the blocks before the point's queries, and once for each of the four blocks of
  keys that hold them, which see 1024, 768, 512 and 256 queries.
-/
module

public import proofs.«01_k».proof.Proof.SbMath
public import proofs.«01_k».proof.Proof.Gen.SbAttnIdeal.Skeleton

@[expose] public section

set_option maxRecDepth 16384
noncomputable section

open Idealize.ShloMosaic Idealize.ShloMosaic.TcCoe Idealize.SL.Sem
open Cert.Common

namespace Cert.SbAttnIdeal.Val

open Cert.SbAttnIdeal Cert.SbAttnIdeal.Gen Cert.SbReal

/-- The loaded arrays hold the block's keys, queries and logarithms left. -/
structure Holds {n : ℕ} (B : Blk n) (K : (⟨2, ![256, 128]⟩ : Shape).Idx → EReal) (q : (⟨2, ![n, 128]⟩ : Shape).Idx → EReal)
    (P : (⟨3, ![1, n, 1]⟩ : Shape).Idx → EReal) : Prop where
  k : ∀ c d, K (ix2 c d) = (B.k c d : EReal)
  q : ∀ r d, q (ix2 r d) = (B.q r d : EReal)
  cs : ∀ r, P (ix3 0 r 0) = (B.cs r : EReal)

/-- Key and query counted from the same position. -/
theorem both_lt (b x y : ℕ) (hb : b ≤ 1024) (hx : x < 1024) (hy : y < 1024) :
    IntOp.cmpi CmpIPredicate.slt (IntOp.addi (BitVec.ofNat 32 b) (BitVec.ofNat 32 x)) (IntOp.addi (BitVec.ofNat 32 b) (BitVec.ofNat 32 y)) = BitVec.ofBool (decide (x < y)) := by
  rw [show IntOp.addi (BitVec.ofNat 32 b) (BitVec.ofNat 32 x) = BitVec.ofNat 32 (b + x) from (BitVec.ofNat_add _ _).symm,
    show IntOp.addi (BitVec.ofNat 32 b) (BitVec.ofNat 32 y) = BitVec.ofNat 32 (b + y) from (BitVec.ofNat_add _ _).symm]
  show BitVec.ofBool (BitVec.slt _ _) = _
  rw [BitVec.slt_eq_decide, key_int _ (by omega), key_int _ (by omega)]
  congr 1
  exact decide_eq_decide.mpr (by omega)
theorem mask3 (r : Fin 256) (c : Fin 256) : k0_pay52 (ix2 r c) = BitVec.ofBool (decide (c.val < r.val)) := by
  pointwise [k0_pay52]
  exact both_lt 768 _ _ (by omega) (by omega) (by omega)
theorem mask2 (r : Fin 512) (c : Fin 256) : k0_pay71 (ix2 r c) = BitVec.ofBool (decide (c.val < r.val)) := by
  pointwise [k0_pay71]
  exact both_lt 512 _ _ (by omega) (by omega) (by omega)
theorem mask1 (r : Fin 768) (c : Fin 256) : k0_pay94 (ix2 r c) = BitVec.ofBool (decide (c.val < r.val)) := by
  pointwise [k0_pay94]
  exact both_lt 256 _ _ (by omega) (by omega) (by omega)
abbrev M0 : IVec S1024x256 1 := k0_pay121 k0_pay119 k0_pay120
theorem mask0 (r : Fin 1024) (c : Fin 256) : M0 (ix2 r c) = BitVec.ofBool (decide (c.val < r.val)) := by
  unfold M0
  pointwise [k0_pay121, k0_pay119, k0_pay120]
  exact both_lt 0 _ _ (by omega) (by omega) (by omega)

section trip
variable {B : Blk 1024} (hm : ∀ r c, B.m r c) {K V : Vec Ideal S256x128 .bf16} {q : Vec Ideal S1024x128 .bf16} {P : Vec Ideal S1x1024x1 .f32}
  (h : Holds B K q P)
include hm h

theorem z_at (r : Fin 1024) (c : Fin 256) : k0_pay8 (F := Ideal) q K (ix2 r c) = (B.z r c : EReal) := by
  pointwise [k0_pay8]
  simp only [h.q, h.k]
  exact sum_mul_coe _ _
theorem sp_at (r : Fin 1024) (c : Fin 256) : k0_pay11 (F := Ideal) q K (ix2 r c) = (sp (B.z r c) : EReal) := by
  have hz := z_at hm h
  pointwise [k0_pay11]
  simp only [hz, abs_coe, zero_sub_coe, sp_coe _ _ rfl]
set_option maxHeartbeats 1000000 in
theorem acc_at (old : Vec Ideal S1x1024x128 .f32) (r : Fin 1024) (d : Fin 128) :
    k0_pay21 (F := Ideal) (k0_pay16 k0_pay48 (k0_pay6 P) (k0_pay8 q K) (k0_pay11 q K) V) (k0_pay20 old) (ix3 0 r d)
    = old (ix3 0 r d) + ∑ c, (B.w r c : EReal) * V (ix2 c d) := by
  have hz := z_at hm h
  have hs := sp_at hm h
  generalize k0_pay8 (F := Ideal) q K = z at hz ⊢
  generalize k0_pay11 (F := Ideal) q K = s at hs ⊢
  pointwise [k0_pay21, k0_pay20, k0_pay16, k0_pay14, k0_pay48, k0_pay6]
  simp only [hz, hs, h.cs, tri_gt, zero_sub_coe, sub_self_coe, zero_mul, Finset.sum_const_zero, add_zero, sum_mul_coe]
  simp only [← EReal.coe_sub, ← EReal.coe_add, Ideal.exp_coe]
  unfold Blk.w Blk.ln
  simp only [hm, if_true]
theorem cs_at (r : Fin 1024) :
    k0_pay23 (F := Ideal) (k0_pay6 P) (k0_pay18 (k0_pay11 q K)) (ix3 0 r 0) = ((B.cs r + ∑ c, B.ln r c : ℝ) : EReal) := by
  have hs := sp_at hm h
  generalize k0_pay11 (F := Ideal) q K = s at hs ⊢
  pointwise [k0_pay23, k0_pay6, k0_pay18, k0_pay14]
  simp only [h.cs, hs, zero_sub_coe, ← coe_sum, ← EReal.coe_add]
  unfold Blk.ln
  simp only [hm, if_true]
end trip

section d3
variable {B : Blk 256} (hm : ∀ r c, B.m r c ↔ c.val < r.val) {K V : Vec Ideal S256x128 .bf16} {q : Vec Ideal S256x128 .bf16} {P : Vec Ideal S1x256x1 .f32}
  (h : Holds B K q P)
include hm h

theorem z3_at (r : Fin 256) (c : Fin 256) : k0_pay55 (F := Ideal) q K (ix2 r c) = (B.z r c : EReal) := by
  pointwise [k0_pay55]
  simp only [h.q, h.k]
  exact sum_mul_coe _ _
theorem sp3_at (r : Fin 256) (c : Fin 256) : k0_pay57 (F := Ideal) q K (ix2 r c) = (sp (B.z r c) : EReal) := by
  have hz := z3_at hm h
  pointwise [k0_pay57]
  simp only [hz, abs_coe, zero_sub_coe, sp_coe _ _ rfl]
theorem ln3_at (r : Fin 256) (c : Fin 256) : k0_pay59 (F := Ideal) k0_pay52 q K (ix2 r c) = (B.ln r c : EReal) := by
  have hs := sp3_at hm h
  pointwise [k0_pay59]
  rw [hs, mask3, if_bit, zero_sub_coe, at_coe _ _ (hm _ _)]
  rfl
set_option maxHeartbeats 1000000 in
theorem acc3_at (old : Vec Ideal S1x256x128 .f32) (r : Fin 256) (d : Fin 128) :
    k0_pay65 (F := Ideal) (k0_pay64 k0_pay48 k0_pay52 (k0_pay53 P) (k0_pay55 q K) (k0_pay57 q K) (k0_pay59 k0_pay52 q K) V old) (ix3 0 r d)
    = old (ix3 0 r d) + ∑ c, (B.w r c : EReal) * V (ix2 c d) := by
  have hz := z3_at hm h
  have hs := sp3_at hm h
  have hn := ln3_at hm h
  generalize k0_pay55 (F := Ideal) q K = z at hz ⊢
  generalize k0_pay57 (F := Ideal) q K = s at hs ⊢
  generalize k0_pay59 (F := Ideal) k0_pay52 q K = n at hn ⊢
  pointwise [k0_pay65, k0_pay64, k0_pay48, k0_pay53]
  simp only [hz, hs, hn, h.cs, tri_gt, mask3, if_bit, sub_self_coe, zero_mul, Finset.sum_const_zero, add_zero, sum_mul_coe]
  simp only [← EReal.coe_sub, ← EReal.coe_add, Ideal.exp_coe, at_mul _ _ (hm _ _), at_coe _ _ (hm _ _)]
  rfl
theorem cs3_at (r : Fin 256) :
    k0_pay67 (F := Ideal) (k0_pay53 P) (k0_pay62 (k0_pay59 k0_pay52 q K)) (ix3 0 r 0) = ((B.cs r + ∑ c, B.ln r c : ℝ) : EReal) := by
  have hn := ln3_at hm h
  generalize k0_pay59 (F := Ideal) k0_pay52 q K = n at hn ⊢
  pointwise [k0_pay67, k0_pay53, k0_pay62]
  simp only [h.cs, hn, ← coe_sum, ← EReal.coe_add]
end d3

section d2
variable {B : Blk 512} (hm : ∀ r c, B.m r c ↔ c.val < r.val) {K V : Vec Ideal S256x128 .bf16} {q : Vec Ideal S512x128 .bf16} {P : Vec Ideal S1x512x1 .f32}
  (h : Holds B K q P)

/-- The logarithms of the block that sees 512 queries. -/
abbrev N2 (q : Vec Ideal S512x128 .bf16) (K : Vec Ideal S256x128 .bf16) : FVec Ideal S512x256 .f32 :=
  k0_pay81 k0_pay71 (k0_pay76 q K) (k0_pay78 q K) (FloatOps.ofBits FTy.f32 0x3F800000#32)
abbrev W2 (P : Vec Ideal S1x512x1 .f32) (q : Vec Ideal S512x128 .bf16) (K : Vec Ideal S256x128 .bf16) : FVec Ideal S512x256 .bf16 :=
  k0_pay85 k0_pay48 k0_pay71 (k0_pay72 P) (k0_pay74 q K) (k0_pay76 q K) (k0_pay78 q K) (FloatOps.ofBits FTy.f32 0x3F800000#32)
include hm h

theorem z2_at (r : Fin 512) (c : Fin 256) : k0_pay74 (F := Ideal) q K (ix2 r c) = (B.z r c : EReal) := by
  pointwise [k0_pay74]
  simp only [h.q, h.k]
  exact sum_mul_coe _ _
theorem sp2_at (r : Fin 512) (c : Fin 256) :
    k0_pay79 (F := Ideal) (k0_pay76 q K) (k0_pay78 q K) (FloatOps.ofBits FTy.f32 0x3F800000#32) (ix2 r c) = (sp (B.z r c) : EReal) := by
  have hz := z2_at hm h
  pointwise [k0_pay79, k0_pay76, k0_pay78]
  simp only [hz, abs_coe, zero_sub_coe, sp_coe _ _ rfl]
theorem ln2_at (r : Fin 512) (c : Fin 256) : N2 q K (ix2 r c) = (B.ln r c : EReal) := by
  have hs := sp2_at hm h
  unfold N2
  generalize k0_pay76 (F := Ideal) q K = x at hs ⊢
  generalize k0_pay78 (F := Ideal) q K = y at hs ⊢
  generalize FloatOps.ofBits (F := Ideal) FTy.f32 0x3F800000#32 = o at hs ⊢
  pointwise [k0_pay81]
  rw [hs, mask2, if_bit, zero_sub_coe, at_coe _ _ (hm _ _)]
  rfl
set_option maxHeartbeats 1000000 in
theorem acc2_at (old : Vec Ideal S1x512x128 .f32) (r : Fin 512) (d : Fin 128) :
    k0_pay87 (F := Ideal) (k0_pay84 V) (W2 P q K) (constant S512x128 .f32 0x00000000#32) old (ix3 0 r d)
    = old (ix3 0 r d) + ∑ c, (B.w r c : EReal) * V (ix2 c d) := by
  have hz := z2_at hm h
  have hs := sp2_at hm h
  have hn := ln2_at hm h
  unfold W2
  unfold N2 at hn
  generalize k0_pay74 (F := Ideal) q K = z at hz ⊢
  generalize k0_pay76 (F := Ideal) q K = x at hs hn ⊢
  generalize k0_pay78 (F := Ideal) q K = y at hs hn ⊢
  generalize FloatOps.ofBits (F := Ideal) FTy.f32 0x3F800000#32 = o at hs hn ⊢
  pointwise [k0_pay87, k0_pay84, k0_pay85, k0_pay48, k0_pay72]
  simp only [hz, hs, hn, h.cs, tri_gt, mask2, if_bit, sub_self_coe, zero_mul, Finset.sum_const_zero, add_zero, sum_mul_coe]
  simp only [← EReal.coe_sub, ← EReal.coe_add, Ideal.exp_coe, at_mul _ _ (hm _ _), at_coe _ _ (hm _ _)]
  rfl
theorem cs2_at (r : Fin 512) : k0_pay89 (F := Ideal) (k0_pay72 P) (N2 q K) (ix3 0 r 0) = ((B.cs r + ∑ c, B.ln r c : ℝ) : EReal) := by
  have hn := ln2_at hm h
  generalize N2 q K = n at hn ⊢
  pointwise [k0_pay89, k0_pay72]
  simp only [h.cs, hn, ← coe_sum, ← EReal.coe_add]
end d2

section d1
variable {B : Blk 768} (hm : ∀ r c, B.m r c ↔ c.val < r.val) {K V : Vec Ideal S256x128 .bf16} {q : Vec Ideal S768x128 .bf16} {P : Vec Ideal S1x768x1 .f32}
  (h : Holds B K q P)
include hm h

theorem z1_at (r : Fin 768) (c : Fin 256) : k0_pay99 (F := Ideal) (k0_pay97 q) K (ix2 r c) = (B.z r c : EReal) := by
  pointwise [k0_pay99, k0_pay97]
  simp only [h.q, h.k]
  exact sum_mul_coe _ _
theorem sp1_at (r : Fin 768) (c : Fin 256) : k0_pay101 (F := Ideal) (k0_pay97 q) K (ix2 r c) = (sp (B.z r c) : EReal) := by
  have hz := z1_at hm h
  pointwise [k0_pay101]
  simp only [hz, abs_coe, zero_sub_coe, sp_coe _ _ rfl]
theorem ln1_at (r : Fin 768) (c : Fin 256) : k0_pay103 (F := Ideal) k0_pay94 (k0_pay97 q) K (ix2 r c) = (B.ln r c : EReal) := by
  have hs := sp1_at hm h
  pointwise [k0_pay103]
  rw [hs, mask1, if_bit, zero_sub_coe, at_coe _ _ (hm _ _)]
  rfl
theorem up1_at (r : Fin 768) (c : Fin 256) :
    k0_pay105 (F := Ideal) k0_pay48 k0_pay94 (k0_pay97 q) K (ix2 r c) = ((∑ x, B.ln r x * (if c < x then 1 else 0) : ℝ) : EReal) := by
  have hn := ln1_at hm h
  pointwise [k0_pay105, k0_pay48]
  simp only [hn, tri_gt, sub_self_coe, zero_mul, Finset.sum_const_zero, add_zero, sum_mul_coe]
set_option maxHeartbeats 1000000 in
theorem acc1_at (old : Vec Ideal S1x768x128 .f32) (r : Fin 768) (d : Fin 128) :
    k0_pay110 (F := Ideal) k0_pay94 (k0_pay95 P) (k0_pay99 (k0_pay97 q) K) (k0_pay101 (k0_pay97 q) K) (k0_pay105 k0_pay48 k0_pay94 (k0_pay97 q) K) V old (ix3 0 r d)
    = old (ix3 0 r d) + ∑ c, (B.w r c : EReal) * V (ix2 c d) := by
  have hz := z1_at hm h
  have hs := sp1_at hm h
  have hu := up1_at hm h
  generalize k0_pay99 (F := Ideal) (k0_pay97 q) K = z at hz ⊢
  generalize k0_pay101 (F := Ideal) (k0_pay97 q) K = s at hs ⊢
  generalize k0_pay105 (F := Ideal) k0_pay48 k0_pay94 (k0_pay97 q) K = u at hu ⊢
  pointwise [k0_pay110, k0_pay95]
  simp only [hz, hs, hu, h.cs, mask1, if_bit]
  simp only [← EReal.coe_sub, ← EReal.coe_add, Ideal.exp_coe, at_mul _ _ (hm _ _), at_coe _ _ (hm _ _)]
  rfl
theorem cs1_at (r : Fin 768) :
    k0_pay115 (F := Ideal) (k0_pay95 P) (k0_pay108 (k0_pay103 k0_pay94 (k0_pay97 q) K)) (ix3 0 r 0) = ((B.cs r + ∑ c, B.ln r c : ℝ) : EReal) := by
  have hn := ln1_at hm h
  generalize k0_pay103 (F := Ideal) k0_pay94 (k0_pay97 q) K = n at hn ⊢
  pointwise [k0_pay115, k0_pay95, k0_pay108]
  simp only [h.cs, hn, ← coe_sum, ← EReal.coe_add]
end d1

section d0
variable {B : Blk 1024} (hm : ∀ r c, B.m r c ↔ c.val < r.val) {K V : Vec Ideal S256x128 .bf16} {q : Vec Ideal S1024x128 .bf16} {P : Vec Ideal S1x1024x1 .f32}
  (h : Holds B K q P)
include hm h

theorem z0_at (r : Fin 1024) (c : Fin 256) : k0_pay124 (F := Ideal) q K (ix2 r c) = (B.z r c : EReal) := by
  pointwise [k0_pay124]
  simp only [h.q, h.k]
  exact sum_mul_coe _ _
theorem sp0_at (r : Fin 1024) (c : Fin 256) : k0_pay126 (F := Ideal) q K (ix2 r c) = (sp (B.z r c) : EReal) := by
  have hz := z0_at hm h
  pointwise [k0_pay126]
  simp only [hz, abs_coe, zero_sub_coe, sp_coe _ _ rfl]
theorem ln0_at (r : Fin 1024) (c : Fin 256) : k0_pay128 (F := Ideal) M0 (k0_pay126 q K) (ix2 r c) = (B.ln r c : EReal) := by
  have hs := sp0_at hm h
  have hM := mask0
  generalize M0 = M at hM ⊢
  pointwise [k0_pay128]
  rw [hs, hM, if_bit, zero_sub_coe, at_coe _ _ (hm _ _)]
  rfl
set_option maxHeartbeats 1000000 in
theorem acc0_at (old : Vec Ideal S1x1024x128 .f32) (r : Fin 1024) (d : Fin 128) :
    k0_pay134 (F := Ideal) (k0_pay130 k0_pay48 M0 (k0_pay122 P) (k0_pay124 q K) (k0_pay126 q K) V) old (ix3 0 r d)
    = old (ix3 0 r d) + ∑ c, (B.w r c : EReal) * V (ix2 c d) := by
  have hz := z0_at hm h
  have hs := sp0_at hm h
  have hn := ln0_at hm h
  have hM := mask0
  generalize M0 = M at hn hM ⊢
  generalize k0_pay124 (F := Ideal) q K = z at hz ⊢
  generalize k0_pay126 (F := Ideal) q K = s at hs hn ⊢
  pointwise [k0_pay134, k0_pay130, k0_pay48, k0_pay122]
  simp only [hz, hs, hn, h.cs, tri_gt, hM, if_bit, sub_self_coe, zero_mul, Finset.sum_const_zero, add_zero, sum_mul_coe]
  simp only [← EReal.coe_sub, ← EReal.coe_add, Ideal.exp_coe, at_mul _ _ (hm _ _), at_coe _ _ (hm _ _)]
  rfl
theorem cs0_at (r : Fin 1024) :
    k0_pay136 (F := Ideal) (k0_pay122 P) (k0_pay132 M0 (k0_pay126 q K)) (ix3 0 r 0) = ((B.cs r + ∑ c, B.ln r c : ℝ) : EReal) := by
  have hn := ln0_at hm h
  generalize M0 = M at hn ⊢
  generalize k0_pay126 (F := Ideal) q K = s at hn ⊢
  pointwise [k0_pay136, k0_pay122, k0_pay132]
  simp only [h.cs, hn, ← coe_sum, ← EReal.coe_add]
end d0

/-- The lane of the block takes the logarithms left; the others keep what they hold. -/
theorem lane_eq (l : Fin 128) (b : ℕ) (hb : b < 128) (x y : EReal) :
    Scalar.select (IntOp.cmpi CmpIPredicate.eq (BitVec.ofNat 32 l.val) (BitVec.ofNat 32 b)) x y = if l.val = b then x else y := by
  have e : IntOp.cmpi CmpIPredicate.eq (BitVec.ofNat 32 l.val) (BitVec.ofNat 32 b) = BitVec.ofBool (decide (l.val = b)) := by
    show BitVec.ofBool (_ == _) = _
    congr 1
    rw [Bool.eq_iff_iff, beq_iff_eq, decide_eq_true_iff]
    refine ⟨fun hh => ?_, fun hh => by rw [hh]⟩
    have h2 := congrArg BitVec.toNat hh
    rwa [BitVec.toNat_ofNat, BitVec.toNat_ofNat, Nat.mod_eq_of_lt (by omega), Nat.mod_eq_of_lt (by omega)] at h2
  rw [e, if_bit]

/-- The number of every lane. -/
abbrev LANE : IVec S1024x128 32 := iota .tc S1024x128 32 [1] iota_S1024x128_d1_w32

section lanes
variable (w : BitVec 32) (b : ℕ) (hw : w = BitVec.ofNat 32 b) (hb : b < 128)
include hw hb
theorem c_at (P : Vec Ideal S1x1024x1 .f32) (old : Vec Ideal S1024x128 .f32) (r : Fin 1024) (l : Fin 128) :
    k0_pay22 (F := Ideal) LANE w (k0_pay6 P) old (ix2 r l) = if l.val = b then P (ix3 0 r 0) else old (ix2 r l) := by
  subst hw
  pointwise [k0_pay22, k0_pay6, LANE]
  exact lane_eq l b hb _ _
theorem c3_at (P : Vec Ideal S1x256x1 .f32) (old : Vec Ideal S256x128 .f32) (r : Fin 256) (l : Fin 128) :
    k0_pay66 (F := Ideal) LANE w (k0_pay53 P) old (ix2 r l) = if l.val = b then P (ix3 0 r 0) else old (ix2 r l) := by
  subst hw
  pointwise [k0_pay66, k0_pay53, LANE]
  exact lane_eq l b hb _ _
theorem c2_at (P : Vec Ideal S1x512x1 .f32) (old : Vec Ideal S512x128 .f32) (r : Fin 512) (l : Fin 128) :
    k0_pay88 (F := Ideal) LANE w (k0_pay72 P) old (ix2 r l) = if l.val = b then P (ix3 0 r 0) else old (ix2 r l) := by
  subst hw
  pointwise [k0_pay88, k0_pay72, LANE]
  exact lane_eq l b hb _ _
theorem c1_at (P : Vec Ideal S1x768x1 .f32) (old : Vec Ideal S768x128 .f32) (r : Fin 768) (l : Fin 128) :
    k0_pay114 (F := Ideal) (k0_pay111 LANE w) (k0_pay112 old) (k0_pay113 (k0_pay95 P)) (ix2 r l) = if l.val = b then P (ix3 0 r 0) else old (ix2 r l) := by
  subst hw
  pointwise [k0_pay114, k0_pay111, k0_pay112, k0_pay113, k0_pay95, LANE]
  exact lane_eq l b hb _ _
theorem c0_at (P : Vec Ideal S1x1024x1 .f32) (old : Vec Ideal S1024x128 .f32) (r : Fin 1024) (l : Fin 128) :
    k0_pay135 (F := Ideal) LANE w (k0_pay122 P) old (ix2 r l) = if l.val = b then P (ix3 0 r 0) else old (ix2 r l) := by
  subst hw
  pointwise [k0_pay135, k0_pay122, LANE]
  exact lane_eq l b hb _ _
end lanes

end Cert.SbAttnIdeal.Val
end
-- ==== Proof.SbAttnRun.lean ====
/-
  The accumulators over a point of the grid: when the blocks of keys from some key on have been taken, the output holds the
  weighted values of those keys, the running sum holds their logarithms, and the table holds the sums right of each of them; one
  store after another.
-/
module

public import proofs.«01_k».proof.Proof.SbAttnPay
public import proofs.«01_k».proof.Proof.SbGlob
public import proofs.«01_k».proof.Proof.Gen.SbAttnIdeal.Value
public import Idealize.ShloMosaic.Lib.WritesUnit
public import Idealize.ShloMosaic.Lib.Pipeline.ValueKit.Tiles

@[expose] public section

set_option maxRecDepth 16384
noncomputable section

open Idealize.ShloMosaic Idealize.ShloMosaic.TcCoe Idealize.SL.Sem
open Cert.Common Finset

namespace Cert.SbAttnIdeal.Val

open Cert.SbAttnIdeal Cert.SbAttnIdeal.Gen Cert.SbReal

/-- The column of a head's lane. -/
def col (h : Fin 2) (d : Fin 128) : Fin 256 := ⟨128 * h.val + d.val, by omega⟩

/-- What a view reads after stores, a rectangle inside a shape, and what is loaded of one. -/
abbrev rd {s e} (v : View sig .tc .vmem s e) (f : v.ty.Contents (Elt Ideal)) (L : List (View.Piece (Elt Ideal) s e)) :=
  v.read (Elt Ideal) (v.writes (Elt Ideal) f L)
abbrev Fits (s : Shape) (o n : Fin s.rank → ℕ) : Prop := ∀ a, o a + n a ≤ s.size a
abbrev lb (s : Shape) (X : s.Idx → EReal) (o n : Fin s.rank → ℕ) (b : Fits s o n) := View.ld (Val := Elt Ideal) (e' := .bf16) X (Rect.unit (s := s) o n b)
abbrev lf (s : Shape) (X : s.Idx → EReal) (o n : Fin s.rank → ℕ) (b : Fits s o n) := View.ld (Val := Elt Ideal) (e' := .f32) X (Rect.unit (s := s) o n b)

/-- The array holds the function of head, row and lane. -/
def At {N : ℕ} (X : (⟨2, ![N, 256]⟩ : Shape).Idx → EReal) (Fn : Fin 2 → ℕ → Fin 128 → EReal) : Prop :=
  ∀ (h : Fin 2) (s : Fin N) (d : Fin 128), X (ix2 s (col h d)) = Fn h s.val d
def At3 {m : ℕ} (X : (⟨3, ![2, 1024, m]⟩ : Shape).Idx → EReal) (Fn : Fin 2 → ℕ → Fin m → EReal) : Prop :=
  ∀ (h : Fin 2) (r : Fin 1024) (d : Fin m), X (ix3 h r d) = Fn h r.val d

/-- One store of a head's block of rows. -/
theorem At.step {n : ℕ} {v : View sig .tc .vmem S1024x256 .f32} {f : v.ty.Contents (Elt Ideal)}
    {L : List (View.Piece (Elt Ideal) S1024x256 .f32)} {Fn F' : Fin 2 → ℕ → Fin 128 → EReal}
    (hat : At (rd v f L) Fn) (off : ℕ) (h0 : Fin 2)
    {o : Fin 2 → ℕ} (inb : Fits S1024x256 o ![n, 128]) (heq : o = ![off, 128 * h0.val])
    (A : (⟨2, ![n, 128]⟩ : Shape).Idx → EReal) (hin : ∀ (i : Fin n) d, A (ix2 i d) = F' h0 (off + i.val) d)
    (hout : ∀ h s d, s < 1024 → (h ≠ h0 ∨ s < off ∨ off + n ≤ s) → F' h s d = Fn h s d) :
    At (rd v f (⟨Rect.unit o ![n, 128] inb, A⟩ :: L)) F' := by
  intro h s d
  unfold rd
  by_cases hh : h = h0 ∧ off ≤ s.val ∧ s.val < off + n
  · obtain ⟨rfl, hs⟩ := hh
    have e : s.val = off + (⟨s.val - off, by omega⟩ : Fin n).val := by show s.val = off + (s.val - off); omega
    refine (View.read_writes_cons_unit_of_mem _ _ _ _ _ (ix2 s (col h d)) (ix2 ⟨s.val - off, by omega⟩ d) heq (fun a => by
        fin_cases a
        · exact e
        · rfl)).trans ((hin _ d).trans ?_)
    rw [← e]
  · by_cases h1 : h = h0
    · have hc : s.val < off ∨ off + n ≤ s.val := by
        by_contra h2
        exact hh ⟨h1, by omega⟩
      rw [View.read_writes_cons_unit_of_not_mem _ _ _ _ _ (ix2 s (col h d)) heq 0 (by exact hc)]
      exact (hat h s d).trans (hout h s.val d s.isLt (Or.inr hc)).symm
    · have hv : h.val ≠ h0.val := fun e => h1 (Fin.ext e)
      rw [View.read_writes_cons_unit_of_not_mem _ _ _ _ _ (ix2 s (col h d)) heq 1 (by
        show 128 * h.val + d.val < 128 * h0.val ∨ 128 * h0.val + 128 ≤ 128 * h.val + d.val
        omega)]
      exact (hat h s d).trans (hout h s.val d s.isLt (Or.inl h1)).symm
theorem At3.step {m n : ℕ} {v : View sig .tc .vmem ⟨3, ![2, 1024, m]⟩ .f32} {f : v.ty.Contents (Elt Ideal)}
    {L : List (View.Piece (Elt Ideal) ⟨3, ![2, 1024, m]⟩ .f32)} {Fn F' : Fin 2 → ℕ → Fin m → EReal}
    (hat : At3 (rd v f L) Fn) (off : ℕ) (h0 : Fin 2)
    {o : Fin 3 → ℕ} (inb : Fits ⟨3, ![2, 1024, m]⟩ o ![1, n, m]) (heq : o = ![h0.val, off, 0])
    (A : (⟨3, ![1, n, m]⟩ : Shape).Idx → EReal) (hin : ∀ (i : Fin n) d, A (ix3 0 i d) = F' h0 (off + i.val) d)
    (hout : ∀ h s d, s < 1024 → (h ≠ h0 ∨ s < off ∨ off + n ≤ s) → F' h s d = Fn h s d) :
    At3 (rd v f (⟨Rect.unit o ![1, n, m] inb, A⟩ :: L)) F' := by
  intro h s d
  unfold rd
  by_cases hh : h = h0 ∧ off ≤ s.val ∧ s.val < off + n
  · obtain ⟨rfl, hs⟩ := hh
    have e : s.val = off + (⟨s.val - off, by omega⟩ : Fin n).val := by show s.val = off + (s.val - off); omega
    refine (View.read_writes_cons_unit_of_mem _ _ _ _ _ (ix3 h s d) (ix3 0 ⟨s.val - off, by omega⟩ d) heq (fun a => by
        fin_cases a
        · rfl
        · exact e
        · exact (Nat.zero_add _).symm)).trans ((hin _ d).trans ?_)
    rw [← e]
  · by_cases h1 : h = h0
    · have hc : s.val < off ∨ off + n ≤ s.val := by
        by_contra h2
        exact hh ⟨h1, by omega⟩
      rw [View.read_writes_cons_unit_of_not_mem _ _ _ _ _ (ix3 h s d) heq 1 (by exact hc)]
      exact (hat h s d).trans (hout h s.val d s.isLt (Or.inr hc)).symm
    · have hv : h.val ≠ h0.val := fun e => h1 (Fin.ext e)
      rw [View.read_writes_cons_unit_of_not_mem _ _ _ _ _ (ix3 h s d) heq 0 (by
        show h.val < h0.val ∨ h0.val + 1 ≤ h.val
        omega)]
      exact (hat h s d).trans (hout h s.val d s.isLt (Or.inl h1)).symm

/-- What is loaded of a head's block of rows. -/
theorem At.ld {N n : ℕ} {X : (⟨2, ![N, 256]⟩ : Shape).Idx → EReal} {Fn : Fin 2 → ℕ → Fin 128 → EReal} (hat : At X Fn) (off : ℕ) (h0 : Fin 2)
    {o : Fin 2 → ℕ} (inb : Fits ⟨2, ![N, 256]⟩ o ![n, 128]) (heq : o = ![off, 128 * h0.val])
    (i : Fin n) (d : Fin 128) : lb ⟨2, ![N, 256]⟩ X o ![n, 128] inb (ix2 i d) = Fn h0 (off + i.val) d := by
  subst heq
  have hb : off + n ≤ N := inb 0
  have hi := i.isLt
  exact (View.ld_unit_apply_of (Val := Elt Ideal) (e := .bf16) (S := ⟨2, ![N, 256]⟩) X _ _ inb (ix2 i d) (ix2 ⟨off + i.val, by omega⟩ (col h0 d)) (fun a => by
    fin_cases a <;> first | rfl | exact (Nat.add_zero _).symm)).trans (hat h0 ⟨off + i.val, by omega⟩ d)
theorem At.ldf {N n : ℕ} {X : (⟨2, ![N, 256]⟩ : Shape).Idx → EReal} {Fn : Fin 2 → ℕ → Fin 128 → EReal} (hat : At X Fn) (off : ℕ) (h0 : Fin 2)
    {o : Fin 2 → ℕ} (inb : Fits ⟨2, ![N, 256]⟩ o ![n, 128]) (heq : o = ![off, 128 * h0.val])
    (i : Fin n) (d : Fin 128) : lf ⟨2, ![N, 256]⟩ X o ![n, 128] inb (ix2 i d) = Fn h0 (off + i.val) d :=
  At.ld hat off h0 inb heq i d
theorem At3.ld {m n : ℕ} {X : (⟨3, ![2, 1024, m]⟩ : Shape).Idx → EReal} {Fn : Fin 2 → ℕ → Fin m → EReal} (hat : At3 X Fn) (off : ℕ) (h0 : Fin 2)
    {o : Fin 3 → ℕ} (inb : Fits ⟨3, ![2, 1024, m]⟩ o ![1, n, m]) (heq : o = ![h0.val, off, 0])
    (i : Fin n) (d : Fin m) : lf ⟨3, ![2, 1024, m]⟩ X o ![1, n, m] inb (ix3 0 i d) = Fn h0 (off + i.val) d := by
  subst heq
  have hb : off + n ≤ 1024 := inb 1
  have hi := i.isLt
  exact (View.ld_unit_apply_of (Val := Elt Ideal) (e := .f32) (S := ⟨3, ![2, 1024, m]⟩) X _ _ inb (ix3 0 i d) (ix3 h0 ⟨off + i.val, by omega⟩ d) (fun a => by
    fin_cases a
    · rfl
    · rfl
    · exact (Nat.zero_add _).symm)).trans (hat h0 ⟨off + i.val, by omega⟩ d)

/-- From which block of keys on each head has taken the keys. -/
def lower (a : Fin 2 → ℕ) (h0 h : Fin 2) : ℕ := if h = h0 then a h - 1 else a h
theorem lower_both (b : ℕ) : lower (lower (fun _ => b + 1) 0) 1 = fun _ => b := by
  funext h
  fin_cases h <;> rfl
theorem lower_self {a : Fin 2 → ℕ} {h0 : Fin 2} {b : ℕ} (h : a h0 = b + 1) : lower a h0 h0 = b := by
  unfold lower
  rw [if_pos rfl, h]
  rfl
theorem lower_ne (a : Fin 2 → ℕ) {h0 h : Fin 2} (hh : h ≠ h0) : lower a h0 h = a h := if_neg hh

/-- What the accumulators hold: the weighted values, the logarithms' sum, and the table of the sums right of each block. -/
def OUT (G : Fin 2 → Head) (u : Fin 2 → ℕ → Fin 128 → EReal) (t0 : ℕ) (a : Fin 2 → ℕ) (h : Fin 2) (r : ℕ) (d : Fin 128) : EReal :=
  ∑ s ∈ Ico (256 * a h) 4096, ((G h).W (t0 + r) s : EReal) * u h s d
def CS (G : Fin 2 → Head) (t0 : ℕ) (a : Fin 2 → ℕ) (h : Fin 2) (r : ℕ) (_ : Fin 1) : EReal :=
  ((∑ x ∈ Ico (256 * a h) 4096, (G h).LN (t0 + r) x : ℝ) : EReal)
def TAB (G : Fin 2 → Head) (t0 : ℕ) (a : Fin 2 → ℕ) (h : Fin 2) (r : ℕ) (l : Fin 128) : EReal :=
  if a h ≤ l.val ∧ l.val < 16 then ((G h).SUF (t0 + r) (256 * l.val + 255) : EReal) else 0

variable {G : Fin 2 → Head} {u : Fin 2 → ℕ → Fin 128 → EReal} {t0 : ℕ}

theorem LN_zero (H : Head) {t s : ℕ} (h : t ≤ s) : H.LN t s = 0 := if_neg (not_lt.mpr h)
theorem SUF_zero (H : Head) {t s : ℕ} (h : t ≤ s + 1) : H.SUF t s = 0 := by
  unfold Head.SUF
  exact Finset.sum_eq_zero fun x hx => LN_zero H (by rw [mem_Ico] at hx; omega)
theorem block_sum {α : Type} [AddCommMonoid α] (f : ℕ → α) (b : ℕ) (hb : b < 16) :
    ∑ s ∈ Ico (256 * b) 4096, f s = ∑ s ∈ Ico (256 * (b + 1)) 4096, f s + ∑ c : Fin 256, f (256 * b + c.val) := by
  rw [← Finset.sum_range (fun x => f (256 * b + x)), ← Finset.sum_Ico_consecutive f (show 256 * b ≤ 256 * (b + 1) by omega) (show 256 * (b + 1) ≤ 4096 by omega),
    add_comm, Finset.sum_Ico_eq_sum_range f (256 * b), show 256 * (b + 1) - 256 * b = 256 by omega]

section steps
variable {a : Fin 2 → ℕ} (h0 : Fin 2) {b : ℕ} (hb : b < 16) (ha : a h0 = b + 1) (off : ℕ) {n : ℕ}
  (hz : ∀ r, r < 1024 → (r < off ∨ off + n ≤ r) → t0 + r ≤ 256 * b)
include hb ha hz

theorem stepOut {v : View sig .tc .vmem S2x1024x128 .f32} {f : v.ty.Contents (Elt Ideal)} {L : List (View.Piece (Elt Ideal) S2x1024x128 .f32)}
    (hat : At3 (rd v f L) (OUT G u t0 a))
    {o : Fin 3 → ℕ} (inb : Fits S2x1024x128 o ![1, n, 128]) (heq : o = ![h0.val, off, 0])
    (A : (⟨3, ![1, n, 128]⟩ : Shape).Idx → EReal) {V : (⟨2, ![256, 128]⟩ : Shape).Idx → EReal} (hV : ∀ c d, V (ix2 c d) = u h0 (256 * b + c.val) d)
    (hA : ∀ i d, A (ix3 0 i d) = OUT G u t0 a h0 (off + i.val) d + ∑ c, (((G h0).blk (t0 + off) (256 * b) n).w i c : EReal) * V (ix2 c d)) :
    At3 (rd v f (⟨Rect.unit o ![1, n, 128] inb, A⟩ :: L)) (OUT G u t0 (lower a h0)) := by
  refine At3.step hat off h0 inb heq A (fun i d => ?_) (fun h s d hs hc => ?_)
  · rw [hA]
    unfold OUT
    rw [lower_self ha, ha, block_sum _ b hb]
    congr 1
    refine Finset.sum_congr rfl fun c _ => ?_
    rw [hV, Head.blk_w _ (by omega), Nat.add_assoc]
  · unfold OUT
    by_cases hh : h = h0
    · subst hh
      rw [lower_self ha, ha, block_sum _ b hb, Finset.sum_eq_zero (s := Finset.univ), add_zero]
      intro c _
      rw [Head.W_zero _ ((hz s hs (by tauto)).trans (Nat.le_add_right _ _)), EReal.coe_zero, zero_mul]
    · rw [lower_ne a hh]
theorem stepCs {v : View sig .tc .vmem S2x1024x1 .f32} {f : v.ty.Contents (Elt Ideal)} {L : List (View.Piece (Elt Ideal) S2x1024x1 .f32)}
    (hat : At3 (rd v f L) (CS G t0 a))
    {o : Fin 3 → ℕ} (inb : Fits S2x1024x1 o ![1, n, 1]) (heq : o = ![h0.val, off, 0])
    (A : (⟨3, ![1, n, 1]⟩ : Shape).Idx → EReal)
    (hA : ∀ i, A (ix3 0 i 0) = ((((G h0).blk (t0 + off) (256 * b) n).cs i + ∑ c, ((G h0).blk (t0 + off) (256 * b) n).ln i c : ℝ) : EReal)) :
    At3 (rd v f (⟨Rect.unit o ![1, n, 1] inb, A⟩ :: L)) (CS G t0 (lower a h0)) := by
  refine At3.step hat off h0 inb heq A (fun i d => ?_) (fun h s d hs hc => ?_)
  · rw [show d = 0 from Subsingleton.elim _ _, hA]
    unfold CS
    rw [lower_self ha, block_sum _ b hb]
    congr 1
    simp only [Head.blk_ln, Nat.add_assoc]
    rw [← Nat.add_assoc t0 off]
    rfl
  · unfold CS
    by_cases hh : h = h0
    · subst hh
      rw [lower_self ha, ha, block_sum _ b hb, Finset.sum_eq_zero (s := Finset.univ), add_zero]
      intro c _
      exact LN_zero _ ((hz s hs (by tauto)).trans (Nat.le_add_right _ _))
    · rw [lower_ne a hh]
theorem stepTab {v : View sig .tc .vmem S1024x256 .f32} {f : v.ty.Contents (Elt Ideal)} {L : List (View.Piece (Elt Ideal) S1024x256 .f32)}
    (hat : At (rd v f L) (TAB G t0 a))
    {o : Fin 2 → ℕ} (inb : Fits S1024x256 o ![n, 128]) (heq : o = ![off, 128 * h0.val])
    (A : (⟨2, ![n, 128]⟩ : Shape).Idx → EReal)
    (hA : ∀ i (l : Fin 128), A (ix2 i l) = if l.val = b then (((G h0).blk (t0 + off) (256 * b) n).cs i : EReal) else TAB G t0 a h0 (off + i.val) l) :
    At (rd v f (⟨Rect.unit o ![n, 128] inb, A⟩ :: L)) (TAB G t0 (lower a h0)) := by
  refine At.step hat off h0 inb heq A (fun i l => ?_) (fun h s l hs hc => ?_)
  · rw [hA]
    unfold TAB
    rw [lower_self ha, ha]
    by_cases hl : l.val = b
    · rw [if_pos hl, if_pos ⟨by omega, by omega⟩, hl, ← Nat.add_assoc]
      rfl
    · rw [if_neg hl]
      exact if_congr (by omega) rfl rfl
  · unfold TAB
    by_cases hh : h = h0
    · subst hh
      rw [lower_self ha, ha]
      by_cases hl : l.val = b
      · rw [if_pos ⟨by omega, by omega⟩, if_neg (by omega), SUF_zero _ (by have := hz s hs (by tauto); omega), EReal.coe_zero]
      · exact if_congr (by omega) rfl rfl
    · rw [lower_ne a hh]
end steps

/-- The arrays a point is given: the pair of heads' rows from `t0` of the queries, and all their keys and values. -/
structure Ins (G : Fin 2 → Head) (u : Fin 2 → ℕ → Fin 128 → EReal) (t0 : ℕ) (x0 : (⟨2, ![1024, 256]⟩ : Shape).Idx → EReal)
    (x1 x2 : (⟨2, ![4096, 256]⟩ : Shape).Idx → EReal) : Prop where
  q : At x0 (fun h r d => ((G h).q (t0 + r) d : EReal))
  k : At x1 (fun h s d => ((G h).k s d : EReal))
  v : At x2 u

variable {x0 : Vec Ideal S1024x256 .bf16} {x1 x2 : Vec Ideal S4096x256 .bf16} (I : Ins G u t0 x0 x1 x2)

include I in
/-- What a block loads of the queries, the keys and the running sum. -/
theorem holds {n : ℕ} (h : Fin 2) (b off : ℕ) {o1 o2 : Fin 2 → ℕ} (e1 : o1 = ![256 * b, 128 * h.val]) (e2 : o2 = ![off, 128 * h.val])
    (b1 : Fits S4096x256 o1 ![256, 128]) (b2 : Fits S1024x256 o2 ![n, 128])
    {X : S2x1024x1.Idx → EReal} (hP : At3 X (CS G t0 fun _ => b + 1)) {o3 : Fin 3 → ℕ} (e3 : o3 = ![h.val, off, 0])
    (b3 : Fits S2x1024x1 o3 ![1, n, 1]) :
    Holds ((G h).blk (t0 + off) (256 * b) n) (lb S4096x256 x1 o1 ![256, 128] b1)
      (lb S1024x256 x0 o2 ![n, 128] b2)
      (lf S2x1024x1 X o3 ![1, n, 1] b3) where
  k cc d := At.ld I.k _ h b1 e1 cc d
  q r d := (At.ld I.q _ h b2 e2 r d).trans (by rw [← Nat.add_assoc]; rfl)
  cs r := (At3.ld hP _ h b3 e3 r 0).trans (by unfold CS; rw [← Nat.add_assoc]; rfl)
include I in
theorem vals (h : Fin 2) (b : ℕ) {o1 : Fin 2 → ℕ} (e1 : o1 = ![256 * b, 128 * h.val]) (b1 : Fits S4096x256 o1 ![256, 128])
    (c : Fin 256) (d : Fin 128) : lb S4096x256 x2 o1 ![256, 128] b1 (ix2 c d) = u h (256 * b + c.val) d :=
  At.ld I.v _ h b1 e1 c d

/-!
A block's stores, the first head's and then the second's.  `K0`, `Q0`, … are the rectangles loaded from and stored to.
-/

section both
variable {b : ℕ} (hb : b < 16) (off : ℕ) {n : ℕ} (hz : ∀ r, r < 1024 → (r < off ∨ off + n ≤ r) → t0 + r ≤ 256 * b)
  {o0 o1 q0 q1 : Fin 2 → ℕ} (e0 : o0 = ![256 * b, 128 * (0 : Fin 2).val]) (e1 : o1 = ![256 * b, 128 * (1 : Fin 2).val])
  (f0 : q0 = ![off, 128 * (0 : Fin 2).val]) (f1 : q1 = ![off, 128 * (1 : Fin 2).val])
  (b0 : Fits S4096x256 o0 ![256, 128]) (b1 : Fits S4096x256 o1 ![256, 128])
  (d0 : Fits S1024x256 q0 ![n, 128]) (d1 : Fits S1024x256 q1 ![n, 128])
  {p0 p1 : Fin 3 → ℕ} (g0 : p0 = ![(0 : Fin 2).val, off, 0]) (g1 : p1 = ![(1 : Fin 2).val, off, 0])
  (c0 : Fits S2x1024x1 p0 ![1, n, 1]) (c1 : Fits S2x1024x1 p1 ![1, n, 1])
  {w : View sig .tc .vmem S2x1024x1 .f32} {f8 : w.ty.Contents (Elt Ideal)} {L8 : List (View.Piece (Elt Ideal) S2x1024x1 .f32)}
  (hC : At3 (rd w f8 L8) (CS G t0 fun _ => b + 1))

include I hb hz e0 e1 f0 f1 g0 g1 hC in
theorem csBoth
    {s0 s1 : Vec Ideal ⟨2, ![256, 128]⟩ .bf16 → Vec Ideal ⟨2, ![n, 128]⟩ .bf16 → Vec Ideal ⟨3, ![1, n, 1]⟩ .f32 → Vec Ideal ⟨3, ![1, n, 1]⟩ .f32}
    (h0 : ∀ K q P, Holds ((G 0).blk (t0 + off) (256 * b) n) K q P → ∀ r, s0 K q P (ix3 0 r 0) = ((((G 0).blk (t0 + off) (256 * b) n).cs r + ∑ c, ((G 0).blk (t0 + off) (256 * b) n).ln r c : ℝ) : EReal))
    (h1 : ∀ K q P, Holds ((G 1).blk (t0 + off) (256 * b) n) K q P → ∀ r, s1 K q P (ix3 0 r 0) = ((((G 1).blk (t0 + off) (256 * b) n).cs r + ∑ c, ((G 1).blk (t0 + off) (256 * b) n).ln r c : ℝ) : EReal)) :
    At3 (rd w f8
      (⟨Rect.unit p1 ![1, n, 1] c1, s1 (lb S4096x256 x1 o1 ![256, 128] b1) (lb S1024x256 x0 q1 ![n, 128] d1)
        (lf S2x1024x1 (rd w f8 L8) p1 ![1, n, 1] c1)⟩
      :: ⟨Rect.unit p0 ![1, n, 1] c0, s0 (lb S4096x256 x1 o0 ![256, 128] b0) (lb S1024x256 x0 q0 ![n, 128] d0)
        (lf S2x1024x1 (rd w f8 L8) p0 ![1, n, 1] c0)⟩ :: L8)) (CS G t0 fun _ => b) := by
  rw [← lower_both b]
  refine stepCs 1 hb rfl off hz (stepCs 0 hb rfl off hz hC c0 g0 _ ?_) c1 g1 _ ?_
  · exact h0 _ _ _ (holds I 0 b off e0 f0 b0 d0 hC g0 c0)
  · exact h1 _ _ _ (holds I 1 b off e1 f1 b1 d1 hC g1 c1)

include I hb hz e0 e1 f0 f1 g0 g1 hC in
theorem outBoth
    {s0 s1 : Vec Ideal ⟨2, ![256, 128]⟩ .bf16 → Vec Ideal ⟨2, ![n, 128]⟩ .bf16 → Vec Ideal ⟨3, ![1, n, 1]⟩ .f32 → Vec Ideal ⟨2, ![256, 128]⟩ .bf16 → Vec Ideal ⟨3, ![1, n, 128]⟩ .f32 → Vec Ideal ⟨3, ![1, n, 128]⟩ .f32}
    (h0 : ∀ K q P V old, Holds ((G 0).blk (t0 + off) (256 * b) n) K q P → ∀ r d, s0 K q P V old (ix3 0 r d) = old (ix3 0 r d) + ∑ c, (((G 0).blk (t0 + off) (256 * b) n).w r c : EReal) * V (ix2 c d))
    (h1 : ∀ K q P V old, Holds ((G 1).blk (t0 + off) (256 * b) n) K q P → ∀ r d, s1 K q P V old (ix3 0 r d) = old (ix3 0 r d) + ∑ c, (((G 1).blk (t0 + off) (256 * b) n).w r c : EReal) * V (ix2 c d))
    (z0 : Fits S2x1024x128 p0 ![1, n, 128]) (z1 : Fits S2x1024x128 p1 ![1, n, 128])
    {v : View sig .tc .vmem S2x1024x128 .f32} {f : v.ty.Contents (Elt Ideal)} {L L1 L2 : List (View.Piece (Elt Ideal) S2x1024x128 .f32)}
    (hat : At3 (rd v f L) (OUT G u t0 fun _ => b + 1))
    (hL : L1 = ⟨Rect.unit p0 ![1, n, 128] z0, s0 (lb S4096x256 x1 o0 ![256, 128] b0) (lb S1024x256 x0 q0 ![n, 128] d0)
        (lf S2x1024x1 (rd w f8 L8) p0 ![1, n, 1] c0)
        (lb S4096x256 x2 o0 ![256, 128] b0)
        (lf S2x1024x128 (rd v f L) p0 ![1, n, 128] z0)⟩ :: L) (h2 : L2 = L ∨ L2 = L1) :
    At3 (rd v f
      (⟨Rect.unit p1 ![1, n, 128] z1, s1 (lb S4096x256 x1 o1 ![256, 128] b1) (lb S1024x256 x0 q1 ![n, 128] d1)
        (lf S2x1024x1 (rd w f8 L8) p1 ![1, n, 1] c1)
        (lb S4096x256 x2 o1 ![256, 128] b1)
        (lf S2x1024x128 (rd v f L2) p1 ![1, n, 128] z1)⟩ :: L1)) (OUT G u t0 fun _ => b) := by
  subst hL
  rw [← lower_both b]
  have s := stepOut 0 hb rfl off hz hat z0 g0 _ (vals I 0 b e0 b0) fun r d =>
    (h0 _ _ _ _ _ (holds I 0 b off e0 f0 b0 d0 hC g0 c0) r d).trans (congrArg (fun x : EReal => x + _) (At3.ld hat off 0 z0 g0 r d))
  refine stepOut 1 hb rfl off hz s z1 g1 _ (vals I 1 b e1 b1) fun r d => (h1 _ _ _ _ _ (holds I 1 b off e1 f1 b1 d1 hC g1 c1) r d).trans
    (congrArg (fun x : EReal => x + _) ?_)
  rcases h2 with rfl | rfl
  · exact At3.ld hat off 1 z1 g1 r d
  · exact At3.ld s off 1 z1 g1 r d

include hb hz f0 f1 g0 g1 hC in
theorem tabBoth
    {s0 s1 : Vec Ideal ⟨3, ![1, n, 1]⟩ .f32 → Vec Ideal ⟨2, ![n, 128]⟩ .f32 → Vec Ideal ⟨2, ![n, 128]⟩ .f32}
    (h0 : ∀ P old r (l : Fin 128), s0 P old (ix2 r l) = if l.val = b then P (ix3 0 r 0) else old (ix2 r l))
    (h1 : ∀ P old r (l : Fin 128), s1 P old (ix2 r l) = if l.val = b then P (ix3 0 r 0) else old (ix2 r l))
    {v : View sig .tc .vmem S1024x256 .f32} {f : v.ty.Contents (Elt Ideal)} {L L1 L2 : List (View.Piece (Elt Ideal) S1024x256 .f32)}
    (hat : At (rd v f L) (TAB G t0 fun _ => b + 1))
    (hL : L1 = ⟨Rect.unit q0 ![n, 128] d0, s0 (lf S2x1024x1 (rd w f8 L8) p0 ![1, n, 1] c0)
        (lf S1024x256 (rd v f L) q0 ![n, 128] d0)⟩ :: L) (h2 : L2 = L ∨ L2 = L1) :
    At (rd v f
      (⟨Rect.unit q1 ![n, 128] d1, s1 (lf S2x1024x1 (rd w f8 L8) p1 ![1, n, 1] c1)
        (lf S1024x256 (rd v f L2) q1 ![n, 128] d1)⟩ :: L1)) (TAB G t0 fun _ => b) := by
  have hP : ∀ (h : Fin 2) {p : Fin 3 → ℕ} (g : p = ![h.val, off, 0]) (cc : Fits S2x1024x1 p ![1, n, 1]) (r : Fin n),
      lf S2x1024x1 (rd w f8 L8) p ![1, n, 1] cc (ix3 0 r 0)
        = (((G h).blk (t0 + off) (256 * b) n).cs r : EReal) := fun h p g cc r =>
    (At3.ld hC off h cc g r 0).trans (by unfold CS; rw [← Nat.add_assoc]; rfl)
  subst hL
  rw [← lower_both b]
  have s := stepTab 0 hb rfl off hz hat d0 f0 _ fun r l => (h0 _ _ r l).trans (if_congr Iff.rfl (hP 0 g0 c0 r) (At.ldf hat off 0 d0 f0 r l))
  refine stepTab 1 hb rfl off hz s d1 f1 _ fun r l => (h1 _ _ r l).trans (if_congr Iff.rfl (hP 1 g1 c1 r) ?_)
  rcases h2 with rfl | rfl
  · exact At.ldf hat off 1 d1 f1 r l
  · exact At.ldf s off 1 d1 f1 r l
end both

end Cert.SbAttnIdeal.Val
end
-- ==== Proof.SbAttnLoop.lean ====
/-
  What one trip of the loop over the blocks of keys left of a point's own queries does, and what the loop leaves.
-/
module

public import proofs.«01_k».proof.Proof.SbAttnRun

@[expose] public section

set_option maxRecDepth 16384

noncomputable section

open Idealize.ShloMosaic Idealize.ShloMosaic.TcCoe Idealize.SL.Sem
open Cert.Common Finset

namespace Cert.SbAttnIdeal.Val

open Cert.SbAttnIdeal Cert.SbAttnIdeal.Gen Cert.SbReal

theorem t2_trips (i : grid0.Coords) : Scf.trips (k0_t2_loop i).lb (k0_t2_loop i).ub (k0_t2_loop i).st = 0 := Nat.le_zero.mp (k0_t2_abs i).2.1
theorem t1_word : ∀ q : Fin 4, Scf.trips 0#32 (Scalar.addi 0#32 (Scalar.muli (Scalar.divsi (Scalar.subi (Scalar.muli (BitVec.ofNat 32 q.val) 4#32) 0#32) 1#32) 1#32)) 1#32 = 4 * q.val := by
  decide
theorem t1_trips (i : grid0.Coords) : (k0_t1_loop i).trips = 4 * (i 1).val := t1_word (i 1)
theorem block_word : ∀ (q : Fin 4) (k : Fin 16), k.val < 4 * q.val →
    Scalar.subi (Scalar.subi (Scalar.muli (BitVec.ofNat 32 q.val) 4#32) 1#32) (Scf.iv 0#32 1#32 k.val) = BitVec.ofNat 32 (4 * q.val - 1 - k.val) := by
  decide
theorem row_word : ∀ b : Fin 16, (Scalar.indexCast (Scalar.muli (BitVec.ofNat 32 b.val) 256#32)).toNat = 256 * b.val := by
  decide

variable (i : grid0.Coords)

theorem row_of (k : Fin (k0_t1_loop i).trips) :
    (Scalar.indexCast (Scalar.muli (Scalar.subi (Scalar.subi (Scalar.muli (BitVec.ofNat 32 (i 1).val) 4#32) 1#32) (Scf.iv 0#32 1#32 k.val)) 256#32)).toNat
      = 256 * (4 * (i 1).val - 1 - k.val) := by
  have h4 := t1_trips i
  have hi : (i 1).val < 4 := (i 1).isLt
  have hk := k.isLt
  have hb := block_word (i 1) ⟨k.val, by omega⟩ (by show k.val < 4 * (i 1).val; omega)
  exact (congrArg (fun w : BitVec 32 => (Scalar.indexCast (Scalar.muli w 256#32)).toNat) hb).trans (row_word ⟨4 * (i 1).val - 1 - k.val, by omega⟩)
theorem off3_eq (k : Fin (k0_t1_loop i).trips) : k0_off3 i k = ![256 * (4 * (i 1).val - 1 - k.val), 0] :=
  congrArg (fun n : ℕ => ![n, 0]) (row_of i k)
theorem off4_eq (k : Fin (k0_t1_loop i).trips) : k0_off4 i k = ![256 * (4 * (i 1).val - 1 - k.val), 128] :=
  congrArg (fun n : ℕ => ![n, 128]) (row_of i k)

variable {G : Fin 2 → Head} {u : Fin 2 → ℕ → Fin 128 → EReal} {t0 : ℕ} {x0 : Vec Ideal S1024x256 .bf16} {x1 x2 : Vec Ideal S4096x256 .bf16} (I : Ins G u t0 x0 x1 x2)
variable (c : Dev nD)
  (m2 : Memref sig .tc .vmem S1024x256 .bf16) (hm2 : m2.IsWhole) (m3 : Memref sig .tc .vmem S4096x256 .bf16) (hm3 : m3.IsWhole)
  (m4 : Memref sig .tc .vmem S4096x256 .bf16) (hm4 : m4.IsWhole) (m5 : Memref sig .tc .vmem S1024x256 .bf16) (hm5 : m5.IsWhole)
  (m6 : Memref sig .tc .vmem S1024x256 .f32) (hm6 : m6.IsWhole) (m7 : Memref sig .tc .vmem S2x1024x128 .f32) (hm7 : m7.IsWhole)
  (m8 : Memref sig .tc .vmem S2x1024x1 .f32) (hm8 : m8.IsWhole)

include I in
set_option maxHeartbeats 1000000 in
/-- One trip: the block of keys `b` left of the queries. -/
theorem trip_at (k : Fin (k0_t1_loop i).trips) (b : ℕ) (hb : b < 16) (hbk : 4 * (i 1).val - 1 - k.val = b)
    (hw : Scalar.subi (Scalar.subi (Scalar.muli (BitVec.ofNat 32 (i 1).val) 4#32) 1#32) (Scf.iv 0#32 1#32 k.val) = BitVec.ofNat 32 b)
    (ht : 256 * b + 256 ≤ t0) g6 g7 g8 L6 L7 L8
    (h6 : At (rd m6.view g6 L6) (TAB G t0 fun _ => b + 1))
    (h7 : At3 (rd m7.view g7 L7) (OUT G u t0 fun _ => b + 1))
    (h8 : At3 (rd m8.view g8 L8) (CS G t0 fun _ => b + 1))
    (T) (hT : T = tripL_k0_t1 (F := Ideal) Variants.none c none i m2 hm2 m3 hm3 m4 hm4 m5 hm5 m6 hm6 m7 hm7 m8 hm8 (BitVec.ofNat 32 (i 1).val) LANE k0_pay48
      (hm2.unread x0) (hm3.unread x1) (hm4.unread x2) k
      (m6.view.writes (Elt Ideal) g6 L6) (m7.view.writes (Elt Ideal) g7 L7) (m8.view.writes (Elt Ideal) g8 L8)) :
    At (rd m6.view g6 (T.1 ++ L6)) (TAB G t0 fun _ => b)
    ∧ At3 (rd m7.view g7 (T.2.1 ++ L7)) (OUT G u t0 fun _ => b)
    ∧ At3 (rd m8.view g8 (T.2.2 ++ L8)) (CS G t0 fun _ => b) := by
  have hm : ∀ h r cc, ((G h).blk (t0 + 0) (256 * b) 1024).m r cc := fun h r cc => by
    show 256 * b + cc.val < t0 + 0 + r.val
    omega
  have hz : ∀ r, r < 1024 → (r < 0 ∨ 0 + 1024 ≤ r) → t0 + r ≤ 256 * b := fun r h1 h2 => by omega
  have e0 : k0_off3 i k = ![256 * b, 128 * (0 : Fin 2).val] := by rw [off3_eq, hbk]; rfl
  have e1 : k0_off4 i k = ![256 * b, 128 * (1 : Fin 2).val] := by rw [off4_eq, hbk]; rfl
  revert hT
  unfold tripL_k0_t1 trip_k0_t1
  dsimp only
  sl_unfold_words
  simp only [View.readAt_eq_ld, hm2.read_unread, hm3.read_unread, hm4.read_unread]
  intro hT
  subst hT
  refine ⟨?_, ?_, ?_⟩ <;> dsimp only [List.cons_append, List.nil_append]
  · exact tabBoth hb 0 hz (q0 := ![0, 0]) (q1 := ![0, 128]) rfl rfl inb_S1024x256_S1024x128_0_0 inb_S1024x256_S1024x128_0_128 (p0 := ![0, 0, 0]) (p1 := ![1, 0, 0]) rfl rfl
      inb_S2x1024x1_S1x1024x1_0_0_0 inb_S2x1024x1_S1x1024x1_1_0_0 h8
      (s0 := fun P old => k0_pay22 LANE (Scalar.subi (Scalar.subi (Scalar.muli (BitVec.ofNat 32 (i 1).val) 4#32) 1#32) (Scf.iv 0#32 1#32 k.val)) (k0_pay6 P) old)
      (s1 := fun P old => k0_pay25 LANE (Scalar.subi (Scalar.subi (Scalar.muli (BitVec.ofNat 32 (i 1).val) 4#32) 1#32) (Scf.iv 0#32 1#32 k.val)) (k0_pay7 P) old)
      (fun P old => c_at _ b hw (by omega) P old) (fun P old => c_at _ b hw (by omega) P old) h6 rfl (Or.inl rfl)
  · exact outBoth I hb 0 hz e0 e1 (q0 := ![0, 0]) (q1 := ![0, 128]) rfl rfl (k0_off3_inb i k) (k0_off4_inb i k) inb_S1024x256_S1024x128_0_0 inb_S1024x256_S1024x128_0_128 (p0 := ![0, 0, 0]) (p1 := ![1, 0, 0]) rfl rfl
      inb_S2x1024x1_S1x1024x1_0_0_0 inb_S2x1024x1_S1x1024x1_1_0_0 h8
      (s0 := fun K q P V old => k0_pay21 (k0_pay16 k0_pay48 (k0_pay6 P) (k0_pay8 q K) (k0_pay11 q K) V) (k0_pay20 old))
      (s1 := fun K q P V old => k0_pay24 (k0_pay17 k0_pay48 (k0_pay7 P) (k0_pay9 q K) (k0_pay10 q K) (k0_pay12 q K) V) old)
      (fun K q P V old h => acc_at (hm 0) h old) (fun K q P V old h => acc_at (hm 1) h old) inb_S2x1024x128_S1x1024x128_0_0_0 inb_S2x1024x128_S1x1024x128_1_0_0 h7 rfl (Or.inl rfl)
  · exact csBoth I hb 0 hz e0 e1 (q0 := ![0, 0]) (q1 := ![0, 128]) rfl rfl (k0_off3_inb i k) (k0_off4_inb i k) inb_S1024x256_S1024x128_0_0 inb_S1024x256_S1024x128_0_128 (p0 := ![0, 0, 0]) (p1 := ![1, 0, 0]) rfl rfl
      inb_S2x1024x1_S1x1024x1_0_0_0 inb_S2x1024x1_S1x1024x1_1_0_0 h8
      (s0 := fun K q P => k0_pay23 (k0_pay6 P) (k0_pay18 (k0_pay11 q K)))
      (s1 := fun K q P => k0_pay2 (k0_pay26 (k0_pay7 P) (k0_pay19 (k0_pay10 q K) (k0_pay12 q K))))
      (fun K q P h => cs_at (hm 0) h) (fun K q P h => cs_at (hm 1) h)

include I in
/-- The loop over the key blocks before the diagonal. -/
theorem loop_at (ht : t0 = 1024 * (i 1).val) g6 g7 g8
    (h6 : At (m6.view.read (Elt Ideal) g6) (TAB G t0 fun _ => 4 * (i 1).val))
    (h7 : At3 (m7.view.read (Elt Ideal) g7) (OUT G u t0 fun _ => 4 * (i 1).val))
    (h8 : At3 (m8.view.read (Elt Ideal) g8) (CS G t0 fun _ => 4 * (i 1).val))
    (n : ℕ) (hn : n ≤ (k0_t1_loop i).trips) (PB) (hPB : PB = pb_k0_t1 (F := Ideal) Variants.none c none i m2 hm2 m3 hm3 m4 hm4 m5 hm5 m6 hm6 m7 hm7 m8 hm8
      (BitVec.ofNat 32 (i 1).val) LANE k0_pay48 (hm2.unread x0) (hm3.unread x1) (hm4.unread x2) g6 g7 g8 n) :
    At (rd m6.view g6 PB.1) (TAB G t0 fun _ => 4 * (i 1).val - n)
    ∧ At3 (rd m7.view g7 PB.2.1) (OUT G u t0 fun _ => 4 * (i 1).val - n)
    ∧ At3 (rd m8.view g8 PB.2.2) (CS G t0 fun _ => 4 * (i 1).val - n) := by
  subst hPB
  induction n with
  | zero => exact ⟨h6, h7, h8⟩
  | succ k ih =>
    have hk : k < (k0_t1_loop i).trips := hn
    have h4 := t1_trips i
    have hi : (i 1).val < 4 := (i 1).isLt
    obtain ⟨a, b, d⟩ := ih (Nat.le_of_lt hk)
    have e : 4 * (i 1).val - k = (4 * (i 1).val - (k + 1)) + 1 := by omega
    rw [e] at a b d
    rw [pb_k0_t1_succ (F := Ideal) Variants.none c none i m2 hm2 m3 hm3 m4 hm4 m5 hm5 m6 hm6 m7 hm7 m8 hm8
      (BitVec.ofNat 32 (i 1).val) LANE k0_pay48 (hm2.unread x0) (hm3.unread x1) (hm4.unread x2) g6 g7 g8 ⟨k, hk⟩]
    have hkb : 4 * (i 1).val - 1 - k = 4 * (i 1).val - (k + 1) := by omega
    exact trip_at i I c m2 hm2 m3 hm3 m4 hm4 m5 hm5 m6 hm6 m7 hm7 m8 hm8 ⟨k, hk⟩ _ (by omega) hkb
      ((block_word (i 1) ⟨k, by omega⟩ (by show k < 4 * (i 1).val; omega)).trans (congrArg (BitVec.ofNat 32) hkb)) (by omega) g6 g7 g8 _ _ _ a b d _ rfl

end Cert.SbAttnIdeal.Val
end
-- ==== Proof.SbAttnOut.lean ====
/-
  What one point of the grid leaves in its two outputs: the four blocks of keys that hold its own queries, then the loop.
-/
module

public import proofs.«01_k».proof.Proof.SbAttnLoop

@[expose] public section

set_option maxRecDepth 16384

noncomputable section

open Idealize.ShloMosaic Idealize.ShloMosaic.TcCoe Idealize.SL.Sem
open Cert.Common Finset

namespace Cert.SbAttnIdeal.Val

open Cert.SbAttnIdeal Cert.SbAttnIdeal.Gen Cert.SbReal

variable {G : Fin 2 → Head} {u : Fin 2 → ℕ → Fin 128 → EReal} {t0 : ℕ} {x0 : Vec Ideal S1024x256 .bf16} {x1 x2 : Vec Ideal S4096x256 .bf16} (I : Ins G u t0 x0 x1 x2)

/-- A whole array of zeros. -/
theorem zero_at {s : Shape} (v : View sig .tc .vmem s .f32) (f : v.ty.Contents (Elt Ideal)) (L : List (View.Piece (Elt Ideal) s .f32)) {o : Fin s.rank → ℕ}
    (inb : ∀ a, o a + s.size a ≤ s.size a) (heq : o = fun _ => 0) (A : s.Idx → EReal) (hA : ∀ j, A j = 0) (j : s.Idx) :
    rd v f (⟨Rect.unit o s.size inb, A⟩ :: L) j = 0 :=
  (View.read_writes_cons_unit_of_mem v f inb A L j j heq (fun a => (Nat.zero_add _).symm)).trans (hA j)

theorem pay49_zero (j : S2x1024x128.Idx) : k0_pay49 (F := Ideal) j = 0 := by
  pointwise [k0_pay49]
theorem pay50_zero (j : S2x1024x1.Idx) : k0_pay50 (F := Ideal) j = 0 := by
  pointwise [k0_pay50]
theorem pay51_zero (j : S1024x256.Idx) : k0_pay51 (F := Ideal) j = 0 := by
  pointwise [k0_pay51]

section start
variable {b : ℕ} (hb : t0 + 1024 ≤ 256 * b)
include hb
theorem zero_out (v : View sig .tc .vmem S2x1024x128 .f32) (inb : ∀ a, (![0, 0, 0] : Fin 3 → ℕ) a + S2x1024x128.size a ≤ S2x1024x128.size a) :
    At3 (rd v v.junk [⟨Rect.unit ![0, 0, 0] S2x1024x128.size inb, k0_pay49 (F := Ideal)⟩]) (OUT G u t0 fun _ => b) := fun h r d => by
  refine (zero_at v v.junk [] inb (by funext a; fin_cases a <;> rfl) _ pay49_zero _).trans (Finset.sum_eq_zero fun s hs => ?_).symm
  rw [Finset.mem_Ico] at hs
  beta_reduce at hs
  rw [Head.W_zero _ (by omega), EReal.coe_zero, zero_mul]
theorem zero_cs (v : View sig .tc .vmem S2x1024x1 .f32) (inb : ∀ a, (![0, 0, 0] : Fin 3 → ℕ) a + S2x1024x1.size a ≤ S2x1024x1.size a) :
    At3 (rd v v.junk [⟨Rect.unit ![0, 0, 0] S2x1024x1.size inb, k0_pay50 (F := Ideal)⟩]) (CS G t0 fun _ => b) := fun h r d => by
  refine (zero_at v v.junk [] inb (by funext a; fin_cases a <;> rfl) _ pay50_zero _).trans ?_
  unfold CS
  rw [Finset.sum_eq_zero fun s hs => LN_zero (G h) (by rw [Finset.mem_Ico] at hs; beta_reduce at hs; omega)]
  rfl
theorem zero_tab (v : View sig .tc .vmem S1024x256 .f32) (inb : ∀ a, (![0, 0] : Fin 2 → ℕ) a + S1024x256.size a ≤ S1024x256.size a) :
    At (rd v v.junk [⟨Rect.unit ![0, 0] S1024x256.size inb, k0_pay51 (F := Ideal)⟩]) (TAB G t0 fun _ => b) := fun h r l => by
  refine (zero_at v v.junk [] inb (by funext a; fin_cases a <;> rfl) _ pay51_zero _).trans ?_
  unfold TAB
  by_cases hl : b ≤ l.val ∧ l.val < 16
  · rw [if_pos hl, SUF_zero _ (by omega)]
    rfl
  · rw [if_neg hl]
end start

/-- The output's two halves. -/
theorem halves (v : View sig .tc .vmem S1024x256 .bf16) (f : v.ty.Contents (Elt Ideal)) {Fn : Fin 2 → ℕ → Fin 128 → EReal} (A0 A1 : S1024x128.Idx → EReal)
    (b0 : ∀ a, (![0, 0] : Fin 2 → ℕ) a + S1024x128.size a ≤ S1024x256.size a) (b1 : ∀ a, (![0, 128] : Fin 2 → ℕ) a + S1024x128.size a ≤ S1024x256.size a)
    (h0 : ∀ (r : Fin 1024) d, A0 (ix2 r d) = Fn 0 r.val d) (h1 : ∀ (r : Fin 1024) d, A1 (ix2 r d) = Fn 1 r.val d) :
    At (rd v f [⟨Rect.unit ![0, 128] S1024x128.size b1, A1⟩, ⟨Rect.unit ![0, 0] S1024x128.size b0, A0⟩]) Fn := by
  have e0 : ∀ (r : Fin 1024) d, rd v f [⟨Rect.unit ![0, 128] S1024x128.size b1, A1⟩, ⟨Rect.unit ![0, 0] S1024x128.size b0, A0⟩] (ix2 r (col 0 d)) = Fn 0 r.val d := fun r d => by
    unfold rd
    rw [View.read_writes_cons_unit_of_not_mem v f b1 A1 _ (ix2 r (col 0 d)) (off := ![0, 128]) rfl 1 (by
      show 128 * 0 + d.val < 128 ∨ 128 + 128 ≤ 128 * 0 + d.val
      omega)]
    exact (View.read_writes_cons_unit_of_mem _ _ _ _ _ (ix2 r (col 0 d)) (ix2 r d) rfl (fun a => by
      fin_cases a
      · exact (Nat.zero_add _).symm
      · rfl)).trans (h0 r d)
  have e1 : ∀ (r : Fin 1024) d, rd v f [⟨Rect.unit ![0, 128] S1024x128.size b1, A1⟩, ⟨Rect.unit ![0, 0] S1024x128.size b0, A0⟩] (ix2 r (col 1 d)) = Fn 1 r.val d := fun r d =>
    (View.read_writes_cons_unit_of_mem _ _ _ _ _ (ix2 r (col 1 d)) (ix2 r d) rfl (fun a => by
      fin_cases a
      · exact (Nat.zero_add _).symm
      · rfl)).trans (h1 r d)
  intro h r d
  fin_cases h
  · exact e0 r d
  · exact e1 r d
theorem out0_at (X : Vec Ideal S1x1024x128 .f32) (r : Fin 1024) (d : Fin 128) : k0_pay4 (F := Ideal) X (ix2 r d) = X (ix3 0 r d) := by
  pointwise [k0_pay4]
theorem out1_at (X : Vec Ideal S1x1024x128 .f32) (r : Fin 1024) (d : Fin 128) : k0_pay5 (F := Ideal) X (ix2 r d) = X (ix3 0 r d) := by
  pointwise [k0_pay5]

theorem diag_word : ∀ (q j : Fin 4), Scalar.addi (Scalar.muli (BitVec.ofNat 32 q.val) 4#32) (BitVec.ofNat 32 j.val) = BitVec.ofNat 32 (4 * q.val + j.val) := by decide

variable (c : Dev nD) (i : grid0.Coords)
  (m2 : Memref sig .tc .vmem S1024x256 .bf16) (hm2 : m2.IsWhole) (m3 : Memref sig .tc .vmem S4096x256 .bf16) (hm3 : m3.IsWhole)
  (m4 : Memref sig .tc .vmem S4096x256 .bf16) (hm4 : m4.IsWhole) (m5 : Memref sig .tc .vmem S1024x256 .bf16) (hm5 : m5.IsWhole)
  (m6 : Memref sig .tc .vmem S1024x256 .f32) (hm6 : m6.IsWhole) (m7 : Memref sig .tc .vmem S2x1024x128 .f32) (hm7 : m7.IsWhole)
  (m8 : Memref sig .tc .vmem S2x1024x1 .f32) (hm8 : m8.IsWhole)

theorem off1_at (j : Fin 4) : k0_off1 i (BitVec.ofNat 32 j.val) = ![256 * (4 * (i 1).val + j.val), 128 * (0 : Fin 2).val] := (k0_off1_eq i j).trans (by congr 1; omega)
theorem off2_at (j : Fin 4) : k0_off2 i (BitVec.ofNat 32 j.val) = ![256 * (4 * (i 1).val + j.val), 128 * (1 : Fin 2).val] := (k0_off2_eq i j).trans (by congr 1; omega)

section diagonal
variable (ht : t0 = 1024 * (i 1).val) (j : Fin 4)
include ht
theorem diag_m (h : Fin 2) {n : ℕ} (r : Fin n) (cc : Fin 256) : ((G h).blk (t0 + 256 * j.val) (256 * (4 * (i 1).val + j.val)) n).m r cc ↔ cc.val < r.val := by
  rw [Head.blk_m]; omega
theorem diag_z (n : ℕ) (hn : 256 * j.val + n = 1024) (r : ℕ) (hr : r < 1024) (hc : r < 256 * j.val ∨ 256 * j.val + n ≤ r) : t0 + r ≤ 256 * (4 * (i 1).val + j.val) := by
  omega
end diagonal

include I in
set_option maxHeartbeats 8000000 in
/-- A whole point of the grid. -/
theorem run_A (ht : t0 = 1024 * (i 1).val) :
    At (out0_A_3 c i m2 hm2 m3 hm3 m4 hm4 m5 hm5 m6 hm6 m7 hm7 m8 hm8 x0 x1 x2) (OUT G u t0 fun _ => 0)
    ∧ At (out0_A_4 c i m2 hm2 m3 hm3 m4 hm4 m5 hm5 m6 hm6 m7 hm7 m8 hm8 x0 x1 x2) (TAB G t0 fun _ => 0) := by
  have hi : (i 1).val < 4 := (i 1).isLt
  unfold out0_A_3 out0_A_4
  have k3 := fun f => View.read_writes_eq_canon (Val := Elt Ideal) m5.view f _ (cover0_A_3 c i m2 hm2 m3 hm3 m4 hm4 m5 hm5 m6 hm6 m7 hm7 m8 hm8 x0 x1 x2)
  have k4 := fun f => View.read_writes_eq_canon (Val := Elt Ideal) m6.view f _ (cover0_A_4 c i m2 hm2 m3 hm3 m4 hm4 m5 hm5 m6 hm6 m7 hm7 m8 hm8 x0 x1 x2)
  rw [View.read_writes_eq_canon VO0_3 _ _ (fun _ => cover0_A_3 ..), ← k3 m5.view.junk,
    View.read_writes_eq_canon VO0_4 _ _ (fun _ => cover0_A_4 ..), ← k4 m6.view.junk]
  clear k3 k4
  unfold kernelRun0_A
  dsimp only
  sl_unfold_words
  generalize hn : Scf.trips (Scalar.addi 0#32 _) _ 1#32 = n
  have hn0 : n = 0 := hn.symm.trans (t2_trips i)
  subst hn0
  clear hn
  simp only [pb_k0_t2, List.nil_append, View.readCov, View.readAt_eq_ld, hm2.read_unread, hm3.read_unread, hm4.read_unread]
  generalize hPB : pb_k0_t1 (F := Ideal) _ _ _ _ _ _ _ _ _ _ _ _ _ _ _ _ _ _ _ _ _ _ _ _ _ _ _ _ = PB
  have C4 := zero_cs (G := G) (t0 := t0) (b := 4 * (i 1).val + 3 + 1) (by omega) m8.view inb_S2x1024x1_S2x1024x1_0_0_0
  have A4 := zero_out (G := G) (u := u) (t0 := t0) (b := 4 * (i 1).val + 3 + 1) (by omega) m7.view inb_S2x1024x128_S2x1024x128_0_0_0
  have T4 := zero_tab (G := G) (t0 := t0) (b := 4 * (i 1).val + 3 + 1) (by omega) m6.view inb_S1024x256_S1024x256_0_0
  have T3 := tabBoth (b := 4 * (i 1).val + 3) (by omega) 768 (n := 256) (diag_z i ht 3 256 rfl) (q0 := ![768, 0]) (q1 := ![768, 128]) rfl rfl inb_S1024x256_S256x128_768_0 inb_S1024x256_S256x128_768_128 (p0 := ![0, 768, 0]) (p1 := ![1, 768, 0]) rfl rfl inb_S2x1024x1_S1x256x1_0_768_0 inb_S2x1024x1_S1x256x1_1_768_0 C4
    (s0 := fun P old => k0_pay66 LANE (Scalar.addi (Scalar.muli (BitVec.ofNat 32 (i 1).val) 4#32) 3#32) (k0_pay53 P) old)
    (s1 := fun P old => k0_pay69 LANE (Scalar.addi (Scalar.muli (BitVec.ofNat 32 (i 1).val) 4#32) 3#32) (k0_pay54 P) old)
    (fun P old => c3_at _ _ (diag_word (i 1) 3) (by omega) P old) (fun P old => c3_at _ _ (diag_word (i 1) 3) (by omega) P old) T4 rfl (Or.inr rfl)
  have A3 := outBoth I (b := 4 * (i 1).val + 3) (by omega) 768 (n := 256) (diag_z i ht 3 256 rfl) (off1_at i 3) (off2_at i 3) (q0 := ![768, 0]) (q1 := ![768, 128]) rfl rfl (k0_off1_inb i 3) (k0_off2_inb i 3) inb_S1024x256_S256x128_768_0 inb_S1024x256_S256x128_768_128 (p0 := ![0, 768, 0]) (p1 := ![1, 768, 0]) rfl rfl inb_S2x1024x1_S1x256x1_0_768_0 inb_S2x1024x1_S1x256x1_1_768_0 C4
    (s0 := fun K q P V old => k0_pay65 (k0_pay64 k0_pay48 k0_pay52 (k0_pay53 P) (k0_pay55 q K) (k0_pay57 q K) (k0_pay59 k0_pay52 q K) V old))
    (s1 := fun K q P V old => k0_pay68 (k0_pay61 k0_pay48 k0_pay52 (k0_pay54 P) (k0_pay56 q K) (k0_pay58 q K) (k0_pay60 k0_pay52 q K) V) old)
    (fun K q P V old h => acc3_at (diag_m i ht 3 0) h old) (fun K q P V old h => acc3_at (diag_m i ht 3 1) h old) inb_S2x1024x128_S1x256x128_0_768_0 inb_S2x1024x128_S1x256x128_1_768_0 A4 rfl (Or.inr rfl)
  have C3 := csBoth I (b := 4 * (i 1).val + 3) (by omega) 768 (n := 256) (diag_z i ht 3 256 rfl) (off1_at i 3) (off2_at i 3) (q0 := ![768, 0]) (q1 := ![768, 128]) rfl rfl (k0_off1_inb i 3) (k0_off2_inb i 3) inb_S1024x256_S256x128_768_0 inb_S1024x256_S256x128_768_128 (p0 := ![0, 768, 0]) (p1 := ![1, 768, 0]) rfl rfl inb_S2x1024x1_S1x256x1_0_768_0 inb_S2x1024x1_S1x256x1_1_768_0 C4
    (s0 := fun K q P => k0_pay67 (k0_pay53 P) (k0_pay62 (k0_pay59 k0_pay52 q K)))
    (s1 := fun K q P => k0_pay70 (k0_pay54 P) (k0_pay63 (k0_pay60 k0_pay52 q K)))
    (fun K q P h => cs3_at (diag_m i ht 3 0) h) (fun K q P h => cs3_at (diag_m i ht 3 1) h)
  have T2 := tabBoth (b := 4 * (i 1).val + 2) (by omega) 512 (n := 512) (diag_z i ht 2 512 rfl) (q0 := ![512, 0]) (q1 := ![512, 128]) rfl rfl inb_S1024x256_S512x128_512_0 inb_S1024x256_S512x128_512_128 (p0 := ![0, 512, 0]) (p1 := ![1, 512, 0]) rfl rfl inb_S2x1024x1_S1x512x1_0_512_0 inb_S2x1024x1_S1x512x1_1_512_0 C3
    (s0 := fun P old => k0_pay88 LANE (Scalar.addi (Scalar.muli (BitVec.ofNat 32 (i 1).val) 4#32) 2#32) (k0_pay72 P) old)
    (s1 := fun P old => k0_pay92 LANE (Scalar.addi (Scalar.muli (BitVec.ofNat 32 (i 1).val) 4#32) 2#32) (k0_pay73 P) old)
    (fun P old => c2_at _ _ (diag_word (i 1) 2) (by omega) P old) (fun P old => c2_at _ _ (diag_word (i 1) 2) (by omega) P old) T3 rfl (Or.inr rfl)
  have A2 := outBoth I (b := 4 * (i 1).val + 2) (by omega) 512 (n := 512) (diag_z i ht 2 512 rfl) (off1_at i 2) (off2_at i 2) (q0 := ![512, 0]) (q1 := ![512, 128]) rfl rfl (k0_off1_inb i 2) (k0_off2_inb i 2) inb_S1024x256_S512x128_512_0 inb_S1024x256_S512x128_512_128 (p0 := ![0, 512, 0]) (p1 := ![1, 512, 0]) rfl rfl inb_S2x1024x1_S1x512x1_0_512_0 inb_S2x1024x1_S1x512x1_1_512_0 C3
    (s0 := fun K q P V old => k0_pay87 (k0_pay84 V) (W2 P q K) (constant S512x128 .f32 0x00000000#32) old)
    (s1 := fun K q P V old => k0_pay91 (k0_pay90 (k0_pay83 k0_pay48 k0_pay71 (k0_pay73 P) (k0_pay75 q K) (k0_pay77 q K)) V old))
    (fun K q P V old h => acc2_at (diag_m i ht 2 0) h old) (fun K q P V old h => acc2_at (diag_m i ht 2 1) h old) inb_S2x1024x128_S1x512x128_0_512_0 inb_S2x1024x128_S1x512x128_1_512_0 A3 rfl (Or.inr rfl)
  have C2 := csBoth I (b := 4 * (i 1).val + 2) (by omega) 512 (n := 512) (diag_z i ht 2 512 rfl) (off1_at i 2) (off2_at i 2) (q0 := ![512, 0]) (q1 := ![512, 128]) rfl rfl (k0_off1_inb i 2) (k0_off2_inb i 2) inb_S1024x256_S512x128_512_0 inb_S1024x256_S512x128_512_128 (p0 := ![0, 512, 0]) (p1 := ![1, 512, 0]) rfl rfl inb_S2x1024x1_S1x512x1_0_512_0 inb_S2x1024x1_S1x512x1_1_512_0 C3
    (s0 := fun K q P => k0_pay89 (k0_pay72 P) (N2 q K))
    (s1 := fun K q P => k0_pay93 (k0_pay73 P) (k0_pay86 (k0_pay82 k0_pay71 (k0_pay75 q K) (k0_pay77 q K))))
    (fun K q P h => cs2_at (diag_m i ht 2 0) h) (fun K q P h => cs2_at (diag_m i ht 2 1) h)
  have T1 := tabBoth (b := 4 * (i 1).val + 1) (by omega) 256 (n := 768) (diag_z i ht 1 768 rfl) (q0 := ![256, 0]) (q1 := ![256, 128]) rfl rfl inb_S1024x256_S768x128_256_0 inb_S1024x256_S768x128_256_128 (p0 := ![0, 256, 0]) (p1 := ![1, 256, 0]) rfl rfl inb_S2x1024x1_S1x768x1_0_256_0 inb_S2x1024x1_S1x768x1_1_256_0 C2
    (s0 := fun P old => k0_pay114 (k0_pay111 LANE (Scalar.addi (Scalar.muli (BitVec.ofNat 32 (i 1).val) 4#32) 1#32)) (k0_pay112 old) (k0_pay113 (k0_pay95 P)))
    (s1 := fun P old => k0_pay117 LANE (Scalar.addi (Scalar.muli (BitVec.ofNat 32 (i 1).val) 4#32) 1#32) (k0_pay96 P) old)
    (fun P old => c1_at _ _ (diag_word (i 1) 1) (by omega) P old) (fun P old => c1_at _ _ (diag_word (i 1) 1) (by omega) P old) T2 rfl (Or.inr rfl)
  have A1 := outBoth I (b := 4 * (i 1).val + 1) (by omega) 256 (n := 768) (diag_z i ht 1 768 rfl) (off1_at i 1) (off2_at i 1) (q0 := ![256, 0]) (q1 := ![256, 128]) rfl rfl (k0_off1_inb i 1) (k0_off2_inb i 1) inb_S1024x256_S768x128_256_0 inb_S1024x256_S768x128_256_128 (p0 := ![0, 256, 0]) (p1 := ![1, 256, 0]) rfl rfl inb_S2x1024x1_S1x768x1_0_256_0 inb_S2x1024x1_S1x768x1_1_256_0 C2
    (s0 := fun K q P V old => k0_pay110 k0_pay94 (k0_pay95 P) (k0_pay99 (k0_pay97 q) K) (k0_pay101 (k0_pay97 q) K) (k0_pay105 k0_pay48 k0_pay94 (k0_pay97 q) K) V old)
    (s1 := fun K q P V old => k0_pay116 (k0_pay107 k0_pay48 k0_pay94 (k0_pay96 P) (k0_pay100 (k0_pay98 q) K) (k0_pay102 (k0_pay98 q) K) (k0_pay106 k0_pay94 (k0_pay98 q) K) V) old)
    (fun K q P V old h => acc1_at (diag_m i ht 1 0) h old) (fun K q P V old h => acc1_at (diag_m i ht 1 1) h old) inb_S2x1024x128_S1x768x128_0_256_0 inb_S2x1024x128_S1x768x128_1_256_0 A2 rfl (Or.inr rfl)
  have C1 := csBoth I (b := 4 * (i 1).val + 1) (by omega) 256 (n := 768) (diag_z i ht 1 768 rfl) (off1_at i 1) (off2_at i 1) (q0 := ![256, 0]) (q1 := ![256, 128]) rfl rfl (k0_off1_inb i 1) (k0_off2_inb i 1) inb_S1024x256_S768x128_256_0 inb_S1024x256_S768x128_256_128 (p0 := ![0, 256, 0]) (p1 := ![1, 256, 0]) rfl rfl inb_S2x1024x1_S1x768x1_0_256_0 inb_S2x1024x1_S1x768x1_1_256_0 C2
    (s0 := fun K q P => k0_pay115 (k0_pay95 P) (k0_pay108 (k0_pay103 k0_pay94 (k0_pay97 q) K)))
    (s1 := fun K q P => k0_pay118 (k0_pay96 P) (k0_pay109 (k0_pay104 k0_pay94 (k0_pay98 q) K)))
    (fun K q P h => cs1_at (diag_m i ht 1 0) h) (fun K q P h => cs1_at (diag_m i ht 1 1) h)
  have T0 := tabBoth (b := 4 * (i 1).val + 0) (by omega) 0 (n := 1024) (diag_z i ht 0 1024 rfl) (q0 := ![0, 0]) (q1 := ![0, 128]) rfl rfl inb_S1024x256_S1024x128_0_0 inb_S1024x256_S1024x128_0_128 (p0 := ![0, 0, 0]) (p1 := ![1, 0, 0]) rfl rfl inb_S2x1024x1_S1x1024x1_0_0_0 inb_S2x1024x1_S1x1024x1_1_0_0 C1
    (s0 := fun P old => k0_pay135 LANE (Scalar.addi (Scalar.muli (BitVec.ofNat 32 (i 1).val) 4#32) 0#32) (k0_pay122 P) old)
    (s1 := fun P old => k0_pay138 LANE (Scalar.addi (Scalar.muli (BitVec.ofNat 32 (i 1).val) 4#32) 0#32) (k0_pay123 P) old)
    (fun P old => c0_at _ _ (diag_word (i 1) 0) (by omega) P old) (fun P old => c0_at _ _ (diag_word (i 1) 0) (by omega) P old) T1 rfl (Or.inr rfl)
  have A0 := outBoth I (b := 4 * (i 1).val + 0) (by omega) 0 (n := 1024) (diag_z i ht 0 1024 rfl) (off1_at i 0) (off2_at i 0) (q0 := ![0, 0]) (q1 := ![0, 128]) rfl rfl (k0_off1_inb i 0) (k0_off2_inb i 0) inb_S1024x256_S1024x128_0_0 inb_S1024x256_S1024x128_0_128 (p0 := ![0, 0, 0]) (p1 := ![1, 0, 0]) rfl rfl inb_S2x1024x1_S1x1024x1_0_0_0 inb_S2x1024x1_S1x1024x1_1_0_0 C1
    (s0 := fun K q P V old => k0_pay134 (k0_pay130 k0_pay48 M0 (k0_pay122 P) (k0_pay124 q K) (k0_pay126 q K) V) old)
    (s1 := fun K q P V old => k0_pay137 (k0_pay131 k0_pay48 M0 (k0_pay123 P) (k0_pay125 q K) (k0_pay127 q K) V) old)
    (fun K q P V old h => acc0_at (diag_m i ht 0 0) h old) (fun K q P V old h => acc0_at (diag_m i ht 0 1) h old) inb_S2x1024x128_S1x1024x128_0_0_0 inb_S2x1024x128_S1x1024x128_1_0_0 A1 rfl (Or.inr rfl)
  have C0 := csBoth I (b := 4 * (i 1).val + 0) (by omega) 0 (n := 1024) (diag_z i ht 0 1024 rfl) (off1_at i 0) (off2_at i 0) (q0 := ![0, 0]) (q1 := ![0, 128]) rfl rfl (k0_off1_inb i 0) (k0_off2_inb i 0) inb_S1024x256_S1024x128_0_0 inb_S1024x256_S1024x128_0_128 (p0 := ![0, 0, 0]) (p1 := ![1, 0, 0]) rfl rfl inb_S2x1024x1_S1x1024x1_0_0_0 inb_S2x1024x1_S1x1024x1_1_0_0 C1
    (s0 := fun K q P => k0_pay136 (k0_pay122 P) (k0_pay132 M0 (k0_pay126 q K)))
    (s1 := fun K q P => k0_pay1 (k0_pay123 P) (k0_pay133 (k0_pay129 M0 (k0_pay127 q K))))
    (fun K q P h => cs0_at (diag_m i ht 0 0) h) (fun K q P h => cs0_at (diag_m i ht 0 1) h)
  obtain ⟨s6, s7, s8⟩ := loop_at i I c m2 hm2 m3 hm3 m4 hm4 m5 hm5 m6 hm6 m7 hm7 m8 hm8 ht _ _ _ T0 A0 C0 _ le_rfl PB hPB.symm
  rw [t1_trips, Nat.sub_self] at s6 s7 s8
  simp only [rd, ← View.writes_append] at s6 s7 s8
  refine ⟨?_, ?_⟩
  · exact halves _ _ _ _ _ _ (fun r d => (out0_at _ r d).trans ((At3.ld s7 0 0 inb_S2x1024x128_S1x1024x128_0_0_0 rfl r d).trans (congrArg (fun x => OUT G u t0 (fun _ => 0) 0 x d) (Nat.zero_add _))))
      (fun r d => (out1_at _ r d).trans ((At3.ld s7 0 1 inb_S2x1024x128_S1x1024x128_1_0_0 rfl r d).trans (congrArg (fun x => OUT G u t0 (fun _ => 0) 1 x d) (Nat.zero_add _))))
  · exact s6

end Cert.SbAttnIdeal.Val
end
-- ==== Proof.SbAttnHost.lean ====
/-
  The two arrays the stick-breaking attention ends with: per head the weighted sum of the values, and the logarithms left beyond
  the last key of each block of 256 keys.
-/
module

public import proofs.«01_k».proof.Proof.SbHost

@[expose] public section

noncomputable section

open Idealize.ShloMosaic Cert.Common Finset

namespace Cert.SbReal

/-- Real numbers as extended ones. -/
abbrev up (f : Arr) : (⟨2, ![4096, 1024]⟩ : Shape).Idx → EReal := fun i => (f i : EReal)
/-- The heads of queries and keys alone. -/
abbrev headQK (q k : Arr) (h : Fin 8) : Head := head q k (fun _ => 0) (fun _ => 0) h
/-- The rows of a head of values that may be infinite. -/
def erows (x : (⟨2, ![4096, 1024]⟩ : Shape).Idx → EReal) (h : Fin 8) (s : ℕ) (d : Fin 128) : EReal := x (ix2 ⟨s % 4096, Nat.mod_lt _ (by norm_num)⟩ (lane h d))
theorem erows_at (x : (⟨2, ![4096, 1024]⟩ : Shape).Idx → EReal) (h : Fin 8) (s : Fin 4096) (d : Fin 128) : x (ix2 s (lane h d)) = erows x h s.val d :=
  congrArg x (idx2 (j := ix2 _ (lane h d)) (Nat.mod_eq_of_lt s.isLt).symm rfl)

/-- Entries by head, row and lane as an array. -/
def earr (g : Fin 8 → ℕ → Fin 128 → EReal) : (⟨2, ![4096, 1024]⟩ : Shape).Idx → EReal := fun i =>
  g ⟨(i 1).val / 128, by have h : (i 1).val < 1024 := (i 1).isLt; omega⟩ (i 0).val ⟨(i 1).val % 128, by omega⟩
theorem earr_at (g : Fin 8 → ℕ → Fin 128 → EReal) (h : Fin 8) (t : Fin 4096) (d : Fin 128) : earr g (ix2 t (lane h d)) = g h t.val d := by
  have e1 : ∀ p : (128 * h.val + d.val) / 128 < 8, (⟨(128 * h.val + d.val) / 128, p⟩ : Fin 8) = h := fun _ => Fin.ext (by show (128 * h.val + d.val) / 128 = h.val; omega)
  have e2 : ∀ p : (128 * h.val + d.val) % 128 < 128, (⟨(128 * h.val + d.val) % 128, p⟩ : Fin 128) = d := fun _ => Fin.ext (by show (128 * h.val + d.val) % 128 = d.val; omega)
  show g ⟨(128 * h.val + d.val) / 128, by omega⟩ t.val ⟨(128 * h.val + d.val) % 128, by omega⟩ = _
  rw [e1, e2]
theorem earr_of (g : Fin 8 → ℕ → Fin 128 → EReal) (x : (⟨2, ![4096, 1024]⟩ : Shape).Idx → EReal) (h : ∀ n (t : Fin 4096) d, x (ix2 t (lane n d)) = g n t.val d) : x = earr g := by
  funext i
  have hi : (i 1).val < 1024 := (i 1).isLt
  obtain ⟨t, n, d, rfl⟩ : ∃ (t : Fin 4096) (n : Fin 8) (d : Fin 128), i = ix2 t (lane n d) :=
    ⟨i 0, ⟨(i 1).val / 128, by omega⟩, ⟨(i 1).val % 128, by omega⟩, idx2 rfl (by show (i 1).val = 128 * ((i 1).val / 128) + (i 1).val % 128; omega)⟩
  rw [earr_at, h]

/-- The attention: the values weighted. -/
def attn (q k : Arr) (x : (⟨2, ![4096, 1024]⟩ : Shape).Idx → EReal) (h : Fin 8) (t : ℕ) (d : Fin 128) : EReal :=
  ∑ s ∈ Ico 0 4096, ((headQK q k h).W t s : EReal) * erows x h s d
/-- The logarithms left beyond each block of keys, one lane per block. -/
def left (q k : Arr) (h : Fin 8) (t : ℕ) (l : Fin 128) : EReal :=
  if l.val < 16 then ((headQK q k h).SUF t (256 * l.val + 255) : EReal) else 0

end Cert.SbReal

end
-- ==== Proof.SbAttnAcc.lean ====
/-
  The stick-breaking attention's call over its grid: what a point reads of the arguments, and the two arrays at the end.
-/
module

public import proofs.«01_k».proof.Proof.SbAttnOut
public import proofs.«01_k».proof.Proof.SbAttnHost
public import proofs.«01_k».proof.Proof.Gen.SbAttnIdeal.Value

@[expose] public section

set_option maxRecDepth 16384

noncomputable section

open Idealize.ShloMosaic Idealize.ShloMosaic.TcCoe Idealize.SL.Sem
open Cert.Common Cert.SbReal Finset

namespace Cert.SbAttnIdeal.Val

open Cert.SbAttnIdeal Cert.SbAttnIdeal.Gen Cert.SbAttnIdeal.Value

variable (m : (ℓ : Loc nD τ sig) → Buf (Elt Ideal) ℓ)

theorem pairs_lt (t : Fin cfg0.N) : t.val / 4 < 4 := by have h : t.val < 16 := N_0 ▸ t.isLt; omega
/-- A head of the pair of point `t`. -/
def hd (t : Fin cfg0.N) (h : Fin 2) : Fin 8 := ⟨2 * (t.val / 4) + h.val, by have := pairs_lt t; omega⟩
/-- A row of the block of point `t`. -/
def row (t : Fin cfg0.N) (r : Fin 1024) : Fin 4096 := ⟨1024 * (t.val % 4) + r.val, by omega⟩

theorem coords1 : ∀ t : Fin grid0.N, (grid0.coords t 1).val = t.val % 4 := by decide +kernel
theorem index_in : ∀ t : Fin grid0.N, (win0_0.index t 0 = t.val % 4 ∧ win0_0.index t 1 = t.val / 4) ∧ (win0_1.index t 0 = 0 ∧ win0_1.index t 1 = t.val / 4)
    ∧ win0_2.index t 0 = 0 ∧ win0_2.index t 1 = t.val / 4 := by decide +kernel
theorem index_out : ∀ t : Fin grid0.N, (win0_3.index t 0 = t.val % 4 ∧ win0_3.index t 1 = t.val / 4) ∧ win0_4.index t 0 = t.val % 4 ∧ win0_4.index t 1 = t.val / 4 := by
  decide +kernel

section blocks
variable (c : Dev nD) (t : Fin cfg0.N)

theorem iblk0 (r : Fin 1024) (h : Fin 2) (d : Fin 128) : iblk m c 0 t (ix2 r (col h d)) = V (F := Ideal) m c main_v0 (ix2 (row t r) (lane (hd t h) d)) := by
  unfold iblk
  rw [View.read_apply]
  refine congrArg (V m c main_v0) (idx2 (j := ix2 (row t r) (lane (hd t h) d)) ?_ ?_)
  · show win0_0.index t 0 * 1024 + 1 * r.val = 1024 * (t.val % 4) + r.val; rw [(index_in t).1.1]; omega
  · show win0_0.index t 1 * 256 + 1 * (128 * h.val + d.val) = 128 * (2 * (t.val / 4) + h.val) + d.val; rw [(index_in t).1.2]; omega
theorem iblk1 (s : Fin 4096) (h : Fin 2) (d : Fin 128) : iblk m c 1 t (ix2 s (col h d)) = V (F := Ideal) m c main_v1 (ix2 s (lane (hd t h) d)) := by
  unfold iblk
  rw [View.read_apply]
  refine congrArg (V m c main_v1) (idx2 (j := ix2 s (lane (hd t h) d)) ?_ ?_)
  · show win0_1.index t 0 * 4096 + 1 * s.val = s.val; rw [(index_in t).2.1.1]; omega
  · show win0_1.index t 1 * 256 + 1 * (128 * h.val + d.val) = 128 * (2 * (t.val / 4) + h.val) + d.val; rw [(index_in t).2.1.2]; omega
theorem iblk2 (s : Fin 4096) (h : Fin 2) (d : Fin 128) : iblk m c 2 t (ix2 s (col h d)) = V (F := Ideal) m c main_v2 (ix2 s (lane (hd t h) d)) := by
  unfold iblk
  rw [View.read_apply]
  refine congrArg (V m c main_v2) (idx2 (j := ix2 s (lane (hd t h) d)) ?_ ?_)
  · show win0_2.index t 0 * 4096 + 1 * s.val = s.val; rw [(index_in t).2.2.1]; omega
  · show win0_2.index t 1 * 256 + 1 * (128 * h.val + d.val) = 128 * (2 * (t.val / 4) + h.val) + d.val; rw [(index_in t).2.2.2]; omega
end blocks

theorem V_q (c : Dev nD) : V (F := Ideal) m c main_v0 = (m ((c : Thread nD τ).loc main_arg0) : S4096x1024.Idx → EReal) := by
  simp only [V, hostOps0, List.flatten_cons, List.flatten_nil, List.append_nil, List.cons_append, List.nil_append]
  after_results
  try rfl
theorem V_k (c : Dev nD) : V (F := Ideal) m c main_v1 = (m ((c : Thread nD τ).loc main_arg1) : S4096x1024.Idx → EReal) := by
  simp only [V, hostOps0, List.flatten_cons, List.flatten_nil, List.append_nil, List.cons_append, List.nil_append]
  after_results
  try rfl
theorem V_v (c : Dev nD) : V (F := Ideal) m c main_v2 = (m ((c : Thread nD τ).loc main_arg2) : S4096x1024.Idx → EReal) := by
  simp only [V, hostOps0, List.flatten_cons, List.flatten_nil, List.append_nil, List.cons_append, List.nil_append]
  after_results
  try rfl

theorem lanes {N : ℕ} (j : (⟨2, ![N, 256]⟩ : Shape).Idx) : ∃ (r : Fin N) (h : Fin 2) (d : Fin 128), j = ix2 r (col h d) := by
  have hl : (j 1).val < 256 := (j 1).isLt
  exact ⟨j 0, ⟨(j 1).val / 128, by omega⟩, ⟨(j 1).val % 128, by omega⟩, idx2 rfl (by show (j 1).val = 128 * ((j 1).val / 128) + (j 1).val % 128; omega)⟩
theorem emb3 (t : Fin cfg0.N) (r : Fin 1024) (h : Fin 2) (d : Fin 128) : ((cfg0.win 3).blk t).view.emb (ix2 r (col h d)) = ix2 (row t r) (lane (hd t h) d) :=
  idx2 (by show win0_3.index t 0 * 1024 + 1 * r.val = 1024 * (t.val % 4) + r.val; rw [(index_out t).1.1]; omega)
    (by show win0_3.index t 1 * 256 + 1 * (128 * h.val + d.val) = 128 * (2 * (t.val / 4) + h.val) + d.val; rw [(index_out t).1.2]; omega)
theorem emb4 (t : Fin cfg0.N) (r : Fin 1024) (h : Fin 2) (d : Fin 128) : ((cfg0.win 4).blk t).view.emb (ix2 r (col h d)) = ix2 (row t r) (lane (hd t h) d) :=
  idx2 (by show win0_4.index t 0 * 1024 + 1 * r.val = 1024 * (t.val % 4) + r.val; rw [(index_out t).2.1]; omega)
    (by show win0_4.index t 1 * 256 + 1 * (128 * h.val + d.val) = 128 * (2 * (t.val / 4) + h.val) + d.val; rw [(index_out t).2.2]; omega)
/-- Every element lies in the block of some point. -/
theorem covered (i : S4096x1024.Idx) : ∃ (t : Fin cfg0.N) (r : Fin 1024) (h : Fin 2) (d : Fin 128), ix2 (row t r) (lane (hd t h) d) = i := by
  have hr : (i 0).val < 4096 := (i 0).isLt
  have hc : (i 1).val < 1024 := (i 1).isLt
  refine ⟨⟨4 * ((i 1).val / 256) + (i 0).val / 1024, by show _ < grid0.N; rw [N_0]; omega⟩, ⟨(i 0).val % 1024, by omega⟩, ⟨(i 1).val / 128 % 2, by omega⟩, ⟨(i 1).val % 128, by omega⟩, idx2 ?_ ?_⟩
  · show 1024 * ((4 * ((i 1).val / 256) + (i 0).val / 1024) % 4) + (i 0).val % 1024 = (i 0).val; omega
  · show 128 * (2 * ((4 * ((i 1).val / 256) + (i 0).val / 1024) / 4) + (i 1).val / 128 % 2) + (i 1).val % 128 = (i 1).val; omega

section real
variable (c : Dev nD) (f0 f1 : Arr) (h0 : (m ((c : Thread nD τ).loc main_arg0) : S4096x1024.Idx → EReal) = up f0)
  (h1 : (m ((c : Thread nD τ).loc main_arg1) : S4096x1024.Idx → EReal) = up f1)
include h0 h1

/-- What a point reads, where queries and keys are real numbers. -/
theorem ins (t : Fin cfg0.N) : Ins (fun h => headQK f0 f1 (hd t h)) (fun h => erows (m ((c : Thread nD τ).loc main_arg2) : S4096x1024.Idx → EReal) (hd t h))
    (1024 * (t.val % 4)) (iblk m c 0 t) (iblk m c 1 t) (iblk m c 2 t) where
  q h r d := (iblk0 m c t r h d).trans ((congrFun ((V_q m c).trans h0) _).trans (congrArg ((↑) : ℝ → EReal) (rows_at f0 (hd t h) (row t r) d)))
  k h s d := (iblk1 m c t s h d).trans ((congrFun ((V_k m c).trans h1) _).trans (congrArg ((↑) : ℝ → EReal) (rows_at f1 (hd t h) s d)))
  v h s d := (iblk2 m c t s h d).trans ((congrFun (V_v m c) _).trans (erows_at _ (hd t h) s d))

theorem final3 : (dats m 0 c).arrAt 3 cfg0.N = (earr (attn f0 f1 (m ((c : Thread nD τ).loc main_arg2) : S4096x1024.Idx → EReal)) : Vec Ideal S4096x1024 .bf16) := by
  refine (dats m 0 c).arrAt_eq_of_cover 3 (earr (attn f0 f1 (m ((c : Thread nD τ).loc main_arg2) : S4096x1024.Idx → EReal))) (fun t ht => ?_) fun i => ?_
  · rw [flushed3_A]
    funext j
    obtain ⟨r, h, d, rfl⟩ := lanes j
    rw [View.read_apply, emb3, earr_at]
    exact (run_A (ins m c f0 f1 h0 h1 t) c (grid0.coords t) _ _ _ _ _ _ _ _ _ _ _ _ _ _ (congrArg (1024 * ·) (coords1 t).symm)).1 h r d
  · obtain ⟨t, r, h, d, rfl⟩ := covered i
    exact ⟨t, flush0_3 t, emb3 t r h d ▸ View.emb_mem_set _ _⟩
theorem final4 : (dats m 0 c).arrAt 4 cfg0.N = (earr (left f0 f1) : Vec Ideal S4096x1024 .f32) := by
  refine (dats m 0 c).arrAt_eq_of_cover 4 (earr (left f0 f1)) (fun t ht => ?_) fun i => ?_
  · rw [flushed4_A]
    funext j
    obtain ⟨r, h, d, rfl⟩ := lanes j
    rw [View.read_apply, emb4, earr_at]
    refine ((run_A (ins m c f0 f1 h0 h1 t) c (grid0.coords t) _ _ _ _ _ _ _ _ _ _ _ _ _ _ (congrArg (1024 * ·) (coords1 t).symm)).2 h r d).trans ?_
    exact if_congr (and_iff_right (Nat.zero_le _)) rfl rfl
  · obtain ⟨t, r, h, d, rfl⟩ := covered i
    exact ⟨t, flush0_4 t, emb4 t r h d ▸ View.emb_mem_set _ _⟩
end real

end Cert.SbAttnIdeal.Val

end
-- ==== Proof.SbAttnRef.lean ====
/-
  The reference of the stick-breaking attention, read at an index: per head the scores, the logarithms left beyond a pair, the
  weights, and the values weighted.
-/
module

public import proofs.«01_k».proof.Proof.SbAttnHost
public import proofs.«01_k».proof.Proof.Gen.SbAttnRefIdeal.Read

@[expose] public section

noncomputable section

open Idealize.ShloMosaic Idealize.ShloMosaic.TcCoe Idealize.SL.Sem
open Cert.Common Cert.SbReal

namespace Cert.SbAttnRefIdeal.Val

open Cert.SbAttnRefIdeal Cert.SbAttnRefIdeal.Read

variable (f0 f1 : Arr)

theorem lane_at (f : Arr) (h : Fin 8) (t : Fin 4096) (d : Fin 128) (n : ℕ) (hn : n < 1024) (e : n = 128 * h.val + d.val) :
    up f (ix2 t ⟨n, hn⟩) = (rows f h t.val d : EReal) := by
  subst e
  exact congrArg ((↑) : ℝ → EReal) (rows_at f h t d)
theorem v1_at : IsRows (val_main_v1 (F := Ideal) (up f0)) (rows f0) := fun h t d => by
  pointwise [val_main_v0, val_main_v1]
  exact lane_at f0 h t d _ _ (by omega)
theorem v3_at : IsRows (val_main_v3 (F := Ideal) (up f1)) (rows f1) := fun h t d => by
  pointwise [val_main_v2, val_main_v3]
  exact lane_at f1 h t d _ _ (by omega)
theorem v5_at (x : S4096x1024.Idx → EReal) (h : Fin 8) (s : Fin 4096) (d : Fin 128) : val_main_v5 (F := Ideal) x (ix3 h s d) = erows x h s.val d := by
  pointwise [val_main_v4, val_main_v5]
  refine Eq.trans (congrArg x (idx2 (j := ix2 s (lane h d)) rfl ?_)) (erows_at x h s d)
  show h.val * 128 + d.val = 128 * h.val + d.val
  omega

theorem v6_at : IsPair (val_main_v6 (F := Ideal) (up f0) (up f1)) fun h => (headQK f0 f1 h).Z := fun h t s => by
  pointwise [val_main_v6]
  simp only [v1_at f0 h, v3_at f1 h]
  exact sum_mul_coe _ _
theorem z_at (h : Fin 8) (t s : Fin 4096) : val_main_call0_v0 (F := Ideal) (up f0) (up f1) (ix3 h t s) = ((headQK f0 f1 h).Z t.val s.val : EReal) := by
  pointwise [val_main_v14, val_main_call0_v0]
  rw [v6_at f0 f1, neg_neg]
theorem sp_at : IsPair (val_main_call0_v1 (F := Ideal) (up f0) (up f1)) fun h t s => sp ((headQK f0 f1 h).Z t s) := fun h t s => by
  pointwise [val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1]
  rw [z_at f0 f1]
  exact softplus_coe _
theorem zn_at (h : Fin 8) (t s : Fin 4096) : val_main_call3_v0 (F := Ideal) (up f0) (up f1) (ix3 h t s) = ((-(headQK f0 f1 h).Z t.val s.val : ℝ) : EReal) := by
  pointwise [val_main_call3_v0]
  rw [v6_at f0 f1, EReal.coe_neg]
theorem spn_at : IsPair (val_main_call3_v1 (F := Ideal) (up f0) (up f1)) fun h t s => sp (-(headQK f0 f1 h).Z t s) := fun h t s => by
  pointwise [val_main_call3_call0_cst, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_v1]
  rw [zn_at f0 f1]
  exact softplus_coe _

theorem v16_at : IsPair (val_main_v16 (F := Ideal) (up f0) (up f1)) fun h => (headQK f0 f1 h).LN := fun h t s => by
  pointwise [val_main_v7, val_main_v8, val_main_v9, val_main_v10, val_main_v11, val_main_v12, val_main_v13, val_main_call1_v1, val_main_cst, val_main_call1_v0, val_main_call1_v2, val_main_v15, val_main_v16]
  rw [sp_at f0 f1, if_bit', ← EReal.coe_neg]
  exact (congrArg (fun x : EReal => if s.val < t.val then _ else x) (zero_word : Ideal.ofBits .f32 0#32 = ((0 : ℝ) : EReal))).trans (if_coe (s.val < t.val) _ 0)
theorem v18_at : IsPair (val_main_v18 (F := Ideal) (up f0) (up f1)) fun h => (headQK f0 f1 h).SUF := fun h t s => by
  pointwise [val_main_v18]
  unfold val_main_v17 Host.reduceWindowAdd
  rw [Ideal.hostReduceWindowAdd_def, show val_main_call2_v0 (F := Ideal) (Shape.Idx.first Gen.h_S_) = (0 : EReal) by pointwise [val_main_call2_cst, val_main_call2_v0]]
  refine (congrArg₂ (fun a b : EReal => a - b) (window_from (A := 8) (N := 4096) (M := 4096) 4095 _ _ h t ((headQK f0 f1 h).LN t.val) (fun x => v16_at f0 f1 h t x) s) (v16_at f0 f1 h t s)).trans ?_
  rw [← EReal.coe_sub, suf_eq _ _ _ s.isLt]
theorem v22_at : IsPair (val_main_v22 (F := Ideal) (up f0) (up f1)) fun h => (headQK f0 f1 h).W := fun h t s => by
  pointwise [val_main_v7, val_main_v8, val_main_v9, val_main_v10, val_main_v11, val_main_v12, val_main_v13, val_main_v19, val_main_v20, val_main_cst_0, val_main_call4_v0, val_main_call4_v1, val_main_call4_v2, val_main_v21, val_main_v22]
  rw [spn_at f0 f1, v18_at f0 f1, if_bit', ← EReal.coe_neg, ← EReal.coe_add]
  unfold Head.W
  by_cases hs : s.val < t.val
  · rw [if_pos hs, if_pos hs, Ideal.exp_coe]
    beta_reduce
    rw [sp_neg]
    exact congrArg (fun x : ℝ => ((Real.exp x : ℝ) : EReal)) (by ring)
  · rw [if_neg hs, if_neg hs]
    show Ideal.exp (Ideal.ofBits .f32 4286578688#32) = _
    rw [bot_word, Ideal.exp_bot]
    rfl

theorem head_lane (h : Fin 8) (d : Fin 128) (p : (lane h d).val / 128 < 8) (p' : (lane h d).val % 128 < 128) :
    (⟨(lane h d).val / 128, p⟩ : Fin 8) = h ∧ (⟨(lane h d).val % 128, p'⟩ : Fin 128) = d :=
  ⟨Fin.ext (by show (128 * h.val + d.val) / 128 = h.val; omega), Fin.ext (by show (128 * h.val + d.val) % 128 = d.val; omega)⟩

/-- The values weighted. -/
theorem v30_at (x : S4096x1024.Idx → EReal) (h : Fin 8) (t : Fin 4096) (d : Fin 128) :
    val_main_v30 (F := Ideal) (up f0) (up f1) x (ix2 t (lane h d)) = attn f0 f1 x h t.val d := by
  pointwise [val_main_v23, val_main_v24, val_main_v25, val_main_v30]
  rw [(head_lane h d (by have := (lane h d).isLt; omega) (by omega)).1, (head_lane h d (by have := (lane h d).isLt; omega) (by omega)).2]
  simp only [v22_at f0 f1 h, v5_at x h]
  unfold attn
  rw [← Finset.range_eq_Ico, Finset.sum_range]
/-- The logarithms left beyond each block, by lane. -/
theorem v28_at (h : Fin 8) (t : Fin 4096) (l : Fin 128) :
    val_main_v28 (F := Ideal) (up f0) (up f1) (ix3 t h l) = left f0 f1 h t.val l := by
  unfold left
  by_cases hl : l.val < 16
  · rw [if_pos hl]
    refine Eq.trans ?_ (v18_at f0 f1 h t ⟨256 * l.val + 255, by omega⟩)
    pointwise [val_main_v26, val_main_v27, val_main_v28]
    rw [dif_pos hl]
    exact congrArg (val_main_v18 (F := Ideal) (up f0) (up f1)) (idx3 rfl rfl (by show 255 + 256 * l.val = 256 * l.val + 255; omega))
  · rw [if_neg hl]
    pointwise [val_main_v26, val_main_v27, val_main_c, val_main_call5_v0, val_main_v28]
    rw [dif_neg hl]
    show (((0#32 : BitVec 32).toInt : ℝ) : EReal) = 0
    simp
theorem v29_at (h : Fin 8) (t : Fin 4096) (l : Fin 128) :
    val_main_v29 (F := Ideal) (up f0) (up f1) (ix2 t (lane h l)) = left f0 f1 h t.val l := by
  pointwise [val_main_v29]
  rw [(head_lane h l (by have := (lane h l).isLt; omega) (by omega)).1, (head_lane h l (by have := (lane h l).isLt; omega) (by omega)).2]
  exact v28_at f0 f1 h t l

end Cert.SbAttnRefIdeal.Val

end
-- ==== Proof.SbAttn.lean ====
/-
  The stick-breaking attention's forward call and the attention written plainly end with the same output and the same logarithms.
-/
module

public import proofs.«01_k».proof.Proof.SbAttnAcc
public import proofs.«01_k».proof.Proof.SbAttnRef
public import proofs.«01_k».proof.Proof.Gen.SbAttnIdeal.Value
public import proofs.«01_k».proof.Proof.Gen.SbAttnRefIdeal.Run
public import proofs.«01_k».proof.Proof.Gen.SbAttnRefIdeal.Read
public import proofs.«01_k».proof.Defs

@[expose] public section

noncomputable section

open Idealize.ShloMosaic Idealize.ShloMosaic.TcCoe Idealize.SL.Sem
open Cert.Common Cert.SbReal

namespace Cert.Proof.SbAttn

open Cert.SbAttnIdeal Cert.SbAttnIdeal.Gen Cert.SbAttnIdeal.Val

variable (m : (ℓ : Loc nD τ sig) → Buf (Elt Ideal) ℓ)

/-- Queries and keys as real numbers. -/
def fq (c : Dev nD) : Arr := fun i => ((m ((c : Thread nD τ).loc main_arg0) : S4096x1024.Idx → EReal) i).toReal
def fk (c : Dev nD) : Arr := fun i => ((m ((c : Thread nD τ).loc main_arg1) : S4096x1024.Idx → EReal) i).toReal
/-- The values as they are. -/
def xv (c : Dev nD) : S4096x1024.Idx → EReal := (m ((c : Thread nD τ).loc main_arg2) : S4096x1024.Idx → EReal)

theorem toReal_of (x : S4096x1024.Idx → EReal) (h : ∃ f : S4096x1024.Idx → ℝ, x = fun i => (f i : EReal)) : x = up fun i => (x i).toReal := by
  obtain ⟨f, rfl⟩ := h
  funext i
  exact congrArg ((↑) : ℝ → EReal) (EReal.toReal_coe _).symm

/-- Finite queries and keys are real ones. -/
theorem reals [Cert.Pre_finite_sbf.Facts] (h : Cert.Pre_SbAttnIdeal_finite_sbf m) (c : Dev nD) :
    (m ((c : Thread nD τ).loc main_arg0) : S4096x1024.Idx → EReal) = up (fq m c) ∧ (m ((c : Thread nD τ).loc main_arg1) : S4096x1024.Idx → EReal) = up (fk m c) := by
  obtain ⟨h0, h1⟩ := h c
  exact ⟨toReal_of _ (reals_of_lt _ _ _ h0), toReal_of _ (reals_of_lt _ _ _ h1)⟩

/-- The reference writes no argument and awaits nothing. -/
theorem frame_ref : Cert.quiescent_SbAttnRefIdeal := fun m ρ _ =>
  (θ_run Cert.SbAttnRefIdeal.defs _ _).mono (fun r h => ⟨fun c => (h c).2.2,
      Idealize.ShloMosaic.sem_eq_zero_of_no_sems (by decide) r.2⟩)
    (Cert.SbAttnRefIdeal.Value.run (F := Ideal) m ρ)

/-- Both programs end with the values weighted and the logarithms left beyond each block of keys. -/
theorem algebraic [Cert.Pre_finite_sbf.Facts] : Cert.algebraic_SbAttnIdeal_SbAttnRefIdeal_pre_finite_sbf := by
  intro m ρ m' ρ' hpre hagree
  refine ⟨fun c => earr (attn (fq m c) (fk m c) (xv m c)), fun c => earr (left (fq m c) (fk m c)), ?_, ?_⟩
  · refine (θ_run Cert.SbAttnIdeal.defs _ _).mono (fun r h c => ?_) (Cert.SbAttnIdeal.Value.run_blocks (F := Ideal) m ρ)
    obtain ⟨h3, h4, ha⟩ := h c
    obtain ⟨e0, e1⟩ := reals m hpre c
    exact ⟨h3.trans (final3 m c _ _ e0 e1), h4.trans (final4 m c _ _ e0 e1), ha⟩
  · refine (θ_run Cert.SbAttnRefIdeal.defs _ _).mono (fun r h c => ?_) (Cert.SbAttnRefIdeal.Value.run (F := Ideal) m' ρ')
    obtain ⟨h3, h4, ha⟩ := h c
    obtain ⟨a0, a1, a2⟩ := hagree c
    obtain ⟨e0, e1⟩ := reals m hpre c
    refine ⟨(h3.trans (Cert.SbAttnRefIdeal.Read.val_main_v30_eq _ _)).trans ?_, (h4.trans (Cert.SbAttnRefIdeal.Read.val_main_v29_eq _ _)).trans ?_, ha⟩
    · rw [a0, a1, a2]
      refine Eq.trans ?_ (earr_of _ _ (Cert.SbAttnRefIdeal.Val.v30_at (fq m c) (fk m c) (xv m c)))
      exact congr (congrArg₂ (Cert.SbAttnRefIdeal.Read.val_main_v30 (F := Ideal)) e0 e1) rfl
    · rw [a0, a1]
      refine Eq.trans ?_ (earr_of _ _ (Cert.SbAttnRefIdeal.Val.v29_at (fq m c) (fk m c)))
      exact congrArg₂ (Cert.SbAttnRefIdeal.Read.val_main_v29 (F := Ideal)) e0 e1

end Cert.Proof.SbAttn

end
-- ==== Proof.Conv.lean ====
/-
  The convolution's gradient: the reference writes no argument and awaits nothing.
-/
module

public import proofs.«01_k».proof.Proof.Gen.ConvRefIdeal.Run
public import proofs.«01_k».proof.Defs

@[expose] public section

noncomputable section

open Idealize.ShloMosaic Idealize.ShloMosaic.TcCoe Idealize.SL.Sem

namespace Cert.Proof.Conv

theorem frame_ref : Cert.quiescent_ConvRefIdeal := fun m ρ _ =>
  (θ_run Cert.ConvRefIdeal.defs _ _).mono (fun r h => ⟨fun c => (h c).2.2,
      Idealize.ShloMosaic.sem_eq_zero_of_no_sems (by decide) r.2⟩)
    (Cert.ConvRefIdeal.Value.run (F := Ideal) m ρ)

end Cert.Proof.Conv

end
-- ==== Proof.RmsFwd.lean ====
/-
  The root-mean-square norm of the trunk, 512 rows at a grid point: every element is `x · rsqrt (mean x² + eps) · g`
  in kernel and reference.
-/
module

public import proofs.«01_k».proof.Defs
public import proofs.«01_k».proof.Proof.Gen.RmsFwdIdeal.Value
public import proofs.«01_k».proof.Proof.Gen.RmsFwdRefIdeal.Read
public import proofs.«01_k».proof.Proof.Rms
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Common Cert.Rms

namespace Cert.RmsFwdIdeal.Val

open Cert.RmsFwdIdeal Cert.RmsFwdIdeal.Gen Cert.RmsFwdIdeal.Value

/-- The normed array. -/
def normed (x : S4096x1024.Idx → EReal) (g : S1024.Idx → EReal) (i : S4096x1024.Idx) : EReal :=
  x i * rinv (Ideal.ofBits .f32 0x358637BD#32) (Ideal.ofBits .f32 0x44800000#32) (fun l : Fin 1024 => x (ix2 (i 0) l)) * g (ix1 (i 1))

variable (m : (ℓ : Loc nD τ sig) → Buf (Elt Ideal) ℓ) (c : Dev nD) (t : Fin grid0.N)

abbrev xs : S4096x1024.Idx → EReal := m ((c : Thread nD τ).loc main_arg0)
abbrev gs : S1024.Idx → EReal := m ((c : Thread nD τ).loc main_arg1)

/-- Row `512 t + r`. -/
def row (r : Fin 512) : Fin 4096 :=
  ⟨512 * t.val + r.val, by have h : t.val < 8 := N_0 ▸ t.isLt; omega⟩

theorem index_eq : ∀ t : Fin grid0.N, (win0_0.index t 0 = t.val ∧ win0_0.index t 1 = 0)
    ∧ (win0_1.index t 0 = 0 ∧ win0_1.index t 1 = 0) ∧ win0_2.index t 0 = t.val ∧ win0_2.index t 1 = 0 := by
  decide +kernel

theorem iblk0 (r : Fin 512) (l : Fin 1024) :
    iblk m c 0 t (ix2 r l) = xs m c (ix2 (row t r) l) := by
  unfold iblk
  rw [View.read_apply]
  show V m c main_arg0 _ = _
  rw [V_main_arg0]
  refine congrArg (xs m c) (idx2 ?_ ?_)
  · show win0_0.index t 0 * 512 + 1 * r.val = 512 * t.val + r.val; rw [(index_eq t).1.1]; omega
  · show win0_0.index t 1 * 1024 + 1 * l.val = l.val; rw [(index_eq t).1.2]; omega

theorem iblk1 (l : Fin 1024) : iblk m c 1 t (ix2 0 l) = gs m c (ix1 l) := by
  unfold iblk
  rw [View.read_apply]
  have e : V m c main_v0 (ix2 0 l) = gs m c (ix1 l) := by
    have e' : V m c main_v0 = (shapeCast S1x1024 (gs m c) shapeCasts_S1024_S1x1024 : Vec Ideal S1x1024 .f32) := by
      simp only [V, hostOps0]
      after_results
      rfl
    rw [e']
    pointwise []
  refine Eq.trans (congrArg (V m c main_v0) (idx2 (j := ix2 0 l) ?_ ?_)) e
  · show win0_1.index t 0 * 1 + 1 * 0 = 0; rw [(index_eq t).2.1.1]
  · show win0_1.index t 1 * 1024 + 1 * l.val = l.val; rw [(index_eq t).2.1.2]; omega

theorem emb2 (t : Fin cfg0.N) (r : Fin 512) (l : Fin 1024) :
    ((cfg0.win 2).blk t).view.emb (ix2 r l) = (ix2 (row t r) l : S4096x1024.Idx) := by
  refine idx2 ?_ ?_
  · show win0_2.index t 0 * 512 + 1 * r.val = 512 * t.val + r.val; rw [(index_eq t).2.2.1]; omega
  · show win0_2.index t 1 * 1024 + 1 * l.val = l.val; rw [(index_eq t).2.2.2]; omega

theorem out2 (x : Vec Ideal S512x1024 .f32) (g : Vec Ideal S1x1024 .f32) (r : Fin 512) (l : Fin 1024) :
    out0_2 (F := Ideal) x g (ix2 r l) = (x (ix2 r l) * rinv (Ideal.ofBits .f32 0x358637BD#32)
      (Ideal.ofBits .f32 0x44800000#32) (fun j => x (ix2 r j)) * g (ix2 0 l) : EReal) := by
  unfold out0_2
  rw [View.canon_unit_zero hz2, View.ld_unit_zero (S := S512x1024) hz2, View.ld_unit_zero (S := S1x1024) hz2]
  pointwise [k0_pay1]
  rfl

theorem final2 : (dats m 0 c).arrAt 2 cfg0.N = normed (xs m c) (gs m c) := by
  refine (dats m 0 c).arrAt_eq_of_cover 2 (normed (xs m c) (gs m c)) (fun t _ => ?_) fun i => ?_
  · rw [flushed2]
    funext j
    obtain ⟨r, l, rfl⟩ := ex_ix2 j
    rw [View.read_apply, emb2]
    show out0_2 (F := Ideal) _ _ (ix2 r l) = normed _ _ _
    rw [out2, iblk0, iblk1]
    simp only [iblk0]
    rfl
  · have h : (i 0).val < 4096 := (i 0).isLt
    have e : (ix2 (row ⟨(i 0).val / 512, by rw [N_0]; omega⟩ ⟨(i 0).val % 512, by omega⟩) (i 1) : S4096x1024.Idx) = i :=
      idx2 (by show 512 * ((i 0).val / 512) + (i 0).val % 512 = (i 0).val; omega) rfl
    exact ⟨_, flush0_2 _, e ▸ emb2 _ _ _ ▸ View.emb_mem_set _ _⟩

end Cert.RmsFwdIdeal.Val

namespace Cert.RmsFwdRefIdeal.Val

open Cert.RmsFwdRefIdeal Cert.RmsFwdRefIdeal.Read

theorem result (x : S4096x1024.Idx → EReal) (g : S1024.Idx → EReal) :
    val_main_v13 (F := Ideal) x g = Cert.RmsFwdIdeal.Val.normed x g := by
  funext i
  obtain ⟨r, l, rfl⟩ := ex_ix2 i
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1]
  rfl

end Cert.RmsFwdRefIdeal.Val

namespace Cert.Proof.RmsFwd

open Cert.RmsFwdIdeal.Val

theorem frame_ref : Cert.quiescent_RmsFwdRefIdeal := fun m ρ _ =>
  (θ_run Cert.RmsFwdRefIdeal.defs _ _).mono (fun r h => ⟨fun c => (h c).2,
      Idealize.ShloMosaic.sem_eq_zero_of_no_sems (by decide) r.2⟩)
    (Cert.RmsFwdRefIdeal.Value.run (F := Ideal) m ρ)

theorem algebraic : Cert.algebraic_RmsFwdIdeal_RmsFwdRefIdeal := by
  intro m ρ m' ρ' _ hagree
  refine ⟨fun c => normed (xs m c) (gs m c), ?_, ?_⟩
  · refine (θ_run Cert.RmsFwdIdeal.defs _ _).mono (fun r h c => ?_) (Cert.RmsFwdIdeal.Value.run_blocks (F := Ideal) m ρ)
    exact ⟨(h c).1.trans (final2 m c), (h c).2⟩
  · refine (θ_run Cert.RmsFwdRefIdeal.defs _ _).mono (fun r h c => ?_) (Cert.RmsFwdRefIdeal.Value.run (F := Ideal) m' ρ')
    obtain ⟨e0, e1⟩ := hagree c
    refine ⟨(h c).1.trans ?_, (h c).2⟩
    rw [Cert.RmsFwdRefIdeal.Read.val_main_v13_eq, e0, e1]
    exact Cert.RmsFwdRefIdeal.Val.result _ _

end Cert.Proof.RmsFwd
-- ==== Proof.SwiFwd.lean ====
/-
  SwiGLU's forward call: a block of 1024 rows and 256 columns of the gate and of the value at a grid point, both products by
  the same weight, and `silu(gate) · value`. The reference is one product and its two halves.
-/
module

public import proofs.«01_k».proof.Defs
public import proofs.«01_k».proof.Proof.Gen.SwiFwdIdeal.Value
public import proofs.«01_k».proof.Proof.Gen.SwiFwdRefIdeal.Read
public import proofs.«01_k».proof.Proof.Silu
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Common Cert.Silu

namespace Cert.SwiFwdIdeal.Val

open Cert.SwiFwdIdeal Cert.SwiFwdIdeal.Gen Cert.SwiFwdIdeal.Value

section results
variable (x : S4096x1024.Idx → EReal) (w : S1024x5632.Idx → EReal)

/-- The product, column `n` of row `r`. -/
def prod (r : Fin 4096) (n : Fin 5632) : EReal := ∑ k : Fin 1024, x (ix2 r k) * w (ix2 k n)
def gate (i : S4096x2816.Idx) : EReal := prod x w (i 0) ⟨(i 1).val, by have : (i 1).val < 2816 := (i 1).isLt; omega⟩
def value (i : S4096x2816.Idx) : EReal := prod x w (i 0) ⟨2816 + (i 1).val, by have : (i 1).val < 2816 := (i 1).isLt; omega⟩
def act (i : S4096x2816.Idx) : EReal := silu (gate x w i) * value x w i

end results

variable (m : (ℓ : Loc nD τ sig) → Buf (Elt Ideal) ℓ) (c : Dev nD) (t : Fin grid0.N)

abbrev xs : S4096x1024.Idx → EReal := m ((c : Thread nD τ).loc main_arg0)
abbrev ws : S1024x5632.Idx → EReal := m ((c : Thread nD τ).loc main_arg1)

theorem lt_N : t.val < 44 := N_0 ▸ t.isLt

/-- The place in the results of an element of the block of point `t`. -/
def at2 (r : Fin 1024) (l : Fin 256) : S4096x2816.Idx :=
  ix2 (n0 := 4096) (n1 := 2816) ⟨1024 * (t.val / 11) + r.val, by have := lt_N t; omega⟩ ⟨256 * (t.val % 11) + l.val, by omega⟩

theorem index_eq : ∀ t : Fin grid0.N, (win0_0.index t 0 = t.val / 11 ∧ win0_0.index t 1 = 0)
    ∧ (win0_1.index t 0 = t.val % 11 ∧ win0_1.index t 1 = 0) ∧ (win0_2.index t 0 = t.val % 11 + 11 ∧ win0_2.index t 1 = 0)
    ∧ (win0_3.index t 0 = t.val / 11 ∧ win0_3.index t 1 = t.val % 11)
    ∧ (win0_4.index t 0 = t.val / 11 ∧ win0_4.index t 1 = t.val % 11)
    ∧ win0_5.index t 0 = t.val / 11 ∧ win0_5.index t 1 = t.val % 11 := by
  decide +kernel

theorem V_v0 : V m c main_v0 = xs m c := by dsimp only [V, hostOps0]; after_results; rfl
theorem V_v2 (n : Fin 5632) (k : Fin 1024) : V m c main_v2 (ix2 n k) = ws m c (ix2 k n) := by
  have e : V m c main_v2 = (truncf .bf16 (transpose S5632x1024 [1, 0] (ws m c) transposes_S1024x5632_S5632x1024_1_0
      : FVec Ideal S5632x1024 .f32) bitsLt_bf16_f32 : FVec Ideal S5632x1024 .bf16) := by
    dsimp only [V, hostOps0]; after_results
  rw [e]
  pointwise []

theorem iblk0 (r : Fin 1024) (l : Fin 256) (k : Fin 1024) :
    iblk m c 0 t (ix2 r k) = xs m c (ix2 (at2 t r l 0) k) := by
  unfold iblk
  rw [View.read_apply]
  show V m c main_v0 _ = _
  rw [V_v0]
  refine congrArg (xs m c) (idx2 ?_ ?_)
  · show win0_0.index t 0 * 1024 + 1 * r.val = 1024 * (t.val / 11) + r.val; rw [(index_eq t).1.1]; omega
  · show win0_0.index t 1 * 1024 + 1 * k.val = k.val; rw [(index_eq t).1.2]; omega

theorem iblk1 (l : Fin 256) (k : Fin 1024) :
    iblk m c 1 t (ix2 l k) = ws m c (ix2 k ⟨256 * (t.val % 11) + l.val, by omega⟩) := by
  unfold iblk
  rw [View.read_apply]
  refine Eq.trans (congrArg (V m c main_v2) (idx2 (j := ix2 _ k) ?_ ?_)) (V_v2 m c _ k)
  · show win0_1.index t 0 * 256 + 1 * l.val = 256 * (t.val % 11) + l.val; rw [(index_eq t).2.1.1]; omega
  · show win0_1.index t 1 * 1024 + 1 * k.val = k.val; rw [(index_eq t).2.1.2]; omega

theorem iblk2 (l : Fin 256) (k : Fin 1024) :
    iblk m c 2 t (ix2 l k) = ws m c (ix2 k ⟨2816 + (256 * (t.val % 11) + l.val), by omega⟩) := by
  unfold iblk
  rw [View.read_apply]
  refine Eq.trans (congrArg (V m c main_v2) (idx2 (j := ix2 _ k) ?_ ?_)) (V_v2 m c _ k)
  · show win0_2.index t 0 * 256 + 1 * l.val = 2816 + (256 * (t.val % 11) + l.val); rw [(index_eq t).2.2.1.1]; omega
  · show win0_2.index t 1 * 1024 + 1 * k.val = k.val; rw [(index_eq t).2.2.1.2]; omega

theorem emb3 (t : Fin cfg0.N) (r : Fin 1024) (l : Fin 256) : ((cfg0.win 3).blk t).view.emb (ix2 r l) = at2 t r l := by
  refine idx2 ?_ ?_
  · show win0_3.index t 0 * 1024 + 1 * r.val = 1024 * (t.val / 11) + r.val; rw [(index_eq t).2.2.2.1.1]; omega
  · show win0_3.index t 1 * 256 + 1 * l.val = 256 * (t.val % 11) + l.val; rw [(index_eq t).2.2.2.1.2]; omega
theorem emb4 (t : Fin cfg0.N) (r : Fin 1024) (l : Fin 256) : ((cfg0.win 4).blk t).view.emb (ix2 r l) = at2 t r l := by
  refine idx2 ?_ ?_
  · show win0_4.index t 0 * 1024 + 1 * r.val = 1024 * (t.val / 11) + r.val; rw [(index_eq t).2.2.2.2.1.1]; omega
  · show win0_4.index t 1 * 256 + 1 * l.val = 256 * (t.val % 11) + l.val; rw [(index_eq t).2.2.2.2.1.2]; omega
theorem emb5 (t : Fin cfg0.N) (r : Fin 1024) (l : Fin 256) : ((cfg0.win 5).blk t).view.emb (ix2 r l) = at2 t r l := by
  refine idx2 ?_ ?_
  · show win0_5.index t 0 * 1024 + 1 * r.val = 1024 * (t.val / 11) + r.val; rw [(index_eq t).2.2.2.2.2.1]; omega
  · show win0_5.index t 1 * 256 + 1 * l.val = 256 * (t.val % 11) + l.val; rw [(index_eq t).2.2.2.2.2.2]; omega

section pay
variable (x : Vec Ideal S1024x1024 .bf16) (v w : Vec Ideal S256x1024 .bf16) (r : Fin 1024) (l : Fin 256)

theorem out4 : out0_4 (F := Ideal) x v w (ix2 r l) = (∑ k : Fin 1024, x (ix2 r k) * v (ix2 l k) : EReal) := by
  unfold out0_4
  rw [View.canon_unit_zero hz2, View.ld_unit_zero (S := S1024x1024) hz2, View.ld_unit_zero (S := S256x1024) hz2]
  pointwise [k0_pay5, k0_pay2, k0_pay1]
theorem out5 : out0_5 (F := Ideal) x v w (ix2 r l) = (∑ k : Fin 1024, x (ix2 r k) * w (ix2 l k) : EReal) := by
  unfold out0_5
  rw [View.canon_unit_zero hz2, View.ld_unit_zero (S := S1024x1024) hz2, View.ld_unit_zero (S := S256x1024) hz2]
  pointwise [k0_pay6, k0_pay3, k0_pay1]
theorem out3 : out0_3 (F := Ideal) x v w (ix2 r l)
    = (silu (∑ k : Fin 1024, x (ix2 r k) * v (ix2 l k)) * ∑ k : Fin 1024, x (ix2 r k) * w (ix2 l k) : EReal) := by
  unfold out0_3
  rw [View.canon_unit_zero hz2, View.ld_unit_zero (S := S1024x1024) hz2, View.ld_unit_zero (S := S256x1024) hz2,
    View.ld_unit_zero (S := S256x1024) hz2]
  pointwise [k0_pay4, k0_pay2, k0_pay3, k0_pay1]
  rfl

end pay

/-- Every place lies in one point's block. -/
theorem covered (i : S4096x2816.Idx) : ∃ (t : Fin grid0.N) (r : Fin 1024) (l : Fin 256), at2 t r l = i := by
  have h : (i 0).val < 4096 := (i 0).isLt
  have h' : (i 1).val < 2816 := (i 1).isLt
  refine ⟨⟨11 * ((i 0).val / 1024) + (i 1).val / 256, by rw [N_0]; omega⟩, ⟨(i 0).val % 1024, by omega⟩,
    ⟨(i 1).val % 256, by omega⟩, idx2 ?_ ?_⟩
  · show 1024 * ((11 * ((i 0).val / 1024) + (i 1).val / 256) / 11) + (i 0).val % 1024 = (i 0).val; omega
  · show 256 * ((11 * ((i 0).val / 1024) + (i 1).val / 256) % 11) + (i 1).val % 256 = (i 1).val; omega

theorem final3 : (dats m 0 c).arrAt 3 cfg0.N = act (xs m c) (ws m c) := by
  refine (dats m 0 c).arrAt_eq_of_cover 3 (act (xs m c) (ws m c)) (fun t _ => ?_) fun i => ?_
  · rw [flushed3]
    funext j
    obtain ⟨r, l, rfl⟩ := ex_ix2 j
    rw [View.read_apply, emb3]
    show out0_3 (F := Ideal) _ _ _ (ix2 r l) = _
    rw [out3]
    simp only [iblk0 m c t r l, iblk1, iblk2]
    rfl
  · obtain ⟨t, r, l, rfl⟩ := covered i
    exact ⟨t, flush0_3 t, emb3 t r l ▸ View.emb_mem_set _ _⟩

theorem final4 : (dats m 0 c).arrAt 4 cfg0.N = gate (xs m c) (ws m c) := by
  refine (dats m 0 c).arrAt_eq_of_cover 4 (gate (xs m c) (ws m c)) (fun t _ => ?_) fun i => ?_
  · rw [flushed4]
    funext j
    obtain ⟨r, l, rfl⟩ := ex_ix2 j
    rw [View.read_apply, emb4]
    show out0_4 (F := Ideal) _ _ _ (ix2 r l) = _
    rw [out4]
    simp only [iblk0 m c t r l, iblk1]
    rfl
  · obtain ⟨t, r, l, rfl⟩ := covered i
    exact ⟨t, flush0_4 t, emb4 t r l ▸ View.emb_mem_set _ _⟩

theorem final5 : (dats m 0 c).arrAt 5 cfg0.N = value (xs m c) (ws m c) := by
  refine (dats m 0 c).arrAt_eq_of_cover 5 (value (xs m c) (ws m c)) (fun t _ => ?_) fun i => ?_
  · rw [flushed5]
    funext j
    obtain ⟨r, l, rfl⟩ := ex_ix2 j
    rw [View.read_apply, emb5]
    show out0_5 (F := Ideal) _ _ _ (ix2 r l) = _
    rw [out5]
    simp only [iblk0 m c t r l, iblk2]
    rfl
  · obtain ⟨t, r, l, rfl⟩ := covered i
    exact ⟨t, flush0_5 t, emb5 t r l ▸ View.emb_mem_set _ _⟩

end Cert.SwiFwdIdeal.Val

namespace Cert.SwiFwdRefIdeal.Val

open Cert.SwiFwdRefIdeal Cert.SwiFwdRefIdeal.Read Cert.SwiFwdIdeal.Val

variable (x : S4096x1024.Idx → EReal) (w : S1024x5632.Idx → EReal) (r : Fin 4096) (l : Fin 2816)

theorem v1_at : val_main_v1 (F := Ideal) x w (ix2 r l) = gate x w (ix2 r l) := by
  pointwise [val_main_v1, val_main_v0]
  rfl
theorem v2_at : val_main_v2 (F := Ideal) x w (ix2 r l) = value x w (ix2 r l) := by
  pointwise [val_main_v2, val_main_v0]
  rfl
theorem v5_at : val_main_v5 (F := Ideal) x w (ix2 r l) = act x w (ix2 r l) := by
  pointwise [val_main_v5, val_main_v4, val_main_v3, val_main_call0_v5, val_main_call0_v4, val_main_call0_v3, val_main_call0_v2,
    val_main_call0_v1, val_main_call0_v0, val_main_call0_cst, val_main_call0_cst_0]
  rw [v1_at, v2_at]
  rfl

end Cert.SwiFwdRefIdeal.Val

namespace Cert.Proof.SwiFwd

open Cert.SwiFwdIdeal.Val

theorem frame_ref : Cert.quiescent_SwiFwdRefIdeal := fun m ρ _ =>
  (θ_run Cert.SwiFwdRefIdeal.defs _ _).mono (fun r h => ⟨fun c => (h c).2.2.2,
      Idealize.ShloMosaic.sem_eq_zero_of_no_sems (by decide) r.2⟩)
    (Cert.SwiFwdRefIdeal.Value.run (F := Ideal) m ρ)

theorem algebraic : Cert.algebraic_SwiFwdIdeal_SwiFwdRefIdeal := by
  intro m ρ m' ρ' _ hagree
  refine ⟨fun c => act (xs m c) (ws m c), fun c => gate (xs m c) (ws m c), fun c => value (xs m c) (ws m c), ?_, ?_⟩
  · refine (θ_run Cert.SwiFwdIdeal.defs _ _).mono (fun r h c => ?_) (Cert.SwiFwdIdeal.Value.run_blocks (F := Ideal) m ρ)
    obtain ⟨h3, h4, h5, ha⟩ := h c
    exact ⟨h3.trans (final3 m c), h4.trans (final4 m c), h5.trans (final5 m c), ha⟩
  · refine (θ_run Cert.SwiFwdRefIdeal.defs _ _).mono (fun r h c => ?_) (Cert.SwiFwdRefIdeal.Value.run (F := Ideal) m' ρ')
    obtain ⟨h3, h4, h5, ha⟩ := h c
    obtain ⟨e0, e1⟩ := hagree c
    refine ⟨h3.trans ?_, h4.trans ?_, h5.trans ?_, ha⟩
    · rw [Cert.SwiFwdRefIdeal.Read.val_main_v5_eq, e0, e1]
      funext i
      rw [eq_ix2 i]
      exact Cert.SwiFwdRefIdeal.Val.v5_at _ _ _ _
    · rw [Cert.SwiFwdRefIdeal.Read.val_main_v6_eq, e0, e1]
      funext i
      rw [eq_ix2 i]
      exact Cert.SwiFwdRefIdeal.Val.v1_at _ _ _ _
    · rw [Cert.SwiFwdRefIdeal.Read.val_main_v7_eq, e0, e1]
      funext i
      rw [eq_ix2 i]
      exact Cert.SwiFwdRefIdeal.Val.v2_at _ _ _ _

end Cert.Proof.SwiFwd
-- ==== Proof.GatesFwd.lean ====
/-
  The delta rule's gates: in the first eight columns the decay `-exp a · softplus (x + b)`, in the next eight the write
  strength `sigmoid x`, zero in the others that fill the tile.
-/
module

public import proofs.«01_k».proof.Defs
public import proofs.«01_k».proof.Proof.Gen.GatesFwdIdeal.Value
public import proofs.«01_k».proof.Proof.Gen.GatesFwdRefIdeal.Read
public import proofs.«01_k».proof.Proof.Common
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Common

namespace Cert.GatesFwdIdeal.Val

open Cert.GatesFwdIdeal Cert.GatesFwdIdeal.Gen Cert.GatesFwdIdeal.Value

/-- `softplus`, as both programs compute it. -/
def softplus (s : EReal) : EReal := max s 0 + Ideal.log1p (Ideal.exp (-max s (-s)))

/-- The two gates of an array of logits. -/
def gateAt (x : S4096x16.Idx → EReal) (a b : S8.Idx → EReal) (r : Fin 4096) (l : Fin 128) : EReal :=
  if h : l.val < 8 then -Ideal.exp (a (ix1 ⟨_, h⟩)) * softplus (x (ix2 r ⟨l.val, by omega⟩) + b (ix1 ⟨_, h⟩))
  else if h : l.val < 16 then Ideal.logistic (x (ix2 r ⟨_, h⟩)) else 0
def gates (x : S4096x16.Idx → EReal) (a b : S8.Idx → EReal) (i : S4096x128.Idx) : EReal := gateAt x a b (i 0) (i 1)

variable (m : (ℓ : Loc nD τ sig) → Buf (Elt Ideal) ℓ) (c : Dev nD) (t : Fin grid0.N)

abbrev xs : S4096x16.Idx → EReal := m ((c : Thread nD τ).loc main_arg0)
abbrev al : S8.Idx → EReal := m ((c : Thread nD τ).loc main_arg1)
abbrev dt : S8.Idx → EReal := m ((c : Thread nD τ).loc main_arg2)

theorem zero_word : FloatOps.sitofp (F := Ideal) .f32 0#32 = (0 : EReal) := by
  show (((0#32 : BitVec 32).toInt : ℝ) : EReal) = 0
  simp

theorem V_v0 (r : Fin 4096) (l : Fin 128) :
    V m c main_v0 (ix2 r l) = if h : l.val < 16 then xs m c (ix2 r ⟨_, h⟩) else 0 := by
  have e : V m c main_v0 = (pad S4096x128 ![0, 0] ![0, 112] ![0, 0] (xs m c) (sitofp (F := Ideal) .f32 (constantI S_ 32 0#32))
      pads_S4096x16_S4096x128_000_01120 h_S_ : Vec Ideal S4096x128 .f32) := by
    simp only [V, hostOps0, hostOps0_1, hostOps0_2, hostOps0_3, hostOps0_4, hostOps0_5, List.flatten_cons, List.flatten_nil,
      List.append_nil, List.cons_append, List.nil_append]
    after_results
    rfl
  rw [e]
  pointwise []
  exact dite_congr rfl (fun _ => rfl) fun _ => zero_word
theorem V_v2 (l : Fin 128) :
    V m c main_v2 (ix2 0 l) = if h : l.val < 8 then al m c (ix1 ⟨_, h⟩) else 0 := by
  have e : V m c main_v2 = (pad S1x128 ![0, 0] ![0, 120] ![0, 0] (shapeCast S1x8 (al m c) shapeCasts_S8_S1x8)
      (sitofp (F := Ideal) .f32 (constantI S_ 32 0#32)) pads_S1x8_S1x128_000_01200 h_S_ : Vec Ideal S1x128 .f32) := by
    simp only [V, hostOps0, hostOps0_1, hostOps0_2, hostOps0_3, hostOps0_4, hostOps0_5, List.flatten_cons, List.flatten_nil,
      List.append_nil, List.cons_append, List.nil_append]
    after_results
    rfl
  rw [e]
  pointwise []
  exact dite_congr rfl (fun _ => rfl) fun _ => zero_word
theorem V_v4 (l : Fin 128) :
    V m c main_v4 (ix2 0 l) = if h : l.val < 8 then dt m c (ix1 ⟨_, h⟩) else 0 := by
  have e : V m c main_v4 = (pad S1x128 ![0, 0] ![0, 120] ![0, 0] (shapeCast S1x8 (dt m c) shapeCasts_S8_S1x8)
      (sitofp (F := Ideal) .f32 (constantI S_ 32 0#32)) pads_S1x8_S1x128_000_01200 h_S_ : Vec Ideal S1x128 .f32) := by
    simp only [V, hostOps0, hostOps0_1, hostOps0_2, hostOps0_3, hostOps0_4, hostOps0_5, List.flatten_cons, List.flatten_nil,
      List.append_nil, List.cons_append, List.nil_append]
    after_results
    rfl
  rw [e]
  pointwise []
  exact dite_congr rfl (fun _ => rfl) fun _ => zero_word

/-- Row `512 t + r`. -/
def row (r : Fin 512) : Fin 4096 :=
  ⟨512 * t.val + r.val, by have h : t.val < 8 := N_0 ▸ t.isLt; omega⟩

theorem index_eq : ∀ t : Fin grid0.N, (win0_0.index t 0 = t.val ∧ win0_0.index t 1 = 0)
    ∧ (win0_1.index t 0 = 0 ∧ win0_1.index t 1 = 0) ∧ (win0_2.index t 0 = 0 ∧ win0_2.index t 1 = 0)
    ∧ win0_3.index t 0 = t.val ∧ win0_3.index t 1 = 0 := by
  decide +kernel

theorem iblk0 (r : Fin 512) (l : Fin 128) :
    iblk m c 0 t (ix2 r l) = if h : l.val < 16 then xs m c (ix2 (row t r) ⟨_, h⟩) else 0 := by
  unfold iblk
  rw [View.read_apply]
  refine Eq.trans (congrArg (V m c main_v0) (idx2 (j := ix2 (row t r) l) ?_ ?_)) (V_v0 m c _ l)
  · show win0_0.index t 0 * 512 + 1 * r.val = 512 * t.val + r.val; rw [(index_eq t).1.1]; omega
  · show win0_0.index t 1 * 128 + 1 * l.val = l.val; rw [(index_eq t).1.2]; omega
theorem iblk1 (l : Fin 128) :
    iblk m c 1 t (ix2 0 l) = if h : l.val < 8 then al m c (ix1 ⟨_, h⟩) else 0 := by
  unfold iblk
  rw [View.read_apply]
  refine Eq.trans (congrArg (V m c main_v2) (idx2 (j := ix2 0 l) ?_ ?_)) (V_v2 m c l)
  · show win0_1.index t 0 * 1 + 1 * 0 = 0; rw [(index_eq t).2.1.1]
  · show win0_1.index t 1 * 128 + 1 * l.val = l.val; rw [(index_eq t).2.1.2]; omega
theorem iblk2 (l : Fin 128) :
    iblk m c 2 t (ix2 0 l) = if h : l.val < 8 then dt m c (ix1 ⟨_, h⟩) else 0 := by
  unfold iblk
  rw [View.read_apply]
  refine Eq.trans (congrArg (V m c main_v4) (idx2 (j := ix2 0 l) ?_ ?_)) (V_v4 m c l)
  · show win0_2.index t 0 * 1 + 1 * 0 = 0; rw [(index_eq t).2.2.1.1]
  · show win0_2.index t 1 * 128 + 1 * l.val = l.val; rw [(index_eq t).2.2.1.2]; omega

theorem emb3 (t : Fin cfg0.N) (r : Fin 512) (l : Fin 128) :
    ((cfg0.win 3).blk t).view.emb (ix2 r l) = (ix2 (row t r) l : S4096x128.Idx) := by
  refine idx2 ?_ ?_
  · show win0_3.index t 0 * 512 + 1 * r.val = 512 * t.val + r.val; rw [(index_eq t).2.2.2.1]; omega
  · show win0_3.index t 1 * 128 + 1 * l.val = l.val; rw [(index_eq t).2.2.2.2]; omega

theorem out3 (x : Vec Ideal S512x128 .f32) (a b : Vec Ideal S1x128 .f32) (r : Fin 512) (l : Fin 128) :
    out0_3 (F := Ideal) x a b (ix2 r l) = (if l.val < 8 then -Ideal.exp (a (ix2 0 l)) * softplus (x (ix2 r l) + b (ix2 0 l))
      else if l.val < 16 then Ideal.logistic (x (ix2 r l)) else 0 : EReal) := by
  unfold out0_3
  rw [View.canon_unit_zero hz2, View.ld_unit_zero (S := S512x128) hz2, View.ld_unit_zero (S := S1x128) hz2,
    View.ld_unit_zero (S := S1x128) hz2]
  pointwise [k0_pay1]
  rw [lane_slt, lane_slt16, select_ofBool, select_ofBool, zero_sub, zero_sub]
  rfl

theorem final3 : (dats m 0 c).arrAt 3 cfg0.N = gates (xs m c) (al m c) (dt m c) := by
  refine (dats m 0 c).arrAt_eq_of_cover 3 (gates (xs m c) (al m c) (dt m c)) (fun t _ => ?_) fun i => ?_
  · rw [flushed3]
    funext j
    obtain ⟨r, l, rfl⟩ := ex_ix2 j
    rw [View.read_apply, emb3]
    show out0_3 (F := Ideal) _ _ _ (ix2 r l) = gateAt _ _ _ (row t r) l
    rw [out3, iblk0, iblk1, iblk2]
    unfold gateAt
    by_cases h : l.val < 8
    · rw [if_pos h, dif_pos h, dif_pos h, dif_pos h, dif_pos (show l.val < 16 by omega)]
    · rw [if_neg h, dif_neg h]
      by_cases h' : l.val < 16
      · rw [if_pos h', dif_pos h', dif_pos h']
      · rw [if_neg h', dif_neg h']
  · have h : (i 0).val < 4096 := (i 0).isLt
    have e : (ix2 (row ⟨(i 0).val / 512, by rw [N_0]; omega⟩ ⟨(i 0).val % 512, by omega⟩) (i 1) : S4096x128.Idx) = i :=
      idx2 (by show 512 * ((i 0).val / 512) + (i 0).val % 512 = (i 0).val; omega) rfl
    exact ⟨_, flush0_3 _, e ▸ emb3 _ _ _ ▸ View.emb_mem_set _ _⟩

end Cert.GatesFwdIdeal.Val

namespace Cert.GatesFwdRefIdeal.Val

open Cert.GatesFwdRefIdeal Cert.GatesFwdRefIdeal.Read Cert.GatesFwdIdeal.Val

variable (x : S4096x16.Idx → EReal) (a b : S8.Idx → EReal) (r : Fin 4096)

theorem v6_at (l : Fin 8) : val_main_v6 (F := Ideal) x b (ix2 r l) = (x (ix2 r ⟨l.val, by omega⟩) + b (ix1 l) : EReal) := by
  pointwise [val_main_v6, val_main_v5, val_main_v4, val_main_v0]
theorem v7_at (l : Fin 8) : val_main_v7 (F := Ideal) x b (ix2 r l) = softplus (val_main_v6 (F := Ideal) x b (ix2 r l)) := by
  pointwise [val_main_v7, val_main_call0_v11, val_main_call0_v10, val_main_call0_v9, val_main_call0_v8, val_main_call0_v7,
    val_main_call0_v6, val_main_call0_v5, val_main_call0_v4, val_main_call0_v3, val_main_call0_v2, val_main_call0_v1,
    val_main_call0_v0, val_main_call0_cst]
  exact if_neg (fun h => h rfl)
theorem v10_at (l : Fin 8) : val_main_v10 (F := Ideal) x a b (ix2 r l)
    = (-Ideal.exp (a (ix1 l)) * softplus (x (ix2 r ⟨l.val, by omega⟩) + b (ix1 l)) : EReal) := by
  pointwise [val_main_v10, val_main_v9, val_main_v8, val_main_v3, val_main_v2]
  rw [v7_at, v6_at]
theorem v16_at (l : Fin 8) : val_main_v16 (F := Ideal) x (ix2 r l) = (Ideal.logistic (x (ix2 r ⟨8 + l.val, by omega⟩)) : EReal) := by
  pointwise [val_main_v16, val_main_v15, val_main_v14, val_main_v13, val_main_v12, val_main_v11, val_main_v1, val_main_cst,
    val_main_cst_0]
  rfl
theorem result : val_main_v18 (F := Ideal) x a b = gates x a b := by
  funext i
  obtain ⟨r, l, rfl⟩ := ex_ix2 i
  pointwise [val_main_v18, val_main_v17, val_main_call1_v0, val_main_c]
  show _ = gateAt x a b r l
  unfold gateAt
  by_cases h : l.val < 8
  · rw [dif_pos (show l.val < 16 by omega), dif_pos h, dif_pos h, v10_at]
  · rw [dif_neg h]
    by_cases h' : l.val < 16
    · rw [dif_pos h', dif_pos h', dif_neg h, v16_at]
      exact congrArg (fun k => Ideal.logistic (x (ix2 r k))) (Fin.ext (by show 8 + (l.val - 8) = l.val; omega))
    · rw [dif_neg h', dif_neg h']
      exact zero_word

end Cert.GatesFwdRefIdeal.Val

namespace Cert.Proof.GatesFwd

open Cert.GatesFwdIdeal.Val

theorem frame_ref : Cert.quiescent_GatesFwdRefIdeal := fun m ρ _ =>
  (θ_run Cert.GatesFwdRefIdeal.defs _ _).mono (fun r h => ⟨fun c => (h c).2,
      Idealize.ShloMosaic.sem_eq_zero_of_no_sems (by decide) r.2⟩)
    (Cert.GatesFwdRefIdeal.Value.run (F := Ideal) m ρ)

theorem algebraic : Cert.algebraic_GatesFwdIdeal_GatesFwdRefIdeal := by
  intro m ρ m' ρ' _ hagree
  refine ⟨fun c => gates (xs m c) (al m c) (dt m c), ?_, ?_⟩
  · refine (θ_run Cert.GatesFwdIdeal.defs _ _).mono (fun r h c => ?_) (Cert.GatesFwdIdeal.Value.run_blocks (F := Ideal) m ρ)
    exact ⟨(h c).1.trans (final3 m c), (h c).2⟩
  · refine (θ_run Cert.GatesFwdRefIdeal.defs _ _).mono (fun r h c => ?_) (Cert.GatesFwdRefIdeal.Value.run (F := Ideal) m' ρ')
    obtain ⟨e0, e1, e2⟩ := hagree c
    refine ⟨(h c).1.trans ?_, (h c).2⟩
    rw [Cert.GatesFwdRefIdeal.Read.val_main_v18_eq, e0, e1, e2]
    exact Cert.GatesFwdRefIdeal.Val.result _ _ _

end Cert.Proof.GatesFwd
-- ==== Proof.PleFwd.lean ====
/-
  The gated embedding's forward call, 512 rows at a grid point: two products, the gated sum `h + pp · sigmoid(gpre)`, and
  that sum's root-mean-square norm for the next layer.
-/
module

public import proofs.«01_k».proof.Defs
public import proofs.«01_k».proof.Proof.Gen.PleFwdIdeal.Value
public import proofs.«01_k».proof.Proof.Gen.PleFwdRefIdeal.Read
public import proofs.«01_k».proof.Proof.Rms
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Common Cert.Rms

namespace Cert.PleFwdIdeal.Val

open Cert.PleFwdIdeal Cert.PleFwdIdeal.Gen Cert.PleFwdIdeal.Value

/-! ## Rows: `h` the stream, `u` its norm, `p` the embedding, `wg` and `wp` the two weights, `g` the norm's weight -/

def pre (u : Fin 1024 → EReal) (wg : S1024x1024.Idx → EReal) (l : Fin 1024) : EReal := ∑ k : Fin 1024, u k * wg (ix2 k l)
def emb (p : Fin 256 → EReal) (wp : S256x1024.Idx → EReal) (l : Fin 1024) : EReal := ∑ k : Fin 256, p k * wp (ix2 k l)
def sum (h u : Fin 1024 → EReal) (p : Fin 256 → EReal) (wg : S1024x1024.Idx → EReal) (wp : S256x1024.Idx → EReal) (l : Fin 1024) : EReal :=
  h l + emb p wp l * Ideal.logistic (pre u wg l)
def normed (y : Fin 1024 → EReal) (g : Fin 1024 → EReal) (l : Fin 1024) : EReal :=
  y l * rinv (Ideal.ofBits .f32 0x358637BD#32) (Ideal.ofBits .f32 0x44800000#32) y * g l

/-! ## The four results -/

section results
variable (h u : S4096x1024.Idx → EReal) (p : S4096x256.Idx → EReal) (wg : S1024x1024.Idx → EReal) (wp : S256x1024.Idx → EReal)
  (g : S1024.Idx → EReal)

def arr6 : S4096x1024.Idx → EReal := fun i => sum (fun k => h (ix2 (i 0) k)) (fun k => u (ix2 (i 0) k)) (fun k => p (ix2 (i 0) k)) wg wp (i 1)
def arr7 : S4096x1024.Idx → EReal := fun i => pre (fun k => u (ix2 (i 0) k)) wg (i 1)
def arr8 : S4096x1024.Idx → EReal := fun i => emb (fun k => p (ix2 (i 0) k)) wp (i 1)
def arr9 : S4096x1024.Idx → EReal := fun i =>
  normed (sum (fun k => h (ix2 (i 0) k)) (fun k => u (ix2 (i 0) k)) (fun k => p (ix2 (i 0) k)) wg wp) (fun k => g (ix1 k)) (i 1)

end results

variable (m : (ℓ : Loc nD τ sig) → Buf (Elt Ideal) ℓ) (c : Dev nD) (t : Fin grid0.N)

abbrev ah : S4096x1024.Idx → EReal := m ((c : Thread nD τ).loc main_arg0)
abbrev au : S4096x1024.Idx → EReal := m ((c : Thread nD τ).loc main_arg1)
abbrev ap : S4096x256.Idx → EReal := m ((c : Thread nD τ).loc main_arg2)
abbrev ag : S1024x1024.Idx → EReal := m ((c : Thread nD τ).loc main_arg3)
abbrev aw : S256x1024.Idx → EReal := m ((c : Thread nD τ).loc main_arg4)
abbrev an : S1024.Idx → EReal := m ((c : Thread nD τ).loc main_arg5)

/-- Row `512 t + r`. -/
def row (r : Fin 512) : Fin 4096 :=
  ⟨512 * t.val + r.val, by have h : t.val < 8 := N_0 ▸ t.isLt; omega⟩

theorem in_eq : ∀ t : Fin grid0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = 0 ∧ win0_3.index t 1 = 0) ∧ (win0_4.index t 0 = 0 ∧ win0_4.index t 1 = 0)
    ∧ win0_5.index t 0 = 0 ∧ win0_5.index t 1 = 0 := by
  decide +kernel
theorem out_eq : ∀ t : Fin grid0.N, (win0_6.index t 0 = t.val ∧ win0_6.index t 1 = 0)
    ∧ (win0_7.index t 0 = t.val ∧ win0_7.index t 1 = 0) ∧ (win0_8.index t 0 = t.val ∧ win0_8.index t 1 = 0)
    ∧ win0_9.index t 0 = t.val ∧ win0_9.index t 1 = 0 := by
  decide +kernel

theorem V_v0 : V m c main_v0 = au m c := by dsimp only [V, hostOps0]; after_results; rfl
theorem V_v1 : V m c main_v1 = ap m c := by dsimp only [V, hostOps0]; after_results; rfl
theorem V_v2 : V m c main_v2 = ag m c := by dsimp only [V, hostOps0]; after_results; rfl
theorem V_v4 (l : Fin 1024) (k : Fin 256) : V m c main_v4 (ix2 l k) = aw m c (ix2 k l) := by
  have e : V m c main_v4 = (truncf .bf16 (transpose S1024x256 [1, 0] (aw m c) transposes_S256x1024_S1024x256_1_0
      : FVec Ideal S1024x256 .f32) bitsLt_bf16_f32 : FVec Ideal S1024x256 .bf16) := by
    dsimp only [V, hostOps0]; after_results
  rw [e]
  pointwise []
theorem V_v5 (l : Fin 1024) : V m c main_v5 (ix2 0 l) = an m c (ix1 l) := by
  have e : V m c main_v5 = (shapeCast S1x1024 (an m c) shapeCasts_S1024_S1x1024 : Vec Ideal S1x1024 .f32) := by
    simp only [V, hostOps0]; after_results; rfl
  rw [e]
  pointwise []

section blocks
variable (c : Dev nD) (t : Fin grid0.N) (r : Fin 512) (l k : Fin 1024) (q : Fin 256)

theorem iblk0 : iblk m c 0 t (ix2 r k) = ah m c (ix2 (row t r) k) := by
  unfold iblk
  rw [View.read_apply]
  show V m c main_arg0 _ = _
  rw [V_main_arg0]
  refine congrArg (ah m c) (idx2 ?_ ?_)
  · show win0_0.index t 0 * 512 + 1 * r.val = 512 * t.val + r.val; rw [(in_eq t).1.1]; omega
  · show win0_0.index t 1 * 1024 + 1 * k.val = k.val; rw [(in_eq t).1.2]; omega
theorem iblk1 : iblk m c 1 t (ix2 r k) = au m c (ix2 (row t r) k) := by
  unfold iblk
  rw [View.read_apply]
  show V m c main_v0 _ = _
  rw [V_v0]
  refine congrArg (au m c) (idx2 ?_ ?_)
  · show win0_1.index t 0 * 512 + 1 * r.val = 512 * t.val + r.val; rw [(in_eq t).2.1.1]; omega
  · show win0_1.index t 1 * 1024 + 1 * k.val = k.val; rw [(in_eq t).2.1.2]; omega
theorem iblk2 : iblk m c 2 t (ix2 r q) = ap m c (ix2 (row t r) q) := by
  unfold iblk
  rw [View.read_apply]
  show V m c main_v1 _ = _
  rw [V_v1]
  refine congrArg (ap m c) (idx2 ?_ ?_)
  · show win0_2.index t 0 * 512 + 1 * r.val = 512 * t.val + r.val; rw [(in_eq t).2.2.1.1]; omega
  · show win0_2.index t 1 * 256 + 1 * q.val = q.val; rw [(in_eq t).2.2.1.2]; omega
theorem iblk3 : iblk m c 3 t (ix2 k l) = ag m c (ix2 k l) := by
  unfold iblk
  rw [View.read_apply]
  show V m c main_v2 _ = _
  rw [V_v2]
  refine congrArg (ag m c) (idx2 ?_ ?_)
  · show win0_3.index t 0 * 1024 + 1 * k.val = k.val; rw [(in_eq t).2.2.2.1.1]; omega
  · show win0_3.index t 1 * 1024 + 1 * l.val = l.val; rw [(in_eq t).2.2.2.1.2]; omega
theorem iblk4 : iblk m c 4 t (ix2 l q) = aw m c (ix2 q l) := by
  unfold iblk
  rw [View.read_apply]
  refine Eq.trans (congrArg (V m c main_v4) (idx2 (j := ix2 l q) ?_ ?_)) (V_v4 m c l q)
  · show win0_4.index t 0 * 1024 + 1 * l.val = l.val; rw [(in_eq t).2.2.2.2.1.1]; omega
  · show win0_4.index t 1 * 256 + 1 * q.val = q.val; rw [(in_eq t).2.2.2.2.1.2]; omega
theorem iblk5 : iblk m c 5 t (ix2 0 l) = an m c (ix1 l) := by
  unfold iblk
  rw [View.read_apply]
  refine Eq.trans (congrArg (V m c main_v5) (idx2 (j := ix2 0 l) ?_ ?_)) (V_v5 m c l)
  · show win0_5.index t 0 * 1 + 1 * 0 = 0; rw [(in_eq t).2.2.2.2.2.1]
  · show win0_5.index t 1 * 1024 + 1 * l.val = l.val; rw [(in_eq t).2.2.2.2.2.2]; omega
theorem emb6 : ((cfg0.win 6).blk t).view.emb (ix2 r l) = (ix2 (row t r) l : S4096x1024.Idx) := by
  refine idx2 ?_ ?_
  · show win0_6.index t 0 * 512 + 1 * r.val = 512 * t.val + r.val; rw [(out_eq t).1.1]; omega
  · show win0_6.index t 1 * 1024 + 1 * l.val = l.val; rw [(out_eq t).1.2]; omega
theorem emb7 : ((cfg0.win 7).blk t).view.emb (ix2 r l) = (ix2 (row t r) l : S4096x1024.Idx) := by
  refine idx2 ?_ ?_
  · show win0_7.index t 0 * 512 + 1 * r.val = 512 * t.val + r.val; rw [(out_eq t).2.1.1]; omega
  · show win0_7.index t 1 * 1024 + 1 * l.val = l.val; rw [(out_eq t).2.1.2]; omega
theorem emb8 : ((cfg0.win 8).blk t).view.emb (ix2 r l) = (ix2 (row t r) l : S4096x1024.Idx) := by
  refine idx2 ?_ ?_
  · show win0_8.index t 0 * 512 + 1 * r.val = 512 * t.val + r.val; rw [(out_eq t).2.2.1.1]; omega
  · show win0_8.index t 1 * 1024 + 1 * l.val = l.val; rw [(out_eq t).2.2.1.2]; omega
theorem emb9 : ((cfg0.win 9).blk t).view.emb (ix2 r l) = (ix2 (row t r) l : S4096x1024.Idx) := by
  refine idx2 ?_ ?_
  · show win0_9.index t 0 * 512 + 1 * r.val = 512 * t.val + r.val; rw [(out_eq t).2.2.2.1]; omega
  · show win0_9.index t 1 * 1024 + 1 * l.val = l.val; rw [(out_eq t).2.2.2.2]; omega

end blocks

section pay
variable (h : Vec Ideal S512x1024 .f32) (u : Vec Ideal S512x1024 .bf16) (p : Vec Ideal S512x256 .bf16) (wg : Vec Ideal S1024x1024 .bf16)
  (wp : Vec Ideal S1024x256 .bf16) (g : Vec Ideal S1x1024 .f32) (r : Fin 512) (l : Fin 1024)

theorem out7 : out0_7 (F := Ideal) h u p wg wp g (ix2 r l) = pre (fun k => u (ix2 r k)) wg l := by
  unfold out0_7
  rw [View.canon_unit_zero hz2]
  simp only [View.ld_unit_zero (S := S512x1024) hz2, View.ld_unit_zero (S := S1024x1024) hz2]
  pointwise [k0_pay5, k0_pay2]
  rfl
theorem out8 : out0_8 (F := Ideal) h u p wg wp g (ix2 r l) = emb (fun k => p (ix2 r k)) (fun i => wp (ix2 (i 1) (i 0))) l := by
  unfold out0_8
  rw [View.canon_unit_zero hz2]
  simp only [View.ld_unit_zero (S := S512x256) hz2, View.ld_unit_zero (S := S1024x256) hz2]
  pointwise [k0_pay6, k0_pay3]
  rfl
theorem pay4_at : k0_pay4 (F := Ideal) u wg p wp h (ix2 r l)
    = sum (fun k => h (ix2 r k)) (fun k => u (ix2 r k)) (fun k => p (ix2 r k)) wg (fun i => wp (ix2 (i 1) (i 0))) l := by
  pointwise [k0_pay4, k0_pay3, k0_pay2]
  rfl
theorem out6 : out0_6 (F := Ideal) h u p wg wp g (ix2 r l)
    = sum (fun k => h (ix2 r k)) (fun k => u (ix2 r k)) (fun k => p (ix2 r k)) wg (fun i => wp (ix2 (i 1) (i 0))) l := by
  unfold out0_6
  rw [View.canon_unit_zero hz2]
  simp only [View.ld_unit_zero (S := S512x1024) hz2, View.ld_unit_zero (S := S1024x1024) hz2, View.ld_unit_zero (S := S512x256) hz2,
    View.ld_unit_zero (S := S1024x256) hz2]
  exact pay4_at h u p wg wp r l
theorem out9 : out0_9 (F := Ideal) h u p wg wp g (ix2 r l) = normed (sum (fun k => h (ix2 r k)) (fun k => u (ix2 r k))
    (fun k => p (ix2 r k)) wg (fun i => wp (ix2 (i 1) (i 0)))) (fun k => g (ix2 0 k)) l := by
  unfold out0_9
  rw [View.canon_unit_zero hz2]
  simp only [View.ld_unit_zero (S := S512x1024) hz2, View.ld_unit_zero (S := S1024x1024) hz2, View.ld_unit_zero (S := S512x256) hz2,
    View.ld_unit_zero (S := S1024x256) hz2, View.ld_unit_zero (S := S1x1024) hz2]
  pointwise [k0_pay1, k0_pay7]
  simp only [pay4_at]
  rfl

end pay

/-- Every place lies in one point's block. -/
theorem covered (i : S4096x1024.Idx) : ∃ (t : Fin grid0.N) (r : Fin 512) (l : Fin 1024), ix2 (row t r) l = i := by
  have h : (i 0).val < 4096 := (i 0).isLt
  exact ⟨⟨(i 0).val / 512, by rw [N_0]; omega⟩, ⟨(i 0).val % 512, by omega⟩, i 1,
    idx2 (by show 512 * ((i 0).val / 512) + (i 0).val % 512 = (i 0).val; omega) rfl⟩

theorem final6 : (dats m 0 c).arrAt 6 cfg0.N = arr6 (ah m c) (au m c) (ap m c) (ag m c) (aw m c) := by
  refine (dats m 0 c).arrAt_eq_of_cover 6 (arr6 (ah m c) (au m c) (ap m c) (ag m c) (aw m c)) (fun t _ => ?_) fun i => ?_
  · rw [flushed6]
    funext j
    obtain ⟨r, l, rfl⟩ := ex_ix2 j
    rw [View.read_apply, emb6]
    show out0_6 (F := Ideal) _ _ _ _ _ _ (ix2 r l) = _
    rw [out6]
    simp only [sum, emb, pre, ix2_0, ix2_1, iblk0, iblk1, iblk2, iblk3, iblk4]
    rfl
  · obtain ⟨t, r, l, rfl⟩ := covered i
    exact ⟨t, flush0_6 t, emb6 t r l ▸ View.emb_mem_set _ _⟩
theorem final7 : (dats m 0 c).arrAt 7 cfg0.N = arr7 (au m c) (ag m c) := by
  refine (dats m 0 c).arrAt_eq_of_cover 7 (arr7 (au m c) (ag m c)) (fun t _ => ?_) fun i => ?_
  · rw [flushed7]
    funext j
    obtain ⟨r, l, rfl⟩ := ex_ix2 j
    rw [View.read_apply, emb7]
    show out0_7 (F := Ideal) _ _ _ _ _ _ (ix2 r l) = _
    rw [out7]
    simp only [pre, ix2_0, ix2_1, iblk1, iblk3]
    rfl
  · obtain ⟨t, r, l, rfl⟩ := covered i
    exact ⟨t, flush0_7 t, emb7 t r l ▸ View.emb_mem_set _ _⟩
theorem final8 : (dats m 0 c).arrAt 8 cfg0.N = arr8 (ap m c) (aw m c) := by
  refine (dats m 0 c).arrAt_eq_of_cover 8 (arr8 (ap m c) (aw m c)) (fun t _ => ?_) fun i => ?_
  · rw [flushed8]
    funext j
    obtain ⟨r, l, rfl⟩ := ex_ix2 j
    rw [View.read_apply, emb8]
    show out0_8 (F := Ideal) _ _ _ _ _ _ (ix2 r l) = _
    rw [out8]
    simp only [emb, ix2_0, ix2_1, iblk2, iblk4]
    rfl
  · obtain ⟨t, r, l, rfl⟩ := covered i
    exact ⟨t, flush0_8 t, emb8 t r l ▸ View.emb_mem_set _ _⟩
theorem final9 : (dats m 0 c).arrAt 9 cfg0.N = arr9 (ah m c) (au m c) (ap m c) (ag m c) (aw m c) (an m c) := by
  refine (dats m 0 c).arrAt_eq_of_cover 9 (arr9 (ah m c) (au m c) (ap m c) (ag m c) (aw m c) (an m c)) (fun t _ => ?_) fun i => ?_
  · rw [flushed9]
    funext j
    obtain ⟨r, l, rfl⟩ := ex_ix2 j
    rw [View.read_apply, emb9]
    show out0_9 (F := Ideal) _ _ _ _ _ _ (ix2 r l) = _
    rw [out9]
    simp only [normed, rinv, msq, sum, emb, pre, ix2_0, ix2_1, iblk0, iblk1, iblk2, iblk3, iblk4, iblk5]
    rfl
  · obtain ⟨t, r, l, rfl⟩ := covered i
    exact ⟨t, flush0_9 t, emb9 t r l ▸ View.emb_mem_set _ _⟩

end Cert.PleFwdIdeal.Val

namespace Cert.PleFwdRefIdeal.Val

open Cert.PleFwdRefIdeal Cert.PleFwdRefIdeal.Read Cert.PleFwdIdeal.Val

variable (h u : S4096x1024.Idx → EReal) (p : S4096x256.Idx → EReal) (wg : S1024x1024.Idx → EReal) (wp : S256x1024.Idx → EReal)
  (g : S1024.Idx → EReal) (r : Fin 4096) (l : Fin 1024)

theorem v0_at : val_main_v0 (F := Ideal) u wg (ix2 r l) = pre (fun k => u (ix2 r k)) wg l := by
  pointwise [val_main_v0]
  rfl
theorem v1_at : val_main_v1 (F := Ideal) p wp (ix2 r l) = emb (fun k => p (ix2 r k)) wp l := by
  pointwise [val_main_v1]
  rfl
theorem v9_at : val_main_v9 (F := Ideal) h u p wg wp (ix2 r l)
    = sum (fun k => h (ix2 r k)) (fun k => u (ix2 r k)) (fun k => p (ix2 r k)) wg wp l := by
  pointwise [val_main_v9, val_main_v8, val_main_v7, val_main_v6, val_main_v5, val_main_v4, val_main_v3, val_main_v2, val_main_cst,
    val_main_cst_0]
  rw [v0_at, v1_at]
  rfl
theorem v25_at : val_main_v25 (F := Ideal) h u p wg wp g (ix2 r l) = normed (sum (fun k => h (ix2 r k)) (fun k => u (ix2 r k))
    (fun k => p (ix2 r k)) wg wp) (fun k => g (ix1 k)) l := by
  pointwise [val_main_v25, val_main_v24, val_main_v23, val_main_v22, val_main_v21, val_main_v20, val_main_v19, val_main_v18,
    val_main_v17, val_main_v16, val_main_v15, val_main_v14, val_main_v13, val_main_v12, val_main_cst_1, val_main_cst_2,
    val_main_cst_3]
  simp only [v9_at]
  rfl

end Cert.PleFwdRefIdeal.Val

namespace Cert.Proof.PleFwd

open Cert.PleFwdIdeal.Val

theorem frame_ref : Cert.quiescent_PleFwdRefIdeal := fun m ρ _ =>
  (θ_run Cert.PleFwdRefIdeal.defs _ _).mono (fun r h => ⟨fun c => (h c).2.2.2.2,
      Idealize.ShloMosaic.sem_eq_zero_of_no_sems (by decide) r.2⟩)
    (Cert.PleFwdRefIdeal.Value.run (F := Ideal) m ρ)

theorem algebraic : Cert.algebraic_PleFwdIdeal_PleFwdRefIdeal := by
  intro m ρ m' ρ' _ hagree
  refine ⟨fun c => arr6 (ah m c) (au m c) (ap m c) (ag m c) (aw m c), fun c => arr7 (au m c) (ag m c), fun c => arr8 (ap m c) (aw m c),
    fun c => arr9 (ah m c) (au m c) (ap m c) (ag m c) (aw m c) (an m c), ?_, ?_⟩
  · refine (θ_run Cert.PleFwdIdeal.defs _ _).mono (fun r h c => ?_) (Cert.PleFwdIdeal.Value.run_blocks (F := Ideal) m ρ)
    obtain ⟨h6, h7, h8, h9, ha⟩ := h c
    exact ⟨h6.trans (final6 m c), h7.trans (final7 m c), h8.trans (final8 m c), h9.trans (final9 m c), ha⟩
  · refine (θ_run Cert.PleFwdRefIdeal.defs _ _).mono (fun r h c => ?_) (Cert.PleFwdRefIdeal.Value.run (F := Ideal) m' ρ')
    obtain ⟨h6, h7, h8, h9, ha⟩ := h c
    obtain ⟨e0, e1, e2, e3, e4, e5⟩ := hagree c
    refine ⟨h6.trans ?_, h7.trans ?_, h8.trans ?_, h9.trans ?_, ha⟩
    · rw [Cert.PleFwdRefIdeal.Read.val_main_v9_eq, e0, e1, e2, e3, e4]
      funext i
      rw [eq_ix2 i]
      exact Cert.PleFwdRefIdeal.Val.v9_at _ _ _ _ _ _ _
    · rw [Cert.PleFwdRefIdeal.Read.val_main_v10_eq, e1, e3]
      funext i
      rw [eq_ix2 i]
      exact Cert.PleFwdRefIdeal.Val.v0_at _ _ _ _
    · rw [Cert.PleFwdRefIdeal.Read.val_main_v11_eq, e2, e4]
      funext i
      rw [eq_ix2 i]
      exact Cert.PleFwdRefIdeal.Val.v1_at _ _ _ _
    · rw [Cert.PleFwdRefIdeal.Read.val_main_v25_eq, e0, e1, e2, e3, e4, e5]
      funext i
      rw [eq_ix2 i]
      exact Cert.PleFwdRefIdeal.Val.v25_at _ _ _ _ _ _ _ _

end Cert.Proof.PleFwd
-- ==== Proof.QNormFwd.lean ====
/-
  The head norm of the queries, 256 rows at a grid point: every element is `x · rsqrt (mean of its head's x² + eps) · g`
  times the scale of the scores in kernel and reference.
-/
module

public import proofs.«01_k».proof.Defs
public import proofs.«01_k».proof.Proof.Gen.QNormFwdIdeal.Value
public import proofs.«01_k».proof.Proof.Gen.QNormFwdRefIdeal.Read
public import proofs.«01_k».proof.Proof.QNorm

@[expose] public section

set_option maxRecDepth 16384

noncomputable section

open Idealize.ShloMosaic Idealize.ShloMosaic.TcCoe Idealize.SL.Sem
open Idealize.ShloMosaic.Pipeline (Dat)
open Cert.Common Cert.Rms

namespace Cert.QNormFwdIdeal.Val

open Cert.QNormFwdIdeal Cert.QNormFwdIdeal.Gen Cert.QNormFwdIdeal.Value
open Cert.QNormIdeal.Val (eps wide scale col hd ln head heads blk piece hrow)

/-- One element of a normed head. -/
def nrm (g x : Fin 128 → EReal) (l : Fin 128) : EReal := x l * rinv eps wide x * g l * scale

/-- The normed block and the normed array. -/
abbrev yf (g : S1x128.Idx → EReal) (x : S256x1024.Idx → EReal) (r : Fin 256) (h : Fin 8) : Fin 128 → EReal :=
  nrm (fun j => g (ix2 0 j)) fun j => head h x (ix2 r j)
def normed (x : S4096x1024.Idx → EReal) (g : S128.Idx → EReal) (i : S4096x1024.Idx) : EReal :=
  nrm (fun j => g (ix1 j)) (hrow x (i 0) (hd (i 1))) (ln (i 1))

theorem out2 (x : Vec Ideal S256x1024 .f32) (g : Vec Ideal S1x128 .f32) : out0_2 (F := Ideal) x g = blk (yf g x) := by
  unfold out0_2 k0_pay12
  funext j
  refine View.canon_apply_of_pieces (Val := Elt Ideal) (blk (yf g x)) _ (fun p hp => ?_) j (cover0_2 ..)
  revert p
  simp only [List.forall_mem_cons, List.not_mem_nil, false_imp_iff, implies_true, and_true]
  simp only [r0_0, r0_1, r0_2, r0_3, r0_4, r0_5, r0_6, r0_7, r0_8, ld_all]
  simp only [heads]
  exact ⟨piece _ 7 rfl _ _ fun r l => by pointwise [k0_pay2, k0_pay3]; rfl,
    piece _ 6 rfl _ _ fun r l => by pointwise [k0_pay1, k0_pay11, k0_pay3]; rfl,
    piece _ 5 rfl _ _ fun r l => by pointwise [k0_pay10, k0_pay3]; rfl,
    piece _ 4 rfl _ _ fun r l => by pointwise [k0_pay9, k0_pay8, k0_pay3]; rfl,
    piece _ 3 rfl _ _ fun r l => by pointwise [k0_pay7, k0_pay3]; rfl,
    piece _ 2 rfl _ _ fun r l => by pointwise [k0_pay6, k0_pay3]; rfl,
    piece _ 1 rfl _ _ fun r l => by pointwise [k0_pay5, k0_pay3]; rfl,
    piece _ 0 rfl _ _ fun r l => by pointwise [k0_pay4, k0_pay3]; rfl⟩

variable (m : (ℓ : Loc nD τ sig) → Buf (Elt Ideal) ℓ) (c : Dev nD) (t : Fin cfg0.N)

abbrev xs : S4096x1024.Idx → EReal := m ((c : Thread nD τ).loc main_arg0)
abbrev gs : S128.Idx → EReal := m ((c : Thread nD τ).loc main_arg1)

/-- Element `j` of the block of rows of point `t`. -/
def row (j : S256x1024.Idx) : S4096x1024.Idx :=
  ix2 ⟨256 * t.val + (j 0).val, by have h : t.val < 16 := N_0 ▸ t.isLt; have : (j 0).val < 256 := (j 0).isLt; omega⟩ (j 1)

theorem index_eq : ∀ t : Fin grid0.N, (win0_0.index t 0 = t.val ∧ win0_0.index t 1 = 0)
    ∧ (win0_1.index t 0 = 0 ∧ win0_1.index t 1 = 0) ∧ win0_2.index t 0 = t.val ∧ win0_2.index t 1 = 0 := by
  decide +kernel

theorem iblk0 (j : S256x1024.Idx) : iblk m c 0 t j = xs m c (row t j) := by
  unfold iblk
  rw [View.read_apply]
  refine congrArg (V m c main_arg0) (idx2 (j := row t j) ?_ ?_)
  · show win0_0.index t 0 * 256 + 1 * (j 0).val = 256 * t.val + (j 0).val; rw [(index_eq t).1.1]; omega
  · show win0_0.index t 1 * 1024 + 1 * (j 1).val = (j 1).val; rw [(index_eq t).1.2]; omega

theorem iblk1 (l : Fin 128) : iblk m c 1 t (ix2 0 l) = gs m c (ix1 l) := by
  unfold iblk
  rw [View.read_apply]
  have e : V m c main_v0 (ix2 0 l) = gs m c (ix1 l) := by
    have e' : V m c main_v0 = (shapeCast S1x128 (gs m c) shapeCasts_S128_S1x128 : Vec Ideal S1x128 .f32) := by
      simp only [V, hostOps0]; after_results; rfl
    rw [e']
    pointwise []
  refine Eq.trans (congrArg (V m c main_v0) (idx2 (j := ix2 0 l) ?_ ?_)) e
  · show win0_1.index t 0 * 1 + 1 * 0 = 0; rw [(index_eq t).2.1.1]
  · show win0_1.index t 1 * 128 + 1 * l.val = l.val; rw [(index_eq t).2.1.2]; omega

theorem emb2 (j : S256x1024.Idx) : ((cfg0.win 2).blk t).view.emb j = row t j :=
  idx2 (by show win0_2.index t 0 * 256 + 1 * (j 0).val = 256 * t.val + (j 0).val; rw [(index_eq t).2.2.1]; omega)
    (by show win0_2.index t 1 * 1024 + 1 * (j 1).val = (j 1).val; rw [(index_eq t).2.2.2]; omega)

theorem final2 : (dats m 0 c).arrAt 2 cfg0.N = normed (xs m c) (gs m c) := by
  refine (dats m 0 c).arrAt_eq_of_cover 2 (normed (xs m c) (gs m c)) (fun t _ => ?_) fun i => ?_
  · rw [flushed2]
    funext j
    rw [View.read_apply, emb2]
    show out0_2 (F := Ideal) _ _ j = _
    rw [out2]
    unfold blk yf head
    simp only [iblk0, iblk1]
    rfl
  · have h : (i 0).val < 4096 := (i 0).isLt
    have e : row ⟨(i 0).val / 256, by show _ < grid0.N; rw [N_0]; omega⟩ (ix2 ⟨(i 0).val % 256, by omega⟩ (i 1)) = i :=
      idx2 (by show 256 * ((i 0).val / 256) + (i 0).val % 256 = (i 0).val; omega) rfl
    exact ⟨_, flush0_2 _, e ▸ emb2 _ _ ▸ View.emb_mem_set _ _⟩

end Cert.QNormFwdIdeal.Val

namespace Cert.QNormFwdRefIdeal.Val

open Cert.QNormFwdRefIdeal Cert.QNormFwdRefIdeal.Read
open Cert.QNormIdeal.Val (hrow hd ln col)

theorem result (x : S4096x1024.Idx → EReal) (g : S128.Idx → EReal) : val_main_v17 (F := Ideal) x g = Cert.QNormFwdIdeal.Val.normed x g := by
  funext i
  obtain ⟨r, l, rfl⟩ := ex_ix2 i
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0, val_main_cst, val_main_cst_0, val_main_cst_1, val_main_cst_2]
  have e : l = col (hd l) (ln l) := Fin.ext (by show l.val = 128 * (l.val / 128) + l.val % 128; omega)
  have e' (k : Fin 128) (p) : (⟨l.val / 128 * 128 + k.val, p⟩ : Fin 1024) = col (hd l) k :=
    Fin.ext (by show l.val / 128 * 128 + k.val = 128 * (l.val / 128) + k.val; omega)
  simp only [e']
  have h0 : x (ix2 r l) = hrow x r (hd l) (ln l) := congrArg (fun z => x (ix2 r z)) e
  rw [h0]
  rfl

end Cert.QNormFwdRefIdeal.Val

namespace Cert.Proof.QNormFwd

open Cert.QNormFwdIdeal.Val

theorem frame_ref : Cert.quiescent_QNormFwdRefIdeal := fun m ρ _ =>
  (θ_run Cert.QNormFwdRefIdeal.defs _ _).mono (fun r h => ⟨fun c => (h c).2,
      Idealize.ShloMosaic.sem_eq_zero_of_no_sems (by decide) r.2⟩)
    (Cert.QNormFwdRefIdeal.Value.run (F := Ideal) m ρ)

theorem algebraic : Cert.algebraic_QNormFwdIdeal_QNormFwdRefIdeal := by
  intro m ρ m' ρ' _ hagree
  refine ⟨fun c => normed (xs m c) (gs m c), ?_, ?_⟩
  · refine (θ_run Cert.QNormFwdIdeal.defs _ _).mono (fun r h c => ?_) (Cert.QNormFwdIdeal.Value.run_blocks (F := Ideal) m ρ)
    exact ⟨(h c).1.trans (final2 m c), (h c).2⟩
  · refine (θ_run Cert.QNormFwdRefIdeal.defs _ _).mono (fun r h c => ?_) (Cert.QNormFwdRefIdeal.Value.run (F := Ideal) m' ρ')
    obtain ⟨e0, e1⟩ := hagree c
    refine ⟨(h c).1.trans ?_, (h c).2⟩
    rw [Cert.QNormFwdRefIdeal.Read.val_main_v17_eq, e0, e1]
    exact Cert.QNormFwdRefIdeal.Val.result _ _

end Cert.Proof.QNormFwd
-- ==== Proof.OutNormFwd.lean ====
/-
  The gated head norm of the delta rule's output, 256 rows at a grid point: every element is
  `x · rsqrt (mean of its head's x² + eps) · g · silu z` in kernel and reference.
-/
module

public import proofs.«01_k».proof.Defs
public import proofs.«01_k».proof.Proof.Gen.OutNormFwdIdeal.Value
public import proofs.«01_k».proof.Proof.Gen.OutNormFwdRefIdeal.Read
public import proofs.«01_k».proof.Proof.OutNorm

@[expose] public section

set_option maxRecDepth 16384

noncomputable section

open Idealize.ShloMosaic Idealize.ShloMosaic.TcCoe Idealize.SL.Sem
open Idealize.ShloMosaic.Pipeline (Dat)
open Cert.Common Cert.Rms Cert.Silu

namespace Cert.OutNormFwdIdeal.Val

open Cert.OutNormFwdIdeal Cert.OutNormFwdIdeal.Gen Cert.OutNormFwdIdeal.Value
open Cert.QNormIdeal.Val (eps wide col hd ln head heads blk piece)
open Cert.OutNormIdeal.Val (head3 heads3 xrow zrow)

/-- One element of a gated head. -/
def nrm (g x z : Fin 128 → EReal) (l : Fin 128) : EReal := x l * rinv eps wide x * g l * silu (z l)

/-- The normed block and the normed array. -/
abbrev yf (x : S8x256x128.Idx → EReal) (g : S1x128.Idx → EReal) (z : S256x1024.Idx → EReal) (r : Fin 256) (h : Fin 8) : Fin 128 → EReal :=
  nrm (fun j => g (ix2 0 j)) (fun j => head3 h x (ix3 0 r j)) fun j => head h z (ix2 r j)
def normed (x : S4096x8x128.Idx → EReal) (g : S128.Idx → EReal) (z : S4096x4096.Idx → EReal) (i : S4096x1024.Idx) : EReal :=
  nrm (fun j => g (ix1 j)) (xrow x (i 0) (hd (i 1))) (zrow z (i 0) (hd (i 1))) (ln (i 1))

theorem out3 (x : Vec Ideal S8x256x128 .f32) (g : Vec Ideal S1x128 .f32) (z : Vec Ideal S256x1024 .f32) :
    out0_3 (F := Ideal) x g z = blk (yf x g z) := by
  unfold out0_3 k0_pay15
  funext j
  refine View.canon_apply_of_pieces (Val := Elt Ideal) (blk (yf x g z)) _ (fun p hp => ?_) j (cover0_3 ..)
  revert p
  simp only [List.forall_mem_cons, List.not_mem_nil, false_imp_iff, implies_true, and_true]
  simp only [r0_0, r0_1, r0_2, r0_3, r0_4, r0_5, r0_6, r0_7, r0_8, r0_9, r0_10, r0_11, r0_12, r0_13, r0_14, r0_15, r0_16, ld_all]
  simp only [heads, heads3]
  exact ⟨piece _ 7 rfl _ _ fun r l => by pointwise [k0_pay1, k0_pay14, k0_pay2]; rfl,
    piece _ 6 rfl _ _ fun r l => by pointwise [k0_pay13, k0_pay2]; rfl,
    piece _ 5 rfl _ _ fun r l => by pointwise [k0_pay12, k0_pay11, k0_pay2]; rfl,
    piece _ 4 rfl _ _ fun r l => by pointwise [k0_pay10, k0_pay2]; rfl,
    piece _ 3 rfl _ _ fun r l => by pointwise [k0_pay9, k0_pay8, k0_pay2]; rfl,
    piece _ 2 rfl _ _ fun r l => by pointwise [k0_pay7, k0_pay2]; rfl,
    piece _ 1 rfl _ _ fun r l => by pointwise [k0_pay6, k0_pay4, k0_pay5, k0_pay2]; rfl,
    piece _ 0 rfl _ _ fun r l => by pointwise [k0_pay3, k0_pay2]; rfl⟩

variable (m : (ℓ : Loc nD τ sig) → Buf (Elt Ideal) ℓ) (c : Dev nD) (t : Fin cfg0.N)

abbrev xs : S4096x8x128.Idx → EReal := m ((c : Thread nD τ).loc main_arg0)
abbrev gs : S128.Idx → EReal := m ((c : Thread nD τ).loc main_arg1)
abbrev zs : S4096x4096.Idx → EReal := m ((c : Thread nD τ).loc main_arg2)

/-- Row `r` of the block of point `t`. -/
def row (r : Fin 256) : Fin 4096 := ⟨256 * t.val + r.val, by have h : t.val < 16 := N_0 ▸ t.isLt; omega⟩

theorem index_eq : ∀ t : Fin grid0.N, (win0_0.index t 0 = 0 ∧ win0_0.index t 1 = t.val ∧ win0_0.index t 2 = 0)
    ∧ (win0_1.index t 0 = 0 ∧ win0_1.index t 1 = 0) ∧ (win0_2.index t 0 = t.val ∧ win0_2.index t 1 = 3)
    ∧ win0_3.index t 0 = t.val ∧ win0_3.index t 1 = 0 := by
  decide +kernel

theorem iblk0 (h : Fin 8) (r : Fin 256) (l : Fin 128) : iblk m c 0 t (ix3 h r l) = xs m c (ix3 (row t r) h l) := by
  unfold iblk
  rw [View.read_apply]
  have e : V m c main_v0 (ix3 h (row t r) l) = xs m c (ix3 (row t r) h l) := by
    have e' : V m c main_v0 = (transpose S8x4096x128 [1, 0, 2] (xs m c) transposes_S4096x8x128_S8x4096x128_1_0_2 : Vec Ideal S8x4096x128 .f32) := by
      simp only [V, hostOps0]; after_results; try rfl
    rw [e']
    pointwise []
  refine Eq.trans (congrArg (V m c main_v0) (idx3 (j := ix3 h (row t r) l) ?_ ?_ ?_)) e
  · show win0_0.index t 0 * 8 + 1 * h.val = h.val; rw [(index_eq t).1.1]; omega
  · show win0_0.index t 1 * 256 + 1 * r.val = 256 * t.val + r.val; rw [(index_eq t).1.2.1]; omega
  · show win0_0.index t 2 * 128 + 1 * l.val = l.val; rw [(index_eq t).1.2.2]; omega

theorem iblk1 (l : Fin 128) : iblk m c 1 t (ix2 0 l) = gs m c (ix1 l) := by
  unfold iblk
  rw [View.read_apply]
  have e : V m c main_v1 (ix2 0 l) = gs m c (ix1 l) := by
    have e' : V m c main_v1 = (shapeCast S1x128 (gs m c) shapeCasts_S128_S1x128 : Vec Ideal S1x128 .f32) := by
      simp only [V, hostOps0]; after_results; rfl
    rw [e']
    pointwise []
  refine Eq.trans (congrArg (V m c main_v1) (idx2 (j := ix2 0 l) ?_ ?_)) e
  · show win0_1.index t 0 * 1 + 1 * 0 = 0; rw [(index_eq t).2.1.1]
  · show win0_1.index t 1 * 128 + 1 * l.val = l.val; rw [(index_eq t).2.1.2]; omega

theorem iblk2 (r : Fin 256) (l : Fin 1024) : iblk m c 2 t (ix2 r l) = zs m c (ix2 (row t r) ⟨3072 + l.val, by omega⟩) := by
  unfold iblk
  rw [View.read_apply]
  refine congrArg (V m c main_arg2) (idx2 (j := ix2 (row t r) ⟨3072 + l.val, by omega⟩) ?_ ?_)
  · show win0_2.index t 0 * 256 + 1 * r.val = 256 * t.val + r.val; rw [(index_eq t).2.2.1.1]; omega
  · show win0_2.index t 1 * 1024 + 1 * l.val = 3072 + l.val; rw [(index_eq t).2.2.1.2]; omega

theorem emb3 (r : Fin 256) (l : Fin 1024) : ((cfg0.win 3).blk t).view.emb (ix2 r l) = (ix2 (row t r) l : S4096x1024.Idx) :=
  idx2 (by show win0_3.index t 0 * 256 + 1 * r.val = 256 * t.val + r.val; rw [(index_eq t).2.2.2.1]; omega)
    (by show win0_3.index t 1 * 1024 + 1 * l.val = l.val; rw [(index_eq t).2.2.2.2]; omega)
theorem final3 : (dats m 0 c).arrAt 3 cfg0.N = normed (xs m c) (gs m c) (zs m c) := by
  refine (dats m 0 c).arrAt_eq_of_cover 3 (normed (xs m c) (gs m c) (zs m c)) (fun t _ => ?_) fun i => ?_
  · rw [flushed3]
    funext j
    obtain ⟨r, l, rfl⟩ := ex_ix2 j
    rw [View.read_apply, emb3]
    show out0_3 (F := Ideal) _ _ _ (ix2 r l) = _
    rw [out3]
    show nrm (fun k => iblk m c 1 t (ix2 0 k)) (fun k => iblk m c 0 t (ix3 (hd l) r k))
      (fun k => iblk m c 2 t (ix2 r (col (hd l) k))) (ln l) = _
    simp only [iblk0, iblk1, iblk2]
    rfl
  · have h : (i 0).val < 4096 := (i 0).isLt
    have e : (ix2 (row ⟨(i 0).val / 256, by show _ < grid0.N; rw [N_0]; omega⟩ ⟨(i 0).val % 256, by omega⟩) (i 1) : S4096x1024.Idx) = i :=
      idx2 (by show 256 * ((i 0).val / 256) + (i 0).val % 256 = (i 0).val; omega) rfl
    exact ⟨_, flush0_3 _, e ▸ emb3 _ _ _ ▸ View.emb_mem_set _ _⟩

end Cert.OutNormFwdIdeal.Val

namespace Cert.OutNormFwdRefIdeal.Val

open Cert.OutNormFwdRefIdeal Cert.OutNormFwdRefIdeal.Read
open Cert.QNormIdeal.Val (hd ln)
open Cert.OutNormIdeal.Val (zrow)

theorem result (x : S4096x8x128.Idx → EReal) (g : S128.Idx → EReal) (z : S4096x4096.Idx → EReal) :
    val_main_v18 (F := Ideal) x g z = Cert.OutNormFwdIdeal.Val.normed x g z := by
  funext i
  obtain ⟨r, l, rfl⟩ := ex_ix2 i
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0, val_main_cst, val_main_cst_0, val_main_cst_1, val_main_call0_v5, val_main_call0_v4, val_main_call0_v3, val_main_call0_v2, val_main_call0_v1, val_main_call0_v0, val_main_call0_cst, val_main_call0_cst_0]
  have hz (p) : z (ix2 r ⟨3072 + l.val, p⟩) = zrow z r (hd l) (ln l) :=
    congrArg (fun k => z (ix2 r k)) (Fin.ext (by show 3072 + l.val = 3072 + (128 * (l.val / 128) + l.val % 128); omega))
  rw [hz]
  rfl

end Cert.OutNormFwdRefIdeal.Val

namespace Cert.Proof.OutNormFwd

open Cert.OutNormFwdIdeal.Val

theorem frame_ref : Cert.quiescent_OutNormFwdRefIdeal := fun m ρ _ =>
  (θ_run Cert.OutNormFwdRefIdeal.defs _ _).mono (fun r h => ⟨fun c => (h c).2,
      Idealize.ShloMosaic.sem_eq_zero_of_no_sems (by decide) r.2⟩)
    (Cert.OutNormFwdRefIdeal.Value.run (F := Ideal) m ρ)

theorem algebraic : Cert.algebraic_OutNormFwdIdeal_OutNormFwdRefIdeal := by
  intro m ρ m' ρ' _ hagree
  refine ⟨fun c => normed (xs m c) (gs m c) (zs m c), ?_, ?_⟩
  · refine (θ_run Cert.OutNormFwdIdeal.defs _ _).mono (fun r h c => ?_) (Cert.OutNormFwdIdeal.Value.run_blocks (F := Ideal) m ρ)
    exact ⟨(h c).1.trans (final3 m c), (h c).2⟩
  · refine (θ_run Cert.OutNormFwdRefIdeal.defs _ _).mono (fun r h c => ?_) (Cert.OutNormFwdRefIdeal.Value.run (F := Ideal) m' ρ')
    obtain ⟨e0, e1, e2⟩ := hagree c
    refine ⟨(h c).1.trans ?_, (h c).2⟩
    refine (Cert.OutNormFwdRefIdeal.Read.val_main_v18_eq (F := Ideal) _ _ _).trans ?_
    rw [e0, e1, e2]
    exact Cert.OutNormFwdRefIdeal.Val.result _ _ _

end Cert.Proof.OutNormFwd
-- ==== Proof.SwiFrame.lean ====
/-
  The frame of the gate's backward as printed: the output's block, of which a point stores only a part, may hold anything.
-/
module

public import proofs.«01_k».proof.Proof.Gen.Swi.Frame
public import proofs.«01_k».proof.Proof.Gen.Swi.Skeleton
public import Idealize.ShloMosaic.Lib.Pipeline.DatRel
public import Idealize.ShloMosaic.Lib.Pipeline.ArrRel

@[expose] public section

set_option maxRecDepth 16384

noncomputable section

namespace Cert.Swi.Run

open Cert.Swi Cert.Swi.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at a point: it leaves its four input blocks as they were and stores its two column blocks into the output
block, whatever that held. -/
noncomputable def bodyRun (c : Dev nD) (i : grid0.Coords)
    (m2 : Memref sig .tc .vmem S1024x1024 .bf16) (hm2 : m2.IsWhole)
    (m3 : Memref sig .tc .vmem S256x1024 .bf16) (hm3 : m3.IsWhole)
    (m4 : Memref sig .tc .vmem S1024x256 .bf16) (hm4 : m4.IsWhole)
    (m5 : Memref sig .tc .vmem S1024x256 .bf16) (hm5 : m5.IsWhole)
    (m6 : Memref sig .tc .vmem S1024x5632 .bf16) (hm6 : m6.IsWhole)
    (x0 : Vec F S1024x1024 .bf16) (x1 : Vec F S256x1024 .bf16) (x2 x3 : Vec F S1024x256 .bf16) (x4 : Vec F S1024x5632 .bf16) :
    { L : List (View.Piece (Elt F) S1024x5632 .bf16) //
      ∀ (E : Set ℕ) (K : PUnit → sProp (MT nD τ sig Unit (Elt F) ℕ (UR sig nD τ) ℕ)),
        iprop(owns (c : Thread nD τ) m2 fullShare x0 ∗ owns (c : Thread nD τ) m3 fullShare x1
            ∗ owns (c : Thread nD τ) m4 fullShare x2 ∗ owns (c : Thread nD τ) m5 fullShare x3
            ∗ owns (c : Thread nD τ) m6 fullShare x4
            ∗ (iprop(owns (c : Thread nD τ) m2 fullShare x0 ∗ owns (c : Thread nD τ) m3 fullShare x1
              ∗ owns (c : Thread nD τ) m4 fullShare x2 ∗ owns (c : Thread nD τ) m5 fullShare x3
              ∗ (m6.view.loc (c : Thread nD τ) ↦[m6.view.set]{fullShare} m6.view.writes (Elt F) (hm6.unread x4) L)) -∗ K ⟨⟩))
          ⊢ wp frame (wpE (defs₀ (F := F)) Variants.none c none) E
              (cc0_ffn_bwd_act i m2 hm2 m3 hm3 m4 hm4 m5 hm5 m6 hm6) K } := by
  refine ⟨?_, fun E K => ?run⟩
  case run =>
    simp only [cc0_ffn_bwd_act_eq_skeleton]; unfold cc0_ffn_bwd_act_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := hm2.eq_unread hf0; obtain rfl := hm3.eq_unread hf1; obtain rfl := hm4.eq_unread hf2
    obtain rfl := hm5.eq_unread hf3; obtain rfl := hm6.eq_unread hf4
    sl_exec
    sl_step
    iapply Hk
    isplitl [H0]
    · iexists _; isplitr; · ipureintro; exact hm2.read_unread _
      iexact H0
    isplitl [H1]
    · iexists _; isplitr; · ipureintro; exact hm3.read_unread _
      iexact H1
    isplitl [H2]
    · iexists _; isplitr; · ipureintro; exact hm4.read_unread _
      iexact H2
    isplitl [H3]
    · iexists _; isplitr; · ipureintro; exact hm5.read_unread _
      iexact H3
    iexact H4

variable (m : (ℓ : Loc nD τ sig) → Buf (Elt F) ℓ) (ρ : Dev nD → PrngReg)

/-- The proof data of the pipeline, the output block's contents left open. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Only the output window is held to a predicate. -/
def held (w : Fin cfg0.W) : Bool := match w with
  | ⟨4, _⟩ => true
  | _ => false

/-- It may hold anything. -/
def Rl (c : Dev nD) (w : Fin cfg0.W) (t : Fin cfg0.N) : ((cfg0.win w).block.Idx → Elt F (cfg0.win w).elt) → Prop := fun _ => True

/-- The relational proof data. -/
abbrev rdat (c : Dev nD) := (dats m 0 c).toRRel held (Rl c)

set_option maxHeartbeats 1000000 in
/-- The body at any point: the inputs hold their blocks, the output block anything. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ Y, ⌜(rdat m c).Finds 4 t Y⌝ ∗ owns (c : Thread nD τ) (st0_4 t) fullShare Y))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ (∃ X, ⌜True⌝ ∗ owns (c : Thread nD τ) (st0_4 t) fullShare X))) := by
  unfold bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%Y, %hY, H4⟩⟩
  iapply ((bodyRun c (grid0.coords t) _ _ _ _ _ _ _ _ _ _ (iblk m c 0 t) (iblk m c 1 t) (iblk m c 2 t) (iblk m c 3 t) Y).2 Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexists _; isplitr
  swap
  · unfold owns; iexists _; isplitr
    swap; · iexact H4
    ipureintro; rfl
  ipureintro
  trivial

/-- The library's body obligation at every point. -/
theorem body_obligation (c : Dev nD) :
    Pipeline.BodyObligationRel (dats (F := F) m 0 c) (defs₀ (F := F)) Variants.none () Set.univ held (Rl c) := fun t => by
  rw [bigSep_W0, bigSep_W0]
  rw [show defs₀ (F := F) .tc cfg0.body (cfg0.bodyArgs t (cfg0.slots t)) = bodyAt0 t from by
    unfold defs₀; rw [Defs.onTc_tc]]
  exact sound_body m c t

set_option backward.isDefEq.respectTransparency.types false in
/-- The run: everything but the output array as launched, every counter at zero. -/
theorem run_main_quiescent : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c)⟩, h.2⟩)
    (run_main_quiescent m ρ)

end Cert.Swi.Run

end
-- ==== Proof.lean ====
/-
  The claims of this certificate, each proved in a module of its own: a frame of a kernel is the generated one, the
  frame of a reference and the equation of the two programs are in the call's own module.
-/
module

public import proofs.«01_k».proof.Defs
public import proofs.«01_k».proof.Proof.Gen.Pre_finite_gates
public import proofs.«01_k».proof.Proof.Gen.Pre_finite_hng
public import proofs.«01_k».proof.Proof.Gen.Pre_finite_swi
public import proofs.«01_k».proof.Proof.Gen.Pre_finite_sb
public import proofs.«01_k».proof.Proof.Gen.Pre_finite_sbf
public import proofs.«01_k».proof.Proof.Gen.On_written_hng
public import proofs.«01_k».proof.Proof.Gen.Loss.Frame
public import proofs.«01_k».proof.Proof.Gen.Ple.Frame
public import proofs.«01_k».proof.Proof.Gen.Gates.Frame
public import proofs.«01_k».proof.Proof.Gen.QNorm.Frame
public import proofs.«01_k».proof.Proof.Gen.KvGrad.Frame
public import proofs.«01_k».proof.Proof.Gen.OutNorm.Frame
public import proofs.«01_k».proof.Proof.Gen.Swi.Frame
public import proofs.«01_k».proof.Proof.Gen.PleDx.Frame
public import proofs.«01_k».proof.Proof.Gen.FfnDx.Frame
public import proofs.«01_k».proof.Proof.Gen.GdnDx.Frame
public import proofs.«01_k».proof.Proof.Gen.KvDx.Frame
public import proofs.«01_k».proof.Proof.Gen.SbQDx.Frame
public import proofs.«01_k».proof.Proof.Gen.Sb.Frame
public import proofs.«01_k».proof.Proof.Gen.SbAttn.Frame
public import proofs.«01_k».proof.Proof.Gen.Conv.Frame
public import proofs.«01_k».proof.Proof.Gen.ConvIdeal.Frame
public import proofs.«01_k».proof.Proof.Gen.RmsFwd.Frame
public import proofs.«01_k».proof.Proof.Gen.SwiFwd.Frame
public import proofs.«01_k».proof.Proof.Gen.GatesFwd.Frame
public import proofs.«01_k».proof.Proof.Gen.PleFwd.Frame
public import proofs.«01_k».proof.Proof.Gen.QNormFwd.Frame
public import proofs.«01_k».proof.Proof.Gen.OutNormFwd.Frame
public import proofs.«01_k».proof.Proof.Loss
public import proofs.«01_k».proof.Proof.Ple
public import proofs.«01_k».proof.Proof.Gates
public import proofs.«01_k».proof.Proof.QNorm
public import proofs.«01_k».proof.Proof.KvGrad
public import proofs.«01_k».proof.Proof.OutNorm
public import proofs.«01_k».proof.Proof.Swi
public import proofs.«01_k».proof.Proof.PleDx
public import proofs.«01_k».proof.Proof.FfnDx
public import proofs.«01_k».proof.Proof.GdnDx
public import proofs.«01_k».proof.Proof.KvDx
public import proofs.«01_k».proof.Proof.SbQDx
public import proofs.«01_k».proof.Proof.Sb
public import proofs.«01_k».proof.Proof.SbAttn
public import proofs.«01_k».proof.Proof.Conv
public import proofs.«01_k».proof.Proof.RmsFwd
public import proofs.«01_k».proof.Proof.SwiFwd
public import proofs.«01_k».proof.Proof.GatesFwd
public import proofs.«01_k».proof.Proof.PleFwd
public import proofs.«01_k».proof.Proof.QNormFwd
public import proofs.«01_k».proof.Proof.OutNormFwd
public import proofs.«01_k».proof.Proof.SwiFrame

@[expose] public section

noncomputable section

namespace Cert.Proof

open Idealize.ShloMosaic Idealize.SL.Sem

theorem claim : Cert.Claim :=
  ⟨Loss.Gen.facts, LossIdeal.Gen.facts, LossRefIdeal.Gen.facts, Ple.Gen.facts, PleIdeal.Gen.facts, PleRefIdeal.Gen.facts, Gates.Gen.facts, GatesIdeal.Gen.facts, GatesRefIdeal.Gen.facts, QNorm.Gen.facts, QNormIdeal.Gen.facts, QNormRefIdeal.Gen.facts, KvGrad.Gen.facts, KvGradIdeal.Gen.facts, KvGradRefIdeal.Gen.facts, OutNorm.Gen.facts, OutNormIdeal.Gen.facts, OutNormRefIdeal.Gen.facts, Swi.Gen.facts, SwiIdeal.Gen.facts, SwiRefIdeal.Gen.facts, PleDx.Gen.facts, PleDxIdeal.Gen.facts, PleDxRefIdeal.Gen.facts, FfnDx.Gen.facts, FfnDxIdeal.Gen.facts, FfnDxRefIdeal.Gen.facts, GdnDx.Gen.facts, GdnDxIdeal.Gen.facts, GdnDxRefIdeal.Gen.facts, KvDx.Gen.facts, KvDxIdeal.Gen.facts, KvDxRefIdeal.Gen.facts, SbQDx.Gen.facts, SbQDxIdeal.Gen.facts, SbQDxRefIdeal.Gen.facts, Sb.Gen.facts, SbIdeal.Gen.facts, SbRefIdeal.Gen.facts, SbAttn.Gen.facts, SbAttnIdeal.Gen.facts, SbAttnRefIdeal.Gen.facts, Conv.Gen.facts, ConvIdeal.Gen.facts, ConvRefIdeal.Gen.facts, RmsFwd.Gen.facts, RmsFwdIdeal.Gen.facts, RmsFwdRefIdeal.Gen.facts, SwiFwd.Gen.facts, SwiFwdIdeal.Gen.facts, SwiFwdRefIdeal.Gen.facts, GatesFwd.Gen.facts, GatesFwdIdeal.Gen.facts, GatesFwdRefIdeal.Gen.facts, PleFwd.Gen.facts, PleFwdIdeal.Gen.facts, PleFwdRefIdeal.Gen.facts, QNormFwd.Gen.facts, QNormFwdIdeal.Gen.facts, QNormFwdRefIdeal.Gen.facts, OutNormFwd.Gen.facts, OutNormFwdIdeal.Gen.facts, OutNormFwdRefIdeal.Gen.facts, Pre_finite_gates.Gen.facts, Pre_finite_hng.Gen.facts, Pre_finite_swi.Gen.facts, Pre_finite_sb.Gen.facts, Pre_finite_sbf.Gen.facts, On_written_hng.Gen.facts,
    fun m ρ _ => Loss.Gen.frame m ρ,
    fun m ρ _ => LossIdeal.Gen.frame m ρ,
    Proof.Loss.frame_ref,
    fun m ρ _ => Ple.Gen.frame m ρ,
    fun m ρ _ => PleIdeal.Gen.frame m ρ,
    Proof.Ple.frame_ref,
    fun m ρ _ => Gates.Gen.frame m ρ,
    fun m ρ _ => GatesIdeal.Gen.frame m ρ,
    fun m ρ _ => GatesIdeal.Gen.frame m ρ,
    Proof.Gates.frame_ref,
    fun m ρ _ => Proof.Gates.frame_ref m ρ trivial,
    fun m ρ _ => QNorm.Gen.frame m ρ,
    fun m ρ _ => QNormIdeal.Gen.frame m ρ,
    Proof.QNorm.frame_ref,
    fun m ρ _ => KvGrad.Gen.frame m ρ,
    fun m ρ _ => KvGradIdeal.Gen.frame m ρ,
    Proof.KvGrad.frame_ref,
    fun m ρ _ => OutNorm.Gen.frame m ρ,
    fun m ρ _ => OutNormIdeal.Gen.frame m ρ,
    fun m ρ _ => OutNormIdeal.Gen.frame m ρ,
    Proof.OutNorm.frame_ref,
    fun m ρ _ => Proof.OutNorm.frame_ref m ρ trivial,
    fun m ρ _ => Swi.Run.frame m ρ,
    fun m ρ _ => SwiIdeal.Val.frame m ρ,
    fun m ρ _ => SwiIdeal.Val.frame m ρ,
    Proof.Swi.frame_ref,
    fun m ρ _ => Proof.Swi.frame_ref m ρ trivial,
    fun m ρ _ => PleDx.Gen.frame m ρ,
    fun m ρ _ => PleDxIdeal.Gen.frame m ρ,
    Proof.PleDx.frame_ref,
    fun m ρ _ => FfnDx.Gen.frame m ρ,
    fun m ρ _ => FfnDxIdeal.Gen.frame m ρ,
    Proof.FfnDx.frame_ref,
    fun m ρ _ => GdnDx.Gen.frame m ρ,
    fun m ρ _ => GdnDxIdeal.Gen.frame m ρ,
    Proof.GdnDx.frame_ref,
    fun m ρ _ => KvDx.Gen.frame m ρ,
    fun m ρ _ => KvDxIdeal.Gen.frame m ρ,
    Proof.KvDx.frame_ref,
    fun m ρ _ => SbQDx.Gen.frame m ρ,
    fun m ρ _ => SbQDxIdeal.Gen.frame m ρ,
    Proof.SbQDx.frame_ref,
    fun m ρ _ => Sb.Gen.frame m ρ,
    fun m ρ _ => SbIdeal.Gen.frame m ρ,
    fun m ρ _ => SbIdeal.Gen.frame m ρ,
    Proof.Sb.frame_ref,
    fun m ρ _ => Proof.Sb.frame_ref m ρ trivial,
    fun m ρ _ => SbAttn.Gen.frame m ρ,
    fun m ρ _ => SbAttnIdeal.Gen.frame m ρ,
    fun m ρ _ => SbAttnIdeal.Gen.frame m ρ,
    Proof.SbAttn.frame_ref,
    fun m ρ _ => Proof.SbAttn.frame_ref m ρ trivial,
    fun m ρ _ => Conv.Gen.frame m ρ,
    fun m ρ _ => ConvIdeal.Gen.frame m ρ,
    Proof.Conv.frame_ref,
    fun m ρ _ => RmsFwd.Gen.frame m ρ,
    fun m ρ _ => RmsFwdIdeal.Gen.frame m ρ,
    Proof.RmsFwd.frame_ref,
    fun m ρ _ => SwiFwd.Gen.frame m ρ,
    fun m ρ _ => SwiFwdIdeal.Gen.frame m ρ,
    Proof.SwiFwd.frame_ref,
    fun m ρ _ => GatesFwd.Gen.frame m ρ,
    fun m ρ _ => GatesFwdIdeal.Gen.frame m ρ,
    Proof.GatesFwd.frame_ref,
    fun m ρ _ => PleFwd.Gen.frame m ρ,
    fun m ρ _ => PleFwdIdeal.Gen.frame m ρ,
    Proof.PleFwd.frame_ref,
    fun m ρ _ => QNormFwd.Gen.frame m ρ,
    fun m ρ _ => QNormFwdIdeal.Gen.frame m ρ,
    Proof.QNormFwd.frame_ref,
    fun m ρ _ => OutNormFwd.Gen.frame m ρ,
    fun m ρ _ => OutNormFwdIdeal.Gen.frame m ρ,
    Proof.OutNormFwd.frame_ref,
    trivial,
    Proof.Loss.algebraic,
    trivial,
    Proof.Ple.algebraic,
    trivial,
    Proof.Gates.algebraic,
    trivial,
    Proof.QNorm.algebraic,
    trivial,
    Proof.KvGrad.algebraic,
    trivial,
    Proof.OutNorm.algebraic,
    trivial,
    Proof.Swi.algebraic,
    trivial,
    Proof.PleDx.algebraic,
    trivial,
    Proof.FfnDx.algebraic,
    trivial,
    Proof.GdnDx.algebraic,
    trivial,
    Proof.KvDx.algebraic,
    trivial,
    Proof.SbQDx.algebraic,
    trivial,
    Proof.Sb.algebraic,
    trivial,
    Proof.SbAttn.algebraic,
    trivial,
    trivial,
    Proof.RmsFwd.algebraic,
    trivial,
    Proof.SwiFwd.algebraic,
    trivial,
    Proof.GatesFwd.algebraic,
    trivial,
    Proof.PleFwd.algebraic,
    trivial,
    Proof.QNormFwd.algebraic,
    trivial,
    Proof.OutNormFwd.algebraic⟩

end Cert.Proof

end
